-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000000x64 : Shape := ⟨2, ![1000000, 64]⟩
abbrev S100000x64 : Shape := ⟨2, ![100000, 64]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S1000000x64 .f32) (main_arg3 : FVec F S100000x64 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg1 main_v5
  let main_c_2 : IVec S_ 32 := constantI S_ 32 100000#32
  let main_v7 : IVec S16384 32 := broadcastInDim S16384 ![] bcast_S_S16384 main_c_2
  let main_v8 : IVec S16384 1 := cmpi .slt main_arg1 main_v7
  let main_v9 : IVec S16384 1 := andi main_v6 main_v8
  let main_v10 : IVec S16384 1 := andi main_v4 main_v9
  let main_c_3 : IVec S_ 1 := constantI S_ 1 1#1
  let main_v11 : IVec S_ 1 := (fun x v => Host.reduce IntOp.andi x v reducesTo_S16384_S_d0 h_S_) main_v10 main_c_3
  main_v11
-- ==== Kernel.lean ====
abbrev S16384 : Shape := ⟨1, ![16384]⟩
abbrev S1000000x64 : Shape := ⟨2, ![1000000, 64]⟩
abbrev S100000x64 : Shape := ⟨2, ![100000, 64]⟩
abbrev S512 : Shape := ⟨1, ![512]⟩
abbrev S4x16x64 : Shape := ⟨3, ![4, 16, 64]⟩
abbrev S_ : Shape := ⟨0, ![]⟩
abbrev S16 : Shape := ⟨1, ![16]⟩
abbrev S1 : Shape := ⟨1, ![1]⟩
abbrev S1x1x64 : Shape := ⟨3, ![1, 1, 64]⟩
abbrev S64 : Shape := ⟨1, ![64]⟩
abbrev S1x64 : Shape := ⟨2, ![1, 64]⟩
abbrev S1x16x64 : Shape := ⟨3, ![1, 16, 64]⟩
abbrev S16x64 : Shape := ⟨2, ![16, 64]⟩

abbrev nBuf : Table → Nat
  | .hbm => 5
  | .local .scVector .vmem => 5
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S100000x64, .f32⟩
  | .hbm, ⟨4, _⟩ => ⟨S16384, .f32⟩
  | .local .scVector .vmem, ⟨0, _⟩ => ⟨S512, .i32⟩
  | .local .scVector .vmem, ⟨1, _⟩ => ⟨S512, .i32⟩
  | .local .scVector .vmem, ⟨2, _⟩ => ⟨S4x16x64, .f32⟩
  | .local .scVector .vmem, ⟨3, _⟩ => ⟨S4x16x64, .f32⟩
  | .local .scVector .vmem, ⟨4, _⟩ => ⟨S512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_mult1 : BitVec 32 :=
  let c0_i32 : BitVec 32 := 0#32
  c0_i32
def k0_off2 (v9 : BitVec 32) : Fin 2 → Nat :=
  let c0_i32_3 : BitVec 32 := 0#32
  ![v9.toNat, 0]

def k0_chk1 (v9 : BitVec 32) : Prop :=
  (∀ a, (k0_off2 v9) a + S1x64.size a ≤ S1000000x64.size a)
theorem k0_off2_inb : ∀ (v9 : BitVec 32) (k0_hw1 : k0_chk1 v9), ∀ a, (k0_off2 v9) a + S1x64.size a ≤ S1000000x64.size a := fun v9 k0_hw1 => k0_hw1

def k0_off3 (v19 : BitVec 32) : Fin 2 → Nat :=
  let c0_i32_9 : BitVec 32 := 0#32
  ![v19.toNat, 0]

def k0_chk2 (v19 : BitVec 32) : Prop :=
  (∀ a, (k0_off3 v19) a + S1x64.size a ≤ S100000x64.size a)
theorem k0_off3_inb : ∀ (v19 : BitVec 32) (k0_hw2 : k0_chk2 v19), ∀ a, (k0_off3 v19) a + S1x64.size a ≤ S100000x64.size a := fun v19 k0_hw2 => k0_hw2

def k0_off4 (v29 : BitVec 32) : Fin 2 → Nat :=
  let c0_i32_14 : BitVec 32 := 0#32
  ![v29.toNat, 0]

def k0_chk3 (v29 : BitVec 32) : Prop :=
  (∀ a, (k0_off4 v29) a + S1x64.size a ≤ S1000000x64.size a)
theorem k0_off4_inb : ∀ (v29 : BitVec 32) (k0_hw3 : k0_chk3 v29), ∀ a, (k0_off4 v29) a + S1x64.size a ≤ S1000000x64.size a := fun v29 k0_hw3 => k0_hw3

def k0_off5 (v39 : BitVec 32) : Fin 2 → Nat :=
  let c0_i32_20 : BitVec 32 := 0#32
  ![v39.toNat, 0]

def k0_chk4 (v39 : BitVec 32) : Prop :=
  (∀ a, (k0_off5 v39) a + S1x64.size a ≤ S100000x64.size a)
theorem k0_off5_inb : ∀ (v39 : BitVec 32) (k0_hw4 : k0_chk4 v39), ∀ a, (k0_off5 v39) a + S1x64.size a ≤ S100000x64.size a := fun v39 k0_hw4 => k0_hw4

def k0_off6 (v49 : BitVec 32) : Fin 2 → Nat :=
  let c0_i32_26 : BitVec 32 := 0#32
  ![v49.toNat, 0]

def k0_chk5 (v49 : BitVec 32) : Prop :=
  (∀ a, (k0_off6 v49) a + S1x64.size a ≤ S1000000x64.size a)
theorem k0_off6_inb : ∀ (v49 : BitVec 32) (k0_hw5 : k0_chk5 v49), ∀ a, (k0_off6 v49) a + S1x64.size a ≤ S1000000x64.size a := fun v49 k0_hw5 => k0_hw5

def k0_off7 (v59 : BitVec 32) : Fin 2 → Nat :=
  let c0_i32_32 : BitVec 32 := 0#32
  ![v59.toNat, 0]

def k0_chk6 (v59 : BitVec 32) : Prop :=
  (∀ a, (k0_off7 v59) a + S1x64.size a ≤ S100000x64.size a)
theorem k0_off7_inb : ∀ (v59 : BitVec 32) (k0_hw6 : k0_chk6 v59), ∀ a, (k0_off7 v59) a + S1x64.size a ≤ S100000x64.size a := fun v59 k0_hw6 => k0_hw6

def k0_off8 (v69 : BitVec 32) : Fin 2 → Nat :=
  let c0_i32_37 : BitVec 32 := 0#32
  ![v69.toNat, 0]

def k0_chk7 (v69 : BitVec 32) : Prop :=
  (∀ a, (k0_off8 v69) a + S1x64.size a ≤ S1000000x64.size a)
theorem k0_off8_inb : ∀ (v69 : BitVec 32) (k0_hw7 : k0_chk7 v69), ∀ a, (k0_off8 v69) a + S1x64.size a ≤ S1000000x64.size a := fun v69 k0_hw7 => k0_hw7

def k0_off9 (v79 : BitVec 32) : Fin 2 → Nat :=
  let c0_i32_43 : BitVec 32 := 0#32
  ![v79.toNat, 0]

def k0_chk8 (v79 : BitVec 32) : Prop :=
  (∀ a, (k0_off9 v79) a + S1x64.size a ≤ S100000x64.size a)
theorem k0_off9_inb : ∀ (v79 : BitVec 32) (k0_hw8 : k0_chk8 v79), ∀ a, (k0_off9 v79) a + S1x64.size a ≤ S100000x64.size a := fun v79 k0_hw8 => k0_hw8

def k0_off10 (v89 : BitVec 32) : Fin 2 → Nat :=
  let c0_i32_48 : BitVec 32 := 0#32
  ![v89.toNat, 0]

def k0_chk9 (v89 : BitVec 32) : Prop :=
  (∀ a, (k0_off10 v89) a + S1x64.size a ≤ S1000000x64.size a)
theorem k0_off10_inb : ∀ (v89 : BitVec 32) (k0_hw9 : k0_chk9 v89), ∀ a, (k0_off10 v89) a + S1x64.size a ≤ S1000000x64.size a := fun v89 k0_hw9 => k0_hw9

def k0_off11 (v99 : BitVec 32) : Fin 2 → Nat :=
  let c0_i32_54 : BitVec 32 := 0#32
  ![v99.toNat, 0]

def k0_chk10 (v99 : BitVec 32) : Prop :=
  (∀ a, (k0_off11 v99) a + S1x64.size a ≤ S100000x64.size a)
theorem k0_off11_inb : ∀ (v99 : BitVec 32) (k0_hw10 : k0_chk10 v99), ∀ a, (k0_off11 v99) a + S1x64.size a ≤ S100000x64.size a := fun v99 k0_hw10 => k0_hw10

def k0_off12 (v109 : BitVec 32) : Fin 2 → Nat :=
  let c0_i32_59 : BitVec 32 := 0#32
  ![v109.toNat, 0]

def k0_chk11 (v109 : BitVec 32) : Prop :=
  (∀ a, (k0_off12 v109) a + S1x64.size a ≤ S1000000x64.size a)
theorem k0_off12_inb : ∀ (v109 : BitVec 32) (k0_hw11 : k0_chk11 v109), ∀ a, (k0_off12 v109) a + S1x64.size a ≤ S1000000x64.size a := fun v109 k0_hw11 => k0_hw11

def k0_off13 (v119 : BitVec 32) : Fin 2 → Nat :=
  let c0_i32_65 : BitVec 32 := 0#32
  ![v119.toNat, 0]

def k0_chk12 (v119 : BitVec 32) : Prop :=
  (∀ a, (k0_off13 v119) a + S1x64.size a ≤ S100000x64.size a)
theorem k0_off13_inb : ∀ (v119 : BitVec 32) (k0_hw12 : k0_chk12 v119), ∀ a, (k0_off13 v119) a + S1x64.size a ≤ S100000x64.size a := fun v119 k0_hw12 => k0_hw12

def k0_off14 (v129 : BitVec 32) : Fin 2 → Nat :=
  let c0_i32_70 : BitVec 32 := 0#32
  ![v129.toNat, 0]

def k0_chk13 (v129 : BitVec 32) : Prop :=
  (∀ a, (k0_off14 v129) a + S1x64.size a ≤ S1000000x64.size a)
theorem k0_off14_inb : ∀ (v129 : BitVec 32) (k0_hw13 : k0_chk13 v129), ∀ a, (k0_off14 v129) a + S1x64.size a ≤ S1000000x64.size a := fun v129 k0_hw13 => k0_hw13

def k0_off15 (v139 : BitVec 32) : Fin 2 → Nat :=
  let c0_i32_76 : BitVec 32 := 0#32
  ![v139.toNat, 0]

def k0_chk14 (v139 : BitVec 32) : Prop :=
  (∀ a, (k0_off15 v139) a + S1x64.size a ≤ S100000x64.size a)
theorem k0_off15_inb : ∀ (v139 : BitVec 32) (k0_hw14 : k0_chk14 v139), ∀ a, (k0_off15 v139) a + S1x64.size a ≤ S100000x64.size a := fun v139 k0_hw14 => k0_hw14

def k0_off16 (v149 : BitVec 32) : Fin 2 → Nat :=
  let c0_i32_81 : BitVec 32 := 0#32
  ![v149.toNat, 0]

def k0_chk15 (v149 : BitVec 32) : Prop :=
  (∀ a, (k0_off16 v149) a + S1x64.size a ≤ S1000000x64.size a)
theorem k0_off16_inb : ∀ (v149 : BitVec 32) (k0_hw15 : k0_chk15 v149), ∀ a, (k0_off16 v149) a + S1x64.size a ≤ S1000000x64.size a := fun v149 k0_hw15 => k0_hw15

def k0_off17 (v159 : BitVec 32) : Fin 2 → Nat :=
  let c0_i32_87 : BitVec 32 := 0#32
  ![v159.toNat, 0]

def k0_chk16 (v159 : BitVec 32) : Prop :=
  (∀ a, (k0_off17 v159) a + S1x64.size a ≤ S100000x64.size a)
theorem k0_off17_inb : ∀ (v159 : BitVec 32) (k0_hw16 : k0_chk16 v159), ∀ a, (k0_off17 v159) a + S1x64.size a ≤ S100000x64.size a := fun v159 k0_hw16 => k0_hw16

def k0_off18 (v169 : BitVec 32) : Fin 2 → Nat :=
  let c0_i32_92 : BitVec 32 := 0#32
  ![v169.toNat, 0]

def k0_chk17 (v169 : BitVec 32) : Prop :=
  (∀ a, (k0_off18 v169) a + S1x64.size a ≤ S1000000x64.size a)
theorem k0_off18_inb : ∀ (v169 : BitVec 32) (k0_hw17 : k0_chk17 v169), ∀ a, (k0_off18 v169) a + S1x64.size a ≤ S1000000x64.size a := fun v169 k0_hw17 => k0_hw17

def k0_off19 (v179 : BitVec 32) : Fin 2 → Nat :=
  let c0_i32_98 : BitVec 32 := 0#32
  ![v179.toNat, 0]

def k0_chk18 (v179 : BitVec 32) : Prop :=
  (∀ a, (k0_off19 v179) a + S1x64.size a ≤ S100000x64.size a)
theorem k0_off19_inb : ∀ (v179 : BitVec 32) (k0_hw18 : k0_chk18 v179), ∀ a, (k0_off19 v179) a + S1x64.size a ≤ S100000x64.size a := fun v179 k0_hw18 => k0_hw18

def k0_off20 (v189 : BitVec 32) : Fin 2 → Nat :=
  let c0_i32_103 : BitVec 32 := 0#32
  ![v189.toNat, 0]

def k0_chk19 (v189 : BitVec 32) : Prop :=
  (∀ a, (k0_off20 v189) a + S1x64.size a ≤ S1000000x64.size a)
theorem k0_off20_inb : ∀ (v189 : BitVec 32) (k0_hw19 : k0_chk19 v189), ∀ a, (k0_off20 v189) a + S1x64.size a ≤ S1000000x64.size a := fun v189 k0_hw19 => k0_hw19

def k0_off21 (v199 : BitVec 32) : Fin 2 → Nat :=
  let c0_i32_109 : BitVec 32 := 0#32
  ![v199.toNat, 0]

def k0_chk20 (v199 : BitVec 32) : Prop :=
  (∀ a, (k0_off21 v199) a + S1x64.size a ≤ S100000x64.size a)
theorem k0_off21_inb : ∀ (v199 : BitVec 32) (k0_hw20 : k0_chk20 v199), ∀ a, (k0_off21 v199) a + S1x64.size a ≤ S100000x64.size a := fun v199 k0_hw20 => k0_hw20

def k0_off22 (v209 : BitVec 32) : Fin 2 → Nat :=
  let c0_i32_114 : BitVec 32 := 0#32
  ![v209.toNat, 0]

def k0_chk21 (v209 : BitVec 32) : Prop :=
  (∀ a, (k0_off22 v209) a + S1x64.size a ≤ S1000000x64.size a)
theorem k0_off22_inb : ∀ (v209 : BitVec 32) (k0_hw21 : k0_chk21 v209), ∀ a, (k0_off22 v209) a + S1x64.size a ≤ S1000000x64.size a := fun v209 k0_hw21 => k0_hw21

def k0_off23 (v219 : BitVec 32) : Fin 2 → Nat :=
  let c0_i32_120 : BitVec 32 := 0#32
  ![v219.toNat, 0]

def k0_chk22 (v219 : BitVec 32) : Prop :=
  (∀ a, (k0_off23 v219) a + S1x64.size a ≤ S100000x64.size a)
theorem k0_off23_inb : ∀ (v219 : BitVec 32) (k0_hw22 : k0_chk22 v219), ∀ a, (k0_off23 v219) a + S1x64.size a ≤ S100000x64.size a := fun v219 k0_hw22 => k0_hw22

def k0_off24 (v229 : BitVec 32) : Fin 2 → Nat :=
  let c0_i32_125 : BitVec 32 := 0#32
  ![v229.toNat, 0]

def k0_chk23 (v229 : BitVec 32) : Prop :=
  (∀ a, (k0_off24 v229) a + S1x64.size a ≤ S1000000x64.size a)
theorem k0_off24_inb : ∀ (v229 : BitVec 32) (k0_hw23 : k0_chk23 v229), ∀ a, (k0_off24 v229) a + S1x64.size a ≤ S1000000x64.size a := fun v229 k0_hw23 => k0_hw23

def k0_off25 (v239 : BitVec 32) : Fin 2 → Nat :=
  let c0_i32_131 : BitVec 32 := 0#32
  ![v239.toNat, 0]

def k0_chk24 (v239 : BitVec 32) : Prop :=
  (∀ a, (k0_off25 v239) a + S1x64.size a ≤ S100000x64.size a)
theorem k0_off25_inb : ∀ (v239 : BitVec 32) (k0_hw24 : k0_chk24 v239), ∀ a, (k0_off25 v239) a + S1x64.size a ≤ S100000x64.size a := fun v239 k0_hw24 => k0_hw24

def k0_off26 (v249 : BitVec 32) : Fin 2 → Nat :=
  let c0_i32_136 : BitVec 32 := 0#32
  ![v249.toNat, 0]

def k0_chk25 (v249 : BitVec 32) : Prop :=
  (∀ a, (k0_off26 v249) a + S1x64.size a ≤ S1000000x64.size a)
theorem k0_off26_inb : ∀ (v249 : BitVec 32) (k0_hw25 : k0_chk25 v249), ∀ a, (k0_off26 v249) a + S1x64.size a ≤ S1000000x64.size a := fun v249 k0_hw25 => k0_hw25

def k0_off27 (v259 : BitVec 32) : Fin 2 → Nat :=
  let c0_i32_142 : BitVec 32 := 0#32
  ![v259.toNat, 0]

def k0_chk26 (v259 : BitVec 32) : Prop :=
  (∀ a, (k0_off27 v259) a + S1x64.size a ≤ S100000x64.size a)
theorem k0_off27_inb : ∀ (v259 : BitVec 32) (k0_hw26 : k0_chk26 v259), ∀ a, (k0_off27 v259) a + S1x64.size a ≤ S100000x64.size a := fun v259 k0_hw26 => k0_hw26

def k0_off28 (v269 : BitVec 32) : Fin 2 → Nat :=
  let c0_i32_147 : BitVec 32 := 0#32
  ![v269.toNat, 0]

def k0_chk27 (v269 : BitVec 32) : Prop :=
  (∀ a, (k0_off28 v269) a + S1x64.size a ≤ S1000000x64.size a)
theorem k0_off28_inb : ∀ (v269 : BitVec 32) (k0_hw27 : k0_chk27 v269), ∀ a, (k0_off28 v269) a + S1x64.size a ≤ S1000000x64.size a := fun v269 k0_hw27 => k0_hw27

def k0_off29 (v279 : BitVec 32) : Fin 2 → Nat :=
  let c0_i32_153 : BitVec 32 := 0#32
  ![v279.toNat, 0]

def k0_chk28 (v279 : BitVec 32) : Prop :=
  (∀ a, (k0_off29 v279) a + S1x64.size a ≤ S100000x64.size a)
theorem k0_off29_inb : ∀ (v279 : BitVec 32) (k0_hw28 : k0_chk28 v279), ∀ a, (k0_off29 v279) a + S1x64.size a ≤ S100000x64.size a := fun v279 k0_hw28 => k0_hw28

def k0_off30 (v289 : BitVec 32) : Fin 2 → Nat :=
  let c0_i32_158 : BitVec 32 := 0#32
  ![v289.toNat, 0]

def k0_chk29 (v289 : BitVec 32) : Prop :=
  (∀ a, (k0_off30 v289) a + S1x64.size a ≤ S1000000x64.size a)
theorem k0_off30_inb : ∀ (v289 : BitVec 32) (k0_hw29 : k0_chk29 v289), ∀ a, (k0_off30 v289) a + S1x64.size a ≤ S1000000x64.size a := fun v289 k0_hw29 => k0_hw29

def k0_off31 (v299 : BitVec 32) : Fin 2 → Nat :=
  let c0_i32_164 : BitVec 32 := 0#32
  ![v299.toNat, 0]

def k0_chk30 (v299 : BitVec 32) : Prop :=
  (∀ a, (k0_off31 v299) a + S1x64.size a ≤ S100000x64.size a)
theorem k0_off31_inb : ∀ (v299 : BitVec 32) (k0_hw30 : k0_chk30 v299), ∀ a, (k0_off31 v299) a + S1x64.size a ≤ S100000x64.size a := fun v299 k0_hw30 => k0_hw30

def k0_off32 (v309 : BitVec 32) : Fin 2 → Nat :=
  let c0_i32_169 : BitVec 32 := 0#32
  ![v309.toNat, 0]

def k0_chk31 (v309 : BitVec 32) : Prop :=
  (∀ a, (k0_off32 v309) a + S1x64.size a ≤ S1000000x64.size a)
theorem k0_off32_inb : ∀ (v309 : BitVec 32) (k0_hw31 : k0_chk31 v309), ∀ a, (k0_off32 v309) a + S1x64.size a ≤ S1000000x64.size a := fun v309 k0_hw31 => k0_hw31

def k0_off33 (v319 : BitVec 32) : Fin 2 → Nat :=
  let c0_i32_175 : BitVec 32 := 0#32
  ![v319.toNat, 0]

def k0_chk32 (v319 : BitVec 32) : Prop :=
  (∀ a, (k0_off33 v319) a + S1x64.size a ≤ S100000x64.size a)
theorem k0_off33_inb : ∀ (v319 : BitVec 32) (k0_hw32 : k0_chk32 v319), ∀ a, (k0_off33 v319) a + S1x64.size a ≤ S100000x64.size a := fun v319 k0_hw32 => k0_hw32

def k0_mult2 : BitVec 32 :=
  let c16_i32 : BitVec 32 := 16#32
  c16_i32
def k0_off34 (v334 : BitVec 32) : Fin 2 → Nat :=
  let c0_i32_181 : BitVec 32 := 0#32
  ![v334.toNat, 0]

def k0_chk33 (v334 : BitVec 32) : Prop :=
  (∀ a, (k0_off34 v334) a + S1x64.size a ≤ S1000000x64.size a)
theorem k0_off34_inb : ∀ (v334 : BitVec 32) (k0_hw33 : k0_chk33 v334), ∀ a, (k0_off34 v334) a + S1x64.size a ≤ S1000000x64.size a := fun v334 k0_hw33 => k0_hw33

def k0_off35 (v344 : BitVec 32) : Fin 2 → Nat :=
  let c0_i32_187 : BitVec 32 := 0#32
  ![v344.toNat, 0]

def k0_chk34 (v344 : BitVec 32) : Prop :=
  (∀ a, (k0_off35 v344) a + S1x64.size a ≤ S100000x64.size a)
theorem k0_off35_inb : ∀ (v344 : BitVec 32) (k0_hw34 : k0_chk34 v344), ∀ a, (k0_off35 v344) a + S1x64.size a ≤ S100000x64.size a := fun v344 k0_hw34 => k0_hw34

def k0_off36 (v354 : BitVec 32) : Fin 2 → Nat :=
  let c0_i32_193 : BitVec 32 := 0#32
  ![v354.toNat, 0]

def k0_chk35 (v354 : BitVec 32) : Prop :=
  (∀ a, (k0_off36 v354) a + S1x64.size a ≤ S1000000x64.size a)
theorem k0_off36_inb : ∀ (v354 : BitVec 32) (k0_hw35 : k0_chk35 v354), ∀ a, (k0_off36 v354) a + S1x64.size a ≤ S1000000x64.size a := fun v354 k0_hw35 => k0_hw35

def k0_off37 (v364 : BitVec 32) : Fin 2 → Nat :=
  let c0_i32_199 : BitVec 32 := 0#32
  ![v364.toNat, 0]

def k0_chk36 (v364 : BitVec 32) : Prop :=
  (∀ a, (k0_off37 v364) a + S1x64.size a ≤ S100000x64.size a)
theorem k0_off37_inb : ∀ (v364 : BitVec 32) (k0_hw36 : k0_chk36 v364), ∀ a, (k0_off37 v364) a + S1x64.size a ≤ S100000x64.size a := fun v364 k0_hw36 => k0_hw36

def k0_off38 (v374 : BitVec 32) : Fin 2 → Nat :=
  let c0_i32_205 : BitVec 32 := 0#32
  ![v374.toNat, 0]

def k0_chk37 (v374 : BitVec 32) : Prop :=
  (∀ a, (k0_off38 v374) a + S1x64.size a ≤ S1000000x64.size a)
theorem k0_off38_inb : ∀ (v374 : BitVec 32) (k0_hw37 : k0_chk37 v374), ∀ a, (k0_off38 v374) a + S1x64.size a ≤ S1000000x64.size a := fun v374 k0_hw37 => k0_hw37

def k0_off39 (v384 : BitVec 32) : Fin 2 → Nat :=
  let c0_i32_211 : BitVec 32 := 0#32
  ![v384.toNat, 0]

def k0_chk38 (v384 : BitVec 32) : Prop :=
  (∀ a, (k0_off39 v384) a + S1x64.size a ≤ S100000x64.size a)
theorem k0_off39_inb : ∀ (v384 : BitVec 32) (k0_hw38 : k0_chk38 v384), ∀ a, (k0_off39 v384) a + S1x64.size a ≤ S100000x64.size a := fun v384 k0_hw38 => k0_hw38

def k0_off40 (v394 : BitVec 32) : Fin 2 → Nat :=
  let c0_i32_217 : BitVec 32 := 0#32
  ![v394.toNat, 0]

def k0_chk39 (v394 : BitVec 32) : Prop :=
  (∀ a, (k0_off40 v394) a + S1x64.size a ≤ S1000000x64.size a)
theorem k0_off40_inb : ∀ (v394 : BitVec 32) (k0_hw39 : k0_chk39 v394), ∀ a, (k0_off40 v394) a + S1x64.size a ≤ S1000000x64.size a := fun v394 k0_hw39 => k0_hw39

def k0_off41 (v404 : BitVec 32) : Fin 2 → Nat :=
  let c0_i32_223 : BitVec 32 := 0#32
  ![v404.toNat, 0]

def k0_chk40 (v404 : BitVec 32) : Prop :=
  (∀ a, (k0_off41 v404) a + S1x64.size a ≤ S100000x64.size a)
theorem k0_off41_inb : ∀ (v404 : BitVec 32) (k0_hw40 : k0_chk40 v404), ∀ a, (k0_off41 v404) a + S1x64.size a ≤ S100000x64.size a := fun v404 k0_hw40 => k0_hw40

def k0_off42 (v414 : BitVec 32) : Fin 2 → Nat :=
  let c0_i32_229 : BitVec 32 := 0#32
  ![v414.toNat, 0]

def k0_chk41 (v414 : BitVec 32) : Prop :=
  (∀ a, (k0_off42 v414) a + S1x64.size a ≤ S1000000x64.size a)
theorem k0_off42_inb : ∀ (v414 : BitVec 32) (k0_hw41 : k0_chk41 v414), ∀ a, (k0_off42 v414) a + S1x64.size a ≤ S1000000x64.size a := fun v414 k0_hw41 => k0_hw41

def k0_off43 (v424 : BitVec 32) : Fin 2 → Nat :=
  let c0_i32_235 : BitVec 32 := 0#32
  ![v424.toNat, 0]

def k0_chk42 (v424 : BitVec 32) : Prop :=
  (∀ a, (k0_off43 v424) a + S1x64.size a ≤ S100000x64.size a)
theorem k0_off43_inb : ∀ (v424 : BitVec 32) (k0_hw42 : k0_chk42 v424), ∀ a, (k0_off43 v424) a + S1x64.size a ≤ S100000x64.size a := fun v424 k0_hw42 => k0_hw42

def k0_off44 (v434 : BitVec 32) : Fin 2 → Nat :=
  let c0_i32_241 : BitVec 32 := 0#32
  ![v434.toNat, 0]

def k0_chk43 (v434 : BitVec 32) : Prop :=
  (∀ a, (k0_off44 v434) a + S1x64.size a ≤ S1000000x64.size a)
theorem k0_off44_inb : ∀ (v434 : BitVec 32) (k0_hw43 : k0_chk43 v434), ∀ a, (k0_off44 v434) a + S1x64.size a ≤ S1000000x64.size a := fun v434 k0_hw43 => k0_hw43

def k0_off45 (v444 : BitVec 32) : Fin 2 → Nat :=
  let c0_i32_247 : BitVec 32 := 0#32
  ![v444.toNat, 0]

def k0_chk44 (v444 : BitVec 32) : Prop :=
  (∀ a, (k0_off45 v444) a + S1x64.size a ≤ S100000x64.size a)
theorem k0_off45_inb : ∀ (v444 : BitVec 32) (k0_hw44 : k0_chk44 v444), ∀ a, (k0_off45 v444) a + S1x64.size a ≤ S100000x64.size a := fun v444 k0_hw44 => k0_hw44

def k0_off46 (v454 : BitVec 32) : Fin 2 → Nat :=
  let c0_i32_253 : BitVec 32 := 0#32
  ![v454.toNat, 0]

def k0_chk45 (v454 : BitVec 32) : Prop :=
  (∀ a, (k0_off46 v454) a + S1x64.size a ≤ S1000000x64.size a)
theorem k0_off46_inb : ∀ (v454 : BitVec 32) (k0_hw45 : k0_chk45 v454), ∀ a, (k0_off46 v454) a + S1x64.size a ≤ S1000000x64.size a := fun v454 k0_hw45 => k0_hw45

def k0_off47 (v464 : BitVec 32) : Fin 2 → Nat :=
  let c0_i32_259 : BitVec 32 := 0#32
  ![v464.toNat, 0]

def k0_chk46 (v464 : BitVec 32) : Prop :=
  (∀ a, (k0_off47 v464) a + S1x64.size a ≤ S100000x64.size a)
theorem k0_off47_inb : ∀ (v464 : BitVec 32) (k0_hw46 : k0_chk46 v464), ∀ a, (k0_off47 v464) a + S1x64.size a ≤ S100000x64.size a := fun v464 k0_hw46 => k0_hw46

def k0_off48 (v474 : BitVec 32) : Fin 2 → Nat :=
  let c0_i32_265 : BitVec 32 := 0#32
  ![v474.toNat, 0]

def k0_chk47 (v474 : BitVec 32) : Prop :=
  (∀ a, (k0_off48 v474) a + S1x64.size a ≤ S1000000x64.size a)
theorem k0_off48_inb : ∀ (v474 : BitVec 32) (k0_hw47 : k0_chk47 v474), ∀ a, (k0_off48 v474) a + S1x64.size a ≤ S1000000x64.size a := fun v474 k0_hw47 => k0_hw47

def k0_off49 (v484 : BitVec 32) : Fin 2 → Nat :=
  let c0_i32_271 : BitVec 32 := 0#32
  ![v484.toNat, 0]

def k0_chk48 (v484 : BitVec 32) : Prop :=
  (∀ a, (k0_off49 v484) a + S1x64.size a ≤ S100000x64.size a)
theorem k0_off49_inb : ∀ (v484 : BitVec 32) (k0_hw48 : k0_chk48 v484), ∀ a, (k0_off49 v484) a + S1x64.size a ≤ S100000x64.size a := fun v484 k0_hw48 => k0_hw48

def k0_off50 (v494 : BitVec 32) : Fin 2 → Nat :=
  let c0_i32_277 : BitVec 32 := 0#32
  ![v494.toNat, 0]

def k0_chk49 (v494 : BitVec 32) : Prop :=
  (∀ a, (k0_off50 v494) a + S1x64.size a ≤ S1000000x64.size a)
theorem k0_off50_inb : ∀ (v494 : BitVec 32) (k0_hw49 : k0_chk49 v494), ∀ a, (k0_off50 v494) a + S1x64.size a ≤ S1000000x64.size a := fun v494 k0_hw49 => k0_hw49

def k0_off51 (v504 : BitVec 32) : Fin 2 → Nat :=
  let c0_i32_283 : BitVec 32 := 0#32
  ![v504.toNat, 0]

def k0_chk50 (v504 : BitVec 32) : Prop :=
  (∀ a, (k0_off51 v504) a + S1x64.size a ≤ S100000x64.size a)
theorem k0_off51_inb : ∀ (v504 : BitVec 32) (k0_hw50 : k0_chk50 v504), ∀ a, (k0_off51 v504) a + S1x64.size a ≤ S100000x64.size a := fun v504 k0_hw50 => k0_hw50

def k0_off52 (v514 : BitVec 32) : Fin 2 → Nat :=
  let c0_i32_289 : BitVec 32 := 0#32
  ![v514.toNat, 0]

def k0_chk51 (v514 : BitVec 32) : Prop :=
  (∀ a, (k0_off52 v514) a + S1x64.size a ≤ S1000000x64.size a)
theorem k0_off52_inb : ∀ (v514 : BitVec 32) (k0_hw51 : k0_chk51 v514), ∀ a, (k0_off52 v514) a + S1x64.size a ≤ S1000000x64.size a := fun v514 k0_hw51 => k0_hw51

def k0_off53 (v524 : BitVec 32) : Fin 2 → Nat :=
  let c0_i32_295 : BitVec 32 := 0#32
  ![v524.toNat, 0]

def k0_chk52 (v524 : BitVec 32) : Prop :=
  (∀ a, (k0_off53 v524) a + S1x64.size a ≤ S100000x64.size a)
theorem k0_off53_inb : ∀ (v524 : BitVec 32) (k0_hw52 : k0_chk52 v524), ∀ a, (k0_off53 v524) a + S1x64.size a ≤ S100000x64.size a := fun v524 k0_hw52 => k0_hw52

def k0_off54 (v534 : BitVec 32) : Fin 2 → Nat :=
  let c0_i32_301 : BitVec 32 := 0#32
  ![v534.toNat, 0]

def k0_chk53 (v534 : BitVec 32) : Prop :=
  (∀ a, (k0_off54 v534) a + S1x64.size a ≤ S1000000x64.size a)
theorem k0_off54_inb : ∀ (v534 : BitVec 32) (k0_hw53 : k0_chk53 v534), ∀ a, (k0_off54 v534) a + S1x64.size a ≤ S1000000x64.size a := fun v534 k0_hw53 => k0_hw53

def k0_off55 (v544 : BitVec 32) : Fin 2 → Nat :=
  let c0_i32_307 : BitVec 32 := 0#32
  ![v544.toNat, 0]

def k0_chk54 (v544 : BitVec 32) : Prop :=
  (∀ a, (k0_off55 v544) a + S1x64.size a ≤ S100000x64.size a)
theorem k0_off55_inb : ∀ (v544 : BitVec 32) (k0_hw54 : k0_chk54 v544), ∀ a, (k0_off55 v544) a + S1x64.size a ≤ S100000x64.size a := fun v544 k0_hw54 => k0_hw54

def k0_off56 (v554 : BitVec 32) : Fin 2 → Nat :=
  let c0_i32_313 : BitVec 32 := 0#32
  ![v554.toNat, 0]

def k0_chk55 (v554 : BitVec 32) : Prop :=
  (∀ a, (k0_off56 v554) a + S1x64.size a ≤ S1000000x64.size a)
theorem k0_off56_inb : ∀ (v554 : BitVec 32) (k0_hw55 : k0_chk55 v554), ∀ a, (k0_off56 v554) a + S1x64.size a ≤ S1000000x64.size a := fun v554 k0_hw55 => k0_hw55

def k0_off57 (v564 : BitVec 32) : Fin 2 → Nat :=
  let c0_i32_319 : BitVec 32 := 0#32
  ![v564.toNat, 0]

def k0_chk56 (v564 : BitVec 32) : Prop :=
  (∀ a, (k0_off57 v564) a + S1x64.size a ≤ S100000x64.size a)
theorem k0_off57_inb : ∀ (v564 : BitVec 32) (k0_hw56 : k0_chk56 v564), ∀ a, (k0_off57 v564) a + S1x64.size a ≤ S100000x64.size a := fun v564 k0_hw56 => k0_hw56

def k0_off58 (v574 : BitVec 32) : Fin 2 → Nat :=
  let c0_i32_325 : BitVec 32 := 0#32
  ![v574.toNat, 0]

def k0_chk57 (v574 : BitVec 32) : Prop :=
  (∀ a, (k0_off58 v574) a + S1x64.size a ≤ S1000000x64.size a)
theorem k0_off58_inb : ∀ (v574 : BitVec 32) (k0_hw57 : k0_chk57 v574), ∀ a, (k0_off58 v574) a + S1x64.size a ≤ S1000000x64.size a := fun v574 k0_hw57 => k0_hw57

def k0_off59 (v584 : BitVec 32) : Fin 2 → Nat :=
  let c0_i32_331 : BitVec 32 := 0#32
  ![v584.toNat, 0]

def k0_chk58 (v584 : BitVec 32) : Prop :=
  (∀ a, (k0_off59 v584) a + S1x64.size a ≤ S100000x64.size a)
theorem k0_off59_inb : ∀ (v584 : BitVec 32) (k0_hw58 : k0_chk58 v584), ∀ a, (k0_off59 v584) a + S1x64.size a ≤ S100000x64.size a := fun v584 k0_hw58 => k0_hw58

def k0_off60 (v594 : BitVec 32) : Fin 2 → Nat :=
  let c0_i32_337 : BitVec 32 := 0#32
  ![v594.toNat, 0]

def k0_chk59 (v594 : BitVec 32) : Prop :=
  (∀ a, (k0_off60 v594) a + S1x64.size a ≤ S1000000x64.size a)
theorem k0_off60_inb : ∀ (v594 : BitVec 32) (k0_hw59 : k0_chk59 v594), ∀ a, (k0_off60 v594) a + S1x64.size a ≤ S1000000x64.size a := fun v594 k0_hw59 => k0_hw59

def k0_off61 (v604 : BitVec 32) : Fin 2 → Nat :=
  let c0_i32_343 : BitVec 32 := 0#32
  ![v604.toNat, 0]

def k0_chk60 (v604 : BitVec 32) : Prop :=
  (∀ a, (k0_off61 v604) a + S1x64.size a ≤ S100000x64.size a)
theorem k0_off61_inb : ∀ (v604 : BitVec 32) (k0_hw60 : k0_chk60 v604), ∀ a, (k0_off61 v604) a + S1x64.size a ≤ S100000x64.size a := fun v604 k0_hw60 => k0_hw60

def k0_off62 (v614 : BitVec 32) : Fin 2 → Nat :=
  let c0_i32_349 : BitVec 32 := 0#32
  ![v614.toNat, 0]

def k0_chk61 (v614 : BitVec 32) : Prop :=
  (∀ a, (k0_off62 v614) a + S1x64.size a ≤ S1000000x64.size a)
theorem k0_off62_inb : ∀ (v614 : BitVec 32) (k0_hw61 : k0_chk61 v614), ∀ a, (k0_off62 v614) a + S1x64.size a ≤ S1000000x64.size a := fun v614 k0_hw61 => k0_hw61

def k0_off63 (v624 : BitVec 32) : Fin 2 → Nat :=
  let c0_i32_355 : BitVec 32 := 0#32
  ![v624.toNat, 0]

def k0_chk62 (v624 : BitVec 32) : Prop :=
  (∀ a, (k0_off63 v624) a + S1x64.size a ≤ S100000x64.size a)
theorem k0_off63_inb : ∀ (v624 : BitVec 32) (k0_hw62 : k0_chk62 v624), ∀ a, (k0_off63 v624) a + S1x64.size a ≤ S100000x64.size a := fun v624 k0_hw62 => k0_hw62

def k0_off64 (v634 : BitVec 32) : Fin 2 → Nat :=
  let c0_i32_361 : BitVec 32 := 0#32
  ![v634.toNat, 0]

def k0_chk63 (v634 : BitVec 32) : Prop :=
  (∀ a, (k0_off64 v634) a + S1x64.size a ≤ S1000000x64.size a)
theorem k0_off64_inb : ∀ (v634 : BitVec 32) (k0_hw63 : k0_chk63 v634), ∀ a, (k0_off64 v634) a + S1x64.size a ≤ S1000000x64.size a := fun v634 k0_hw63 => k0_hw63

def k0_off65 (v644 : BitVec 32) : Fin 2 → Nat :=
  let c0_i32_367 : BitVec 32 := 0#32
  ![v644.toNat, 0]

def k0_chk64 (v644 : BitVec 32) : Prop :=
  (∀ a, (k0_off65 v644) a + S1x64.size a ≤ S100000x64.size a)
theorem k0_off65_inb : ∀ (v644 : BitVec 32) (k0_hw64 : k0_chk64 v644), ∀ a, (k0_off65 v644) a + S1x64.size a ≤ S100000x64.size a := fun v644 k0_hw64 => k0_hw64

def k0_mult3 : BitVec 32 :=
  let c32_i32 : BitVec 32 := 32#32
  c32_i32
def k0_off66 (v659 : BitVec 32) : Fin 2 → Nat :=
  let c0_i32_373 : BitVec 32 := 0#32
  ![v659.toNat, 0]

def k0_chk65 (v659 : BitVec 32) : Prop :=
  (∀ a, (k0_off66 v659) a + S1x64.size a ≤ S1000000x64.size a)
theorem k0_off66_inb : ∀ (v659 : BitVec 32) (k0_hw65 : k0_chk65 v659), ∀ a, (k0_off66 v659) a + S1x64.size a ≤ S1000000x64.size a := fun v659 k0_hw65 => k0_hw65

def k0_off67 (v669 : BitVec 32) : Fin 2 → Nat :=
  let c0_i32_379 : BitVec 32 := 0#32
  ![v669.toNat, 0]

def k0_chk66 (v669 : BitVec 32) : Prop :=
  (∀ a, (k0_off67 v669) a + S1x64.size a ≤ S100000x64.size a)
theorem k0_off67_inb : ∀ (v669 : BitVec 32) (k0_hw66 : k0_chk66 v669), ∀ a, (k0_off67 v669) a + S1x64.size a ≤ S100000x64.size a := fun v669 k0_hw66 => k0_hw66

def k0_off68 (v679 : BitVec 32) : Fin 2 → Nat :=
  let c0_i32_385 : BitVec 32 := 0#32
  ![v679.toNat, 0]

def k0_chk67 (v679 : BitVec 32) : Prop :=
  (∀ a, (k0_off68 v679) a + S1x64.size a ≤ S1000000x64.size a)
theorem k0_off68_inb : ∀ (v679 : BitVec 32) (k0_hw67 : k0_chk67 v679), ∀ a, (k0_off68 v679) a + S1x64.size a ≤ S1000000x64.size a := fun v679 k0_hw67 => k0_hw67

def k0_off69 (v689 : BitVec 32) : Fin 2 → Nat :=
  let c0_i32_391 : BitVec 32 := 0#32
  ![v689.toNat, 0]

def k0_chk68 (v689 : BitVec 32) : Prop :=
  (∀ a, (k0_off69 v689) a + S1x64.size a ≤ S100000x64.size a)
theorem k0_off69_inb : ∀ (v689 : BitVec 32) (k0_hw68 : k0_chk68 v689), ∀ a, (k0_off69 v689) a + S1x64.size a ≤ S100000x64.size a := fun v689 k0_hw68 => k0_hw68

def k0_off70 (v699 : BitVec 32) : Fin 2 → Nat :=
  let c0_i32_397 : BitVec 32 := 0#32
  ![v699.toNat, 0]

def k0_chk69 (v699 : BitVec 32) : Prop :=
  (∀ a, (k0_off70 v699) a + S1x64.size a ≤ S1000000x64.size a)
theorem k0_off70_inb : ∀ (v699 : BitVec 32) (k0_hw69 : k0_chk69 v699), ∀ a, (k0_off70 v699) a + S1x64.size a ≤ S1000000x64.size a := fun v699 k0_hw69 => k0_hw69

def k0_off71 (v709 : BitVec 32) : Fin 2 → Nat :=
  let c0_i32_403 : BitVec 32 := 0#32
  ![v709.toNat, 0]

def k0_chk70 (v709 : BitVec 32) : Prop :=
  (∀ a, (k0_off71 v709) a + S1x64.size a ≤ S100000x64.size a)
theorem k0_off71_inb : ∀ (v709 : BitVec 32) (k0_hw70 : k0_chk70 v709), ∀ a, (k0_off71 v709) a + S1x64.size a ≤ S100000x64.size a := fun v709 k0_hw70 => k0_hw70

def k0_off72 (v719 : BitVec 32) : Fin 2 → Nat :=
  let c0_i32_409 : BitVec 32 := 0#32
  ![v719.toNat, 0]

def k0_chk71 (v719 : BitVec 32) : Prop :=
  (∀ a, (k0_off72 v719) a + S1x64.size a ≤ S1000000x64.size a)
theorem k0_off72_inb : ∀ (v719 : BitVec 32) (k0_hw71 : k0_chk71 v719), ∀ a, (k0_off72 v719) a + S1x64.size a ≤ S1000000x64.size a := fun v719 k0_hw71 => k0_hw71

def k0_off73 (v729 : BitVec 32) : Fin 2 → Nat :=
  let c0_i32_415 : BitVec 32 := 0#32
  ![v729.toNat, 0]

def k0_chk72 (v729 : BitVec 32) : Prop :=
  (∀ a, (k0_off73 v729) a + S1x64.size a ≤ S100000x64.size a)
theorem k0_off73_inb : ∀ (v729 : BitVec 32) (k0_hw72 : k0_chk72 v729), ∀ a, (k0_off73 v729) a + S1x64.size a ≤ S100000x64.size a := fun v729 k0_hw72 => k0_hw72

def k0_off74 (v739 : BitVec 32) : Fin 2 → Nat :=
  let c0_i32_421 : BitVec 32 := 0#32
  ![v739.toNat, 0]

def k0_chk73 (v739 : BitVec 32) : Prop :=
  (∀ a, (k0_off74 v739) a + S1x64.size a ≤ S1000000x64.size a)
theorem k0_off74_inb : ∀ (v739 : BitVec 32) (k0_hw73 : k0_chk73 v739), ∀ a, (k0_off74 v739) a + S1x64.size a ≤ S1000000x64.size a := fun v739 k0_hw73 => k0_hw73

def k0_off75 (v749 : BitVec 32) : Fin 2 → Nat :=
  let c0_i32_427 : BitVec 32 := 0#32
  ![v749.toNat, 0]

def k0_chk74 (v749 : BitVec 32) : Prop :=
  (∀ a, (k0_off75 v749) a + S1x64.size a ≤ S100000x64.size a)
theorem k0_off75_inb : ∀ (v749 : BitVec 32) (k0_hw74 : k0_chk74 v749), ∀ a, (k0_off75 v749) a + S1x64.size a ≤ S100000x64.size a := fun v749 k0_hw74 => k0_hw74

def k0_off76 (v759 : BitVec 32) : Fin 2 → Nat :=
  let c0_i32_433 : BitVec 32 := 0#32
  ![v759.toNat, 0]

def k0_chk75 (v759 : BitVec 32) : Prop :=
  (∀ a, (k0_off76 v759) a + S1x64.size a ≤ S1000000x64.size a)
theorem k0_off76_inb : ∀ (v759 : BitVec 32) (k0_hw75 : k0_chk75 v759), ∀ a, (k0_off76 v759) a + S1x64.size a ≤ S1000000x64.size a := fun v759 k0_hw75 => k0_hw75

def k0_off77 (v769 : BitVec 32) : Fin 2 → Nat :=
  let c0_i32_439 : BitVec 32 := 0#32
  ![v769.toNat, 0]

def k0_chk76 (v769 : BitVec 32) : Prop :=
  (∀ a, (k0_off77 v769) a + S1x64.size a ≤ S100000x64.size a)
theorem k0_off77_inb : ∀ (v769 : BitVec 32) (k0_hw76 : k0_chk76 v769), ∀ a, (k0_off77 v769) a + S1x64.size a ≤ S100000x64.size a := fun v769 k0_hw76 => k0_hw76

def k0_off78 (v779 : BitVec 32) : Fin 2 → Nat :=
  let c0_i32_445 : BitVec 32 := 0#32
  ![v779.toNat, 0]

def k0_chk77 (v779 : BitVec 32) : Prop :=
  (∀ a, (k0_off78 v779) a + S1x64.size a ≤ S1000000x64.size a)
theorem k0_off78_inb : ∀ (v779 : BitVec 32) (k0_hw77 : k0_chk77 v779), ∀ a, (k0_off78 v779) a + S1x64.size a ≤ S1000000x64.size a := fun v779 k0_hw77 => k0_hw77

def k0_off79 (v789 : BitVec 32) : Fin 2 → Nat :=
  let c0_i32_451 : BitVec 32 := 0#32
  ![v789.toNat, 0]

def k0_chk78 (v789 : BitVec 32) : Prop :=
  (∀ a, (k0_off79 v789) a + S1x64.size a ≤ S100000x64.size a)
theorem k0_off79_inb : ∀ (v789 : BitVec 32) (k0_hw78 : k0_chk78 v789), ∀ a, (k0_off79 v789) a + S1x64.size a ≤ S100000x64.size a := fun v789 k0_hw78 => k0_hw78

def k0_off80 (v799 : BitVec 32) : Fin 2 → Nat :=
  let c0_i32_457 : BitVec 32 := 0#32
  ![v799.toNat, 0]

def k0_chk79 (v799 : BitVec 32) : Prop :=
  (∀ a, (k0_off80 v799) a + S1x64.size a ≤ S1000000x64.size a)
theorem k0_off80_inb : ∀ (v799 : BitVec 32) (k0_hw79 : k0_chk79 v799), ∀ a, (k0_off80 v799) a + S1x64.size a ≤ S1000000x64.size a := fun v799 k0_hw79 => k0_hw79

def k0_off81 (v809 : BitVec 32) : Fin 2 → Nat :=
  let c0_i32_463 : BitVec 32 := 0#32
  ![v809.toNat, 0]

def k0_chk80 (v809 : BitVec 32) : Prop :=
  (∀ a, (k0_off81 v809) a + S1x64.size a ≤ S100000x64.size a)
theorem k0_off81_inb : ∀ (v809 : BitVec 32) (k0_hw80 : k0_chk80 v809), ∀ a, (k0_off81 v809) a + S1x64.size a ≤ S100000x64.size a := fun v809 k0_hw80 => k0_hw80

def k0_off82 (v819 : BitVec 32) : Fin 2 → Nat :=
  let c0_i32_469 : BitVec 32 := 0#32
  ![v819.toNat, 0]

def k0_chk81 (v819 : BitVec 32) : Prop :=
  (∀ a, (k0_off82 v819) a + S1x64.size a ≤ S1000000x64.size a)
theorem k0_off82_inb : ∀ (v819 : BitVec 32) (k0_hw81 : k0_chk81 v819), ∀ a, (k0_off82 v819) a + S1x64.size a ≤ S1000000x64.size a := fun v819 k0_hw81 => k0_hw81

def k0_off83 (v829 : BitVec 32) : Fin 2 → Nat :=
  let c0_i32_475 : BitVec 32 := 0#32
  ![v829.toNat, 0]

def k0_chk82 (v829 : BitVec 32) : Prop :=
  (∀ a, (k0_off83 v829) a + S1x64.size a ≤ S100000x64.size a)
theorem k0_off83_inb : ∀ (v829 : BitVec 32) (k0_hw82 : k0_chk82 v829), ∀ a, (k0_off83 v829) a + S1x64.size a ≤ S100000x64.size a := fun v829 k0_hw82 => k0_hw82

def k0_off84 (v839 : BitVec 32) : Fin 2 → Nat :=
  let c0_i32_481 : BitVec 32 := 0#32
  ![v839.toNat, 0]

def k0_chk83 (v839 : BitVec 32) : Prop :=
  (∀ a, (k0_off84 v839) a + S1x64.size a ≤ S1000000x64.size a)
theorem k0_off84_inb : ∀ (v839 : BitVec 32) (k0_hw83 : k0_chk83 v839), ∀ a, (k0_off84 v839) a + S1x64.size a ≤ S1000000x64.size a := fun v839 k0_hw83 => k0_hw83

def k0_off85 (v849 : BitVec 32) : Fin 2 → Nat :=
  let c0_i32_487 : BitVec 32 := 0#32
  ![v849.toNat, 0]

def k0_chk84 (v849 : BitVec 32) : Prop :=
  (∀ a, (k0_off85 v849) a + S1x64.size a ≤ S100000x64.size a)
theorem k0_off85_inb : ∀ (v849 : BitVec 32) (k0_hw84 : k0_chk84 v849), ∀ a, (k0_off85 v849) a + S1x64.size a ≤ S100000x64.size a := fun v849 k0_hw84 => k0_hw84

def k0_off86 (v859 : BitVec 32) : Fin 2 → Nat :=
  let c0_i32_493 : BitVec 32 := 0#32
  ![v859.toNat, 0]

def k0_chk85 (v859 : BitVec 32) : Prop :=
  (∀ a, (k0_off86 v859) a + S1x64.size a ≤ S1000000x64.size a)
theorem k0_off86_inb : ∀ (v859 : BitVec 32) (k0_hw85 : k0_chk85 v859), ∀ a, (k0_off86 v859) a + S1x64.size a ≤ S1000000x64.size a := fun v859 k0_hw85 => k0_hw85

def k0_off87 (v869 : BitVec 32) : Fin 2 → Nat :=
  let c0_i32_499 : BitVec 32 := 0#32
  ![v869.toNat, 0]

def k0_chk86 (v869 : BitVec 32) : Prop :=
  (∀ a, (k0_off87 v869) a + S1x64.size a ≤ S100000x64.size a)
theorem k0_off87_inb : ∀ (v869 : BitVec 32) (k0_hw86 : k0_chk86 v869), ∀ a, (k0_off87 v869) a + S1x64.size a ≤ S100000x64.size a := fun v869 k0_hw86 => k0_hw86

def k0_off88 (v879 : BitVec 32) : Fin 2 → Nat :=
  let c0_i32_505 : BitVec 32 := 0#32
  ![v879.toNat, 0]

def k0_chk87 (v879 : BitVec 32) : Prop :=
  (∀ a, (k0_off88 v879) a + S1x64.size a ≤ S1000000x64.size a)
theorem k0_off88_inb : ∀ (v879 : BitVec 32) (k0_hw87 : k0_chk87 v879), ∀ a, (k0_off88 v879) a + S1x64.size a ≤ S1000000x64.size a := fun v879 k0_hw87 => k0_hw87

def k0_off89 (v889 : BitVec 32) : Fin 2 → Nat :=
  let c0_i32_511 : BitVec 32 := 0#32
  ![v889.toNat, 0]

def k0_chk88 (v889 : BitVec 32) : Prop :=
  (∀ a, (k0_off89 v889) a + S1x64.size a ≤ S100000x64.size a)
theorem k0_off89_inb : ∀ (v889 : BitVec 32) (k0_hw88 : k0_chk88 v889), ∀ a, (k0_off89 v889) a + S1x64.size a ≤ S100000x64.size a := fun v889 k0_hw88 => k0_hw88

def k0_off90 (v899 : BitVec 32) : Fin 2 → Nat :=
  let c0_i32_517 : BitVec 32 := 0#32
  ![v899.toNat, 0]

def k0_chk89 (v899 : BitVec 32) : Prop :=
  (∀ a, (k0_off90 v899) a + S1x64.size a ≤ S1000000x64.size a)
theorem k0_off90_inb : ∀ (v899 : BitVec 32) (k0_hw89 : k0_chk89 v899), ∀ a, (k0_off90 v899) a + S1x64.size a ≤ S1000000x64.size a := fun v899 k0_hw89 => k0_hw89

def k0_off91 (v909 : BitVec 32) : Fin 2 → Nat :=
  let c0_i32_523 : BitVec 32 := 0#32
  ![v909.toNat, 0]

def k0_chk90 (v909 : BitVec 32) : Prop :=
  (∀ a, (k0_off91 v909) a + S1x64.size a ≤ S100000x64.size a)
theorem k0_off91_inb : ∀ (v909 : BitVec 32) (k0_hw90 : k0_chk90 v909), ∀ a, (k0_off91 v909) a + S1x64.size a ≤ S100000x64.size a := fun v909 k0_hw90 => k0_hw90

def k0_off92 (v919 : BitVec 32) : Fin 2 → Nat :=
  let c0_i32_529 : BitVec 32 := 0#32
  ![v919.toNat, 0]

def k0_chk91 (v919 : BitVec 32) : Prop :=
  (∀ a, (k0_off92 v919) a + S1x64.size a ≤ S1000000x64.size a)
theorem k0_off92_inb : ∀ (v919 : BitVec 32) (k0_hw91 : k0_chk91 v919), ∀ a, (k0_off92 v919) a + S1x64.size a ≤ S1000000x64.size a := fun v919 k0_hw91 => k0_hw91

def k0_off93 (v929 : BitVec 32) : Fin 2 → Nat :=
  let c0_i32_535 : BitVec 32 := 0#32
  ![v929.toNat, 0]

def k0_chk92 (v929 : BitVec 32) : Prop :=
  (∀ a, (k0_off93 v929) a + S1x64.size a ≤ S100000x64.size a)
theorem k0_off93_inb : ∀ (v929 : BitVec 32) (k0_hw92 : k0_chk92 v929), ∀ a, (k0_off93 v929) a + S1x64.size a ≤ S100000x64.size a := fun v929 k0_hw92 => k0_hw92

def k0_off94 (v939 : BitVec 32) : Fin 2 → Nat :=
  let c0_i32_541 : BitVec 32 := 0#32
  ![v939.toNat, 0]

def k0_chk93 (v939 : BitVec 32) : Prop :=
  (∀ a, (k0_off94 v939) a + S1x64.size a ≤ S1000000x64.size a)
theorem k0_off94_inb : ∀ (v939 : BitVec 32) (k0_hw93 : k0_chk93 v939), ∀ a, (k0_off94 v939) a + S1x64.size a ≤ S1000000x64.size a := fun v939 k0_hw93 => k0_hw93

def k0_off95 (v949 : BitVec 32) : Fin 2 → Nat :=
  let c0_i32_547 : BitVec 32 := 0#32
  ![v949.toNat, 0]

def k0_chk94 (v949 : BitVec 32) : Prop :=
  (∀ a, (k0_off95 v949) a + S1x64.size a ≤ S100000x64.size a)
theorem k0_off95_inb : ∀ (v949 : BitVec 32) (k0_hw94 : k0_chk94 v949), ∀ a, (k0_off95 v949) a + S1x64.size a ≤ S100000x64.size a := fun v949 k0_hw94 => k0_hw94

def k0_off96 (v959 : BitVec 32) : Fin 2 → Nat :=
  let c0_i32_553 : BitVec 32 := 0#32
  ![v959.toNat, 0]

def k0_chk95 (v959 : BitVec 32) : Prop :=
  (∀ a, (k0_off96 v959) a + S1x64.size a ≤ S1000000x64.size a)
theorem k0_off96_inb : ∀ (v959 : BitVec 32) (k0_hw95 : k0_chk95 v959), ∀ a, (k0_off96 v959) a + S1x64.size a ≤ S1000000x64.size a := fun v959 k0_hw95 => k0_hw95

def k0_off97 (v969 : BitVec 32) : Fin 2 → Nat :=
  let c0_i32_559 : BitVec 32 := 0#32
  ![v969.toNat, 0]

def k0_chk96 (v969 : BitVec 32) : Prop :=
  (∀ a, (k0_off97 v969) a + S1x64.size a ≤ S100000x64.size a)
theorem k0_off97_inb : ∀ (v969 : BitVec 32) (k0_hw96 : k0_chk96 v969), ∀ a, (k0_off97 v969) a + S1x64.size a ≤ S100000x64.size a := fun v969 k0_hw96 => k0_hw96

def k0_mult4 : BitVec 32 :=
  let c48_i32 : BitVec 32 := 48#32
  c48_i32
def k0_off98 (v984 : BitVec 32) : Fin 2 → Nat :=
  let c0_i32_565 : BitVec 32 := 0#32
  ![v984.toNat, 0]

def k0_chk97 (v984 : BitVec 32) : Prop :=
  (∀ a, (k0_off98 v984) a + S1x64.size a ≤ S1000000x64.size a)
theorem k0_off98_inb : ∀ (v984 : BitVec 32) (k0_hw97 : k0_chk97 v984), ∀ a, (k0_off98 v984) a + S1x64.size a ≤ S1000000x64.size a := fun v984 k0_hw97 => k0_hw97

def k0_off99 (v994 : BitVec 32) : Fin 2 → Nat :=
  let c0_i32_571 : BitVec 32 := 0#32
  ![v994.toNat, 0]

def k0_chk98 (v994 : BitVec 32) : Prop :=
  (∀ a, (k0_off99 v994) a + S1x64.size a ≤ S100000x64.size a)
theorem k0_off99_inb : ∀ (v994 : BitVec 32) (k0_hw98 : k0_chk98 v994), ∀ a, (k0_off99 v994) a + S1x64.size a ≤ S100000x64.size a := fun v994 k0_hw98 => k0_hw98

def k0_off100 (v1004 : BitVec 32) : Fin 2 → Nat :=
  let c0_i32_577 : BitVec 32 := 0#32
  ![v1004.toNat, 0]

def k0_chk99 (v1004 : BitVec 32) : Prop :=
  (∀ a, (k0_off100 v1004) a + S1x64.size a ≤ S1000000x64.size a)
theorem k0_off100_inb : ∀ (v1004 : BitVec 32) (k0_hw99 : k0_chk99 v1004), ∀ a, (k0_off100 v1004) a + S1x64.size a ≤ S1000000x64.size a := fun v1004 k0_hw99 => k0_hw99

def k0_off101 (v1014 : BitVec 32) : Fin 2 → Nat :=
  let c0_i32_583 : BitVec 32 := 0#32
  ![v1014.toNat, 0]

def k0_chk100 (v1014 : BitVec 32) : Prop :=
  (∀ a, (k0_off101 v1014) a + S1x64.size a ≤ S100000x64.size a)
theorem k0_off101_inb : ∀ (v1014 : BitVec 32) (k0_hw100 : k0_chk100 v1014), ∀ a, (k0_off101 v1014) a + S1x64.size a ≤ S100000x64.size a := fun v1014 k0_hw100 => k0_hw100

def k0_off102 (v1024 : BitVec 32) : Fin 2 → Nat :=
  let c0_i32_589 : BitVec 32 := 0#32
  ![v1024.toNat, 0]

def k0_chk101 (v1024 : BitVec 32) : Prop :=
  (∀ a, (k0_off102 v1024) a + S1x64.size a ≤ S1000000x64.size a)
theorem k0_off102_inb : ∀ (v1024 : BitVec 32) (k0_hw101 : k0_chk101 v1024), ∀ a, (k0_off102 v1024) a + S1x64.size a ≤ S1000000x64.size a := fun v1024 k0_hw101 => k0_hw101

def k0_off103 (v1034 : BitVec 32) : Fin 2 → Nat :=
  let c0_i32_595 : BitVec 32 := 0#32
  ![v1034.toNat, 0]

def k0_chk102 (v1034 : BitVec 32) : Prop :=
  (∀ a, (k0_off103 v1034) a + S1x64.size a ≤ S100000x64.size a)
theorem k0_off103_inb : ∀ (v1034 : BitVec 32) (k0_hw102 : k0_chk102 v1034), ∀ a, (k0_off103 v1034) a + S1x64.size a ≤ S100000x64.size a := fun v1034 k0_hw102 => k0_hw102

def k0_off104 (v1044 : BitVec 32) : Fin 2 → Nat :=
  let c0_i32_601 : BitVec 32 := 0#32
  ![v1044.toNat, 0]

def k0_chk103 (v1044 : BitVec 32) : Prop :=
  (∀ a, (k0_off104 v1044) a + S1x64.size a ≤ S1000000x64.size a)
theorem k0_off104_inb : ∀ (v1044 : BitVec 32) (k0_hw103 : k0_chk103 v1044), ∀ a, (k0_off104 v1044) a + S1x64.size a ≤ S1000000x64.size a := fun v1044 k0_hw103 => k0_hw103

def k0_off105 (v1054 : BitVec 32) : Fin 2 → Nat :=
  let c0_i32_607 : BitVec 32 := 0#32
  ![v1054.toNat, 0]

def k0_chk104 (v1054 : BitVec 32) : Prop :=
  (∀ a, (k0_off105 v1054) a + S1x64.size a ≤ S100000x64.size a)
theorem k0_off105_inb : ∀ (v1054 : BitVec 32) (k0_hw104 : k0_chk104 v1054), ∀ a, (k0_off105 v1054) a + S1x64.size a ≤ S100000x64.size a := fun v1054 k0_hw104 => k0_hw104

def k0_off106 (v1064 : BitVec 32) : Fin 2 → Nat :=
  let c0_i32_613 : BitVec 32 := 0#32
  ![v1064.toNat, 0]

def k0_chk105 (v1064 : BitVec 32) : Prop :=
  (∀ a, (k0_off106 v1064) a + S1x64.size a ≤ S1000000x64.size a)
theorem k0_off106_inb : ∀ (v1064 : BitVec 32) (k0_hw105 : k0_chk105 v1064), ∀ a, (k0_off106 v1064) a + S1x64.size a ≤ S1000000x64.size a := fun v1064 k0_hw105 => k0_hw105

def k0_off107 (v1074 : BitVec 32) : Fin 2 → Nat :=
  let c0_i32_619 : BitVec 32 := 0#32
  ![v1074.toNat, 0]

def k0_chk106 (v1074 : BitVec 32) : Prop :=
  (∀ a, (k0_off107 v1074) a + S1x64.size a ≤ S100000x64.size a)
theorem k0_off107_inb : ∀ (v1074 : BitVec 32) (k0_hw106 : k0_chk106 v1074), ∀ a, (k0_off107 v1074) a + S1x64.size a ≤ S100000x64.size a := fun v1074 k0_hw106 => k0_hw106

def k0_off108 (v1084 : BitVec 32) : Fin 2 → Nat :=
  let c0_i32_625 : BitVec 32 := 0#32
  ![v1084.toNat, 0]

def k0_chk107 (v1084 : BitVec 32) : Prop :=
  (∀ a, (k0_off108 v1084) a + S1x64.size a ≤ S1000000x64.size a)
theorem k0_off108_inb : ∀ (v1084 : BitVec 32) (k0_hw107 : k0_chk107 v1084), ∀ a, (k0_off108 v1084) a + S1x64.size a ≤ S1000000x64.size a := fun v1084 k0_hw107 => k0_hw107

def k0_off109 (v1094 : BitVec 32) : Fin 2 → Nat :=
  let c0_i32_631 : BitVec 32 := 0#32
  ![v1094.toNat, 0]

def k0_chk108 (v1094 : BitVec 32) : Prop :=
  (∀ a, (k0_off109 v1094) a + S1x64.size a ≤ S100000x64.size a)
theorem k0_off109_inb : ∀ (v1094 : BitVec 32) (k0_hw108 : k0_chk108 v1094), ∀ a, (k0_off109 v1094) a + S1x64.size a ≤ S100000x64.size a := fun v1094 k0_hw108 => k0_hw108

def k0_off110 (v1104 : BitVec 32) : Fin 2 → Nat :=
  let c0_i32_637 : BitVec 32 := 0#32
  ![v1104.toNat, 0]

def k0_chk109 (v1104 : BitVec 32) : Prop :=
  (∀ a, (k0_off110 v1104) a + S1x64.size a ≤ S1000000x64.size a)
theorem k0_off110_inb : ∀ (v1104 : BitVec 32) (k0_hw109 : k0_chk109 v1104), ∀ a, (k0_off110 v1104) a + S1x64.size a ≤ S1000000x64.size a := fun v1104 k0_hw109 => k0_hw109

def k0_off111 (v1114 : BitVec 32) : Fin 2 → Nat :=
  let c0_i32_643 : BitVec 32 := 0#32
  ![v1114.toNat, 0]

def k0_chk110 (v1114 : BitVec 32) : Prop :=
  (∀ a, (k0_off111 v1114) a + S1x64.size a ≤ S100000x64.size a)
theorem k0_off111_inb : ∀ (v1114 : BitVec 32) (k0_hw110 : k0_chk110 v1114), ∀ a, (k0_off111 v1114) a + S1x64.size a ≤ S100000x64.size a := fun v1114 k0_hw110 => k0_hw110

def k0_off112 (v1124 : BitVec 32) : Fin 2 → Nat :=
  let c0_i32_649 : BitVec 32 := 0#32
  ![v1124.toNat, 0]

def k0_chk111 (v1124 : BitVec 32) : Prop :=
  (∀ a, (k0_off112 v1124) a + S1x64.size a ≤ S1000000x64.size a)
theorem k0_off112_inb : ∀ (v1124 : BitVec 32) (k0_hw111 : k0_chk111 v1124), ∀ a, (k0_off112 v1124) a + S1x64.size a ≤ S1000000x64.size a := fun v1124 k0_hw111 => k0_hw111

def k0_off113 (v1134 : BitVec 32) : Fin 2 → Nat :=
  let c0_i32_655 : BitVec 32 := 0#32
  ![v1134.toNat, 0]

def k0_chk112 (v1134 : BitVec 32) : Prop :=
  (∀ a, (k0_off113 v1134) a + S1x64.size a ≤ S100000x64.size a)
theorem k0_off113_inb : ∀ (v1134 : BitVec 32) (k0_hw112 : k0_chk112 v1134), ∀ a, (k0_off113 v1134) a + S1x64.size a ≤ S100000x64.size a := fun v1134 k0_hw112 => k0_hw112

def k0_off114 (v1144 : BitVec 32) : Fin 2 → Nat :=
  let c0_i32_661 : BitVec 32 := 0#32
  ![v1144.toNat, 0]

def k0_chk113 (v1144 : BitVec 32) : Prop :=
  (∀ a, (k0_off114 v1144) a + S1x64.size a ≤ S1000000x64.size a)
theorem k0_off114_inb : ∀ (v1144 : BitVec 32) (k0_hw113 : k0_chk113 v1144), ∀ a, (k0_off114 v1144) a + S1x64.size a ≤ S1000000x64.size a := fun v1144 k0_hw113 => k0_hw113

def k0_off115 (v1154 : BitVec 32) : Fin 2 → Nat :=
  let c0_i32_667 : BitVec 32 := 0#32
  ![v1154.toNat, 0]

def k0_chk114 (v1154 : BitVec 32) : Prop :=
  (∀ a, (k0_off115 v1154) a + S1x64.size a ≤ S100000x64.size a)
theorem k0_off115_inb : ∀ (v1154 : BitVec 32) (k0_hw114 : k0_chk114 v1154), ∀ a, (k0_off115 v1154) a + S1x64.size a ≤ S100000x64.size a := fun v1154 k0_hw114 => k0_hw114

def k0_off116 (v1164 : BitVec 32) : Fin 2 → Nat :=
  let c0_i32_673 : BitVec 32 := 0#32
  ![v1164.toNat, 0]

def k0_chk115 (v1164 : BitVec 32) : Prop :=
  (∀ a, (k0_off116 v1164) a + S1x64.size a ≤ S1000000x64.size a)
theorem k0_off116_inb : ∀ (v1164 : BitVec 32) (k0_hw115 : k0_chk115 v1164), ∀ a, (k0_off116 v1164) a + S1x64.size a ≤ S1000000x64.size a := fun v1164 k0_hw115 => k0_hw115

def k0_off117 (v1174 : BitVec 32) : Fin 2 → Nat :=
  let c0_i32_679 : BitVec 32 := 0#32
  ![v1174.toNat, 0]

def k0_chk116 (v1174 : BitVec 32) : Prop :=
  (∀ a, (k0_off117 v1174) a + S1x64.size a ≤ S100000x64.size a)
theorem k0_off117_inb : ∀ (v1174 : BitVec 32) (k0_hw116 : k0_chk116 v1174), ∀ a, (k0_off117 v1174) a + S1x64.size a ≤ S100000x64.size a := fun v1174 k0_hw116 => k0_hw116

def k0_off118 (v1184 : BitVec 32) : Fin 2 → Nat :=
  let c0_i32_685 : BitVec 32 := 0#32
  ![v1184.toNat, 0]

def k0_chk117 (v1184 : BitVec 32) : Prop :=
  (∀ a, (k0_off118 v1184) a + S1x64.size a ≤ S1000000x64.size a)
theorem k0_off118_inb : ∀ (v1184 : BitVec 32) (k0_hw117 : k0_chk117 v1184), ∀ a, (k0_off118 v1184) a + S1x64.size a ≤ S1000000x64.size a := fun v1184 k0_hw117 => k0_hw117

def k0_off119 (v1194 : BitVec 32) : Fin 2 → Nat :=
  let c0_i32_691 : BitVec 32 := 0#32
  ![v1194.toNat, 0]

def k0_chk118 (v1194 : BitVec 32) : Prop :=
  (∀ a, (k0_off119 v1194) a + S1x64.size a ≤ S100000x64.size a)
theorem k0_off119_inb : ∀ (v1194 : BitVec 32) (k0_hw118 : k0_chk118 v1194), ∀ a, (k0_off119 v1194) a + S1x64.size a ≤ S100000x64.size a := fun v1194 k0_hw118 => k0_hw118

def k0_off120 (v1204 : BitVec 32) : Fin 2 → Nat :=
  let c0_i32_697 : BitVec 32 := 0#32
  ![v1204.toNat, 0]

def k0_chk119 (v1204 : BitVec 32) : Prop :=
  (∀ a, (k0_off120 v1204) a + S1x64.size a ≤ S1000000x64.size a)
theorem k0_off120_inb : ∀ (v1204 : BitVec 32) (k0_hw119 : k0_chk119 v1204), ∀ a, (k0_off120 v1204) a + S1x64.size a ≤ S1000000x64.size a := fun v1204 k0_hw119 => k0_hw119

def k0_off121 (v1214 : BitVec 32) : Fin 2 → Nat :=
  let c0_i32_703 : BitVec 32 := 0#32
  ![v1214.toNat, 0]

def k0_chk120 (v1214 : BitVec 32) : Prop :=
  (∀ a, (k0_off121 v1214) a + S1x64.size a ≤ S100000x64.size a)
theorem k0_off121_inb : ∀ (v1214 : BitVec 32) (k0_hw120 : k0_chk120 v1214), ∀ a, (k0_off121 v1214) a + S1x64.size a ≤ S100000x64.size a := fun v1214 k0_hw120 => k0_hw120

def k0_off122 (v1224 : BitVec 32) : Fin 2 → Nat :=
  let c0_i32_709 : BitVec 32 := 0#32
  ![v1224.toNat, 0]

def k0_chk121 (v1224 : BitVec 32) : Prop :=
  (∀ a, (k0_off122 v1224) a + S1x64.size a ≤ S1000000x64.size a)
theorem k0_off122_inb : ∀ (v1224 : BitVec 32) (k0_hw121 : k0_chk121 v1224), ∀ a, (k0_off122 v1224) a + S1x64.size a ≤ S1000000x64.size a := fun v1224 k0_hw121 => k0_hw121

def k0_off123 (v1234 : BitVec 32) : Fin 2 → Nat :=
  let c0_i32_715 : BitVec 32 := 0#32
  ![v1234.toNat, 0]

def k0_chk122 (v1234 : BitVec 32) : Prop :=
  (∀ a, (k0_off123 v1234) a + S1x64.size a ≤ S100000x64.size a)
theorem k0_off123_inb : ∀ (v1234 : BitVec 32) (k0_hw122 : k0_chk122 v1234), ∀ a, (k0_off123 v1234) a + S1x64.size a ≤ S100000x64.size a := fun v1234 k0_hw122 => k0_hw122

def k0_off124 (v1244 : BitVec 32) : Fin 2 → Nat :=
  let c0_i32_721 : BitVec 32 := 0#32
  ![v1244.toNat, 0]

def k0_chk123 (v1244 : BitVec 32) : Prop :=
  (∀ a, (k0_off124 v1244) a + S1x64.size a ≤ S1000000x64.size a)
theorem k0_off124_inb : ∀ (v1244 : BitVec 32) (k0_hw123 : k0_chk123 v1244), ∀ a, (k0_off124 v1244) a + S1x64.size a ≤ S1000000x64.size a := fun v1244 k0_hw123 => k0_hw123

def k0_off125 (v1254 : BitVec 32) : Fin 2 → Nat :=
  let c0_i32_727 : BitVec 32 := 0#32
  ![v1254.toNat, 0]

def k0_chk124 (v1254 : BitVec 32) : Prop :=
  (∀ a, (k0_off125 v1254) a + S1x64.size a ≤ S100000x64.size a)
theorem k0_off125_inb : ∀ (v1254 : BitVec 32) (k0_hw124 : k0_chk124 v1254), ∀ a, (k0_off125 v1254) a + S1x64.size a ≤ S100000x64.size a := fun v1254 k0_hw124 => k0_hw124

def k0_off126 (v1264 : BitVec 32) : Fin 2 → Nat :=
  let c0_i32_733 : BitVec 32 := 0#32
  ![v1264.toNat, 0]

def k0_chk125 (v1264 : BitVec 32) : Prop :=
  (∀ a, (k0_off126 v1264) a + S1x64.size a ≤ S1000000x64.size a)
theorem k0_off126_inb : ∀ (v1264 : BitVec 32) (k0_hw125 : k0_chk125 v1264), ∀ a, (k0_off126 v1264) a + S1x64.size a ≤ S1000000x64.size a := fun v1264 k0_hw125 => k0_hw125

def k0_off127 (v1274 : BitVec 32) : Fin 2 → Nat :=
  let c0_i32_739 : BitVec 32 := 0#32
  ![v1274.toNat, 0]

def k0_chk126 (v1274 : BitVec 32) : Prop :=
  (∀ a, (k0_off127 v1274) a + S1x64.size a ≤ S100000x64.size a)
theorem k0_off127_inb : ∀ (v1274 : BitVec 32) (k0_hw126 : k0_chk126 v1274), ∀ a, (k0_off127 v1274) a + S1x64.size a ≤ S100000x64.size a := fun v1274 k0_hw126 => k0_hw126

def k0_off128 (v1284 : BitVec 32) : Fin 2 → Nat :=
  let c0_i32_745 : BitVec 32 := 0#32
  ![v1284.toNat, 0]

def k0_chk127 (v1284 : BitVec 32) : Prop :=
  (∀ a, (k0_off128 v1284) a + S1x64.size a ≤ S1000000x64.size a)
theorem k0_off128_inb : ∀ (v1284 : BitVec 32) (k0_hw127 : k0_chk127 v1284), ∀ a, (k0_off128 v1284) a + S1x64.size a ≤ S1000000x64.size a := fun v1284 k0_hw127 => k0_hw127

def k0_off129 (v1294 : BitVec 32) : Fin 2 → Nat :=
  let c0_i32_751 : BitVec 32 := 0#32
  ![v1294.toNat, 0]

def k0_chk128 (v1294 : BitVec 32) : Prop :=
  (∀ a, (k0_off129 v1294) a + S1x64.size a ≤ S100000x64.size a)
theorem k0_off129_inb : ∀ (v1294 : BitVec 32) (k0_hw128 : k0_chk128 v1294), ∀ a, (k0_off129 v1294) a + S1x64.size a ≤ S100000x64.size a := fun v1294 k0_hw128 => k0_hw128

@[reducible] def k0_t1_loop : Scf.Loop 32 :=
  let c0_i32_754 : BitVec 32 := 0#32
  let c7_i32_755 : BitVec 32 := 7#32
  let v1303 : BitVec 32 := Scalar.addi c0_i32_754 c7_i32_755
  let c1_i32_756 : BitVec 32 := 1#32
  ⟨c0_i32_754, v1303, c1_i32_756⟩
def k0_mult5 (k0_t1 : Fin k0_t1_loop.trips) : BitVec 32 :=
  let c0_i32_3405 : BitVec 32 := 0#32
  let c0_i32_754 : BitVec 32 := 0#32
  let c1_i32_756 : BitVec 32 := 1#32
  let arg16 : BitVec 32 := Scf.iv c0_i32_754 c1_i32_756 k0_t1
  let c4_i32_3404 : BitVec 32 := 4#32
  let v4652 : BitVec 32 := Scalar.muli arg16 c4_i32_3404
  let v4653 : BitVec 32 := Scalar.addi c0_i32_3405 v4652
  let c0_i32_3630 : BitVec 32 := 0#32
  let v4910 : BitVec 32 := Scalar.addi v4653 c0_i32_3630
  let c16_i32_3631 : BitVec 32 := 16#32
  let v4911 : BitVec 32 := Scalar.muli v4910 c16_i32_3631
  v4911

def k0_chk129 (v4913 : IVec S16 32) (v4915 : IVec S16 32) : Prop :=
  (∀ a x, ((![v4913, v4915] : Fin 2 → IVec S16 32) a x).toNat < S16x64.size a) ∧
  (∀ a x, ((![v4913, v4915] : Fin 2 → IVec S16 32) a x).toNat < S16x64.size a)
theorem k0_idx1_inb : ∀ (v4913 : IVec S16 32) (v4915 : IVec S16 32) (k0_hw129 : k0_chk129 v4913 v4915), ∀ a x, ((![v4913, v4915] : Fin 2 → IVec S16 32) a x).toNat < S16x64.size a := fun v4913 v4915 k0_hw129 => k0_hw129.1
theorem k0_idx2_inb : ∀ (v4913 : IVec S16 32) (v4915 : IVec S16 32) (k0_hw129 : k0_chk129 v4913 v4915), ∀ a x, ((![v4913, v4915] : Fin 2 → IVec S16 32) a x).toNat < S16x64.size a := fun v4913 v4915 k0_hw129 => k0_hw129.2

def k0_chk130 (v4913 : IVec S16 32) (v4924 : IVec S16 32) : Prop :=
  (∀ a x, ((![v4913, v4924] : Fin 2 → IVec S16 32) a x).toNat < S16x64.size a) ∧
  (∀ a x, ((![v4913, v4924] : Fin 2 → IVec S16 32) a x).toNat < S16x64.size a)
theorem k0_idx3_inb : ∀ (v4913 : IVec S16 32) (v4924 : IVec S16 32) (k0_hw130 : k0_chk130 v4913 v4924), ∀ a x, ((![v4913, v4924] : Fin 2 → IVec S16 32) a x).toNat < S16x64.size a := fun v4913 v4924 k0_hw130 => k0_hw130.1
theorem k0_idx4_inb : ∀ (v4913 : IVec S16 32) (v4924 : IVec S16 32) (k0_hw130 : k0_chk130 v4913 v4924), ∀ a x, ((![v4913, v4924] : Fin 2 → IVec S16 32) a x).toNat < S16x64.size a := fun v4913 v4924 k0_hw130 => k0_hw130.2

def k0_chk131 (v4913 : IVec S16 32) (v4933 : IVec S16 32) : Prop :=
  (∀ a x, ((![v4913, v4933] : Fin 2 → IVec S16 32) a x).toNat < S16x64.size a) ∧
  (∀ a x, ((![v4913, v4933] : Fin 2 → IVec S16 32) a x).toNat < S16x64.size a)
theorem k0_idx5_inb : ∀ (v4913 : IVec S16 32) (v4933 : IVec S16 32) (k0_hw131 : k0_chk131 v4913 v4933), ∀ a x, ((![v4913, v4933] : Fin 2 → IVec S16 32) a x).toNat < S16x64.size a := fun v4913 v4933 k0_hw131 => k0_hw131.1
theorem k0_idx6_inb : ∀ (v4913 : IVec S16 32) (v4933 : IVec S16 32) (k0_hw131 : k0_chk131 v4913 v4933), ∀ a x, ((![v4913, v4933] : Fin 2 → IVec S16 32) a x).toNat < S16x64.size a := fun v4913 v4933 k0_hw131 => k0_hw131.2

def k0_chk132 (v4913 : IVec S16 32) (v4942 : IVec S16 32) : Prop :=
  (∀ a x, ((![v4913, v4942] : Fin 2 → IVec S16 32) a x).toNat < S16x64.size a) ∧
  (∀ a x, ((![v4913, v4942] : Fin 2 → IVec S16 32) a x).toNat < S16x64.size a)
theorem k0_idx7_inb : ∀ (v4913 : IVec S16 32) (v4942 : IVec S16 32) (k0_hw132 : k0_chk132 v4913 v4942), ∀ a x, ((![v4913, v4942] : Fin 2 → IVec S16 32) a x).toNat < S16x64.size a := fun v4913 v4942 k0_hw132 => k0_hw132.1
theorem k0_idx8_inb : ∀ (v4913 : IVec S16 32) (v4942 : IVec S16 32) (k0_hw132 : k0_chk132 v4913 v4942), ∀ a x, ((![v4913, v4942] : Fin 2 → IVec S16 32) a x).toNat < S16x64.size a := fun v4913 v4942 k0_hw132 => k0_hw132.2

def k0_chk133 (v4913 : IVec S16 32) (v4951 : IVec S16 32) : Prop :=
  (∀ a x, ((![v4913, v4951] : Fin 2 → IVec S16 32) a x).toNat < S16x64.size a) ∧
  (∀ a x, ((![v4913, v4951] : Fin 2 → IVec S16 32) a x).toNat < S16x64.size a)
theorem k0_idx9_inb : ∀ (v4913 : IVec S16 32) (v4951 : IVec S16 32) (k0_hw133 : k0_chk133 v4913 v4951), ∀ a x, ((![v4913, v4951] : Fin 2 → IVec S16 32) a x).toNat < S16x64.size a := fun v4913 v4951 k0_hw133 => k0_hw133.1
theorem k0_idx10_inb : ∀ (v4913 : IVec S16 32) (v4951 : IVec S16 32) (k0_hw133 : k0_chk133 v4913 v4951), ∀ a x, ((![v4913, v4951] : Fin 2 → IVec S16 32) a x).toNat < S16x64.size a := fun v4913 v4951 k0_hw133 => k0_hw133.2

def k0_chk134 (v4913 : IVec S16 32) (v4960 : IVec S16 32) : Prop :=
  (∀ a x, ((![v4913, v4960] : Fin 2 → IVec S16 32) a x).toNat < S16x64.size a) ∧
  (∀ a x, ((![v4913, v4960] : Fin 2 → IVec S16 32) a x).toNat < S16x64.size a)
theorem k0_idx11_inb : ∀ (v4913 : IVec S16 32) (v4960 : IVec S16 32) (k0_hw134 : k0_chk134 v4913 v4960), ∀ a x, ((![v4913, v4960] : Fin 2 → IVec S16 32) a x).toNat < S16x64.size a := fun v4913 v4960 k0_hw134 => k0_hw134.1
theorem k0_idx12_inb : ∀ (v4913 : IVec S16 32) (v4960 : IVec S16 32) (k0_hw134 : k0_chk134 v4913 v4960), ∀ a x, ((![v4913, v4960] : Fin 2 → IVec S16 32) a x).toNat < S16x64.size a := fun v4913 v4960 k0_hw134 => k0_hw134.2

def k0_chk135 (v4913 : IVec S16 32) (v4969 : IVec S16 32) : Prop :=
  (∀ a x, ((![v4913, v4969] : Fin 2 → IVec S16 32) a x).toNat < S16x64.size a) ∧
  (∀ a x, ((![v4913, v4969] : Fin 2 → IVec S16 32) a x).toNat < S16x64.size a)
theorem k0_idx13_inb : ∀ (v4913 : IVec S16 32) (v4969 : IVec S16 32) (k0_hw135 : k0_chk135 v4913 v4969), ∀ a x, ((![v4913, v4969] : Fin 2 → IVec S16 32) a x).toNat < S16x64.size a := fun v4913 v4969 k0_hw135 => k0_hw135.1
theorem k0_idx14_inb : ∀ (v4913 : IVec S16 32) (v4969 : IVec S16 32) (k0_hw135 : k0_chk135 v4913 v4969), ∀ a x, ((![v4913, v4969] : Fin 2 → IVec S16 32) a x).toNat < S16x64.size a := fun v4913 v4969 k0_hw135 => k0_hw135.2

def k0_chk136 (v4913 : IVec S16 32) (v4978 : IVec S16 32) : Prop :=
  (∀ a x, ((![v4913, v4978] : Fin 2 → IVec S16 32) a x).toNat < S16x64.size a) ∧
  (∀ a x, ((![v4913, v4978] : Fin 2 → IVec S16 32) a x).toNat < S16x64.size a)
theorem k0_idx15_inb : ∀ (v4913 : IVec S16 32) (v4978 : IVec S16 32) (k0_hw136 : k0_chk136 v4913 v4978), ∀ a x, ((![v4913, v4978] : Fin 2 → IVec S16 32) a x).toNat < S16x64.size a := fun v4913 v4978 k0_hw136 => k0_hw136.1
theorem k0_idx16_inb : ∀ (v4913 : IVec S16 32) (v4978 : IVec S16 32) (k0_hw136 : k0_chk136 v4913 v4978), ∀ a x, ((![v4913, v4978] : Fin 2 → IVec S16 32) a x).toNat < S16x64.size a := fun v4913 v4978 k0_hw136 => k0_hw136.2

def k0_chk137 (v4913 : IVec S16 32) (v4987 : IVec S16 32) : Prop :=
  (∀ a x, ((![v4913, v4987] : Fin 2 → IVec S16 32) a x).toNat < S16x64.size a) ∧
  (∀ a x, ((![v4913, v4987] : Fin 2 → IVec S16 32) a x).toNat < S16x64.size a)
theorem k0_idx17_inb : ∀ (v4913 : IVec S16 32) (v4987 : IVec S16 32) (k0_hw137 : k0_chk137 v4913 v4987), ∀ a x, ((![v4913, v4987] : Fin 2 → IVec S16 32) a x).toNat < S16x64.size a := fun v4913 v4987 k0_hw137 => k0_hw137.1
theorem k0_idx18_inb : ∀ (v4913 : IVec S16 32) (v4987 : IVec S16 32) (k0_hw137 : k0_chk137 v4913 v4987), ∀ a x, ((![v4913, v4987] : Fin 2 → IVec S16 32) a x).toNat < S16x64.size a := fun v4913 v4987 k0_hw137 => k0_hw137.2

def k0_chk138 (v4913 : IVec S16 32) (v4996 : IVec S16 32) : Prop :=
  (∀ a x, ((![v4913, v4996] : Fin 2 → IVec S16 32) a x).toNat < S16x64.size a) ∧
  (∀ a x, ((![v4913, v4996] : Fin 2 → IVec S16 32) a x).toNat < S16x64.size a)
theorem k0_idx19_inb : ∀ (v4913 : IVec S16 32) (v4996 : IVec S16 32) (k0_hw138 : k0_chk138 v4913 v4996), ∀ a x, ((![v4913, v4996] : Fin 2 → IVec S16 32) a x).toNat < S16x64.size a := fun v4913 v4996 k0_hw138 => k0_hw138.1
theorem k0_idx20_inb : ∀ (v4913 : IVec S16 32) (v4996 : IVec S16 32) (k0_hw138 : k0_chk138 v4913 v4996), ∀ a x, ((![v4913, v4996] : Fin 2 → IVec S16 32) a x).toNat < S16x64.size a := fun v4913 v4996 k0_hw138 => k0_hw138.2

def k0_chk139 (v4913 : IVec S16 32) (v5005 : IVec S16 32) : Prop :=
  (∀ a x, ((![v4913, v5005] : Fin 2 → IVec S16 32) a x).toNat < S16x64.size a) ∧
  (∀ a x, ((![v4913, v5005] : Fin 2 → IVec S16 32) a x).toNat < S16x64.size a)
theorem k0_idx21_inb : ∀ (v4913 : IVec S16 32) (v5005 : IVec S16 32) (k0_hw139 : k0_chk139 v4913 v5005), ∀ a x, ((![v4913, v5005] : Fin 2 → IVec S16 32) a x).toNat < S16x64.size a := fun v4913 v5005 k0_hw139 => k0_hw139.1
theorem k0_idx22_inb : ∀ (v4913 : IVec S16 32) (v5005 : IVec S16 32) (k0_hw139 : k0_chk139 v4913 v5005), ∀ a x, ((![v4913, v5005] : Fin 2 → IVec S16 32) a x).toNat < S16x64.size a := fun v4913 v5005 k0_hw139 => k0_hw139.2

def k0_chk140 (v4913 : IVec S16 32) (v5014 : IVec S16 32) : Prop :=
  (∀ a x, ((![v4913, v5014] : Fin 2 → IVec S16 32) a x).toNat < S16x64.size a) ∧
  (∀ a x, ((![v4913, v5014] : Fin 2 → IVec S16 32) a x).toNat < S16x64.size a)
theorem k0_idx23_inb : ∀ (v4913 : IVec S16 32) (v5014 : IVec S16 32) (k0_hw140 : k0_chk140 v4913 v5014), ∀ a x, ((![v4913, v5014] : Fin 2 → IVec S16 32) a x).toNat < S16x64.size a := fun v4913 v5014 k0_hw140 => k0_hw140.1
theorem k0_idx24_inb : ∀ (v4913 : IVec S16 32) (v5014 : IVec S16 32) (k0_hw140 : k0_chk140 v4913 v5014), ∀ a x, ((![v4913, v5014] : Fin 2 → IVec S16 32) a x).toNat < S16x64.size a := fun v4913 v5014 k0_hw140 => k0_hw140.2

def k0_chk141 (v4913 : IVec S16 32) (v5023 : IVec S16 32) : Prop :=
  (∀ a x, ((![v4913, v5023] : Fin 2 → IVec S16 32) a x).toNat < S16x64.size a) ∧
  (∀ a x, ((![v4913, v5023] : Fin 2 → IVec S16 32) a x).toNat < S16x64.size a)
theorem k0_idx25_inb : ∀ (v4913 : IVec S16 32) (v5023 : IVec S16 32) (k0_hw141 : k0_chk141 v4913 v5023), ∀ a x, ((![v4913, v5023] : Fin 2 → IVec S16 32) a x).toNat < S16x64.size a := fun v4913 v5023 k0_hw141 => k0_hw141.1
theorem k0_idx26_inb : ∀ (v4913 : IVec S16 32) (v5023 : IVec S16 32) (k0_hw141 : k0_chk141 v4913 v5023), ∀ a x, ((![v4913, v5023] : Fin 2 → IVec S16 32) a x).toNat < S16x64.size a := fun v4913 v5023 k0_hw141 => k0_hw141.2

def k0_chk142 (v4913 : IVec S16 32) (v5032 : IVec S16 32) : Prop :=
  (∀ a x, ((![v4913, v5032] : Fin 2 → IVec S16 32) a x).toNat < S16x64.size a) ∧
  (∀ a x, ((![v4913, v5032] : Fin 2 → IVec S16 32) a x).toNat < S16x64.size a)
theorem k0_idx27_inb : ∀ (v4913 : IVec S16 32) (v5032 : IVec S16 32) (k0_hw142 : k0_chk142 v4913 v5032), ∀ a x, ((![v4913, v5032] : Fin 2 → IVec S16 32) a x).toNat < S16x64.size a := fun v4913 v5032 k0_hw142 => k0_hw142.1
theorem k0_idx28_inb : ∀ (v4913 : IVec S16 32) (v5032 : IVec S16 32) (k0_hw142 : k0_chk142 v4913 v5032), ∀ a x, ((![v4913, v5032] : Fin 2 → IVec S16 32) a x).toNat < S16x64.size a := fun v4913 v5032 k0_hw142 => k0_hw142.2

def k0_chk143 (v4913 : IVec S16 32) (v5041 : IVec S16 32) : Prop :=
  (∀ a x, ((![v4913, v5041] : Fin 2 → IVec S16 32) a x).toNat < S16x64.size a) ∧
  (∀ a x, ((![v4913, v5041] : Fin 2 → IVec S16 32) a x).toNat < S16x64.size a)
theorem k0_idx29_inb : ∀ (v4913 : IVec S16 32) (v5041 : IVec S16 32) (k0_hw143 : k0_chk143 v4913 v5041), ∀ a x, ((![v4913, v5041] : Fin 2 → IVec S16 32) a x).toNat < S16x64.size a := fun v4913 v5041 k0_hw143 => k0_hw143.1
theorem k0_idx30_inb : ∀ (v4913 : IVec S16 32) (v5041 : IVec S16 32) (k0_hw143 : k0_chk143 v4913 v5041), ∀ a x, ((![v4913, v5041] : Fin 2 → IVec S16 32) a x).toNat < S16x64.size a := fun v4913 v5041 k0_hw143 => k0_hw143.2

def k0_chk144 (v4913 : IVec S16 32) (v5050 : IVec S16 32) : Prop :=
  (∀ a x, ((![v4913, v5050] : Fin 2 → IVec S16 32) a x).toNat < S16x64.size a) ∧
  (∀ a x, ((![v4913, v5050] : Fin 2 → IVec S16 32) a x).toNat < S16x64.size a)
theorem k0_idx31_inb : ∀ (v4913 : IVec S16 32) (v5050 : IVec S16 32) (k0_hw144 : k0_chk144 v4913 v5050), ∀ a x, ((![v4913, v5050] : Fin 2 → IVec S16 32) a x).toNat < S16x64.size a := fun v4913 v5050 k0_hw144 => k0_hw144.1
theorem k0_idx32_inb : ∀ (v4913 : IVec S16 32) (v5050 : IVec S16 32) (k0_hw144 : k0_chk144 v4913 v5050), ∀ a x, ((![v4913, v5050] : Fin 2 → IVec S16 32) a x).toNat < S16x64.size a := fun v4913 v5050 k0_hw144 => k0_hw144.2

def k0_chk145 (v4913 : IVec S16 32) (v5059 : IVec S16 32) : Prop :=
  (∀ a x, ((![v4913, v5059] : Fin 2 → IVec S16 32) a x).toNat < S16x64.size a) ∧
  (∀ a x, ((![v4913, v5059] : Fin 2 → IVec S16 32) a x).toNat < S16x64.size a)
theorem k0_idx33_inb : ∀ (v4913 : IVec S16 32) (v5059 : IVec S16 32) (k0_hw145 : k0_chk145 v4913 v5059), ∀ a x, ((![v4913, v5059] : Fin 2 → IVec S16 32) a x).toNat < S16x64.size a := fun v4913 v5059 k0_hw145 => k0_hw145.1
theorem k0_idx34_inb : ∀ (v4913 : IVec S16 32) (v5059 : IVec S16 32) (k0_hw145 : k0_chk145 v4913 v5059), ∀ a x, ((![v4913, v5059] : Fin 2 → IVec S16 32) a x).toNat < S16x64.size a := fun v4913 v5059 k0_hw145 => k0_hw145.2

def k0_chk146 (v4913 : IVec S16 32) (v5068 : IVec S16 32) : Prop :=
  (∀ a x, ((![v4913, v5068] : Fin 2 → IVec S16 32) a x).toNat < S16x64.size a) ∧
  (∀ a x, ((![v4913, v5068] : Fin 2 → IVec S16 32) a x).toNat < S16x64.size a)
theorem k0_idx35_inb : ∀ (v4913 : IVec S16 32) (v5068 : IVec S16 32) (k0_hw146 : k0_chk146 v4913 v5068), ∀ a x, ((![v4913, v5068] : Fin 2 → IVec S16 32) a x).toNat < S16x64.size a := fun v4913 v5068 k0_hw146 => k0_hw146.1
theorem k0_idx36_inb : ∀ (v4913 : IVec S16 32) (v5068 : IVec S16 32) (k0_hw146 : k0_chk146 v4913 v5068), ∀ a x, ((![v4913, v5068] : Fin 2 → IVec S16 32) a x).toNat < S16x64.size a := fun v4913 v5068 k0_hw146 => k0_hw146.2

def k0_chk147 (v4913 : IVec S16 32) (v5077 : IVec S16 32) : Prop :=
  (∀ a x, ((![v4913, v5077] : Fin 2 → IVec S16 32) a x).toNat < S16x64.size a) ∧
  (∀ a x, ((![v4913, v5077] : Fin 2 → IVec S16 32) a x).toNat < S16x64.size a)
theorem k0_idx37_inb : ∀ (v4913 : IVec S16 32) (v5077 : IVec S16 32) (k0_hw147 : k0_chk147 v4913 v5077), ∀ a x, ((![v4913, v5077] : Fin 2 → IVec S16 32) a x).toNat < S16x64.size a := fun v4913 v5077 k0_hw147 => k0_hw147.1
theorem k0_idx38_inb : ∀ (v4913 : IVec S16 32) (v5077 : IVec S16 32) (k0_hw147 : k0_chk147 v4913 v5077), ∀ a x, ((![v4913, v5077] : Fin 2 → IVec S16 32) a x).toNat < S16x64.size a := fun v4913 v5077 k0_hw147 => k0_hw147.2

def k0_chk148 (v4913 : IVec S16 32) (v5086 : IVec S16 32) : Prop :=
  (∀ a x, ((![v4913, v5086] : Fin 2 → IVec S16 32) a x).toNat < S16x64.size a) ∧
  (∀ a x, ((![v4913, v5086] : Fin 2 → IVec S16 32) a x).toNat < S16x64.size a)
theorem k0_idx39_inb : ∀ (v4913 : IVec S16 32) (v5086 : IVec S16 32) (k0_hw148 : k0_chk148 v4913 v5086), ∀ a x, ((![v4913, v5086] : Fin 2 → IVec S16 32) a x).toNat < S16x64.size a := fun v4913 v5086 k0_hw148 => k0_hw148.1
theorem k0_idx40_inb : ∀ (v4913 : IVec S16 32) (v5086 : IVec S16 32) (k0_hw148 : k0_chk148 v4913 v5086), ∀ a x, ((![v4913, v5086] : Fin 2 → IVec S16 32) a x).toNat < S16x64.size a := fun v4913 v5086 k0_hw148 => k0_hw148.2

def k0_chk149 (v4913 : IVec S16 32) (v5095 : IVec S16 32) : Prop :=
  (∀ a x, ((![v4913, v5095] : Fin 2 → IVec S16 32) a x).toNat < S16x64.size a) ∧
  (∀ a x, ((![v4913, v5095] : Fin 2 → IVec S16 32) a x).toNat < S16x64.size a)
theorem k0_idx41_inb : ∀ (v4913 : IVec S16 32) (v5095 : IVec S16 32) (k0_hw149 : k0_chk149 v4913 v5095), ∀ a x, ((![v4913, v5095] : Fin 2 → IVec S16 32) a x).toNat < S16x64.size a := fun v4913 v5095 k0_hw149 => k0_hw149.1
theorem k0_idx42_inb : ∀ (v4913 : IVec S16 32) (v5095 : IVec S16 32) (k0_hw149 : k0_chk149 v4913 v5095), ∀ a x, ((![v4913, v5095] : Fin 2 → IVec S16 32) a x).toNat < S16x64.size a := fun v4913 v5095 k0_hw149 => k0_hw149.2

def k0_chk150 (v4913 : IVec S16 32) (v5104 : IVec S16 32) : Prop :=
  (∀ a x, ((![v4913, v5104] : Fin 2 → IVec S16 32) a x).toNat < S16x64.size a) ∧
  (∀ a x, ((![v4913, v5104] : Fin 2 → IVec S16 32) a x).toNat < S16x64.size a)
theorem k0_idx43_inb : ∀ (v4913 : IVec S16 32) (v5104 : IVec S16 32) (k0_hw150 : k0_chk150 v4913 v5104), ∀ a x, ((![v4913, v5104] : Fin 2 → IVec S16 32) a x).toNat < S16x64.size a := fun v4913 v5104 k0_hw150 => k0_hw150.1
theorem k0_idx44_inb : ∀ (v4913 : IVec S16 32) (v5104 : IVec S16 32) (k0_hw150 : k0_chk150 v4913 v5104), ∀ a x, ((![v4913, v5104] : Fin 2 → IVec S16 32) a x).toNat < S16x64.size a := fun v4913 v5104 k0_hw150 => k0_hw150.2

def k0_chk151 (v4913 : IVec S16 32) (v5113 : IVec S16 32) : Prop :=
  (∀ a x, ((![v4913, v5113] : Fin 2 → IVec S16 32) a x).toNat < S16x64.size a) ∧
  (∀ a x, ((![v4913, v5113] : Fin 2 → IVec S16 32) a x).toNat < S16x64.size a)
theorem k0_idx45_inb : ∀ (v4913 : IVec S16 32) (v5113 : IVec S16 32) (k0_hw151 : k0_chk151 v4913 v5113), ∀ a x, ((![v4913, v5113] : Fin 2 → IVec S16 32) a x).toNat < S16x64.size a := fun v4913 v5113 k0_hw151 => k0_hw151.1
theorem k0_idx46_inb : ∀ (v4913 : IVec S16 32) (v5113 : IVec S16 32) (k0_hw151 : k0_chk151 v4913 v5113), ∀ a x, ((![v4913, v5113] : Fin 2 → IVec S16 32) a x).toNat < S16x64.size a := fun v4913 v5113 k0_hw151 => k0_hw151.2

def k0_chk152 (v4913 : IVec S16 32) (v5122 : IVec S16 32) : Prop :=
  (∀ a x, ((![v4913, v5122] : Fin 2 → IVec S16 32) a x).toNat < S16x64.size a) ∧
  (∀ a x, ((![v4913, v5122] : Fin 2 → IVec S16 32) a x).toNat < S16x64.size a)
theorem k0_idx47_inb : ∀ (v4913 : IVec S16 32) (v5122 : IVec S16 32) (k0_hw152 : k0_chk152 v4913 v5122), ∀ a x, ((![v4913, v5122] : Fin 2 → IVec S16 32) a x).toNat < S16x64.size a := fun v4913 v5122 k0_hw152 => k0_hw152.1
theorem k0_idx48_inb : ∀ (v4913 : IVec S16 32) (v5122 : IVec S16 32) (k0_hw152 : k0_chk152 v4913 v5122), ∀ a x, ((![v4913, v5122] : Fin 2 → IVec S16 32) a x).toNat < S16x64.size a := fun v4913 v5122 k0_hw152 => k0_hw152.2

def k0_chk153 (v4913 : IVec S16 32) (v5131 : IVec S16 32) : Prop :=
  (∀ a x, ((![v4913, v5131] : Fin 2 → IVec S16 32) a x).toNat < S16x64.size a) ∧
  (∀ a x, ((![v4913, v5131] : Fin 2 → IVec S16 32) a x).toNat < S16x64.size a)
theorem k0_idx49_inb : ∀ (v4913 : IVec S16 32) (v5131 : IVec S16 32) (k0_hw153 : k0_chk153 v4913 v5131), ∀ a x, ((![v4913, v5131] : Fin 2 → IVec S16 32) a x).toNat < S16x64.size a := fun v4913 v5131 k0_hw153 => k0_hw153.1
theorem k0_idx50_inb : ∀ (v4913 : IVec S16 32) (v5131 : IVec S16 32) (k0_hw153 : k0_chk153 v4913 v5131), ∀ a x, ((![v4913, v5131] : Fin 2 → IVec S16 32) a x).toNat < S16x64.size a := fun v4913 v5131 k0_hw153 => k0_hw153.2

def k0_chk154 (v4913 : IVec S16 32) (v5140 : IVec S16 32) : Prop :=
  (∀ a x, ((![v4913, v5140] : Fin 2 → IVec S16 32) a x).toNat < S16x64.size a) ∧
  (∀ a x, ((![v4913, v5140] : Fin 2 → IVec S16 32) a x).toNat < S16x64.size a)
theorem k0_idx51_inb : ∀ (v4913 : IVec S16 32) (v5140 : IVec S16 32) (k0_hw154 : k0_chk154 v4913 v5140), ∀ a x, ((![v4913, v5140] : Fin 2 → IVec S16 32) a x).toNat < S16x64.size a := fun v4913 v5140 k0_hw154 => k0_hw154.1
theorem k0_idx52_inb : ∀ (v4913 : IVec S16 32) (v5140 : IVec S16 32) (k0_hw154 : k0_chk154 v4913 v5140), ∀ a x, ((![v4913, v5140] : Fin 2 → IVec S16 32) a x).toNat < S16x64.size a := fun v4913 v5140 k0_hw154 => k0_hw154.2

def k0_chk155 (v4913 : IVec S16 32) (v5149 : IVec S16 32) : Prop :=
  (∀ a x, ((![v4913, v5149] : Fin 2 → IVec S16 32) a x).toNat < S16x64.size a) ∧
  (∀ a x, ((![v4913, v5149] : Fin 2 → IVec S16 32) a x).toNat < S16x64.size a)
theorem k0_idx53_inb : ∀ (v4913 : IVec S16 32) (v5149 : IVec S16 32) (k0_hw155 : k0_chk155 v4913 v5149), ∀ a x, ((![v4913, v5149] : Fin 2 → IVec S16 32) a x).toNat < S16x64.size a := fun v4913 v5149 k0_hw155 => k0_hw155.1
theorem k0_idx54_inb : ∀ (v4913 : IVec S16 32) (v5149 : IVec S16 32) (k0_hw155 : k0_chk155 v4913 v5149), ∀ a x, ((![v4913, v5149] : Fin 2 → IVec S16 32) a x).toNat < S16x64.size a := fun v4913 v5149 k0_hw155 => k0_hw155.2

def k0_chk156 (v4913 : IVec S16 32) (v5158 : IVec S16 32) : Prop :=
  (∀ a x, ((![v4913, v5158] : Fin 2 → IVec S16 32) a x).toNat < S16x64.size a) ∧
  (∀ a x, ((![v4913, v5158] : Fin 2 → IVec S16 32) a x).toNat < S16x64.size a)
theorem k0_idx55_inb : ∀ (v4913 : IVec S16 32) (v5158 : IVec S16 32) (k0_hw156 : k0_chk156 v4913 v5158), ∀ a x, ((![v4913, v5158] : Fin 2 → IVec S16 32) a x).toNat < S16x64.size a := fun v4913 v5158 k0_hw156 => k0_hw156.1
theorem k0_idx56_inb : ∀ (v4913 : IVec S16 32) (v5158 : IVec S16 32) (k0_hw156 : k0_chk156 v4913 v5158), ∀ a x, ((![v4913, v5158] : Fin 2 → IVec S16 32) a x).toNat < S16x64.size a := fun v4913 v5158 k0_hw156 => k0_hw156.2

def k0_chk157 (v4913 : IVec S16 32) (v5167 : IVec S16 32) : Prop :=
  (∀ a x, ((![v4913, v5167] : Fin 2 → IVec S16 32) a x).toNat < S16x64.size a) ∧
  (∀ a x, ((![v4913, v5167] : Fin 2 → IVec S16 32) a x).toNat < S16x64.size a)
theorem k0_idx57_inb : ∀ (v4913 : IVec S16 32) (v5167 : IVec S16 32) (k0_hw157 : k0_chk157 v4913 v5167), ∀ a x, ((![v4913, v5167] : Fin 2 → IVec S16 32) a x).toNat < S16x64.size a := fun v4913 v5167 k0_hw157 => k0_hw157.1
theorem k0_idx58_inb : ∀ (v4913 : IVec S16 32) (v5167 : IVec S16 32) (k0_hw157 : k0_chk157 v4913 v5167), ∀ a x, ((![v4913, v5167] : Fin 2 → IVec S16 32) a x).toNat < S16x64.size a := fun v4913 v5167 k0_hw157 => k0_hw157.2

def k0_chk158 (v4913 : IVec S16 32) (v5176 : IVec S16 32) : Prop :=
  (∀ a x, ((![v4913, v5176] : Fin 2 → IVec S16 32) a x).toNat < S16x64.size a) ∧
  (∀ a x, ((![v4913, v5176] : Fin 2 → IVec S16 32) a x).toNat < S16x64.size a)
theorem k0_idx59_inb : ∀ (v4913 : IVec S16 32) (v5176 : IVec S16 32) (k0_hw158 : k0_chk158 v4913 v5176), ∀ a x, ((![v4913, v5176] : Fin 2 → IVec S16 32) a x).toNat < S16x64.size a := fun v4913 v5176 k0_hw158 => k0_hw158.1
theorem k0_idx60_inb : ∀ (v4913 : IVec S16 32) (v5176 : IVec S16 32) (k0_hw158 : k0_chk158 v4913 v5176), ∀ a x, ((![v4913, v5176] : Fin 2 → IVec S16 32) a x).toNat < S16x64.size a := fun v4913 v5176 k0_hw158 => k0_hw158.2

def k0_chk159 (v4913 : IVec S16 32) (v5185 : IVec S16 32) : Prop :=
  (∀ a x, ((![v4913, v5185] : Fin 2 → IVec S16 32) a x).toNat < S16x64.size a) ∧
  (∀ a x, ((![v4913, v5185] : Fin 2 → IVec S16 32) a x).toNat < S16x64.size a)
theorem k0_idx61_inb : ∀ (v4913 : IVec S16 32) (v5185 : IVec S16 32) (k0_hw159 : k0_chk159 v4913 v5185), ∀ a x, ((![v4913, v5185] : Fin 2 → IVec S16 32) a x).toNat < S16x64.size a := fun v4913 v5185 k0_hw159 => k0_hw159.1
theorem k0_idx62_inb : ∀ (v4913 : IVec S16 32) (v5185 : IVec S16 32) (k0_hw159 : k0_chk159 v4913 v5185), ∀ a x, ((![v4913, v5185] : Fin 2 → IVec S16 32) a x).toNat < S16x64.size a := fun v4913 v5185 k0_hw159 => k0_hw159.2

def k0_chk160 (v4913 : IVec S16 32) (v5194 : IVec S16 32) : Prop :=
  (∀ a x, ((![v4913, v5194] : Fin 2 → IVec S16 32) a x).toNat < S16x64.size a) ∧
  (∀ a x, ((![v4913, v5194] : Fin 2 → IVec S16 32) a x).toNat < S16x64.size a)
theorem k0_idx63_inb : ∀ (v4913 : IVec S16 32) (v5194 : IVec S16 32) (k0_hw160 : k0_chk160 v4913 v5194), ∀ a x, ((![v4913, v5194] : Fin 2 → IVec S16 32) a x).toNat < S16x64.size a := fun v4913 v5194 k0_hw160 => k0_hw160.1
theorem k0_idx64_inb : ∀ (v4913 : IVec S16 32) (v5194 : IVec S16 32) (k0_hw160 : k0_chk160 v4913 v5194), ∀ a x, ((![v4913, v5194] : Fin 2 → IVec S16 32) a x).toNat < S16x64.size a := fun v4913 v5194 k0_hw160 => k0_hw160.2

def k0_chk161 (v4913 : IVec S16 32) (v5203 : IVec S16 32) : Prop :=
  (∀ a x, ((![v4913, v5203] : Fin 2 → IVec S16 32) a x).toNat < S16x64.size a) ∧
  (∀ a x, ((![v4913, v5203] : Fin 2 → IVec S16 32) a x).toNat < S16x64.size a)
theorem k0_idx65_inb : ∀ (v4913 : IVec S16 32) (v5203 : IVec S16 32) (k0_hw161 : k0_chk161 v4913 v5203), ∀ a x, ((![v4913, v5203] : Fin 2 → IVec S16 32) a x).toNat < S16x64.size a := fun v4913 v5203 k0_hw161 => k0_hw161.1
theorem k0_idx66_inb : ∀ (v4913 : IVec S16 32) (v5203 : IVec S16 32) (k0_hw161 : k0_chk161 v4913 v5203), ∀ a x, ((![v4913, v5203] : Fin 2 → IVec S16 32) a x).toNat < S16x64.size a := fun v4913 v5203 k0_hw161 => k0_hw161.2

def k0_chk162 (v4913 : IVec S16 32) (v5212 : IVec S16 32) : Prop :=
  (∀ a x, ((![v4913, v5212] : Fin 2 → IVec S16 32) a x).toNat < S16x64.size a) ∧
  (∀ a x, ((![v4913, v5212] : Fin 2 → IVec S16 32) a x).toNat < S16x64.size a)
theorem k0_idx67_inb : ∀ (v4913 : IVec S16 32) (v5212 : IVec S16 32) (k0_hw162 : k0_chk162 v4913 v5212), ∀ a x, ((![v4913, v5212] : Fin 2 → IVec S16 32) a x).toNat < S16x64.size a := fun v4913 v5212 k0_hw162 => k0_hw162.1
theorem k0_idx68_inb : ∀ (v4913 : IVec S16 32) (v5212 : IVec S16 32) (k0_hw162 : k0_chk162 v4913 v5212), ∀ a x, ((![v4913, v5212] : Fin 2 → IVec S16 32) a x).toNat < S16x64.size a := fun v4913 v5212 k0_hw162 => k0_hw162.2

def k0_chk163 (v4913 : IVec S16 32) (v5221 : IVec S16 32) : Prop :=
  (∀ a x, ((![v4913, v5221] : Fin 2 → IVec S16 32) a x).toNat < S16x64.size a) ∧
  (∀ a x, ((![v4913, v5221] : Fin 2 → IVec S16 32) a x).toNat < S16x64.size a)
theorem k0_idx69_inb : ∀ (v4913 : IVec S16 32) (v5221 : IVec S16 32) (k0_hw163 : k0_chk163 v4913 v5221), ∀ a x, ((![v4913, v5221] : Fin 2 → IVec S16 32) a x).toNat < S16x64.size a := fun v4913 v5221 k0_hw163 => k0_hw163.1
theorem k0_idx70_inb : ∀ (v4913 : IVec S16 32) (v5221 : IVec S16 32) (k0_hw163 : k0_chk163 v4913 v5221), ∀ a x, ((![v4913, v5221] : Fin 2 → IVec S16 32) a x).toNat < S16x64.size a := fun v4913 v5221 k0_hw163 => k0_hw163.2

def k0_chk164 (v4913 : IVec S16 32) (v5230 : IVec S16 32) : Prop :=
  (∀ a x, ((![v4913, v5230] : Fin 2 → IVec S16 32) a x).toNat < S16x64.size a) ∧
  (∀ a x, ((![v4913, v5230] : Fin 2 → IVec S16 32) a x).toNat < S16x64.size a)
theorem k0_idx71_inb : ∀ (v4913 : IVec S16 32) (v5230 : IVec S16 32) (k0_hw164 : k0_chk164 v4913 v5230), ∀ a x, ((![v4913, v5230] : Fin 2 → IVec S16 32) a x).toNat < S16x64.size a := fun v4913 v5230 k0_hw164 => k0_hw164.1
theorem k0_idx72_inb : ∀ (v4913 : IVec S16 32) (v5230 : IVec S16 32) (k0_hw164 : k0_chk164 v4913 v5230), ∀ a x, ((![v4913, v5230] : Fin 2 → IVec S16 32) a x).toNat < S16x64.size a := fun v4913 v5230 k0_hw164 => k0_hw164.2

def k0_chk165 (v4913 : IVec S16 32) (v5239 : IVec S16 32) : Prop :=
  (∀ a x, ((![v4913, v5239] : Fin 2 → IVec S16 32) a x).toNat < S16x64.size a) ∧
  (∀ a x, ((![v4913, v5239] : Fin 2 → IVec S16 32) a x).toNat < S16x64.size a)
theorem k0_idx73_inb : ∀ (v4913 : IVec S16 32) (v5239 : IVec S16 32) (k0_hw165 : k0_chk165 v4913 v5239), ∀ a x, ((![v4913, v5239] : Fin 2 → IVec S16 32) a x).toNat < S16x64.size a := fun v4913 v5239 k0_hw165 => k0_hw165.1
theorem k0_idx74_inb : ∀ (v4913 : IVec S16 32) (v5239 : IVec S16 32) (k0_hw165 : k0_chk165 v4913 v5239), ∀ a x, ((![v4913, v5239] : Fin 2 → IVec S16 32) a x).toNat < S16x64.size a := fun v4913 v5239 k0_hw165 => k0_hw165.2

def k0_chk166 (v4913 : IVec S16 32) (v5248 : IVec S16 32) : Prop :=
  (∀ a x, ((![v4913, v5248] : Fin 2 → IVec S16 32) a x).toNat < S16x64.size a) ∧
  (∀ a x, ((![v4913, v5248] : Fin 2 → IVec S16 32) a x).toNat < S16x64.size a)
theorem k0_idx75_inb : ∀ (v4913 : IVec S16 32) (v5248 : IVec S16 32) (k0_hw166 : k0_chk166 v4913 v5248), ∀ a x, ((![v4913, v5248] : Fin 2 → IVec S16 32) a x).toNat < S16x64.size a := fun v4913 v5248 k0_hw166 => k0_hw166.1
theorem k0_idx76_inb : ∀ (v4913 : IVec S16 32) (v5248 : IVec S16 32) (k0_hw166 : k0_chk166 v4913 v5248), ∀ a x, ((![v4913, v5248] : Fin 2 → IVec S16 32) a x).toNat < S16x64.size a := fun v4913 v5248 k0_hw166 => k0_hw166.2

def k0_chk167 (v4913 : IVec S16 32) (v5257 : IVec S16 32) : Prop :=
  (∀ a x, ((![v4913, v5257] : Fin 2 → IVec S16 32) a x).toNat < S16x64.size a) ∧
  (∀ a x, ((![v4913, v5257] : Fin 2 → IVec S16 32) a x).toNat < S16x64.size a)
theorem k0_idx77_inb : ∀ (v4913 : IVec S16 32) (v5257 : IVec S16 32) (k0_hw167 : k0_chk167 v4913 v5257), ∀ a x, ((![v4913, v5257] : Fin 2 → IVec S16 32) a x).toNat < S16x64.size a := fun v4913 v5257 k0_hw167 => k0_hw167.1
theorem k0_idx78_inb : ∀ (v4913 : IVec S16 32) (v5257 : IVec S16 32) (k0_hw167 : k0_chk167 v4913 v5257), ∀ a x, ((![v4913, v5257] : Fin 2 → IVec S16 32) a x).toNat < S16x64.size a := fun v4913 v5257 k0_hw167 => k0_hw167.2

def k0_chk168 (v4913 : IVec S16 32) (v5266 : IVec S16 32) : Prop :=
  (∀ a x, ((![v4913, v5266] : Fin 2 → IVec S16 32) a x).toNat < S16x64.size a) ∧
  (∀ a x, ((![v4913, v5266] : Fin 2 → IVec S16 32) a x).toNat < S16x64.size a)
theorem k0_idx79_inb : ∀ (v4913 : IVec S16 32) (v5266 : IVec S16 32) (k0_hw168 : k0_chk168 v4913 v5266), ∀ a x, ((![v4913, v5266] : Fin 2 → IVec S16 32) a x).toNat < S16x64.size a := fun v4913 v5266 k0_hw168 => k0_hw168.1
theorem k0_idx80_inb : ∀ (v4913 : IVec S16 32) (v5266 : IVec S16 32) (k0_hw168 : k0_chk168 v4913 v5266), ∀ a x, ((![v4913, v5266] : Fin 2 → IVec S16 32) a x).toNat < S16x64.size a := fun v4913 v5266 k0_hw168 => k0_hw168.2

def k0_chk169 (v4913 : IVec S16 32) (v5275 : IVec S16 32) : Prop :=
  (∀ a x, ((![v4913, v5275] : Fin 2 → IVec S16 32) a x).toNat < S16x64.size a) ∧
  (∀ a x, ((![v4913, v5275] : Fin 2 → IVec S16 32) a x).toNat < S16x64.size a)
theorem k0_idx81_inb : ∀ (v4913 : IVec S16 32) (v5275 : IVec S16 32) (k0_hw169 : k0_chk169 v4913 v5275), ∀ a x, ((![v4913, v5275] : Fin 2 → IVec S16 32) a x).toNat < S16x64.size a := fun v4913 v5275 k0_hw169 => k0_hw169.1
theorem k0_idx82_inb : ∀ (v4913 : IVec S16 32) (v5275 : IVec S16 32) (k0_hw169 : k0_chk169 v4913 v5275), ∀ a x, ((![v4913, v5275] : Fin 2 → IVec S16 32) a x).toNat < S16x64.size a := fun v4913 v5275 k0_hw169 => k0_hw169.2

def k0_chk170 (v4913 : IVec S16 32) (v5284 : IVec S16 32) : Prop :=
  (∀ a x, ((![v4913, v5284] : Fin 2 → IVec S16 32) a x).toNat < S16x64.size a) ∧
  (∀ a x, ((![v4913, v5284] : Fin 2 → IVec S16 32) a x).toNat < S16x64.size a)
theorem k0_idx83_inb : ∀ (v4913 : IVec S16 32) (v5284 : IVec S16 32) (k0_hw170 : k0_chk170 v4913 v5284), ∀ a x, ((![v4913, v5284] : Fin 2 → IVec S16 32) a x).toNat < S16x64.size a := fun v4913 v5284 k0_hw170 => k0_hw170.1
theorem k0_idx84_inb : ∀ (v4913 : IVec S16 32) (v5284 : IVec S16 32) (k0_hw170 : k0_chk170 v4913 v5284), ∀ a x, ((![v4913, v5284] : Fin 2 → IVec S16 32) a x).toNat < S16x64.size a := fun v4913 v5284 k0_hw170 => k0_hw170.2

def k0_chk171 (v4913 : IVec S16 32) (v5293 : IVec S16 32) : Prop :=
  (∀ a x, ((![v4913, v5293] : Fin 2 → IVec S16 32) a x).toNat < S16x64.size a) ∧
  (∀ a x, ((![v4913, v5293] : Fin 2 → IVec S16 32) a x).toNat < S16x64.size a)
theorem k0_idx85_inb : ∀ (v4913 : IVec S16 32) (v5293 : IVec S16 32) (k0_hw171 : k0_chk171 v4913 v5293), ∀ a x, ((![v4913, v5293] : Fin 2 → IVec S16 32) a x).toNat < S16x64.size a := fun v4913 v5293 k0_hw171 => k0_hw171.1
theorem k0_idx86_inb : ∀ (v4913 : IVec S16 32) (v5293 : IVec S16 32) (k0_hw171 : k0_chk171 v4913 v5293), ∀ a x, ((![v4913, v5293] : Fin 2 → IVec S16 32) a x).toNat < S16x64.size a := fun v4913 v5293 k0_hw171 => k0_hw171.2

def k0_chk172 (v4913 : IVec S16 32) (v5302 : IVec S16 32) : Prop :=
  (∀ a x, ((![v4913, v5302] : Fin 2 → IVec S16 32) a x).toNat < S16x64.size a) ∧
  (∀ a x, ((![v4913, v5302] : Fin 2 → IVec S16 32) a x).toNat < S16x64.size a)
theorem k0_idx87_inb : ∀ (v4913 : IVec S16 32) (v5302 : IVec S16 32) (k0_hw172 : k0_chk172 v4913 v5302), ∀ a x, ((![v4913, v5302] : Fin 2 → IVec S16 32) a x).toNat < S16x64.size a := fun v4913 v5302 k0_hw172 => k0_hw172.1
theorem k0_idx88_inb : ∀ (v4913 : IVec S16 32) (v5302 : IVec S16 32) (k0_hw172 : k0_chk172 v4913 v5302), ∀ a x, ((![v4913, v5302] : Fin 2 → IVec S16 32) a x).toNat < S16x64.size a := fun v4913 v5302 k0_hw172 => k0_hw172.2

def k0_chk173 (v4913 : IVec S16 32) (v5311 : IVec S16 32) : Prop :=
  (∀ a x, ((![v4913, v5311] : Fin 2 → IVec S16 32) a x).toNat < S16x64.size a) ∧
  (∀ a x, ((![v4913, v5311] : Fin 2 → IVec S16 32) a x).toNat < S16x64.size a)
theorem k0_idx89_inb : ∀ (v4913 : IVec S16 32) (v5311 : IVec S16 32) (k0_hw173 : k0_chk173 v4913 v5311), ∀ a x, ((![v4913, v5311] : Fin 2 → IVec S16 32) a x).toNat < S16x64.size a := fun v4913 v5311 k0_hw173 => k0_hw173.1
theorem k0_idx90_inb : ∀ (v4913 : IVec S16 32) (v5311 : IVec S16 32) (k0_hw173 : k0_chk173 v4913 v5311), ∀ a x, ((![v4913, v5311] : Fin 2 → IVec S16 32) a x).toNat < S16x64.size a := fun v4913 v5311 k0_hw173 => k0_hw173.2

def k0_chk174 (v4913 : IVec S16 32) (v5320 : IVec S16 32) : Prop :=
  (∀ a x, ((![v4913, v5320] : Fin 2 → IVec S16 32) a x).toNat < S16x64.size a) ∧
  (∀ a x, ((![v4913, v5320] : Fin 2 → IVec S16 32) a x).toNat < S16x64.size a)
theorem k0_idx91_inb : ∀ (v4913 : IVec S16 32) (v5320 : IVec S16 32) (k0_hw174 : k0_chk174 v4913 v5320), ∀ a x, ((![v4913, v5320] : Fin 2 → IVec S16 32) a x).toNat < S16x64.size a := fun v4913 v5320 k0_hw174 => k0_hw174.1
theorem k0_idx92_inb : ∀ (v4913 : IVec S16 32) (v5320 : IVec S16 32) (k0_hw174 : k0_chk174 v4913 v5320), ∀ a x, ((![v4913, v5320] : Fin 2 → IVec S16 32) a x).toNat < S16x64.size a := fun v4913 v5320 k0_hw174 => k0_hw174.2

def k0_chk175 (v4913 : IVec S16 32) (v5329 : IVec S16 32) : Prop :=
  (∀ a x, ((![v4913, v5329] : Fin 2 → IVec S16 32) a x).toNat < S16x64.size a) ∧
  (∀ a x, ((![v4913, v5329] : Fin 2 → IVec S16 32) a x).toNat < S16x64.size a)
theorem k0_idx93_inb : ∀ (v4913 : IVec S16 32) (v5329 : IVec S16 32) (k0_hw175 : k0_chk175 v4913 v5329), ∀ a x, ((![v4913, v5329] : Fin 2 → IVec S16 32) a x).toNat < S16x64.size a := fun v4913 v5329 k0_hw175 => k0_hw175.1
theorem k0_idx94_inb : ∀ (v4913 : IVec S16 32) (v5329 : IVec S16 32) (k0_hw175 : k0_chk175 v4913 v5329), ∀ a x, ((![v4913, v5329] : Fin 2 → IVec S16 32) a x).toNat < S16x64.size a := fun v4913 v5329 k0_hw175 => k0_hw175.2

def k0_chk176 (v4913 : IVec S16 32) (v5338 : IVec S16 32) : Prop :=
  (∀ a x, ((![v4913, v5338] : Fin 2 → IVec S16 32) a x).toNat < S16x64.size a) ∧
  (∀ a x, ((![v4913, v5338] : Fin 2 → IVec S16 32) a x).toNat < S16x64.size a)
theorem k0_idx95_inb : ∀ (v4913 : IVec S16 32) (v5338 : IVec S16 32) (k0_hw176 : k0_chk176 v4913 v5338), ∀ a x, ((![v4913, v5338] : Fin 2 → IVec S16 32) a x).toNat < S16x64.size a := fun v4913 v5338 k0_hw176 => k0_hw176.1
theorem k0_idx96_inb : ∀ (v4913 : IVec S16 32) (v5338 : IVec S16 32) (k0_hw176 : k0_chk176 v4913 v5338), ∀ a x, ((![v4913, v5338] : Fin 2 → IVec S16 32) a x).toNat < S16x64.size a := fun v4913 v5338 k0_hw176 => k0_hw176.2

def k0_chk177 (v4913 : IVec S16 32) (v5347 : IVec S16 32) : Prop :=
  (∀ a x, ((![v4913, v5347] : Fin 2 → IVec S16 32) a x).toNat < S16x64.size a) ∧
  (∀ a x, ((![v4913, v5347] : Fin 2 → IVec S16 32) a x).toNat < S16x64.size a)
theorem k0_idx97_inb : ∀ (v4913 : IVec S16 32) (v5347 : IVec S16 32) (k0_hw177 : k0_chk177 v4913 v5347), ∀ a x, ((![v4913, v5347] : Fin 2 → IVec S16 32) a x).toNat < S16x64.size a := fun v4913 v5347 k0_hw177 => k0_hw177.1
theorem k0_idx98_inb : ∀ (v4913 : IVec S16 32) (v5347 : IVec S16 32) (k0_hw177 : k0_chk177 v4913 v5347), ∀ a x, ((![v4913, v5347] : Fin 2 → IVec S16 32) a x).toNat < S16x64.size a := fun v4913 v5347 k0_hw177 => k0_hw177.2

def k0_chk178 (v4913 : IVec S16 32) (v5356 : IVec S16 32) : Prop :=
  (∀ a x, ((![v4913, v5356] : Fin 2 → IVec S16 32) a x).toNat < S16x64.size a) ∧
  (∀ a x, ((![v4913, v5356] : Fin 2 → IVec S16 32) a x).toNat < S16x64.size a)
theorem k0_idx99_inb : ∀ (v4913 : IVec S16 32) (v5356 : IVec S16 32) (k0_hw178 : k0_chk178 v4913 v5356), ∀ a x, ((![v4913, v5356] : Fin 2 → IVec S16 32) a x).toNat < S16x64.size a := fun v4913 v5356 k0_hw178 => k0_hw178.1
theorem k0_idx100_inb : ∀ (v4913 : IVec S16 32) (v5356 : IVec S16 32) (k0_hw178 : k0_chk178 v4913 v5356), ∀ a x, ((![v4913, v5356] : Fin 2 → IVec S16 32) a x).toNat < S16x64.size a := fun v4913 v5356 k0_hw178 => k0_hw178.2

def k0_chk179 (v4913 : IVec S16 32) (v5365 : IVec S16 32) : Prop :=
  (∀ a x, ((![v4913, v5365] : Fin 2 → IVec S16 32) a x).toNat < S16x64.size a) ∧
  (∀ a x, ((![v4913, v5365] : Fin 2 → IVec S16 32) a x).toNat < S16x64.size a)
theorem k0_idx101_inb : ∀ (v4913 : IVec S16 32) (v5365 : IVec S16 32) (k0_hw179 : k0_chk179 v4913 v5365), ∀ a x, ((![v4913, v5365] : Fin 2 → IVec S16 32) a x).toNat < S16x64.size a := fun v4913 v5365 k0_hw179 => k0_hw179.1
theorem k0_idx102_inb : ∀ (v4913 : IVec S16 32) (v5365 : IVec S16 32) (k0_hw179 : k0_chk179 v4913 v5365), ∀ a x, ((![v4913, v5365] : Fin 2 → IVec S16 32) a x).toNat < S16x64.size a := fun v4913 v5365 k0_hw179 => k0_hw179.2

def k0_chk180 (v4913 : IVec S16 32) (v5374 : IVec S16 32) : Prop :=
  (∀ a x, ((![v4913, v5374] : Fin 2 → IVec S16 32) a x).toNat < S16x64.size a) ∧
  (∀ a x, ((![v4913, v5374] : Fin 2 → IVec S16 32) a x).toNat < S16x64.size a)
theorem k0_idx103_inb : ∀ (v4913 : IVec S16 32) (v5374 : IVec S16 32) (k0_hw180 : k0_chk180 v4913 v5374), ∀ a x, ((![v4913, v5374] : Fin 2 → IVec S16 32) a x).toNat < S16x64.size a := fun v4913 v5374 k0_hw180 => k0_hw180.1
theorem k0_idx104_inb : ∀ (v4913 : IVec S16 32) (v5374 : IVec S16 32) (k0_hw180 : k0_chk180 v4913 v5374), ∀ a x, ((![v4913, v5374] : Fin 2 → IVec S16 32) a x).toNat < S16x64.size a := fun v4913 v5374 k0_hw180 => k0_hw180.2

def k0_chk181 (v4913 : IVec S16 32) (v5383 : IVec S16 32) : Prop :=
  (∀ a x, ((![v4913, v5383] : Fin 2 → IVec S16 32) a x).toNat < S16x64.size a) ∧
  (∀ a x, ((![v4913, v5383] : Fin 2 → IVec S16 32) a x).toNat < S16x64.size a)
theorem k0_idx105_inb : ∀ (v4913 : IVec S16 32) (v5383 : IVec S16 32) (k0_hw181 : k0_chk181 v4913 v5383), ∀ a x, ((![v4913, v5383] : Fin 2 → IVec S16 32) a x).toNat < S16x64.size a := fun v4913 v5383 k0_hw181 => k0_hw181.1
theorem k0_idx106_inb : ∀ (v4913 : IVec S16 32) (v5383 : IVec S16 32) (k0_hw181 : k0_chk181 v4913 v5383), ∀ a x, ((![v4913, v5383] : Fin 2 → IVec S16 32) a x).toNat < S16x64.size a := fun v4913 v5383 k0_hw181 => k0_hw181.2

def k0_chk182 (v4913 : IVec S16 32) (v5392 : IVec S16 32) : Prop :=
  (∀ a x, ((![v4913, v5392] : Fin 2 → IVec S16 32) a x).toNat < S16x64.size a) ∧
  (∀ a x, ((![v4913, v5392] : Fin 2 → IVec S16 32) a x).toNat < S16x64.size a)
theorem k0_idx107_inb : ∀ (v4913 : IVec S16 32) (v5392 : IVec S16 32) (k0_hw182 : k0_chk182 v4913 v5392), ∀ a x, ((![v4913, v5392] : Fin 2 → IVec S16 32) a x).toNat < S16x64.size a := fun v4913 v5392 k0_hw182 => k0_hw182.1
theorem k0_idx108_inb : ∀ (v4913 : IVec S16 32) (v5392 : IVec S16 32) (k0_hw182 : k0_chk182 v4913 v5392), ∀ a x, ((![v4913, v5392] : Fin 2 → IVec S16 32) a x).toNat < S16x64.size a := fun v4913 v5392 k0_hw182 => k0_hw182.2

def k0_chk183 (v4913 : IVec S16 32) (v5401 : IVec S16 32) : Prop :=
  (∀ a x, ((![v4913, v5401] : Fin 2 → IVec S16 32) a x).toNat < S16x64.size a) ∧
  (∀ a x, ((![v4913, v5401] : Fin 2 → IVec S16 32) a x).toNat < S16x64.size a)
theorem k0_idx109_inb : ∀ (v4913 : IVec S16 32) (v5401 : IVec S16 32) (k0_hw183 : k0_chk183 v4913 v5401), ∀ a x, ((![v4913, v5401] : Fin 2 → IVec S16 32) a x).toNat < S16x64.size a := fun v4913 v5401 k0_hw183 => k0_hw183.1
theorem k0_idx110_inb : ∀ (v4913 : IVec S16 32) (v5401 : IVec S16 32) (k0_hw183 : k0_chk183 v4913 v5401), ∀ a x, ((![v4913, v5401] : Fin 2 → IVec S16 32) a x).toNat < S16x64.size a := fun v4913 v5401 k0_hw183 => k0_hw183.2

def k0_chk184 (v4913 : IVec S16 32) (v5410 : IVec S16 32) : Prop :=
  (∀ a x, ((![v4913, v5410] : Fin 2 → IVec S16 32) a x).toNat < S16x64.size a) ∧
  (∀ a x, ((![v4913, v5410] : Fin 2 → IVec S16 32) a x).toNat < S16x64.size a)
theorem k0_idx111_inb : ∀ (v4913 : IVec S16 32) (v5410 : IVec S16 32) (k0_hw184 : k0_chk184 v4913 v5410), ∀ a x, ((![v4913, v5410] : Fin 2 → IVec S16 32) a x).toNat < S16x64.size a := fun v4913 v5410 k0_hw184 => k0_hw184.1
theorem k0_idx112_inb : ∀ (v4913 : IVec S16 32) (v5410 : IVec S16 32) (k0_hw184 : k0_chk184 v4913 v5410), ∀ a x, ((![v4913, v5410] : Fin 2 → IVec S16 32) a x).toNat < S16x64.size a := fun v4913 v5410 k0_hw184 => k0_hw184.2

def k0_chk185 (v4913 : IVec S16 32) (v5419 : IVec S16 32) : Prop :=
  (∀ a x, ((![v4913, v5419] : Fin 2 → IVec S16 32) a x).toNat < S16x64.size a) ∧
  (∀ a x, ((![v4913, v5419] : Fin 2 → IVec S16 32) a x).toNat < S16x64.size a)
theorem k0_idx113_inb : ∀ (v4913 : IVec S16 32) (v5419 : IVec S16 32) (k0_hw185 : k0_chk185 v4913 v5419), ∀ a x, ((![v4913, v5419] : Fin 2 → IVec S16 32) a x).toNat < S16x64.size a := fun v4913 v5419 k0_hw185 => k0_hw185.1
theorem k0_idx114_inb : ∀ (v4913 : IVec S16 32) (v5419 : IVec S16 32) (k0_hw185 : k0_chk185 v4913 v5419), ∀ a x, ((![v4913, v5419] : Fin 2 → IVec S16 32) a x).toNat < S16x64.size a := fun v4913 v5419 k0_hw185 => k0_hw185.2

def k0_chk186 (v4913 : IVec S16 32) (v5428 : IVec S16 32) : Prop :=
  (∀ a x, ((![v4913, v5428] : Fin 2 → IVec S16 32) a x).toNat < S16x64.size a) ∧
  (∀ a x, ((![v4913, v5428] : Fin 2 → IVec S16 32) a x).toNat < S16x64.size a)
theorem k0_idx115_inb : ∀ (v4913 : IVec S16 32) (v5428 : IVec S16 32) (k0_hw186 : k0_chk186 v4913 v5428), ∀ a x, ((![v4913, v5428] : Fin 2 → IVec S16 32) a x).toNat < S16x64.size a := fun v4913 v5428 k0_hw186 => k0_hw186.1
theorem k0_idx116_inb : ∀ (v4913 : IVec S16 32) (v5428 : IVec S16 32) (k0_hw186 : k0_chk186 v4913 v5428), ∀ a x, ((![v4913, v5428] : Fin 2 → IVec S16 32) a x).toNat < S16x64.size a := fun v4913 v5428 k0_hw186 => k0_hw186.2

def k0_chk187 (v4913 : IVec S16 32) (v5437 : IVec S16 32) : Prop :=
  (∀ a x, ((![v4913, v5437] : Fin 2 → IVec S16 32) a x).toNat < S16x64.size a) ∧
  (∀ a x, ((![v4913, v5437] : Fin 2 → IVec S16 32) a x).toNat < S16x64.size a)
theorem k0_idx117_inb : ∀ (v4913 : IVec S16 32) (v5437 : IVec S16 32) (k0_hw187 : k0_chk187 v4913 v5437), ∀ a x, ((![v4913, v5437] : Fin 2 → IVec S16 32) a x).toNat < S16x64.size a := fun v4913 v5437 k0_hw187 => k0_hw187.1
theorem k0_idx118_inb : ∀ (v4913 : IVec S16 32) (v5437 : IVec S16 32) (k0_hw187 : k0_chk187 v4913 v5437), ∀ a x, ((![v4913, v5437] : Fin 2 → IVec S16 32) a x).toNat < S16x64.size a := fun v4913 v5437 k0_hw187 => k0_hw187.2

def k0_chk188 (v4913 : IVec S16 32) (v5446 : IVec S16 32) : Prop :=
  (∀ a x, ((![v4913, v5446] : Fin 2 → IVec S16 32) a x).toNat < S16x64.size a) ∧
  (∀ a x, ((![v4913, v5446] : Fin 2 → IVec S16 32) a x).toNat < S16x64.size a)
theorem k0_idx119_inb : ∀ (v4913 : IVec S16 32) (v5446 : IVec S16 32) (k0_hw188 : k0_chk188 v4913 v5446), ∀ a x, ((![v4913, v5446] : Fin 2 → IVec S16 32) a x).toNat < S16x64.size a := fun v4913 v5446 k0_hw188 => k0_hw188.1
theorem k0_idx120_inb : ∀ (v4913 : IVec S16 32) (v5446 : IVec S16 32) (k0_hw188 : k0_chk188 v4913 v5446), ∀ a x, ((![v4913, v5446] : Fin 2 → IVec S16 32) a x).toNat < S16x64.size a := fun v4913 v5446 k0_hw188 => k0_hw188.2

def k0_chk189 (v4913 : IVec S16 32) (v5455 : IVec S16 32) : Prop :=
  (∀ a x, ((![v4913, v5455] : Fin 2 → IVec S16 32) a x).toNat < S16x64.size a) ∧
  (∀ a x, ((![v4913, v5455] : Fin 2 → IVec S16 32) a x).toNat < S16x64.size a)
theorem k0_idx121_inb : ∀ (v4913 : IVec S16 32) (v5455 : IVec S16 32) (k0_hw189 : k0_chk189 v4913 v5455), ∀ a x, ((![v4913, v5455] : Fin 2 → IVec S16 32) a x).toNat < S16x64.size a := fun v4913 v5455 k0_hw189 => k0_hw189.1
theorem k0_idx122_inb : ∀ (v4913 : IVec S16 32) (v5455 : IVec S16 32) (k0_hw189 : k0_chk189 v4913 v5455), ∀ a x, ((![v4913, v5455] : Fin 2 → IVec S16 32) a x).toNat < S16x64.size a := fun v4913 v5455 k0_hw189 => k0_hw189.2

def k0_chk190 (v4913 : IVec S16 32) (v5464 : IVec S16 32) : Prop :=
  (∀ a x, ((![v4913, v5464] : Fin 2 → IVec S16 32) a x).toNat < S16x64.size a) ∧
  (∀ a x, ((![v4913, v5464] : Fin 2 → IVec S16 32) a x).toNat < S16x64.size a)
theorem k0_idx123_inb : ∀ (v4913 : IVec S16 32) (v5464 : IVec S16 32) (k0_hw190 : k0_chk190 v4913 v5464), ∀ a x, ((![v4913, v5464] : Fin 2 → IVec S16 32) a x).toNat < S16x64.size a := fun v4913 v5464 k0_hw190 => k0_hw190.1
theorem k0_idx124_inb : ∀ (v4913 : IVec S16 32) (v5464 : IVec S16 32) (k0_hw190 : k0_chk190 v4913 v5464), ∀ a x, ((![v4913, v5464] : Fin 2 → IVec S16 32) a x).toNat < S16x64.size a := fun v4913 v5464 k0_hw190 => k0_hw190.2

def k0_chk191 (v4913 : IVec S16 32) (v5473 : IVec S16 32) : Prop :=
  (∀ a x, ((![v4913, v5473] : Fin 2 → IVec S16 32) a x).toNat < S16x64.size a) ∧
  (∀ a x, ((![v4913, v5473] : Fin 2 → IVec S16 32) a x).toNat < S16x64.size a)
theorem k0_idx125_inb : ∀ (v4913 : IVec S16 32) (v5473 : IVec S16 32) (k0_hw191 : k0_chk191 v4913 v5473), ∀ a x, ((![v4913, v5473] : Fin 2 → IVec S16 32) a x).toNat < S16x64.size a := fun v4913 v5473 k0_hw191 => k0_hw191.1
theorem k0_idx126_inb : ∀ (v4913 : IVec S16 32) (v5473 : IVec S16 32) (k0_hw191 : k0_chk191 v4913 v5473), ∀ a x, ((![v4913, v5473] : Fin 2 → IVec S16 32) a x).toNat < S16x64.size a := fun v4913 v5473 k0_hw191 => k0_hw191.2

def k0_chk192 (v4913 : IVec S16 32) (v5482 : IVec S16 32) : Prop :=
  (∀ a x, ((![v4913, v5482] : Fin 2 → IVec S16 32) a x).toNat < S16x64.size a) ∧
  (∀ a x, ((![v4913, v5482] : Fin 2 → IVec S16 32) a x).toNat < S16x64.size a)
theorem k0_idx127_inb : ∀ (v4913 : IVec S16 32) (v5482 : IVec S16 32) (k0_hw192 : k0_chk192 v4913 v5482), ∀ a x, ((![v4913, v5482] : Fin 2 → IVec S16 32) a x).toNat < S16x64.size a := fun v4913 v5482 k0_hw192 => k0_hw192.1
theorem k0_idx128_inb : ∀ (v4913 : IVec S16 32) (v5482 : IVec S16 32) (k0_hw192 : k0_chk192 v4913 v5482), ∀ a x, ((![v4913, v5482] : Fin 2 → IVec S16 32) a x).toNat < S16x64.size a := fun v4913 v5482 k0_hw192 => k0_hw192.2
def k0_off130 (k0_t1 : Fin k0_t1_loop.trips) : Fin 1 → Nat :=
  let c0_i32_3405 : BitVec 32 := 0#32
  let c0_i32_754 : BitVec 32 := 0#32
  let c1_i32_756 : BitVec 32 := 1#32
  let arg16 : BitVec 32 := Scf.iv c0_i32_754 c1_i32_756 k0_t1
  let c4_i32_3404 : BitVec 32 := 4#32
  let v4652 : BitVec 32 := Scalar.muli arg16 c4_i32_3404
  let v4653 : BitVec 32 := Scalar.addi c0_i32_3405 v4652
  let c0_i32_3630 : BitVec 32 := 0#32
  let v4910 : BitVec 32 := Scalar.addi v4653 c0_i32_3630
  let c16_i32_3631 : BitVec 32 := 16#32
  let v4911 : BitVec 32 := Scalar.muli v4910 c16_i32_3631
  let v4912 : BitVec 32 := v4911
  let v5491 : Index := Scalar.indexCast v4912
  ![v5491.toNat]
def k0_mult6 (k0_t1 : Fin k0_t1_loop.trips) : BitVec 32 :=
  let c0_i32_3405 : BitVec 32 := 0#32
  let c0_i32_754 : BitVec 32 := 0#32
  let c1_i32_756 : BitVec 32 := 1#32
  let arg16 : BitVec 32 := Scf.iv c0_i32_754 c1_i32_756 k0_t1
  let c4_i32_3404 : BitVec 32 := 4#32
  let v4652 : BitVec 32 := Scalar.muli arg16 c4_i32_3404
  let v4653 : BitVec 32 := Scalar.addi c0_i32_3405 v4652
  let c4_i32_4081 : BitVec 32 := 4#32
  let v5493 : BitVec 32 := Scalar.addi v4653 c4_i32_4081
  let c0_i32_4082 : BitVec 32 := 0#32
  let v5494 : BitVec 32 := Scalar.addi v5493 c0_i32_4082
  let c16_i32_4083 : BitVec 32 := 16#32
  let v5495 : BitVec 32 := Scalar.muli v5494 c16_i32_4083
  v5495
def k0_off131 (k0_t1 : Fin k0_t1_loop.trips) : Fin 1 → Nat :=
  let c0_i32_3405 : BitVec 32 := 0#32
  let c0_i32_754 : BitVec 32 := 0#32
  let c1_i32_756 : BitVec 32 := 1#32
  let arg16 : BitVec 32 := Scf.iv c0_i32_754 c1_i32_756 k0_t1
  let c4_i32_3404 : BitVec 32 := 4#32
  let v4652 : BitVec 32 := Scalar.muli arg16 c4_i32_3404
  let v4653 : BitVec 32 := Scalar.addi c0_i32_3405 v4652
  let c4_i32_4081 : BitVec 32 := 4#32
  let v5493 : BitVec 32 := Scalar.addi v4653 c4_i32_4081
  let c0_i32_4082 : BitVec 32 := 0#32
  let v5494 : BitVec 32 := Scalar.addi v5493 c0_i32_4082
  let c16_i32_4083 : BitVec 32 := 16#32
  let v5495 : BitVec 32 := Scalar.muli v5494 c16_i32_4083
  let v5496 : BitVec 32 := v5495
  let v5497 : Index := Scalar.indexCast v5496
  ![v5497.toNat]
def k0_off132 (v5502 : BitVec 32) : Fin 2 → Nat :=
  let c0_i32_4087 : BitVec 32 := 0#32
  ![v5502.toNat, 0]

def k0_chk193 (v5502 : BitVec 32) : Prop :=
  (∀ a, (k0_off132 v5502) a + S1x64.size a ≤ S1000000x64.size a)
theorem k0_off132_inb : ∀ (v5502 : BitVec 32) (k0_hw193 : k0_chk193 v5502), ∀ a, (k0_off132 v5502) a + S1x64.size a ≤ S1000000x64.size a := fun v5502 k0_hw193 => k0_hw193

def k0_off133 (v5512 : BitVec 32) : Fin 2 → Nat :=
  let c0_i32_4093 : BitVec 32 := 0#32
  ![v5512.toNat, 0]

def k0_chk194 (v5512 : BitVec 32) : Prop :=
  (∀ a, (k0_off133 v5512) a + S1x64.size a ≤ S100000x64.size a)
theorem k0_off133_inb : ∀ (v5512 : BitVec 32) (k0_hw194 : k0_chk194 v5512), ∀ a, (k0_off133 v5512) a + S1x64.size a ≤ S100000x64.size a := fun v5512 k0_hw194 => k0_hw194

def k0_off134 (v5522 : BitVec 32) : Fin 2 → Nat :=
  let c0_i32_4099 : BitVec 32 := 0#32
  ![v5522.toNat, 0]

def k0_chk195 (v5522 : BitVec 32) : Prop :=
  (∀ a, (k0_off134 v5522) a + S1x64.size a ≤ S1000000x64.size a)
theorem k0_off134_inb : ∀ (v5522 : BitVec 32) (k0_hw195 : k0_chk195 v5522), ∀ a, (k0_off134 v5522) a + S1x64.size a ≤ S1000000x64.size a := fun v5522 k0_hw195 => k0_hw195

def k0_off135 (v5532 : BitVec 32) : Fin 2 → Nat :=
  let c0_i32_4105 : BitVec 32 := 0#32
  ![v5532.toNat, 0]

def k0_chk196 (v5532 : BitVec 32) : Prop :=
  (∀ a, (k0_off135 v5532) a + S1x64.size a ≤ S100000x64.size a)
theorem k0_off135_inb : ∀ (v5532 : BitVec 32) (k0_hw196 : k0_chk196 v5532), ∀ a, (k0_off135 v5532) a + S1x64.size a ≤ S100000x64.size a := fun v5532 k0_hw196 => k0_hw196

def k0_off136 (v5542 : BitVec 32) : Fin 2 → Nat :=
  let c0_i32_4111 : BitVec 32 := 0#32
  ![v5542.toNat, 0]

def k0_chk197 (v5542 : BitVec 32) : Prop :=
  (∀ a, (k0_off136 v5542) a + S1x64.size a ≤ S1000000x64.size a)
theorem k0_off136_inb : ∀ (v5542 : BitVec 32) (k0_hw197 : k0_chk197 v5542), ∀ a, (k0_off136 v5542) a + S1x64.size a ≤ S1000000x64.size a := fun v5542 k0_hw197 => k0_hw197

def k0_off137 (v5552 : BitVec 32) : Fin 2 → Nat :=
  let c0_i32_4117 : BitVec 32 := 0#32
  ![v5552.toNat, 0]

def k0_chk198 (v5552 : BitVec 32) : Prop :=
  (∀ a, (k0_off137 v5552) a + S1x64.size a ≤ S100000x64.size a)
theorem k0_off137_inb : ∀ (v5552 : BitVec 32) (k0_hw198 : k0_chk198 v5552), ∀ a, (k0_off137 v5552) a + S1x64.size a ≤ S100000x64.size a := fun v5552 k0_hw198 => k0_hw198

def k0_off138 (v5562 : BitVec 32) : Fin 2 → Nat :=
  let c0_i32_4123 : BitVec 32 := 0#32
  ![v5562.toNat, 0]

def k0_chk199 (v5562 : BitVec 32) : Prop :=
  (∀ a, (k0_off138 v5562) a + S1x64.size a ≤ S1000000x64.size a)
theorem k0_off138_inb : ∀ (v5562 : BitVec 32) (k0_hw199 : k0_chk199 v5562), ∀ a, (k0_off138 v5562) a + S1x64.size a ≤ S1000000x64.size a := fun v5562 k0_hw199 => k0_hw199

def k0_off139 (v5572 : BitVec 32) : Fin 2 → Nat :=
  let c0_i32_4129 : BitVec 32 := 0#32
  ![v5572.toNat, 0]

def k0_chk200 (v5572 : BitVec 32) : Prop :=
  (∀ a, (k0_off139 v5572) a + S1x64.size a ≤ S100000x64.size a)
theorem k0_off139_inb : ∀ (v5572 : BitVec 32) (k0_hw200 : k0_chk200 v5572), ∀ a, (k0_off139 v5572) a + S1x64.size a ≤ S100000x64.size a := fun v5572 k0_hw200 => k0_hw200

def k0_off140 (v5582 : BitVec 32) : Fin 2 → Nat :=
  let c0_i32_4135 : BitVec 32 := 0#32
  ![v5582.toNat, 0]

def k0_chk201 (v5582 : BitVec 32) : Prop :=
  (∀ a, (k0_off140 v5582) a + S1x64.size a ≤ S1000000x64.size a)
theorem k0_off140_inb : ∀ (v5582 : BitVec 32) (k0_hw201 : k0_chk201 v5582), ∀ a, (k0_off140 v5582) a + S1x64.size a ≤ S1000000x64.size a := fun v5582 k0_hw201 => k0_hw201

def k0_off141 (v5592 : BitVec 32) : Fin 2 → Nat :=
  let c0_i32_4141 : BitVec 32 := 0#32
  ![v5592.toNat, 0]

def k0_chk202 (v5592 : BitVec 32) : Prop :=
  (∀ a, (k0_off141 v5592) a + S1x64.size a ≤ S100000x64.size a)
theorem k0_off141_inb : ∀ (v5592 : BitVec 32) (k0_hw202 : k0_chk202 v5592), ∀ a, (k0_off141 v5592) a + S1x64.size a ≤ S100000x64.size a := fun v5592 k0_hw202 => k0_hw202

def k0_off142 (v5602 : BitVec 32) : Fin 2 → Nat :=
  let c0_i32_4147 : BitVec 32 := 0#32
  ![v5602.toNat, 0]

def k0_chk203 (v5602 : BitVec 32) : Prop :=
  (∀ a, (k0_off142 v5602) a + S1x64.size a ≤ S1000000x64.size a)
theorem k0_off142_inb : ∀ (v5602 : BitVec 32) (k0_hw203 : k0_chk203 v5602), ∀ a, (k0_off142 v5602) a + S1x64.size a ≤ S1000000x64.size a := fun v5602 k0_hw203 => k0_hw203

def k0_off143 (v5612 : BitVec 32) : Fin 2 → Nat :=
  let c0_i32_4153 : BitVec 32 := 0#32
  ![v5612.toNat, 0]

def k0_chk204 (v5612 : BitVec 32) : Prop :=
  (∀ a, (k0_off143 v5612) a + S1x64.size a ≤ S100000x64.size a)
theorem k0_off143_inb : ∀ (v5612 : BitVec 32) (k0_hw204 : k0_chk204 v5612), ∀ a, (k0_off143 v5612) a + S1x64.size a ≤ S100000x64.size a := fun v5612 k0_hw204 => k0_hw204

def k0_off144 (v5622 : BitVec 32) : Fin 2 → Nat :=
  let c0_i32_4159 : BitVec 32 := 0#32
  ![v5622.toNat, 0]

def k0_chk205 (v5622 : BitVec 32) : Prop :=
  (∀ a, (k0_off144 v5622) a + S1x64.size a ≤ S1000000x64.size a)
theorem k0_off144_inb : ∀ (v5622 : BitVec 32) (k0_hw205 : k0_chk205 v5622), ∀ a, (k0_off144 v5622) a + S1x64.size a ≤ S1000000x64.size a := fun v5622 k0_hw205 => k0_hw205

def k0_off145 (v5632 : BitVec 32) : Fin 2 → Nat :=
  let c0_i32_4165 : BitVec 32 := 0#32
  ![v5632.toNat, 0]

def k0_chk206 (v5632 : BitVec 32) : Prop :=
  (∀ a, (k0_off145 v5632) a + S1x64.size a ≤ S100000x64.size a)
theorem k0_off145_inb : ∀ (v5632 : BitVec 32) (k0_hw206 : k0_chk206 v5632), ∀ a, (k0_off145 v5632) a + S1x64.size a ≤ S100000x64.size a := fun v5632 k0_hw206 => k0_hw206

def k0_off146 (v5642 : BitVec 32) : Fin 2 → Nat :=
  let c0_i32_4171 : BitVec 32 := 0#32
  ![v5642.toNat, 0]

def k0_chk207 (v5642 : BitVec 32) : Prop :=
  (∀ a, (k0_off146 v5642) a + S1x64.size a ≤ S1000000x64.size a)
theorem k0_off146_inb : ∀ (v5642 : BitVec 32) (k0_hw207 : k0_chk207 v5642), ∀ a, (k0_off146 v5642) a + S1x64.size a ≤ S1000000x64.size a := fun v5642 k0_hw207 => k0_hw207

def k0_off147 (v5652 : BitVec 32) : Fin 2 → Nat :=
  let c0_i32_4177 : BitVec 32 := 0#32
  ![v5652.toNat, 0]

def k0_chk208 (v5652 : BitVec 32) : Prop :=
  (∀ a, (k0_off147 v5652) a + S1x64.size a ≤ S100000x64.size a)
theorem k0_off147_inb : ∀ (v5652 : BitVec 32) (k0_hw208 : k0_chk208 v5652), ∀ a, (k0_off147 v5652) a + S1x64.size a ≤ S100000x64.size a := fun v5652 k0_hw208 => k0_hw208

def k0_off148 (v5662 : BitVec 32) : Fin 2 → Nat :=
  let c0_i32_4183 : BitVec 32 := 0#32
  ![v5662.toNat, 0]

def k0_chk209 (v5662 : BitVec 32) : Prop :=
  (∀ a, (k0_off148 v5662) a + S1x64.size a ≤ S1000000x64.size a)
theorem k0_off148_inb : ∀ (v5662 : BitVec 32) (k0_hw209 : k0_chk209 v5662), ∀ a, (k0_off148 v5662) a + S1x64.size a ≤ S1000000x64.size a := fun v5662 k0_hw209 => k0_hw209

def k0_off149 (v5672 : BitVec 32) : Fin 2 → Nat :=
  let c0_i32_4189 : BitVec 32 := 0#32
  ![v5672.toNat, 0]

def k0_chk210 (v5672 : BitVec 32) : Prop :=
  (∀ a, (k0_off149 v5672) a + S1x64.size a ≤ S100000x64.size a)
theorem k0_off149_inb : ∀ (v5672 : BitVec 32) (k0_hw210 : k0_chk210 v5672), ∀ a, (k0_off149 v5672) a + S1x64.size a ≤ S100000x64.size a := fun v5672 k0_hw210 => k0_hw210

def k0_off150 (v5682 : BitVec 32) : Fin 2 → Nat :=
  let c0_i32_4195 : BitVec 32 := 0#32
  ![v5682.toNat, 0]

def k0_chk211 (v5682 : BitVec 32) : Prop :=
  (∀ a, (k0_off150 v5682) a + S1x64.size a ≤ S1000000x64.size a)
theorem k0_off150_inb : ∀ (v5682 : BitVec 32) (k0_hw211 : k0_chk211 v5682), ∀ a, (k0_off150 v5682) a + S1x64.size a ≤ S1000000x64.size a := fun v5682 k0_hw211 => k0_hw211

def k0_off151 (v5692 : BitVec 32) : Fin 2 → Nat :=
  let c0_i32_4201 : BitVec 32 := 0#32
  ![v5692.toNat, 0]

def k0_chk212 (v5692 : BitVec 32) : Prop :=
  (∀ a, (k0_off151 v5692) a + S1x64.size a ≤ S100000x64.size a)
theorem k0_off151_inb : ∀ (v5692 : BitVec 32) (k0_hw212 : k0_chk212 v5692), ∀ a, (k0_off151 v5692) a + S1x64.size a ≤ S100000x64.size a := fun v5692 k0_hw212 => k0_hw212

def k0_off152 (v5702 : BitVec 32) : Fin 2 → Nat :=
  let c0_i32_4207 : BitVec 32 := 0#32
  ![v5702.toNat, 0]

def k0_chk213 (v5702 : BitVec 32) : Prop :=
  (∀ a, (k0_off152 v5702) a + S1x64.size a ≤ S1000000x64.size a)
theorem k0_off152_inb : ∀ (v5702 : BitVec 32) (k0_hw213 : k0_chk213 v5702), ∀ a, (k0_off152 v5702) a + S1x64.size a ≤ S1000000x64.size a := fun v5702 k0_hw213 => k0_hw213

def k0_off153 (v5712 : BitVec 32) : Fin 2 → Nat :=
  let c0_i32_4213 : BitVec 32 := 0#32
  ![v5712.toNat, 0]

def k0_chk214 (v5712 : BitVec 32) : Prop :=
  (∀ a, (k0_off153 v5712) a + S1x64.size a ≤ S100000x64.size a)
theorem k0_off153_inb : ∀ (v5712 : BitVec 32) (k0_hw214 : k0_chk214 v5712), ∀ a, (k0_off153 v5712) a + S1x64.size a ≤ S100000x64.size a := fun v5712 k0_hw214 => k0_hw214

def k0_off154 (v5722 : BitVec 32) : Fin 2 → Nat :=
  let c0_i32_4219 : BitVec 32 := 0#32
  ![v5722.toNat, 0]

def k0_chk215 (v5722 : BitVec 32) : Prop :=
  (∀ a, (k0_off154 v5722) a + S1x64.size a ≤ S1000000x64.size a)
theorem k0_off154_inb : ∀ (v5722 : BitVec 32) (k0_hw215 : k0_chk215 v5722), ∀ a, (k0_off154 v5722) a + S1x64.size a ≤ S1000000x64.size a := fun v5722 k0_hw215 => k0_hw215

def k0_off155 (v5732 : BitVec 32) : Fin 2 → Nat :=
  let c0_i32_4225 : BitVec 32 := 0#32
  ![v5732.toNat, 0]

def k0_chk216 (v5732 : BitVec 32) : Prop :=
  (∀ a, (k0_off155 v5732) a + S1x64.size a ≤ S100000x64.size a)
theorem k0_off155_inb : ∀ (v5732 : BitVec 32) (k0_hw216 : k0_chk216 v5732), ∀ a, (k0_off155 v5732) a + S1x64.size a ≤ S100000x64.size a := fun v5732 k0_hw216 => k0_hw216

def k0_off156 (v5742 : BitVec 32) : Fin 2 → Nat :=
  let c0_i32_4231 : BitVec 32 := 0#32
  ![v5742.toNat, 0]

def k0_chk217 (v5742 : BitVec 32) : Prop :=
  (∀ a, (k0_off156 v5742) a + S1x64.size a ≤ S1000000x64.size a)
theorem k0_off156_inb : ∀ (v5742 : BitVec 32) (k0_hw217 : k0_chk217 v5742), ∀ a, (k0_off156 v5742) a + S1x64.size a ≤ S1000000x64.size a := fun v5742 k0_hw217 => k0_hw217

def k0_off157 (v5752 : BitVec 32) : Fin 2 → Nat :=
  let c0_i32_4237 : BitVec 32 := 0#32
  ![v5752.toNat, 0]

def k0_chk218 (v5752 : BitVec 32) : Prop :=
  (∀ a, (k0_off157 v5752) a + S1x64.size a ≤ S100000x64.size a)
theorem k0_off157_inb : ∀ (v5752 : BitVec 32) (k0_hw218 : k0_chk218 v5752), ∀ a, (k0_off157 v5752) a + S1x64.size a ≤ S100000x64.size a := fun v5752 k0_hw218 => k0_hw218

def k0_off158 (v5762 : BitVec 32) : Fin 2 → Nat :=
  let c0_i32_4243 : BitVec 32 := 0#32
  ![v5762.toNat, 0]

def k0_chk219 (v5762 : BitVec 32) : Prop :=
  (∀ a, (k0_off158 v5762) a + S1x64.size a ≤ S1000000x64.size a)
theorem k0_off158_inb : ∀ (v5762 : BitVec 32) (k0_hw219 : k0_chk219 v5762), ∀ a, (k0_off158 v5762) a + S1x64.size a ≤ S1000000x64.size a := fun v5762 k0_hw219 => k0_hw219

def k0_off159 (v5772 : BitVec 32) : Fin 2 → Nat :=
  let c0_i32_4249 : BitVec 32 := 0#32
  ![v5772.toNat, 0]

def k0_chk220 (v5772 : BitVec 32) : Prop :=
  (∀ a, (k0_off159 v5772) a + S1x64.size a ≤ S100000x64.size a)
theorem k0_off159_inb : ∀ (v5772 : BitVec 32) (k0_hw220 : k0_chk220 v5772), ∀ a, (k0_off159 v5772) a + S1x64.size a ≤ S100000x64.size a := fun v5772 k0_hw220 => k0_hw220

def k0_off160 (v5782 : BitVec 32) : Fin 2 → Nat :=
  let c0_i32_4255 : BitVec 32 := 0#32
  ![v5782.toNat, 0]

def k0_chk221 (v5782 : BitVec 32) : Prop :=
  (∀ a, (k0_off160 v5782) a + S1x64.size a ≤ S1000000x64.size a)
theorem k0_off160_inb : ∀ (v5782 : BitVec 32) (k0_hw221 : k0_chk221 v5782), ∀ a, (k0_off160 v5782) a + S1x64.size a ≤ S1000000x64.size a := fun v5782 k0_hw221 => k0_hw221

def k0_off161 (v5792 : BitVec 32) : Fin 2 → Nat :=
  let c0_i32_4261 : BitVec 32 := 0#32
  ![v5792.toNat, 0]

def k0_chk222 (v5792 : BitVec 32) : Prop :=
  (∀ a, (k0_off161 v5792) a + S1x64.size a ≤ S100000x64.size a)
theorem k0_off161_inb : ∀ (v5792 : BitVec 32) (k0_hw222 : k0_chk222 v5792), ∀ a, (k0_off161 v5792) a + S1x64.size a ≤ S100000x64.size a := fun v5792 k0_hw222 => k0_hw222

def k0_off162 (v5802 : BitVec 32) : Fin 2 → Nat :=
  let c0_i32_4267 : BitVec 32 := 0#32
  ![v5802.toNat, 0]

def k0_chk223 (v5802 : BitVec 32) : Prop :=
  (∀ a, (k0_off162 v5802) a + S1x64.size a ≤ S1000000x64.size a)
theorem k0_off162_inb : ∀ (v5802 : BitVec 32) (k0_hw223 : k0_chk223 v5802), ∀ a, (k0_off162 v5802) a + S1x64.size a ≤ S1000000x64.size a := fun v5802 k0_hw223 => k0_hw223

def k0_off163 (v5812 : BitVec 32) : Fin 2 → Nat :=
  let c0_i32_4273 : BitVec 32 := 0#32
  ![v5812.toNat, 0]

def k0_chk224 (v5812 : BitVec 32) : Prop :=
  (∀ a, (k0_off163 v5812) a + S1x64.size a ≤ S100000x64.size a)
theorem k0_off163_inb : ∀ (v5812 : BitVec 32) (k0_hw224 : k0_chk224 v5812), ∀ a, (k0_off163 v5812) a + S1x64.size a ≤ S100000x64.size a := fun v5812 k0_hw224 => k0_hw224

def k0_mult7 (k0_t1 : Fin k0_t1_loop.trips) : BitVec 32 :=
  let c0_i32_3405 : BitVec 32 := 0#32
  let c0_i32_754 : BitVec 32 := 0#32
  let c1_i32_756 : BitVec 32 := 1#32
  let arg16 : BitVec 32 := Scf.iv c0_i32_754 c1_i32_756 k0_t1
  let c4_i32_3404 : BitVec 32 := 4#32
  let v4652 : BitVec 32 := Scalar.muli arg16 c4_i32_3404
  let v4653 : BitVec 32 := Scalar.addi c0_i32_3405 v4652
  let c1_i32_4500 : BitVec 32 := 1#32
  let v6077 : BitVec 32 := Scalar.addi v4653 c1_i32_4500
  let c16_i32_4501 : BitVec 32 := 16#32
  let v6078 : BitVec 32 := Scalar.muli v6077 c16_i32_4501
  v6078

def k0_chk225 (v6080 : IVec S16 32) (v6082 : IVec S16 32) : Prop :=
  (∀ a x, ((![v6080, v6082] : Fin 2 → IVec S16 32) a x).toNat < S16x64.size a) ∧
  (∀ a x, ((![v6080, v6082] : Fin 2 → IVec S16 32) a x).toNat < S16x64.size a)
theorem k0_idx129_inb : ∀ (v6080 : IVec S16 32) (v6082 : IVec S16 32) (k0_hw225 : k0_chk225 v6080 v6082), ∀ a x, ((![v6080, v6082] : Fin 2 → IVec S16 32) a x).toNat < S16x64.size a := fun v6080 v6082 k0_hw225 => k0_hw225.1
theorem k0_idx130_inb : ∀ (v6080 : IVec S16 32) (v6082 : IVec S16 32) (k0_hw225 : k0_chk225 v6080 v6082), ∀ a x, ((![v6080, v6082] : Fin 2 → IVec S16 32) a x).toNat < S16x64.size a := fun v6080 v6082 k0_hw225 => k0_hw225.2

def k0_chk226 (v6080 : IVec S16 32) (v6091 : IVec S16 32) : Prop :=
  (∀ a x, ((![v6080, v6091] : Fin 2 → IVec S16 32) a x).toNat < S16x64.size a) ∧
  (∀ a x, ((![v6080, v6091] : Fin 2 → IVec S16 32) a x).toNat < S16x64.size a)
theorem k0_idx131_inb : ∀ (v6080 : IVec S16 32) (v6091 : IVec S16 32) (k0_hw226 : k0_chk226 v6080 v6091), ∀ a x, ((![v6080, v6091] : Fin 2 → IVec S16 32) a x).toNat < S16x64.size a := fun v6080 v6091 k0_hw226 => k0_hw226.1
theorem k0_idx132_inb : ∀ (v6080 : IVec S16 32) (v6091 : IVec S16 32) (k0_hw226 : k0_chk226 v6080 v6091), ∀ a x, ((![v6080, v6091] : Fin 2 → IVec S16 32) a x).toNat < S16x64.size a := fun v6080 v6091 k0_hw226 => k0_hw226.2

def k0_chk227 (v6080 : IVec S16 32) (v6100 : IVec S16 32) : Prop :=
  (∀ a x, ((![v6080, v6100] : Fin 2 → IVec S16 32) a x).toNat < S16x64.size a) ∧
  (∀ a x, ((![v6080, v6100] : Fin 2 → IVec S16 32) a x).toNat < S16x64.size a)
theorem k0_idx133_inb : ∀ (v6080 : IVec S16 32) (v6100 : IVec S16 32) (k0_hw227 : k0_chk227 v6080 v6100), ∀ a x, ((![v6080, v6100] : Fin 2 → IVec S16 32) a x).toNat < S16x64.size a := fun v6080 v6100 k0_hw227 => k0_hw227.1
theorem k0_idx134_inb : ∀ (v6080 : IVec S16 32) (v6100 : IVec S16 32) (k0_hw227 : k0_chk227 v6080 v6100), ∀ a x, ((![v6080, v6100] : Fin 2 → IVec S16 32) a x).toNat < S16x64.size a := fun v6080 v6100 k0_hw227 => k0_hw227.2

def k0_chk228 (v6080 : IVec S16 32) (v6109 : IVec S16 32) : Prop :=
  (∀ a x, ((![v6080, v6109] : Fin 2 → IVec S16 32) a x).toNat < S16x64.size a) ∧
  (∀ a x, ((![v6080, v6109] : Fin 2 → IVec S16 32) a x).toNat < S16x64.size a)
theorem k0_idx135_inb : ∀ (v6080 : IVec S16 32) (v6109 : IVec S16 32) (k0_hw228 : k0_chk228 v6080 v6109), ∀ a x, ((![v6080, v6109] : Fin 2 → IVec S16 32) a x).toNat < S16x64.size a := fun v6080 v6109 k0_hw228 => k0_hw228.1
theorem k0_idx136_inb : ∀ (v6080 : IVec S16 32) (v6109 : IVec S16 32) (k0_hw228 : k0_chk228 v6080 v6109), ∀ a x, ((![v6080, v6109] : Fin 2 → IVec S16 32) a x).toNat < S16x64.size a := fun v6080 v6109 k0_hw228 => k0_hw228.2

def k0_chk229 (v6080 : IVec S16 32) (v6118 : IVec S16 32) : Prop :=
  (∀ a x, ((![v6080, v6118] : Fin 2 → IVec S16 32) a x).toNat < S16x64.size a) ∧
  (∀ a x, ((![v6080, v6118] : Fin 2 → IVec S16 32) a x).toNat < S16x64.size a)
theorem k0_idx137_inb : ∀ (v6080 : IVec S16 32) (v6118 : IVec S16 32) (k0_hw229 : k0_chk229 v6080 v6118), ∀ a x, ((![v6080, v6118] : Fin 2 → IVec S16 32) a x).toNat < S16x64.size a := fun v6080 v6118 k0_hw229 => k0_hw229.1
theorem k0_idx138_inb : ∀ (v6080 : IVec S16 32) (v6118 : IVec S16 32) (k0_hw229 : k0_chk229 v6080 v6118), ∀ a x, ((![v6080, v6118] : Fin 2 → IVec S16 32) a x).toNat < S16x64.size a := fun v6080 v6118 k0_hw229 => k0_hw229.2

def k0_chk230 (v6080 : IVec S16 32) (v6127 : IVec S16 32) : Prop :=
  (∀ a x, ((![v6080, v6127] : Fin 2 → IVec S16 32) a x).toNat < S16x64.size a) ∧
  (∀ a x, ((![v6080, v6127] : Fin 2 → IVec S16 32) a x).toNat < S16x64.size a)
theorem k0_idx139_inb : ∀ (v6080 : IVec S16 32) (v6127 : IVec S16 32) (k0_hw230 : k0_chk230 v6080 v6127), ∀ a x, ((![v6080, v6127] : Fin 2 → IVec S16 32) a x).toNat < S16x64.size a := fun v6080 v6127 k0_hw230 => k0_hw230.1
theorem k0_idx140_inb : ∀ (v6080 : IVec S16 32) (v6127 : IVec S16 32) (k0_hw230 : k0_chk230 v6080 v6127), ∀ a x, ((![v6080, v6127] : Fin 2 → IVec S16 32) a x).toNat < S16x64.size a := fun v6080 v6127 k0_hw230 => k0_hw230.2

def k0_chk231 (v6080 : IVec S16 32) (v6136 : IVec S16 32) : Prop :=
  (∀ a x, ((![v6080, v6136] : Fin 2 → IVec S16 32) a x).toNat < S16x64.size a) ∧
  (∀ a x, ((![v6080, v6136] : Fin 2 → IVec S16 32) a x).toNat < S16x64.size a)
theorem k0_idx141_inb : ∀ (v6080 : IVec S16 32) (v6136 : IVec S16 32) (k0_hw231 : k0_chk231 v6080 v6136), ∀ a x, ((![v6080, v6136] : Fin 2 → IVec S16 32) a x).toNat < S16x64.size a := fun v6080 v6136 k0_hw231 => k0_hw231.1
theorem k0_idx142_inb : ∀ (v6080 : IVec S16 32) (v6136 : IVec S16 32) (k0_hw231 : k0_chk231 v6080 v6136), ∀ a x, ((![v6080, v6136] : Fin 2 → IVec S16 32) a x).toNat < S16x64.size a := fun v6080 v6136 k0_hw231 => k0_hw231.2

def k0_chk232 (v6080 : IVec S16 32) (v6145 : IVec S16 32) : Prop :=
  (∀ a x, ((![v6080, v6145] : Fin 2 → IVec S16 32) a x).toNat < S16x64.size a) ∧
  (∀ a x, ((![v6080, v6145] : Fin 2 → IVec S16 32) a x).toNat < S16x64.size a)
theorem k0_idx143_inb : ∀ (v6080 : IVec S16 32) (v6145 : IVec S16 32) (k0_hw232 : k0_chk232 v6080 v6145), ∀ a x, ((![v6080, v6145] : Fin 2 → IVec S16 32) a x).toNat < S16x64.size a := fun v6080 v6145 k0_hw232 => k0_hw232.1
theorem k0_idx144_inb : ∀ (v6080 : IVec S16 32) (v6145 : IVec S16 32) (k0_hw232 : k0_chk232 v6080 v6145), ∀ a x, ((![v6080, v6145] : Fin 2 → IVec S16 32) a x).toNat < S16x64.size a := fun v6080 v6145 k0_hw232 => k0_hw232.2

def k0_chk233 (v6080 : IVec S16 32) (v6154 : IVec S16 32) : Prop :=
  (∀ a x, ((![v6080, v6154] : Fin 2 → IVec S16 32) a x).toNat < S16x64.size a) ∧
  (∀ a x, ((![v6080, v6154] : Fin 2 → IVec S16 32) a x).toNat < S16x64.size a)
theorem k0_idx145_inb : ∀ (v6080 : IVec S16 32) (v6154 : IVec S16 32) (k0_hw233 : k0_chk233 v6080 v6154), ∀ a x, ((![v6080, v6154] : Fin 2 → IVec S16 32) a x).toNat < S16x64.size a := fun v6080 v6154 k0_hw233 => k0_hw233.1
theorem k0_idx146_inb : ∀ (v6080 : IVec S16 32) (v6154 : IVec S16 32) (k0_hw233 : k0_chk233 v6080 v6154), ∀ a x, ((![v6080, v6154] : Fin 2 → IVec S16 32) a x).toNat < S16x64.size a := fun v6080 v6154 k0_hw233 => k0_hw233.2

def k0_chk234 (v6080 : IVec S16 32) (v6163 : IVec S16 32) : Prop :=
  (∀ a x, ((![v6080, v6163] : Fin 2 → IVec S16 32) a x).toNat < S16x64.size a) ∧
  (∀ a x, ((![v6080, v6163] : Fin 2 → IVec S16 32) a x).toNat < S16x64.size a)
theorem k0_idx147_inb : ∀ (v6080 : IVec S16 32) (v6163 : IVec S16 32) (k0_hw234 : k0_chk234 v6080 v6163), ∀ a x, ((![v6080, v6163] : Fin 2 → IVec S16 32) a x).toNat < S16x64.size a := fun v6080 v6163 k0_hw234 => k0_hw234.1
theorem k0_idx148_inb : ∀ (v6080 : IVec S16 32) (v6163 : IVec S16 32) (k0_hw234 : k0_chk234 v6080 v6163), ∀ a x, ((![v6080, v6163] : Fin 2 → IVec S16 32) a x).toNat < S16x64.size a := fun v6080 v6163 k0_hw234 => k0_hw234.2

def k0_chk235 (v6080 : IVec S16 32) (v6172 : IVec S16 32) : Prop :=
  (∀ a x, ((![v6080, v6172] : Fin 2 → IVec S16 32) a x).toNat < S16x64.size a) ∧
  (∀ a x, ((![v6080, v6172] : Fin 2 → IVec S16 32) a x).toNat < S16x64.size a)
theorem k0_idx149_inb : ∀ (v6080 : IVec S16 32) (v6172 : IVec S16 32) (k0_hw235 : k0_chk235 v6080 v6172), ∀ a x, ((![v6080, v6172] : Fin 2 → IVec S16 32) a x).toNat < S16x64.size a := fun v6080 v6172 k0_hw235 => k0_hw235.1
theorem k0_idx150_inb : ∀ (v6080 : IVec S16 32) (v6172 : IVec S16 32) (k0_hw235 : k0_chk235 v6080 v6172), ∀ a x, ((![v6080, v6172] : Fin 2 → IVec S16 32) a x).toNat < S16x64.size a := fun v6080 v6172 k0_hw235 => k0_hw235.2

def k0_chk236 (v6080 : IVec S16 32) (v6181 : IVec S16 32) : Prop :=
  (∀ a x, ((![v6080, v6181] : Fin 2 → IVec S16 32) a x).toNat < S16x64.size a) ∧
  (∀ a x, ((![v6080, v6181] : Fin 2 → IVec S16 32) a x).toNat < S16x64.size a)
theorem k0_idx151_inb : ∀ (v6080 : IVec S16 32) (v6181 : IVec S16 32) (k0_hw236 : k0_chk236 v6080 v6181), ∀ a x, ((![v6080, v6181] : Fin 2 → IVec S16 32) a x).toNat < S16x64.size a := fun v6080 v6181 k0_hw236 => k0_hw236.1
theorem k0_idx152_inb : ∀ (v6080 : IVec S16 32) (v6181 : IVec S16 32) (k0_hw236 : k0_chk236 v6080 v6181), ∀ a x, ((![v6080, v6181] : Fin 2 → IVec S16 32) a x).toNat < S16x64.size a := fun v6080 v6181 k0_hw236 => k0_hw236.2

def k0_chk237 (v6080 : IVec S16 32) (v6190 : IVec S16 32) : Prop :=
  (∀ a x, ((![v6080, v6190] : Fin 2 → IVec S16 32) a x).toNat < S16x64.size a) ∧
  (∀ a x, ((![v6080, v6190] : Fin 2 → IVec S16 32) a x).toNat < S16x64.size a)
theorem k0_idx153_inb : ∀ (v6080 : IVec S16 32) (v6190 : IVec S16 32) (k0_hw237 : k0_chk237 v6080 v6190), ∀ a x, ((![v6080, v6190] : Fin 2 → IVec S16 32) a x).toNat < S16x64.size a := fun v6080 v6190 k0_hw237 => k0_hw237.1
theorem k0_idx154_inb : ∀ (v6080 : IVec S16 32) (v6190 : IVec S16 32) (k0_hw237 : k0_chk237 v6080 v6190), ∀ a x, ((![v6080, v6190] : Fin 2 → IVec S16 32) a x).toNat < S16x64.size a := fun v6080 v6190 k0_hw237 => k0_hw237.2

def k0_chk238 (v6080 : IVec S16 32) (v6199 : IVec S16 32) : Prop :=
  (∀ a x, ((![v6080, v6199] : Fin 2 → IVec S16 32) a x).toNat < S16x64.size a) ∧
  (∀ a x, ((![v6080, v6199] : Fin 2 → IVec S16 32) a x).toNat < S16x64.size a)
theorem k0_idx155_inb : ∀ (v6080 : IVec S16 32) (v6199 : IVec S16 32) (k0_hw238 : k0_chk238 v6080 v6199), ∀ a x, ((![v6080, v6199] : Fin 2 → IVec S16 32) a x).toNat < S16x64.size a := fun v6080 v6199 k0_hw238 => k0_hw238.1
theorem k0_idx156_inb : ∀ (v6080 : IVec S16 32) (v6199 : IVec S16 32) (k0_hw238 : k0_chk238 v6080 v6199), ∀ a x, ((![v6080, v6199] : Fin 2 → IVec S16 32) a x).toNat < S16x64.size a := fun v6080 v6199 k0_hw238 => k0_hw238.2

def k0_chk239 (v6080 : IVec S16 32) (v6208 : IVec S16 32) : Prop :=
  (∀ a x, ((![v6080, v6208] : Fin 2 → IVec S16 32) a x).toNat < S16x64.size a) ∧
  (∀ a x, ((![v6080, v6208] : Fin 2 → IVec S16 32) a x).toNat < S16x64.size a)
theorem k0_idx157_inb : ∀ (v6080 : IVec S16 32) (v6208 : IVec S16 32) (k0_hw239 : k0_chk239 v6080 v6208), ∀ a x, ((![v6080, v6208] : Fin 2 → IVec S16 32) a x).toNat < S16x64.size a := fun v6080 v6208 k0_hw239 => k0_hw239.1
theorem k0_idx158_inb : ∀ (v6080 : IVec S16 32) (v6208 : IVec S16 32) (k0_hw239 : k0_chk239 v6080 v6208), ∀ a x, ((![v6080, v6208] : Fin 2 → IVec S16 32) a x).toNat < S16x64.size a := fun v6080 v6208 k0_hw239 => k0_hw239.2

def k0_chk240 (v6080 : IVec S16 32) (v6217 : IVec S16 32) : Prop :=
  (∀ a x, ((![v6080, v6217] : Fin 2 → IVec S16 32) a x).toNat < S16x64.size a) ∧
  (∀ a x, ((![v6080, v6217] : Fin 2 → IVec S16 32) a x).toNat < S16x64.size a)
theorem k0_idx159_inb : ∀ (v6080 : IVec S16 32) (v6217 : IVec S16 32) (k0_hw240 : k0_chk240 v6080 v6217), ∀ a x, ((![v6080, v6217] : Fin 2 → IVec S16 32) a x).toNat < S16x64.size a := fun v6080 v6217 k0_hw240 => k0_hw240.1
theorem k0_idx160_inb : ∀ (v6080 : IVec S16 32) (v6217 : IVec S16 32) (k0_hw240 : k0_chk240 v6080 v6217), ∀ a x, ((![v6080, v6217] : Fin 2 → IVec S16 32) a x).toNat < S16x64.size a := fun v6080 v6217 k0_hw240 => k0_hw240.2

def k0_chk241 (v6080 : IVec S16 32) (v6226 : IVec S16 32) : Prop :=
  (∀ a x, ((![v6080, v6226] : Fin 2 → IVec S16 32) a x).toNat < S16x64.size a) ∧
  (∀ a x, ((![v6080, v6226] : Fin 2 → IVec S16 32) a x).toNat < S16x64.size a)
theorem k0_idx161_inb : ∀ (v6080 : IVec S16 32) (v6226 : IVec S16 32) (k0_hw241 : k0_chk241 v6080 v6226), ∀ a x, ((![v6080, v6226] : Fin 2 → IVec S16 32) a x).toNat < S16x64.size a := fun v6080 v6226 k0_hw241 => k0_hw241.1
theorem k0_idx162_inb : ∀ (v6080 : IVec S16 32) (v6226 : IVec S16 32) (k0_hw241 : k0_chk241 v6080 v6226), ∀ a x, ((![v6080, v6226] : Fin 2 → IVec S16 32) a x).toNat < S16x64.size a := fun v6080 v6226 k0_hw241 => k0_hw241.2

def k0_chk242 (v6080 : IVec S16 32) (v6235 : IVec S16 32) : Prop :=
  (∀ a x, ((![v6080, v6235] : Fin 2 → IVec S16 32) a x).toNat < S16x64.size a) ∧
  (∀ a x, ((![v6080, v6235] : Fin 2 → IVec S16 32) a x).toNat < S16x64.size a)
theorem k0_idx163_inb : ∀ (v6080 : IVec S16 32) (v6235 : IVec S16 32) (k0_hw242 : k0_chk242 v6080 v6235), ∀ a x, ((![v6080, v6235] : Fin 2 → IVec S16 32) a x).toNat < S16x64.size a := fun v6080 v6235 k0_hw242 => k0_hw242.1
theorem k0_idx164_inb : ∀ (v6080 : IVec S16 32) (v6235 : IVec S16 32) (k0_hw242 : k0_chk242 v6080 v6235), ∀ a x, ((![v6080, v6235] : Fin 2 → IVec S16 32) a x).toNat < S16x64.size a := fun v6080 v6235 k0_hw242 => k0_hw242.2

def k0_chk243 (v6080 : IVec S16 32) (v6244 : IVec S16 32) : Prop :=
  (∀ a x, ((![v6080, v6244] : Fin 2 → IVec S16 32) a x).toNat < S16x64.size a) ∧
  (∀ a x, ((![v6080, v6244] : Fin 2 → IVec S16 32) a x).toNat < S16x64.size a)
theorem k0_idx165_inb : ∀ (v6080 : IVec S16 32) (v6244 : IVec S16 32) (k0_hw243 : k0_chk243 v6080 v6244), ∀ a x, ((![v6080, v6244] : Fin 2 → IVec S16 32) a x).toNat < S16x64.size a := fun v6080 v6244 k0_hw243 => k0_hw243.1
theorem k0_idx166_inb : ∀ (v6080 : IVec S16 32) (v6244 : IVec S16 32) (k0_hw243 : k0_chk243 v6080 v6244), ∀ a x, ((![v6080, v6244] : Fin 2 → IVec S16 32) a x).toNat < S16x64.size a := fun v6080 v6244 k0_hw243 => k0_hw243.2

def k0_chk244 (v6080 : IVec S16 32) (v6253 : IVec S16 32) : Prop :=
  (∀ a x, ((![v6080, v6253] : Fin 2 → IVec S16 32) a x).toNat < S16x64.size a) ∧
  (∀ a x, ((![v6080, v6253] : Fin 2 → IVec S16 32) a x).toNat < S16x64.size a)
theorem k0_idx167_inb : ∀ (v6080 : IVec S16 32) (v6253 : IVec S16 32) (k0_hw244 : k0_chk244 v6080 v6253), ∀ a x, ((![v6080, v6253] : Fin 2 → IVec S16 32) a x).toNat < S16x64.size a := fun v6080 v6253 k0_hw244 => k0_hw244.1
theorem k0_idx168_inb : ∀ (v6080 : IVec S16 32) (v6253 : IVec S16 32) (k0_hw244 : k0_chk244 v6080 v6253), ∀ a x, ((![v6080, v6253] : Fin 2 → IVec S16 32) a x).toNat < S16x64.size a := fun v6080 v6253 k0_hw244 => k0_hw244.2

def k0_chk245 (v6080 : IVec S16 32) (v6262 : IVec S16 32) : Prop :=
  (∀ a x, ((![v6080, v6262] : Fin 2 → IVec S16 32) a x).toNat < S16x64.size a) ∧
  (∀ a x, ((![v6080, v6262] : Fin 2 → IVec S16 32) a x).toNat < S16x64.size a)
theorem k0_idx169_inb : ∀ (v6080 : IVec S16 32) (v6262 : IVec S16 32) (k0_hw245 : k0_chk245 v6080 v6262), ∀ a x, ((![v6080, v6262] : Fin 2 → IVec S16 32) a x).toNat < S16x64.size a := fun v6080 v6262 k0_hw245 => k0_hw245.1
theorem k0_idx170_inb : ∀ (v6080 : IVec S16 32) (v6262 : IVec S16 32) (k0_hw245 : k0_chk245 v6080 v6262), ∀ a x, ((![v6080, v6262] : Fin 2 → IVec S16 32) a x).toNat < S16x64.size a := fun v6080 v6262 k0_hw245 => k0_hw245.2

def k0_chk246 (v6080 : IVec S16 32) (v6271 : IVec S16 32) : Prop :=
  (∀ a x, ((![v6080, v6271] : Fin 2 → IVec S16 32) a x).toNat < S16x64.size a) ∧
  (∀ a x, ((![v6080, v6271] : Fin 2 → IVec S16 32) a x).toNat < S16x64.size a)
theorem k0_idx171_inb : ∀ (v6080 : IVec S16 32) (v6271 : IVec S16 32) (k0_hw246 : k0_chk246 v6080 v6271), ∀ a x, ((![v6080, v6271] : Fin 2 → IVec S16 32) a x).toNat < S16x64.size a := fun v6080 v6271 k0_hw246 => k0_hw246.1
theorem k0_idx172_inb : ∀ (v6080 : IVec S16 32) (v6271 : IVec S16 32) (k0_hw246 : k0_chk246 v6080 v6271), ∀ a x, ((![v6080, v6271] : Fin 2 → IVec S16 32) a x).toNat < S16x64.size a := fun v6080 v6271 k0_hw246 => k0_hw246.2

def k0_chk247 (v6080 : IVec S16 32) (v6280 : IVec S16 32) : Prop :=
  (∀ a x, ((![v6080, v6280] : Fin 2 → IVec S16 32) a x).toNat < S16x64.size a) ∧
  (∀ a x, ((![v6080, v6280] : Fin 2 → IVec S16 32) a x).toNat < S16x64.size a)
theorem k0_idx173_inb : ∀ (v6080 : IVec S16 32) (v6280 : IVec S16 32) (k0_hw247 : k0_chk247 v6080 v6280), ∀ a x, ((![v6080, v6280] : Fin 2 → IVec S16 32) a x).toNat < S16x64.size a := fun v6080 v6280 k0_hw247 => k0_hw247.1
theorem k0_idx174_inb : ∀ (v6080 : IVec S16 32) (v6280 : IVec S16 32) (k0_hw247 : k0_chk247 v6080 v6280), ∀ a x, ((![v6080, v6280] : Fin 2 → IVec S16 32) a x).toNat < S16x64.size a := fun v6080 v6280 k0_hw247 => k0_hw247.2

def k0_chk248 (v6080 : IVec S16 32) (v6289 : IVec S16 32) : Prop :=
  (∀ a x, ((![v6080, v6289] : Fin 2 → IVec S16 32) a x).toNat < S16x64.size a) ∧
  (∀ a x, ((![v6080, v6289] : Fin 2 → IVec S16 32) a x).toNat < S16x64.size a)
theorem k0_idx175_inb : ∀ (v6080 : IVec S16 32) (v6289 : IVec S16 32) (k0_hw248 : k0_chk248 v6080 v6289), ∀ a x, ((![v6080, v6289] : Fin 2 → IVec S16 32) a x).toNat < S16x64.size a := fun v6080 v6289 k0_hw248 => k0_hw248.1
theorem k0_idx176_inb : ∀ (v6080 : IVec S16 32) (v6289 : IVec S16 32) (k0_hw248 : k0_chk248 v6080 v6289), ∀ a x, ((![v6080, v6289] : Fin 2 → IVec S16 32) a x).toNat < S16x64.size a := fun v6080 v6289 k0_hw248 => k0_hw248.2

def k0_chk249 (v6080 : IVec S16 32) (v6298 : IVec S16 32) : Prop :=
  (∀ a x, ((![v6080, v6298] : Fin 2 → IVec S16 32) a x).toNat < S16x64.size a) ∧
  (∀ a x, ((![v6080, v6298] : Fin 2 → IVec S16 32) a x).toNat < S16x64.size a)
theorem k0_idx177_inb : ∀ (v6080 : IVec S16 32) (v6298 : IVec S16 32) (k0_hw249 : k0_chk249 v6080 v6298), ∀ a x, ((![v6080, v6298] : Fin 2 → IVec S16 32) a x).toNat < S16x64.size a := fun v6080 v6298 k0_hw249 => k0_hw249.1
theorem k0_idx178_inb : ∀ (v6080 : IVec S16 32) (v6298 : IVec S16 32) (k0_hw249 : k0_chk249 v6080 v6298), ∀ a x, ((![v6080, v6298] : Fin 2 → IVec S16 32) a x).toNat < S16x64.size a := fun v6080 v6298 k0_hw249 => k0_hw249.2

def k0_chk250 (v6080 : IVec S16 32) (v6307 : IVec S16 32) : Prop :=
  (∀ a x, ((![v6080, v6307] : Fin 2 → IVec S16 32) a x).toNat < S16x64.size a) ∧
  (∀ a x, ((![v6080, v6307] : Fin 2 → IVec S16 32) a x).toNat < S16x64.size a)
theorem k0_idx179_inb : ∀ (v6080 : IVec S16 32) (v6307 : IVec S16 32) (k0_hw250 : k0_chk250 v6080 v6307), ∀ a x, ((![v6080, v6307] : Fin 2 → IVec S16 32) a x).toNat < S16x64.size a := fun v6080 v6307 k0_hw250 => k0_hw250.1
theorem k0_idx180_inb : ∀ (v6080 : IVec S16 32) (v6307 : IVec S16 32) (k0_hw250 : k0_chk250 v6080 v6307), ∀ a x, ((![v6080, v6307] : Fin 2 → IVec S16 32) a x).toNat < S16x64.size a := fun v6080 v6307 k0_hw250 => k0_hw250.2

def k0_chk251 (v6080 : IVec S16 32) (v6316 : IVec S16 32) : Prop :=
  (∀ a x, ((![v6080, v6316] : Fin 2 → IVec S16 32) a x).toNat < S16x64.size a) ∧
  (∀ a x, ((![v6080, v6316] : Fin 2 → IVec S16 32) a x).toNat < S16x64.size a)
theorem k0_idx181_inb : ∀ (v6080 : IVec S16 32) (v6316 : IVec S16 32) (k0_hw251 : k0_chk251 v6080 v6316), ∀ a x, ((![v6080, v6316] : Fin 2 → IVec S16 32) a x).toNat < S16x64.size a := fun v6080 v6316 k0_hw251 => k0_hw251.1
theorem k0_idx182_inb : ∀ (v6080 : IVec S16 32) (v6316 : IVec S16 32) (k0_hw251 : k0_chk251 v6080 v6316), ∀ a x, ((![v6080, v6316] : Fin 2 → IVec S16 32) a x).toNat < S16x64.size a := fun v6080 v6316 k0_hw251 => k0_hw251.2

def k0_chk252 (v6080 : IVec S16 32) (v6325 : IVec S16 32) : Prop :=
  (∀ a x, ((![v6080, v6325] : Fin 2 → IVec S16 32) a x).toNat < S16x64.size a) ∧
  (∀ a x, ((![v6080, v6325] : Fin 2 → IVec S16 32) a x).toNat < S16x64.size a)
theorem k0_idx183_inb : ∀ (v6080 : IVec S16 32) (v6325 : IVec S16 32) (k0_hw252 : k0_chk252 v6080 v6325), ∀ a x, ((![v6080, v6325] : Fin 2 → IVec S16 32) a x).toNat < S16x64.size a := fun v6080 v6325 k0_hw252 => k0_hw252.1
theorem k0_idx184_inb : ∀ (v6080 : IVec S16 32) (v6325 : IVec S16 32) (k0_hw252 : k0_chk252 v6080 v6325), ∀ a x, ((![v6080, v6325] : Fin 2 → IVec S16 32) a x).toNat < S16x64.size a := fun v6080 v6325 k0_hw252 => k0_hw252.2

def k0_chk253 (v6080 : IVec S16 32) (v6334 : IVec S16 32) : Prop :=
  (∀ a x, ((![v6080, v6334] : Fin 2 → IVec S16 32) a x).toNat < S16x64.size a) ∧
  (∀ a x, ((![v6080, v6334] : Fin 2 → IVec S16 32) a x).toNat < S16x64.size a)
theorem k0_idx185_inb : ∀ (v6080 : IVec S16 32) (v6334 : IVec S16 32) (k0_hw253 : k0_chk253 v6080 v6334), ∀ a x, ((![v6080, v6334] : Fin 2 → IVec S16 32) a x).toNat < S16x64.size a := fun v6080 v6334 k0_hw253 => k0_hw253.1
theorem k0_idx186_inb : ∀ (v6080 : IVec S16 32) (v6334 : IVec S16 32) (k0_hw253 : k0_chk253 v6080 v6334), ∀ a x, ((![v6080, v6334] : Fin 2 → IVec S16 32) a x).toNat < S16x64.size a := fun v6080 v6334 k0_hw253 => k0_hw253.2

def k0_chk254 (v6080 : IVec S16 32) (v6343 : IVec S16 32) : Prop :=
  (∀ a x, ((![v6080, v6343] : Fin 2 → IVec S16 32) a x).toNat < S16x64.size a) ∧
  (∀ a x, ((![v6080, v6343] : Fin 2 → IVec S16 32) a x).toNat < S16x64.size a)
theorem k0_idx187_inb : ∀ (v6080 : IVec S16 32) (v6343 : IVec S16 32) (k0_hw254 : k0_chk254 v6080 v6343), ∀ a x, ((![v6080, v6343] : Fin 2 → IVec S16 32) a x).toNat < S16x64.size a := fun v6080 v6343 k0_hw254 => k0_hw254.1
theorem k0_idx188_inb : ∀ (v6080 : IVec S16 32) (v6343 : IVec S16 32) (k0_hw254 : k0_chk254 v6080 v6343), ∀ a x, ((![v6080, v6343] : Fin 2 → IVec S16 32) a x).toNat < S16x64.size a := fun v6080 v6343 k0_hw254 => k0_hw254.2

def k0_chk255 (v6080 : IVec S16 32) (v6352 : IVec S16 32) : Prop :=
  (∀ a x, ((![v6080, v6352] : Fin 2 → IVec S16 32) a x).toNat < S16x64.size a) ∧
  (∀ a x, ((![v6080, v6352] : Fin 2 → IVec S16 32) a x).toNat < S16x64.size a)
theorem k0_idx189_inb : ∀ (v6080 : IVec S16 32) (v6352 : IVec S16 32) (k0_hw255 : k0_chk255 v6080 v6352), ∀ a x, ((![v6080, v6352] : Fin 2 → IVec S16 32) a x).toNat < S16x64.size a := fun v6080 v6352 k0_hw255 => k0_hw255.1
theorem k0_idx190_inb : ∀ (v6080 : IVec S16 32) (v6352 : IVec S16 32) (k0_hw255 : k0_chk255 v6080 v6352), ∀ a x, ((![v6080, v6352] : Fin 2 → IVec S16 32) a x).toNat < S16x64.size a := fun v6080 v6352 k0_hw255 => k0_hw255.2

def k0_chk256 (v6080 : IVec S16 32) (v6361 : IVec S16 32) : Prop :=
  (∀ a x, ((![v6080, v6361] : Fin 2 → IVec S16 32) a x).toNat < S16x64.size a) ∧
  (∀ a x, ((![v6080, v6361] : Fin 2 → IVec S16 32) a x).toNat < S16x64.size a)
theorem k0_idx191_inb : ∀ (v6080 : IVec S16 32) (v6361 : IVec S16 32) (k0_hw256 : k0_chk256 v6080 v6361), ∀ a x, ((![v6080, v6361] : Fin 2 → IVec S16 32) a x).toNat < S16x64.size a := fun v6080 v6361 k0_hw256 => k0_hw256.1
theorem k0_idx192_inb : ∀ (v6080 : IVec S16 32) (v6361 : IVec S16 32) (k0_hw256 : k0_chk256 v6080 v6361), ∀ a x, ((![v6080, v6361] : Fin 2 → IVec S16 32) a x).toNat < S16x64.size a := fun v6080 v6361 k0_hw256 => k0_hw256.2

def k0_chk257 (v6080 : IVec S16 32) (v6370 : IVec S16 32) : Prop :=
  (∀ a x, ((![v6080, v6370] : Fin 2 → IVec S16 32) a x).toNat < S16x64.size a) ∧
  (∀ a x, ((![v6080, v6370] : Fin 2 → IVec S16 32) a x).toNat < S16x64.size a)
theorem k0_idx193_inb : ∀ (v6080 : IVec S16 32) (v6370 : IVec S16 32) (k0_hw257 : k0_chk257 v6080 v6370), ∀ a x, ((![v6080, v6370] : Fin 2 → IVec S16 32) a x).toNat < S16x64.size a := fun v6080 v6370 k0_hw257 => k0_hw257.1
theorem k0_idx194_inb : ∀ (v6080 : IVec S16 32) (v6370 : IVec S16 32) (k0_hw257 : k0_chk257 v6080 v6370), ∀ a x, ((![v6080, v6370] : Fin 2 → IVec S16 32) a x).toNat < S16x64.size a := fun v6080 v6370 k0_hw257 => k0_hw257.2

def k0_chk258 (v6080 : IVec S16 32) (v6379 : IVec S16 32) : Prop :=
  (∀ a x, ((![v6080, v6379] : Fin 2 → IVec S16 32) a x).toNat < S16x64.size a) ∧
  (∀ a x, ((![v6080, v6379] : Fin 2 → IVec S16 32) a x).toNat < S16x64.size a)
theorem k0_idx195_inb : ∀ (v6080 : IVec S16 32) (v6379 : IVec S16 32) (k0_hw258 : k0_chk258 v6080 v6379), ∀ a x, ((![v6080, v6379] : Fin 2 → IVec S16 32) a x).toNat < S16x64.size a := fun v6080 v6379 k0_hw258 => k0_hw258.1
theorem k0_idx196_inb : ∀ (v6080 : IVec S16 32) (v6379 : IVec S16 32) (k0_hw258 : k0_chk258 v6080 v6379), ∀ a x, ((![v6080, v6379] : Fin 2 → IVec S16 32) a x).toNat < S16x64.size a := fun v6080 v6379 k0_hw258 => k0_hw258.2

def k0_chk259 (v6080 : IVec S16 32) (v6388 : IVec S16 32) : Prop :=
  (∀ a x, ((![v6080, v6388] : Fin 2 → IVec S16 32) a x).toNat < S16x64.size a) ∧
  (∀ a x, ((![v6080, v6388] : Fin 2 → IVec S16 32) a x).toNat < S16x64.size a)
theorem k0_idx197_inb : ∀ (v6080 : IVec S16 32) (v6388 : IVec S16 32) (k0_hw259 : k0_chk259 v6080 v6388), ∀ a x, ((![v6080, v6388] : Fin 2 → IVec S16 32) a x).toNat < S16x64.size a := fun v6080 v6388 k0_hw259 => k0_hw259.1
theorem k0_idx198_inb : ∀ (v6080 : IVec S16 32) (v6388 : IVec S16 32) (k0_hw259 : k0_chk259 v6080 v6388), ∀ a x, ((![v6080, v6388] : Fin 2 → IVec S16 32) a x).toNat < S16x64.size a := fun v6080 v6388 k0_hw259 => k0_hw259.2

def k0_chk260 (v6080 : IVec S16 32) (v6397 : IVec S16 32) : Prop :=
  (∀ a x, ((![v6080, v6397] : Fin 2 → IVec S16 32) a x).toNat < S16x64.size a) ∧
  (∀ a x, ((![v6080, v6397] : Fin 2 → IVec S16 32) a x).toNat < S16x64.size a)
theorem k0_idx199_inb : ∀ (v6080 : IVec S16 32) (v6397 : IVec S16 32) (k0_hw260 : k0_chk260 v6080 v6397), ∀ a x, ((![v6080, v6397] : Fin 2 → IVec S16 32) a x).toNat < S16x64.size a := fun v6080 v6397 k0_hw260 => k0_hw260.1
theorem k0_idx200_inb : ∀ (v6080 : IVec S16 32) (v6397 : IVec S16 32) (k0_hw260 : k0_chk260 v6080 v6397), ∀ a x, ((![v6080, v6397] : Fin 2 → IVec S16 32) a x).toNat < S16x64.size a := fun v6080 v6397 k0_hw260 => k0_hw260.2

def k0_chk261 (v6080 : IVec S16 32) (v6406 : IVec S16 32) : Prop :=
  (∀ a x, ((![v6080, v6406] : Fin 2 → IVec S16 32) a x).toNat < S16x64.size a) ∧
  (∀ a x, ((![v6080, v6406] : Fin 2 → IVec S16 32) a x).toNat < S16x64.size a)
theorem k0_idx201_inb : ∀ (v6080 : IVec S16 32) (v6406 : IVec S16 32) (k0_hw261 : k0_chk261 v6080 v6406), ∀ a x, ((![v6080, v6406] : Fin 2 → IVec S16 32) a x).toNat < S16x64.size a := fun v6080 v6406 k0_hw261 => k0_hw261.1
theorem k0_idx202_inb : ∀ (v6080 : IVec S16 32) (v6406 : IVec S16 32) (k0_hw261 : k0_chk261 v6080 v6406), ∀ a x, ((![v6080, v6406] : Fin 2 → IVec S16 32) a x).toNat < S16x64.size a := fun v6080 v6406 k0_hw261 => k0_hw261.2

def k0_chk262 (v6080 : IVec S16 32) (v6415 : IVec S16 32) : Prop :=
  (∀ a x, ((![v6080, v6415] : Fin 2 → IVec S16 32) a x).toNat < S16x64.size a) ∧
  (∀ a x, ((![v6080, v6415] : Fin 2 → IVec S16 32) a x).toNat < S16x64.size a)
theorem k0_idx203_inb : ∀ (v6080 : IVec S16 32) (v6415 : IVec S16 32) (k0_hw262 : k0_chk262 v6080 v6415), ∀ a x, ((![v6080, v6415] : Fin 2 → IVec S16 32) a x).toNat < S16x64.size a := fun v6080 v6415 k0_hw262 => k0_hw262.1
theorem k0_idx204_inb : ∀ (v6080 : IVec S16 32) (v6415 : IVec S16 32) (k0_hw262 : k0_chk262 v6080 v6415), ∀ a x, ((![v6080, v6415] : Fin 2 → IVec S16 32) a x).toNat < S16x64.size a := fun v6080 v6415 k0_hw262 => k0_hw262.2

def k0_chk263 (v6080 : IVec S16 32) (v6424 : IVec S16 32) : Prop :=
  (∀ a x, ((![v6080, v6424] : Fin 2 → IVec S16 32) a x).toNat < S16x64.size a) ∧
  (∀ a x, ((![v6080, v6424] : Fin 2 → IVec S16 32) a x).toNat < S16x64.size a)
theorem k0_idx205_inb : ∀ (v6080 : IVec S16 32) (v6424 : IVec S16 32) (k0_hw263 : k0_chk263 v6080 v6424), ∀ a x, ((![v6080, v6424] : Fin 2 → IVec S16 32) a x).toNat < S16x64.size a := fun v6080 v6424 k0_hw263 => k0_hw263.1
theorem k0_idx206_inb : ∀ (v6080 : IVec S16 32) (v6424 : IVec S16 32) (k0_hw263 : k0_chk263 v6080 v6424), ∀ a x, ((![v6080, v6424] : Fin 2 → IVec S16 32) a x).toNat < S16x64.size a := fun v6080 v6424 k0_hw263 => k0_hw263.2

def k0_chk264 (v6080 : IVec S16 32) (v6433 : IVec S16 32) : Prop :=
  (∀ a x, ((![v6080, v6433] : Fin 2 → IVec S16 32) a x).toNat < S16x64.size a) ∧
  (∀ a x, ((![v6080, v6433] : Fin 2 → IVec S16 32) a x).toNat < S16x64.size a)
theorem k0_idx207_inb : ∀ (v6080 : IVec S16 32) (v6433 : IVec S16 32) (k0_hw264 : k0_chk264 v6080 v6433), ∀ a x, ((![v6080, v6433] : Fin 2 → IVec S16 32) a x).toNat < S16x64.size a := fun v6080 v6433 k0_hw264 => k0_hw264.1
theorem k0_idx208_inb : ∀ (v6080 : IVec S16 32) (v6433 : IVec S16 32) (k0_hw264 : k0_chk264 v6080 v6433), ∀ a x, ((![v6080, v6433] : Fin 2 → IVec S16 32) a x).toNat < S16x64.size a := fun v6080 v6433 k0_hw264 => k0_hw264.2

def k0_chk265 (v6080 : IVec S16 32) (v6442 : IVec S16 32) : Prop :=
  (∀ a x, ((![v6080, v6442] : Fin 2 → IVec S16 32) a x).toNat < S16x64.size a) ∧
  (∀ a x, ((![v6080, v6442] : Fin 2 → IVec S16 32) a x).toNat < S16x64.size a)
theorem k0_idx209_inb : ∀ (v6080 : IVec S16 32) (v6442 : IVec S16 32) (k0_hw265 : k0_chk265 v6080 v6442), ∀ a x, ((![v6080, v6442] : Fin 2 → IVec S16 32) a x).toNat < S16x64.size a := fun v6080 v6442 k0_hw265 => k0_hw265.1
theorem k0_idx210_inb : ∀ (v6080 : IVec S16 32) (v6442 : IVec S16 32) (k0_hw265 : k0_chk265 v6080 v6442), ∀ a x, ((![v6080, v6442] : Fin 2 → IVec S16 32) a x).toNat < S16x64.size a := fun v6080 v6442 k0_hw265 => k0_hw265.2

def k0_chk266 (v6080 : IVec S16 32) (v6451 : IVec S16 32) : Prop :=
  (∀ a x, ((![v6080, v6451] : Fin 2 → IVec S16 32) a x).toNat < S16x64.size a) ∧
  (∀ a x, ((![v6080, v6451] : Fin 2 → IVec S16 32) a x).toNat < S16x64.size a)
theorem k0_idx211_inb : ∀ (v6080 : IVec S16 32) (v6451 : IVec S16 32) (k0_hw266 : k0_chk266 v6080 v6451), ∀ a x, ((![v6080, v6451] : Fin 2 → IVec S16 32) a x).toNat < S16x64.size a := fun v6080 v6451 k0_hw266 => k0_hw266.1
theorem k0_idx212_inb : ∀ (v6080 : IVec S16 32) (v6451 : IVec S16 32) (k0_hw266 : k0_chk266 v6080 v6451), ∀ a x, ((![v6080, v6451] : Fin 2 → IVec S16 32) a x).toNat < S16x64.size a := fun v6080 v6451 k0_hw266 => k0_hw266.2

def k0_chk267 (v6080 : IVec S16 32) (v6460 : IVec S16 32) : Prop :=
  (∀ a x, ((![v6080, v6460] : Fin 2 → IVec S16 32) a x).toNat < S16x64.size a) ∧
  (∀ a x, ((![v6080, v6460] : Fin 2 → IVec S16 32) a x).toNat < S16x64.size a)
theorem k0_idx213_inb : ∀ (v6080 : IVec S16 32) (v6460 : IVec S16 32) (k0_hw267 : k0_chk267 v6080 v6460), ∀ a x, ((![v6080, v6460] : Fin 2 → IVec S16 32) a x).toNat < S16x64.size a := fun v6080 v6460 k0_hw267 => k0_hw267.1
theorem k0_idx214_inb : ∀ (v6080 : IVec S16 32) (v6460 : IVec S16 32) (k0_hw267 : k0_chk267 v6080 v6460), ∀ a x, ((![v6080, v6460] : Fin 2 → IVec S16 32) a x).toNat < S16x64.size a := fun v6080 v6460 k0_hw267 => k0_hw267.2

def k0_chk268 (v6080 : IVec S16 32) (v6469 : IVec S16 32) : Prop :=
  (∀ a x, ((![v6080, v6469] : Fin 2 → IVec S16 32) a x).toNat < S16x64.size a) ∧
  (∀ a x, ((![v6080, v6469] : Fin 2 → IVec S16 32) a x).toNat < S16x64.size a)
theorem k0_idx215_inb : ∀ (v6080 : IVec S16 32) (v6469 : IVec S16 32) (k0_hw268 : k0_chk268 v6080 v6469), ∀ a x, ((![v6080, v6469] : Fin 2 → IVec S16 32) a x).toNat < S16x64.size a := fun v6080 v6469 k0_hw268 => k0_hw268.1
theorem k0_idx216_inb : ∀ (v6080 : IVec S16 32) (v6469 : IVec S16 32) (k0_hw268 : k0_chk268 v6080 v6469), ∀ a x, ((![v6080, v6469] : Fin 2 → IVec S16 32) a x).toNat < S16x64.size a := fun v6080 v6469 k0_hw268 => k0_hw268.2

def k0_chk269 (v6080 : IVec S16 32) (v6478 : IVec S16 32) : Prop :=
  (∀ a x, ((![v6080, v6478] : Fin 2 → IVec S16 32) a x).toNat < S16x64.size a) ∧
  (∀ a x, ((![v6080, v6478] : Fin 2 → IVec S16 32) a x).toNat < S16x64.size a)
theorem k0_idx217_inb : ∀ (v6080 : IVec S16 32) (v6478 : IVec S16 32) (k0_hw269 : k0_chk269 v6080 v6478), ∀ a x, ((![v6080, v6478] : Fin 2 → IVec S16 32) a x).toNat < S16x64.size a := fun v6080 v6478 k0_hw269 => k0_hw269.1
theorem k0_idx218_inb : ∀ (v6080 : IVec S16 32) (v6478 : IVec S16 32) (k0_hw269 : k0_chk269 v6080 v6478), ∀ a x, ((![v6080, v6478] : Fin 2 → IVec S16 32) a x).toNat < S16x64.size a := fun v6080 v6478 k0_hw269 => k0_hw269.2

def k0_chk270 (v6080 : IVec S16 32) (v6487 : IVec S16 32) : Prop :=
  (∀ a x, ((![v6080, v6487] : Fin 2 → IVec S16 32) a x).toNat < S16x64.size a) ∧
  (∀ a x, ((![v6080, v6487] : Fin 2 → IVec S16 32) a x).toNat < S16x64.size a)
theorem k0_idx219_inb : ∀ (v6080 : IVec S16 32) (v6487 : IVec S16 32) (k0_hw270 : k0_chk270 v6080 v6487), ∀ a x, ((![v6080, v6487] : Fin 2 → IVec S16 32) a x).toNat < S16x64.size a := fun v6080 v6487 k0_hw270 => k0_hw270.1
theorem k0_idx220_inb : ∀ (v6080 : IVec S16 32) (v6487 : IVec S16 32) (k0_hw270 : k0_chk270 v6080 v6487), ∀ a x, ((![v6080, v6487] : Fin 2 → IVec S16 32) a x).toNat < S16x64.size a := fun v6080 v6487 k0_hw270 => k0_hw270.2

def k0_chk271 (v6080 : IVec S16 32) (v6496 : IVec S16 32) : Prop :=
  (∀ a x, ((![v6080, v6496] : Fin 2 → IVec S16 32) a x).toNat < S16x64.size a) ∧
  (∀ a x, ((![v6080, v6496] : Fin 2 → IVec S16 32) a x).toNat < S16x64.size a)
theorem k0_idx221_inb : ∀ (v6080 : IVec S16 32) (v6496 : IVec S16 32) (k0_hw271 : k0_chk271 v6080 v6496), ∀ a x, ((![v6080, v6496] : Fin 2 → IVec S16 32) a x).toNat < S16x64.size a := fun v6080 v6496 k0_hw271 => k0_hw271.1
theorem k0_idx222_inb : ∀ (v6080 : IVec S16 32) (v6496 : IVec S16 32) (k0_hw271 : k0_chk271 v6080 v6496), ∀ a x, ((![v6080, v6496] : Fin 2 → IVec S16 32) a x).toNat < S16x64.size a := fun v6080 v6496 k0_hw271 => k0_hw271.2

def k0_chk272 (v6080 : IVec S16 32) (v6505 : IVec S16 32) : Prop :=
  (∀ a x, ((![v6080, v6505] : Fin 2 → IVec S16 32) a x).toNat < S16x64.size a) ∧
  (∀ a x, ((![v6080, v6505] : Fin 2 → IVec S16 32) a x).toNat < S16x64.size a)
theorem k0_idx223_inb : ∀ (v6080 : IVec S16 32) (v6505 : IVec S16 32) (k0_hw272 : k0_chk272 v6080 v6505), ∀ a x, ((![v6080, v6505] : Fin 2 → IVec S16 32) a x).toNat < S16x64.size a := fun v6080 v6505 k0_hw272 => k0_hw272.1
theorem k0_idx224_inb : ∀ (v6080 : IVec S16 32) (v6505 : IVec S16 32) (k0_hw272 : k0_chk272 v6080 v6505), ∀ a x, ((![v6080, v6505] : Fin 2 → IVec S16 32) a x).toNat < S16x64.size a := fun v6080 v6505 k0_hw272 => k0_hw272.2

def k0_chk273 (v6080 : IVec S16 32) (v6514 : IVec S16 32) : Prop :=
  (∀ a x, ((![v6080, v6514] : Fin 2 → IVec S16 32) a x).toNat < S16x64.size a) ∧
  (∀ a x, ((![v6080, v6514] : Fin 2 → IVec S16 32) a x).toNat < S16x64.size a)
theorem k0_idx225_inb : ∀ (v6080 : IVec S16 32) (v6514 : IVec S16 32) (k0_hw273 : k0_chk273 v6080 v6514), ∀ a x, ((![v6080, v6514] : Fin 2 → IVec S16 32) a x).toNat < S16x64.size a := fun v6080 v6514 k0_hw273 => k0_hw273.1
theorem k0_idx226_inb : ∀ (v6080 : IVec S16 32) (v6514 : IVec S16 32) (k0_hw273 : k0_chk273 v6080 v6514), ∀ a x, ((![v6080, v6514] : Fin 2 → IVec S16 32) a x).toNat < S16x64.size a := fun v6080 v6514 k0_hw273 => k0_hw273.2

def k0_chk274 (v6080 : IVec S16 32) (v6523 : IVec S16 32) : Prop :=
  (∀ a x, ((![v6080, v6523] : Fin 2 → IVec S16 32) a x).toNat < S16x64.size a) ∧
  (∀ a x, ((![v6080, v6523] : Fin 2 → IVec S16 32) a x).toNat < S16x64.size a)
theorem k0_idx227_inb : ∀ (v6080 : IVec S16 32) (v6523 : IVec S16 32) (k0_hw274 : k0_chk274 v6080 v6523), ∀ a x, ((![v6080, v6523] : Fin 2 → IVec S16 32) a x).toNat < S16x64.size a := fun v6080 v6523 k0_hw274 => k0_hw274.1
theorem k0_idx228_inb : ∀ (v6080 : IVec S16 32) (v6523 : IVec S16 32) (k0_hw274 : k0_chk274 v6080 v6523), ∀ a x, ((![v6080, v6523] : Fin 2 → IVec S16 32) a x).toNat < S16x64.size a := fun v6080 v6523 k0_hw274 => k0_hw274.2

def k0_chk275 (v6080 : IVec S16 32) (v6532 : IVec S16 32) : Prop :=
  (∀ a x, ((![v6080, v6532] : Fin 2 → IVec S16 32) a x).toNat < S16x64.size a) ∧
  (∀ a x, ((![v6080, v6532] : Fin 2 → IVec S16 32) a x).toNat < S16x64.size a)
theorem k0_idx229_inb : ∀ (v6080 : IVec S16 32) (v6532 : IVec S16 32) (k0_hw275 : k0_chk275 v6080 v6532), ∀ a x, ((![v6080, v6532] : Fin 2 → IVec S16 32) a x).toNat < S16x64.size a := fun v6080 v6532 k0_hw275 => k0_hw275.1
theorem k0_idx230_inb : ∀ (v6080 : IVec S16 32) (v6532 : IVec S16 32) (k0_hw275 : k0_chk275 v6080 v6532), ∀ a x, ((![v6080, v6532] : Fin 2 → IVec S16 32) a x).toNat < S16x64.size a := fun v6080 v6532 k0_hw275 => k0_hw275.2

def k0_chk276 (v6080 : IVec S16 32) (v6541 : IVec S16 32) : Prop :=
  (∀ a x, ((![v6080, v6541] : Fin 2 → IVec S16 32) a x).toNat < S16x64.size a) ∧
  (∀ a x, ((![v6080, v6541] : Fin 2 → IVec S16 32) a x).toNat < S16x64.size a)
theorem k0_idx231_inb : ∀ (v6080 : IVec S16 32) (v6541 : IVec S16 32) (k0_hw276 : k0_chk276 v6080 v6541), ∀ a x, ((![v6080, v6541] : Fin 2 → IVec S16 32) a x).toNat < S16x64.size a := fun v6080 v6541 k0_hw276 => k0_hw276.1
theorem k0_idx232_inb : ∀ (v6080 : IVec S16 32) (v6541 : IVec S16 32) (k0_hw276 : k0_chk276 v6080 v6541), ∀ a x, ((![v6080, v6541] : Fin 2 → IVec S16 32) a x).toNat < S16x64.size a := fun v6080 v6541 k0_hw276 => k0_hw276.2

def k0_chk277 (v6080 : IVec S16 32) (v6550 : IVec S16 32) : Prop :=
  (∀ a x, ((![v6080, v6550] : Fin 2 → IVec S16 32) a x).toNat < S16x64.size a) ∧
  (∀ a x, ((![v6080, v6550] : Fin 2 → IVec S16 32) a x).toNat < S16x64.size a)
theorem k0_idx233_inb : ∀ (v6080 : IVec S16 32) (v6550 : IVec S16 32) (k0_hw277 : k0_chk277 v6080 v6550), ∀ a x, ((![v6080, v6550] : Fin 2 → IVec S16 32) a x).toNat < S16x64.size a := fun v6080 v6550 k0_hw277 => k0_hw277.1
theorem k0_idx234_inb : ∀ (v6080 : IVec S16 32) (v6550 : IVec S16 32) (k0_hw277 : k0_chk277 v6080 v6550), ∀ a x, ((![v6080, v6550] : Fin 2 → IVec S16 32) a x).toNat < S16x64.size a := fun v6080 v6550 k0_hw277 => k0_hw277.2

def k0_chk278 (v6080 : IVec S16 32) (v6559 : IVec S16 32) : Prop :=
  (∀ a x, ((![v6080, v6559] : Fin 2 → IVec S16 32) a x).toNat < S16x64.size a) ∧
  (∀ a x, ((![v6080, v6559] : Fin 2 → IVec S16 32) a x).toNat < S16x64.size a)
theorem k0_idx235_inb : ∀ (v6080 : IVec S16 32) (v6559 : IVec S16 32) (k0_hw278 : k0_chk278 v6080 v6559), ∀ a x, ((![v6080, v6559] : Fin 2 → IVec S16 32) a x).toNat < S16x64.size a := fun v6080 v6559 k0_hw278 => k0_hw278.1
theorem k0_idx236_inb : ∀ (v6080 : IVec S16 32) (v6559 : IVec S16 32) (k0_hw278 : k0_chk278 v6080 v6559), ∀ a x, ((![v6080, v6559] : Fin 2 → IVec S16 32) a x).toNat < S16x64.size a := fun v6080 v6559 k0_hw278 => k0_hw278.2

def k0_chk279 (v6080 : IVec S16 32) (v6568 : IVec S16 32) : Prop :=
  (∀ a x, ((![v6080, v6568] : Fin 2 → IVec S16 32) a x).toNat < S16x64.size a) ∧
  (∀ a x, ((![v6080, v6568] : Fin 2 → IVec S16 32) a x).toNat < S16x64.size a)
theorem k0_idx237_inb : ∀ (v6080 : IVec S16 32) (v6568 : IVec S16 32) (k0_hw279 : k0_chk279 v6080 v6568), ∀ a x, ((![v6080, v6568] : Fin 2 → IVec S16 32) a x).toNat < S16x64.size a := fun v6080 v6568 k0_hw279 => k0_hw279.1
theorem k0_idx238_inb : ∀ (v6080 : IVec S16 32) (v6568 : IVec S16 32) (k0_hw279 : k0_chk279 v6080 v6568), ∀ a x, ((![v6080, v6568] : Fin 2 → IVec S16 32) a x).toNat < S16x64.size a := fun v6080 v6568 k0_hw279 => k0_hw279.2

def k0_chk280 (v6080 : IVec S16 32) (v6577 : IVec S16 32) : Prop :=
  (∀ a x, ((![v6080, v6577] : Fin 2 → IVec S16 32) a x).toNat < S16x64.size a) ∧
  (∀ a x, ((![v6080, v6577] : Fin 2 → IVec S16 32) a x).toNat < S16x64.size a)
theorem k0_idx239_inb : ∀ (v6080 : IVec S16 32) (v6577 : IVec S16 32) (k0_hw280 : k0_chk280 v6080 v6577), ∀ a x, ((![v6080, v6577] : Fin 2 → IVec S16 32) a x).toNat < S16x64.size a := fun v6080 v6577 k0_hw280 => k0_hw280.1
theorem k0_idx240_inb : ∀ (v6080 : IVec S16 32) (v6577 : IVec S16 32) (k0_hw280 : k0_chk280 v6080 v6577), ∀ a x, ((![v6080, v6577] : Fin 2 → IVec S16 32) a x).toNat < S16x64.size a := fun v6080 v6577 k0_hw280 => k0_hw280.2

def k0_chk281 (v6080 : IVec S16 32) (v6586 : IVec S16 32) : Prop :=
  (∀ a x, ((![v6080, v6586] : Fin 2 → IVec S16 32) a x).toNat < S16x64.size a) ∧
  (∀ a x, ((![v6080, v6586] : Fin 2 → IVec S16 32) a x).toNat < S16x64.size a)
theorem k0_idx241_inb : ∀ (v6080 : IVec S16 32) (v6586 : IVec S16 32) (k0_hw281 : k0_chk281 v6080 v6586), ∀ a x, ((![v6080, v6586] : Fin 2 → IVec S16 32) a x).toNat < S16x64.size a := fun v6080 v6586 k0_hw281 => k0_hw281.1
theorem k0_idx242_inb : ∀ (v6080 : IVec S16 32) (v6586 : IVec S16 32) (k0_hw281 : k0_chk281 v6080 v6586), ∀ a x, ((![v6080, v6586] : Fin 2 → IVec S16 32) a x).toNat < S16x64.size a := fun v6080 v6586 k0_hw281 => k0_hw281.2

def k0_chk282 (v6080 : IVec S16 32) (v6595 : IVec S16 32) : Prop :=
  (∀ a x, ((![v6080, v6595] : Fin 2 → IVec S16 32) a x).toNat < S16x64.size a) ∧
  (∀ a x, ((![v6080, v6595] : Fin 2 → IVec S16 32) a x).toNat < S16x64.size a)
theorem k0_idx243_inb : ∀ (v6080 : IVec S16 32) (v6595 : IVec S16 32) (k0_hw282 : k0_chk282 v6080 v6595), ∀ a x, ((![v6080, v6595] : Fin 2 → IVec S16 32) a x).toNat < S16x64.size a := fun v6080 v6595 k0_hw282 => k0_hw282.1
theorem k0_idx244_inb : ∀ (v6080 : IVec S16 32) (v6595 : IVec S16 32) (k0_hw282 : k0_chk282 v6080 v6595), ∀ a x, ((![v6080, v6595] : Fin 2 → IVec S16 32) a x).toNat < S16x64.size a := fun v6080 v6595 k0_hw282 => k0_hw282.2

def k0_chk283 (v6080 : IVec S16 32) (v6604 : IVec S16 32) : Prop :=
  (∀ a x, ((![v6080, v6604] : Fin 2 → IVec S16 32) a x).toNat < S16x64.size a) ∧
  (∀ a x, ((![v6080, v6604] : Fin 2 → IVec S16 32) a x).toNat < S16x64.size a)
theorem k0_idx245_inb : ∀ (v6080 : IVec S16 32) (v6604 : IVec S16 32) (k0_hw283 : k0_chk283 v6080 v6604), ∀ a x, ((![v6080, v6604] : Fin 2 → IVec S16 32) a x).toNat < S16x64.size a := fun v6080 v6604 k0_hw283 => k0_hw283.1
theorem k0_idx246_inb : ∀ (v6080 : IVec S16 32) (v6604 : IVec S16 32) (k0_hw283 : k0_chk283 v6080 v6604), ∀ a x, ((![v6080, v6604] : Fin 2 → IVec S16 32) a x).toNat < S16x64.size a := fun v6080 v6604 k0_hw283 => k0_hw283.2

def k0_chk284 (v6080 : IVec S16 32) (v6613 : IVec S16 32) : Prop :=
  (∀ a x, ((![v6080, v6613] : Fin 2 → IVec S16 32) a x).toNat < S16x64.size a) ∧
  (∀ a x, ((![v6080, v6613] : Fin 2 → IVec S16 32) a x).toNat < S16x64.size a)
theorem k0_idx247_inb : ∀ (v6080 : IVec S16 32) (v6613 : IVec S16 32) (k0_hw284 : k0_chk284 v6080 v6613), ∀ a x, ((![v6080, v6613] : Fin 2 → IVec S16 32) a x).toNat < S16x64.size a := fun v6080 v6613 k0_hw284 => k0_hw284.1
theorem k0_idx248_inb : ∀ (v6080 : IVec S16 32) (v6613 : IVec S16 32) (k0_hw284 : k0_chk284 v6080 v6613), ∀ a x, ((![v6080, v6613] : Fin 2 → IVec S16 32) a x).toNat < S16x64.size a := fun v6080 v6613 k0_hw284 => k0_hw284.2

def k0_chk285 (v6080 : IVec S16 32) (v6622 : IVec S16 32) : Prop :=
  (∀ a x, ((![v6080, v6622] : Fin 2 → IVec S16 32) a x).toNat < S16x64.size a) ∧
  (∀ a x, ((![v6080, v6622] : Fin 2 → IVec S16 32) a x).toNat < S16x64.size a)
theorem k0_idx249_inb : ∀ (v6080 : IVec S16 32) (v6622 : IVec S16 32) (k0_hw285 : k0_chk285 v6080 v6622), ∀ a x, ((![v6080, v6622] : Fin 2 → IVec S16 32) a x).toNat < S16x64.size a := fun v6080 v6622 k0_hw285 => k0_hw285.1
theorem k0_idx250_inb : ∀ (v6080 : IVec S16 32) (v6622 : IVec S16 32) (k0_hw285 : k0_chk285 v6080 v6622), ∀ a x, ((![v6080, v6622] : Fin 2 → IVec S16 32) a x).toNat < S16x64.size a := fun v6080 v6622 k0_hw285 => k0_hw285.2

def k0_chk286 (v6080 : IVec S16 32) (v6631 : IVec S16 32) : Prop :=
  (∀ a x, ((![v6080, v6631] : Fin 2 → IVec S16 32) a x).toNat < S16x64.size a) ∧
  (∀ a x, ((![v6080, v6631] : Fin 2 → IVec S16 32) a x).toNat < S16x64.size a)
theorem k0_idx251_inb : ∀ (v6080 : IVec S16 32) (v6631 : IVec S16 32) (k0_hw286 : k0_chk286 v6080 v6631), ∀ a x, ((![v6080, v6631] : Fin 2 → IVec S16 32) a x).toNat < S16x64.size a := fun v6080 v6631 k0_hw286 => k0_hw286.1
theorem k0_idx252_inb : ∀ (v6080 : IVec S16 32) (v6631 : IVec S16 32) (k0_hw286 : k0_chk286 v6080 v6631), ∀ a x, ((![v6080, v6631] : Fin 2 → IVec S16 32) a x).toNat < S16x64.size a := fun v6080 v6631 k0_hw286 => k0_hw286.2

def k0_chk287 (v6080 : IVec S16 32) (v6640 : IVec S16 32) : Prop :=
  (∀ a x, ((![v6080, v6640] : Fin 2 → IVec S16 32) a x).toNat < S16x64.size a) ∧
  (∀ a x, ((![v6080, v6640] : Fin 2 → IVec S16 32) a x).toNat < S16x64.size a)
theorem k0_idx253_inb : ∀ (v6080 : IVec S16 32) (v6640 : IVec S16 32) (k0_hw287 : k0_chk287 v6080 v6640), ∀ a x, ((![v6080, v6640] : Fin 2 → IVec S16 32) a x).toNat < S16x64.size a := fun v6080 v6640 k0_hw287 => k0_hw287.1
theorem k0_idx254_inb : ∀ (v6080 : IVec S16 32) (v6640 : IVec S16 32) (k0_hw287 : k0_chk287 v6080 v6640), ∀ a x, ((![v6080, v6640] : Fin 2 → IVec S16 32) a x).toNat < S16x64.size a := fun v6080 v6640 k0_hw287 => k0_hw287.2

def k0_chk288 (v6080 : IVec S16 32) (v6649 : IVec S16 32) : Prop :=
  (∀ a x, ((![v6080, v6649] : Fin 2 → IVec S16 32) a x).toNat < S16x64.size a) ∧
  (∀ a x, ((![v6080, v6649] : Fin 2 → IVec S16 32) a x).toNat < S16x64.size a)
theorem k0_idx255_inb : ∀ (v6080 : IVec S16 32) (v6649 : IVec S16 32) (k0_hw288 : k0_chk288 v6080 v6649), ∀ a x, ((![v6080, v6649] : Fin 2 → IVec S16 32) a x).toNat < S16x64.size a := fun v6080 v6649 k0_hw288 => k0_hw288.1
theorem k0_idx256_inb : ∀ (v6080 : IVec S16 32) (v6649 : IVec S16 32) (k0_hw288 : k0_chk288 v6080 v6649), ∀ a x, ((![v6080, v6649] : Fin 2 → IVec S16 32) a x).toNat < S16x64.size a := fun v6080 v6649 k0_hw288 => k0_hw288.2
def k0_off164 (k0_t1 : Fin k0_t1_loop.trips) : Fin 1 → Nat :=
  let c0_i32_3405 : BitVec 32 := 0#32
  let c0_i32_754 : BitVec 32 := 0#32
  let c1_i32_756 : BitVec 32 := 1#32
  let arg16 : BitVec 32 := Scf.iv c0_i32_754 c1_i32_756 k0_t1
  let c4_i32_3404 : BitVec 32 := 4#32
  let v4652 : BitVec 32 := Scalar.muli arg16 c4_i32_3404
  let v4653 : BitVec 32 := Scalar.addi c0_i32_3405 v4652
  let c1_i32_4500 : BitVec 32 := 1#32
  let v6077 : BitVec 32 := Scalar.addi v4653 c1_i32_4500
  let c16_i32_4501 : BitVec 32 := 16#32
  let v6078 : BitVec 32 := Scalar.muli v6077 c16_i32_4501
  let v6079 : BitVec 32 := v6078
  let v6658 : Index := Scalar.indexCast v6079
  ![v6658.toNat]
def k0_mult8 (k0_t1 : Fin k0_t1_loop.trips) : BitVec 32 :=
  let c0_i32_3405 : BitVec 32 := 0#32
  let c0_i32_754 : BitVec 32 := 0#32
  let c1_i32_756 : BitVec 32 := 1#32
  let arg16 : BitVec 32 := Scf.iv c0_i32_754 c1_i32_756 k0_t1
  let c4_i32_3404 : BitVec 32 := 4#32
  let v4652 : BitVec 32 := Scalar.muli arg16 c4_i32_3404
  let v4653 : BitVec 32 := Scalar.addi c0_i32_3405 v4652
  let c4_i32_4951 : BitVec 32 := 4#32
  let v6660 : BitVec 32 := Scalar.addi v4653 c4_i32_4951
  let c1_i32_4952 : BitVec 32 := 1#32
  let v6661 : BitVec 32 := Scalar.addi v6660 c1_i32_4952
  let c16_i32_4953 : BitVec 32 := 16#32
  let v6662 : BitVec 32 := Scalar.muli v6661 c16_i32_4953
  v6662
def k0_off165 (k0_t1 : Fin k0_t1_loop.trips) : Fin 1 → Nat :=
  let c0_i32_3405 : BitVec 32 := 0#32
  let c0_i32_754 : BitVec 32 := 0#32
  let c1_i32_756 : BitVec 32 := 1#32
  let arg16 : BitVec 32 := Scf.iv c0_i32_754 c1_i32_756 k0_t1
  let c4_i32_3404 : BitVec 32 := 4#32
  let v4652 : BitVec 32 := Scalar.muli arg16 c4_i32_3404
  let v4653 : BitVec 32 := Scalar.addi c0_i32_3405 v4652
  let c4_i32_4951 : BitVec 32 := 4#32
  let v6660 : BitVec 32 := Scalar.addi v4653 c4_i32_4951
  let c1_i32_4952 : BitVec 32 := 1#32
  let v6661 : BitVec 32 := Scalar.addi v6660 c1_i32_4952
  let c16_i32_4953 : BitVec 32 := 16#32
  let v6662 : BitVec 32 := Scalar.muli v6661 c16_i32_4953
  let v6663 : BitVec 32 := v6662
  let v6664 : Index := Scalar.indexCast v6663
  ![v6664.toNat]
def k0_off166 (v6669 : BitVec 32) : Fin 2 → Nat :=
  let c0_i32_4957 : BitVec 32 := 0#32
  ![v6669.toNat, 0]

def k0_chk289 (v6669 : BitVec 32) : Prop :=
  (∀ a, (k0_off166 v6669) a + S1x64.size a ≤ S1000000x64.size a)
theorem k0_off166_inb : ∀ (v6669 : BitVec 32) (k0_hw289 : k0_chk289 v6669), ∀ a, (k0_off166 v6669) a + S1x64.size a ≤ S1000000x64.size a := fun v6669 k0_hw289 => k0_hw289

def k0_off167 (v6679 : BitVec 32) : Fin 2 → Nat :=
  let c0_i32_4963 : BitVec 32 := 0#32
  ![v6679.toNat, 0]

def k0_chk290 (v6679 : BitVec 32) : Prop :=
  (∀ a, (k0_off167 v6679) a + S1x64.size a ≤ S100000x64.size a)
theorem k0_off167_inb : ∀ (v6679 : BitVec 32) (k0_hw290 : k0_chk290 v6679), ∀ a, (k0_off167 v6679) a + S1x64.size a ≤ S100000x64.size a := fun v6679 k0_hw290 => k0_hw290

def k0_off168 (v6689 : BitVec 32) : Fin 2 → Nat :=
  let c0_i32_4969 : BitVec 32 := 0#32
  ![v6689.toNat, 0]

def k0_chk291 (v6689 : BitVec 32) : Prop :=
  (∀ a, (k0_off168 v6689) a + S1x64.size a ≤ S1000000x64.size a)
theorem k0_off168_inb : ∀ (v6689 : BitVec 32) (k0_hw291 : k0_chk291 v6689), ∀ a, (k0_off168 v6689) a + S1x64.size a ≤ S1000000x64.size a := fun v6689 k0_hw291 => k0_hw291

def k0_off169 (v6699 : BitVec 32) : Fin 2 → Nat :=
  let c0_i32_4975 : BitVec 32 := 0#32
  ![v6699.toNat, 0]

def k0_chk292 (v6699 : BitVec 32) : Prop :=
  (∀ a, (k0_off169 v6699) a + S1x64.size a ≤ S100000x64.size a)
theorem k0_off169_inb : ∀ (v6699 : BitVec 32) (k0_hw292 : k0_chk292 v6699), ∀ a, (k0_off169 v6699) a + S1x64.size a ≤ S100000x64.size a := fun v6699 k0_hw292 => k0_hw292

def k0_off170 (v6709 : BitVec 32) : Fin 2 → Nat :=
  let c0_i32_4981 : BitVec 32 := 0#32
  ![v6709.toNat, 0]

def k0_chk293 (v6709 : BitVec 32) : Prop :=
  (∀ a, (k0_off170 v6709) a + S1x64.size a ≤ S1000000x64.size a)
theorem k0_off170_inb : ∀ (v6709 : BitVec 32) (k0_hw293 : k0_chk293 v6709), ∀ a, (k0_off170 v6709) a + S1x64.size a ≤ S1000000x64.size a := fun v6709 k0_hw293 => k0_hw293

def k0_off171 (v6719 : BitVec 32) : Fin 2 → Nat :=
  let c0_i32_4987 : BitVec 32 := 0#32
  ![v6719.toNat, 0]

def k0_chk294 (v6719 : BitVec 32) : Prop :=
  (∀ a, (k0_off171 v6719) a + S1x64.size a ≤ S100000x64.size a)
theorem k0_off171_inb : ∀ (v6719 : BitVec 32) (k0_hw294 : k0_chk294 v6719), ∀ a, (k0_off171 v6719) a + S1x64.size a ≤ S100000x64.size a := fun v6719 k0_hw294 => k0_hw294

def k0_off172 (v6729 : BitVec 32) : Fin 2 → Nat :=
  let c0_i32_4993 : BitVec 32 := 0#32
  ![v6729.toNat, 0]

def k0_chk295 (v6729 : BitVec 32) : Prop :=
  (∀ a, (k0_off172 v6729) a + S1x64.size a ≤ S1000000x64.size a)
theorem k0_off172_inb : ∀ (v6729 : BitVec 32) (k0_hw295 : k0_chk295 v6729), ∀ a, (k0_off172 v6729) a + S1x64.size a ≤ S1000000x64.size a := fun v6729 k0_hw295 => k0_hw295

def k0_off173 (v6739 : BitVec 32) : Fin 2 → Nat :=
  let c0_i32_4999 : BitVec 32 := 0#32
  ![v6739.toNat, 0]

def k0_chk296 (v6739 : BitVec 32) : Prop :=
  (∀ a, (k0_off173 v6739) a + S1x64.size a ≤ S100000x64.size a)
theorem k0_off173_inb : ∀ (v6739 : BitVec 32) (k0_hw296 : k0_chk296 v6739), ∀ a, (k0_off173 v6739) a + S1x64.size a ≤ S100000x64.size a := fun v6739 k0_hw296 => k0_hw296

def k0_off174 (v6749 : BitVec 32) : Fin 2 → Nat :=
  let c0_i32_5005 : BitVec 32 := 0#32
  ![v6749.toNat, 0]

def k0_chk297 (v6749 : BitVec 32) : Prop :=
  (∀ a, (k0_off174 v6749) a + S1x64.size a ≤ S1000000x64.size a)
theorem k0_off174_inb : ∀ (v6749 : BitVec 32) (k0_hw297 : k0_chk297 v6749), ∀ a, (k0_off174 v6749) a + S1x64.size a ≤ S1000000x64.size a := fun v6749 k0_hw297 => k0_hw297

def k0_off175 (v6759 : BitVec 32) : Fin 2 → Nat :=
  let c0_i32_5011 : BitVec 32 := 0#32
  ![v6759.toNat, 0]

def k0_chk298 (v6759 : BitVec 32) : Prop :=
  (∀ a, (k0_off175 v6759) a + S1x64.size a ≤ S100000x64.size a)
theorem k0_off175_inb : ∀ (v6759 : BitVec 32) (k0_hw298 : k0_chk298 v6759), ∀ a, (k0_off175 v6759) a + S1x64.size a ≤ S100000x64.size a := fun v6759 k0_hw298 => k0_hw298

def k0_off176 (v6769 : BitVec 32) : Fin 2 → Nat :=
  let c0_i32_5017 : BitVec 32 := 0#32
  ![v6769.toNat, 0]

def k0_chk299 (v6769 : BitVec 32) : Prop :=
  (∀ a, (k0_off176 v6769) a + S1x64.size a ≤ S1000000x64.size a)
theorem k0_off176_inb : ∀ (v6769 : BitVec 32) (k0_hw299 : k0_chk299 v6769), ∀ a, (k0_off176 v6769) a + S1x64.size a ≤ S1000000x64.size a := fun v6769 k0_hw299 => k0_hw299

def k0_off177 (v6779 : BitVec 32) : Fin 2 → Nat :=
  let c0_i32_5023 : BitVec 32 := 0#32
  ![v6779.toNat, 0]

def k0_chk300 (v6779 : BitVec 32) : Prop :=
  (∀ a, (k0_off177 v6779) a + S1x64.size a ≤ S100000x64.size a)
theorem k0_off177_inb : ∀ (v6779 : BitVec 32) (k0_hw300 : k0_chk300 v6779), ∀ a, (k0_off177 v6779) a + S1x64.size a ≤ S100000x64.size a := fun v6779 k0_hw300 => k0_hw300

def k0_off178 (v6789 : BitVec 32) : Fin 2 → Nat :=
  let c0_i32_5029 : BitVec 32 := 0#32
  ![v6789.toNat, 0]

def k0_chk301 (v6789 : BitVec 32) : Prop :=
  (∀ a, (k0_off178 v6789) a + S1x64.size a ≤ S1000000x64.size a)
theorem k0_off178_inb : ∀ (v6789 : BitVec 32) (k0_hw301 : k0_chk301 v6789), ∀ a, (k0_off178 v6789) a + S1x64.size a ≤ S1000000x64.size a := fun v6789 k0_hw301 => k0_hw301

def k0_off179 (v6799 : BitVec 32) : Fin 2 → Nat :=
  let c0_i32_5035 : BitVec 32 := 0#32
  ![v6799.toNat, 0]

def k0_chk302 (v6799 : BitVec 32) : Prop :=
  (∀ a, (k0_off179 v6799) a + S1x64.size a ≤ S100000x64.size a)
theorem k0_off179_inb : ∀ (v6799 : BitVec 32) (k0_hw302 : k0_chk302 v6799), ∀ a, (k0_off179 v6799) a + S1x64.size a ≤ S100000x64.size a := fun v6799 k0_hw302 => k0_hw302

def k0_off180 (v6809 : BitVec 32) : Fin 2 → Nat :=
  let c0_i32_5041 : BitVec 32 := 0#32
  ![v6809.toNat, 0]

def k0_chk303 (v6809 : BitVec 32) : Prop :=
  (∀ a, (k0_off180 v6809) a + S1x64.size a ≤ S1000000x64.size a)
theorem k0_off180_inb : ∀ (v6809 : BitVec 32) (k0_hw303 : k0_chk303 v6809), ∀ a, (k0_off180 v6809) a + S1x64.size a ≤ S1000000x64.size a := fun v6809 k0_hw303 => k0_hw303

def k0_off181 (v6819 : BitVec 32) : Fin 2 → Nat :=
  let c0_i32_5047 : BitVec 32 := 0#32
  ![v6819.toNat, 0]

def k0_chk304 (v6819 : BitVec 32) : Prop :=
  (∀ a, (k0_off181 v6819) a + S1x64.size a ≤ S100000x64.size a)
theorem k0_off181_inb : ∀ (v6819 : BitVec 32) (k0_hw304 : k0_chk304 v6819), ∀ a, (k0_off181 v6819) a + S1x64.size a ≤ S100000x64.size a := fun v6819 k0_hw304 => k0_hw304

def k0_off182 (v6829 : BitVec 32) : Fin 2 → Nat :=
  let c0_i32_5053 : BitVec 32 := 0#32
  ![v6829.toNat, 0]

def k0_chk305 (v6829 : BitVec 32) : Prop :=
  (∀ a, (k0_off182 v6829) a + S1x64.size a ≤ S1000000x64.size a)
theorem k0_off182_inb : ∀ (v6829 : BitVec 32) (k0_hw305 : k0_chk305 v6829), ∀ a, (k0_off182 v6829) a + S1x64.size a ≤ S1000000x64.size a := fun v6829 k0_hw305 => k0_hw305

def k0_off183 (v6839 : BitVec 32) : Fin 2 → Nat :=
  let c0_i32_5059 : BitVec 32 := 0#32
  ![v6839.toNat, 0]

def k0_chk306 (v6839 : BitVec 32) : Prop :=
  (∀ a, (k0_off183 v6839) a + S1x64.size a ≤ S100000x64.size a)
theorem k0_off183_inb : ∀ (v6839 : BitVec 32) (k0_hw306 : k0_chk306 v6839), ∀ a, (k0_off183 v6839) a + S1x64.size a ≤ S100000x64.size a := fun v6839 k0_hw306 => k0_hw306

def k0_off184 (v6849 : BitVec 32) : Fin 2 → Nat :=
  let c0_i32_5065 : BitVec 32 := 0#32
  ![v6849.toNat, 0]

def k0_chk307 (v6849 : BitVec 32) : Prop :=
  (∀ a, (k0_off184 v6849) a + S1x64.size a ≤ S1000000x64.size a)
theorem k0_off184_inb : ∀ (v6849 : BitVec 32) (k0_hw307 : k0_chk307 v6849), ∀ a, (k0_off184 v6849) a + S1x64.size a ≤ S1000000x64.size a := fun v6849 k0_hw307 => k0_hw307

def k0_off185 (v6859 : BitVec 32) : Fin 2 → Nat :=
  let c0_i32_5071 : BitVec 32 := 0#32
  ![v6859.toNat, 0]

def k0_chk308 (v6859 : BitVec 32) : Prop :=
  (∀ a, (k0_off185 v6859) a + S1x64.size a ≤ S100000x64.size a)
theorem k0_off185_inb : ∀ (v6859 : BitVec 32) (k0_hw308 : k0_chk308 v6859), ∀ a, (k0_off185 v6859) a + S1x64.size a ≤ S100000x64.size a := fun v6859 k0_hw308 => k0_hw308

def k0_off186 (v6869 : BitVec 32) : Fin 2 → Nat :=
  let c0_i32_5077 : BitVec 32 := 0#32
  ![v6869.toNat, 0]

def k0_chk309 (v6869 : BitVec 32) : Prop :=
  (∀ a, (k0_off186 v6869) a + S1x64.size a ≤ S1000000x64.size a)
theorem k0_off186_inb : ∀ (v6869 : BitVec 32) (k0_hw309 : k0_chk309 v6869), ∀ a, (k0_off186 v6869) a + S1x64.size a ≤ S1000000x64.size a := fun v6869 k0_hw309 => k0_hw309

def k0_off187 (v6879 : BitVec 32) : Fin 2 → Nat :=
  let c0_i32_5083 : BitVec 32 := 0#32
  ![v6879.toNat, 0]

def k0_chk310 (v6879 : BitVec 32) : Prop :=
  (∀ a, (k0_off187 v6879) a + S1x64.size a ≤ S100000x64.size a)
theorem k0_off187_inb : ∀ (v6879 : BitVec 32) (k0_hw310 : k0_chk310 v6879), ∀ a, (k0_off187 v6879) a + S1x64.size a ≤ S100000x64.size a := fun v6879 k0_hw310 => k0_hw310

def k0_off188 (v6889 : BitVec 32) : Fin 2 → Nat :=
  let c0_i32_5089 : BitVec 32 := 0#32
  ![v6889.toNat, 0]

def k0_chk311 (v6889 : BitVec 32) : Prop :=
  (∀ a, (k0_off188 v6889) a + S1x64.size a ≤ S1000000x64.size a)
theorem k0_off188_inb : ∀ (v6889 : BitVec 32) (k0_hw311 : k0_chk311 v6889), ∀ a, (k0_off188 v6889) a + S1x64.size a ≤ S1000000x64.size a := fun v6889 k0_hw311 => k0_hw311

def k0_off189 (v6899 : BitVec 32) : Fin 2 → Nat :=
  let c0_i32_5095 : BitVec 32 := 0#32
  ![v6899.toNat, 0]

def k0_chk312 (v6899 : BitVec 32) : Prop :=
  (∀ a, (k0_off189 v6899) a + S1x64.size a ≤ S100000x64.size a)
theorem k0_off189_inb : ∀ (v6899 : BitVec 32) (k0_hw312 : k0_chk312 v6899), ∀ a, (k0_off189 v6899) a + S1x64.size a ≤ S100000x64.size a := fun v6899 k0_hw312 => k0_hw312

def k0_off190 (v6909 : BitVec 32) : Fin 2 → Nat :=
  let c0_i32_5101 : BitVec 32 := 0#32
  ![v6909.toNat, 0]

def k0_chk313 (v6909 : BitVec 32) : Prop :=
  (∀ a, (k0_off190 v6909) a + S1x64.size a ≤ S1000000x64.size a)
theorem k0_off190_inb : ∀ (v6909 : BitVec 32) (k0_hw313 : k0_chk313 v6909), ∀ a, (k0_off190 v6909) a + S1x64.size a ≤ S1000000x64.size a := fun v6909 k0_hw313 => k0_hw313

def k0_off191 (v6919 : BitVec 32) : Fin 2 → Nat :=
  let c0_i32_5107 : BitVec 32 := 0#32
  ![v6919.toNat, 0]

def k0_chk314 (v6919 : BitVec 32) : Prop :=
  (∀ a, (k0_off191 v6919) a + S1x64.size a ≤ S100000x64.size a)
theorem k0_off191_inb : ∀ (v6919 : BitVec 32) (k0_hw314 : k0_chk314 v6919), ∀ a, (k0_off191 v6919) a + S1x64.size a ≤ S100000x64.size a := fun v6919 k0_hw314 => k0_hw314

def k0_off192 (v6929 : BitVec 32) : Fin 2 → Nat :=
  let c0_i32_5113 : BitVec 32 := 0#32
  ![v6929.toNat, 0]

def k0_chk315 (v6929 : BitVec 32) : Prop :=
  (∀ a, (k0_off192 v6929) a + S1x64.size a ≤ S1000000x64.size a)
theorem k0_off192_inb : ∀ (v6929 : BitVec 32) (k0_hw315 : k0_chk315 v6929), ∀ a, (k0_off192 v6929) a + S1x64.size a ≤ S1000000x64.size a := fun v6929 k0_hw315 => k0_hw315

def k0_off193 (v6939 : BitVec 32) : Fin 2 → Nat :=
  let c0_i32_5119 : BitVec 32 := 0#32
  ![v6939.toNat, 0]

def k0_chk316 (v6939 : BitVec 32) : Prop :=
  (∀ a, (k0_off193 v6939) a + S1x64.size a ≤ S100000x64.size a)
theorem k0_off193_inb : ∀ (v6939 : BitVec 32) (k0_hw316 : k0_chk316 v6939), ∀ a, (k0_off193 v6939) a + S1x64.size a ≤ S100000x64.size a := fun v6939 k0_hw316 => k0_hw316

def k0_off194 (v6949 : BitVec 32) : Fin 2 → Nat :=
  let c0_i32_5125 : BitVec 32 := 0#32
  ![v6949.toNat, 0]

def k0_chk317 (v6949 : BitVec 32) : Prop :=
  (∀ a, (k0_off194 v6949) a + S1x64.size a ≤ S1000000x64.size a)
theorem k0_off194_inb : ∀ (v6949 : BitVec 32) (k0_hw317 : k0_chk317 v6949), ∀ a, (k0_off194 v6949) a + S1x64.size a ≤ S1000000x64.size a := fun v6949 k0_hw317 => k0_hw317

def k0_off195 (v6959 : BitVec 32) : Fin 2 → Nat :=
  let c0_i32_5131 : BitVec 32 := 0#32
  ![v6959.toNat, 0]

def k0_chk318 (v6959 : BitVec 32) : Prop :=
  (∀ a, (k0_off195 v6959) a + S1x64.size a ≤ S100000x64.size a)
theorem k0_off195_inb : ∀ (v6959 : BitVec 32) (k0_hw318 : k0_chk318 v6959), ∀ a, (k0_off195 v6959) a + S1x64.size a ≤ S100000x64.size a := fun v6959 k0_hw318 => k0_hw318

def k0_off196 (v6969 : BitVec 32) : Fin 2 → Nat :=
  let c0_i32_5137 : BitVec 32 := 0#32
  ![v6969.toNat, 0]

def k0_chk319 (v6969 : BitVec 32) : Prop :=
  (∀ a, (k0_off196 v6969) a + S1x64.size a ≤ S1000000x64.size a)
theorem k0_off196_inb : ∀ (v6969 : BitVec 32) (k0_hw319 : k0_chk319 v6969), ∀ a, (k0_off196 v6969) a + S1x64.size a ≤ S1000000x64.size a := fun v6969 k0_hw319 => k0_hw319

def k0_off197 (v6979 : BitVec 32) : Fin 2 → Nat :=
  let c0_i32_5143 : BitVec 32 := 0#32
  ![v6979.toNat, 0]

def k0_chk320 (v6979 : BitVec 32) : Prop :=
  (∀ a, (k0_off197 v6979) a + S1x64.size a ≤ S100000x64.size a)
theorem k0_off197_inb : ∀ (v6979 : BitVec 32) (k0_hw320 : k0_chk320 v6979), ∀ a, (k0_off197 v6979) a + S1x64.size a ≤ S100000x64.size a := fun v6979 k0_hw320 => k0_hw320

def k0_mult9 (k0_t1 : Fin k0_t1_loop.trips) : BitVec 32 :=
  let c0_i32_3405 : BitVec 32 := 0#32
  let c0_i32_754 : BitVec 32 := 0#32
  let c1_i32_756 : BitVec 32 := 1#32
  let arg16 : BitVec 32 := Scf.iv c0_i32_754 c1_i32_756 k0_t1
  let c4_i32_3404 : BitVec 32 := 4#32
  let v4652 : BitVec 32 := Scalar.muli arg16 c4_i32_3404
  let v4653 : BitVec 32 := Scalar.addi c0_i32_3405 v4652
  let c2_i32_5370 : BitVec 32 := 2#32
  let v7244 : BitVec 32 := Scalar.addi v4653 c2_i32_5370
  let c16_i32_5371 : BitVec 32 := 16#32
  let v7245 : BitVec 32 := Scalar.muli v7244 c16_i32_5371
  v7245

def k0_chk321 (v7247 : IVec S16 32) (v7249 : IVec S16 32) : Prop :=
  (∀ a x, ((![v7247, v7249] : Fin 2 → IVec S16 32) a x).toNat < S16x64.size a) ∧
  (∀ a x, ((![v7247, v7249] : Fin 2 → IVec S16 32) a x).toNat < S16x64.size a)
theorem k0_idx257_inb : ∀ (v7247 : IVec S16 32) (v7249 : IVec S16 32) (k0_hw321 : k0_chk321 v7247 v7249), ∀ a x, ((![v7247, v7249] : Fin 2 → IVec S16 32) a x).toNat < S16x64.size a := fun v7247 v7249 k0_hw321 => k0_hw321.1
theorem k0_idx258_inb : ∀ (v7247 : IVec S16 32) (v7249 : IVec S16 32) (k0_hw321 : k0_chk321 v7247 v7249), ∀ a x, ((![v7247, v7249] : Fin 2 → IVec S16 32) a x).toNat < S16x64.size a := fun v7247 v7249 k0_hw321 => k0_hw321.2

def k0_chk322 (v7247 : IVec S16 32) (v7258 : IVec S16 32) : Prop :=
  (∀ a x, ((![v7247, v7258] : Fin 2 → IVec S16 32) a x).toNat < S16x64.size a) ∧
  (∀ a x, ((![v7247, v7258] : Fin 2 → IVec S16 32) a x).toNat < S16x64.size a)
theorem k0_idx259_inb : ∀ (v7247 : IVec S16 32) (v7258 : IVec S16 32) (k0_hw322 : k0_chk322 v7247 v7258), ∀ a x, ((![v7247, v7258] : Fin 2 → IVec S16 32) a x).toNat < S16x64.size a := fun v7247 v7258 k0_hw322 => k0_hw322.1
theorem k0_idx260_inb : ∀ (v7247 : IVec S16 32) (v7258 : IVec S16 32) (k0_hw322 : k0_chk322 v7247 v7258), ∀ a x, ((![v7247, v7258] : Fin 2 → IVec S16 32) a x).toNat < S16x64.size a := fun v7247 v7258 k0_hw322 => k0_hw322.2

def k0_chk323 (v7247 : IVec S16 32) (v7267 : IVec S16 32) : Prop :=
  (∀ a x, ((![v7247, v7267] : Fin 2 → IVec S16 32) a x).toNat < S16x64.size a) ∧
  (∀ a x, ((![v7247, v7267] : Fin 2 → IVec S16 32) a x).toNat < S16x64.size a)
theorem k0_idx261_inb : ∀ (v7247 : IVec S16 32) (v7267 : IVec S16 32) (k0_hw323 : k0_chk323 v7247 v7267), ∀ a x, ((![v7247, v7267] : Fin 2 → IVec S16 32) a x).toNat < S16x64.size a := fun v7247 v7267 k0_hw323 => k0_hw323.1
theorem k0_idx262_inb : ∀ (v7247 : IVec S16 32) (v7267 : IVec S16 32) (k0_hw323 : k0_chk323 v7247 v7267), ∀ a x, ((![v7247, v7267] : Fin 2 → IVec S16 32) a x).toNat < S16x64.size a := fun v7247 v7267 k0_hw323 => k0_hw323.2

def k0_chk324 (v7247 : IVec S16 32) (v7276 : IVec S16 32) : Prop :=
  (∀ a x, ((![v7247, v7276] : Fin 2 → IVec S16 32) a x).toNat < S16x64.size a) ∧
  (∀ a x, ((![v7247, v7276] : Fin 2 → IVec S16 32) a x).toNat < S16x64.size a)
theorem k0_idx263_inb : ∀ (v7247 : IVec S16 32) (v7276 : IVec S16 32) (k0_hw324 : k0_chk324 v7247 v7276), ∀ a x, ((![v7247, v7276] : Fin 2 → IVec S16 32) a x).toNat < S16x64.size a := fun v7247 v7276 k0_hw324 => k0_hw324.1
theorem k0_idx264_inb : ∀ (v7247 : IVec S16 32) (v7276 : IVec S16 32) (k0_hw324 : k0_chk324 v7247 v7276), ∀ a x, ((![v7247, v7276] : Fin 2 → IVec S16 32) a x).toNat < S16x64.size a := fun v7247 v7276 k0_hw324 => k0_hw324.2

def k0_chk325 (v7247 : IVec S16 32) (v7285 : IVec S16 32) : Prop :=
  (∀ a x, ((![v7247, v7285] : Fin 2 → IVec S16 32) a x).toNat < S16x64.size a) ∧
  (∀ a x, ((![v7247, v7285] : Fin 2 → IVec S16 32) a x).toNat < S16x64.size a)
theorem k0_idx265_inb : ∀ (v7247 : IVec S16 32) (v7285 : IVec S16 32) (k0_hw325 : k0_chk325 v7247 v7285), ∀ a x, ((![v7247, v7285] : Fin 2 → IVec S16 32) a x).toNat < S16x64.size a := fun v7247 v7285 k0_hw325 => k0_hw325.1
theorem k0_idx266_inb : ∀ (v7247 : IVec S16 32) (v7285 : IVec S16 32) (k0_hw325 : k0_chk325 v7247 v7285), ∀ a x, ((![v7247, v7285] : Fin 2 → IVec S16 32) a x).toNat < S16x64.size a := fun v7247 v7285 k0_hw325 => k0_hw325.2

def k0_chk326 (v7247 : IVec S16 32) (v7294 : IVec S16 32) : Prop :=
  (∀ a x, ((![v7247, v7294] : Fin 2 → IVec S16 32) a x).toNat < S16x64.size a) ∧
  (∀ a x, ((![v7247, v7294] : Fin 2 → IVec S16 32) a x).toNat < S16x64.size a)
theorem k0_idx267_inb : ∀ (v7247 : IVec S16 32) (v7294 : IVec S16 32) (k0_hw326 : k0_chk326 v7247 v7294), ∀ a x, ((![v7247, v7294] : Fin 2 → IVec S16 32) a x).toNat < S16x64.size a := fun v7247 v7294 k0_hw326 => k0_hw326.1
theorem k0_idx268_inb : ∀ (v7247 : IVec S16 32) (v7294 : IVec S16 32) (k0_hw326 : k0_chk326 v7247 v7294), ∀ a x, ((![v7247, v7294] : Fin 2 → IVec S16 32) a x).toNat < S16x64.size a := fun v7247 v7294 k0_hw326 => k0_hw326.2

def k0_chk327 (v7247 : IVec S16 32) (v7303 : IVec S16 32) : Prop :=
  (∀ a x, ((![v7247, v7303] : Fin 2 → IVec S16 32) a x).toNat < S16x64.size a) ∧
  (∀ a x, ((![v7247, v7303] : Fin 2 → IVec S16 32) a x).toNat < S16x64.size a)
theorem k0_idx269_inb : ∀ (v7247 : IVec S16 32) (v7303 : IVec S16 32) (k0_hw327 : k0_chk327 v7247 v7303), ∀ a x, ((![v7247, v7303] : Fin 2 → IVec S16 32) a x).toNat < S16x64.size a := fun v7247 v7303 k0_hw327 => k0_hw327.1
theorem k0_idx270_inb : ∀ (v7247 : IVec S16 32) (v7303 : IVec S16 32) (k0_hw327 : k0_chk327 v7247 v7303), ∀ a x, ((![v7247, v7303] : Fin 2 → IVec S16 32) a x).toNat < S16x64.size a := fun v7247 v7303 k0_hw327 => k0_hw327.2

def k0_chk328 (v7247 : IVec S16 32) (v7312 : IVec S16 32) : Prop :=
  (∀ a x, ((![v7247, v7312] : Fin 2 → IVec S16 32) a x).toNat < S16x64.size a) ∧
  (∀ a x, ((![v7247, v7312] : Fin 2 → IVec S16 32) a x).toNat < S16x64.size a)
theorem k0_idx271_inb : ∀ (v7247 : IVec S16 32) (v7312 : IVec S16 32) (k0_hw328 : k0_chk328 v7247 v7312), ∀ a x, ((![v7247, v7312] : Fin 2 → IVec S16 32) a x).toNat < S16x64.size a := fun v7247 v7312 k0_hw328 => k0_hw328.1
theorem k0_idx272_inb : ∀ (v7247 : IVec S16 32) (v7312 : IVec S16 32) (k0_hw328 : k0_chk328 v7247 v7312), ∀ a x, ((![v7247, v7312] : Fin 2 → IVec S16 32) a x).toNat < S16x64.size a := fun v7247 v7312 k0_hw328 => k0_hw328.2

def k0_chk329 (v7247 : IVec S16 32) (v7321 : IVec S16 32) : Prop :=
  (∀ a x, ((![v7247, v7321] : Fin 2 → IVec S16 32) a x).toNat < S16x64.size a) ∧
  (∀ a x, ((![v7247, v7321] : Fin 2 → IVec S16 32) a x).toNat < S16x64.size a)
theorem k0_idx273_inb : ∀ (v7247 : IVec S16 32) (v7321 : IVec S16 32) (k0_hw329 : k0_chk329 v7247 v7321), ∀ a x, ((![v7247, v7321] : Fin 2 → IVec S16 32) a x).toNat < S16x64.size a := fun v7247 v7321 k0_hw329 => k0_hw329.1
theorem k0_idx274_inb : ∀ (v7247 : IVec S16 32) (v7321 : IVec S16 32) (k0_hw329 : k0_chk329 v7247 v7321), ∀ a x, ((![v7247, v7321] : Fin 2 → IVec S16 32) a x).toNat < S16x64.size a := fun v7247 v7321 k0_hw329 => k0_hw329.2

def k0_chk330 (v7247 : IVec S16 32) (v7330 : IVec S16 32) : Prop :=
  (∀ a x, ((![v7247, v7330] : Fin 2 → IVec S16 32) a x).toNat < S16x64.size a) ∧
  (∀ a x, ((![v7247, v7330] : Fin 2 → IVec S16 32) a x).toNat < S16x64.size a)
theorem k0_idx275_inb : ∀ (v7247 : IVec S16 32) (v7330 : IVec S16 32) (k0_hw330 : k0_chk330 v7247 v7330), ∀ a x, ((![v7247, v7330] : Fin 2 → IVec S16 32) a x).toNat < S16x64.size a := fun v7247 v7330 k0_hw330 => k0_hw330.1
theorem k0_idx276_inb : ∀ (v7247 : IVec S16 32) (v7330 : IVec S16 32) (k0_hw330 : k0_chk330 v7247 v7330), ∀ a x, ((![v7247, v7330] : Fin 2 → IVec S16 32) a x).toNat < S16x64.size a := fun v7247 v7330 k0_hw330 => k0_hw330.2

def k0_chk331 (v7247 : IVec S16 32) (v7339 : IVec S16 32) : Prop :=
  (∀ a x, ((![v7247, v7339] : Fin 2 → IVec S16 32) a x).toNat < S16x64.size a) ∧
  (∀ a x, ((![v7247, v7339] : Fin 2 → IVec S16 32) a x).toNat < S16x64.size a)
theorem k0_idx277_inb : ∀ (v7247 : IVec S16 32) (v7339 : IVec S16 32) (k0_hw331 : k0_chk331 v7247 v7339), ∀ a x, ((![v7247, v7339] : Fin 2 → IVec S16 32) a x).toNat < S16x64.size a := fun v7247 v7339 k0_hw331 => k0_hw331.1
theorem k0_idx278_inb : ∀ (v7247 : IVec S16 32) (v7339 : IVec S16 32) (k0_hw331 : k0_chk331 v7247 v7339), ∀ a x, ((![v7247, v7339] : Fin 2 → IVec S16 32) a x).toNat < S16x64.size a := fun v7247 v7339 k0_hw331 => k0_hw331.2

def k0_chk332 (v7247 : IVec S16 32) (v7348 : IVec S16 32) : Prop :=
  (∀ a x, ((![v7247, v7348] : Fin 2 → IVec S16 32) a x).toNat < S16x64.size a) ∧
  (∀ a x, ((![v7247, v7348] : Fin 2 → IVec S16 32) a x).toNat < S16x64.size a)
theorem k0_idx279_inb : ∀ (v7247 : IVec S16 32) (v7348 : IVec S16 32) (k0_hw332 : k0_chk332 v7247 v7348), ∀ a x, ((![v7247, v7348] : Fin 2 → IVec S16 32) a x).toNat < S16x64.size a := fun v7247 v7348 k0_hw332 => k0_hw332.1
theorem k0_idx280_inb : ∀ (v7247 : IVec S16 32) (v7348 : IVec S16 32) (k0_hw332 : k0_chk332 v7247 v7348), ∀ a x, ((![v7247, v7348] : Fin 2 → IVec S16 32) a x).toNat < S16x64.size a := fun v7247 v7348 k0_hw332 => k0_hw332.2

def k0_chk333 (v7247 : IVec S16 32) (v7357 : IVec S16 32) : Prop :=
  (∀ a x, ((![v7247, v7357] : Fin 2 → IVec S16 32) a x).toNat < S16x64.size a) ∧
  (∀ a x, ((![v7247, v7357] : Fin 2 → IVec S16 32) a x).toNat < S16x64.size a)
theorem k0_idx281_inb : ∀ (v7247 : IVec S16 32) (v7357 : IVec S16 32) (k0_hw333 : k0_chk333 v7247 v7357), ∀ a x, ((![v7247, v7357] : Fin 2 → IVec S16 32) a x).toNat < S16x64.size a := fun v7247 v7357 k0_hw333 => k0_hw333.1
theorem k0_idx282_inb : ∀ (v7247 : IVec S16 32) (v7357 : IVec S16 32) (k0_hw333 : k0_chk333 v7247 v7357), ∀ a x, ((![v7247, v7357] : Fin 2 → IVec S16 32) a x).toNat < S16x64.size a := fun v7247 v7357 k0_hw333 => k0_hw333.2

def k0_chk334 (v7247 : IVec S16 32) (v7366 : IVec S16 32) : Prop :=
  (∀ a x, ((![v7247, v7366] : Fin 2 → IVec S16 32) a x).toNat < S16x64.size a) ∧
  (∀ a x, ((![v7247, v7366] : Fin 2 → IVec S16 32) a x).toNat < S16x64.size a)
theorem k0_idx283_inb : ∀ (v7247 : IVec S16 32) (v7366 : IVec S16 32) (k0_hw334 : k0_chk334 v7247 v7366), ∀ a x, ((![v7247, v7366] : Fin 2 → IVec S16 32) a x).toNat < S16x64.size a := fun v7247 v7366 k0_hw334 => k0_hw334.1
theorem k0_idx284_inb : ∀ (v7247 : IVec S16 32) (v7366 : IVec S16 32) (k0_hw334 : k0_chk334 v7247 v7366), ∀ a x, ((![v7247, v7366] : Fin 2 → IVec S16 32) a x).toNat < S16x64.size a := fun v7247 v7366 k0_hw334 => k0_hw334.2

def k0_chk335 (v7247 : IVec S16 32) (v7375 : IVec S16 32) : Prop :=
  (∀ a x, ((![v7247, v7375] : Fin 2 → IVec S16 32) a x).toNat < S16x64.size a) ∧
  (∀ a x, ((![v7247, v7375] : Fin 2 → IVec S16 32) a x).toNat < S16x64.size a)
theorem k0_idx285_inb : ∀ (v7247 : IVec S16 32) (v7375 : IVec S16 32) (k0_hw335 : k0_chk335 v7247 v7375), ∀ a x, ((![v7247, v7375] : Fin 2 → IVec S16 32) a x).toNat < S16x64.size a := fun v7247 v7375 k0_hw335 => k0_hw335.1
theorem k0_idx286_inb : ∀ (v7247 : IVec S16 32) (v7375 : IVec S16 32) (k0_hw335 : k0_chk335 v7247 v7375), ∀ a x, ((![v7247, v7375] : Fin 2 → IVec S16 32) a x).toNat < S16x64.size a := fun v7247 v7375 k0_hw335 => k0_hw335.2

def k0_chk336 (v7247 : IVec S16 32) (v7384 : IVec S16 32) : Prop :=
  (∀ a x, ((![v7247, v7384] : Fin 2 → IVec S16 32) a x).toNat < S16x64.size a) ∧
  (∀ a x, ((![v7247, v7384] : Fin 2 → IVec S16 32) a x).toNat < S16x64.size a)
theorem k0_idx287_inb : ∀ (v7247 : IVec S16 32) (v7384 : IVec S16 32) (k0_hw336 : k0_chk336 v7247 v7384), ∀ a x, ((![v7247, v7384] : Fin 2 → IVec S16 32) a x).toNat < S16x64.size a := fun v7247 v7384 k0_hw336 => k0_hw336.1
theorem k0_idx288_inb : ∀ (v7247 : IVec S16 32) (v7384 : IVec S16 32) (k0_hw336 : k0_chk336 v7247 v7384), ∀ a x, ((![v7247, v7384] : Fin 2 → IVec S16 32) a x).toNat < S16x64.size a := fun v7247 v7384 k0_hw336 => k0_hw336.2

def k0_chk337 (v7247 : IVec S16 32) (v7393 : IVec S16 32) : Prop :=
  (∀ a x, ((![v7247, v7393] : Fin 2 → IVec S16 32) a x).toNat < S16x64.size a) ∧
  (∀ a x, ((![v7247, v7393] : Fin 2 → IVec S16 32) a x).toNat < S16x64.size a)
theorem k0_idx289_inb : ∀ (v7247 : IVec S16 32) (v7393 : IVec S16 32) (k0_hw337 : k0_chk337 v7247 v7393), ∀ a x, ((![v7247, v7393] : Fin 2 → IVec S16 32) a x).toNat < S16x64.size a := fun v7247 v7393 k0_hw337 => k0_hw337.1
theorem k0_idx290_inb : ∀ (v7247 : IVec S16 32) (v7393 : IVec S16 32) (k0_hw337 : k0_chk337 v7247 v7393), ∀ a x, ((![v7247, v7393] : Fin 2 → IVec S16 32) a x).toNat < S16x64.size a := fun v7247 v7393 k0_hw337 => k0_hw337.2

def k0_chk338 (v7247 : IVec S16 32) (v7402 : IVec S16 32) : Prop :=
  (∀ a x, ((![v7247, v7402] : Fin 2 → IVec S16 32) a x).toNat < S16x64.size a) ∧
  (∀ a x, ((![v7247, v7402] : Fin 2 → IVec S16 32) a x).toNat < S16x64.size a)
theorem k0_idx291_inb : ∀ (v7247 : IVec S16 32) (v7402 : IVec S16 32) (k0_hw338 : k0_chk338 v7247 v7402), ∀ a x, ((![v7247, v7402] : Fin 2 → IVec S16 32) a x).toNat < S16x64.size a := fun v7247 v7402 k0_hw338 => k0_hw338.1
theorem k0_idx292_inb : ∀ (v7247 : IVec S16 32) (v7402 : IVec S16 32) (k0_hw338 : k0_chk338 v7247 v7402), ∀ a x, ((![v7247, v7402] : Fin 2 → IVec S16 32) a x).toNat < S16x64.size a := fun v7247 v7402 k0_hw338 => k0_hw338.2

def k0_chk339 (v7247 : IVec S16 32) (v7411 : IVec S16 32) : Prop :=
  (∀ a x, ((![v7247, v7411] : Fin 2 → IVec S16 32) a x).toNat < S16x64.size a) ∧
  (∀ a x, ((![v7247, v7411] : Fin 2 → IVec S16 32) a x).toNat < S16x64.size a)
theorem k0_idx293_inb : ∀ (v7247 : IVec S16 32) (v7411 : IVec S16 32) (k0_hw339 : k0_chk339 v7247 v7411), ∀ a x, ((![v7247, v7411] : Fin 2 → IVec S16 32) a x).toNat < S16x64.size a := fun v7247 v7411 k0_hw339 => k0_hw339.1
theorem k0_idx294_inb : ∀ (v7247 : IVec S16 32) (v7411 : IVec S16 32) (k0_hw339 : k0_chk339 v7247 v7411), ∀ a x, ((![v7247, v7411] : Fin 2 → IVec S16 32) a x).toNat < S16x64.size a := fun v7247 v7411 k0_hw339 => k0_hw339.2

def k0_chk340 (v7247 : IVec S16 32) (v7420 : IVec S16 32) : Prop :=
  (∀ a x, ((![v7247, v7420] : Fin 2 → IVec S16 32) a x).toNat < S16x64.size a) ∧
  (∀ a x, ((![v7247, v7420] : Fin 2 → IVec S16 32) a x).toNat < S16x64.size a)
theorem k0_idx295_inb : ∀ (v7247 : IVec S16 32) (v7420 : IVec S16 32) (k0_hw340 : k0_chk340 v7247 v7420), ∀ a x, ((![v7247, v7420] : Fin 2 → IVec S16 32) a x).toNat < S16x64.size a := fun v7247 v7420 k0_hw340 => k0_hw340.1
theorem k0_idx296_inb : ∀ (v7247 : IVec S16 32) (v7420 : IVec S16 32) (k0_hw340 : k0_chk340 v7247 v7420), ∀ a x, ((![v7247, v7420] : Fin 2 → IVec S16 32) a x).toNat < S16x64.size a := fun v7247 v7420 k0_hw340 => k0_hw340.2

def k0_chk341 (v7247 : IVec S16 32) (v7429 : IVec S16 32) : Prop :=
  (∀ a x, ((![v7247, v7429] : Fin 2 → IVec S16 32) a x).toNat < S16x64.size a) ∧
  (∀ a x, ((![v7247, v7429] : Fin 2 → IVec S16 32) a x).toNat < S16x64.size a)
theorem k0_idx297_inb : ∀ (v7247 : IVec S16 32) (v7429 : IVec S16 32) (k0_hw341 : k0_chk341 v7247 v7429), ∀ a x, ((![v7247, v7429] : Fin 2 → IVec S16 32) a x).toNat < S16x64.size a := fun v7247 v7429 k0_hw341 => k0_hw341.1
theorem k0_idx298_inb : ∀ (v7247 : IVec S16 32) (v7429 : IVec S16 32) (k0_hw341 : k0_chk341 v7247 v7429), ∀ a x, ((![v7247, v7429] : Fin 2 → IVec S16 32) a x).toNat < S16x64.size a := fun v7247 v7429 k0_hw341 => k0_hw341.2

def k0_chk342 (v7247 : IVec S16 32) (v7438 : IVec S16 32) : Prop :=
  (∀ a x, ((![v7247, v7438] : Fin 2 → IVec S16 32) a x).toNat < S16x64.size a) ∧
  (∀ a x, ((![v7247, v7438] : Fin 2 → IVec S16 32) a x).toNat < S16x64.size a)
theorem k0_idx299_inb : ∀ (v7247 : IVec S16 32) (v7438 : IVec S16 32) (k0_hw342 : k0_chk342 v7247 v7438), ∀ a x, ((![v7247, v7438] : Fin 2 → IVec S16 32) a x).toNat < S16x64.size a := fun v7247 v7438 k0_hw342 => k0_hw342.1
theorem k0_idx300_inb : ∀ (v7247 : IVec S16 32) (v7438 : IVec S16 32) (k0_hw342 : k0_chk342 v7247 v7438), ∀ a x, ((![v7247, v7438] : Fin 2 → IVec S16 32) a x).toNat < S16x64.size a := fun v7247 v7438 k0_hw342 => k0_hw342.2

def k0_chk343 (v7247 : IVec S16 32) (v7447 : IVec S16 32) : Prop :=
  (∀ a x, ((![v7247, v7447] : Fin 2 → IVec S16 32) a x).toNat < S16x64.size a) ∧
  (∀ a x, ((![v7247, v7447] : Fin 2 → IVec S16 32) a x).toNat < S16x64.size a)
theorem k0_idx301_inb : ∀ (v7247 : IVec S16 32) (v7447 : IVec S16 32) (k0_hw343 : k0_chk343 v7247 v7447), ∀ a x, ((![v7247, v7447] : Fin 2 → IVec S16 32) a x).toNat < S16x64.size a := fun v7247 v7447 k0_hw343 => k0_hw343.1
theorem k0_idx302_inb : ∀ (v7247 : IVec S16 32) (v7447 : IVec S16 32) (k0_hw343 : k0_chk343 v7247 v7447), ∀ a x, ((![v7247, v7447] : Fin 2 → IVec S16 32) a x).toNat < S16x64.size a := fun v7247 v7447 k0_hw343 => k0_hw343.2

def k0_chk344 (v7247 : IVec S16 32) (v7456 : IVec S16 32) : Prop :=
  (∀ a x, ((![v7247, v7456] : Fin 2 → IVec S16 32) a x).toNat < S16x64.size a) ∧
  (∀ a x, ((![v7247, v7456] : Fin 2 → IVec S16 32) a x).toNat < S16x64.size a)
theorem k0_idx303_inb : ∀ (v7247 : IVec S16 32) (v7456 : IVec S16 32) (k0_hw344 : k0_chk344 v7247 v7456), ∀ a x, ((![v7247, v7456] : Fin 2 → IVec S16 32) a x).toNat < S16x64.size a := fun v7247 v7456 k0_hw344 => k0_hw344.1
theorem k0_idx304_inb : ∀ (v7247 : IVec S16 32) (v7456 : IVec S16 32) (k0_hw344 : k0_chk344 v7247 v7456), ∀ a x, ((![v7247, v7456] : Fin 2 → IVec S16 32) a x).toNat < S16x64.size a := fun v7247 v7456 k0_hw344 => k0_hw344.2

def k0_chk345 (v7247 : IVec S16 32) (v7465 : IVec S16 32) : Prop :=
  (∀ a x, ((![v7247, v7465] : Fin 2 → IVec S16 32) a x).toNat < S16x64.size a) ∧
  (∀ a x, ((![v7247, v7465] : Fin 2 → IVec S16 32) a x).toNat < S16x64.size a)
theorem k0_idx305_inb : ∀ (v7247 : IVec S16 32) (v7465 : IVec S16 32) (k0_hw345 : k0_chk345 v7247 v7465), ∀ a x, ((![v7247, v7465] : Fin 2 → IVec S16 32) a x).toNat < S16x64.size a := fun v7247 v7465 k0_hw345 => k0_hw345.1
theorem k0_idx306_inb : ∀ (v7247 : IVec S16 32) (v7465 : IVec S16 32) (k0_hw345 : k0_chk345 v7247 v7465), ∀ a x, ((![v7247, v7465] : Fin 2 → IVec S16 32) a x).toNat < S16x64.size a := fun v7247 v7465 k0_hw345 => k0_hw345.2

def k0_chk346 (v7247 : IVec S16 32) (v7474 : IVec S16 32) : Prop :=
  (∀ a x, ((![v7247, v7474] : Fin 2 → IVec S16 32) a x).toNat < S16x64.size a) ∧
  (∀ a x, ((![v7247, v7474] : Fin 2 → IVec S16 32) a x).toNat < S16x64.size a)
theorem k0_idx307_inb : ∀ (v7247 : IVec S16 32) (v7474 : IVec S16 32) (k0_hw346 : k0_chk346 v7247 v7474), ∀ a x, ((![v7247, v7474] : Fin 2 → IVec S16 32) a x).toNat < S16x64.size a := fun v7247 v7474 k0_hw346 => k0_hw346.1
theorem k0_idx308_inb : ∀ (v7247 : IVec S16 32) (v7474 : IVec S16 32) (k0_hw346 : k0_chk346 v7247 v7474), ∀ a x, ((![v7247, v7474] : Fin 2 → IVec S16 32) a x).toNat < S16x64.size a := fun v7247 v7474 k0_hw346 => k0_hw346.2

def k0_chk347 (v7247 : IVec S16 32) (v7483 : IVec S16 32) : Prop :=
  (∀ a x, ((![v7247, v7483] : Fin 2 → IVec S16 32) a x).toNat < S16x64.size a) ∧
  (∀ a x, ((![v7247, v7483] : Fin 2 → IVec S16 32) a x).toNat < S16x64.size a)
theorem k0_idx309_inb : ∀ (v7247 : IVec S16 32) (v7483 : IVec S16 32) (k0_hw347 : k0_chk347 v7247 v7483), ∀ a x, ((![v7247, v7483] : Fin 2 → IVec S16 32) a x).toNat < S16x64.size a := fun v7247 v7483 k0_hw347 => k0_hw347.1
theorem k0_idx310_inb : ∀ (v7247 : IVec S16 32) (v7483 : IVec S16 32) (k0_hw347 : k0_chk347 v7247 v7483), ∀ a x, ((![v7247, v7483] : Fin 2 → IVec S16 32) a x).toNat < S16x64.size a := fun v7247 v7483 k0_hw347 => k0_hw347.2

def k0_chk348 (v7247 : IVec S16 32) (v7492 : IVec S16 32) : Prop :=
  (∀ a x, ((![v7247, v7492] : Fin 2 → IVec S16 32) a x).toNat < S16x64.size a) ∧
  (∀ a x, ((![v7247, v7492] : Fin 2 → IVec S16 32) a x).toNat < S16x64.size a)
theorem k0_idx311_inb : ∀ (v7247 : IVec S16 32) (v7492 : IVec S16 32) (k0_hw348 : k0_chk348 v7247 v7492), ∀ a x, ((![v7247, v7492] : Fin 2 → IVec S16 32) a x).toNat < S16x64.size a := fun v7247 v7492 k0_hw348 => k0_hw348.1
theorem k0_idx312_inb : ∀ (v7247 : IVec S16 32) (v7492 : IVec S16 32) (k0_hw348 : k0_chk348 v7247 v7492), ∀ a x, ((![v7247, v7492] : Fin 2 → IVec S16 32) a x).toNat < S16x64.size a := fun v7247 v7492 k0_hw348 => k0_hw348.2

def k0_chk349 (v7247 : IVec S16 32) (v7501 : IVec S16 32) : Prop :=
  (∀ a x, ((![v7247, v7501] : Fin 2 → IVec S16 32) a x).toNat < S16x64.size a) ∧
  (∀ a x, ((![v7247, v7501] : Fin 2 → IVec S16 32) a x).toNat < S16x64.size a)
theorem k0_idx313_inb : ∀ (v7247 : IVec S16 32) (v7501 : IVec S16 32) (k0_hw349 : k0_chk349 v7247 v7501), ∀ a x, ((![v7247, v7501] : Fin 2 → IVec S16 32) a x).toNat < S16x64.size a := fun v7247 v7501 k0_hw349 => k0_hw349.1
theorem k0_idx314_inb : ∀ (v7247 : IVec S16 32) (v7501 : IVec S16 32) (k0_hw349 : k0_chk349 v7247 v7501), ∀ a x, ((![v7247, v7501] : Fin 2 → IVec S16 32) a x).toNat < S16x64.size a := fun v7247 v7501 k0_hw349 => k0_hw349.2

def k0_chk350 (v7247 : IVec S16 32) (v7510 : IVec S16 32) : Prop :=
  (∀ a x, ((![v7247, v7510] : Fin 2 → IVec S16 32) a x).toNat < S16x64.size a) ∧
  (∀ a x, ((![v7247, v7510] : Fin 2 → IVec S16 32) a x).toNat < S16x64.size a)
theorem k0_idx315_inb : ∀ (v7247 : IVec S16 32) (v7510 : IVec S16 32) (k0_hw350 : k0_chk350 v7247 v7510), ∀ a x, ((![v7247, v7510] : Fin 2 → IVec S16 32) a x).toNat < S16x64.size a := fun v7247 v7510 k0_hw350 => k0_hw350.1
theorem k0_idx316_inb : ∀ (v7247 : IVec S16 32) (v7510 : IVec S16 32) (k0_hw350 : k0_chk350 v7247 v7510), ∀ a x, ((![v7247, v7510] : Fin 2 → IVec S16 32) a x).toNat < S16x64.size a := fun v7247 v7510 k0_hw350 => k0_hw350.2

def k0_chk351 (v7247 : IVec S16 32) (v7519 : IVec S16 32) : Prop :=
  (∀ a x, ((![v7247, v7519] : Fin 2 → IVec S16 32) a x).toNat < S16x64.size a) ∧
  (∀ a x, ((![v7247, v7519] : Fin 2 → IVec S16 32) a x).toNat < S16x64.size a)
theorem k0_idx317_inb : ∀ (v7247 : IVec S16 32) (v7519 : IVec S16 32) (k0_hw351 : k0_chk351 v7247 v7519), ∀ a x, ((![v7247, v7519] : Fin 2 → IVec S16 32) a x).toNat < S16x64.size a := fun v7247 v7519 k0_hw351 => k0_hw351.1
theorem k0_idx318_inb : ∀ (v7247 : IVec S16 32) (v7519 : IVec S16 32) (k0_hw351 : k0_chk351 v7247 v7519), ∀ a x, ((![v7247, v7519] : Fin 2 → IVec S16 32) a x).toNat < S16x64.size a := fun v7247 v7519 k0_hw351 => k0_hw351.2

def k0_chk352 (v7247 : IVec S16 32) (v7528 : IVec S16 32) : Prop :=
  (∀ a x, ((![v7247, v7528] : Fin 2 → IVec S16 32) a x).toNat < S16x64.size a) ∧
  (∀ a x, ((![v7247, v7528] : Fin 2 → IVec S16 32) a x).toNat < S16x64.size a)
theorem k0_idx319_inb : ∀ (v7247 : IVec S16 32) (v7528 : IVec S16 32) (k0_hw352 : k0_chk352 v7247 v7528), ∀ a x, ((![v7247, v7528] : Fin 2 → IVec S16 32) a x).toNat < S16x64.size a := fun v7247 v7528 k0_hw352 => k0_hw352.1
theorem k0_idx320_inb : ∀ (v7247 : IVec S16 32) (v7528 : IVec S16 32) (k0_hw352 : k0_chk352 v7247 v7528), ∀ a x, ((![v7247, v7528] : Fin 2 → IVec S16 32) a x).toNat < S16x64.size a := fun v7247 v7528 k0_hw352 => k0_hw352.2

def k0_chk353 (v7247 : IVec S16 32) (v7537 : IVec S16 32) : Prop :=
  (∀ a x, ((![v7247, v7537] : Fin 2 → IVec S16 32) a x).toNat < S16x64.size a) ∧
  (∀ a x, ((![v7247, v7537] : Fin 2 → IVec S16 32) a x).toNat < S16x64.size a)
theorem k0_idx321_inb : ∀ (v7247 : IVec S16 32) (v7537 : IVec S16 32) (k0_hw353 : k0_chk353 v7247 v7537), ∀ a x, ((![v7247, v7537] : Fin 2 → IVec S16 32) a x).toNat < S16x64.size a := fun v7247 v7537 k0_hw353 => k0_hw353.1
theorem k0_idx322_inb : ∀ (v7247 : IVec S16 32) (v7537 : IVec S16 32) (k0_hw353 : k0_chk353 v7247 v7537), ∀ a x, ((![v7247, v7537] : Fin 2 → IVec S16 32) a x).toNat < S16x64.size a := fun v7247 v7537 k0_hw353 => k0_hw353.2

def k0_chk354 (v7247 : IVec S16 32) (v7546 : IVec S16 32) : Prop :=
  (∀ a x, ((![v7247, v7546] : Fin 2 → IVec S16 32) a x).toNat < S16x64.size a) ∧
  (∀ a x, ((![v7247, v7546] : Fin 2 → IVec S16 32) a x).toNat < S16x64.size a)
theorem k0_idx323_inb : ∀ (v7247 : IVec S16 32) (v7546 : IVec S16 32) (k0_hw354 : k0_chk354 v7247 v7546), ∀ a x, ((![v7247, v7546] : Fin 2 → IVec S16 32) a x).toNat < S16x64.size a := fun v7247 v7546 k0_hw354 => k0_hw354.1
theorem k0_idx324_inb : ∀ (v7247 : IVec S16 32) (v7546 : IVec S16 32) (k0_hw354 : k0_chk354 v7247 v7546), ∀ a x, ((![v7247, v7546] : Fin 2 → IVec S16 32) a x).toNat < S16x64.size a := fun v7247 v7546 k0_hw354 => k0_hw354.2

def k0_chk355 (v7247 : IVec S16 32) (v7555 : IVec S16 32) : Prop :=
  (∀ a x, ((![v7247, v7555] : Fin 2 → IVec S16 32) a x).toNat < S16x64.size a) ∧
  (∀ a x, ((![v7247, v7555] : Fin 2 → IVec S16 32) a x).toNat < S16x64.size a)
theorem k0_idx325_inb : ∀ (v7247 : IVec S16 32) (v7555 : IVec S16 32) (k0_hw355 : k0_chk355 v7247 v7555), ∀ a x, ((![v7247, v7555] : Fin 2 → IVec S16 32) a x).toNat < S16x64.size a := fun v7247 v7555 k0_hw355 => k0_hw355.1
theorem k0_idx326_inb : ∀ (v7247 : IVec S16 32) (v7555 : IVec S16 32) (k0_hw355 : k0_chk355 v7247 v7555), ∀ a x, ((![v7247, v7555] : Fin 2 → IVec S16 32) a x).toNat < S16x64.size a := fun v7247 v7555 k0_hw355 => k0_hw355.2

def k0_chk356 (v7247 : IVec S16 32) (v7564 : IVec S16 32) : Prop :=
  (∀ a x, ((![v7247, v7564] : Fin 2 → IVec S16 32) a x).toNat < S16x64.size a) ∧
  (∀ a x, ((![v7247, v7564] : Fin 2 → IVec S16 32) a x).toNat < S16x64.size a)
theorem k0_idx327_inb : ∀ (v7247 : IVec S16 32) (v7564 : IVec S16 32) (k0_hw356 : k0_chk356 v7247 v7564), ∀ a x, ((![v7247, v7564] : Fin 2 → IVec S16 32) a x).toNat < S16x64.size a := fun v7247 v7564 k0_hw356 => k0_hw356.1
theorem k0_idx328_inb : ∀ (v7247 : IVec S16 32) (v7564 : IVec S16 32) (k0_hw356 : k0_chk356 v7247 v7564), ∀ a x, ((![v7247, v7564] : Fin 2 → IVec S16 32) a x).toNat < S16x64.size a := fun v7247 v7564 k0_hw356 => k0_hw356.2

def k0_chk357 (v7247 : IVec S16 32) (v7573 : IVec S16 32) : Prop :=
  (∀ a x, ((![v7247, v7573] : Fin 2 → IVec S16 32) a x).toNat < S16x64.size a) ∧
  (∀ a x, ((![v7247, v7573] : Fin 2 → IVec S16 32) a x).toNat < S16x64.size a)
theorem k0_idx329_inb : ∀ (v7247 : IVec S16 32) (v7573 : IVec S16 32) (k0_hw357 : k0_chk357 v7247 v7573), ∀ a x, ((![v7247, v7573] : Fin 2 → IVec S16 32) a x).toNat < S16x64.size a := fun v7247 v7573 k0_hw357 => k0_hw357.1
theorem k0_idx330_inb : ∀ (v7247 : IVec S16 32) (v7573 : IVec S16 32) (k0_hw357 : k0_chk357 v7247 v7573), ∀ a x, ((![v7247, v7573] : Fin 2 → IVec S16 32) a x).toNat < S16x64.size a := fun v7247 v7573 k0_hw357 => k0_hw357.2

def k0_chk358 (v7247 : IVec S16 32) (v7582 : IVec S16 32) : Prop :=
  (∀ a x, ((![v7247, v7582] : Fin 2 → IVec S16 32) a x).toNat < S16x64.size a) ∧
  (∀ a x, ((![v7247, v7582] : Fin 2 → IVec S16 32) a x).toNat < S16x64.size a)
theorem k0_idx331_inb : ∀ (v7247 : IVec S16 32) (v7582 : IVec S16 32) (k0_hw358 : k0_chk358 v7247 v7582), ∀ a x, ((![v7247, v7582] : Fin 2 → IVec S16 32) a x).toNat < S16x64.size a := fun v7247 v7582 k0_hw358 => k0_hw358.1
theorem k0_idx332_inb : ∀ (v7247 : IVec S16 32) (v7582 : IVec S16 32) (k0_hw358 : k0_chk358 v7247 v7582), ∀ a x, ((![v7247, v7582] : Fin 2 → IVec S16 32) a x).toNat < S16x64.size a := fun v7247 v7582 k0_hw358 => k0_hw358.2

def k0_chk359 (v7247 : IVec S16 32) (v7591 : IVec S16 32) : Prop :=
  (∀ a x, ((![v7247, v7591] : Fin 2 → IVec S16 32) a x).toNat < S16x64.size a) ∧
  (∀ a x, ((![v7247, v7591] : Fin 2 → IVec S16 32) a x).toNat < S16x64.size a)
theorem k0_idx333_inb : ∀ (v7247 : IVec S16 32) (v7591 : IVec S16 32) (k0_hw359 : k0_chk359 v7247 v7591), ∀ a x, ((![v7247, v7591] : Fin 2 → IVec S16 32) a x).toNat < S16x64.size a := fun v7247 v7591 k0_hw359 => k0_hw359.1
theorem k0_idx334_inb : ∀ (v7247 : IVec S16 32) (v7591 : IVec S16 32) (k0_hw359 : k0_chk359 v7247 v7591), ∀ a x, ((![v7247, v7591] : Fin 2 → IVec S16 32) a x).toNat < S16x64.size a := fun v7247 v7591 k0_hw359 => k0_hw359.2

def k0_chk360 (v7247 : IVec S16 32) (v7600 : IVec S16 32) : Prop :=
  (∀ a x, ((![v7247, v7600] : Fin 2 → IVec S16 32) a x).toNat < S16x64.size a) ∧
  (∀ a x, ((![v7247, v7600] : Fin 2 → IVec S16 32) a x).toNat < S16x64.size a)
theorem k0_idx335_inb : ∀ (v7247 : IVec S16 32) (v7600 : IVec S16 32) (k0_hw360 : k0_chk360 v7247 v7600), ∀ a x, ((![v7247, v7600] : Fin 2 → IVec S16 32) a x).toNat < S16x64.size a := fun v7247 v7600 k0_hw360 => k0_hw360.1
theorem k0_idx336_inb : ∀ (v7247 : IVec S16 32) (v7600 : IVec S16 32) (k0_hw360 : k0_chk360 v7247 v7600), ∀ a x, ((![v7247, v7600] : Fin 2 → IVec S16 32) a x).toNat < S16x64.size a := fun v7247 v7600 k0_hw360 => k0_hw360.2

def k0_chk361 (v7247 : IVec S16 32) (v7609 : IVec S16 32) : Prop :=
  (∀ a x, ((![v7247, v7609] : Fin 2 → IVec S16 32) a x).toNat < S16x64.size a) ∧
  (∀ a x, ((![v7247, v7609] : Fin 2 → IVec S16 32) a x).toNat < S16x64.size a)
theorem k0_idx337_inb : ∀ (v7247 : IVec S16 32) (v7609 : IVec S16 32) (k0_hw361 : k0_chk361 v7247 v7609), ∀ a x, ((![v7247, v7609] : Fin 2 → IVec S16 32) a x).toNat < S16x64.size a := fun v7247 v7609 k0_hw361 => k0_hw361.1
theorem k0_idx338_inb : ∀ (v7247 : IVec S16 32) (v7609 : IVec S16 32) (k0_hw361 : k0_chk361 v7247 v7609), ∀ a x, ((![v7247, v7609] : Fin 2 → IVec S16 32) a x).toNat < S16x64.size a := fun v7247 v7609 k0_hw361 => k0_hw361.2

def k0_chk362 (v7247 : IVec S16 32) (v7618 : IVec S16 32) : Prop :=
  (∀ a x, ((![v7247, v7618] : Fin 2 → IVec S16 32) a x).toNat < S16x64.size a) ∧
  (∀ a x, ((![v7247, v7618] : Fin 2 → IVec S16 32) a x).toNat < S16x64.size a)
theorem k0_idx339_inb : ∀ (v7247 : IVec S16 32) (v7618 : IVec S16 32) (k0_hw362 : k0_chk362 v7247 v7618), ∀ a x, ((![v7247, v7618] : Fin 2 → IVec S16 32) a x).toNat < S16x64.size a := fun v7247 v7618 k0_hw362 => k0_hw362.1
theorem k0_idx340_inb : ∀ (v7247 : IVec S16 32) (v7618 : IVec S16 32) (k0_hw362 : k0_chk362 v7247 v7618), ∀ a x, ((![v7247, v7618] : Fin 2 → IVec S16 32) a x).toNat < S16x64.size a := fun v7247 v7618 k0_hw362 => k0_hw362.2

def k0_chk363 (v7247 : IVec S16 32) (v7627 : IVec S16 32) : Prop :=
  (∀ a x, ((![v7247, v7627] : Fin 2 → IVec S16 32) a x).toNat < S16x64.size a) ∧
  (∀ a x, ((![v7247, v7627] : Fin 2 → IVec S16 32) a x).toNat < S16x64.size a)
theorem k0_idx341_inb : ∀ (v7247 : IVec S16 32) (v7627 : IVec S16 32) (k0_hw363 : k0_chk363 v7247 v7627), ∀ a x, ((![v7247, v7627] : Fin 2 → IVec S16 32) a x).toNat < S16x64.size a := fun v7247 v7627 k0_hw363 => k0_hw363.1
theorem k0_idx342_inb : ∀ (v7247 : IVec S16 32) (v7627 : IVec S16 32) (k0_hw363 : k0_chk363 v7247 v7627), ∀ a x, ((![v7247, v7627] : Fin 2 → IVec S16 32) a x).toNat < S16x64.size a := fun v7247 v7627 k0_hw363 => k0_hw363.2

def k0_chk364 (v7247 : IVec S16 32) (v7636 : IVec S16 32) : Prop :=
  (∀ a x, ((![v7247, v7636] : Fin 2 → IVec S16 32) a x).toNat < S16x64.size a) ∧
  (∀ a x, ((![v7247, v7636] : Fin 2 → IVec S16 32) a x).toNat < S16x64.size a)
theorem k0_idx343_inb : ∀ (v7247 : IVec S16 32) (v7636 : IVec S16 32) (k0_hw364 : k0_chk364 v7247 v7636), ∀ a x, ((![v7247, v7636] : Fin 2 → IVec S16 32) a x).toNat < S16x64.size a := fun v7247 v7636 k0_hw364 => k0_hw364.1
theorem k0_idx344_inb : ∀ (v7247 : IVec S16 32) (v7636 : IVec S16 32) (k0_hw364 : k0_chk364 v7247 v7636), ∀ a x, ((![v7247, v7636] : Fin 2 → IVec S16 32) a x).toNat < S16x64.size a := fun v7247 v7636 k0_hw364 => k0_hw364.2

def k0_chk365 (v7247 : IVec S16 32) (v7645 : IVec S16 32) : Prop :=
  (∀ a x, ((![v7247, v7645] : Fin 2 → IVec S16 32) a x).toNat < S16x64.size a) ∧
  (∀ a x, ((![v7247, v7645] : Fin 2 → IVec S16 32) a x).toNat < S16x64.size a)
theorem k0_idx345_inb : ∀ (v7247 : IVec S16 32) (v7645 : IVec S16 32) (k0_hw365 : k0_chk365 v7247 v7645), ∀ a x, ((![v7247, v7645] : Fin 2 → IVec S16 32) a x).toNat < S16x64.size a := fun v7247 v7645 k0_hw365 => k0_hw365.1
theorem k0_idx346_inb : ∀ (v7247 : IVec S16 32) (v7645 : IVec S16 32) (k0_hw365 : k0_chk365 v7247 v7645), ∀ a x, ((![v7247, v7645] : Fin 2 → IVec S16 32) a x).toNat < S16x64.size a := fun v7247 v7645 k0_hw365 => k0_hw365.2

def k0_chk366 (v7247 : IVec S16 32) (v7654 : IVec S16 32) : Prop :=
  (∀ a x, ((![v7247, v7654] : Fin 2 → IVec S16 32) a x).toNat < S16x64.size a) ∧
  (∀ a x, ((![v7247, v7654] : Fin 2 → IVec S16 32) a x).toNat < S16x64.size a)
theorem k0_idx347_inb : ∀ (v7247 : IVec S16 32) (v7654 : IVec S16 32) (k0_hw366 : k0_chk366 v7247 v7654), ∀ a x, ((![v7247, v7654] : Fin 2 → IVec S16 32) a x).toNat < S16x64.size a := fun v7247 v7654 k0_hw366 => k0_hw366.1
theorem k0_idx348_inb : ∀ (v7247 : IVec S16 32) (v7654 : IVec S16 32) (k0_hw366 : k0_chk366 v7247 v7654), ∀ a x, ((![v7247, v7654] : Fin 2 → IVec S16 32) a x).toNat < S16x64.size a := fun v7247 v7654 k0_hw366 => k0_hw366.2

def k0_chk367 (v7247 : IVec S16 32) (v7663 : IVec S16 32) : Prop :=
  (∀ a x, ((![v7247, v7663] : Fin 2 → IVec S16 32) a x).toNat < S16x64.size a) ∧
  (∀ a x, ((![v7247, v7663] : Fin 2 → IVec S16 32) a x).toNat < S16x64.size a)
theorem k0_idx349_inb : ∀ (v7247 : IVec S16 32) (v7663 : IVec S16 32) (k0_hw367 : k0_chk367 v7247 v7663), ∀ a x, ((![v7247, v7663] : Fin 2 → IVec S16 32) a x).toNat < S16x64.size a := fun v7247 v7663 k0_hw367 => k0_hw367.1
theorem k0_idx350_inb : ∀ (v7247 : IVec S16 32) (v7663 : IVec S16 32) (k0_hw367 : k0_chk367 v7247 v7663), ∀ a x, ((![v7247, v7663] : Fin 2 → IVec S16 32) a x).toNat < S16x64.size a := fun v7247 v7663 k0_hw367 => k0_hw367.2

def k0_chk368 (v7247 : IVec S16 32) (v7672 : IVec S16 32) : Prop :=
  (∀ a x, ((![v7247, v7672] : Fin 2 → IVec S16 32) a x).toNat < S16x64.size a) ∧
  (∀ a x, ((![v7247, v7672] : Fin 2 → IVec S16 32) a x).toNat < S16x64.size a)
theorem k0_idx351_inb : ∀ (v7247 : IVec S16 32) (v7672 : IVec S16 32) (k0_hw368 : k0_chk368 v7247 v7672), ∀ a x, ((![v7247, v7672] : Fin 2 → IVec S16 32) a x).toNat < S16x64.size a := fun v7247 v7672 k0_hw368 => k0_hw368.1
theorem k0_idx352_inb : ∀ (v7247 : IVec S16 32) (v7672 : IVec S16 32) (k0_hw368 : k0_chk368 v7247 v7672), ∀ a x, ((![v7247, v7672] : Fin 2 → IVec S16 32) a x).toNat < S16x64.size a := fun v7247 v7672 k0_hw368 => k0_hw368.2

def k0_chk369 (v7247 : IVec S16 32) (v7681 : IVec S16 32) : Prop :=
  (∀ a x, ((![v7247, v7681] : Fin 2 → IVec S16 32) a x).toNat < S16x64.size a) ∧
  (∀ a x, ((![v7247, v7681] : Fin 2 → IVec S16 32) a x).toNat < S16x64.size a)
theorem k0_idx353_inb : ∀ (v7247 : IVec S16 32) (v7681 : IVec S16 32) (k0_hw369 : k0_chk369 v7247 v7681), ∀ a x, ((![v7247, v7681] : Fin 2 → IVec S16 32) a x).toNat < S16x64.size a := fun v7247 v7681 k0_hw369 => k0_hw369.1
theorem k0_idx354_inb : ∀ (v7247 : IVec S16 32) (v7681 : IVec S16 32) (k0_hw369 : k0_chk369 v7247 v7681), ∀ a x, ((![v7247, v7681] : Fin 2 → IVec S16 32) a x).toNat < S16x64.size a := fun v7247 v7681 k0_hw369 => k0_hw369.2

def k0_chk370 (v7247 : IVec S16 32) (v7690 : IVec S16 32) : Prop :=
  (∀ a x, ((![v7247, v7690] : Fin 2 → IVec S16 32) a x).toNat < S16x64.size a) ∧
  (∀ a x, ((![v7247, v7690] : Fin 2 → IVec S16 32) a x).toNat < S16x64.size a)
theorem k0_idx355_inb : ∀ (v7247 : IVec S16 32) (v7690 : IVec S16 32) (k0_hw370 : k0_chk370 v7247 v7690), ∀ a x, ((![v7247, v7690] : Fin 2 → IVec S16 32) a x).toNat < S16x64.size a := fun v7247 v7690 k0_hw370 => k0_hw370.1
theorem k0_idx356_inb : ∀ (v7247 : IVec S16 32) (v7690 : IVec S16 32) (k0_hw370 : k0_chk370 v7247 v7690), ∀ a x, ((![v7247, v7690] : Fin 2 → IVec S16 32) a x).toNat < S16x64.size a := fun v7247 v7690 k0_hw370 => k0_hw370.2

def k0_chk371 (v7247 : IVec S16 32) (v7699 : IVec S16 32) : Prop :=
  (∀ a x, ((![v7247, v7699] : Fin 2 → IVec S16 32) a x).toNat < S16x64.size a) ∧
  (∀ a x, ((![v7247, v7699] : Fin 2 → IVec S16 32) a x).toNat < S16x64.size a)
theorem k0_idx357_inb : ∀ (v7247 : IVec S16 32) (v7699 : IVec S16 32) (k0_hw371 : k0_chk371 v7247 v7699), ∀ a x, ((![v7247, v7699] : Fin 2 → IVec S16 32) a x).toNat < S16x64.size a := fun v7247 v7699 k0_hw371 => k0_hw371.1
theorem k0_idx358_inb : ∀ (v7247 : IVec S16 32) (v7699 : IVec S16 32) (k0_hw371 : k0_chk371 v7247 v7699), ∀ a x, ((![v7247, v7699] : Fin 2 → IVec S16 32) a x).toNat < S16x64.size a := fun v7247 v7699 k0_hw371 => k0_hw371.2

def k0_chk372 (v7247 : IVec S16 32) (v7708 : IVec S16 32) : Prop :=
  (∀ a x, ((![v7247, v7708] : Fin 2 → IVec S16 32) a x).toNat < S16x64.size a) ∧
  (∀ a x, ((![v7247, v7708] : Fin 2 → IVec S16 32) a x).toNat < S16x64.size a)
theorem k0_idx359_inb : ∀ (v7247 : IVec S16 32) (v7708 : IVec S16 32) (k0_hw372 : k0_chk372 v7247 v7708), ∀ a x, ((![v7247, v7708] : Fin 2 → IVec S16 32) a x).toNat < S16x64.size a := fun v7247 v7708 k0_hw372 => k0_hw372.1
theorem k0_idx360_inb : ∀ (v7247 : IVec S16 32) (v7708 : IVec S16 32) (k0_hw372 : k0_chk372 v7247 v7708), ∀ a x, ((![v7247, v7708] : Fin 2 → IVec S16 32) a x).toNat < S16x64.size a := fun v7247 v7708 k0_hw372 => k0_hw372.2

def k0_chk373 (v7247 : IVec S16 32) (v7717 : IVec S16 32) : Prop :=
  (∀ a x, ((![v7247, v7717] : Fin 2 → IVec S16 32) a x).toNat < S16x64.size a) ∧
  (∀ a x, ((![v7247, v7717] : Fin 2 → IVec S16 32) a x).toNat < S16x64.size a)
theorem k0_idx361_inb : ∀ (v7247 : IVec S16 32) (v7717 : IVec S16 32) (k0_hw373 : k0_chk373 v7247 v7717), ∀ a x, ((![v7247, v7717] : Fin 2 → IVec S16 32) a x).toNat < S16x64.size a := fun v7247 v7717 k0_hw373 => k0_hw373.1
theorem k0_idx362_inb : ∀ (v7247 : IVec S16 32) (v7717 : IVec S16 32) (k0_hw373 : k0_chk373 v7247 v7717), ∀ a x, ((![v7247, v7717] : Fin 2 → IVec S16 32) a x).toNat < S16x64.size a := fun v7247 v7717 k0_hw373 => k0_hw373.2

def k0_chk374 (v7247 : IVec S16 32) (v7726 : IVec S16 32) : Prop :=
  (∀ a x, ((![v7247, v7726] : Fin 2 → IVec S16 32) a x).toNat < S16x64.size a) ∧
  (∀ a x, ((![v7247, v7726] : Fin 2 → IVec S16 32) a x).toNat < S16x64.size a)
theorem k0_idx363_inb : ∀ (v7247 : IVec S16 32) (v7726 : IVec S16 32) (k0_hw374 : k0_chk374 v7247 v7726), ∀ a x, ((![v7247, v7726] : Fin 2 → IVec S16 32) a x).toNat < S16x64.size a := fun v7247 v7726 k0_hw374 => k0_hw374.1
theorem k0_idx364_inb : ∀ (v7247 : IVec S16 32) (v7726 : IVec S16 32) (k0_hw374 : k0_chk374 v7247 v7726), ∀ a x, ((![v7247, v7726] : Fin 2 → IVec S16 32) a x).toNat < S16x64.size a := fun v7247 v7726 k0_hw374 => k0_hw374.2

def k0_chk375 (v7247 : IVec S16 32) (v7735 : IVec S16 32) : Prop :=
  (∀ a x, ((![v7247, v7735] : Fin 2 → IVec S16 32) a x).toNat < S16x64.size a) ∧
  (∀ a x, ((![v7247, v7735] : Fin 2 → IVec S16 32) a x).toNat < S16x64.size a)
theorem k0_idx365_inb : ∀ (v7247 : IVec S16 32) (v7735 : IVec S16 32) (k0_hw375 : k0_chk375 v7247 v7735), ∀ a x, ((![v7247, v7735] : Fin 2 → IVec S16 32) a x).toNat < S16x64.size a := fun v7247 v7735 k0_hw375 => k0_hw375.1
theorem k0_idx366_inb : ∀ (v7247 : IVec S16 32) (v7735 : IVec S16 32) (k0_hw375 : k0_chk375 v7247 v7735), ∀ a x, ((![v7247, v7735] : Fin 2 → IVec S16 32) a x).toNat < S16x64.size a := fun v7247 v7735 k0_hw375 => k0_hw375.2

def k0_chk376 (v7247 : IVec S16 32) (v7744 : IVec S16 32) : Prop :=
  (∀ a x, ((![v7247, v7744] : Fin 2 → IVec S16 32) a x).toNat < S16x64.size a) ∧
  (∀ a x, ((![v7247, v7744] : Fin 2 → IVec S16 32) a x).toNat < S16x64.size a)
theorem k0_idx367_inb : ∀ (v7247 : IVec S16 32) (v7744 : IVec S16 32) (k0_hw376 : k0_chk376 v7247 v7744), ∀ a x, ((![v7247, v7744] : Fin 2 → IVec S16 32) a x).toNat < S16x64.size a := fun v7247 v7744 k0_hw376 => k0_hw376.1
theorem k0_idx368_inb : ∀ (v7247 : IVec S16 32) (v7744 : IVec S16 32) (k0_hw376 : k0_chk376 v7247 v7744), ∀ a x, ((![v7247, v7744] : Fin 2 → IVec S16 32) a x).toNat < S16x64.size a := fun v7247 v7744 k0_hw376 => k0_hw376.2

def k0_chk377 (v7247 : IVec S16 32) (v7753 : IVec S16 32) : Prop :=
  (∀ a x, ((![v7247, v7753] : Fin 2 → IVec S16 32) a x).toNat < S16x64.size a) ∧
  (∀ a x, ((![v7247, v7753] : Fin 2 → IVec S16 32) a x).toNat < S16x64.size a)
theorem k0_idx369_inb : ∀ (v7247 : IVec S16 32) (v7753 : IVec S16 32) (k0_hw377 : k0_chk377 v7247 v7753), ∀ a x, ((![v7247, v7753] : Fin 2 → IVec S16 32) a x).toNat < S16x64.size a := fun v7247 v7753 k0_hw377 => k0_hw377.1
theorem k0_idx370_inb : ∀ (v7247 : IVec S16 32) (v7753 : IVec S16 32) (k0_hw377 : k0_chk377 v7247 v7753), ∀ a x, ((![v7247, v7753] : Fin 2 → IVec S16 32) a x).toNat < S16x64.size a := fun v7247 v7753 k0_hw377 => k0_hw377.2

def k0_chk378 (v7247 : IVec S16 32) (v7762 : IVec S16 32) : Prop :=
  (∀ a x, ((![v7247, v7762] : Fin 2 → IVec S16 32) a x).toNat < S16x64.size a) ∧
  (∀ a x, ((![v7247, v7762] : Fin 2 → IVec S16 32) a x).toNat < S16x64.size a)
theorem k0_idx371_inb : ∀ (v7247 : IVec S16 32) (v7762 : IVec S16 32) (k0_hw378 : k0_chk378 v7247 v7762), ∀ a x, ((![v7247, v7762] : Fin 2 → IVec S16 32) a x).toNat < S16x64.size a := fun v7247 v7762 k0_hw378 => k0_hw378.1
theorem k0_idx372_inb : ∀ (v7247 : IVec S16 32) (v7762 : IVec S16 32) (k0_hw378 : k0_chk378 v7247 v7762), ∀ a x, ((![v7247, v7762] : Fin 2 → IVec S16 32) a x).toNat < S16x64.size a := fun v7247 v7762 k0_hw378 => k0_hw378.2

def k0_chk379 (v7247 : IVec S16 32) (v7771 : IVec S16 32) : Prop :=
  (∀ a x, ((![v7247, v7771] : Fin 2 → IVec S16 32) a x).toNat < S16x64.size a) ∧
  (∀ a x, ((![v7247, v7771] : Fin 2 → IVec S16 32) a x).toNat < S16x64.size a)
theorem k0_idx373_inb : ∀ (v7247 : IVec S16 32) (v7771 : IVec S16 32) (k0_hw379 : k0_chk379 v7247 v7771), ∀ a x, ((![v7247, v7771] : Fin 2 → IVec S16 32) a x).toNat < S16x64.size a := fun v7247 v7771 k0_hw379 => k0_hw379.1
theorem k0_idx374_inb : ∀ (v7247 : IVec S16 32) (v7771 : IVec S16 32) (k0_hw379 : k0_chk379 v7247 v7771), ∀ a x, ((![v7247, v7771] : Fin 2 → IVec S16 32) a x).toNat < S16x64.size a := fun v7247 v7771 k0_hw379 => k0_hw379.2

def k0_chk380 (v7247 : IVec S16 32) (v7780 : IVec S16 32) : Prop :=
  (∀ a x, ((![v7247, v7780] : Fin 2 → IVec S16 32) a x).toNat < S16x64.size a) ∧
  (∀ a x, ((![v7247, v7780] : Fin 2 → IVec S16 32) a x).toNat < S16x64.size a)
theorem k0_idx375_inb : ∀ (v7247 : IVec S16 32) (v7780 : IVec S16 32) (k0_hw380 : k0_chk380 v7247 v7780), ∀ a x, ((![v7247, v7780] : Fin 2 → IVec S16 32) a x).toNat < S16x64.size a := fun v7247 v7780 k0_hw380 => k0_hw380.1
theorem k0_idx376_inb : ∀ (v7247 : IVec S16 32) (v7780 : IVec S16 32) (k0_hw380 : k0_chk380 v7247 v7780), ∀ a x, ((![v7247, v7780] : Fin 2 → IVec S16 32) a x).toNat < S16x64.size a := fun v7247 v7780 k0_hw380 => k0_hw380.2

def k0_chk381 (v7247 : IVec S16 32) (v7789 : IVec S16 32) : Prop :=
  (∀ a x, ((![v7247, v7789] : Fin 2 → IVec S16 32) a x).toNat < S16x64.size a) ∧
  (∀ a x, ((![v7247, v7789] : Fin 2 → IVec S16 32) a x).toNat < S16x64.size a)
theorem k0_idx377_inb : ∀ (v7247 : IVec S16 32) (v7789 : IVec S16 32) (k0_hw381 : k0_chk381 v7247 v7789), ∀ a x, ((![v7247, v7789] : Fin 2 → IVec S16 32) a x).toNat < S16x64.size a := fun v7247 v7789 k0_hw381 => k0_hw381.1
theorem k0_idx378_inb : ∀ (v7247 : IVec S16 32) (v7789 : IVec S16 32) (k0_hw381 : k0_chk381 v7247 v7789), ∀ a x, ((![v7247, v7789] : Fin 2 → IVec S16 32) a x).toNat < S16x64.size a := fun v7247 v7789 k0_hw381 => k0_hw381.2

def k0_chk382 (v7247 : IVec S16 32) (v7798 : IVec S16 32) : Prop :=
  (∀ a x, ((![v7247, v7798] : Fin 2 → IVec S16 32) a x).toNat < S16x64.size a) ∧
  (∀ a x, ((![v7247, v7798] : Fin 2 → IVec S16 32) a x).toNat < S16x64.size a)
theorem k0_idx379_inb : ∀ (v7247 : IVec S16 32) (v7798 : IVec S16 32) (k0_hw382 : k0_chk382 v7247 v7798), ∀ a x, ((![v7247, v7798] : Fin 2 → IVec S16 32) a x).toNat < S16x64.size a := fun v7247 v7798 k0_hw382 => k0_hw382.1
theorem k0_idx380_inb : ∀ (v7247 : IVec S16 32) (v7798 : IVec S16 32) (k0_hw382 : k0_chk382 v7247 v7798), ∀ a x, ((![v7247, v7798] : Fin 2 → IVec S16 32) a x).toNat < S16x64.size a := fun v7247 v7798 k0_hw382 => k0_hw382.2

def k0_chk383 (v7247 : IVec S16 32) (v7807 : IVec S16 32) : Prop :=
  (∀ a x, ((![v7247, v7807] : Fin 2 → IVec S16 32) a x).toNat < S16x64.size a) ∧
  (∀ a x, ((![v7247, v7807] : Fin 2 → IVec S16 32) a x).toNat < S16x64.size a)
theorem k0_idx381_inb : ∀ (v7247 : IVec S16 32) (v7807 : IVec S16 32) (k0_hw383 : k0_chk383 v7247 v7807), ∀ a x, ((![v7247, v7807] : Fin 2 → IVec S16 32) a x).toNat < S16x64.size a := fun v7247 v7807 k0_hw383 => k0_hw383.1
theorem k0_idx382_inb : ∀ (v7247 : IVec S16 32) (v7807 : IVec S16 32) (k0_hw383 : k0_chk383 v7247 v7807), ∀ a x, ((![v7247, v7807] : Fin 2 → IVec S16 32) a x).toNat < S16x64.size a := fun v7247 v7807 k0_hw383 => k0_hw383.2

def k0_chk384 (v7247 : IVec S16 32) (v7816 : IVec S16 32) : Prop :=
  (∀ a x, ((![v7247, v7816] : Fin 2 → IVec S16 32) a x).toNat < S16x64.size a) ∧
  (∀ a x, ((![v7247, v7816] : Fin 2 → IVec S16 32) a x).toNat < S16x64.size a)
theorem k0_idx383_inb : ∀ (v7247 : IVec S16 32) (v7816 : IVec S16 32) (k0_hw384 : k0_chk384 v7247 v7816), ∀ a x, ((![v7247, v7816] : Fin 2 → IVec S16 32) a x).toNat < S16x64.size a := fun v7247 v7816 k0_hw384 => k0_hw384.1
theorem k0_idx384_inb : ∀ (v7247 : IVec S16 32) (v7816 : IVec S16 32) (k0_hw384 : k0_chk384 v7247 v7816), ∀ a x, ((![v7247, v7816] : Fin 2 → IVec S16 32) a x).toNat < S16x64.size a := fun v7247 v7816 k0_hw384 => k0_hw384.2
def k0_off198 (k0_t1 : Fin k0_t1_loop.trips) : Fin 1 → Nat :=
  let c0_i32_3405 : BitVec 32 := 0#32
  let c0_i32_754 : BitVec 32 := 0#32
  let c1_i32_756 : BitVec 32 := 1#32
  let arg16 : BitVec 32 := Scf.iv c0_i32_754 c1_i32_756 k0_t1
  let c4_i32_3404 : BitVec 32 := 4#32
  let v4652 : BitVec 32 := Scalar.muli arg16 c4_i32_3404
  let v4653 : BitVec 32 := Scalar.addi c0_i32_3405 v4652
  let c2_i32_5370 : BitVec 32 := 2#32
  let v7244 : BitVec 32 := Scalar.addi v4653 c2_i32_5370
  let c16_i32_5371 : BitVec 32 := 16#32
  let v7245 : BitVec 32 := Scalar.muli v7244 c16_i32_5371
  let v7246 : BitVec 32 := v7245
  let v7825 : Index := Scalar.indexCast v7246
  ![v7825.toNat]
def k0_mult10 (k0_t1 : Fin k0_t1_loop.trips) : BitVec 32 :=
  let c0_i32_3405 : BitVec 32 := 0#32
  let c0_i32_754 : BitVec 32 := 0#32
  let c1_i32_756 : BitVec 32 := 1#32
  let arg16 : BitVec 32 := Scf.iv c0_i32_754 c1_i32_756 k0_t1
  let c4_i32_3404 : BitVec 32 := 4#32
  let v4652 : BitVec 32 := Scalar.muli arg16 c4_i32_3404
  let v4653 : BitVec 32 := Scalar.addi c0_i32_3405 v4652
  let c4_i32_5821 : BitVec 32 := 4#32
  let v7827 : BitVec 32 := Scalar.addi v4653 c4_i32_5821
  let c2_i32_5822 : BitVec 32 := 2#32
  let v7828 : BitVec 32 := Scalar.addi v7827 c2_i32_5822
  let c16_i32_5823 : BitVec 32 := 16#32
  let v7829 : BitVec 32 := Scalar.muli v7828 c16_i32_5823
  v7829
def k0_off199 (k0_t1 : Fin k0_t1_loop.trips) : Fin 1 → Nat :=
  let c0_i32_3405 : BitVec 32 := 0#32
  let c0_i32_754 : BitVec 32 := 0#32
  let c1_i32_756 : BitVec 32 := 1#32
  let arg16 : BitVec 32 := Scf.iv c0_i32_754 c1_i32_756 k0_t1
  let c4_i32_3404 : BitVec 32 := 4#32
  let v4652 : BitVec 32 := Scalar.muli arg16 c4_i32_3404
  let v4653 : BitVec 32 := Scalar.addi c0_i32_3405 v4652
  let c4_i32_5821 : BitVec 32 := 4#32
  let v7827 : BitVec 32 := Scalar.addi v4653 c4_i32_5821
  let c2_i32_5822 : BitVec 32 := 2#32
  let v7828 : BitVec 32 := Scalar.addi v7827 c2_i32_5822
  let c16_i32_5823 : BitVec 32 := 16#32
  let v7829 : BitVec 32 := Scalar.muli v7828 c16_i32_5823
  let v7830 : BitVec 32 := v7829
  let v7831 : Index := Scalar.indexCast v7830
  ![v7831.toNat]
def k0_off200 (v7836 : BitVec 32) : Fin 2 → Nat :=
  let c0_i32_5827 : BitVec 32 := 0#32
  ![v7836.toNat, 0]

def k0_chk385 (v7836 : BitVec 32) : Prop :=
  (∀ a, (k0_off200 v7836) a + S1x64.size a ≤ S1000000x64.size a)
theorem k0_off200_inb : ∀ (v7836 : BitVec 32) (k0_hw385 : k0_chk385 v7836), ∀ a, (k0_off200 v7836) a + S1x64.size a ≤ S1000000x64.size a := fun v7836 k0_hw385 => k0_hw385

def k0_off201 (v7846 : BitVec 32) : Fin 2 → Nat :=
  let c0_i32_5833 : BitVec 32 := 0#32
  ![v7846.toNat, 0]

def k0_chk386 (v7846 : BitVec 32) : Prop :=
  (∀ a, (k0_off201 v7846) a + S1x64.size a ≤ S100000x64.size a)
theorem k0_off201_inb : ∀ (v7846 : BitVec 32) (k0_hw386 : k0_chk386 v7846), ∀ a, (k0_off201 v7846) a + S1x64.size a ≤ S100000x64.size a := fun v7846 k0_hw386 => k0_hw386

def k0_off202 (v7856 : BitVec 32) : Fin 2 → Nat :=
  let c0_i32_5839 : BitVec 32 := 0#32
  ![v7856.toNat, 0]

def k0_chk387 (v7856 : BitVec 32) : Prop :=
  (∀ a, (k0_off202 v7856) a + S1x64.size a ≤ S1000000x64.size a)
theorem k0_off202_inb : ∀ (v7856 : BitVec 32) (k0_hw387 : k0_chk387 v7856), ∀ a, (k0_off202 v7856) a + S1x64.size a ≤ S1000000x64.size a := fun v7856 k0_hw387 => k0_hw387

def k0_off203 (v7866 : BitVec 32) : Fin 2 → Nat :=
  let c0_i32_5845 : BitVec 32 := 0#32
  ![v7866.toNat, 0]

def k0_chk388 (v7866 : BitVec 32) : Prop :=
  (∀ a, (k0_off203 v7866) a + S1x64.size a ≤ S100000x64.size a)
theorem k0_off203_inb : ∀ (v7866 : BitVec 32) (k0_hw388 : k0_chk388 v7866), ∀ a, (k0_off203 v7866) a + S1x64.size a ≤ S100000x64.size a := fun v7866 k0_hw388 => k0_hw388

def k0_off204 (v7876 : BitVec 32) : Fin 2 → Nat :=
  let c0_i32_5851 : BitVec 32 := 0#32
  ![v7876.toNat, 0]

def k0_chk389 (v7876 : BitVec 32) : Prop :=
  (∀ a, (k0_off204 v7876) a + S1x64.size a ≤ S1000000x64.size a)
theorem k0_off204_inb : ∀ (v7876 : BitVec 32) (k0_hw389 : k0_chk389 v7876), ∀ a, (k0_off204 v7876) a + S1x64.size a ≤ S1000000x64.size a := fun v7876 k0_hw389 => k0_hw389

def k0_off205 (v7886 : BitVec 32) : Fin 2 → Nat :=
  let c0_i32_5857 : BitVec 32 := 0#32
  ![v7886.toNat, 0]

def k0_chk390 (v7886 : BitVec 32) : Prop :=
  (∀ a, (k0_off205 v7886) a + S1x64.size a ≤ S100000x64.size a)
theorem k0_off205_inb : ∀ (v7886 : BitVec 32) (k0_hw390 : k0_chk390 v7886), ∀ a, (k0_off205 v7886) a + S1x64.size a ≤ S100000x64.size a := fun v7886 k0_hw390 => k0_hw390

def k0_off206 (v7896 : BitVec 32) : Fin 2 → Nat :=
  let c0_i32_5863 : BitVec 32 := 0#32
  ![v7896.toNat, 0]

def k0_chk391 (v7896 : BitVec 32) : Prop :=
  (∀ a, (k0_off206 v7896) a + S1x64.size a ≤ S1000000x64.size a)
theorem k0_off206_inb : ∀ (v7896 : BitVec 32) (k0_hw391 : k0_chk391 v7896), ∀ a, (k0_off206 v7896) a + S1x64.size a ≤ S1000000x64.size a := fun v7896 k0_hw391 => k0_hw391

def k0_off207 (v7906 : BitVec 32) : Fin 2 → Nat :=
  let c0_i32_5869 : BitVec 32 := 0#32
  ![v7906.toNat, 0]

def k0_chk392 (v7906 : BitVec 32) : Prop :=
  (∀ a, (k0_off207 v7906) a + S1x64.size a ≤ S100000x64.size a)
theorem k0_off207_inb : ∀ (v7906 : BitVec 32) (k0_hw392 : k0_chk392 v7906), ∀ a, (k0_off207 v7906) a + S1x64.size a ≤ S100000x64.size a := fun v7906 k0_hw392 => k0_hw392

def k0_off208 (v7916 : BitVec 32) : Fin 2 → Nat :=
  let c0_i32_5875 : BitVec 32 := 0#32
  ![v7916.toNat, 0]

def k0_chk393 (v7916 : BitVec 32) : Prop :=
  (∀ a, (k0_off208 v7916) a + S1x64.size a ≤ S1000000x64.size a)
theorem k0_off208_inb : ∀ (v7916 : BitVec 32) (k0_hw393 : k0_chk393 v7916), ∀ a, (k0_off208 v7916) a + S1x64.size a ≤ S1000000x64.size a := fun v7916 k0_hw393 => k0_hw393

def k0_off209 (v7926 : BitVec 32) : Fin 2 → Nat :=
  let c0_i32_5881 : BitVec 32 := 0#32
  ![v7926.toNat, 0]

def k0_chk394 (v7926 : BitVec 32) : Prop :=
  (∀ a, (k0_off209 v7926) a + S1x64.size a ≤ S100000x64.size a)
theorem k0_off209_inb : ∀ (v7926 : BitVec 32) (k0_hw394 : k0_chk394 v7926), ∀ a, (k0_off209 v7926) a + S1x64.size a ≤ S100000x64.size a := fun v7926 k0_hw394 => k0_hw394

def k0_off210 (v7936 : BitVec 32) : Fin 2 → Nat :=
  let c0_i32_5887 : BitVec 32 := 0#32
  ![v7936.toNat, 0]

def k0_chk395 (v7936 : BitVec 32) : Prop :=
  (∀ a, (k0_off210 v7936) a + S1x64.size a ≤ S1000000x64.size a)
theorem k0_off210_inb : ∀ (v7936 : BitVec 32) (k0_hw395 : k0_chk395 v7936), ∀ a, (k0_off210 v7936) a + S1x64.size a ≤ S1000000x64.size a := fun v7936 k0_hw395 => k0_hw395

def k0_off211 (v7946 : BitVec 32) : Fin 2 → Nat :=
  let c0_i32_5893 : BitVec 32 := 0#32
  ![v7946.toNat, 0]

def k0_chk396 (v7946 : BitVec 32) : Prop :=
  (∀ a, (k0_off211 v7946) a + S1x64.size a ≤ S100000x64.size a)
theorem k0_off211_inb : ∀ (v7946 : BitVec 32) (k0_hw396 : k0_chk396 v7946), ∀ a, (k0_off211 v7946) a + S1x64.size a ≤ S100000x64.size a := fun v7946 k0_hw396 => k0_hw396

def k0_off212 (v7956 : BitVec 32) : Fin 2 → Nat :=
  let c0_i32_5899 : BitVec 32 := 0#32
  ![v7956.toNat, 0]

def k0_chk397 (v7956 : BitVec 32) : Prop :=
  (∀ a, (k0_off212 v7956) a + S1x64.size a ≤ S1000000x64.size a)
theorem k0_off212_inb : ∀ (v7956 : BitVec 32) (k0_hw397 : k0_chk397 v7956), ∀ a, (k0_off212 v7956) a + S1x64.size a ≤ S1000000x64.size a := fun v7956 k0_hw397 => k0_hw397

def k0_off213 (v7966 : BitVec 32) : Fin 2 → Nat :=
  let c0_i32_5905 : BitVec 32 := 0#32
  ![v7966.toNat, 0]

def k0_chk398 (v7966 : BitVec 32) : Prop :=
  (∀ a, (k0_off213 v7966) a + S1x64.size a ≤ S100000x64.size a)
theorem k0_off213_inb : ∀ (v7966 : BitVec 32) (k0_hw398 : k0_chk398 v7966), ∀ a, (k0_off213 v7966) a + S1x64.size a ≤ S100000x64.size a := fun v7966 k0_hw398 => k0_hw398

def k0_off214 (v7976 : BitVec 32) : Fin 2 → Nat :=
  let c0_i32_5911 : BitVec 32 := 0#32
  ![v7976.toNat, 0]

def k0_chk399 (v7976 : BitVec 32) : Prop :=
  (∀ a, (k0_off214 v7976) a + S1x64.size a ≤ S1000000x64.size a)
theorem k0_off214_inb : ∀ (v7976 : BitVec 32) (k0_hw399 : k0_chk399 v7976), ∀ a, (k0_off214 v7976) a + S1x64.size a ≤ S1000000x64.size a := fun v7976 k0_hw399 => k0_hw399

def k0_off215 (v7986 : BitVec 32) : Fin 2 → Nat :=
  let c0_i32_5917 : BitVec 32 := 0#32
  ![v7986.toNat, 0]

def k0_chk400 (v7986 : BitVec 32) : Prop :=
  (∀ a, (k0_off215 v7986) a + S1x64.size a ≤ S100000x64.size a)
theorem k0_off215_inb : ∀ (v7986 : BitVec 32) (k0_hw400 : k0_chk400 v7986), ∀ a, (k0_off215 v7986) a + S1x64.size a ≤ S100000x64.size a := fun v7986 k0_hw400 => k0_hw400

def k0_off216 (v7996 : BitVec 32) : Fin 2 → Nat :=
  let c0_i32_5923 : BitVec 32 := 0#32
  ![v7996.toNat, 0]

def k0_chk401 (v7996 : BitVec 32) : Prop :=
  (∀ a, (k0_off216 v7996) a + S1x64.size a ≤ S1000000x64.size a)
theorem k0_off216_inb : ∀ (v7996 : BitVec 32) (k0_hw401 : k0_chk401 v7996), ∀ a, (k0_off216 v7996) a + S1x64.size a ≤ S1000000x64.size a := fun v7996 k0_hw401 => k0_hw401

def k0_off217 (v8006 : BitVec 32) : Fin 2 → Nat :=
  let c0_i32_5929 : BitVec 32 := 0#32
  ![v8006.toNat, 0]

def k0_chk402 (v8006 : BitVec 32) : Prop :=
  (∀ a, (k0_off217 v8006) a + S1x64.size a ≤ S100000x64.size a)
theorem k0_off217_inb : ∀ (v8006 : BitVec 32) (k0_hw402 : k0_chk402 v8006), ∀ a, (k0_off217 v8006) a + S1x64.size a ≤ S100000x64.size a := fun v8006 k0_hw402 => k0_hw402

def k0_off218 (v8016 : BitVec 32) : Fin 2 → Nat :=
  let c0_i32_5935 : BitVec 32 := 0#32
  ![v8016.toNat, 0]

def k0_chk403 (v8016 : BitVec 32) : Prop :=
  (∀ a, (k0_off218 v8016) a + S1x64.size a ≤ S1000000x64.size a)
theorem k0_off218_inb : ∀ (v8016 : BitVec 32) (k0_hw403 : k0_chk403 v8016), ∀ a, (k0_off218 v8016) a + S1x64.size a ≤ S1000000x64.size a := fun v8016 k0_hw403 => k0_hw403

def k0_off219 (v8026 : BitVec 32) : Fin 2 → Nat :=
  let c0_i32_5941 : BitVec 32 := 0#32
  ![v8026.toNat, 0]

def k0_chk404 (v8026 : BitVec 32) : Prop :=
  (∀ a, (k0_off219 v8026) a + S1x64.size a ≤ S100000x64.size a)
theorem k0_off219_inb : ∀ (v8026 : BitVec 32) (k0_hw404 : k0_chk404 v8026), ∀ a, (k0_off219 v8026) a + S1x64.size a ≤ S100000x64.size a := fun v8026 k0_hw404 => k0_hw404

def k0_off220 (v8036 : BitVec 32) : Fin 2 → Nat :=
  let c0_i32_5947 : BitVec 32 := 0#32
  ![v8036.toNat, 0]

def k0_chk405 (v8036 : BitVec 32) : Prop :=
  (∀ a, (k0_off220 v8036) a + S1x64.size a ≤ S1000000x64.size a)
theorem k0_off220_inb : ∀ (v8036 : BitVec 32) (k0_hw405 : k0_chk405 v8036), ∀ a, (k0_off220 v8036) a + S1x64.size a ≤ S1000000x64.size a := fun v8036 k0_hw405 => k0_hw405

def k0_off221 (v8046 : BitVec 32) : Fin 2 → Nat :=
  let c0_i32_5953 : BitVec 32 := 0#32
  ![v8046.toNat, 0]

def k0_chk406 (v8046 : BitVec 32) : Prop :=
  (∀ a, (k0_off221 v8046) a + S1x64.size a ≤ S100000x64.size a)
theorem k0_off221_inb : ∀ (v8046 : BitVec 32) (k0_hw406 : k0_chk406 v8046), ∀ a, (k0_off221 v8046) a + S1x64.size a ≤ S100000x64.size a := fun v8046 k0_hw406 => k0_hw406

def k0_off222 (v8056 : BitVec 32) : Fin 2 → Nat :=
  let c0_i32_5959 : BitVec 32 := 0#32
  ![v8056.toNat, 0]

def k0_chk407 (v8056 : BitVec 32) : Prop :=
  (∀ a, (k0_off222 v8056) a + S1x64.size a ≤ S1000000x64.size a)
theorem k0_off222_inb : ∀ (v8056 : BitVec 32) (k0_hw407 : k0_chk407 v8056), ∀ a, (k0_off222 v8056) a + S1x64.size a ≤ S1000000x64.size a := fun v8056 k0_hw407 => k0_hw407

def k0_off223 (v8066 : BitVec 32) : Fin 2 → Nat :=
  let c0_i32_5965 : BitVec 32 := 0#32
  ![v8066.toNat, 0]

def k0_chk408 (v8066 : BitVec 32) : Prop :=
  (∀ a, (k0_off223 v8066) a + S1x64.size a ≤ S100000x64.size a)
theorem k0_off223_inb : ∀ (v8066 : BitVec 32) (k0_hw408 : k0_chk408 v8066), ∀ a, (k0_off223 v8066) a + S1x64.size a ≤ S100000x64.size a := fun v8066 k0_hw408 => k0_hw408

def k0_off224 (v8076 : BitVec 32) : Fin 2 → Nat :=
  let c0_i32_5971 : BitVec 32 := 0#32
  ![v8076.toNat, 0]

def k0_chk409 (v8076 : BitVec 32) : Prop :=
  (∀ a, (k0_off224 v8076) a + S1x64.size a ≤ S1000000x64.size a)
theorem k0_off224_inb : ∀ (v8076 : BitVec 32) (k0_hw409 : k0_chk409 v8076), ∀ a, (k0_off224 v8076) a + S1x64.size a ≤ S1000000x64.size a := fun v8076 k0_hw409 => k0_hw409

def k0_off225 (v8086 : BitVec 32) : Fin 2 → Nat :=
  let c0_i32_5977 : BitVec 32 := 0#32
  ![v8086.toNat, 0]

def k0_chk410 (v8086 : BitVec 32) : Prop :=
  (∀ a, (k0_off225 v8086) a + S1x64.size a ≤ S100000x64.size a)
theorem k0_off225_inb : ∀ (v8086 : BitVec 32) (k0_hw410 : k0_chk410 v8086), ∀ a, (k0_off225 v8086) a + S1x64.size a ≤ S100000x64.size a := fun v8086 k0_hw410 => k0_hw410

def k0_off226 (v8096 : BitVec 32) : Fin 2 → Nat :=
  let c0_i32_5983 : BitVec 32 := 0#32
  ![v8096.toNat, 0]

def k0_chk411 (v8096 : BitVec 32) : Prop :=
  (∀ a, (k0_off226 v8096) a + S1x64.size a ≤ S1000000x64.size a)
theorem k0_off226_inb : ∀ (v8096 : BitVec 32) (k0_hw411 : k0_chk411 v8096), ∀ a, (k0_off226 v8096) a + S1x64.size a ≤ S1000000x64.size a := fun v8096 k0_hw411 => k0_hw411

def k0_off227 (v8106 : BitVec 32) : Fin 2 → Nat :=
  let c0_i32_5989 : BitVec 32 := 0#32
  ![v8106.toNat, 0]

def k0_chk412 (v8106 : BitVec 32) : Prop :=
  (∀ a, (k0_off227 v8106) a + S1x64.size a ≤ S100000x64.size a)
theorem k0_off227_inb : ∀ (v8106 : BitVec 32) (k0_hw412 : k0_chk412 v8106), ∀ a, (k0_off227 v8106) a + S1x64.size a ≤ S100000x64.size a := fun v8106 k0_hw412 => k0_hw412

def k0_off228 (v8116 : BitVec 32) : Fin 2 → Nat :=
  let c0_i32_5995 : BitVec 32 := 0#32
  ![v8116.toNat, 0]

def k0_chk413 (v8116 : BitVec 32) : Prop :=
  (∀ a, (k0_off228 v8116) a + S1x64.size a ≤ S1000000x64.size a)
theorem k0_off228_inb : ∀ (v8116 : BitVec 32) (k0_hw413 : k0_chk413 v8116), ∀ a, (k0_off228 v8116) a + S1x64.size a ≤ S1000000x64.size a := fun v8116 k0_hw413 => k0_hw413

def k0_off229 (v8126 : BitVec 32) : Fin 2 → Nat :=
  let c0_i32_6001 : BitVec 32 := 0#32
  ![v8126.toNat, 0]

def k0_chk414 (v8126 : BitVec 32) : Prop :=
  (∀ a, (k0_off229 v8126) a + S1x64.size a ≤ S100000x64.size a)
theorem k0_off229_inb : ∀ (v8126 : BitVec 32) (k0_hw414 : k0_chk414 v8126), ∀ a, (k0_off229 v8126) a + S1x64.size a ≤ S100000x64.size a := fun v8126 k0_hw414 => k0_hw414

def k0_off230 (v8136 : BitVec 32) : Fin 2 → Nat :=
  let c0_i32_6007 : BitVec 32 := 0#32
  ![v8136.toNat, 0]

def k0_chk415 (v8136 : BitVec 32) : Prop :=
  (∀ a, (k0_off230 v8136) a + S1x64.size a ≤ S1000000x64.size a)
theorem k0_off230_inb : ∀ (v8136 : BitVec 32) (k0_hw415 : k0_chk415 v8136), ∀ a, (k0_off230 v8136) a + S1x64.size a ≤ S1000000x64.size a := fun v8136 k0_hw415 => k0_hw415

def k0_off231 (v8146 : BitVec 32) : Fin 2 → Nat :=
  let c0_i32_6013 : BitVec 32 := 0#32
  ![v8146.toNat, 0]

def k0_chk416 (v8146 : BitVec 32) : Prop :=
  (∀ a, (k0_off231 v8146) a + S1x64.size a ≤ S100000x64.size a)
theorem k0_off231_inb : ∀ (v8146 : BitVec 32) (k0_hw416 : k0_chk416 v8146), ∀ a, (k0_off231 v8146) a + S1x64.size a ≤ S100000x64.size a := fun v8146 k0_hw416 => k0_hw416

def k0_mult11 (k0_t1 : Fin k0_t1_loop.trips) : BitVec 32 :=
  let c0_i32_3405 : BitVec 32 := 0#32
  let c0_i32_754 : BitVec 32 := 0#32
  let c1_i32_756 : BitVec 32 := 1#32
  let arg16 : BitVec 32 := Scf.iv c0_i32_754 c1_i32_756 k0_t1
  let c4_i32_3404 : BitVec 32 := 4#32
  let v4652 : BitVec 32 := Scalar.muli arg16 c4_i32_3404
  let v4653 : BitVec 32 := Scalar.addi c0_i32_3405 v4652
  let c3_i32_6240 : BitVec 32 := 3#32
  let v8411 : BitVec 32 := Scalar.addi v4653 c3_i32_6240
  let c16_i32_6241 : BitVec 32 := 16#32
  let v8412 : BitVec 32 := Scalar.muli v8411 c16_i32_6241
  v8412

def k0_chk417 (v8414 : IVec S16 32) (v8416 : IVec S16 32) : Prop :=
  (∀ a x, ((![v8414, v8416] : Fin 2 → IVec S16 32) a x).toNat < S16x64.size a) ∧
  (∀ a x, ((![v8414, v8416] : Fin 2 → IVec S16 32) a x).toNat < S16x64.size a)
theorem k0_idx385_inb : ∀ (v8414 : IVec S16 32) (v8416 : IVec S16 32) (k0_hw417 : k0_chk417 v8414 v8416), ∀ a x, ((![v8414, v8416] : Fin 2 → IVec S16 32) a x).toNat < S16x64.size a := fun v8414 v8416 k0_hw417 => k0_hw417.1
theorem k0_idx386_inb : ∀ (v8414 : IVec S16 32) (v8416 : IVec S16 32) (k0_hw417 : k0_chk417 v8414 v8416), ∀ a x, ((![v8414, v8416] : Fin 2 → IVec S16 32) a x).toNat < S16x64.size a := fun v8414 v8416 k0_hw417 => k0_hw417.2

def k0_chk418 (v8414 : IVec S16 32) (v8425 : IVec S16 32) : Prop :=
  (∀ a x, ((![v8414, v8425] : Fin 2 → IVec S16 32) a x).toNat < S16x64.size a) ∧
  (∀ a x, ((![v8414, v8425] : Fin 2 → IVec S16 32) a x).toNat < S16x64.size a)
theorem k0_idx387_inb : ∀ (v8414 : IVec S16 32) (v8425 : IVec S16 32) (k0_hw418 : k0_chk418 v8414 v8425), ∀ a x, ((![v8414, v8425] : Fin 2 → IVec S16 32) a x).toNat < S16x64.size a := fun v8414 v8425 k0_hw418 => k0_hw418.1
theorem k0_idx388_inb : ∀ (v8414 : IVec S16 32) (v8425 : IVec S16 32) (k0_hw418 : k0_chk418 v8414 v8425), ∀ a x, ((![v8414, v8425] : Fin 2 → IVec S16 32) a x).toNat < S16x64.size a := fun v8414 v8425 k0_hw418 => k0_hw418.2

def k0_chk419 (v8414 : IVec S16 32) (v8434 : IVec S16 32) : Prop :=
  (∀ a x, ((![v8414, v8434] : Fin 2 → IVec S16 32) a x).toNat < S16x64.size a) ∧
  (∀ a x, ((![v8414, v8434] : Fin 2 → IVec S16 32) a x).toNat < S16x64.size a)
theorem k0_idx389_inb : ∀ (v8414 : IVec S16 32) (v8434 : IVec S16 32) (k0_hw419 : k0_chk419 v8414 v8434), ∀ a x, ((![v8414, v8434] : Fin 2 → IVec S16 32) a x).toNat < S16x64.size a := fun v8414 v8434 k0_hw419 => k0_hw419.1
theorem k0_idx390_inb : ∀ (v8414 : IVec S16 32) (v8434 : IVec S16 32) (k0_hw419 : k0_chk419 v8414 v8434), ∀ a x, ((![v8414, v8434] : Fin 2 → IVec S16 32) a x).toNat < S16x64.size a := fun v8414 v8434 k0_hw419 => k0_hw419.2

def k0_chk420 (v8414 : IVec S16 32) (v8443 : IVec S16 32) : Prop :=
  (∀ a x, ((![v8414, v8443] : Fin 2 → IVec S16 32) a x).toNat < S16x64.size a) ∧
  (∀ a x, ((![v8414, v8443] : Fin 2 → IVec S16 32) a x).toNat < S16x64.size a)
theorem k0_idx391_inb : ∀ (v8414 : IVec S16 32) (v8443 : IVec S16 32) (k0_hw420 : k0_chk420 v8414 v8443), ∀ a x, ((![v8414, v8443] : Fin 2 → IVec S16 32) a x).toNat < S16x64.size a := fun v8414 v8443 k0_hw420 => k0_hw420.1
theorem k0_idx392_inb : ∀ (v8414 : IVec S16 32) (v8443 : IVec S16 32) (k0_hw420 : k0_chk420 v8414 v8443), ∀ a x, ((![v8414, v8443] : Fin 2 → IVec S16 32) a x).toNat < S16x64.size a := fun v8414 v8443 k0_hw420 => k0_hw420.2

def k0_chk421 (v8414 : IVec S16 32) (v8452 : IVec S16 32) : Prop :=
  (∀ a x, ((![v8414, v8452] : Fin 2 → IVec S16 32) a x).toNat < S16x64.size a) ∧
  (∀ a x, ((![v8414, v8452] : Fin 2 → IVec S16 32) a x).toNat < S16x64.size a)
theorem k0_idx393_inb : ∀ (v8414 : IVec S16 32) (v8452 : IVec S16 32) (k0_hw421 : k0_chk421 v8414 v8452), ∀ a x, ((![v8414, v8452] : Fin 2 → IVec S16 32) a x).toNat < S16x64.size a := fun v8414 v8452 k0_hw421 => k0_hw421.1
theorem k0_idx394_inb : ∀ (v8414 : IVec S16 32) (v8452 : IVec S16 32) (k0_hw421 : k0_chk421 v8414 v8452), ∀ a x, ((![v8414, v8452] : Fin 2 → IVec S16 32) a x).toNat < S16x64.size a := fun v8414 v8452 k0_hw421 => k0_hw421.2

def k0_chk422 (v8414 : IVec S16 32) (v8461 : IVec S16 32) : Prop :=
  (∀ a x, ((![v8414, v8461] : Fin 2 → IVec S16 32) a x).toNat < S16x64.size a) ∧
  (∀ a x, ((![v8414, v8461] : Fin 2 → IVec S16 32) a x).toNat < S16x64.size a)
theorem k0_idx395_inb : ∀ (v8414 : IVec S16 32) (v8461 : IVec S16 32) (k0_hw422 : k0_chk422 v8414 v8461), ∀ a x, ((![v8414, v8461] : Fin 2 → IVec S16 32) a x).toNat < S16x64.size a := fun v8414 v8461 k0_hw422 => k0_hw422.1
theorem k0_idx396_inb : ∀ (v8414 : IVec S16 32) (v8461 : IVec S16 32) (k0_hw422 : k0_chk422 v8414 v8461), ∀ a x, ((![v8414, v8461] : Fin 2 → IVec S16 32) a x).toNat < S16x64.size a := fun v8414 v8461 k0_hw422 => k0_hw422.2

def k0_chk423 (v8414 : IVec S16 32) (v8470 : IVec S16 32) : Prop :=
  (∀ a x, ((![v8414, v8470] : Fin 2 → IVec S16 32) a x).toNat < S16x64.size a) ∧
  (∀ a x, ((![v8414, v8470] : Fin 2 → IVec S16 32) a x).toNat < S16x64.size a)
theorem k0_idx397_inb : ∀ (v8414 : IVec S16 32) (v8470 : IVec S16 32) (k0_hw423 : k0_chk423 v8414 v8470), ∀ a x, ((![v8414, v8470] : Fin 2 → IVec S16 32) a x).toNat < S16x64.size a := fun v8414 v8470 k0_hw423 => k0_hw423.1
theorem k0_idx398_inb : ∀ (v8414 : IVec S16 32) (v8470 : IVec S16 32) (k0_hw423 : k0_chk423 v8414 v8470), ∀ a x, ((![v8414, v8470] : Fin 2 → IVec S16 32) a x).toNat < S16x64.size a := fun v8414 v8470 k0_hw423 => k0_hw423.2

def k0_chk424 (v8414 : IVec S16 32) (v8479 : IVec S16 32) : Prop :=
  (∀ a x, ((![v8414, v8479] : Fin 2 → IVec S16 32) a x).toNat < S16x64.size a) ∧
  (∀ a x, ((![v8414, v8479] : Fin 2 → IVec S16 32) a x).toNat < S16x64.size a)
theorem k0_idx399_inb : ∀ (v8414 : IVec S16 32) (v8479 : IVec S16 32) (k0_hw424 : k0_chk424 v8414 v8479), ∀ a x, ((![v8414, v8479] : Fin 2 → IVec S16 32) a x).toNat < S16x64.size a := fun v8414 v8479 k0_hw424 => k0_hw424.1
theorem k0_idx400_inb : ∀ (v8414 : IVec S16 32) (v8479 : IVec S16 32) (k0_hw424 : k0_chk424 v8414 v8479), ∀ a x, ((![v8414, v8479] : Fin 2 → IVec S16 32) a x).toNat < S16x64.size a := fun v8414 v8479 k0_hw424 => k0_hw424.2

def k0_chk425 (v8414 : IVec S16 32) (v8488 : IVec S16 32) : Prop :=
  (∀ a x, ((![v8414, v8488] : Fin 2 → IVec S16 32) a x).toNat < S16x64.size a) ∧
  (∀ a x, ((![v8414, v8488] : Fin 2 → IVec S16 32) a x).toNat < S16x64.size a)
theorem k0_idx401_inb : ∀ (v8414 : IVec S16 32) (v8488 : IVec S16 32) (k0_hw425 : k0_chk425 v8414 v8488), ∀ a x, ((![v8414, v8488] : Fin 2 → IVec S16 32) a x).toNat < S16x64.size a := fun v8414 v8488 k0_hw425 => k0_hw425.1
theorem k0_idx402_inb : ∀ (v8414 : IVec S16 32) (v8488 : IVec S16 32) (k0_hw425 : k0_chk425 v8414 v8488), ∀ a x, ((![v8414, v8488] : Fin 2 → IVec S16 32) a x).toNat < S16x64.size a := fun v8414 v8488 k0_hw425 => k0_hw425.2

def k0_chk426 (v8414 : IVec S16 32) (v8497 : IVec S16 32) : Prop :=
  (∀ a x, ((![v8414, v8497] : Fin 2 → IVec S16 32) a x).toNat < S16x64.size a) ∧
  (∀ a x, ((![v8414, v8497] : Fin 2 → IVec S16 32) a x).toNat < S16x64.size a)
theorem k0_idx403_inb : ∀ (v8414 : IVec S16 32) (v8497 : IVec S16 32) (k0_hw426 : k0_chk426 v8414 v8497), ∀ a x, ((![v8414, v8497] : Fin 2 → IVec S16 32) a x).toNat < S16x64.size a := fun v8414 v8497 k0_hw426 => k0_hw426.1
theorem k0_idx404_inb : ∀ (v8414 : IVec S16 32) (v8497 : IVec S16 32) (k0_hw426 : k0_chk426 v8414 v8497), ∀ a x, ((![v8414, v8497] : Fin 2 → IVec S16 32) a x).toNat < S16x64.size a := fun v8414 v8497 k0_hw426 => k0_hw426.2

def k0_chk427 (v8414 : IVec S16 32) (v8506 : IVec S16 32) : Prop :=
  (∀ a x, ((![v8414, v8506] : Fin 2 → IVec S16 32) a x).toNat < S16x64.size a) ∧
  (∀ a x, ((![v8414, v8506] : Fin 2 → IVec S16 32) a x).toNat < S16x64.size a)
theorem k0_idx405_inb : ∀ (v8414 : IVec S16 32) (v8506 : IVec S16 32) (k0_hw427 : k0_chk427 v8414 v8506), ∀ a x, ((![v8414, v8506] : Fin 2 → IVec S16 32) a x).toNat < S16x64.size a := fun v8414 v8506 k0_hw427 => k0_hw427.1
theorem k0_idx406_inb : ∀ (v8414 : IVec S16 32) (v8506 : IVec S16 32) (k0_hw427 : k0_chk427 v8414 v8506), ∀ a x, ((![v8414, v8506] : Fin 2 → IVec S16 32) a x).toNat < S16x64.size a := fun v8414 v8506 k0_hw427 => k0_hw427.2

def k0_chk428 (v8414 : IVec S16 32) (v8515 : IVec S16 32) : Prop :=
  (∀ a x, ((![v8414, v8515] : Fin 2 → IVec S16 32) a x).toNat < S16x64.size a) ∧
  (∀ a x, ((![v8414, v8515] : Fin 2 → IVec S16 32) a x).toNat < S16x64.size a)
theorem k0_idx407_inb : ∀ (v8414 : IVec S16 32) (v8515 : IVec S16 32) (k0_hw428 : k0_chk428 v8414 v8515), ∀ a x, ((![v8414, v8515] : Fin 2 → IVec S16 32) a x).toNat < S16x64.size a := fun v8414 v8515 k0_hw428 => k0_hw428.1
theorem k0_idx408_inb : ∀ (v8414 : IVec S16 32) (v8515 : IVec S16 32) (k0_hw428 : k0_chk428 v8414 v8515), ∀ a x, ((![v8414, v8515] : Fin 2 → IVec S16 32) a x).toNat < S16x64.size a := fun v8414 v8515 k0_hw428 => k0_hw428.2

def k0_chk429 (v8414 : IVec S16 32) (v8524 : IVec S16 32) : Prop :=
  (∀ a x, ((![v8414, v8524] : Fin 2 → IVec S16 32) a x).toNat < S16x64.size a) ∧
  (∀ a x, ((![v8414, v8524] : Fin 2 → IVec S16 32) a x).toNat < S16x64.size a)
theorem k0_idx409_inb : ∀ (v8414 : IVec S16 32) (v8524 : IVec S16 32) (k0_hw429 : k0_chk429 v8414 v8524), ∀ a x, ((![v8414, v8524] : Fin 2 → IVec S16 32) a x).toNat < S16x64.size a := fun v8414 v8524 k0_hw429 => k0_hw429.1
theorem k0_idx410_inb : ∀ (v8414 : IVec S16 32) (v8524 : IVec S16 32) (k0_hw429 : k0_chk429 v8414 v8524), ∀ a x, ((![v8414, v8524] : Fin 2 → IVec S16 32) a x).toNat < S16x64.size a := fun v8414 v8524 k0_hw429 => k0_hw429.2

def k0_chk430 (v8414 : IVec S16 32) (v8533 : IVec S16 32) : Prop :=
  (∀ a x, ((![v8414, v8533] : Fin 2 → IVec S16 32) a x).toNat < S16x64.size a) ∧
  (∀ a x, ((![v8414, v8533] : Fin 2 → IVec S16 32) a x).toNat < S16x64.size a)
theorem k0_idx411_inb : ∀ (v8414 : IVec S16 32) (v8533 : IVec S16 32) (k0_hw430 : k0_chk430 v8414 v8533), ∀ a x, ((![v8414, v8533] : Fin 2 → IVec S16 32) a x).toNat < S16x64.size a := fun v8414 v8533 k0_hw430 => k0_hw430.1
theorem k0_idx412_inb : ∀ (v8414 : IVec S16 32) (v8533 : IVec S16 32) (k0_hw430 : k0_chk430 v8414 v8533), ∀ a x, ((![v8414, v8533] : Fin 2 → IVec S16 32) a x).toNat < S16x64.size a := fun v8414 v8533 k0_hw430 => k0_hw430.2

def k0_chk431 (v8414 : IVec S16 32) (v8542 : IVec S16 32) : Prop :=
  (∀ a x, ((![v8414, v8542] : Fin 2 → IVec S16 32) a x).toNat < S16x64.size a) ∧
  (∀ a x, ((![v8414, v8542] : Fin 2 → IVec S16 32) a x).toNat < S16x64.size a)
theorem k0_idx413_inb : ∀ (v8414 : IVec S16 32) (v8542 : IVec S16 32) (k0_hw431 : k0_chk431 v8414 v8542), ∀ a x, ((![v8414, v8542] : Fin 2 → IVec S16 32) a x).toNat < S16x64.size a := fun v8414 v8542 k0_hw431 => k0_hw431.1
theorem k0_idx414_inb : ∀ (v8414 : IVec S16 32) (v8542 : IVec S16 32) (k0_hw431 : k0_chk431 v8414 v8542), ∀ a x, ((![v8414, v8542] : Fin 2 → IVec S16 32) a x).toNat < S16x64.size a := fun v8414 v8542 k0_hw431 => k0_hw431.2

def k0_chk432 (v8414 : IVec S16 32) (v8551 : IVec S16 32) : Prop :=
  (∀ a x, ((![v8414, v8551] : Fin 2 → IVec S16 32) a x).toNat < S16x64.size a) ∧
  (∀ a x, ((![v8414, v8551] : Fin 2 → IVec S16 32) a x).toNat < S16x64.size a)
theorem k0_idx415_inb : ∀ (v8414 : IVec S16 32) (v8551 : IVec S16 32) (k0_hw432 : k0_chk432 v8414 v8551), ∀ a x, ((![v8414, v8551] : Fin 2 → IVec S16 32) a x).toNat < S16x64.size a := fun v8414 v8551 k0_hw432 => k0_hw432.1
theorem k0_idx416_inb : ∀ (v8414 : IVec S16 32) (v8551 : IVec S16 32) (k0_hw432 : k0_chk432 v8414 v8551), ∀ a x, ((![v8414, v8551] : Fin 2 → IVec S16 32) a x).toNat < S16x64.size a := fun v8414 v8551 k0_hw432 => k0_hw432.2

def k0_chk433 (v8414 : IVec S16 32) (v8560 : IVec S16 32) : Prop :=
  (∀ a x, ((![v8414, v8560] : Fin 2 → IVec S16 32) a x).toNat < S16x64.size a) ∧
  (∀ a x, ((![v8414, v8560] : Fin 2 → IVec S16 32) a x).toNat < S16x64.size a)
theorem k0_idx417_inb : ∀ (v8414 : IVec S16 32) (v8560 : IVec S16 32) (k0_hw433 : k0_chk433 v8414 v8560), ∀ a x, ((![v8414, v8560] : Fin 2 → IVec S16 32) a x).toNat < S16x64.size a := fun v8414 v8560 k0_hw433 => k0_hw433.1
theorem k0_idx418_inb : ∀ (v8414 : IVec S16 32) (v8560 : IVec S16 32) (k0_hw433 : k0_chk433 v8414 v8560), ∀ a x, ((![v8414, v8560] : Fin 2 → IVec S16 32) a x).toNat < S16x64.size a := fun v8414 v8560 k0_hw433 => k0_hw433.2

def k0_chk434 (v8414 : IVec S16 32) (v8569 : IVec S16 32) : Prop :=
  (∀ a x, ((![v8414, v8569] : Fin 2 → IVec S16 32) a x).toNat < S16x64.size a) ∧
  (∀ a x, ((![v8414, v8569] : Fin 2 → IVec S16 32) a x).toNat < S16x64.size a)
theorem k0_idx419_inb : ∀ (v8414 : IVec S16 32) (v8569 : IVec S16 32) (k0_hw434 : k0_chk434 v8414 v8569), ∀ a x, ((![v8414, v8569] : Fin 2 → IVec S16 32) a x).toNat < S16x64.size a := fun v8414 v8569 k0_hw434 => k0_hw434.1
theorem k0_idx420_inb : ∀ (v8414 : IVec S16 32) (v8569 : IVec S16 32) (k0_hw434 : k0_chk434 v8414 v8569), ∀ a x, ((![v8414, v8569] : Fin 2 → IVec S16 32) a x).toNat < S16x64.size a := fun v8414 v8569 k0_hw434 => k0_hw434.2

def k0_chk435 (v8414 : IVec S16 32) (v8578 : IVec S16 32) : Prop :=
  (∀ a x, ((![v8414, v8578] : Fin 2 → IVec S16 32) a x).toNat < S16x64.size a) ∧
  (∀ a x, ((![v8414, v8578] : Fin 2 → IVec S16 32) a x).toNat < S16x64.size a)
theorem k0_idx421_inb : ∀ (v8414 : IVec S16 32) (v8578 : IVec S16 32) (k0_hw435 : k0_chk435 v8414 v8578), ∀ a x, ((![v8414, v8578] : Fin 2 → IVec S16 32) a x).toNat < S16x64.size a := fun v8414 v8578 k0_hw435 => k0_hw435.1
theorem k0_idx422_inb : ∀ (v8414 : IVec S16 32) (v8578 : IVec S16 32) (k0_hw435 : k0_chk435 v8414 v8578), ∀ a x, ((![v8414, v8578] : Fin 2 → IVec S16 32) a x).toNat < S16x64.size a := fun v8414 v8578 k0_hw435 => k0_hw435.2

def k0_chk436 (v8414 : IVec S16 32) (v8587 : IVec S16 32) : Prop :=
  (∀ a x, ((![v8414, v8587] : Fin 2 → IVec S16 32) a x).toNat < S16x64.size a) ∧
  (∀ a x, ((![v8414, v8587] : Fin 2 → IVec S16 32) a x).toNat < S16x64.size a)
theorem k0_idx423_inb : ∀ (v8414 : IVec S16 32) (v8587 : IVec S16 32) (k0_hw436 : k0_chk436 v8414 v8587), ∀ a x, ((![v8414, v8587] : Fin 2 → IVec S16 32) a x).toNat < S16x64.size a := fun v8414 v8587 k0_hw436 => k0_hw436.1
theorem k0_idx424_inb : ∀ (v8414 : IVec S16 32) (v8587 : IVec S16 32) (k0_hw436 : k0_chk436 v8414 v8587), ∀ a x, ((![v8414, v8587] : Fin 2 → IVec S16 32) a x).toNat < S16x64.size a := fun v8414 v8587 k0_hw436 => k0_hw436.2

def k0_chk437 (v8414 : IVec S16 32) (v8596 : IVec S16 32) : Prop :=
  (∀ a x, ((![v8414, v8596] : Fin 2 → IVec S16 32) a x).toNat < S16x64.size a) ∧
  (∀ a x, ((![v8414, v8596] : Fin 2 → IVec S16 32) a x).toNat < S16x64.size a)
theorem k0_idx425_inb : ∀ (v8414 : IVec S16 32) (v8596 : IVec S16 32) (k0_hw437 : k0_chk437 v8414 v8596), ∀ a x, ((![v8414, v8596] : Fin 2 → IVec S16 32) a x).toNat < S16x64.size a := fun v8414 v8596 k0_hw437 => k0_hw437.1
theorem k0_idx426_inb : ∀ (v8414 : IVec S16 32) (v8596 : IVec S16 32) (k0_hw437 : k0_chk437 v8414 v8596), ∀ a x, ((![v8414, v8596] : Fin 2 → IVec S16 32) a x).toNat < S16x64.size a := fun v8414 v8596 k0_hw437 => k0_hw437.2

def k0_chk438 (v8414 : IVec S16 32) (v8605 : IVec S16 32) : Prop :=
  (∀ a x, ((![v8414, v8605] : Fin 2 → IVec S16 32) a x).toNat < S16x64.size a) ∧
  (∀ a x, ((![v8414, v8605] : Fin 2 → IVec S16 32) a x).toNat < S16x64.size a)
theorem k0_idx427_inb : ∀ (v8414 : IVec S16 32) (v8605 : IVec S16 32) (k0_hw438 : k0_chk438 v8414 v8605), ∀ a x, ((![v8414, v8605] : Fin 2 → IVec S16 32) a x).toNat < S16x64.size a := fun v8414 v8605 k0_hw438 => k0_hw438.1
theorem k0_idx428_inb : ∀ (v8414 : IVec S16 32) (v8605 : IVec S16 32) (k0_hw438 : k0_chk438 v8414 v8605), ∀ a x, ((![v8414, v8605] : Fin 2 → IVec S16 32) a x).toNat < S16x64.size a := fun v8414 v8605 k0_hw438 => k0_hw438.2

def k0_chk439 (v8414 : IVec S16 32) (v8614 : IVec S16 32) : Prop :=
  (∀ a x, ((![v8414, v8614] : Fin 2 → IVec S16 32) a x).toNat < S16x64.size a) ∧
  (∀ a x, ((![v8414, v8614] : Fin 2 → IVec S16 32) a x).toNat < S16x64.size a)
theorem k0_idx429_inb : ∀ (v8414 : IVec S16 32) (v8614 : IVec S16 32) (k0_hw439 : k0_chk439 v8414 v8614), ∀ a x, ((![v8414, v8614] : Fin 2 → IVec S16 32) a x).toNat < S16x64.size a := fun v8414 v8614 k0_hw439 => k0_hw439.1
theorem k0_idx430_inb : ∀ (v8414 : IVec S16 32) (v8614 : IVec S16 32) (k0_hw439 : k0_chk439 v8414 v8614), ∀ a x, ((![v8414, v8614] : Fin 2 → IVec S16 32) a x).toNat < S16x64.size a := fun v8414 v8614 k0_hw439 => k0_hw439.2

def k0_chk440 (v8414 : IVec S16 32) (v8623 : IVec S16 32) : Prop :=
  (∀ a x, ((![v8414, v8623] : Fin 2 → IVec S16 32) a x).toNat < S16x64.size a) ∧
  (∀ a x, ((![v8414, v8623] : Fin 2 → IVec S16 32) a x).toNat < S16x64.size a)
theorem k0_idx431_inb : ∀ (v8414 : IVec S16 32) (v8623 : IVec S16 32) (k0_hw440 : k0_chk440 v8414 v8623), ∀ a x, ((![v8414, v8623] : Fin 2 → IVec S16 32) a x).toNat < S16x64.size a := fun v8414 v8623 k0_hw440 => k0_hw440.1
theorem k0_idx432_inb : ∀ (v8414 : IVec S16 32) (v8623 : IVec S16 32) (k0_hw440 : k0_chk440 v8414 v8623), ∀ a x, ((![v8414, v8623] : Fin 2 → IVec S16 32) a x).toNat < S16x64.size a := fun v8414 v8623 k0_hw440 => k0_hw440.2

def k0_chk441 (v8414 : IVec S16 32) (v8632 : IVec S16 32) : Prop :=
  (∀ a x, ((![v8414, v8632] : Fin 2 → IVec S16 32) a x).toNat < S16x64.size a) ∧
  (∀ a x, ((![v8414, v8632] : Fin 2 → IVec S16 32) a x).toNat < S16x64.size a)
theorem k0_idx433_inb : ∀ (v8414 : IVec S16 32) (v8632 : IVec S16 32) (k0_hw441 : k0_chk441 v8414 v8632), ∀ a x, ((![v8414, v8632] : Fin 2 → IVec S16 32) a x).toNat < S16x64.size a := fun v8414 v8632 k0_hw441 => k0_hw441.1
theorem k0_idx434_inb : ∀ (v8414 : IVec S16 32) (v8632 : IVec S16 32) (k0_hw441 : k0_chk441 v8414 v8632), ∀ a x, ((![v8414, v8632] : Fin 2 → IVec S16 32) a x).toNat < S16x64.size a := fun v8414 v8632 k0_hw441 => k0_hw441.2

def k0_chk442 (v8414 : IVec S16 32) (v8641 : IVec S16 32) : Prop :=
  (∀ a x, ((![v8414, v8641] : Fin 2 → IVec S16 32) a x).toNat < S16x64.size a) ∧
  (∀ a x, ((![v8414, v8641] : Fin 2 → IVec S16 32) a x).toNat < S16x64.size a)
theorem k0_idx435_inb : ∀ (v8414 : IVec S16 32) (v8641 : IVec S16 32) (k0_hw442 : k0_chk442 v8414 v8641), ∀ a x, ((![v8414, v8641] : Fin 2 → IVec S16 32) a x).toNat < S16x64.size a := fun v8414 v8641 k0_hw442 => k0_hw442.1
theorem k0_idx436_inb : ∀ (v8414 : IVec S16 32) (v8641 : IVec S16 32) (k0_hw442 : k0_chk442 v8414 v8641), ∀ a x, ((![v8414, v8641] : Fin 2 → IVec S16 32) a x).toNat < S16x64.size a := fun v8414 v8641 k0_hw442 => k0_hw442.2

def k0_chk443 (v8414 : IVec S16 32) (v8650 : IVec S16 32) : Prop :=
  (∀ a x, ((![v8414, v8650] : Fin 2 → IVec S16 32) a x).toNat < S16x64.size a) ∧
  (∀ a x, ((![v8414, v8650] : Fin 2 → IVec S16 32) a x).toNat < S16x64.size a)
theorem k0_idx437_inb : ∀ (v8414 : IVec S16 32) (v8650 : IVec S16 32) (k0_hw443 : k0_chk443 v8414 v8650), ∀ a x, ((![v8414, v8650] : Fin 2 → IVec S16 32) a x).toNat < S16x64.size a := fun v8414 v8650 k0_hw443 => k0_hw443.1
theorem k0_idx438_inb : ∀ (v8414 : IVec S16 32) (v8650 : IVec S16 32) (k0_hw443 : k0_chk443 v8414 v8650), ∀ a x, ((![v8414, v8650] : Fin 2 → IVec S16 32) a x).toNat < S16x64.size a := fun v8414 v8650 k0_hw443 => k0_hw443.2

def k0_chk444 (v8414 : IVec S16 32) (v8659 : IVec S16 32) : Prop :=
  (∀ a x, ((![v8414, v8659] : Fin 2 → IVec S16 32) a x).toNat < S16x64.size a) ∧
  (∀ a x, ((![v8414, v8659] : Fin 2 → IVec S16 32) a x).toNat < S16x64.size a)
theorem k0_idx439_inb : ∀ (v8414 : IVec S16 32) (v8659 : IVec S16 32) (k0_hw444 : k0_chk444 v8414 v8659), ∀ a x, ((![v8414, v8659] : Fin 2 → IVec S16 32) a x).toNat < S16x64.size a := fun v8414 v8659 k0_hw444 => k0_hw444.1
theorem k0_idx440_inb : ∀ (v8414 : IVec S16 32) (v8659 : IVec S16 32) (k0_hw444 : k0_chk444 v8414 v8659), ∀ a x, ((![v8414, v8659] : Fin 2 → IVec S16 32) a x).toNat < S16x64.size a := fun v8414 v8659 k0_hw444 => k0_hw444.2

def k0_chk445 (v8414 : IVec S16 32) (v8668 : IVec S16 32) : Prop :=
  (∀ a x, ((![v8414, v8668] : Fin 2 → IVec S16 32) a x).toNat < S16x64.size a) ∧
  (∀ a x, ((![v8414, v8668] : Fin 2 → IVec S16 32) a x).toNat < S16x64.size a)
theorem k0_idx441_inb : ∀ (v8414 : IVec S16 32) (v8668 : IVec S16 32) (k0_hw445 : k0_chk445 v8414 v8668), ∀ a x, ((![v8414, v8668] : Fin 2 → IVec S16 32) a x).toNat < S16x64.size a := fun v8414 v8668 k0_hw445 => k0_hw445.1
theorem k0_idx442_inb : ∀ (v8414 : IVec S16 32) (v8668 : IVec S16 32) (k0_hw445 : k0_chk445 v8414 v8668), ∀ a x, ((![v8414, v8668] : Fin 2 → IVec S16 32) a x).toNat < S16x64.size a := fun v8414 v8668 k0_hw445 => k0_hw445.2

def k0_chk446 (v8414 : IVec S16 32) (v8677 : IVec S16 32) : Prop :=
  (∀ a x, ((![v8414, v8677] : Fin 2 → IVec S16 32) a x).toNat < S16x64.size a) ∧
  (∀ a x, ((![v8414, v8677] : Fin 2 → IVec S16 32) a x).toNat < S16x64.size a)
theorem k0_idx443_inb : ∀ (v8414 : IVec S16 32) (v8677 : IVec S16 32) (k0_hw446 : k0_chk446 v8414 v8677), ∀ a x, ((![v8414, v8677] : Fin 2 → IVec S16 32) a x).toNat < S16x64.size a := fun v8414 v8677 k0_hw446 => k0_hw446.1
theorem k0_idx444_inb : ∀ (v8414 : IVec S16 32) (v8677 : IVec S16 32) (k0_hw446 : k0_chk446 v8414 v8677), ∀ a x, ((![v8414, v8677] : Fin 2 → IVec S16 32) a x).toNat < S16x64.size a := fun v8414 v8677 k0_hw446 => k0_hw446.2

def k0_chk447 (v8414 : IVec S16 32) (v8686 : IVec S16 32) : Prop :=
  (∀ a x, ((![v8414, v8686] : Fin 2 → IVec S16 32) a x).toNat < S16x64.size a) ∧
  (∀ a x, ((![v8414, v8686] : Fin 2 → IVec S16 32) a x).toNat < S16x64.size a)
theorem k0_idx445_inb : ∀ (v8414 : IVec S16 32) (v8686 : IVec S16 32) (k0_hw447 : k0_chk447 v8414 v8686), ∀ a x, ((![v8414, v8686] : Fin 2 → IVec S16 32) a x).toNat < S16x64.size a := fun v8414 v8686 k0_hw447 => k0_hw447.1
theorem k0_idx446_inb : ∀ (v8414 : IVec S16 32) (v8686 : IVec S16 32) (k0_hw447 : k0_chk447 v8414 v8686), ∀ a x, ((![v8414, v8686] : Fin 2 → IVec S16 32) a x).toNat < S16x64.size a := fun v8414 v8686 k0_hw447 => k0_hw447.2

def k0_chk448 (v8414 : IVec S16 32) (v8695 : IVec S16 32) : Prop :=
  (∀ a x, ((![v8414, v8695] : Fin 2 → IVec S16 32) a x).toNat < S16x64.size a) ∧
  (∀ a x, ((![v8414, v8695] : Fin 2 → IVec S16 32) a x).toNat < S16x64.size a)
theorem k0_idx447_inb : ∀ (v8414 : IVec S16 32) (v8695 : IVec S16 32) (k0_hw448 : k0_chk448 v8414 v8695), ∀ a x, ((![v8414, v8695] : Fin 2 → IVec S16 32) a x).toNat < S16x64.size a := fun v8414 v8695 k0_hw448 => k0_hw448.1
theorem k0_idx448_inb : ∀ (v8414 : IVec S16 32) (v8695 : IVec S16 32) (k0_hw448 : k0_chk448 v8414 v8695), ∀ a x, ((![v8414, v8695] : Fin 2 → IVec S16 32) a x).toNat < S16x64.size a := fun v8414 v8695 k0_hw448 => k0_hw448.2

def k0_chk449 (v8414 : IVec S16 32) (v8704 : IVec S16 32) : Prop :=
  (∀ a x, ((![v8414, v8704] : Fin 2 → IVec S16 32) a x).toNat < S16x64.size a) ∧
  (∀ a x, ((![v8414, v8704] : Fin 2 → IVec S16 32) a x).toNat < S16x64.size a)
theorem k0_idx449_inb : ∀ (v8414 : IVec S16 32) (v8704 : IVec S16 32) (k0_hw449 : k0_chk449 v8414 v8704), ∀ a x, ((![v8414, v8704] : Fin 2 → IVec S16 32) a x).toNat < S16x64.size a := fun v8414 v8704 k0_hw449 => k0_hw449.1
theorem k0_idx450_inb : ∀ (v8414 : IVec S16 32) (v8704 : IVec S16 32) (k0_hw449 : k0_chk449 v8414 v8704), ∀ a x, ((![v8414, v8704] : Fin 2 → IVec S16 32) a x).toNat < S16x64.size a := fun v8414 v8704 k0_hw449 => k0_hw449.2

def k0_chk450 (v8414 : IVec S16 32) (v8713 : IVec S16 32) : Prop :=
  (∀ a x, ((![v8414, v8713] : Fin 2 → IVec S16 32) a x).toNat < S16x64.size a) ∧
  (∀ a x, ((![v8414, v8713] : Fin 2 → IVec S16 32) a x).toNat < S16x64.size a)
theorem k0_idx451_inb : ∀ (v8414 : IVec S16 32) (v8713 : IVec S16 32) (k0_hw450 : k0_chk450 v8414 v8713), ∀ a x, ((![v8414, v8713] : Fin 2 → IVec S16 32) a x).toNat < S16x64.size a := fun v8414 v8713 k0_hw450 => k0_hw450.1
theorem k0_idx452_inb : ∀ (v8414 : IVec S16 32) (v8713 : IVec S16 32) (k0_hw450 : k0_chk450 v8414 v8713), ∀ a x, ((![v8414, v8713] : Fin 2 → IVec S16 32) a x).toNat < S16x64.size a := fun v8414 v8713 k0_hw450 => k0_hw450.2

def k0_chk451 (v8414 : IVec S16 32) (v8722 : IVec S16 32) : Prop :=
  (∀ a x, ((![v8414, v8722] : Fin 2 → IVec S16 32) a x).toNat < S16x64.size a) ∧
  (∀ a x, ((![v8414, v8722] : Fin 2 → IVec S16 32) a x).toNat < S16x64.size a)
theorem k0_idx453_inb : ∀ (v8414 : IVec S16 32) (v8722 : IVec S16 32) (k0_hw451 : k0_chk451 v8414 v8722), ∀ a x, ((![v8414, v8722] : Fin 2 → IVec S16 32) a x).toNat < S16x64.size a := fun v8414 v8722 k0_hw451 => k0_hw451.1
theorem k0_idx454_inb : ∀ (v8414 : IVec S16 32) (v8722 : IVec S16 32) (k0_hw451 : k0_chk451 v8414 v8722), ∀ a x, ((![v8414, v8722] : Fin 2 → IVec S16 32) a x).toNat < S16x64.size a := fun v8414 v8722 k0_hw451 => k0_hw451.2

def k0_chk452 (v8414 : IVec S16 32) (v8731 : IVec S16 32) : Prop :=
  (∀ a x, ((![v8414, v8731] : Fin 2 → IVec S16 32) a x).toNat < S16x64.size a) ∧
  (∀ a x, ((![v8414, v8731] : Fin 2 → IVec S16 32) a x).toNat < S16x64.size a)
theorem k0_idx455_inb : ∀ (v8414 : IVec S16 32) (v8731 : IVec S16 32) (k0_hw452 : k0_chk452 v8414 v8731), ∀ a x, ((![v8414, v8731] : Fin 2 → IVec S16 32) a x).toNat < S16x64.size a := fun v8414 v8731 k0_hw452 => k0_hw452.1
theorem k0_idx456_inb : ∀ (v8414 : IVec S16 32) (v8731 : IVec S16 32) (k0_hw452 : k0_chk452 v8414 v8731), ∀ a x, ((![v8414, v8731] : Fin 2 → IVec S16 32) a x).toNat < S16x64.size a := fun v8414 v8731 k0_hw452 => k0_hw452.2

def k0_chk453 (v8414 : IVec S16 32) (v8740 : IVec S16 32) : Prop :=
  (∀ a x, ((![v8414, v8740] : Fin 2 → IVec S16 32) a x).toNat < S16x64.size a) ∧
  (∀ a x, ((![v8414, v8740] : Fin 2 → IVec S16 32) a x).toNat < S16x64.size a)
theorem k0_idx457_inb : ∀ (v8414 : IVec S16 32) (v8740 : IVec S16 32) (k0_hw453 : k0_chk453 v8414 v8740), ∀ a x, ((![v8414, v8740] : Fin 2 → IVec S16 32) a x).toNat < S16x64.size a := fun v8414 v8740 k0_hw453 => k0_hw453.1
theorem k0_idx458_inb : ∀ (v8414 : IVec S16 32) (v8740 : IVec S16 32) (k0_hw453 : k0_chk453 v8414 v8740), ∀ a x, ((![v8414, v8740] : Fin 2 → IVec S16 32) a x).toNat < S16x64.size a := fun v8414 v8740 k0_hw453 => k0_hw453.2

def k0_chk454 (v8414 : IVec S16 32) (v8749 : IVec S16 32) : Prop :=
  (∀ a x, ((![v8414, v8749] : Fin 2 → IVec S16 32) a x).toNat < S16x64.size a) ∧
  (∀ a x, ((![v8414, v8749] : Fin 2 → IVec S16 32) a x).toNat < S16x64.size a)
theorem k0_idx459_inb : ∀ (v8414 : IVec S16 32) (v8749 : IVec S16 32) (k0_hw454 : k0_chk454 v8414 v8749), ∀ a x, ((![v8414, v8749] : Fin 2 → IVec S16 32) a x).toNat < S16x64.size a := fun v8414 v8749 k0_hw454 => k0_hw454.1
theorem k0_idx460_inb : ∀ (v8414 : IVec S16 32) (v8749 : IVec S16 32) (k0_hw454 : k0_chk454 v8414 v8749), ∀ a x, ((![v8414, v8749] : Fin 2 → IVec S16 32) a x).toNat < S16x64.size a := fun v8414 v8749 k0_hw454 => k0_hw454.2

def k0_chk455 (v8414 : IVec S16 32) (v8758 : IVec S16 32) : Prop :=
  (∀ a x, ((![v8414, v8758] : Fin 2 → IVec S16 32) a x).toNat < S16x64.size a) ∧
  (∀ a x, ((![v8414, v8758] : Fin 2 → IVec S16 32) a x).toNat < S16x64.size a)
theorem k0_idx461_inb : ∀ (v8414 : IVec S16 32) (v8758 : IVec S16 32) (k0_hw455 : k0_chk455 v8414 v8758), ∀ a x, ((![v8414, v8758] : Fin 2 → IVec S16 32) a x).toNat < S16x64.size a := fun v8414 v8758 k0_hw455 => k0_hw455.1
theorem k0_idx462_inb : ∀ (v8414 : IVec S16 32) (v8758 : IVec S16 32) (k0_hw455 : k0_chk455 v8414 v8758), ∀ a x, ((![v8414, v8758] : Fin 2 → IVec S16 32) a x).toNat < S16x64.size a := fun v8414 v8758 k0_hw455 => k0_hw455.2

def k0_chk456 (v8414 : IVec S16 32) (v8767 : IVec S16 32) : Prop :=
  (∀ a x, ((![v8414, v8767] : Fin 2 → IVec S16 32) a x).toNat < S16x64.size a) ∧
  (∀ a x, ((![v8414, v8767] : Fin 2 → IVec S16 32) a x).toNat < S16x64.size a)
theorem k0_idx463_inb : ∀ (v8414 : IVec S16 32) (v8767 : IVec S16 32) (k0_hw456 : k0_chk456 v8414 v8767), ∀ a x, ((![v8414, v8767] : Fin 2 → IVec S16 32) a x).toNat < S16x64.size a := fun v8414 v8767 k0_hw456 => k0_hw456.1
theorem k0_idx464_inb : ∀ (v8414 : IVec S16 32) (v8767 : IVec S16 32) (k0_hw456 : k0_chk456 v8414 v8767), ∀ a x, ((![v8414, v8767] : Fin 2 → IVec S16 32) a x).toNat < S16x64.size a := fun v8414 v8767 k0_hw456 => k0_hw456.2

def k0_chk457 (v8414 : IVec S16 32) (v8776 : IVec S16 32) : Prop :=
  (∀ a x, ((![v8414, v8776] : Fin 2 → IVec S16 32) a x).toNat < S16x64.size a) ∧
  (∀ a x, ((![v8414, v8776] : Fin 2 → IVec S16 32) a x).toNat < S16x64.size a)
theorem k0_idx465_inb : ∀ (v8414 : IVec S16 32) (v8776 : IVec S16 32) (k0_hw457 : k0_chk457 v8414 v8776), ∀ a x, ((![v8414, v8776] : Fin 2 → IVec S16 32) a x).toNat < S16x64.size a := fun v8414 v8776 k0_hw457 => k0_hw457.1
theorem k0_idx466_inb : ∀ (v8414 : IVec S16 32) (v8776 : IVec S16 32) (k0_hw457 : k0_chk457 v8414 v8776), ∀ a x, ((![v8414, v8776] : Fin 2 → IVec S16 32) a x).toNat < S16x64.size a := fun v8414 v8776 k0_hw457 => k0_hw457.2

def k0_chk458 (v8414 : IVec S16 32) (v8785 : IVec S16 32) : Prop :=
  (∀ a x, ((![v8414, v8785] : Fin 2 → IVec S16 32) a x).toNat < S16x64.size a) ∧
  (∀ a x, ((![v8414, v8785] : Fin 2 → IVec S16 32) a x).toNat < S16x64.size a)
theorem k0_idx467_inb : ∀ (v8414 : IVec S16 32) (v8785 : IVec S16 32) (k0_hw458 : k0_chk458 v8414 v8785), ∀ a x, ((![v8414, v8785] : Fin 2 → IVec S16 32) a x).toNat < S16x64.size a := fun v8414 v8785 k0_hw458 => k0_hw458.1
theorem k0_idx468_inb : ∀ (v8414 : IVec S16 32) (v8785 : IVec S16 32) (k0_hw458 : k0_chk458 v8414 v8785), ∀ a x, ((![v8414, v8785] : Fin 2 → IVec S16 32) a x).toNat < S16x64.size a := fun v8414 v8785 k0_hw458 => k0_hw458.2

def k0_chk459 (v8414 : IVec S16 32) (v8794 : IVec S16 32) : Prop :=
  (∀ a x, ((![v8414, v8794] : Fin 2 → IVec S16 32) a x).toNat < S16x64.size a) ∧
  (∀ a x, ((![v8414, v8794] : Fin 2 → IVec S16 32) a x).toNat < S16x64.size a)
theorem k0_idx469_inb : ∀ (v8414 : IVec S16 32) (v8794 : IVec S16 32) (k0_hw459 : k0_chk459 v8414 v8794), ∀ a x, ((![v8414, v8794] : Fin 2 → IVec S16 32) a x).toNat < S16x64.size a := fun v8414 v8794 k0_hw459 => k0_hw459.1
theorem k0_idx470_inb : ∀ (v8414 : IVec S16 32) (v8794 : IVec S16 32) (k0_hw459 : k0_chk459 v8414 v8794), ∀ a x, ((![v8414, v8794] : Fin 2 → IVec S16 32) a x).toNat < S16x64.size a := fun v8414 v8794 k0_hw459 => k0_hw459.2

def k0_chk460 (v8414 : IVec S16 32) (v8803 : IVec S16 32) : Prop :=
  (∀ a x, ((![v8414, v8803] : Fin 2 → IVec S16 32) a x).toNat < S16x64.size a) ∧
  (∀ a x, ((![v8414, v8803] : Fin 2 → IVec S16 32) a x).toNat < S16x64.size a)
theorem k0_idx471_inb : ∀ (v8414 : IVec S16 32) (v8803 : IVec S16 32) (k0_hw460 : k0_chk460 v8414 v8803), ∀ a x, ((![v8414, v8803] : Fin 2 → IVec S16 32) a x).toNat < S16x64.size a := fun v8414 v8803 k0_hw460 => k0_hw460.1
theorem k0_idx472_inb : ∀ (v8414 : IVec S16 32) (v8803 : IVec S16 32) (k0_hw460 : k0_chk460 v8414 v8803), ∀ a x, ((![v8414, v8803] : Fin 2 → IVec S16 32) a x).toNat < S16x64.size a := fun v8414 v8803 k0_hw460 => k0_hw460.2

def k0_chk461 (v8414 : IVec S16 32) (v8812 : IVec S16 32) : Prop :=
  (∀ a x, ((![v8414, v8812] : Fin 2 → IVec S16 32) a x).toNat < S16x64.size a) ∧
  (∀ a x, ((![v8414, v8812] : Fin 2 → IVec S16 32) a x).toNat < S16x64.size a)
theorem k0_idx473_inb : ∀ (v8414 : IVec S16 32) (v8812 : IVec S16 32) (k0_hw461 : k0_chk461 v8414 v8812), ∀ a x, ((![v8414, v8812] : Fin 2 → IVec S16 32) a x).toNat < S16x64.size a := fun v8414 v8812 k0_hw461 => k0_hw461.1
theorem k0_idx474_inb : ∀ (v8414 : IVec S16 32) (v8812 : IVec S16 32) (k0_hw461 : k0_chk461 v8414 v8812), ∀ a x, ((![v8414, v8812] : Fin 2 → IVec S16 32) a x).toNat < S16x64.size a := fun v8414 v8812 k0_hw461 => k0_hw461.2

def k0_chk462 (v8414 : IVec S16 32) (v8821 : IVec S16 32) : Prop :=
  (∀ a x, ((![v8414, v8821] : Fin 2 → IVec S16 32) a x).toNat < S16x64.size a) ∧
  (∀ a x, ((![v8414, v8821] : Fin 2 → IVec S16 32) a x).toNat < S16x64.size a)
theorem k0_idx475_inb : ∀ (v8414 : IVec S16 32) (v8821 : IVec S16 32) (k0_hw462 : k0_chk462 v8414 v8821), ∀ a x, ((![v8414, v8821] : Fin 2 → IVec S16 32) a x).toNat < S16x64.size a := fun v8414 v8821 k0_hw462 => k0_hw462.1
theorem k0_idx476_inb : ∀ (v8414 : IVec S16 32) (v8821 : IVec S16 32) (k0_hw462 : k0_chk462 v8414 v8821), ∀ a x, ((![v8414, v8821] : Fin 2 → IVec S16 32) a x).toNat < S16x64.size a := fun v8414 v8821 k0_hw462 => k0_hw462.2

def k0_chk463 (v8414 : IVec S16 32) (v8830 : IVec S16 32) : Prop :=
  (∀ a x, ((![v8414, v8830] : Fin 2 → IVec S16 32) a x).toNat < S16x64.size a) ∧
  (∀ a x, ((![v8414, v8830] : Fin 2 → IVec S16 32) a x).toNat < S16x64.size a)
theorem k0_idx477_inb : ∀ (v8414 : IVec S16 32) (v8830 : IVec S16 32) (k0_hw463 : k0_chk463 v8414 v8830), ∀ a x, ((![v8414, v8830] : Fin 2 → IVec S16 32) a x).toNat < S16x64.size a := fun v8414 v8830 k0_hw463 => k0_hw463.1
theorem k0_idx478_inb : ∀ (v8414 : IVec S16 32) (v8830 : IVec S16 32) (k0_hw463 : k0_chk463 v8414 v8830), ∀ a x, ((![v8414, v8830] : Fin 2 → IVec S16 32) a x).toNat < S16x64.size a := fun v8414 v8830 k0_hw463 => k0_hw463.2

def k0_chk464 (v8414 : IVec S16 32) (v8839 : IVec S16 32) : Prop :=
  (∀ a x, ((![v8414, v8839] : Fin 2 → IVec S16 32) a x).toNat < S16x64.size a) ∧
  (∀ a x, ((![v8414, v8839] : Fin 2 → IVec S16 32) a x).toNat < S16x64.size a)
theorem k0_idx479_inb : ∀ (v8414 : IVec S16 32) (v8839 : IVec S16 32) (k0_hw464 : k0_chk464 v8414 v8839), ∀ a x, ((![v8414, v8839] : Fin 2 → IVec S16 32) a x).toNat < S16x64.size a := fun v8414 v8839 k0_hw464 => k0_hw464.1
theorem k0_idx480_inb : ∀ (v8414 : IVec S16 32) (v8839 : IVec S16 32) (k0_hw464 : k0_chk464 v8414 v8839), ∀ a x, ((![v8414, v8839] : Fin 2 → IVec S16 32) a x).toNat < S16x64.size a := fun v8414 v8839 k0_hw464 => k0_hw464.2

def k0_chk465 (v8414 : IVec S16 32) (v8848 : IVec S16 32) : Prop :=
  (∀ a x, ((![v8414, v8848] : Fin 2 → IVec S16 32) a x).toNat < S16x64.size a) ∧
  (∀ a x, ((![v8414, v8848] : Fin 2 → IVec S16 32) a x).toNat < S16x64.size a)
theorem k0_idx481_inb : ∀ (v8414 : IVec S16 32) (v8848 : IVec S16 32) (k0_hw465 : k0_chk465 v8414 v8848), ∀ a x, ((![v8414, v8848] : Fin 2 → IVec S16 32) a x).toNat < S16x64.size a := fun v8414 v8848 k0_hw465 => k0_hw465.1
theorem k0_idx482_inb : ∀ (v8414 : IVec S16 32) (v8848 : IVec S16 32) (k0_hw465 : k0_chk465 v8414 v8848), ∀ a x, ((![v8414, v8848] : Fin 2 → IVec S16 32) a x).toNat < S16x64.size a := fun v8414 v8848 k0_hw465 => k0_hw465.2

def k0_chk466 (v8414 : IVec S16 32) (v8857 : IVec S16 32) : Prop :=
  (∀ a x, ((![v8414, v8857] : Fin 2 → IVec S16 32) a x).toNat < S16x64.size a) ∧
  (∀ a x, ((![v8414, v8857] : Fin 2 → IVec S16 32) a x).toNat < S16x64.size a)
theorem k0_idx483_inb : ∀ (v8414 : IVec S16 32) (v8857 : IVec S16 32) (k0_hw466 : k0_chk466 v8414 v8857), ∀ a x, ((![v8414, v8857] : Fin 2 → IVec S16 32) a x).toNat < S16x64.size a := fun v8414 v8857 k0_hw466 => k0_hw466.1
theorem k0_idx484_inb : ∀ (v8414 : IVec S16 32) (v8857 : IVec S16 32) (k0_hw466 : k0_chk466 v8414 v8857), ∀ a x, ((![v8414, v8857] : Fin 2 → IVec S16 32) a x).toNat < S16x64.size a := fun v8414 v8857 k0_hw466 => k0_hw466.2

def k0_chk467 (v8414 : IVec S16 32) (v8866 : IVec S16 32) : Prop :=
  (∀ a x, ((![v8414, v8866] : Fin 2 → IVec S16 32) a x).toNat < S16x64.size a) ∧
  (∀ a x, ((![v8414, v8866] : Fin 2 → IVec S16 32) a x).toNat < S16x64.size a)
theorem k0_idx485_inb : ∀ (v8414 : IVec S16 32) (v8866 : IVec S16 32) (k0_hw467 : k0_chk467 v8414 v8866), ∀ a x, ((![v8414, v8866] : Fin 2 → IVec S16 32) a x).toNat < S16x64.size a := fun v8414 v8866 k0_hw467 => k0_hw467.1
theorem k0_idx486_inb : ∀ (v8414 : IVec S16 32) (v8866 : IVec S16 32) (k0_hw467 : k0_chk467 v8414 v8866), ∀ a x, ((![v8414, v8866] : Fin 2 → IVec S16 32) a x).toNat < S16x64.size a := fun v8414 v8866 k0_hw467 => k0_hw467.2

def k0_chk468 (v8414 : IVec S16 32) (v8875 : IVec S16 32) : Prop :=
  (∀ a x, ((![v8414, v8875] : Fin 2 → IVec S16 32) a x).toNat < S16x64.size a) ∧
  (∀ a x, ((![v8414, v8875] : Fin 2 → IVec S16 32) a x).toNat < S16x64.size a)
theorem k0_idx487_inb : ∀ (v8414 : IVec S16 32) (v8875 : IVec S16 32) (k0_hw468 : k0_chk468 v8414 v8875), ∀ a x, ((![v8414, v8875] : Fin 2 → IVec S16 32) a x).toNat < S16x64.size a := fun v8414 v8875 k0_hw468 => k0_hw468.1
theorem k0_idx488_inb : ∀ (v8414 : IVec S16 32) (v8875 : IVec S16 32) (k0_hw468 : k0_chk468 v8414 v8875), ∀ a x, ((![v8414, v8875] : Fin 2 → IVec S16 32) a x).toNat < S16x64.size a := fun v8414 v8875 k0_hw468 => k0_hw468.2

def k0_chk469 (v8414 : IVec S16 32) (v8884 : IVec S16 32) : Prop :=
  (∀ a x, ((![v8414, v8884] : Fin 2 → IVec S16 32) a x).toNat < S16x64.size a) ∧
  (∀ a x, ((![v8414, v8884] : Fin 2 → IVec S16 32) a x).toNat < S16x64.size a)
theorem k0_idx489_inb : ∀ (v8414 : IVec S16 32) (v8884 : IVec S16 32) (k0_hw469 : k0_chk469 v8414 v8884), ∀ a x, ((![v8414, v8884] : Fin 2 → IVec S16 32) a x).toNat < S16x64.size a := fun v8414 v8884 k0_hw469 => k0_hw469.1
theorem k0_idx490_inb : ∀ (v8414 : IVec S16 32) (v8884 : IVec S16 32) (k0_hw469 : k0_chk469 v8414 v8884), ∀ a x, ((![v8414, v8884] : Fin 2 → IVec S16 32) a x).toNat < S16x64.size a := fun v8414 v8884 k0_hw469 => k0_hw469.2

def k0_chk470 (v8414 : IVec S16 32) (v8893 : IVec S16 32) : Prop :=
  (∀ a x, ((![v8414, v8893] : Fin 2 → IVec S16 32) a x).toNat < S16x64.size a) ∧
  (∀ a x, ((![v8414, v8893] : Fin 2 → IVec S16 32) a x).toNat < S16x64.size a)
theorem k0_idx491_inb : ∀ (v8414 : IVec S16 32) (v8893 : IVec S16 32) (k0_hw470 : k0_chk470 v8414 v8893), ∀ a x, ((![v8414, v8893] : Fin 2 → IVec S16 32) a x).toNat < S16x64.size a := fun v8414 v8893 k0_hw470 => k0_hw470.1
theorem k0_idx492_inb : ∀ (v8414 : IVec S16 32) (v8893 : IVec S16 32) (k0_hw470 : k0_chk470 v8414 v8893), ∀ a x, ((![v8414, v8893] : Fin 2 → IVec S16 32) a x).toNat < S16x64.size a := fun v8414 v8893 k0_hw470 => k0_hw470.2

def k0_chk471 (v8414 : IVec S16 32) (v8902 : IVec S16 32) : Prop :=
  (∀ a x, ((![v8414, v8902] : Fin 2 → IVec S16 32) a x).toNat < S16x64.size a) ∧
  (∀ a x, ((![v8414, v8902] : Fin 2 → IVec S16 32) a x).toNat < S16x64.size a)
theorem k0_idx493_inb : ∀ (v8414 : IVec S16 32) (v8902 : IVec S16 32) (k0_hw471 : k0_chk471 v8414 v8902), ∀ a x, ((![v8414, v8902] : Fin 2 → IVec S16 32) a x).toNat < S16x64.size a := fun v8414 v8902 k0_hw471 => k0_hw471.1
theorem k0_idx494_inb : ∀ (v8414 : IVec S16 32) (v8902 : IVec S16 32) (k0_hw471 : k0_chk471 v8414 v8902), ∀ a x, ((![v8414, v8902] : Fin 2 → IVec S16 32) a x).toNat < S16x64.size a := fun v8414 v8902 k0_hw471 => k0_hw471.2

def k0_chk472 (v8414 : IVec S16 32) (v8911 : IVec S16 32) : Prop :=
  (∀ a x, ((![v8414, v8911] : Fin 2 → IVec S16 32) a x).toNat < S16x64.size a) ∧
  (∀ a x, ((![v8414, v8911] : Fin 2 → IVec S16 32) a x).toNat < S16x64.size a)
theorem k0_idx495_inb : ∀ (v8414 : IVec S16 32) (v8911 : IVec S16 32) (k0_hw472 : k0_chk472 v8414 v8911), ∀ a x, ((![v8414, v8911] : Fin 2 → IVec S16 32) a x).toNat < S16x64.size a := fun v8414 v8911 k0_hw472 => k0_hw472.1
theorem k0_idx496_inb : ∀ (v8414 : IVec S16 32) (v8911 : IVec S16 32) (k0_hw472 : k0_chk472 v8414 v8911), ∀ a x, ((![v8414, v8911] : Fin 2 → IVec S16 32) a x).toNat < S16x64.size a := fun v8414 v8911 k0_hw472 => k0_hw472.2

def k0_chk473 (v8414 : IVec S16 32) (v8920 : IVec S16 32) : Prop :=
  (∀ a x, ((![v8414, v8920] : Fin 2 → IVec S16 32) a x).toNat < S16x64.size a) ∧
  (∀ a x, ((![v8414, v8920] : Fin 2 → IVec S16 32) a x).toNat < S16x64.size a)
theorem k0_idx497_inb : ∀ (v8414 : IVec S16 32) (v8920 : IVec S16 32) (k0_hw473 : k0_chk473 v8414 v8920), ∀ a x, ((![v8414, v8920] : Fin 2 → IVec S16 32) a x).toNat < S16x64.size a := fun v8414 v8920 k0_hw473 => k0_hw473.1
theorem k0_idx498_inb : ∀ (v8414 : IVec S16 32) (v8920 : IVec S16 32) (k0_hw473 : k0_chk473 v8414 v8920), ∀ a x, ((![v8414, v8920] : Fin 2 → IVec S16 32) a x).toNat < S16x64.size a := fun v8414 v8920 k0_hw473 => k0_hw473.2

def k0_chk474 (v8414 : IVec S16 32) (v8929 : IVec S16 32) : Prop :=
  (∀ a x, ((![v8414, v8929] : Fin 2 → IVec S16 32) a x).toNat < S16x64.size a) ∧
  (∀ a x, ((![v8414, v8929] : Fin 2 → IVec S16 32) a x).toNat < S16x64.size a)
theorem k0_idx499_inb : ∀ (v8414 : IVec S16 32) (v8929 : IVec S16 32) (k0_hw474 : k0_chk474 v8414 v8929), ∀ a x, ((![v8414, v8929] : Fin 2 → IVec S16 32) a x).toNat < S16x64.size a := fun v8414 v8929 k0_hw474 => k0_hw474.1
theorem k0_idx500_inb : ∀ (v8414 : IVec S16 32) (v8929 : IVec S16 32) (k0_hw474 : k0_chk474 v8414 v8929), ∀ a x, ((![v8414, v8929] : Fin 2 → IVec S16 32) a x).toNat < S16x64.size a := fun v8414 v8929 k0_hw474 => k0_hw474.2

def k0_chk475 (v8414 : IVec S16 32) (v8938 : IVec S16 32) : Prop :=
  (∀ a x, ((![v8414, v8938] : Fin 2 → IVec S16 32) a x).toNat < S16x64.size a) ∧
  (∀ a x, ((![v8414, v8938] : Fin 2 → IVec S16 32) a x).toNat < S16x64.size a)
theorem k0_idx501_inb : ∀ (v8414 : IVec S16 32) (v8938 : IVec S16 32) (k0_hw475 : k0_chk475 v8414 v8938), ∀ a x, ((![v8414, v8938] : Fin 2 → IVec S16 32) a x).toNat < S16x64.size a := fun v8414 v8938 k0_hw475 => k0_hw475.1
theorem k0_idx502_inb : ∀ (v8414 : IVec S16 32) (v8938 : IVec S16 32) (k0_hw475 : k0_chk475 v8414 v8938), ∀ a x, ((![v8414, v8938] : Fin 2 → IVec S16 32) a x).toNat < S16x64.size a := fun v8414 v8938 k0_hw475 => k0_hw475.2

def k0_chk476 (v8414 : IVec S16 32) (v8947 : IVec S16 32) : Prop :=
  (∀ a x, ((![v8414, v8947] : Fin 2 → IVec S16 32) a x).toNat < S16x64.size a) ∧
  (∀ a x, ((![v8414, v8947] : Fin 2 → IVec S16 32) a x).toNat < S16x64.size a)
theorem k0_idx503_inb : ∀ (v8414 : IVec S16 32) (v8947 : IVec S16 32) (k0_hw476 : k0_chk476 v8414 v8947), ∀ a x, ((![v8414, v8947] : Fin 2 → IVec S16 32) a x).toNat < S16x64.size a := fun v8414 v8947 k0_hw476 => k0_hw476.1
theorem k0_idx504_inb : ∀ (v8414 : IVec S16 32) (v8947 : IVec S16 32) (k0_hw476 : k0_chk476 v8414 v8947), ∀ a x, ((![v8414, v8947] : Fin 2 → IVec S16 32) a x).toNat < S16x64.size a := fun v8414 v8947 k0_hw476 => k0_hw476.2

def k0_chk477 (v8414 : IVec S16 32) (v8956 : IVec S16 32) : Prop :=
  (∀ a x, ((![v8414, v8956] : Fin 2 → IVec S16 32) a x).toNat < S16x64.size a) ∧
  (∀ a x, ((![v8414, v8956] : Fin 2 → IVec S16 32) a x).toNat < S16x64.size a)
theorem k0_idx505_inb : ∀ (v8414 : IVec S16 32) (v8956 : IVec S16 32) (k0_hw477 : k0_chk477 v8414 v8956), ∀ a x, ((![v8414, v8956] : Fin 2 → IVec S16 32) a x).toNat < S16x64.size a := fun v8414 v8956 k0_hw477 => k0_hw477.1
theorem k0_idx506_inb : ∀ (v8414 : IVec S16 32) (v8956 : IVec S16 32) (k0_hw477 : k0_chk477 v8414 v8956), ∀ a x, ((![v8414, v8956] : Fin 2 → IVec S16 32) a x).toNat < S16x64.size a := fun v8414 v8956 k0_hw477 => k0_hw477.2

def k0_chk478 (v8414 : IVec S16 32) (v8965 : IVec S16 32) : Prop :=
  (∀ a x, ((![v8414, v8965] : Fin 2 → IVec S16 32) a x).toNat < S16x64.size a) ∧
  (∀ a x, ((![v8414, v8965] : Fin 2 → IVec S16 32) a x).toNat < S16x64.size a)
theorem k0_idx507_inb : ∀ (v8414 : IVec S16 32) (v8965 : IVec S16 32) (k0_hw478 : k0_chk478 v8414 v8965), ∀ a x, ((![v8414, v8965] : Fin 2 → IVec S16 32) a x).toNat < S16x64.size a := fun v8414 v8965 k0_hw478 => k0_hw478.1
theorem k0_idx508_inb : ∀ (v8414 : IVec S16 32) (v8965 : IVec S16 32) (k0_hw478 : k0_chk478 v8414 v8965), ∀ a x, ((![v8414, v8965] : Fin 2 → IVec S16 32) a x).toNat < S16x64.size a := fun v8414 v8965 k0_hw478 => k0_hw478.2

def k0_chk479 (v8414 : IVec S16 32) (v8974 : IVec S16 32) : Prop :=
  (∀ a x, ((![v8414, v8974] : Fin 2 → IVec S16 32) a x).toNat < S16x64.size a) ∧
  (∀ a x, ((![v8414, v8974] : Fin 2 → IVec S16 32) a x).toNat < S16x64.size a)
theorem k0_idx509_inb : ∀ (v8414 : IVec S16 32) (v8974 : IVec S16 32) (k0_hw479 : k0_chk479 v8414 v8974), ∀ a x, ((![v8414, v8974] : Fin 2 → IVec S16 32) a x).toNat < S16x64.size a := fun v8414 v8974 k0_hw479 => k0_hw479.1
theorem k0_idx510_inb : ∀ (v8414 : IVec S16 32) (v8974 : IVec S16 32) (k0_hw479 : k0_chk479 v8414 v8974), ∀ a x, ((![v8414, v8974] : Fin 2 → IVec S16 32) a x).toNat < S16x64.size a := fun v8414 v8974 k0_hw479 => k0_hw479.2

def k0_chk480 (v8414 : IVec S16 32) (v8983 : IVec S16 32) : Prop :=
  (∀ a x, ((![v8414, v8983] : Fin 2 → IVec S16 32) a x).toNat < S16x64.size a) ∧
  (∀ a x, ((![v8414, v8983] : Fin 2 → IVec S16 32) a x).toNat < S16x64.size a)
theorem k0_idx511_inb : ∀ (v8414 : IVec S16 32) (v8983 : IVec S16 32) (k0_hw480 : k0_chk480 v8414 v8983), ∀ a x, ((![v8414, v8983] : Fin 2 → IVec S16 32) a x).toNat < S16x64.size a := fun v8414 v8983 k0_hw480 => k0_hw480.1
theorem k0_idx512_inb : ∀ (v8414 : IVec S16 32) (v8983 : IVec S16 32) (k0_hw480 : k0_chk480 v8414 v8983), ∀ a x, ((![v8414, v8983] : Fin 2 → IVec S16 32) a x).toNat < S16x64.size a := fun v8414 v8983 k0_hw480 => k0_hw480.2
def k0_off232 (k0_t1 : Fin k0_t1_loop.trips) : Fin 1 → Nat :=
  let c0_i32_3405 : BitVec 32 := 0#32
  let c0_i32_754 : BitVec 32 := 0#32
  let c1_i32_756 : BitVec 32 := 1#32
  let arg16 : BitVec 32 := Scf.iv c0_i32_754 c1_i32_756 k0_t1
  let c4_i32_3404 : BitVec 32 := 4#32
  let v4652 : BitVec 32 := Scalar.muli arg16 c4_i32_3404
  let v4653 : BitVec 32 := Scalar.addi c0_i32_3405 v4652
  let c3_i32_6240 : BitVec 32 := 3#32
  let v8411 : BitVec 32 := Scalar.addi v4653 c3_i32_6240
  let c16_i32_6241 : BitVec 32 := 16#32
  let v8412 : BitVec 32 := Scalar.muli v8411 c16_i32_6241
  let v8413 : BitVec 32 := v8412
  let v8992 : Index := Scalar.indexCast v8413
  ![v8992.toNat]
def k0_mult12 (k0_t1 : Fin k0_t1_loop.trips) : BitVec 32 :=
  let c0_i32_3405 : BitVec 32 := 0#32
  let c0_i32_754 : BitVec 32 := 0#32
  let c1_i32_756 : BitVec 32 := 1#32
  let arg16 : BitVec 32 := Scf.iv c0_i32_754 c1_i32_756 k0_t1
  let c4_i32_3404 : BitVec 32 := 4#32
  let v4652 : BitVec 32 := Scalar.muli arg16 c4_i32_3404
  let v4653 : BitVec 32 := Scalar.addi c0_i32_3405 v4652
  let c4_i32_6691 : BitVec 32 := 4#32
  let v8994 : BitVec 32 := Scalar.addi v4653 c4_i32_6691
  let c3_i32_6692 : BitVec 32 := 3#32
  let v8995 : BitVec 32 := Scalar.addi v8994 c3_i32_6692
  let c16_i32_6693 : BitVec 32 := 16#32
  let v8996 : BitVec 32 := Scalar.muli v8995 c16_i32_6693
  v8996
def k0_off233 (k0_t1 : Fin k0_t1_loop.trips) : Fin 1 → Nat :=
  let c0_i32_3405 : BitVec 32 := 0#32
  let c0_i32_754 : BitVec 32 := 0#32
  let c1_i32_756 : BitVec 32 := 1#32
  let arg16 : BitVec 32 := Scf.iv c0_i32_754 c1_i32_756 k0_t1
  let c4_i32_3404 : BitVec 32 := 4#32
  let v4652 : BitVec 32 := Scalar.muli arg16 c4_i32_3404
  let v4653 : BitVec 32 := Scalar.addi c0_i32_3405 v4652
  let c4_i32_6691 : BitVec 32 := 4#32
  let v8994 : BitVec 32 := Scalar.addi v4653 c4_i32_6691
  let c3_i32_6692 : BitVec 32 := 3#32
  let v8995 : BitVec 32 := Scalar.addi v8994 c3_i32_6692
  let c16_i32_6693 : BitVec 32 := 16#32
  let v8996 : BitVec 32 := Scalar.muli v8995 c16_i32_6693
  let v8997 : BitVec 32 := v8996
  let v8998 : Index := Scalar.indexCast v8997
  ![v8998.toNat]
def k0_off234 (v9003 : BitVec 32) : Fin 2 → Nat :=
  let c0_i32_6697 : BitVec 32 := 0#32
  ![v9003.toNat, 0]

def k0_chk481 (v9003 : BitVec 32) : Prop :=
  (∀ a, (k0_off234 v9003) a + S1x64.size a ≤ S1000000x64.size a)
theorem k0_off234_inb : ∀ (v9003 : BitVec 32) (k0_hw481 : k0_chk481 v9003), ∀ a, (k0_off234 v9003) a + S1x64.size a ≤ S1000000x64.size a := fun v9003 k0_hw481 => k0_hw481

def k0_off235 (v9013 : BitVec 32) : Fin 2 → Nat :=
  let c0_i32_6703 : BitVec 32 := 0#32
  ![v9013.toNat, 0]

def k0_chk482 (v9013 : BitVec 32) : Prop :=
  (∀ a, (k0_off235 v9013) a + S1x64.size a ≤ S100000x64.size a)
theorem k0_off235_inb : ∀ (v9013 : BitVec 32) (k0_hw482 : k0_chk482 v9013), ∀ a, (k0_off235 v9013) a + S1x64.size a ≤ S100000x64.size a := fun v9013 k0_hw482 => k0_hw482

def k0_off236 (v9023 : BitVec 32) : Fin 2 → Nat :=
  let c0_i32_6709 : BitVec 32 := 0#32
  ![v9023.toNat, 0]

def k0_chk483 (v9023 : BitVec 32) : Prop :=
  (∀ a, (k0_off236 v9023) a + S1x64.size a ≤ S1000000x64.size a)
theorem k0_off236_inb : ∀ (v9023 : BitVec 32) (k0_hw483 : k0_chk483 v9023), ∀ a, (k0_off236 v9023) a + S1x64.size a ≤ S1000000x64.size a := fun v9023 k0_hw483 => k0_hw483

def k0_off237 (v9033 : BitVec 32) : Fin 2 → Nat :=
  let c0_i32_6715 : BitVec 32 := 0#32
  ![v9033.toNat, 0]

def k0_chk484 (v9033 : BitVec 32) : Prop :=
  (∀ a, (k0_off237 v9033) a + S1x64.size a ≤ S100000x64.size a)
theorem k0_off237_inb : ∀ (v9033 : BitVec 32) (k0_hw484 : k0_chk484 v9033), ∀ a, (k0_off237 v9033) a + S1x64.size a ≤ S100000x64.size a := fun v9033 k0_hw484 => k0_hw484

def k0_off238 (v9043 : BitVec 32) : Fin 2 → Nat :=
  let c0_i32_6721 : BitVec 32 := 0#32
  ![v9043.toNat, 0]

def k0_chk485 (v9043 : BitVec 32) : Prop :=
  (∀ a, (k0_off238 v9043) a + S1x64.size a ≤ S1000000x64.size a)
theorem k0_off238_inb : ∀ (v9043 : BitVec 32) (k0_hw485 : k0_chk485 v9043), ∀ a, (k0_off238 v9043) a + S1x64.size a ≤ S1000000x64.size a := fun v9043 k0_hw485 => k0_hw485

def k0_off239 (v9053 : BitVec 32) : Fin 2 → Nat :=
  let c0_i32_6727 : BitVec 32 := 0#32
  ![v9053.toNat, 0]

def k0_chk486 (v9053 : BitVec 32) : Prop :=
  (∀ a, (k0_off239 v9053) a + S1x64.size a ≤ S100000x64.size a)
theorem k0_off239_inb : ∀ (v9053 : BitVec 32) (k0_hw486 : k0_chk486 v9053), ∀ a, (k0_off239 v9053) a + S1x64.size a ≤ S100000x64.size a := fun v9053 k0_hw486 => k0_hw486

def k0_off240 (v9063 : BitVec 32) : Fin 2 → Nat :=
  let c0_i32_6733 : BitVec 32 := 0#32
  ![v9063.toNat, 0]

def k0_chk487 (v9063 : BitVec 32) : Prop :=
  (∀ a, (k0_off240 v9063) a + S1x64.size a ≤ S1000000x64.size a)
theorem k0_off240_inb : ∀ (v9063 : BitVec 32) (k0_hw487 : k0_chk487 v9063), ∀ a, (k0_off240 v9063) a + S1x64.size a ≤ S1000000x64.size a := fun v9063 k0_hw487 => k0_hw487

def k0_off241 (v9073 : BitVec 32) : Fin 2 → Nat :=
  let c0_i32_6739 : BitVec 32 := 0#32
  ![v9073.toNat, 0]

def k0_chk488 (v9073 : BitVec 32) : Prop :=
  (∀ a, (k0_off241 v9073) a + S1x64.size a ≤ S100000x64.size a)
theorem k0_off241_inb : ∀ (v9073 : BitVec 32) (k0_hw488 : k0_chk488 v9073), ∀ a, (k0_off241 v9073) a + S1x64.size a ≤ S100000x64.size a := fun v9073 k0_hw488 => k0_hw488

def k0_off242 (v9083 : BitVec 32) : Fin 2 → Nat :=
  let c0_i32_6745 : BitVec 32 := 0#32
  ![v9083.toNat, 0]

def k0_chk489 (v9083 : BitVec 32) : Prop :=
  (∀ a, (k0_off242 v9083) a + S1x64.size a ≤ S1000000x64.size a)
theorem k0_off242_inb : ∀ (v9083 : BitVec 32) (k0_hw489 : k0_chk489 v9083), ∀ a, (k0_off242 v9083) a + S1x64.size a ≤ S1000000x64.size a := fun v9083 k0_hw489 => k0_hw489

def k0_off243 (v9093 : BitVec 32) : Fin 2 → Nat :=
  let c0_i32_6751 : BitVec 32 := 0#32
  ![v9093.toNat, 0]

def k0_chk490 (v9093 : BitVec 32) : Prop :=
  (∀ a, (k0_off243 v9093) a + S1x64.size a ≤ S100000x64.size a)
theorem k0_off243_inb : ∀ (v9093 : BitVec 32) (k0_hw490 : k0_chk490 v9093), ∀ a, (k0_off243 v9093) a + S1x64.size a ≤ S100000x64.size a := fun v9093 k0_hw490 => k0_hw490

def k0_off244 (v9103 : BitVec 32) : Fin 2 → Nat :=
  let c0_i32_6757 : BitVec 32 := 0#32
  ![v9103.toNat, 0]

def k0_chk491 (v9103 : BitVec 32) : Prop :=
  (∀ a, (k0_off244 v9103) a + S1x64.size a ≤ S1000000x64.size a)
theorem k0_off244_inb : ∀ (v9103 : BitVec 32) (k0_hw491 : k0_chk491 v9103), ∀ a, (k0_off244 v9103) a + S1x64.size a ≤ S1000000x64.size a := fun v9103 k0_hw491 => k0_hw491

def k0_off245 (v9113 : BitVec 32) : Fin 2 → Nat :=
  let c0_i32_6763 : BitVec 32 := 0#32
  ![v9113.toNat, 0]

def k0_chk492 (v9113 : BitVec 32) : Prop :=
  (∀ a, (k0_off245 v9113) a + S1x64.size a ≤ S100000x64.size a)
theorem k0_off245_inb : ∀ (v9113 : BitVec 32) (k0_hw492 : k0_chk492 v9113), ∀ a, (k0_off245 v9113) a + S1x64.size a ≤ S100000x64.size a := fun v9113 k0_hw492 => k0_hw492

def k0_off246 (v9123 : BitVec 32) : Fin 2 → Nat :=
  let c0_i32_6769 : BitVec 32 := 0#32
  ![v9123.toNat, 0]

def k0_chk493 (v9123 : BitVec 32) : Prop :=
  (∀ a, (k0_off246 v9123) a + S1x64.size a ≤ S1000000x64.size a)
theorem k0_off246_inb : ∀ (v9123 : BitVec 32) (k0_hw493 : k0_chk493 v9123), ∀ a, (k0_off246 v9123) a + S1x64.size a ≤ S1000000x64.size a := fun v9123 k0_hw493 => k0_hw493

def k0_off247 (v9133 : BitVec 32) : Fin 2 → Nat :=
  let c0_i32_6775 : BitVec 32 := 0#32
  ![v9133.toNat, 0]

def k0_chk494 (v9133 : BitVec 32) : Prop :=
  (∀ a, (k0_off247 v9133) a + S1x64.size a ≤ S100000x64.size a)
theorem k0_off247_inb : ∀ (v9133 : BitVec 32) (k0_hw494 : k0_chk494 v9133), ∀ a, (k0_off247 v9133) a + S1x64.size a ≤ S100000x64.size a := fun v9133 k0_hw494 => k0_hw494

def k0_off248 (v9143 : BitVec 32) : Fin 2 → Nat :=
  let c0_i32_6781 : BitVec 32 := 0#32
  ![v9143.toNat, 0]

def k0_chk495 (v9143 : BitVec 32) : Prop :=
  (∀ a, (k0_off248 v9143) a + S1x64.size a ≤ S1000000x64.size a)
theorem k0_off248_inb : ∀ (v9143 : BitVec 32) (k0_hw495 : k0_chk495 v9143), ∀ a, (k0_off248 v9143) a + S1x64.size a ≤ S1000000x64.size a := fun v9143 k0_hw495 => k0_hw495

def k0_off249 (v9153 : BitVec 32) : Fin 2 → Nat :=
  let c0_i32_6787 : BitVec 32 := 0#32
  ![v9153.toNat, 0]

def k0_chk496 (v9153 : BitVec 32) : Prop :=
  (∀ a, (k0_off249 v9153) a + S1x64.size a ≤ S100000x64.size a)
theorem k0_off249_inb : ∀ (v9153 : BitVec 32) (k0_hw496 : k0_chk496 v9153), ∀ a, (k0_off249 v9153) a + S1x64.size a ≤ S100000x64.size a := fun v9153 k0_hw496 => k0_hw496

def k0_off250 (v9163 : BitVec 32) : Fin 2 → Nat :=
  let c0_i32_6793 : BitVec 32 := 0#32
  ![v9163.toNat, 0]

def k0_chk497 (v9163 : BitVec 32) : Prop :=
  (∀ a, (k0_off250 v9163) a + S1x64.size a ≤ S1000000x64.size a)
theorem k0_off250_inb : ∀ (v9163 : BitVec 32) (k0_hw497 : k0_chk497 v9163), ∀ a, (k0_off250 v9163) a + S1x64.size a ≤ S1000000x64.size a := fun v9163 k0_hw497 => k0_hw497

def k0_off251 (v9173 : BitVec 32) : Fin 2 → Nat :=
  let c0_i32_6799 : BitVec 32 := 0#32
  ![v9173.toNat, 0]

def k0_chk498 (v9173 : BitVec 32) : Prop :=
  (∀ a, (k0_off251 v9173) a + S1x64.size a ≤ S100000x64.size a)
theorem k0_off251_inb : ∀ (v9173 : BitVec 32) (k0_hw498 : k0_chk498 v9173), ∀ a, (k0_off251 v9173) a + S1x64.size a ≤ S100000x64.size a := fun v9173 k0_hw498 => k0_hw498

def k0_off252 (v9183 : BitVec 32) : Fin 2 → Nat :=
  let c0_i32_6805 : BitVec 32 := 0#32
  ![v9183.toNat, 0]

def k0_chk499 (v9183 : BitVec 32) : Prop :=
  (∀ a, (k0_off252 v9183) a + S1x64.size a ≤ S1000000x64.size a)
theorem k0_off252_inb : ∀ (v9183 : BitVec 32) (k0_hw499 : k0_chk499 v9183), ∀ a, (k0_off252 v9183) a + S1x64.size a ≤ S1000000x64.size a := fun v9183 k0_hw499 => k0_hw499

def k0_off253 (v9193 : BitVec 32) : Fin 2 → Nat :=
  let c0_i32_6811 : BitVec 32 := 0#32
  ![v9193.toNat, 0]

def k0_chk500 (v9193 : BitVec 32) : Prop :=
  (∀ a, (k0_off253 v9193) a + S1x64.size a ≤ S100000x64.size a)
theorem k0_off253_inb : ∀ (v9193 : BitVec 32) (k0_hw500 : k0_chk500 v9193), ∀ a, (k0_off253 v9193) a + S1x64.size a ≤ S100000x64.size a := fun v9193 k0_hw500 => k0_hw500

def k0_off254 (v9203 : BitVec 32) : Fin 2 → Nat :=
  let c0_i32_6817 : BitVec 32 := 0#32
  ![v9203.toNat, 0]

def k0_chk501 (v9203 : BitVec 32) : Prop :=
  (∀ a, (k0_off254 v9203) a + S1x64.size a ≤ S1000000x64.size a)
theorem k0_off254_inb : ∀ (v9203 : BitVec 32) (k0_hw501 : k0_chk501 v9203), ∀ a, (k0_off254 v9203) a + S1x64.size a ≤ S1000000x64.size a := fun v9203 k0_hw501 => k0_hw501

def k0_off255 (v9213 : BitVec 32) : Fin 2 → Nat :=
  let c0_i32_6823 : BitVec 32 := 0#32
  ![v9213.toNat, 0]

def k0_chk502 (v9213 : BitVec 32) : Prop :=
  (∀ a, (k0_off255 v9213) a + S1x64.size a ≤ S100000x64.size a)
theorem k0_off255_inb : ∀ (v9213 : BitVec 32) (k0_hw502 : k0_chk502 v9213), ∀ a, (k0_off255 v9213) a + S1x64.size a ≤ S100000x64.size a := fun v9213 k0_hw502 => k0_hw502

def k0_off256 (v9223 : BitVec 32) : Fin 2 → Nat :=
  let c0_i32_6829 : BitVec 32 := 0#32
  ![v9223.toNat, 0]

def k0_chk503 (v9223 : BitVec 32) : Prop :=
  (∀ a, (k0_off256 v9223) a + S1x64.size a ≤ S1000000x64.size a)
theorem k0_off256_inb : ∀ (v9223 : BitVec 32) (k0_hw503 : k0_chk503 v9223), ∀ a, (k0_off256 v9223) a + S1x64.size a ≤ S1000000x64.size a := fun v9223 k0_hw503 => k0_hw503

def k0_off257 (v9233 : BitVec 32) : Fin 2 → Nat :=
  let c0_i32_6835 : BitVec 32 := 0#32
  ![v9233.toNat, 0]

def k0_chk504 (v9233 : BitVec 32) : Prop :=
  (∀ a, (k0_off257 v9233) a + S1x64.size a ≤ S100000x64.size a)
theorem k0_off257_inb : ∀ (v9233 : BitVec 32) (k0_hw504 : k0_chk504 v9233), ∀ a, (k0_off257 v9233) a + S1x64.size a ≤ S100000x64.size a := fun v9233 k0_hw504 => k0_hw504

def k0_off258 (v9243 : BitVec 32) : Fin 2 → Nat :=
  let c0_i32_6841 : BitVec 32 := 0#32
  ![v9243.toNat, 0]

def k0_chk505 (v9243 : BitVec 32) : Prop :=
  (∀ a, (k0_off258 v9243) a + S1x64.size a ≤ S1000000x64.size a)
theorem k0_off258_inb : ∀ (v9243 : BitVec 32) (k0_hw505 : k0_chk505 v9243), ∀ a, (k0_off258 v9243) a + S1x64.size a ≤ S1000000x64.size a := fun v9243 k0_hw505 => k0_hw505

def k0_off259 (v9253 : BitVec 32) : Fin 2 → Nat :=
  let c0_i32_6847 : BitVec 32 := 0#32
  ![v9253.toNat, 0]

def k0_chk506 (v9253 : BitVec 32) : Prop :=
  (∀ a, (k0_off259 v9253) a + S1x64.size a ≤ S100000x64.size a)
theorem k0_off259_inb : ∀ (v9253 : BitVec 32) (k0_hw506 : k0_chk506 v9253), ∀ a, (k0_off259 v9253) a + S1x64.size a ≤ S100000x64.size a := fun v9253 k0_hw506 => k0_hw506

def k0_off260 (v9263 : BitVec 32) : Fin 2 → Nat :=
  let c0_i32_6853 : BitVec 32 := 0#32
  ![v9263.toNat, 0]

def k0_chk507 (v9263 : BitVec 32) : Prop :=
  (∀ a, (k0_off260 v9263) a + S1x64.size a ≤ S1000000x64.size a)
theorem k0_off260_inb : ∀ (v9263 : BitVec 32) (k0_hw507 : k0_chk507 v9263), ∀ a, (k0_off260 v9263) a + S1x64.size a ≤ S1000000x64.size a := fun v9263 k0_hw507 => k0_hw507

def k0_off261 (v9273 : BitVec 32) : Fin 2 → Nat :=
  let c0_i32_6859 : BitVec 32 := 0#32
  ![v9273.toNat, 0]

def k0_chk508 (v9273 : BitVec 32) : Prop :=
  (∀ a, (k0_off261 v9273) a + S1x64.size a ≤ S100000x64.size a)
theorem k0_off261_inb : ∀ (v9273 : BitVec 32) (k0_hw508 : k0_chk508 v9273), ∀ a, (k0_off261 v9273) a + S1x64.size a ≤ S100000x64.size a := fun v9273 k0_hw508 => k0_hw508

def k0_off262 (v9283 : BitVec 32) : Fin 2 → Nat :=
  let c0_i32_6865 : BitVec 32 := 0#32
  ![v9283.toNat, 0]

def k0_chk509 (v9283 : BitVec 32) : Prop :=
  (∀ a, (k0_off262 v9283) a + S1x64.size a ≤ S1000000x64.size a)
theorem k0_off262_inb : ∀ (v9283 : BitVec 32) (k0_hw509 : k0_chk509 v9283), ∀ a, (k0_off262 v9283) a + S1x64.size a ≤ S1000000x64.size a := fun v9283 k0_hw509 => k0_hw509

def k0_off263 (v9293 : BitVec 32) : Fin 2 → Nat :=
  let c0_i32_6871 : BitVec 32 := 0#32
  ![v9293.toNat, 0]

def k0_chk510 (v9293 : BitVec 32) : Prop :=
  (∀ a, (k0_off263 v9293) a + S1x64.size a ≤ S100000x64.size a)
theorem k0_off263_inb : ∀ (v9293 : BitVec 32) (k0_hw510 : k0_chk510 v9293), ∀ a, (k0_off263 v9293) a + S1x64.size a ≤ S100000x64.size a := fun v9293 k0_hw510 => k0_hw510

def k0_off264 (v9303 : BitVec 32) : Fin 2 → Nat :=
  let c0_i32_6877 : BitVec 32 := 0#32
  ![v9303.toNat, 0]

def k0_chk511 (v9303 : BitVec 32) : Prop :=
  (∀ a, (k0_off264 v9303) a + S1x64.size a ≤ S1000000x64.size a)
theorem k0_off264_inb : ∀ (v9303 : BitVec 32) (k0_hw511 : k0_chk511 v9303), ∀ a, (k0_off264 v9303) a + S1x64.size a ≤ S1000000x64.size a := fun v9303 k0_hw511 => k0_hw511

def k0_off265 (v9313 : BitVec 32) : Fin 2 → Nat :=
  let c0_i32_6883 : BitVec 32 := 0#32
  ![v9313.toNat, 0]

def k0_chk512 (v9313 : BitVec 32) : Prop :=
  (∀ a, (k0_off265 v9313) a + S1x64.size a ≤ S100000x64.size a)
theorem k0_off265_inb : ∀ (v9313 : BitVec 32) (k0_hw512 : k0_chk512 v9313), ∀ a, (k0_off265 v9313) a + S1x64.size a ≤ S100000x64.size a := fun v9313 k0_hw512 => k0_hw512

def k0_mult13 : BitVec 32 :=
  let c448_i32 : BitVec 32 := 448#32
  c448_i32

def k0_chk513 (v1561 : IVec S16 32) (v1563 : IVec S16 32) : Prop :=
  (∀ a x, ((![v1561, v1563] : Fin 2 → IVec S16 32) a x).toNat < S16x64.size a) ∧
  (∀ a x, ((![v1561, v1563] : Fin 2 → IVec S16 32) a x).toNat < S16x64.size a)
theorem k0_idx513_inb : ∀ (v1561 : IVec S16 32) (v1563 : IVec S16 32) (k0_hw513 : k0_chk513 v1561 v1563), ∀ a x, ((![v1561, v1563] : Fin 2 → IVec S16 32) a x).toNat < S16x64.size a := fun v1561 v1563 k0_hw513 => k0_hw513.1
theorem k0_idx514_inb : ∀ (v1561 : IVec S16 32) (v1563 : IVec S16 32) (k0_hw513 : k0_chk513 v1561 v1563), ∀ a x, ((![v1561, v1563] : Fin 2 → IVec S16 32) a x).toNat < S16x64.size a := fun v1561 v1563 k0_hw513 => k0_hw513.2

def k0_chk514 (v1561 : IVec S16 32) (v1572 : IVec S16 32) : Prop :=
  (∀ a x, ((![v1561, v1572] : Fin 2 → IVec S16 32) a x).toNat < S16x64.size a) ∧
  (∀ a x, ((![v1561, v1572] : Fin 2 → IVec S16 32) a x).toNat < S16x64.size a)
theorem k0_idx515_inb : ∀ (v1561 : IVec S16 32) (v1572 : IVec S16 32) (k0_hw514 : k0_chk514 v1561 v1572), ∀ a x, ((![v1561, v1572] : Fin 2 → IVec S16 32) a x).toNat < S16x64.size a := fun v1561 v1572 k0_hw514 => k0_hw514.1
theorem k0_idx516_inb : ∀ (v1561 : IVec S16 32) (v1572 : IVec S16 32) (k0_hw514 : k0_chk514 v1561 v1572), ∀ a x, ((![v1561, v1572] : Fin 2 → IVec S16 32) a x).toNat < S16x64.size a := fun v1561 v1572 k0_hw514 => k0_hw514.2

def k0_chk515 (v1561 : IVec S16 32) (v1581 : IVec S16 32) : Prop :=
  (∀ a x, ((![v1561, v1581] : Fin 2 → IVec S16 32) a x).toNat < S16x64.size a) ∧
  (∀ a x, ((![v1561, v1581] : Fin 2 → IVec S16 32) a x).toNat < S16x64.size a)
theorem k0_idx517_inb : ∀ (v1561 : IVec S16 32) (v1581 : IVec S16 32) (k0_hw515 : k0_chk515 v1561 v1581), ∀ a x, ((![v1561, v1581] : Fin 2 → IVec S16 32) a x).toNat < S16x64.size a := fun v1561 v1581 k0_hw515 => k0_hw515.1
theorem k0_idx518_inb : ∀ (v1561 : IVec S16 32) (v1581 : IVec S16 32) (k0_hw515 : k0_chk515 v1561 v1581), ∀ a x, ((![v1561, v1581] : Fin 2 → IVec S16 32) a x).toNat < S16x64.size a := fun v1561 v1581 k0_hw515 => k0_hw515.2

def k0_chk516 (v1561 : IVec S16 32) (v1590 : IVec S16 32) : Prop :=
  (∀ a x, ((![v1561, v1590] : Fin 2 → IVec S16 32) a x).toNat < S16x64.size a) ∧
  (∀ a x, ((![v1561, v1590] : Fin 2 → IVec S16 32) a x).toNat < S16x64.size a)
theorem k0_idx519_inb : ∀ (v1561 : IVec S16 32) (v1590 : IVec S16 32) (k0_hw516 : k0_chk516 v1561 v1590), ∀ a x, ((![v1561, v1590] : Fin 2 → IVec S16 32) a x).toNat < S16x64.size a := fun v1561 v1590 k0_hw516 => k0_hw516.1
theorem k0_idx520_inb : ∀ (v1561 : IVec S16 32) (v1590 : IVec S16 32) (k0_hw516 : k0_chk516 v1561 v1590), ∀ a x, ((![v1561, v1590] : Fin 2 → IVec S16 32) a x).toNat < S16x64.size a := fun v1561 v1590 k0_hw516 => k0_hw516.2

def k0_chk517 (v1561 : IVec S16 32) (v1599 : IVec S16 32) : Prop :=
  (∀ a x, ((![v1561, v1599] : Fin 2 → IVec S16 32) a x).toNat < S16x64.size a) ∧
  (∀ a x, ((![v1561, v1599] : Fin 2 → IVec S16 32) a x).toNat < S16x64.size a)
theorem k0_idx521_inb : ∀ (v1561 : IVec S16 32) (v1599 : IVec S16 32) (k0_hw517 : k0_chk517 v1561 v1599), ∀ a x, ((![v1561, v1599] : Fin 2 → IVec S16 32) a x).toNat < S16x64.size a := fun v1561 v1599 k0_hw517 => k0_hw517.1
theorem k0_idx522_inb : ∀ (v1561 : IVec S16 32) (v1599 : IVec S16 32) (k0_hw517 : k0_chk517 v1561 v1599), ∀ a x, ((![v1561, v1599] : Fin 2 → IVec S16 32) a x).toNat < S16x64.size a := fun v1561 v1599 k0_hw517 => k0_hw517.2

def k0_chk518 (v1561 : IVec S16 32) (v1608 : IVec S16 32) : Prop :=
  (∀ a x, ((![v1561, v1608] : Fin 2 → IVec S16 32) a x).toNat < S16x64.size a) ∧
  (∀ a x, ((![v1561, v1608] : Fin 2 → IVec S16 32) a x).toNat < S16x64.size a)
theorem k0_idx523_inb : ∀ (v1561 : IVec S16 32) (v1608 : IVec S16 32) (k0_hw518 : k0_chk518 v1561 v1608), ∀ a x, ((![v1561, v1608] : Fin 2 → IVec S16 32) a x).toNat < S16x64.size a := fun v1561 v1608 k0_hw518 => k0_hw518.1
theorem k0_idx524_inb : ∀ (v1561 : IVec S16 32) (v1608 : IVec S16 32) (k0_hw518 : k0_chk518 v1561 v1608), ∀ a x, ((![v1561, v1608] : Fin 2 → IVec S16 32) a x).toNat < S16x64.size a := fun v1561 v1608 k0_hw518 => k0_hw518.2

def k0_chk519 (v1561 : IVec S16 32) (v1617 : IVec S16 32) : Prop :=
  (∀ a x, ((![v1561, v1617] : Fin 2 → IVec S16 32) a x).toNat < S16x64.size a) ∧
  (∀ a x, ((![v1561, v1617] : Fin 2 → IVec S16 32) a x).toNat < S16x64.size a)
theorem k0_idx525_inb : ∀ (v1561 : IVec S16 32) (v1617 : IVec S16 32) (k0_hw519 : k0_chk519 v1561 v1617), ∀ a x, ((![v1561, v1617] : Fin 2 → IVec S16 32) a x).toNat < S16x64.size a := fun v1561 v1617 k0_hw519 => k0_hw519.1
theorem k0_idx526_inb : ∀ (v1561 : IVec S16 32) (v1617 : IVec S16 32) (k0_hw519 : k0_chk519 v1561 v1617), ∀ a x, ((![v1561, v1617] : Fin 2 → IVec S16 32) a x).toNat < S16x64.size a := fun v1561 v1617 k0_hw519 => k0_hw519.2

def k0_chk520 (v1561 : IVec S16 32) (v1626 : IVec S16 32) : Prop :=
  (∀ a x, ((![v1561, v1626] : Fin 2 → IVec S16 32) a x).toNat < S16x64.size a) ∧
  (∀ a x, ((![v1561, v1626] : Fin 2 → IVec S16 32) a x).toNat < S16x64.size a)
theorem k0_idx527_inb : ∀ (v1561 : IVec S16 32) (v1626 : IVec S16 32) (k0_hw520 : k0_chk520 v1561 v1626), ∀ a x, ((![v1561, v1626] : Fin 2 → IVec S16 32) a x).toNat < S16x64.size a := fun v1561 v1626 k0_hw520 => k0_hw520.1
theorem k0_idx528_inb : ∀ (v1561 : IVec S16 32) (v1626 : IVec S16 32) (k0_hw520 : k0_chk520 v1561 v1626), ∀ a x, ((![v1561, v1626] : Fin 2 → IVec S16 32) a x).toNat < S16x64.size a := fun v1561 v1626 k0_hw520 => k0_hw520.2

def k0_chk521 (v1561 : IVec S16 32) (v1635 : IVec S16 32) : Prop :=
  (∀ a x, ((![v1561, v1635] : Fin 2 → IVec S16 32) a x).toNat < S16x64.size a) ∧
  (∀ a x, ((![v1561, v1635] : Fin 2 → IVec S16 32) a x).toNat < S16x64.size a)
theorem k0_idx529_inb : ∀ (v1561 : IVec S16 32) (v1635 : IVec S16 32) (k0_hw521 : k0_chk521 v1561 v1635), ∀ a x, ((![v1561, v1635] : Fin 2 → IVec S16 32) a x).toNat < S16x64.size a := fun v1561 v1635 k0_hw521 => k0_hw521.1
theorem k0_idx530_inb : ∀ (v1561 : IVec S16 32) (v1635 : IVec S16 32) (k0_hw521 : k0_chk521 v1561 v1635), ∀ a x, ((![v1561, v1635] : Fin 2 → IVec S16 32) a x).toNat < S16x64.size a := fun v1561 v1635 k0_hw521 => k0_hw521.2

def k0_chk522 (v1561 : IVec S16 32) (v1644 : IVec S16 32) : Prop :=
  (∀ a x, ((![v1561, v1644] : Fin 2 → IVec S16 32) a x).toNat < S16x64.size a) ∧
  (∀ a x, ((![v1561, v1644] : Fin 2 → IVec S16 32) a x).toNat < S16x64.size a)
theorem k0_idx531_inb : ∀ (v1561 : IVec S16 32) (v1644 : IVec S16 32) (k0_hw522 : k0_chk522 v1561 v1644), ∀ a x, ((![v1561, v1644] : Fin 2 → IVec S16 32) a x).toNat < S16x64.size a := fun v1561 v1644 k0_hw522 => k0_hw522.1
theorem k0_idx532_inb : ∀ (v1561 : IVec S16 32) (v1644 : IVec S16 32) (k0_hw522 : k0_chk522 v1561 v1644), ∀ a x, ((![v1561, v1644] : Fin 2 → IVec S16 32) a x).toNat < S16x64.size a := fun v1561 v1644 k0_hw522 => k0_hw522.2

def k0_chk523 (v1561 : IVec S16 32) (v1653 : IVec S16 32) : Prop :=
  (∀ a x, ((![v1561, v1653] : Fin 2 → IVec S16 32) a x).toNat < S16x64.size a) ∧
  (∀ a x, ((![v1561, v1653] : Fin 2 → IVec S16 32) a x).toNat < S16x64.size a)
theorem k0_idx533_inb : ∀ (v1561 : IVec S16 32) (v1653 : IVec S16 32) (k0_hw523 : k0_chk523 v1561 v1653), ∀ a x, ((![v1561, v1653] : Fin 2 → IVec S16 32) a x).toNat < S16x64.size a := fun v1561 v1653 k0_hw523 => k0_hw523.1
theorem k0_idx534_inb : ∀ (v1561 : IVec S16 32) (v1653 : IVec S16 32) (k0_hw523 : k0_chk523 v1561 v1653), ∀ a x, ((![v1561, v1653] : Fin 2 → IVec S16 32) a x).toNat < S16x64.size a := fun v1561 v1653 k0_hw523 => k0_hw523.2

def k0_chk524 (v1561 : IVec S16 32) (v1662 : IVec S16 32) : Prop :=
  (∀ a x, ((![v1561, v1662] : Fin 2 → IVec S16 32) a x).toNat < S16x64.size a) ∧
  (∀ a x, ((![v1561, v1662] : Fin 2 → IVec S16 32) a x).toNat < S16x64.size a)
theorem k0_idx535_inb : ∀ (v1561 : IVec S16 32) (v1662 : IVec S16 32) (k0_hw524 : k0_chk524 v1561 v1662), ∀ a x, ((![v1561, v1662] : Fin 2 → IVec S16 32) a x).toNat < S16x64.size a := fun v1561 v1662 k0_hw524 => k0_hw524.1
theorem k0_idx536_inb : ∀ (v1561 : IVec S16 32) (v1662 : IVec S16 32) (k0_hw524 : k0_chk524 v1561 v1662), ∀ a x, ((![v1561, v1662] : Fin 2 → IVec S16 32) a x).toNat < S16x64.size a := fun v1561 v1662 k0_hw524 => k0_hw524.2

def k0_chk525 (v1561 : IVec S16 32) (v1671 : IVec S16 32) : Prop :=
  (∀ a x, ((![v1561, v1671] : Fin 2 → IVec S16 32) a x).toNat < S16x64.size a) ∧
  (∀ a x, ((![v1561, v1671] : Fin 2 → IVec S16 32) a x).toNat < S16x64.size a)
theorem k0_idx537_inb : ∀ (v1561 : IVec S16 32) (v1671 : IVec S16 32) (k0_hw525 : k0_chk525 v1561 v1671), ∀ a x, ((![v1561, v1671] : Fin 2 → IVec S16 32) a x).toNat < S16x64.size a := fun v1561 v1671 k0_hw525 => k0_hw525.1
theorem k0_idx538_inb : ∀ (v1561 : IVec S16 32) (v1671 : IVec S16 32) (k0_hw525 : k0_chk525 v1561 v1671), ∀ a x, ((![v1561, v1671] : Fin 2 → IVec S16 32) a x).toNat < S16x64.size a := fun v1561 v1671 k0_hw525 => k0_hw525.2

def k0_chk526 (v1561 : IVec S16 32) (v1680 : IVec S16 32) : Prop :=
  (∀ a x, ((![v1561, v1680] : Fin 2 → IVec S16 32) a x).toNat < S16x64.size a) ∧
  (∀ a x, ((![v1561, v1680] : Fin 2 → IVec S16 32) a x).toNat < S16x64.size a)
theorem k0_idx539_inb : ∀ (v1561 : IVec S16 32) (v1680 : IVec S16 32) (k0_hw526 : k0_chk526 v1561 v1680), ∀ a x, ((![v1561, v1680] : Fin 2 → IVec S16 32) a x).toNat < S16x64.size a := fun v1561 v1680 k0_hw526 => k0_hw526.1
theorem k0_idx540_inb : ∀ (v1561 : IVec S16 32) (v1680 : IVec S16 32) (k0_hw526 : k0_chk526 v1561 v1680), ∀ a x, ((![v1561, v1680] : Fin 2 → IVec S16 32) a x).toNat < S16x64.size a := fun v1561 v1680 k0_hw526 => k0_hw526.2

def k0_chk527 (v1561 : IVec S16 32) (v1689 : IVec S16 32) : Prop :=
  (∀ a x, ((![v1561, v1689] : Fin 2 → IVec S16 32) a x).toNat < S16x64.size a) ∧
  (∀ a x, ((![v1561, v1689] : Fin 2 → IVec S16 32) a x).toNat < S16x64.size a)
theorem k0_idx541_inb : ∀ (v1561 : IVec S16 32) (v1689 : IVec S16 32) (k0_hw527 : k0_chk527 v1561 v1689), ∀ a x, ((![v1561, v1689] : Fin 2 → IVec S16 32) a x).toNat < S16x64.size a := fun v1561 v1689 k0_hw527 => k0_hw527.1
theorem k0_idx542_inb : ∀ (v1561 : IVec S16 32) (v1689 : IVec S16 32) (k0_hw527 : k0_chk527 v1561 v1689), ∀ a x, ((![v1561, v1689] : Fin 2 → IVec S16 32) a x).toNat < S16x64.size a := fun v1561 v1689 k0_hw527 => k0_hw527.2

def k0_chk528 (v1561 : IVec S16 32) (v1698 : IVec S16 32) : Prop :=
  (∀ a x, ((![v1561, v1698] : Fin 2 → IVec S16 32) a x).toNat < S16x64.size a) ∧
  (∀ a x, ((![v1561, v1698] : Fin 2 → IVec S16 32) a x).toNat < S16x64.size a)
theorem k0_idx543_inb : ∀ (v1561 : IVec S16 32) (v1698 : IVec S16 32) (k0_hw528 : k0_chk528 v1561 v1698), ∀ a x, ((![v1561, v1698] : Fin 2 → IVec S16 32) a x).toNat < S16x64.size a := fun v1561 v1698 k0_hw528 => k0_hw528.1
theorem k0_idx544_inb : ∀ (v1561 : IVec S16 32) (v1698 : IVec S16 32) (k0_hw528 : k0_chk528 v1561 v1698), ∀ a x, ((![v1561, v1698] : Fin 2 → IVec S16 32) a x).toNat < S16x64.size a := fun v1561 v1698 k0_hw528 => k0_hw528.2

def k0_chk529 (v1561 : IVec S16 32) (v1707 : IVec S16 32) : Prop :=
  (∀ a x, ((![v1561, v1707] : Fin 2 → IVec S16 32) a x).toNat < S16x64.size a) ∧
  (∀ a x, ((![v1561, v1707] : Fin 2 → IVec S16 32) a x).toNat < S16x64.size a)
theorem k0_idx545_inb : ∀ (v1561 : IVec S16 32) (v1707 : IVec S16 32) (k0_hw529 : k0_chk529 v1561 v1707), ∀ a x, ((![v1561, v1707] : Fin 2 → IVec S16 32) a x).toNat < S16x64.size a := fun v1561 v1707 k0_hw529 => k0_hw529.1
theorem k0_idx546_inb : ∀ (v1561 : IVec S16 32) (v1707 : IVec S16 32) (k0_hw529 : k0_chk529 v1561 v1707), ∀ a x, ((![v1561, v1707] : Fin 2 → IVec S16 32) a x).toNat < S16x64.size a := fun v1561 v1707 k0_hw529 => k0_hw529.2

def k0_chk530 (v1561 : IVec S16 32) (v1716 : IVec S16 32) : Prop :=
  (∀ a x, ((![v1561, v1716] : Fin 2 → IVec S16 32) a x).toNat < S16x64.size a) ∧
  (∀ a x, ((![v1561, v1716] : Fin 2 → IVec S16 32) a x).toNat < S16x64.size a)
theorem k0_idx547_inb : ∀ (v1561 : IVec S16 32) (v1716 : IVec S16 32) (k0_hw530 : k0_chk530 v1561 v1716), ∀ a x, ((![v1561, v1716] : Fin 2 → IVec S16 32) a x).toNat < S16x64.size a := fun v1561 v1716 k0_hw530 => k0_hw530.1
theorem k0_idx548_inb : ∀ (v1561 : IVec S16 32) (v1716 : IVec S16 32) (k0_hw530 : k0_chk530 v1561 v1716), ∀ a x, ((![v1561, v1716] : Fin 2 → IVec S16 32) a x).toNat < S16x64.size a := fun v1561 v1716 k0_hw530 => k0_hw530.2

def k0_chk531 (v1561 : IVec S16 32) (v1725 : IVec S16 32) : Prop :=
  (∀ a x, ((![v1561, v1725] : Fin 2 → IVec S16 32) a x).toNat < S16x64.size a) ∧
  (∀ a x, ((![v1561, v1725] : Fin 2 → IVec S16 32) a x).toNat < S16x64.size a)
theorem k0_idx549_inb : ∀ (v1561 : IVec S16 32) (v1725 : IVec S16 32) (k0_hw531 : k0_chk531 v1561 v1725), ∀ a x, ((![v1561, v1725] : Fin 2 → IVec S16 32) a x).toNat < S16x64.size a := fun v1561 v1725 k0_hw531 => k0_hw531.1
theorem k0_idx550_inb : ∀ (v1561 : IVec S16 32) (v1725 : IVec S16 32) (k0_hw531 : k0_chk531 v1561 v1725), ∀ a x, ((![v1561, v1725] : Fin 2 → IVec S16 32) a x).toNat < S16x64.size a := fun v1561 v1725 k0_hw531 => k0_hw531.2

def k0_chk532 (v1561 : IVec S16 32) (v1734 : IVec S16 32) : Prop :=
  (∀ a x, ((![v1561, v1734] : Fin 2 → IVec S16 32) a x).toNat < S16x64.size a) ∧
  (∀ a x, ((![v1561, v1734] : Fin 2 → IVec S16 32) a x).toNat < S16x64.size a)
theorem k0_idx551_inb : ∀ (v1561 : IVec S16 32) (v1734 : IVec S16 32) (k0_hw532 : k0_chk532 v1561 v1734), ∀ a x, ((![v1561, v1734] : Fin 2 → IVec S16 32) a x).toNat < S16x64.size a := fun v1561 v1734 k0_hw532 => k0_hw532.1
theorem k0_idx552_inb : ∀ (v1561 : IVec S16 32) (v1734 : IVec S16 32) (k0_hw532 : k0_chk532 v1561 v1734), ∀ a x, ((![v1561, v1734] : Fin 2 → IVec S16 32) a x).toNat < S16x64.size a := fun v1561 v1734 k0_hw532 => k0_hw532.2

def k0_chk533 (v1561 : IVec S16 32) (v1743 : IVec S16 32) : Prop :=
  (∀ a x, ((![v1561, v1743] : Fin 2 → IVec S16 32) a x).toNat < S16x64.size a) ∧
  (∀ a x, ((![v1561, v1743] : Fin 2 → IVec S16 32) a x).toNat < S16x64.size a)
theorem k0_idx553_inb : ∀ (v1561 : IVec S16 32) (v1743 : IVec S16 32) (k0_hw533 : k0_chk533 v1561 v1743), ∀ a x, ((![v1561, v1743] : Fin 2 → IVec S16 32) a x).toNat < S16x64.size a := fun v1561 v1743 k0_hw533 => k0_hw533.1
theorem k0_idx554_inb : ∀ (v1561 : IVec S16 32) (v1743 : IVec S16 32) (k0_hw533 : k0_chk533 v1561 v1743), ∀ a x, ((![v1561, v1743] : Fin 2 → IVec S16 32) a x).toNat < S16x64.size a := fun v1561 v1743 k0_hw533 => k0_hw533.2

def k0_chk534 (v1561 : IVec S16 32) (v1752 : IVec S16 32) : Prop :=
  (∀ a x, ((![v1561, v1752] : Fin 2 → IVec S16 32) a x).toNat < S16x64.size a) ∧
  (∀ a x, ((![v1561, v1752] : Fin 2 → IVec S16 32) a x).toNat < S16x64.size a)
theorem k0_idx555_inb : ∀ (v1561 : IVec S16 32) (v1752 : IVec S16 32) (k0_hw534 : k0_chk534 v1561 v1752), ∀ a x, ((![v1561, v1752] : Fin 2 → IVec S16 32) a x).toNat < S16x64.size a := fun v1561 v1752 k0_hw534 => k0_hw534.1
theorem k0_idx556_inb : ∀ (v1561 : IVec S16 32) (v1752 : IVec S16 32) (k0_hw534 : k0_chk534 v1561 v1752), ∀ a x, ((![v1561, v1752] : Fin 2 → IVec S16 32) a x).toNat < S16x64.size a := fun v1561 v1752 k0_hw534 => k0_hw534.2

def k0_chk535 (v1561 : IVec S16 32) (v1761 : IVec S16 32) : Prop :=
  (∀ a x, ((![v1561, v1761] : Fin 2 → IVec S16 32) a x).toNat < S16x64.size a) ∧
  (∀ a x, ((![v1561, v1761] : Fin 2 → IVec S16 32) a x).toNat < S16x64.size a)
theorem k0_idx557_inb : ∀ (v1561 : IVec S16 32) (v1761 : IVec S16 32) (k0_hw535 : k0_chk535 v1561 v1761), ∀ a x, ((![v1561, v1761] : Fin 2 → IVec S16 32) a x).toNat < S16x64.size a := fun v1561 v1761 k0_hw535 => k0_hw535.1
theorem k0_idx558_inb : ∀ (v1561 : IVec S16 32) (v1761 : IVec S16 32) (k0_hw535 : k0_chk535 v1561 v1761), ∀ a x, ((![v1561, v1761] : Fin 2 → IVec S16 32) a x).toNat < S16x64.size a := fun v1561 v1761 k0_hw535 => k0_hw535.2

def k0_chk536 (v1561 : IVec S16 32) (v1770 : IVec S16 32) : Prop :=
  (∀ a x, ((![v1561, v1770] : Fin 2 → IVec S16 32) a x).toNat < S16x64.size a) ∧
  (∀ a x, ((![v1561, v1770] : Fin 2 → IVec S16 32) a x).toNat < S16x64.size a)
theorem k0_idx559_inb : ∀ (v1561 : IVec S16 32) (v1770 : IVec S16 32) (k0_hw536 : k0_chk536 v1561 v1770), ∀ a x, ((![v1561, v1770] : Fin 2 → IVec S16 32) a x).toNat < S16x64.size a := fun v1561 v1770 k0_hw536 => k0_hw536.1
theorem k0_idx560_inb : ∀ (v1561 : IVec S16 32) (v1770 : IVec S16 32) (k0_hw536 : k0_chk536 v1561 v1770), ∀ a x, ((![v1561, v1770] : Fin 2 → IVec S16 32) a x).toNat < S16x64.size a := fun v1561 v1770 k0_hw536 => k0_hw536.2

def k0_chk537 (v1561 : IVec S16 32) (v1779 : IVec S16 32) : Prop :=
  (∀ a x, ((![v1561, v1779] : Fin 2 → IVec S16 32) a x).toNat < S16x64.size a) ∧
  (∀ a x, ((![v1561, v1779] : Fin 2 → IVec S16 32) a x).toNat < S16x64.size a)
theorem k0_idx561_inb : ∀ (v1561 : IVec S16 32) (v1779 : IVec S16 32) (k0_hw537 : k0_chk537 v1561 v1779), ∀ a x, ((![v1561, v1779] : Fin 2 → IVec S16 32) a x).toNat < S16x64.size a := fun v1561 v1779 k0_hw537 => k0_hw537.1
theorem k0_idx562_inb : ∀ (v1561 : IVec S16 32) (v1779 : IVec S16 32) (k0_hw537 : k0_chk537 v1561 v1779), ∀ a x, ((![v1561, v1779] : Fin 2 → IVec S16 32) a x).toNat < S16x64.size a := fun v1561 v1779 k0_hw537 => k0_hw537.2

def k0_chk538 (v1561 : IVec S16 32) (v1788 : IVec S16 32) : Prop :=
  (∀ a x, ((![v1561, v1788] : Fin 2 → IVec S16 32) a x).toNat < S16x64.size a) ∧
  (∀ a x, ((![v1561, v1788] : Fin 2 → IVec S16 32) a x).toNat < S16x64.size a)
theorem k0_idx563_inb : ∀ (v1561 : IVec S16 32) (v1788 : IVec S16 32) (k0_hw538 : k0_chk538 v1561 v1788), ∀ a x, ((![v1561, v1788] : Fin 2 → IVec S16 32) a x).toNat < S16x64.size a := fun v1561 v1788 k0_hw538 => k0_hw538.1
theorem k0_idx564_inb : ∀ (v1561 : IVec S16 32) (v1788 : IVec S16 32) (k0_hw538 : k0_chk538 v1561 v1788), ∀ a x, ((![v1561, v1788] : Fin 2 → IVec S16 32) a x).toNat < S16x64.size a := fun v1561 v1788 k0_hw538 => k0_hw538.2

def k0_chk539 (v1561 : IVec S16 32) (v1797 : IVec S16 32) : Prop :=
  (∀ a x, ((![v1561, v1797] : Fin 2 → IVec S16 32) a x).toNat < S16x64.size a) ∧
  (∀ a x, ((![v1561, v1797] : Fin 2 → IVec S16 32) a x).toNat < S16x64.size a)
theorem k0_idx565_inb : ∀ (v1561 : IVec S16 32) (v1797 : IVec S16 32) (k0_hw539 : k0_chk539 v1561 v1797), ∀ a x, ((![v1561, v1797] : Fin 2 → IVec S16 32) a x).toNat < S16x64.size a := fun v1561 v1797 k0_hw539 => k0_hw539.1
theorem k0_idx566_inb : ∀ (v1561 : IVec S16 32) (v1797 : IVec S16 32) (k0_hw539 : k0_chk539 v1561 v1797), ∀ a x, ((![v1561, v1797] : Fin 2 → IVec S16 32) a x).toNat < S16x64.size a := fun v1561 v1797 k0_hw539 => k0_hw539.2

def k0_chk540 (v1561 : IVec S16 32) (v1806 : IVec S16 32) : Prop :=
  (∀ a x, ((![v1561, v1806] : Fin 2 → IVec S16 32) a x).toNat < S16x64.size a) ∧
  (∀ a x, ((![v1561, v1806] : Fin 2 → IVec S16 32) a x).toNat < S16x64.size a)
theorem k0_idx567_inb : ∀ (v1561 : IVec S16 32) (v1806 : IVec S16 32) (k0_hw540 : k0_chk540 v1561 v1806), ∀ a x, ((![v1561, v1806] : Fin 2 → IVec S16 32) a x).toNat < S16x64.size a := fun v1561 v1806 k0_hw540 => k0_hw540.1
theorem k0_idx568_inb : ∀ (v1561 : IVec S16 32) (v1806 : IVec S16 32) (k0_hw540 : k0_chk540 v1561 v1806), ∀ a x, ((![v1561, v1806] : Fin 2 → IVec S16 32) a x).toNat < S16x64.size a := fun v1561 v1806 k0_hw540 => k0_hw540.2

def k0_chk541 (v1561 : IVec S16 32) (v1815 : IVec S16 32) : Prop :=
  (∀ a x, ((![v1561, v1815] : Fin 2 → IVec S16 32) a x).toNat < S16x64.size a) ∧
  (∀ a x, ((![v1561, v1815] : Fin 2 → IVec S16 32) a x).toNat < S16x64.size a)
theorem k0_idx569_inb : ∀ (v1561 : IVec S16 32) (v1815 : IVec S16 32) (k0_hw541 : k0_chk541 v1561 v1815), ∀ a x, ((![v1561, v1815] : Fin 2 → IVec S16 32) a x).toNat < S16x64.size a := fun v1561 v1815 k0_hw541 => k0_hw541.1
theorem k0_idx570_inb : ∀ (v1561 : IVec S16 32) (v1815 : IVec S16 32) (k0_hw541 : k0_chk541 v1561 v1815), ∀ a x, ((![v1561, v1815] : Fin 2 → IVec S16 32) a x).toNat < S16x64.size a := fun v1561 v1815 k0_hw541 => k0_hw541.2

def k0_chk542 (v1561 : IVec S16 32) (v1824 : IVec S16 32) : Prop :=
  (∀ a x, ((![v1561, v1824] : Fin 2 → IVec S16 32) a x).toNat < S16x64.size a) ∧
  (∀ a x, ((![v1561, v1824] : Fin 2 → IVec S16 32) a x).toNat < S16x64.size a)
theorem k0_idx571_inb : ∀ (v1561 : IVec S16 32) (v1824 : IVec S16 32) (k0_hw542 : k0_chk542 v1561 v1824), ∀ a x, ((![v1561, v1824] : Fin 2 → IVec S16 32) a x).toNat < S16x64.size a := fun v1561 v1824 k0_hw542 => k0_hw542.1
theorem k0_idx572_inb : ∀ (v1561 : IVec S16 32) (v1824 : IVec S16 32) (k0_hw542 : k0_chk542 v1561 v1824), ∀ a x, ((![v1561, v1824] : Fin 2 → IVec S16 32) a x).toNat < S16x64.size a := fun v1561 v1824 k0_hw542 => k0_hw542.2

def k0_chk543 (v1561 : IVec S16 32) (v1833 : IVec S16 32) : Prop :=
  (∀ a x, ((![v1561, v1833] : Fin 2 → IVec S16 32) a x).toNat < S16x64.size a) ∧
  (∀ a x, ((![v1561, v1833] : Fin 2 → IVec S16 32) a x).toNat < S16x64.size a)
theorem k0_idx573_inb : ∀ (v1561 : IVec S16 32) (v1833 : IVec S16 32) (k0_hw543 : k0_chk543 v1561 v1833), ∀ a x, ((![v1561, v1833] : Fin 2 → IVec S16 32) a x).toNat < S16x64.size a := fun v1561 v1833 k0_hw543 => k0_hw543.1
theorem k0_idx574_inb : ∀ (v1561 : IVec S16 32) (v1833 : IVec S16 32) (k0_hw543 : k0_chk543 v1561 v1833), ∀ a x, ((![v1561, v1833] : Fin 2 → IVec S16 32) a x).toNat < S16x64.size a := fun v1561 v1833 k0_hw543 => k0_hw543.2

def k0_chk544 (v1561 : IVec S16 32) (v1842 : IVec S16 32) : Prop :=
  (∀ a x, ((![v1561, v1842] : Fin 2 → IVec S16 32) a x).toNat < S16x64.size a) ∧
  (∀ a x, ((![v1561, v1842] : Fin 2 → IVec S16 32) a x).toNat < S16x64.size a)
theorem k0_idx575_inb : ∀ (v1561 : IVec S16 32) (v1842 : IVec S16 32) (k0_hw544 : k0_chk544 v1561 v1842), ∀ a x, ((![v1561, v1842] : Fin 2 → IVec S16 32) a x).toNat < S16x64.size a := fun v1561 v1842 k0_hw544 => k0_hw544.1
theorem k0_idx576_inb : ∀ (v1561 : IVec S16 32) (v1842 : IVec S16 32) (k0_hw544 : k0_chk544 v1561 v1842), ∀ a x, ((![v1561, v1842] : Fin 2 → IVec S16 32) a x).toNat < S16x64.size a := fun v1561 v1842 k0_hw544 => k0_hw544.2

def k0_chk545 (v1561 : IVec S16 32) (v1851 : IVec S16 32) : Prop :=
  (∀ a x, ((![v1561, v1851] : Fin 2 → IVec S16 32) a x).toNat < S16x64.size a) ∧
  (∀ a x, ((![v1561, v1851] : Fin 2 → IVec S16 32) a x).toNat < S16x64.size a)
theorem k0_idx577_inb : ∀ (v1561 : IVec S16 32) (v1851 : IVec S16 32) (k0_hw545 : k0_chk545 v1561 v1851), ∀ a x, ((![v1561, v1851] : Fin 2 → IVec S16 32) a x).toNat < S16x64.size a := fun v1561 v1851 k0_hw545 => k0_hw545.1
theorem k0_idx578_inb : ∀ (v1561 : IVec S16 32) (v1851 : IVec S16 32) (k0_hw545 : k0_chk545 v1561 v1851), ∀ a x, ((![v1561, v1851] : Fin 2 → IVec S16 32) a x).toNat < S16x64.size a := fun v1561 v1851 k0_hw545 => k0_hw545.2

def k0_chk546 (v1561 : IVec S16 32) (v1860 : IVec S16 32) : Prop :=
  (∀ a x, ((![v1561, v1860] : Fin 2 → IVec S16 32) a x).toNat < S16x64.size a) ∧
  (∀ a x, ((![v1561, v1860] : Fin 2 → IVec S16 32) a x).toNat < S16x64.size a)
theorem k0_idx579_inb : ∀ (v1561 : IVec S16 32) (v1860 : IVec S16 32) (k0_hw546 : k0_chk546 v1561 v1860), ∀ a x, ((![v1561, v1860] : Fin 2 → IVec S16 32) a x).toNat < S16x64.size a := fun v1561 v1860 k0_hw546 => k0_hw546.1
theorem k0_idx580_inb : ∀ (v1561 : IVec S16 32) (v1860 : IVec S16 32) (k0_hw546 : k0_chk546 v1561 v1860), ∀ a x, ((![v1561, v1860] : Fin 2 → IVec S16 32) a x).toNat < S16x64.size a := fun v1561 v1860 k0_hw546 => k0_hw546.2

def k0_chk547 (v1561 : IVec S16 32) (v1869 : IVec S16 32) : Prop :=
  (∀ a x, ((![v1561, v1869] : Fin 2 → IVec S16 32) a x).toNat < S16x64.size a) ∧
  (∀ a x, ((![v1561, v1869] : Fin 2 → IVec S16 32) a x).toNat < S16x64.size a)
theorem k0_idx581_inb : ∀ (v1561 : IVec S16 32) (v1869 : IVec S16 32) (k0_hw547 : k0_chk547 v1561 v1869), ∀ a x, ((![v1561, v1869] : Fin 2 → IVec S16 32) a x).toNat < S16x64.size a := fun v1561 v1869 k0_hw547 => k0_hw547.1
theorem k0_idx582_inb : ∀ (v1561 : IVec S16 32) (v1869 : IVec S16 32) (k0_hw547 : k0_chk547 v1561 v1869), ∀ a x, ((![v1561, v1869] : Fin 2 → IVec S16 32) a x).toNat < S16x64.size a := fun v1561 v1869 k0_hw547 => k0_hw547.2

def k0_chk548 (v1561 : IVec S16 32) (v1878 : IVec S16 32) : Prop :=
  (∀ a x, ((![v1561, v1878] : Fin 2 → IVec S16 32) a x).toNat < S16x64.size a) ∧
  (∀ a x, ((![v1561, v1878] : Fin 2 → IVec S16 32) a x).toNat < S16x64.size a)
theorem k0_idx583_inb : ∀ (v1561 : IVec S16 32) (v1878 : IVec S16 32) (k0_hw548 : k0_chk548 v1561 v1878), ∀ a x, ((![v1561, v1878] : Fin 2 → IVec S16 32) a x).toNat < S16x64.size a := fun v1561 v1878 k0_hw548 => k0_hw548.1
theorem k0_idx584_inb : ∀ (v1561 : IVec S16 32) (v1878 : IVec S16 32) (k0_hw548 : k0_chk548 v1561 v1878), ∀ a x, ((![v1561, v1878] : Fin 2 → IVec S16 32) a x).toNat < S16x64.size a := fun v1561 v1878 k0_hw548 => k0_hw548.2

def k0_chk549 (v1561 : IVec S16 32) (v1887 : IVec S16 32) : Prop :=
  (∀ a x, ((![v1561, v1887] : Fin 2 → IVec S16 32) a x).toNat < S16x64.size a) ∧
  (∀ a x, ((![v1561, v1887] : Fin 2 → IVec S16 32) a x).toNat < S16x64.size a)
theorem k0_idx585_inb : ∀ (v1561 : IVec S16 32) (v1887 : IVec S16 32) (k0_hw549 : k0_chk549 v1561 v1887), ∀ a x, ((![v1561, v1887] : Fin 2 → IVec S16 32) a x).toNat < S16x64.size a := fun v1561 v1887 k0_hw549 => k0_hw549.1
theorem k0_idx586_inb : ∀ (v1561 : IVec S16 32) (v1887 : IVec S16 32) (k0_hw549 : k0_chk549 v1561 v1887), ∀ a x, ((![v1561, v1887] : Fin 2 → IVec S16 32) a x).toNat < S16x64.size a := fun v1561 v1887 k0_hw549 => k0_hw549.2

def k0_chk550 (v1561 : IVec S16 32) (v1896 : IVec S16 32) : Prop :=
  (∀ a x, ((![v1561, v1896] : Fin 2 → IVec S16 32) a x).toNat < S16x64.size a) ∧
  (∀ a x, ((![v1561, v1896] : Fin 2 → IVec S16 32) a x).toNat < S16x64.size a)
theorem k0_idx587_inb : ∀ (v1561 : IVec S16 32) (v1896 : IVec S16 32) (k0_hw550 : k0_chk550 v1561 v1896), ∀ a x, ((![v1561, v1896] : Fin 2 → IVec S16 32) a x).toNat < S16x64.size a := fun v1561 v1896 k0_hw550 => k0_hw550.1
theorem k0_idx588_inb : ∀ (v1561 : IVec S16 32) (v1896 : IVec S16 32) (k0_hw550 : k0_chk550 v1561 v1896), ∀ a x, ((![v1561, v1896] : Fin 2 → IVec S16 32) a x).toNat < S16x64.size a := fun v1561 v1896 k0_hw550 => k0_hw550.2

def k0_chk551 (v1561 : IVec S16 32) (v1905 : IVec S16 32) : Prop :=
  (∀ a x, ((![v1561, v1905] : Fin 2 → IVec S16 32) a x).toNat < S16x64.size a) ∧
  (∀ a x, ((![v1561, v1905] : Fin 2 → IVec S16 32) a x).toNat < S16x64.size a)
theorem k0_idx589_inb : ∀ (v1561 : IVec S16 32) (v1905 : IVec S16 32) (k0_hw551 : k0_chk551 v1561 v1905), ∀ a x, ((![v1561, v1905] : Fin 2 → IVec S16 32) a x).toNat < S16x64.size a := fun v1561 v1905 k0_hw551 => k0_hw551.1
theorem k0_idx590_inb : ∀ (v1561 : IVec S16 32) (v1905 : IVec S16 32) (k0_hw551 : k0_chk551 v1561 v1905), ∀ a x, ((![v1561, v1905] : Fin 2 → IVec S16 32) a x).toNat < S16x64.size a := fun v1561 v1905 k0_hw551 => k0_hw551.2

def k0_chk552 (v1561 : IVec S16 32) (v1914 : IVec S16 32) : Prop :=
  (∀ a x, ((![v1561, v1914] : Fin 2 → IVec S16 32) a x).toNat < S16x64.size a) ∧
  (∀ a x, ((![v1561, v1914] : Fin 2 → IVec S16 32) a x).toNat < S16x64.size a)
theorem k0_idx591_inb : ∀ (v1561 : IVec S16 32) (v1914 : IVec S16 32) (k0_hw552 : k0_chk552 v1561 v1914), ∀ a x, ((![v1561, v1914] : Fin 2 → IVec S16 32) a x).toNat < S16x64.size a := fun v1561 v1914 k0_hw552 => k0_hw552.1
theorem k0_idx592_inb : ∀ (v1561 : IVec S16 32) (v1914 : IVec S16 32) (k0_hw552 : k0_chk552 v1561 v1914), ∀ a x, ((![v1561, v1914] : Fin 2 → IVec S16 32) a x).toNat < S16x64.size a := fun v1561 v1914 k0_hw552 => k0_hw552.2

def k0_chk553 (v1561 : IVec S16 32) (v1923 : IVec S16 32) : Prop :=
  (∀ a x, ((![v1561, v1923] : Fin 2 → IVec S16 32) a x).toNat < S16x64.size a) ∧
  (∀ a x, ((![v1561, v1923] : Fin 2 → IVec S16 32) a x).toNat < S16x64.size a)
theorem k0_idx593_inb : ∀ (v1561 : IVec S16 32) (v1923 : IVec S16 32) (k0_hw553 : k0_chk553 v1561 v1923), ∀ a x, ((![v1561, v1923] : Fin 2 → IVec S16 32) a x).toNat < S16x64.size a := fun v1561 v1923 k0_hw553 => k0_hw553.1
theorem k0_idx594_inb : ∀ (v1561 : IVec S16 32) (v1923 : IVec S16 32) (k0_hw553 : k0_chk553 v1561 v1923), ∀ a x, ((![v1561, v1923] : Fin 2 → IVec S16 32) a x).toNat < S16x64.size a := fun v1561 v1923 k0_hw553 => k0_hw553.2

def k0_chk554 (v1561 : IVec S16 32) (v1932 : IVec S16 32) : Prop :=
  (∀ a x, ((![v1561, v1932] : Fin 2 → IVec S16 32) a x).toNat < S16x64.size a) ∧
  (∀ a x, ((![v1561, v1932] : Fin 2 → IVec S16 32) a x).toNat < S16x64.size a)
theorem k0_idx595_inb : ∀ (v1561 : IVec S16 32) (v1932 : IVec S16 32) (k0_hw554 : k0_chk554 v1561 v1932), ∀ a x, ((![v1561, v1932] : Fin 2 → IVec S16 32) a x).toNat < S16x64.size a := fun v1561 v1932 k0_hw554 => k0_hw554.1
theorem k0_idx596_inb : ∀ (v1561 : IVec S16 32) (v1932 : IVec S16 32) (k0_hw554 : k0_chk554 v1561 v1932), ∀ a x, ((![v1561, v1932] : Fin 2 → IVec S16 32) a x).toNat < S16x64.size a := fun v1561 v1932 k0_hw554 => k0_hw554.2

def k0_chk555 (v1561 : IVec S16 32) (v1941 : IVec S16 32) : Prop :=
  (∀ a x, ((![v1561, v1941] : Fin 2 → IVec S16 32) a x).toNat < S16x64.size a) ∧
  (∀ a x, ((![v1561, v1941] : Fin 2 → IVec S16 32) a x).toNat < S16x64.size a)
theorem k0_idx597_inb : ∀ (v1561 : IVec S16 32) (v1941 : IVec S16 32) (k0_hw555 : k0_chk555 v1561 v1941), ∀ a x, ((![v1561, v1941] : Fin 2 → IVec S16 32) a x).toNat < S16x64.size a := fun v1561 v1941 k0_hw555 => k0_hw555.1
theorem k0_idx598_inb : ∀ (v1561 : IVec S16 32) (v1941 : IVec S16 32) (k0_hw555 : k0_chk555 v1561 v1941), ∀ a x, ((![v1561, v1941] : Fin 2 → IVec S16 32) a x).toNat < S16x64.size a := fun v1561 v1941 k0_hw555 => k0_hw555.2

def k0_chk556 (v1561 : IVec S16 32) (v1950 : IVec S16 32) : Prop :=
  (∀ a x, ((![v1561, v1950] : Fin 2 → IVec S16 32) a x).toNat < S16x64.size a) ∧
  (∀ a x, ((![v1561, v1950] : Fin 2 → IVec S16 32) a x).toNat < S16x64.size a)
theorem k0_idx599_inb : ∀ (v1561 : IVec S16 32) (v1950 : IVec S16 32) (k0_hw556 : k0_chk556 v1561 v1950), ∀ a x, ((![v1561, v1950] : Fin 2 → IVec S16 32) a x).toNat < S16x64.size a := fun v1561 v1950 k0_hw556 => k0_hw556.1
theorem k0_idx600_inb : ∀ (v1561 : IVec S16 32) (v1950 : IVec S16 32) (k0_hw556 : k0_chk556 v1561 v1950), ∀ a x, ((![v1561, v1950] : Fin 2 → IVec S16 32) a x).toNat < S16x64.size a := fun v1561 v1950 k0_hw556 => k0_hw556.2

def k0_chk557 (v1561 : IVec S16 32) (v1959 : IVec S16 32) : Prop :=
  (∀ a x, ((![v1561, v1959] : Fin 2 → IVec S16 32) a x).toNat < S16x64.size a) ∧
  (∀ a x, ((![v1561, v1959] : Fin 2 → IVec S16 32) a x).toNat < S16x64.size a)
theorem k0_idx601_inb : ∀ (v1561 : IVec S16 32) (v1959 : IVec S16 32) (k0_hw557 : k0_chk557 v1561 v1959), ∀ a x, ((![v1561, v1959] : Fin 2 → IVec S16 32) a x).toNat < S16x64.size a := fun v1561 v1959 k0_hw557 => k0_hw557.1
theorem k0_idx602_inb : ∀ (v1561 : IVec S16 32) (v1959 : IVec S16 32) (k0_hw557 : k0_chk557 v1561 v1959), ∀ a x, ((![v1561, v1959] : Fin 2 → IVec S16 32) a x).toNat < S16x64.size a := fun v1561 v1959 k0_hw557 => k0_hw557.2

def k0_chk558 (v1561 : IVec S16 32) (v1968 : IVec S16 32) : Prop :=
  (∀ a x, ((![v1561, v1968] : Fin 2 → IVec S16 32) a x).toNat < S16x64.size a) ∧
  (∀ a x, ((![v1561, v1968] : Fin 2 → IVec S16 32) a x).toNat < S16x64.size a)
theorem k0_idx603_inb : ∀ (v1561 : IVec S16 32) (v1968 : IVec S16 32) (k0_hw558 : k0_chk558 v1561 v1968), ∀ a x, ((![v1561, v1968] : Fin 2 → IVec S16 32) a x).toNat < S16x64.size a := fun v1561 v1968 k0_hw558 => k0_hw558.1
theorem k0_idx604_inb : ∀ (v1561 : IVec S16 32) (v1968 : IVec S16 32) (k0_hw558 : k0_chk558 v1561 v1968), ∀ a x, ((![v1561, v1968] : Fin 2 → IVec S16 32) a x).toNat < S16x64.size a := fun v1561 v1968 k0_hw558 => k0_hw558.2

def k0_chk559 (v1561 : IVec S16 32) (v1977 : IVec S16 32) : Prop :=
  (∀ a x, ((![v1561, v1977] : Fin 2 → IVec S16 32) a x).toNat < S16x64.size a) ∧
  (∀ a x, ((![v1561, v1977] : Fin 2 → IVec S16 32) a x).toNat < S16x64.size a)
theorem k0_idx605_inb : ∀ (v1561 : IVec S16 32) (v1977 : IVec S16 32) (k0_hw559 : k0_chk559 v1561 v1977), ∀ a x, ((![v1561, v1977] : Fin 2 → IVec S16 32) a x).toNat < S16x64.size a := fun v1561 v1977 k0_hw559 => k0_hw559.1
theorem k0_idx606_inb : ∀ (v1561 : IVec S16 32) (v1977 : IVec S16 32) (k0_hw559 : k0_chk559 v1561 v1977), ∀ a x, ((![v1561, v1977] : Fin 2 → IVec S16 32) a x).toNat < S16x64.size a := fun v1561 v1977 k0_hw559 => k0_hw559.2

def k0_chk560 (v1561 : IVec S16 32) (v1986 : IVec S16 32) : Prop :=
  (∀ a x, ((![v1561, v1986] : Fin 2 → IVec S16 32) a x).toNat < S16x64.size a) ∧
  (∀ a x, ((![v1561, v1986] : Fin 2 → IVec S16 32) a x).toNat < S16x64.size a)
theorem k0_idx607_inb : ∀ (v1561 : IVec S16 32) (v1986 : IVec S16 32) (k0_hw560 : k0_chk560 v1561 v1986), ∀ a x, ((![v1561, v1986] : Fin 2 → IVec S16 32) a x).toNat < S16x64.size a := fun v1561 v1986 k0_hw560 => k0_hw560.1
theorem k0_idx608_inb : ∀ (v1561 : IVec S16 32) (v1986 : IVec S16 32) (k0_hw560 : k0_chk560 v1561 v1986), ∀ a x, ((![v1561, v1986] : Fin 2 → IVec S16 32) a x).toNat < S16x64.size a := fun v1561 v1986 k0_hw560 => k0_hw560.2

def k0_chk561 (v1561 : IVec S16 32) (v1995 : IVec S16 32) : Prop :=
  (∀ a x, ((![v1561, v1995] : Fin 2 → IVec S16 32) a x).toNat < S16x64.size a) ∧
  (∀ a x, ((![v1561, v1995] : Fin 2 → IVec S16 32) a x).toNat < S16x64.size a)
theorem k0_idx609_inb : ∀ (v1561 : IVec S16 32) (v1995 : IVec S16 32) (k0_hw561 : k0_chk561 v1561 v1995), ∀ a x, ((![v1561, v1995] : Fin 2 → IVec S16 32) a x).toNat < S16x64.size a := fun v1561 v1995 k0_hw561 => k0_hw561.1
theorem k0_idx610_inb : ∀ (v1561 : IVec S16 32) (v1995 : IVec S16 32) (k0_hw561 : k0_chk561 v1561 v1995), ∀ a x, ((![v1561, v1995] : Fin 2 → IVec S16 32) a x).toNat < S16x64.size a := fun v1561 v1995 k0_hw561 => k0_hw561.2

def k0_chk562 (v1561 : IVec S16 32) (v2004 : IVec S16 32) : Prop :=
  (∀ a x, ((![v1561, v2004] : Fin 2 → IVec S16 32) a x).toNat < S16x64.size a) ∧
  (∀ a x, ((![v1561, v2004] : Fin 2 → IVec S16 32) a x).toNat < S16x64.size a)
theorem k0_idx611_inb : ∀ (v1561 : IVec S16 32) (v2004 : IVec S16 32) (k0_hw562 : k0_chk562 v1561 v2004), ∀ a x, ((![v1561, v2004] : Fin 2 → IVec S16 32) a x).toNat < S16x64.size a := fun v1561 v2004 k0_hw562 => k0_hw562.1
theorem k0_idx612_inb : ∀ (v1561 : IVec S16 32) (v2004 : IVec S16 32) (k0_hw562 : k0_chk562 v1561 v2004), ∀ a x, ((![v1561, v2004] : Fin 2 → IVec S16 32) a x).toNat < S16x64.size a := fun v1561 v2004 k0_hw562 => k0_hw562.2

def k0_chk563 (v1561 : IVec S16 32) (v2013 : IVec S16 32) : Prop :=
  (∀ a x, ((![v1561, v2013] : Fin 2 → IVec S16 32) a x).toNat < S16x64.size a) ∧
  (∀ a x, ((![v1561, v2013] : Fin 2 → IVec S16 32) a x).toNat < S16x64.size a)
theorem k0_idx613_inb : ∀ (v1561 : IVec S16 32) (v2013 : IVec S16 32) (k0_hw563 : k0_chk563 v1561 v2013), ∀ a x, ((![v1561, v2013] : Fin 2 → IVec S16 32) a x).toNat < S16x64.size a := fun v1561 v2013 k0_hw563 => k0_hw563.1
theorem k0_idx614_inb : ∀ (v1561 : IVec S16 32) (v2013 : IVec S16 32) (k0_hw563 : k0_chk563 v1561 v2013), ∀ a x, ((![v1561, v2013] : Fin 2 → IVec S16 32) a x).toNat < S16x64.size a := fun v1561 v2013 k0_hw563 => k0_hw563.2

def k0_chk564 (v1561 : IVec S16 32) (v2022 : IVec S16 32) : Prop :=
  (∀ a x, ((![v1561, v2022] : Fin 2 → IVec S16 32) a x).toNat < S16x64.size a) ∧
  (∀ a x, ((![v1561, v2022] : Fin 2 → IVec S16 32) a x).toNat < S16x64.size a)
theorem k0_idx615_inb : ∀ (v1561 : IVec S16 32) (v2022 : IVec S16 32) (k0_hw564 : k0_chk564 v1561 v2022), ∀ a x, ((![v1561, v2022] : Fin 2 → IVec S16 32) a x).toNat < S16x64.size a := fun v1561 v2022 k0_hw564 => k0_hw564.1
theorem k0_idx616_inb : ∀ (v1561 : IVec S16 32) (v2022 : IVec S16 32) (k0_hw564 : k0_chk564 v1561 v2022), ∀ a x, ((![v1561, v2022] : Fin 2 → IVec S16 32) a x).toNat < S16x64.size a := fun v1561 v2022 k0_hw564 => k0_hw564.2

def k0_chk565 (v1561 : IVec S16 32) (v2031 : IVec S16 32) : Prop :=
  (∀ a x, ((![v1561, v2031] : Fin 2 → IVec S16 32) a x).toNat < S16x64.size a) ∧
  (∀ a x, ((![v1561, v2031] : Fin 2 → IVec S16 32) a x).toNat < S16x64.size a)
theorem k0_idx617_inb : ∀ (v1561 : IVec S16 32) (v2031 : IVec S16 32) (k0_hw565 : k0_chk565 v1561 v2031), ∀ a x, ((![v1561, v2031] : Fin 2 → IVec S16 32) a x).toNat < S16x64.size a := fun v1561 v2031 k0_hw565 => k0_hw565.1
theorem k0_idx618_inb : ∀ (v1561 : IVec S16 32) (v2031 : IVec S16 32) (k0_hw565 : k0_chk565 v1561 v2031), ∀ a x, ((![v1561, v2031] : Fin 2 → IVec S16 32) a x).toNat < S16x64.size a := fun v1561 v2031 k0_hw565 => k0_hw565.2

def k0_chk566 (v1561 : IVec S16 32) (v2040 : IVec S16 32) : Prop :=
  (∀ a x, ((![v1561, v2040] : Fin 2 → IVec S16 32) a x).toNat < S16x64.size a) ∧
  (∀ a x, ((![v1561, v2040] : Fin 2 → IVec S16 32) a x).toNat < S16x64.size a)
theorem k0_idx619_inb : ∀ (v1561 : IVec S16 32) (v2040 : IVec S16 32) (k0_hw566 : k0_chk566 v1561 v2040), ∀ a x, ((![v1561, v2040] : Fin 2 → IVec S16 32) a x).toNat < S16x64.size a := fun v1561 v2040 k0_hw566 => k0_hw566.1
theorem k0_idx620_inb : ∀ (v1561 : IVec S16 32) (v2040 : IVec S16 32) (k0_hw566 : k0_chk566 v1561 v2040), ∀ a x, ((![v1561, v2040] : Fin 2 → IVec S16 32) a x).toNat < S16x64.size a := fun v1561 v2040 k0_hw566 => k0_hw566.2

def k0_chk567 (v1561 : IVec S16 32) (v2049 : IVec S16 32) : Prop :=
  (∀ a x, ((![v1561, v2049] : Fin 2 → IVec S16 32) a x).toNat < S16x64.size a) ∧
  (∀ a x, ((![v1561, v2049] : Fin 2 → IVec S16 32) a x).toNat < S16x64.size a)
theorem k0_idx621_inb : ∀ (v1561 : IVec S16 32) (v2049 : IVec S16 32) (k0_hw567 : k0_chk567 v1561 v2049), ∀ a x, ((![v1561, v2049] : Fin 2 → IVec S16 32) a x).toNat < S16x64.size a := fun v1561 v2049 k0_hw567 => k0_hw567.1
theorem k0_idx622_inb : ∀ (v1561 : IVec S16 32) (v2049 : IVec S16 32) (k0_hw567 : k0_chk567 v1561 v2049), ∀ a x, ((![v1561, v2049] : Fin 2 → IVec S16 32) a x).toNat < S16x64.size a := fun v1561 v2049 k0_hw567 => k0_hw567.2

def k0_chk568 (v1561 : IVec S16 32) (v2058 : IVec S16 32) : Prop :=
  (∀ a x, ((![v1561, v2058] : Fin 2 → IVec S16 32) a x).toNat < S16x64.size a) ∧
  (∀ a x, ((![v1561, v2058] : Fin 2 → IVec S16 32) a x).toNat < S16x64.size a)
theorem k0_idx623_inb : ∀ (v1561 : IVec S16 32) (v2058 : IVec S16 32) (k0_hw568 : k0_chk568 v1561 v2058), ∀ a x, ((![v1561, v2058] : Fin 2 → IVec S16 32) a x).toNat < S16x64.size a := fun v1561 v2058 k0_hw568 => k0_hw568.1
theorem k0_idx624_inb : ∀ (v1561 : IVec S16 32) (v2058 : IVec S16 32) (k0_hw568 : k0_chk568 v1561 v2058), ∀ a x, ((![v1561, v2058] : Fin 2 → IVec S16 32) a x).toNat < S16x64.size a := fun v1561 v2058 k0_hw568 => k0_hw568.2

def k0_chk569 (v1561 : IVec S16 32) (v2067 : IVec S16 32) : Prop :=
  (∀ a x, ((![v1561, v2067] : Fin 2 → IVec S16 32) a x).toNat < S16x64.size a) ∧
  (∀ a x, ((![v1561, v2067] : Fin 2 → IVec S16 32) a x).toNat < S16x64.size a)
theorem k0_idx625_inb : ∀ (v1561 : IVec S16 32) (v2067 : IVec S16 32) (k0_hw569 : k0_chk569 v1561 v2067), ∀ a x, ((![v1561, v2067] : Fin 2 → IVec S16 32) a x).toNat < S16x64.size a := fun v1561 v2067 k0_hw569 => k0_hw569.1
theorem k0_idx626_inb : ∀ (v1561 : IVec S16 32) (v2067 : IVec S16 32) (k0_hw569 : k0_chk569 v1561 v2067), ∀ a x, ((![v1561, v2067] : Fin 2 → IVec S16 32) a x).toNat < S16x64.size a := fun v1561 v2067 k0_hw569 => k0_hw569.2

def k0_chk570 (v1561 : IVec S16 32) (v2076 : IVec S16 32) : Prop :=
  (∀ a x, ((![v1561, v2076] : Fin 2 → IVec S16 32) a x).toNat < S16x64.size a) ∧
  (∀ a x, ((![v1561, v2076] : Fin 2 → IVec S16 32) a x).toNat < S16x64.size a)
theorem k0_idx627_inb : ∀ (v1561 : IVec S16 32) (v2076 : IVec S16 32) (k0_hw570 : k0_chk570 v1561 v2076), ∀ a x, ((![v1561, v2076] : Fin 2 → IVec S16 32) a x).toNat < S16x64.size a := fun v1561 v2076 k0_hw570 => k0_hw570.1
theorem k0_idx628_inb : ∀ (v1561 : IVec S16 32) (v2076 : IVec S16 32) (k0_hw570 : k0_chk570 v1561 v2076), ∀ a x, ((![v1561, v2076] : Fin 2 → IVec S16 32) a x).toNat < S16x64.size a := fun v1561 v2076 k0_hw570 => k0_hw570.2

def k0_chk571 (v1561 : IVec S16 32) (v2085 : IVec S16 32) : Prop :=
  (∀ a x, ((![v1561, v2085] : Fin 2 → IVec S16 32) a x).toNat < S16x64.size a) ∧
  (∀ a x, ((![v1561, v2085] : Fin 2 → IVec S16 32) a x).toNat < S16x64.size a)
theorem k0_idx629_inb : ∀ (v1561 : IVec S16 32) (v2085 : IVec S16 32) (k0_hw571 : k0_chk571 v1561 v2085), ∀ a x, ((![v1561, v2085] : Fin 2 → IVec S16 32) a x).toNat < S16x64.size a := fun v1561 v2085 k0_hw571 => k0_hw571.1
theorem k0_idx630_inb : ∀ (v1561 : IVec S16 32) (v2085 : IVec S16 32) (k0_hw571 : k0_chk571 v1561 v2085), ∀ a x, ((![v1561, v2085] : Fin 2 → IVec S16 32) a x).toNat < S16x64.size a := fun v1561 v2085 k0_hw571 => k0_hw571.2

def k0_chk572 (v1561 : IVec S16 32) (v2094 : IVec S16 32) : Prop :=
  (∀ a x, ((![v1561, v2094] : Fin 2 → IVec S16 32) a x).toNat < S16x64.size a) ∧
  (∀ a x, ((![v1561, v2094] : Fin 2 → IVec S16 32) a x).toNat < S16x64.size a)
theorem k0_idx631_inb : ∀ (v1561 : IVec S16 32) (v2094 : IVec S16 32) (k0_hw572 : k0_chk572 v1561 v2094), ∀ a x, ((![v1561, v2094] : Fin 2 → IVec S16 32) a x).toNat < S16x64.size a := fun v1561 v2094 k0_hw572 => k0_hw572.1
theorem k0_idx632_inb : ∀ (v1561 : IVec S16 32) (v2094 : IVec S16 32) (k0_hw572 : k0_chk572 v1561 v2094), ∀ a x, ((![v1561, v2094] : Fin 2 → IVec S16 32) a x).toNat < S16x64.size a := fun v1561 v2094 k0_hw572 => k0_hw572.2

def k0_chk573 (v1561 : IVec S16 32) (v2103 : IVec S16 32) : Prop :=
  (∀ a x, ((![v1561, v2103] : Fin 2 → IVec S16 32) a x).toNat < S16x64.size a) ∧
  (∀ a x, ((![v1561, v2103] : Fin 2 → IVec S16 32) a x).toNat < S16x64.size a)
theorem k0_idx633_inb : ∀ (v1561 : IVec S16 32) (v2103 : IVec S16 32) (k0_hw573 : k0_chk573 v1561 v2103), ∀ a x, ((![v1561, v2103] : Fin 2 → IVec S16 32) a x).toNat < S16x64.size a := fun v1561 v2103 k0_hw573 => k0_hw573.1
theorem k0_idx634_inb : ∀ (v1561 : IVec S16 32) (v2103 : IVec S16 32) (k0_hw573 : k0_chk573 v1561 v2103), ∀ a x, ((![v1561, v2103] : Fin 2 → IVec S16 32) a x).toNat < S16x64.size a := fun v1561 v2103 k0_hw573 => k0_hw573.2

def k0_chk574 (v1561 : IVec S16 32) (v2112 : IVec S16 32) : Prop :=
  (∀ a x, ((![v1561, v2112] : Fin 2 → IVec S16 32) a x).toNat < S16x64.size a) ∧
  (∀ a x, ((![v1561, v2112] : Fin 2 → IVec S16 32) a x).toNat < S16x64.size a)
theorem k0_idx635_inb : ∀ (v1561 : IVec S16 32) (v2112 : IVec S16 32) (k0_hw574 : k0_chk574 v1561 v2112), ∀ a x, ((![v1561, v2112] : Fin 2 → IVec S16 32) a x).toNat < S16x64.size a := fun v1561 v2112 k0_hw574 => k0_hw574.1
theorem k0_idx636_inb : ∀ (v1561 : IVec S16 32) (v2112 : IVec S16 32) (k0_hw574 : k0_chk574 v1561 v2112), ∀ a x, ((![v1561, v2112] : Fin 2 → IVec S16 32) a x).toNat < S16x64.size a := fun v1561 v2112 k0_hw574 => k0_hw574.2

def k0_chk575 (v1561 : IVec S16 32) (v2121 : IVec S16 32) : Prop :=
  (∀ a x, ((![v1561, v2121] : Fin 2 → IVec S16 32) a x).toNat < S16x64.size a) ∧
  (∀ a x, ((![v1561, v2121] : Fin 2 → IVec S16 32) a x).toNat < S16x64.size a)
theorem k0_idx637_inb : ∀ (v1561 : IVec S16 32) (v2121 : IVec S16 32) (k0_hw575 : k0_chk575 v1561 v2121), ∀ a x, ((![v1561, v2121] : Fin 2 → IVec S16 32) a x).toNat < S16x64.size a := fun v1561 v2121 k0_hw575 => k0_hw575.1
theorem k0_idx638_inb : ∀ (v1561 : IVec S16 32) (v2121 : IVec S16 32) (k0_hw575 : k0_chk575 v1561 v2121), ∀ a x, ((![v1561, v2121] : Fin 2 → IVec S16 32) a x).toNat < S16x64.size a := fun v1561 v2121 k0_hw575 => k0_hw575.2

def k0_chk576 (v1561 : IVec S16 32) (v2130 : IVec S16 32) : Prop :=
  (∀ a x, ((![v1561, v2130] : Fin 2 → IVec S16 32) a x).toNat < S16x64.size a) ∧
  (∀ a x, ((![v1561, v2130] : Fin 2 → IVec S16 32) a x).toNat < S16x64.size a)
theorem k0_idx639_inb : ∀ (v1561 : IVec S16 32) (v2130 : IVec S16 32) (k0_hw576 : k0_chk576 v1561 v2130), ∀ a x, ((![v1561, v2130] : Fin 2 → IVec S16 32) a x).toNat < S16x64.size a := fun v1561 v2130 k0_hw576 => k0_hw576.1
theorem k0_idx640_inb : ∀ (v1561 : IVec S16 32) (v2130 : IVec S16 32) (k0_hw576 : k0_chk576 v1561 v2130), ∀ a x, ((![v1561, v2130] : Fin 2 → IVec S16 32) a x).toNat < S16x64.size a := fun v1561 v2130 k0_hw576 => k0_hw576.2
def k0_mult14 : BitVec 32 :=
  let c464_i32 : BitVec 32 := 464#32
  c464_i32

def k0_chk577 (v2398 : IVec S16 32) (v2400 : IVec S16 32) : Prop :=
  (∀ a x, ((![v2398, v2400] : Fin 2 → IVec S16 32) a x).toNat < S16x64.size a) ∧
  (∀ a x, ((![v2398, v2400] : Fin 2 → IVec S16 32) a x).toNat < S16x64.size a)
theorem k0_idx641_inb : ∀ (v2398 : IVec S16 32) (v2400 : IVec S16 32) (k0_hw577 : k0_chk577 v2398 v2400), ∀ a x, ((![v2398, v2400] : Fin 2 → IVec S16 32) a x).toNat < S16x64.size a := fun v2398 v2400 k0_hw577 => k0_hw577.1
theorem k0_idx642_inb : ∀ (v2398 : IVec S16 32) (v2400 : IVec S16 32) (k0_hw577 : k0_chk577 v2398 v2400), ∀ a x, ((![v2398, v2400] : Fin 2 → IVec S16 32) a x).toNat < S16x64.size a := fun v2398 v2400 k0_hw577 => k0_hw577.2

def k0_chk578 (v2398 : IVec S16 32) (v2409 : IVec S16 32) : Prop :=
  (∀ a x, ((![v2398, v2409] : Fin 2 → IVec S16 32) a x).toNat < S16x64.size a) ∧
  (∀ a x, ((![v2398, v2409] : Fin 2 → IVec S16 32) a x).toNat < S16x64.size a)
theorem k0_idx643_inb : ∀ (v2398 : IVec S16 32) (v2409 : IVec S16 32) (k0_hw578 : k0_chk578 v2398 v2409), ∀ a x, ((![v2398, v2409] : Fin 2 → IVec S16 32) a x).toNat < S16x64.size a := fun v2398 v2409 k0_hw578 => k0_hw578.1
theorem k0_idx644_inb : ∀ (v2398 : IVec S16 32) (v2409 : IVec S16 32) (k0_hw578 : k0_chk578 v2398 v2409), ∀ a x, ((![v2398, v2409] : Fin 2 → IVec S16 32) a x).toNat < S16x64.size a := fun v2398 v2409 k0_hw578 => k0_hw578.2

def k0_chk579 (v2398 : IVec S16 32) (v2418 : IVec S16 32) : Prop :=
  (∀ a x, ((![v2398, v2418] : Fin 2 → IVec S16 32) a x).toNat < S16x64.size a) ∧
  (∀ a x, ((![v2398, v2418] : Fin 2 → IVec S16 32) a x).toNat < S16x64.size a)
theorem k0_idx645_inb : ∀ (v2398 : IVec S16 32) (v2418 : IVec S16 32) (k0_hw579 : k0_chk579 v2398 v2418), ∀ a x, ((![v2398, v2418] : Fin 2 → IVec S16 32) a x).toNat < S16x64.size a := fun v2398 v2418 k0_hw579 => k0_hw579.1
theorem k0_idx646_inb : ∀ (v2398 : IVec S16 32) (v2418 : IVec S16 32) (k0_hw579 : k0_chk579 v2398 v2418), ∀ a x, ((![v2398, v2418] : Fin 2 → IVec S16 32) a x).toNat < S16x64.size a := fun v2398 v2418 k0_hw579 => k0_hw579.2

def k0_chk580 (v2398 : IVec S16 32) (v2427 : IVec S16 32) : Prop :=
  (∀ a x, ((![v2398, v2427] : Fin 2 → IVec S16 32) a x).toNat < S16x64.size a) ∧
  (∀ a x, ((![v2398, v2427] : Fin 2 → IVec S16 32) a x).toNat < S16x64.size a)
theorem k0_idx647_inb : ∀ (v2398 : IVec S16 32) (v2427 : IVec S16 32) (k0_hw580 : k0_chk580 v2398 v2427), ∀ a x, ((![v2398, v2427] : Fin 2 → IVec S16 32) a x).toNat < S16x64.size a := fun v2398 v2427 k0_hw580 => k0_hw580.1
theorem k0_idx648_inb : ∀ (v2398 : IVec S16 32) (v2427 : IVec S16 32) (k0_hw580 : k0_chk580 v2398 v2427), ∀ a x, ((![v2398, v2427] : Fin 2 → IVec S16 32) a x).toNat < S16x64.size a := fun v2398 v2427 k0_hw580 => k0_hw580.2

def k0_chk581 (v2398 : IVec S16 32) (v2436 : IVec S16 32) : Prop :=
  (∀ a x, ((![v2398, v2436] : Fin 2 → IVec S16 32) a x).toNat < S16x64.size a) ∧
  (∀ a x, ((![v2398, v2436] : Fin 2 → IVec S16 32) a x).toNat < S16x64.size a)
theorem k0_idx649_inb : ∀ (v2398 : IVec S16 32) (v2436 : IVec S16 32) (k0_hw581 : k0_chk581 v2398 v2436), ∀ a x, ((![v2398, v2436] : Fin 2 → IVec S16 32) a x).toNat < S16x64.size a := fun v2398 v2436 k0_hw581 => k0_hw581.1
theorem k0_idx650_inb : ∀ (v2398 : IVec S16 32) (v2436 : IVec S16 32) (k0_hw581 : k0_chk581 v2398 v2436), ∀ a x, ((![v2398, v2436] : Fin 2 → IVec S16 32) a x).toNat < S16x64.size a := fun v2398 v2436 k0_hw581 => k0_hw581.2

def k0_chk582 (v2398 : IVec S16 32) (v2445 : IVec S16 32) : Prop :=
  (∀ a x, ((![v2398, v2445] : Fin 2 → IVec S16 32) a x).toNat < S16x64.size a) ∧
  (∀ a x, ((![v2398, v2445] : Fin 2 → IVec S16 32) a x).toNat < S16x64.size a)
theorem k0_idx651_inb : ∀ (v2398 : IVec S16 32) (v2445 : IVec S16 32) (k0_hw582 : k0_chk582 v2398 v2445), ∀ a x, ((![v2398, v2445] : Fin 2 → IVec S16 32) a x).toNat < S16x64.size a := fun v2398 v2445 k0_hw582 => k0_hw582.1
theorem k0_idx652_inb : ∀ (v2398 : IVec S16 32) (v2445 : IVec S16 32) (k0_hw582 : k0_chk582 v2398 v2445), ∀ a x, ((![v2398, v2445] : Fin 2 → IVec S16 32) a x).toNat < S16x64.size a := fun v2398 v2445 k0_hw582 => k0_hw582.2

def k0_chk583 (v2398 : IVec S16 32) (v2454 : IVec S16 32) : Prop :=
  (∀ a x, ((![v2398, v2454] : Fin 2 → IVec S16 32) a x).toNat < S16x64.size a) ∧
  (∀ a x, ((![v2398, v2454] : Fin 2 → IVec S16 32) a x).toNat < S16x64.size a)
theorem k0_idx653_inb : ∀ (v2398 : IVec S16 32) (v2454 : IVec S16 32) (k0_hw583 : k0_chk583 v2398 v2454), ∀ a x, ((![v2398, v2454] : Fin 2 → IVec S16 32) a x).toNat < S16x64.size a := fun v2398 v2454 k0_hw583 => k0_hw583.1
theorem k0_idx654_inb : ∀ (v2398 : IVec S16 32) (v2454 : IVec S16 32) (k0_hw583 : k0_chk583 v2398 v2454), ∀ a x, ((![v2398, v2454] : Fin 2 → IVec S16 32) a x).toNat < S16x64.size a := fun v2398 v2454 k0_hw583 => k0_hw583.2

def k0_chk584 (v2398 : IVec S16 32) (v2463 : IVec S16 32) : Prop :=
  (∀ a x, ((![v2398, v2463] : Fin 2 → IVec S16 32) a x).toNat < S16x64.size a) ∧
  (∀ a x, ((![v2398, v2463] : Fin 2 → IVec S16 32) a x).toNat < S16x64.size a)
theorem k0_idx655_inb : ∀ (v2398 : IVec S16 32) (v2463 : IVec S16 32) (k0_hw584 : k0_chk584 v2398 v2463), ∀ a x, ((![v2398, v2463] : Fin 2 → IVec S16 32) a x).toNat < S16x64.size a := fun v2398 v2463 k0_hw584 => k0_hw584.1
theorem k0_idx656_inb : ∀ (v2398 : IVec S16 32) (v2463 : IVec S16 32) (k0_hw584 : k0_chk584 v2398 v2463), ∀ a x, ((![v2398, v2463] : Fin 2 → IVec S16 32) a x).toNat < S16x64.size a := fun v2398 v2463 k0_hw584 => k0_hw584.2

def k0_chk585 (v2398 : IVec S16 32) (v2472 : IVec S16 32) : Prop :=
  (∀ a x, ((![v2398, v2472] : Fin 2 → IVec S16 32) a x).toNat < S16x64.size a) ∧
  (∀ a x, ((![v2398, v2472] : Fin 2 → IVec S16 32) a x).toNat < S16x64.size a)
theorem k0_idx657_inb : ∀ (v2398 : IVec S16 32) (v2472 : IVec S16 32) (k0_hw585 : k0_chk585 v2398 v2472), ∀ a x, ((![v2398, v2472] : Fin 2 → IVec S16 32) a x).toNat < S16x64.size a := fun v2398 v2472 k0_hw585 => k0_hw585.1
theorem k0_idx658_inb : ∀ (v2398 : IVec S16 32) (v2472 : IVec S16 32) (k0_hw585 : k0_chk585 v2398 v2472), ∀ a x, ((![v2398, v2472] : Fin 2 → IVec S16 32) a x).toNat < S16x64.size a := fun v2398 v2472 k0_hw585 => k0_hw585.2

def k0_chk586 (v2398 : IVec S16 32) (v2481 : IVec S16 32) : Prop :=
  (∀ a x, ((![v2398, v2481] : Fin 2 → IVec S16 32) a x).toNat < S16x64.size a) ∧
  (∀ a x, ((![v2398, v2481] : Fin 2 → IVec S16 32) a x).toNat < S16x64.size a)
theorem k0_idx659_inb : ∀ (v2398 : IVec S16 32) (v2481 : IVec S16 32) (k0_hw586 : k0_chk586 v2398 v2481), ∀ a x, ((![v2398, v2481] : Fin 2 → IVec S16 32) a x).toNat < S16x64.size a := fun v2398 v2481 k0_hw586 => k0_hw586.1
theorem k0_idx660_inb : ∀ (v2398 : IVec S16 32) (v2481 : IVec S16 32) (k0_hw586 : k0_chk586 v2398 v2481), ∀ a x, ((![v2398, v2481] : Fin 2 → IVec S16 32) a x).toNat < S16x64.size a := fun v2398 v2481 k0_hw586 => k0_hw586.2

def k0_chk587 (v2398 : IVec S16 32) (v2490 : IVec S16 32) : Prop :=
  (∀ a x, ((![v2398, v2490] : Fin 2 → IVec S16 32) a x).toNat < S16x64.size a) ∧
  (∀ a x, ((![v2398, v2490] : Fin 2 → IVec S16 32) a x).toNat < S16x64.size a)
theorem k0_idx661_inb : ∀ (v2398 : IVec S16 32) (v2490 : IVec S16 32) (k0_hw587 : k0_chk587 v2398 v2490), ∀ a x, ((![v2398, v2490] : Fin 2 → IVec S16 32) a x).toNat < S16x64.size a := fun v2398 v2490 k0_hw587 => k0_hw587.1
theorem k0_idx662_inb : ∀ (v2398 : IVec S16 32) (v2490 : IVec S16 32) (k0_hw587 : k0_chk587 v2398 v2490), ∀ a x, ((![v2398, v2490] : Fin 2 → IVec S16 32) a x).toNat < S16x64.size a := fun v2398 v2490 k0_hw587 => k0_hw587.2

def k0_chk588 (v2398 : IVec S16 32) (v2499 : IVec S16 32) : Prop :=
  (∀ a x, ((![v2398, v2499] : Fin 2 → IVec S16 32) a x).toNat < S16x64.size a) ∧
  (∀ a x, ((![v2398, v2499] : Fin 2 → IVec S16 32) a x).toNat < S16x64.size a)
theorem k0_idx663_inb : ∀ (v2398 : IVec S16 32) (v2499 : IVec S16 32) (k0_hw588 : k0_chk588 v2398 v2499), ∀ a x, ((![v2398, v2499] : Fin 2 → IVec S16 32) a x).toNat < S16x64.size a := fun v2398 v2499 k0_hw588 => k0_hw588.1
theorem k0_idx664_inb : ∀ (v2398 : IVec S16 32) (v2499 : IVec S16 32) (k0_hw588 : k0_chk588 v2398 v2499), ∀ a x, ((![v2398, v2499] : Fin 2 → IVec S16 32) a x).toNat < S16x64.size a := fun v2398 v2499 k0_hw588 => k0_hw588.2

def k0_chk589 (v2398 : IVec S16 32) (v2508 : IVec S16 32) : Prop :=
  (∀ a x, ((![v2398, v2508] : Fin 2 → IVec S16 32) a x).toNat < S16x64.size a) ∧
  (∀ a x, ((![v2398, v2508] : Fin 2 → IVec S16 32) a x).toNat < S16x64.size a)
theorem k0_idx665_inb : ∀ (v2398 : IVec S16 32) (v2508 : IVec S16 32) (k0_hw589 : k0_chk589 v2398 v2508), ∀ a x, ((![v2398, v2508] : Fin 2 → IVec S16 32) a x).toNat < S16x64.size a := fun v2398 v2508 k0_hw589 => k0_hw589.1
theorem k0_idx666_inb : ∀ (v2398 : IVec S16 32) (v2508 : IVec S16 32) (k0_hw589 : k0_chk589 v2398 v2508), ∀ a x, ((![v2398, v2508] : Fin 2 → IVec S16 32) a x).toNat < S16x64.size a := fun v2398 v2508 k0_hw589 => k0_hw589.2

def k0_chk590 (v2398 : IVec S16 32) (v2517 : IVec S16 32) : Prop :=
  (∀ a x, ((![v2398, v2517] : Fin 2 → IVec S16 32) a x).toNat < S16x64.size a) ∧
  (∀ a x, ((![v2398, v2517] : Fin 2 → IVec S16 32) a x).toNat < S16x64.size a)
theorem k0_idx667_inb : ∀ (v2398 : IVec S16 32) (v2517 : IVec S16 32) (k0_hw590 : k0_chk590 v2398 v2517), ∀ a x, ((![v2398, v2517] : Fin 2 → IVec S16 32) a x).toNat < S16x64.size a := fun v2398 v2517 k0_hw590 => k0_hw590.1
theorem k0_idx668_inb : ∀ (v2398 : IVec S16 32) (v2517 : IVec S16 32) (k0_hw590 : k0_chk590 v2398 v2517), ∀ a x, ((![v2398, v2517] : Fin 2 → IVec S16 32) a x).toNat < S16x64.size a := fun v2398 v2517 k0_hw590 => k0_hw590.2

def k0_chk591 (v2398 : IVec S16 32) (v2526 : IVec S16 32) : Prop :=
  (∀ a x, ((![v2398, v2526] : Fin 2 → IVec S16 32) a x).toNat < S16x64.size a) ∧
  (∀ a x, ((![v2398, v2526] : Fin 2 → IVec S16 32) a x).toNat < S16x64.size a)
theorem k0_idx669_inb : ∀ (v2398 : IVec S16 32) (v2526 : IVec S16 32) (k0_hw591 : k0_chk591 v2398 v2526), ∀ a x, ((![v2398, v2526] : Fin 2 → IVec S16 32) a x).toNat < S16x64.size a := fun v2398 v2526 k0_hw591 => k0_hw591.1
theorem k0_idx670_inb : ∀ (v2398 : IVec S16 32) (v2526 : IVec S16 32) (k0_hw591 : k0_chk591 v2398 v2526), ∀ a x, ((![v2398, v2526] : Fin 2 → IVec S16 32) a x).toNat < S16x64.size a := fun v2398 v2526 k0_hw591 => k0_hw591.2

def k0_chk592 (v2398 : IVec S16 32) (v2535 : IVec S16 32) : Prop :=
  (∀ a x, ((![v2398, v2535] : Fin 2 → IVec S16 32) a x).toNat < S16x64.size a) ∧
  (∀ a x, ((![v2398, v2535] : Fin 2 → IVec S16 32) a x).toNat < S16x64.size a)
theorem k0_idx671_inb : ∀ (v2398 : IVec S16 32) (v2535 : IVec S16 32) (k0_hw592 : k0_chk592 v2398 v2535), ∀ a x, ((![v2398, v2535] : Fin 2 → IVec S16 32) a x).toNat < S16x64.size a := fun v2398 v2535 k0_hw592 => k0_hw592.1
theorem k0_idx672_inb : ∀ (v2398 : IVec S16 32) (v2535 : IVec S16 32) (k0_hw592 : k0_chk592 v2398 v2535), ∀ a x, ((![v2398, v2535] : Fin 2 → IVec S16 32) a x).toNat < S16x64.size a := fun v2398 v2535 k0_hw592 => k0_hw592.2

def k0_chk593 (v2398 : IVec S16 32) (v2544 : IVec S16 32) : Prop :=
  (∀ a x, ((![v2398, v2544] : Fin 2 → IVec S16 32) a x).toNat < S16x64.size a) ∧
  (∀ a x, ((![v2398, v2544] : Fin 2 → IVec S16 32) a x).toNat < S16x64.size a)
theorem k0_idx673_inb : ∀ (v2398 : IVec S16 32) (v2544 : IVec S16 32) (k0_hw593 : k0_chk593 v2398 v2544), ∀ a x, ((![v2398, v2544] : Fin 2 → IVec S16 32) a x).toNat < S16x64.size a := fun v2398 v2544 k0_hw593 => k0_hw593.1
theorem k0_idx674_inb : ∀ (v2398 : IVec S16 32) (v2544 : IVec S16 32) (k0_hw593 : k0_chk593 v2398 v2544), ∀ a x, ((![v2398, v2544] : Fin 2 → IVec S16 32) a x).toNat < S16x64.size a := fun v2398 v2544 k0_hw593 => k0_hw593.2

def k0_chk594 (v2398 : IVec S16 32) (v2553 : IVec S16 32) : Prop :=
  (∀ a x, ((![v2398, v2553] : Fin 2 → IVec S16 32) a x).toNat < S16x64.size a) ∧
  (∀ a x, ((![v2398, v2553] : Fin 2 → IVec S16 32) a x).toNat < S16x64.size a)
theorem k0_idx675_inb : ∀ (v2398 : IVec S16 32) (v2553 : IVec S16 32) (k0_hw594 : k0_chk594 v2398 v2553), ∀ a x, ((![v2398, v2553] : Fin 2 → IVec S16 32) a x).toNat < S16x64.size a := fun v2398 v2553 k0_hw594 => k0_hw594.1
theorem k0_idx676_inb : ∀ (v2398 : IVec S16 32) (v2553 : IVec S16 32) (k0_hw594 : k0_chk594 v2398 v2553), ∀ a x, ((![v2398, v2553] : Fin 2 → IVec S16 32) a x).toNat < S16x64.size a := fun v2398 v2553 k0_hw594 => k0_hw594.2

def k0_chk595 (v2398 : IVec S16 32) (v2562 : IVec S16 32) : Prop :=
  (∀ a x, ((![v2398, v2562] : Fin 2 → IVec S16 32) a x).toNat < S16x64.size a) ∧
  (∀ a x, ((![v2398, v2562] : Fin 2 → IVec S16 32) a x).toNat < S16x64.size a)
theorem k0_idx677_inb : ∀ (v2398 : IVec S16 32) (v2562 : IVec S16 32) (k0_hw595 : k0_chk595 v2398 v2562), ∀ a x, ((![v2398, v2562] : Fin 2 → IVec S16 32) a x).toNat < S16x64.size a := fun v2398 v2562 k0_hw595 => k0_hw595.1
theorem k0_idx678_inb : ∀ (v2398 : IVec S16 32) (v2562 : IVec S16 32) (k0_hw595 : k0_chk595 v2398 v2562), ∀ a x, ((![v2398, v2562] : Fin 2 → IVec S16 32) a x).toNat < S16x64.size a := fun v2398 v2562 k0_hw595 => k0_hw595.2

def k0_chk596 (v2398 : IVec S16 32) (v2571 : IVec S16 32) : Prop :=
  (∀ a x, ((![v2398, v2571] : Fin 2 → IVec S16 32) a x).toNat < S16x64.size a) ∧
  (∀ a x, ((![v2398, v2571] : Fin 2 → IVec S16 32) a x).toNat < S16x64.size a)
theorem k0_idx679_inb : ∀ (v2398 : IVec S16 32) (v2571 : IVec S16 32) (k0_hw596 : k0_chk596 v2398 v2571), ∀ a x, ((![v2398, v2571] : Fin 2 → IVec S16 32) a x).toNat < S16x64.size a := fun v2398 v2571 k0_hw596 => k0_hw596.1
theorem k0_idx680_inb : ∀ (v2398 : IVec S16 32) (v2571 : IVec S16 32) (k0_hw596 : k0_chk596 v2398 v2571), ∀ a x, ((![v2398, v2571] : Fin 2 → IVec S16 32) a x).toNat < S16x64.size a := fun v2398 v2571 k0_hw596 => k0_hw596.2

def k0_chk597 (v2398 : IVec S16 32) (v2580 : IVec S16 32) : Prop :=
  (∀ a x, ((![v2398, v2580] : Fin 2 → IVec S16 32) a x).toNat < S16x64.size a) ∧
  (∀ a x, ((![v2398, v2580] : Fin 2 → IVec S16 32) a x).toNat < S16x64.size a)
theorem k0_idx681_inb : ∀ (v2398 : IVec S16 32) (v2580 : IVec S16 32) (k0_hw597 : k0_chk597 v2398 v2580), ∀ a x, ((![v2398, v2580] : Fin 2 → IVec S16 32) a x).toNat < S16x64.size a := fun v2398 v2580 k0_hw597 => k0_hw597.1
theorem k0_idx682_inb : ∀ (v2398 : IVec S16 32) (v2580 : IVec S16 32) (k0_hw597 : k0_chk597 v2398 v2580), ∀ a x, ((![v2398, v2580] : Fin 2 → IVec S16 32) a x).toNat < S16x64.size a := fun v2398 v2580 k0_hw597 => k0_hw597.2

def k0_chk598 (v2398 : IVec S16 32) (v2589 : IVec S16 32) : Prop :=
  (∀ a x, ((![v2398, v2589] : Fin 2 → IVec S16 32) a x).toNat < S16x64.size a) ∧
  (∀ a x, ((![v2398, v2589] : Fin 2 → IVec S16 32) a x).toNat < S16x64.size a)
theorem k0_idx683_inb : ∀ (v2398 : IVec S16 32) (v2589 : IVec S16 32) (k0_hw598 : k0_chk598 v2398 v2589), ∀ a x, ((![v2398, v2589] : Fin 2 → IVec S16 32) a x).toNat < S16x64.size a := fun v2398 v2589 k0_hw598 => k0_hw598.1
theorem k0_idx684_inb : ∀ (v2398 : IVec S16 32) (v2589 : IVec S16 32) (k0_hw598 : k0_chk598 v2398 v2589), ∀ a x, ((![v2398, v2589] : Fin 2 → IVec S16 32) a x).toNat < S16x64.size a := fun v2398 v2589 k0_hw598 => k0_hw598.2

def k0_chk599 (v2398 : IVec S16 32) (v2598 : IVec S16 32) : Prop :=
  (∀ a x, ((![v2398, v2598] : Fin 2 → IVec S16 32) a x).toNat < S16x64.size a) ∧
  (∀ a x, ((![v2398, v2598] : Fin 2 → IVec S16 32) a x).toNat < S16x64.size a)
theorem k0_idx685_inb : ∀ (v2398 : IVec S16 32) (v2598 : IVec S16 32) (k0_hw599 : k0_chk599 v2398 v2598), ∀ a x, ((![v2398, v2598] : Fin 2 → IVec S16 32) a x).toNat < S16x64.size a := fun v2398 v2598 k0_hw599 => k0_hw599.1
theorem k0_idx686_inb : ∀ (v2398 : IVec S16 32) (v2598 : IVec S16 32) (k0_hw599 : k0_chk599 v2398 v2598), ∀ a x, ((![v2398, v2598] : Fin 2 → IVec S16 32) a x).toNat < S16x64.size a := fun v2398 v2598 k0_hw599 => k0_hw599.2

def k0_chk600 (v2398 : IVec S16 32) (v2607 : IVec S16 32) : Prop :=
  (∀ a x, ((![v2398, v2607] : Fin 2 → IVec S16 32) a x).toNat < S16x64.size a) ∧
  (∀ a x, ((![v2398, v2607] : Fin 2 → IVec S16 32) a x).toNat < S16x64.size a)
theorem k0_idx687_inb : ∀ (v2398 : IVec S16 32) (v2607 : IVec S16 32) (k0_hw600 : k0_chk600 v2398 v2607), ∀ a x, ((![v2398, v2607] : Fin 2 → IVec S16 32) a x).toNat < S16x64.size a := fun v2398 v2607 k0_hw600 => k0_hw600.1
theorem k0_idx688_inb : ∀ (v2398 : IVec S16 32) (v2607 : IVec S16 32) (k0_hw600 : k0_chk600 v2398 v2607), ∀ a x, ((![v2398, v2607] : Fin 2 → IVec S16 32) a x).toNat < S16x64.size a := fun v2398 v2607 k0_hw600 => k0_hw600.2

def k0_chk601 (v2398 : IVec S16 32) (v2616 : IVec S16 32) : Prop :=
  (∀ a x, ((![v2398, v2616] : Fin 2 → IVec S16 32) a x).toNat < S16x64.size a) ∧
  (∀ a x, ((![v2398, v2616] : Fin 2 → IVec S16 32) a x).toNat < S16x64.size a)
theorem k0_idx689_inb : ∀ (v2398 : IVec S16 32) (v2616 : IVec S16 32) (k0_hw601 : k0_chk601 v2398 v2616), ∀ a x, ((![v2398, v2616] : Fin 2 → IVec S16 32) a x).toNat < S16x64.size a := fun v2398 v2616 k0_hw601 => k0_hw601.1
theorem k0_idx690_inb : ∀ (v2398 : IVec S16 32) (v2616 : IVec S16 32) (k0_hw601 : k0_chk601 v2398 v2616), ∀ a x, ((![v2398, v2616] : Fin 2 → IVec S16 32) a x).toNat < S16x64.size a := fun v2398 v2616 k0_hw601 => k0_hw601.2

def k0_chk602 (v2398 : IVec S16 32) (v2625 : IVec S16 32) : Prop :=
  (∀ a x, ((![v2398, v2625] : Fin 2 → IVec S16 32) a x).toNat < S16x64.size a) ∧
  (∀ a x, ((![v2398, v2625] : Fin 2 → IVec S16 32) a x).toNat < S16x64.size a)
theorem k0_idx691_inb : ∀ (v2398 : IVec S16 32) (v2625 : IVec S16 32) (k0_hw602 : k0_chk602 v2398 v2625), ∀ a x, ((![v2398, v2625] : Fin 2 → IVec S16 32) a x).toNat < S16x64.size a := fun v2398 v2625 k0_hw602 => k0_hw602.1
theorem k0_idx692_inb : ∀ (v2398 : IVec S16 32) (v2625 : IVec S16 32) (k0_hw602 : k0_chk602 v2398 v2625), ∀ a x, ((![v2398, v2625] : Fin 2 → IVec S16 32) a x).toNat < S16x64.size a := fun v2398 v2625 k0_hw602 => k0_hw602.2

def k0_chk603 (v2398 : IVec S16 32) (v2634 : IVec S16 32) : Prop :=
  (∀ a x, ((![v2398, v2634] : Fin 2 → IVec S16 32) a x).toNat < S16x64.size a) ∧
  (∀ a x, ((![v2398, v2634] : Fin 2 → IVec S16 32) a x).toNat < S16x64.size a)
theorem k0_idx693_inb : ∀ (v2398 : IVec S16 32) (v2634 : IVec S16 32) (k0_hw603 : k0_chk603 v2398 v2634), ∀ a x, ((![v2398, v2634] : Fin 2 → IVec S16 32) a x).toNat < S16x64.size a := fun v2398 v2634 k0_hw603 => k0_hw603.1
theorem k0_idx694_inb : ∀ (v2398 : IVec S16 32) (v2634 : IVec S16 32) (k0_hw603 : k0_chk603 v2398 v2634), ∀ a x, ((![v2398, v2634] : Fin 2 → IVec S16 32) a x).toNat < S16x64.size a := fun v2398 v2634 k0_hw603 => k0_hw603.2

def k0_chk604 (v2398 : IVec S16 32) (v2643 : IVec S16 32) : Prop :=
  (∀ a x, ((![v2398, v2643] : Fin 2 → IVec S16 32) a x).toNat < S16x64.size a) ∧
  (∀ a x, ((![v2398, v2643] : Fin 2 → IVec S16 32) a x).toNat < S16x64.size a)
theorem k0_idx695_inb : ∀ (v2398 : IVec S16 32) (v2643 : IVec S16 32) (k0_hw604 : k0_chk604 v2398 v2643), ∀ a x, ((![v2398, v2643] : Fin 2 → IVec S16 32) a x).toNat < S16x64.size a := fun v2398 v2643 k0_hw604 => k0_hw604.1
theorem k0_idx696_inb : ∀ (v2398 : IVec S16 32) (v2643 : IVec S16 32) (k0_hw604 : k0_chk604 v2398 v2643), ∀ a x, ((![v2398, v2643] : Fin 2 → IVec S16 32) a x).toNat < S16x64.size a := fun v2398 v2643 k0_hw604 => k0_hw604.2

def k0_chk605 (v2398 : IVec S16 32) (v2652 : IVec S16 32) : Prop :=
  (∀ a x, ((![v2398, v2652] : Fin 2 → IVec S16 32) a x).toNat < S16x64.size a) ∧
  (∀ a x, ((![v2398, v2652] : Fin 2 → IVec S16 32) a x).toNat < S16x64.size a)
theorem k0_idx697_inb : ∀ (v2398 : IVec S16 32) (v2652 : IVec S16 32) (k0_hw605 : k0_chk605 v2398 v2652), ∀ a x, ((![v2398, v2652] : Fin 2 → IVec S16 32) a x).toNat < S16x64.size a := fun v2398 v2652 k0_hw605 => k0_hw605.1
theorem k0_idx698_inb : ∀ (v2398 : IVec S16 32) (v2652 : IVec S16 32) (k0_hw605 : k0_chk605 v2398 v2652), ∀ a x, ((![v2398, v2652] : Fin 2 → IVec S16 32) a x).toNat < S16x64.size a := fun v2398 v2652 k0_hw605 => k0_hw605.2

def k0_chk606 (v2398 : IVec S16 32) (v2661 : IVec S16 32) : Prop :=
  (∀ a x, ((![v2398, v2661] : Fin 2 → IVec S16 32) a x).toNat < S16x64.size a) ∧
  (∀ a x, ((![v2398, v2661] : Fin 2 → IVec S16 32) a x).toNat < S16x64.size a)
theorem k0_idx699_inb : ∀ (v2398 : IVec S16 32) (v2661 : IVec S16 32) (k0_hw606 : k0_chk606 v2398 v2661), ∀ a x, ((![v2398, v2661] : Fin 2 → IVec S16 32) a x).toNat < S16x64.size a := fun v2398 v2661 k0_hw606 => k0_hw606.1
theorem k0_idx700_inb : ∀ (v2398 : IVec S16 32) (v2661 : IVec S16 32) (k0_hw606 : k0_chk606 v2398 v2661), ∀ a x, ((![v2398, v2661] : Fin 2 → IVec S16 32) a x).toNat < S16x64.size a := fun v2398 v2661 k0_hw606 => k0_hw606.2

def k0_chk607 (v2398 : IVec S16 32) (v2670 : IVec S16 32) : Prop :=
  (∀ a x, ((![v2398, v2670] : Fin 2 → IVec S16 32) a x).toNat < S16x64.size a) ∧
  (∀ a x, ((![v2398, v2670] : Fin 2 → IVec S16 32) a x).toNat < S16x64.size a)
theorem k0_idx701_inb : ∀ (v2398 : IVec S16 32) (v2670 : IVec S16 32) (k0_hw607 : k0_chk607 v2398 v2670), ∀ a x, ((![v2398, v2670] : Fin 2 → IVec S16 32) a x).toNat < S16x64.size a := fun v2398 v2670 k0_hw607 => k0_hw607.1
theorem k0_idx702_inb : ∀ (v2398 : IVec S16 32) (v2670 : IVec S16 32) (k0_hw607 : k0_chk607 v2398 v2670), ∀ a x, ((![v2398, v2670] : Fin 2 → IVec S16 32) a x).toNat < S16x64.size a := fun v2398 v2670 k0_hw607 => k0_hw607.2

def k0_chk608 (v2398 : IVec S16 32) (v2679 : IVec S16 32) : Prop :=
  (∀ a x, ((![v2398, v2679] : Fin 2 → IVec S16 32) a x).toNat < S16x64.size a) ∧
  (∀ a x, ((![v2398, v2679] : Fin 2 → IVec S16 32) a x).toNat < S16x64.size a)
theorem k0_idx703_inb : ∀ (v2398 : IVec S16 32) (v2679 : IVec S16 32) (k0_hw608 : k0_chk608 v2398 v2679), ∀ a x, ((![v2398, v2679] : Fin 2 → IVec S16 32) a x).toNat < S16x64.size a := fun v2398 v2679 k0_hw608 => k0_hw608.1
theorem k0_idx704_inb : ∀ (v2398 : IVec S16 32) (v2679 : IVec S16 32) (k0_hw608 : k0_chk608 v2398 v2679), ∀ a x, ((![v2398, v2679] : Fin 2 → IVec S16 32) a x).toNat < S16x64.size a := fun v2398 v2679 k0_hw608 => k0_hw608.2

def k0_chk609 (v2398 : IVec S16 32) (v2688 : IVec S16 32) : Prop :=
  (∀ a x, ((![v2398, v2688] : Fin 2 → IVec S16 32) a x).toNat < S16x64.size a) ∧
  (∀ a x, ((![v2398, v2688] : Fin 2 → IVec S16 32) a x).toNat < S16x64.size a)
theorem k0_idx705_inb : ∀ (v2398 : IVec S16 32) (v2688 : IVec S16 32) (k0_hw609 : k0_chk609 v2398 v2688), ∀ a x, ((![v2398, v2688] : Fin 2 → IVec S16 32) a x).toNat < S16x64.size a := fun v2398 v2688 k0_hw609 => k0_hw609.1
theorem k0_idx706_inb : ∀ (v2398 : IVec S16 32) (v2688 : IVec S16 32) (k0_hw609 : k0_chk609 v2398 v2688), ∀ a x, ((![v2398, v2688] : Fin 2 → IVec S16 32) a x).toNat < S16x64.size a := fun v2398 v2688 k0_hw609 => k0_hw609.2

def k0_chk610 (v2398 : IVec S16 32) (v2697 : IVec S16 32) : Prop :=
  (∀ a x, ((![v2398, v2697] : Fin 2 → IVec S16 32) a x).toNat < S16x64.size a) ∧
  (∀ a x, ((![v2398, v2697] : Fin 2 → IVec S16 32) a x).toNat < S16x64.size a)
theorem k0_idx707_inb : ∀ (v2398 : IVec S16 32) (v2697 : IVec S16 32) (k0_hw610 : k0_chk610 v2398 v2697), ∀ a x, ((![v2398, v2697] : Fin 2 → IVec S16 32) a x).toNat < S16x64.size a := fun v2398 v2697 k0_hw610 => k0_hw610.1
theorem k0_idx708_inb : ∀ (v2398 : IVec S16 32) (v2697 : IVec S16 32) (k0_hw610 : k0_chk610 v2398 v2697), ∀ a x, ((![v2398, v2697] : Fin 2 → IVec S16 32) a x).toNat < S16x64.size a := fun v2398 v2697 k0_hw610 => k0_hw610.2

def k0_chk611 (v2398 : IVec S16 32) (v2706 : IVec S16 32) : Prop :=
  (∀ a x, ((![v2398, v2706] : Fin 2 → IVec S16 32) a x).toNat < S16x64.size a) ∧
  (∀ a x, ((![v2398, v2706] : Fin 2 → IVec S16 32) a x).toNat < S16x64.size a)
theorem k0_idx709_inb : ∀ (v2398 : IVec S16 32) (v2706 : IVec S16 32) (k0_hw611 : k0_chk611 v2398 v2706), ∀ a x, ((![v2398, v2706] : Fin 2 → IVec S16 32) a x).toNat < S16x64.size a := fun v2398 v2706 k0_hw611 => k0_hw611.1
theorem k0_idx710_inb : ∀ (v2398 : IVec S16 32) (v2706 : IVec S16 32) (k0_hw611 : k0_chk611 v2398 v2706), ∀ a x, ((![v2398, v2706] : Fin 2 → IVec S16 32) a x).toNat < S16x64.size a := fun v2398 v2706 k0_hw611 => k0_hw611.2

def k0_chk612 (v2398 : IVec S16 32) (v2715 : IVec S16 32) : Prop :=
  (∀ a x, ((![v2398, v2715] : Fin 2 → IVec S16 32) a x).toNat < S16x64.size a) ∧
  (∀ a x, ((![v2398, v2715] : Fin 2 → IVec S16 32) a x).toNat < S16x64.size a)
theorem k0_idx711_inb : ∀ (v2398 : IVec S16 32) (v2715 : IVec S16 32) (k0_hw612 : k0_chk612 v2398 v2715), ∀ a x, ((![v2398, v2715] : Fin 2 → IVec S16 32) a x).toNat < S16x64.size a := fun v2398 v2715 k0_hw612 => k0_hw612.1
theorem k0_idx712_inb : ∀ (v2398 : IVec S16 32) (v2715 : IVec S16 32) (k0_hw612 : k0_chk612 v2398 v2715), ∀ a x, ((![v2398, v2715] : Fin 2 → IVec S16 32) a x).toNat < S16x64.size a := fun v2398 v2715 k0_hw612 => k0_hw612.2

def k0_chk613 (v2398 : IVec S16 32) (v2724 : IVec S16 32) : Prop :=
  (∀ a x, ((![v2398, v2724] : Fin 2 → IVec S16 32) a x).toNat < S16x64.size a) ∧
  (∀ a x, ((![v2398, v2724] : Fin 2 → IVec S16 32) a x).toNat < S16x64.size a)
theorem k0_idx713_inb : ∀ (v2398 : IVec S16 32) (v2724 : IVec S16 32) (k0_hw613 : k0_chk613 v2398 v2724), ∀ a x, ((![v2398, v2724] : Fin 2 → IVec S16 32) a x).toNat < S16x64.size a := fun v2398 v2724 k0_hw613 => k0_hw613.1
theorem k0_idx714_inb : ∀ (v2398 : IVec S16 32) (v2724 : IVec S16 32) (k0_hw613 : k0_chk613 v2398 v2724), ∀ a x, ((![v2398, v2724] : Fin 2 → IVec S16 32) a x).toNat < S16x64.size a := fun v2398 v2724 k0_hw613 => k0_hw613.2

def k0_chk614 (v2398 : IVec S16 32) (v2733 : IVec S16 32) : Prop :=
  (∀ a x, ((![v2398, v2733] : Fin 2 → IVec S16 32) a x).toNat < S16x64.size a) ∧
  (∀ a x, ((![v2398, v2733] : Fin 2 → IVec S16 32) a x).toNat < S16x64.size a)
theorem k0_idx715_inb : ∀ (v2398 : IVec S16 32) (v2733 : IVec S16 32) (k0_hw614 : k0_chk614 v2398 v2733), ∀ a x, ((![v2398, v2733] : Fin 2 → IVec S16 32) a x).toNat < S16x64.size a := fun v2398 v2733 k0_hw614 => k0_hw614.1
theorem k0_idx716_inb : ∀ (v2398 : IVec S16 32) (v2733 : IVec S16 32) (k0_hw614 : k0_chk614 v2398 v2733), ∀ a x, ((![v2398, v2733] : Fin 2 → IVec S16 32) a x).toNat < S16x64.size a := fun v2398 v2733 k0_hw614 => k0_hw614.2

def k0_chk615 (v2398 : IVec S16 32) (v2742 : IVec S16 32) : Prop :=
  (∀ a x, ((![v2398, v2742] : Fin 2 → IVec S16 32) a x).toNat < S16x64.size a) ∧
  (∀ a x, ((![v2398, v2742] : Fin 2 → IVec S16 32) a x).toNat < S16x64.size a)
theorem k0_idx717_inb : ∀ (v2398 : IVec S16 32) (v2742 : IVec S16 32) (k0_hw615 : k0_chk615 v2398 v2742), ∀ a x, ((![v2398, v2742] : Fin 2 → IVec S16 32) a x).toNat < S16x64.size a := fun v2398 v2742 k0_hw615 => k0_hw615.1
theorem k0_idx718_inb : ∀ (v2398 : IVec S16 32) (v2742 : IVec S16 32) (k0_hw615 : k0_chk615 v2398 v2742), ∀ a x, ((![v2398, v2742] : Fin 2 → IVec S16 32) a x).toNat < S16x64.size a := fun v2398 v2742 k0_hw615 => k0_hw615.2

def k0_chk616 (v2398 : IVec S16 32) (v2751 : IVec S16 32) : Prop :=
  (∀ a x, ((![v2398, v2751] : Fin 2 → IVec S16 32) a x).toNat < S16x64.size a) ∧
  (∀ a x, ((![v2398, v2751] : Fin 2 → IVec S16 32) a x).toNat < S16x64.size a)
theorem k0_idx719_inb : ∀ (v2398 : IVec S16 32) (v2751 : IVec S16 32) (k0_hw616 : k0_chk616 v2398 v2751), ∀ a x, ((![v2398, v2751] : Fin 2 → IVec S16 32) a x).toNat < S16x64.size a := fun v2398 v2751 k0_hw616 => k0_hw616.1
theorem k0_idx720_inb : ∀ (v2398 : IVec S16 32) (v2751 : IVec S16 32) (k0_hw616 : k0_chk616 v2398 v2751), ∀ a x, ((![v2398, v2751] : Fin 2 → IVec S16 32) a x).toNat < S16x64.size a := fun v2398 v2751 k0_hw616 => k0_hw616.2

def k0_chk617 (v2398 : IVec S16 32) (v2760 : IVec S16 32) : Prop :=
  (∀ a x, ((![v2398, v2760] : Fin 2 → IVec S16 32) a x).toNat < S16x64.size a) ∧
  (∀ a x, ((![v2398, v2760] : Fin 2 → IVec S16 32) a x).toNat < S16x64.size a)
theorem k0_idx721_inb : ∀ (v2398 : IVec S16 32) (v2760 : IVec S16 32) (k0_hw617 : k0_chk617 v2398 v2760), ∀ a x, ((![v2398, v2760] : Fin 2 → IVec S16 32) a x).toNat < S16x64.size a := fun v2398 v2760 k0_hw617 => k0_hw617.1
theorem k0_idx722_inb : ∀ (v2398 : IVec S16 32) (v2760 : IVec S16 32) (k0_hw617 : k0_chk617 v2398 v2760), ∀ a x, ((![v2398, v2760] : Fin 2 → IVec S16 32) a x).toNat < S16x64.size a := fun v2398 v2760 k0_hw617 => k0_hw617.2

def k0_chk618 (v2398 : IVec S16 32) (v2769 : IVec S16 32) : Prop :=
  (∀ a x, ((![v2398, v2769] : Fin 2 → IVec S16 32) a x).toNat < S16x64.size a) ∧
  (∀ a x, ((![v2398, v2769] : Fin 2 → IVec S16 32) a x).toNat < S16x64.size a)
theorem k0_idx723_inb : ∀ (v2398 : IVec S16 32) (v2769 : IVec S16 32) (k0_hw618 : k0_chk618 v2398 v2769), ∀ a x, ((![v2398, v2769] : Fin 2 → IVec S16 32) a x).toNat < S16x64.size a := fun v2398 v2769 k0_hw618 => k0_hw618.1
theorem k0_idx724_inb : ∀ (v2398 : IVec S16 32) (v2769 : IVec S16 32) (k0_hw618 : k0_chk618 v2398 v2769), ∀ a x, ((![v2398, v2769] : Fin 2 → IVec S16 32) a x).toNat < S16x64.size a := fun v2398 v2769 k0_hw618 => k0_hw618.2

def k0_chk619 (v2398 : IVec S16 32) (v2778 : IVec S16 32) : Prop :=
  (∀ a x, ((![v2398, v2778] : Fin 2 → IVec S16 32) a x).toNat < S16x64.size a) ∧
  (∀ a x, ((![v2398, v2778] : Fin 2 → IVec S16 32) a x).toNat < S16x64.size a)
theorem k0_idx725_inb : ∀ (v2398 : IVec S16 32) (v2778 : IVec S16 32) (k0_hw619 : k0_chk619 v2398 v2778), ∀ a x, ((![v2398, v2778] : Fin 2 → IVec S16 32) a x).toNat < S16x64.size a := fun v2398 v2778 k0_hw619 => k0_hw619.1
theorem k0_idx726_inb : ∀ (v2398 : IVec S16 32) (v2778 : IVec S16 32) (k0_hw619 : k0_chk619 v2398 v2778), ∀ a x, ((![v2398, v2778] : Fin 2 → IVec S16 32) a x).toNat < S16x64.size a := fun v2398 v2778 k0_hw619 => k0_hw619.2

def k0_chk620 (v2398 : IVec S16 32) (v2787 : IVec S16 32) : Prop :=
  (∀ a x, ((![v2398, v2787] : Fin 2 → IVec S16 32) a x).toNat < S16x64.size a) ∧
  (∀ a x, ((![v2398, v2787] : Fin 2 → IVec S16 32) a x).toNat < S16x64.size a)
theorem k0_idx727_inb : ∀ (v2398 : IVec S16 32) (v2787 : IVec S16 32) (k0_hw620 : k0_chk620 v2398 v2787), ∀ a x, ((![v2398, v2787] : Fin 2 → IVec S16 32) a x).toNat < S16x64.size a := fun v2398 v2787 k0_hw620 => k0_hw620.1
theorem k0_idx728_inb : ∀ (v2398 : IVec S16 32) (v2787 : IVec S16 32) (k0_hw620 : k0_chk620 v2398 v2787), ∀ a x, ((![v2398, v2787] : Fin 2 → IVec S16 32) a x).toNat < S16x64.size a := fun v2398 v2787 k0_hw620 => k0_hw620.2

def k0_chk621 (v2398 : IVec S16 32) (v2796 : IVec S16 32) : Prop :=
  (∀ a x, ((![v2398, v2796] : Fin 2 → IVec S16 32) a x).toNat < S16x64.size a) ∧
  (∀ a x, ((![v2398, v2796] : Fin 2 → IVec S16 32) a x).toNat < S16x64.size a)
theorem k0_idx729_inb : ∀ (v2398 : IVec S16 32) (v2796 : IVec S16 32) (k0_hw621 : k0_chk621 v2398 v2796), ∀ a x, ((![v2398, v2796] : Fin 2 → IVec S16 32) a x).toNat < S16x64.size a := fun v2398 v2796 k0_hw621 => k0_hw621.1
theorem k0_idx730_inb : ∀ (v2398 : IVec S16 32) (v2796 : IVec S16 32) (k0_hw621 : k0_chk621 v2398 v2796), ∀ a x, ((![v2398, v2796] : Fin 2 → IVec S16 32) a x).toNat < S16x64.size a := fun v2398 v2796 k0_hw621 => k0_hw621.2

def k0_chk622 (v2398 : IVec S16 32) (v2805 : IVec S16 32) : Prop :=
  (∀ a x, ((![v2398, v2805] : Fin 2 → IVec S16 32) a x).toNat < S16x64.size a) ∧
  (∀ a x, ((![v2398, v2805] : Fin 2 → IVec S16 32) a x).toNat < S16x64.size a)
theorem k0_idx731_inb : ∀ (v2398 : IVec S16 32) (v2805 : IVec S16 32) (k0_hw622 : k0_chk622 v2398 v2805), ∀ a x, ((![v2398, v2805] : Fin 2 → IVec S16 32) a x).toNat < S16x64.size a := fun v2398 v2805 k0_hw622 => k0_hw622.1
theorem k0_idx732_inb : ∀ (v2398 : IVec S16 32) (v2805 : IVec S16 32) (k0_hw622 : k0_chk622 v2398 v2805), ∀ a x, ((![v2398, v2805] : Fin 2 → IVec S16 32) a x).toNat < S16x64.size a := fun v2398 v2805 k0_hw622 => k0_hw622.2

def k0_chk623 (v2398 : IVec S16 32) (v2814 : IVec S16 32) : Prop :=
  (∀ a x, ((![v2398, v2814] : Fin 2 → IVec S16 32) a x).toNat < S16x64.size a) ∧
  (∀ a x, ((![v2398, v2814] : Fin 2 → IVec S16 32) a x).toNat < S16x64.size a)
theorem k0_idx733_inb : ∀ (v2398 : IVec S16 32) (v2814 : IVec S16 32) (k0_hw623 : k0_chk623 v2398 v2814), ∀ a x, ((![v2398, v2814] : Fin 2 → IVec S16 32) a x).toNat < S16x64.size a := fun v2398 v2814 k0_hw623 => k0_hw623.1
theorem k0_idx734_inb : ∀ (v2398 : IVec S16 32) (v2814 : IVec S16 32) (k0_hw623 : k0_chk623 v2398 v2814), ∀ a x, ((![v2398, v2814] : Fin 2 → IVec S16 32) a x).toNat < S16x64.size a := fun v2398 v2814 k0_hw623 => k0_hw623.2

def k0_chk624 (v2398 : IVec S16 32) (v2823 : IVec S16 32) : Prop :=
  (∀ a x, ((![v2398, v2823] : Fin 2 → IVec S16 32) a x).toNat < S16x64.size a) ∧
  (∀ a x, ((![v2398, v2823] : Fin 2 → IVec S16 32) a x).toNat < S16x64.size a)
theorem k0_idx735_inb : ∀ (v2398 : IVec S16 32) (v2823 : IVec S16 32) (k0_hw624 : k0_chk624 v2398 v2823), ∀ a x, ((![v2398, v2823] : Fin 2 → IVec S16 32) a x).toNat < S16x64.size a := fun v2398 v2823 k0_hw624 => k0_hw624.1
theorem k0_idx736_inb : ∀ (v2398 : IVec S16 32) (v2823 : IVec S16 32) (k0_hw624 : k0_chk624 v2398 v2823), ∀ a x, ((![v2398, v2823] : Fin 2 → IVec S16 32) a x).toNat < S16x64.size a := fun v2398 v2823 k0_hw624 => k0_hw624.2

def k0_chk625 (v2398 : IVec S16 32) (v2832 : IVec S16 32) : Prop :=
  (∀ a x, ((![v2398, v2832] : Fin 2 → IVec S16 32) a x).toNat < S16x64.size a) ∧
  (∀ a x, ((![v2398, v2832] : Fin 2 → IVec S16 32) a x).toNat < S16x64.size a)
theorem k0_idx737_inb : ∀ (v2398 : IVec S16 32) (v2832 : IVec S16 32) (k0_hw625 : k0_chk625 v2398 v2832), ∀ a x, ((![v2398, v2832] : Fin 2 → IVec S16 32) a x).toNat < S16x64.size a := fun v2398 v2832 k0_hw625 => k0_hw625.1
theorem k0_idx738_inb : ∀ (v2398 : IVec S16 32) (v2832 : IVec S16 32) (k0_hw625 : k0_chk625 v2398 v2832), ∀ a x, ((![v2398, v2832] : Fin 2 → IVec S16 32) a x).toNat < S16x64.size a := fun v2398 v2832 k0_hw625 => k0_hw625.2

def k0_chk626 (v2398 : IVec S16 32) (v2841 : IVec S16 32) : Prop :=
  (∀ a x, ((![v2398, v2841] : Fin 2 → IVec S16 32) a x).toNat < S16x64.size a) ∧
  (∀ a x, ((![v2398, v2841] : Fin 2 → IVec S16 32) a x).toNat < S16x64.size a)
theorem k0_idx739_inb : ∀ (v2398 : IVec S16 32) (v2841 : IVec S16 32) (k0_hw626 : k0_chk626 v2398 v2841), ∀ a x, ((![v2398, v2841] : Fin 2 → IVec S16 32) a x).toNat < S16x64.size a := fun v2398 v2841 k0_hw626 => k0_hw626.1
theorem k0_idx740_inb : ∀ (v2398 : IVec S16 32) (v2841 : IVec S16 32) (k0_hw626 : k0_chk626 v2398 v2841), ∀ a x, ((![v2398, v2841] : Fin 2 → IVec S16 32) a x).toNat < S16x64.size a := fun v2398 v2841 k0_hw626 => k0_hw626.2

def k0_chk627 (v2398 : IVec S16 32) (v2850 : IVec S16 32) : Prop :=
  (∀ a x, ((![v2398, v2850] : Fin 2 → IVec S16 32) a x).toNat < S16x64.size a) ∧
  (∀ a x, ((![v2398, v2850] : Fin 2 → IVec S16 32) a x).toNat < S16x64.size a)
theorem k0_idx741_inb : ∀ (v2398 : IVec S16 32) (v2850 : IVec S16 32) (k0_hw627 : k0_chk627 v2398 v2850), ∀ a x, ((![v2398, v2850] : Fin 2 → IVec S16 32) a x).toNat < S16x64.size a := fun v2398 v2850 k0_hw627 => k0_hw627.1
theorem k0_idx742_inb : ∀ (v2398 : IVec S16 32) (v2850 : IVec S16 32) (k0_hw627 : k0_chk627 v2398 v2850), ∀ a x, ((![v2398, v2850] : Fin 2 → IVec S16 32) a x).toNat < S16x64.size a := fun v2398 v2850 k0_hw627 => k0_hw627.2

def k0_chk628 (v2398 : IVec S16 32) (v2859 : IVec S16 32) : Prop :=
  (∀ a x, ((![v2398, v2859] : Fin 2 → IVec S16 32) a x).toNat < S16x64.size a) ∧
  (∀ a x, ((![v2398, v2859] : Fin 2 → IVec S16 32) a x).toNat < S16x64.size a)
theorem k0_idx743_inb : ∀ (v2398 : IVec S16 32) (v2859 : IVec S16 32) (k0_hw628 : k0_chk628 v2398 v2859), ∀ a x, ((![v2398, v2859] : Fin 2 → IVec S16 32) a x).toNat < S16x64.size a := fun v2398 v2859 k0_hw628 => k0_hw628.1
theorem k0_idx744_inb : ∀ (v2398 : IVec S16 32) (v2859 : IVec S16 32) (k0_hw628 : k0_chk628 v2398 v2859), ∀ a x, ((![v2398, v2859] : Fin 2 → IVec S16 32) a x).toNat < S16x64.size a := fun v2398 v2859 k0_hw628 => k0_hw628.2

def k0_chk629 (v2398 : IVec S16 32) (v2868 : IVec S16 32) : Prop :=
  (∀ a x, ((![v2398, v2868] : Fin 2 → IVec S16 32) a x).toNat < S16x64.size a) ∧
  (∀ a x, ((![v2398, v2868] : Fin 2 → IVec S16 32) a x).toNat < S16x64.size a)
theorem k0_idx745_inb : ∀ (v2398 : IVec S16 32) (v2868 : IVec S16 32) (k0_hw629 : k0_chk629 v2398 v2868), ∀ a x, ((![v2398, v2868] : Fin 2 → IVec S16 32) a x).toNat < S16x64.size a := fun v2398 v2868 k0_hw629 => k0_hw629.1
theorem k0_idx746_inb : ∀ (v2398 : IVec S16 32) (v2868 : IVec S16 32) (k0_hw629 : k0_chk629 v2398 v2868), ∀ a x, ((![v2398, v2868] : Fin 2 → IVec S16 32) a x).toNat < S16x64.size a := fun v2398 v2868 k0_hw629 => k0_hw629.2

def k0_chk630 (v2398 : IVec S16 32) (v2877 : IVec S16 32) : Prop :=
  (∀ a x, ((![v2398, v2877] : Fin 2 → IVec S16 32) a x).toNat < S16x64.size a) ∧
  (∀ a x, ((![v2398, v2877] : Fin 2 → IVec S16 32) a x).toNat < S16x64.size a)
theorem k0_idx747_inb : ∀ (v2398 : IVec S16 32) (v2877 : IVec S16 32) (k0_hw630 : k0_chk630 v2398 v2877), ∀ a x, ((![v2398, v2877] : Fin 2 → IVec S16 32) a x).toNat < S16x64.size a := fun v2398 v2877 k0_hw630 => k0_hw630.1
theorem k0_idx748_inb : ∀ (v2398 : IVec S16 32) (v2877 : IVec S16 32) (k0_hw630 : k0_chk630 v2398 v2877), ∀ a x, ((![v2398, v2877] : Fin 2 → IVec S16 32) a x).toNat < S16x64.size a := fun v2398 v2877 k0_hw630 => k0_hw630.2

def k0_chk631 (v2398 : IVec S16 32) (v2886 : IVec S16 32) : Prop :=
  (∀ a x, ((![v2398, v2886] : Fin 2 → IVec S16 32) a x).toNat < S16x64.size a) ∧
  (∀ a x, ((![v2398, v2886] : Fin 2 → IVec S16 32) a x).toNat < S16x64.size a)
theorem k0_idx749_inb : ∀ (v2398 : IVec S16 32) (v2886 : IVec S16 32) (k0_hw631 : k0_chk631 v2398 v2886), ∀ a x, ((![v2398, v2886] : Fin 2 → IVec S16 32) a x).toNat < S16x64.size a := fun v2398 v2886 k0_hw631 => k0_hw631.1
theorem k0_idx750_inb : ∀ (v2398 : IVec S16 32) (v2886 : IVec S16 32) (k0_hw631 : k0_chk631 v2398 v2886), ∀ a x, ((![v2398, v2886] : Fin 2 → IVec S16 32) a x).toNat < S16x64.size a := fun v2398 v2886 k0_hw631 => k0_hw631.2

def k0_chk632 (v2398 : IVec S16 32) (v2895 : IVec S16 32) : Prop :=
  (∀ a x, ((![v2398, v2895] : Fin 2 → IVec S16 32) a x).toNat < S16x64.size a) ∧
  (∀ a x, ((![v2398, v2895] : Fin 2 → IVec S16 32) a x).toNat < S16x64.size a)
theorem k0_idx751_inb : ∀ (v2398 : IVec S16 32) (v2895 : IVec S16 32) (k0_hw632 : k0_chk632 v2398 v2895), ∀ a x, ((![v2398, v2895] : Fin 2 → IVec S16 32) a x).toNat < S16x64.size a := fun v2398 v2895 k0_hw632 => k0_hw632.1
theorem k0_idx752_inb : ∀ (v2398 : IVec S16 32) (v2895 : IVec S16 32) (k0_hw632 : k0_chk632 v2398 v2895), ∀ a x, ((![v2398, v2895] : Fin 2 → IVec S16 32) a x).toNat < S16x64.size a := fun v2398 v2895 k0_hw632 => k0_hw632.2

def k0_chk633 (v2398 : IVec S16 32) (v2904 : IVec S16 32) : Prop :=
  (∀ a x, ((![v2398, v2904] : Fin 2 → IVec S16 32) a x).toNat < S16x64.size a) ∧
  (∀ a x, ((![v2398, v2904] : Fin 2 → IVec S16 32) a x).toNat < S16x64.size a)
theorem k0_idx753_inb : ∀ (v2398 : IVec S16 32) (v2904 : IVec S16 32) (k0_hw633 : k0_chk633 v2398 v2904), ∀ a x, ((![v2398, v2904] : Fin 2 → IVec S16 32) a x).toNat < S16x64.size a := fun v2398 v2904 k0_hw633 => k0_hw633.1
theorem k0_idx754_inb : ∀ (v2398 : IVec S16 32) (v2904 : IVec S16 32) (k0_hw633 : k0_chk633 v2398 v2904), ∀ a x, ((![v2398, v2904] : Fin 2 → IVec S16 32) a x).toNat < S16x64.size a := fun v2398 v2904 k0_hw633 => k0_hw633.2

def k0_chk634 (v2398 : IVec S16 32) (v2913 : IVec S16 32) : Prop :=
  (∀ a x, ((![v2398, v2913] : Fin 2 → IVec S16 32) a x).toNat < S16x64.size a) ∧
  (∀ a x, ((![v2398, v2913] : Fin 2 → IVec S16 32) a x).toNat < S16x64.size a)
theorem k0_idx755_inb : ∀ (v2398 : IVec S16 32) (v2913 : IVec S16 32) (k0_hw634 : k0_chk634 v2398 v2913), ∀ a x, ((![v2398, v2913] : Fin 2 → IVec S16 32) a x).toNat < S16x64.size a := fun v2398 v2913 k0_hw634 => k0_hw634.1
theorem k0_idx756_inb : ∀ (v2398 : IVec S16 32) (v2913 : IVec S16 32) (k0_hw634 : k0_chk634 v2398 v2913), ∀ a x, ((![v2398, v2913] : Fin 2 → IVec S16 32) a x).toNat < S16x64.size a := fun v2398 v2913 k0_hw634 => k0_hw634.2

def k0_chk635 (v2398 : IVec S16 32) (v2922 : IVec S16 32) : Prop :=
  (∀ a x, ((![v2398, v2922] : Fin 2 → IVec S16 32) a x).toNat < S16x64.size a) ∧
  (∀ a x, ((![v2398, v2922] : Fin 2 → IVec S16 32) a x).toNat < S16x64.size a)
theorem k0_idx757_inb : ∀ (v2398 : IVec S16 32) (v2922 : IVec S16 32) (k0_hw635 : k0_chk635 v2398 v2922), ∀ a x, ((![v2398, v2922] : Fin 2 → IVec S16 32) a x).toNat < S16x64.size a := fun v2398 v2922 k0_hw635 => k0_hw635.1
theorem k0_idx758_inb : ∀ (v2398 : IVec S16 32) (v2922 : IVec S16 32) (k0_hw635 : k0_chk635 v2398 v2922), ∀ a x, ((![v2398, v2922] : Fin 2 → IVec S16 32) a x).toNat < S16x64.size a := fun v2398 v2922 k0_hw635 => k0_hw635.2

def k0_chk636 (v2398 : IVec S16 32) (v2931 : IVec S16 32) : Prop :=
  (∀ a x, ((![v2398, v2931] : Fin 2 → IVec S16 32) a x).toNat < S16x64.size a) ∧
  (∀ a x, ((![v2398, v2931] : Fin 2 → IVec S16 32) a x).toNat < S16x64.size a)
theorem k0_idx759_inb : ∀ (v2398 : IVec S16 32) (v2931 : IVec S16 32) (k0_hw636 : k0_chk636 v2398 v2931), ∀ a x, ((![v2398, v2931] : Fin 2 → IVec S16 32) a x).toNat < S16x64.size a := fun v2398 v2931 k0_hw636 => k0_hw636.1
theorem k0_idx760_inb : ∀ (v2398 : IVec S16 32) (v2931 : IVec S16 32) (k0_hw636 : k0_chk636 v2398 v2931), ∀ a x, ((![v2398, v2931] : Fin 2 → IVec S16 32) a x).toNat < S16x64.size a := fun v2398 v2931 k0_hw636 => k0_hw636.2

def k0_chk637 (v2398 : IVec S16 32) (v2940 : IVec S16 32) : Prop :=
  (∀ a x, ((![v2398, v2940] : Fin 2 → IVec S16 32) a x).toNat < S16x64.size a) ∧
  (∀ a x, ((![v2398, v2940] : Fin 2 → IVec S16 32) a x).toNat < S16x64.size a)
theorem k0_idx761_inb : ∀ (v2398 : IVec S16 32) (v2940 : IVec S16 32) (k0_hw637 : k0_chk637 v2398 v2940), ∀ a x, ((![v2398, v2940] : Fin 2 → IVec S16 32) a x).toNat < S16x64.size a := fun v2398 v2940 k0_hw637 => k0_hw637.1
theorem k0_idx762_inb : ∀ (v2398 : IVec S16 32) (v2940 : IVec S16 32) (k0_hw637 : k0_chk637 v2398 v2940), ∀ a x, ((![v2398, v2940] : Fin 2 → IVec S16 32) a x).toNat < S16x64.size a := fun v2398 v2940 k0_hw637 => k0_hw637.2

def k0_chk638 (v2398 : IVec S16 32) (v2949 : IVec S16 32) : Prop :=
  (∀ a x, ((![v2398, v2949] : Fin 2 → IVec S16 32) a x).toNat < S16x64.size a) ∧
  (∀ a x, ((![v2398, v2949] : Fin 2 → IVec S16 32) a x).toNat < S16x64.size a)
theorem k0_idx763_inb : ∀ (v2398 : IVec S16 32) (v2949 : IVec S16 32) (k0_hw638 : k0_chk638 v2398 v2949), ∀ a x, ((![v2398, v2949] : Fin 2 → IVec S16 32) a x).toNat < S16x64.size a := fun v2398 v2949 k0_hw638 => k0_hw638.1
theorem k0_idx764_inb : ∀ (v2398 : IVec S16 32) (v2949 : IVec S16 32) (k0_hw638 : k0_chk638 v2398 v2949), ∀ a x, ((![v2398, v2949] : Fin 2 → IVec S16 32) a x).toNat < S16x64.size a := fun v2398 v2949 k0_hw638 => k0_hw638.2

def k0_chk639 (v2398 : IVec S16 32) (v2958 : IVec S16 32) : Prop :=
  (∀ a x, ((![v2398, v2958] : Fin 2 → IVec S16 32) a x).toNat < S16x64.size a) ∧
  (∀ a x, ((![v2398, v2958] : Fin 2 → IVec S16 32) a x).toNat < S16x64.size a)
theorem k0_idx765_inb : ∀ (v2398 : IVec S16 32) (v2958 : IVec S16 32) (k0_hw639 : k0_chk639 v2398 v2958), ∀ a x, ((![v2398, v2958] : Fin 2 → IVec S16 32) a x).toNat < S16x64.size a := fun v2398 v2958 k0_hw639 => k0_hw639.1
theorem k0_idx766_inb : ∀ (v2398 : IVec S16 32) (v2958 : IVec S16 32) (k0_hw639 : k0_chk639 v2398 v2958), ∀ a x, ((![v2398, v2958] : Fin 2 → IVec S16 32) a x).toNat < S16x64.size a := fun v2398 v2958 k0_hw639 => k0_hw639.2

def k0_chk640 (v2398 : IVec S16 32) (v2967 : IVec S16 32) : Prop :=
  (∀ a x, ((![v2398, v2967] : Fin 2 → IVec S16 32) a x).toNat < S16x64.size a) ∧
  (∀ a x, ((![v2398, v2967] : Fin 2 → IVec S16 32) a x).toNat < S16x64.size a)
theorem k0_idx767_inb : ∀ (v2398 : IVec S16 32) (v2967 : IVec S16 32) (k0_hw640 : k0_chk640 v2398 v2967), ∀ a x, ((![v2398, v2967] : Fin 2 → IVec S16 32) a x).toNat < S16x64.size a := fun v2398 v2967 k0_hw640 => k0_hw640.1
theorem k0_idx768_inb : ∀ (v2398 : IVec S16 32) (v2967 : IVec S16 32) (k0_hw640 : k0_chk640 v2398 v2967), ∀ a x, ((![v2398, v2967] : Fin 2 → IVec S16 32) a x).toNat < S16x64.size a := fun v2398 v2967 k0_hw640 => k0_hw640.2
def k0_mult15 : BitVec 32 :=
  let c480_i32 : BitVec 32 := 480#32
  c480_i32

def k0_chk641 (v3235 : IVec S16 32) (v3237 : IVec S16 32) : Prop :=
  (∀ a x, ((![v3235, v3237] : Fin 2 → IVec S16 32) a x).toNat < S16x64.size a) ∧
  (∀ a x, ((![v3235, v3237] : Fin 2 → IVec S16 32) a x).toNat < S16x64.size a)
theorem k0_idx769_inb : ∀ (v3235 : IVec S16 32) (v3237 : IVec S16 32) (k0_hw641 : k0_chk641 v3235 v3237), ∀ a x, ((![v3235, v3237] : Fin 2 → IVec S16 32) a x).toNat < S16x64.size a := fun v3235 v3237 k0_hw641 => k0_hw641.1
theorem k0_idx770_inb : ∀ (v3235 : IVec S16 32) (v3237 : IVec S16 32) (k0_hw641 : k0_chk641 v3235 v3237), ∀ a x, ((![v3235, v3237] : Fin 2 → IVec S16 32) a x).toNat < S16x64.size a := fun v3235 v3237 k0_hw641 => k0_hw641.2

def k0_chk642 (v3235 : IVec S16 32) (v3246 : IVec S16 32) : Prop :=
  (∀ a x, ((![v3235, v3246] : Fin 2 → IVec S16 32) a x).toNat < S16x64.size a) ∧
  (∀ a x, ((![v3235, v3246] : Fin 2 → IVec S16 32) a x).toNat < S16x64.size a)
theorem k0_idx771_inb : ∀ (v3235 : IVec S16 32) (v3246 : IVec S16 32) (k0_hw642 : k0_chk642 v3235 v3246), ∀ a x, ((![v3235, v3246] : Fin 2 → IVec S16 32) a x).toNat < S16x64.size a := fun v3235 v3246 k0_hw642 => k0_hw642.1
theorem k0_idx772_inb : ∀ (v3235 : IVec S16 32) (v3246 : IVec S16 32) (k0_hw642 : k0_chk642 v3235 v3246), ∀ a x, ((![v3235, v3246] : Fin 2 → IVec S16 32) a x).toNat < S16x64.size a := fun v3235 v3246 k0_hw642 => k0_hw642.2

def k0_chk643 (v3235 : IVec S16 32) (v3255 : IVec S16 32) : Prop :=
  (∀ a x, ((![v3235, v3255] : Fin 2 → IVec S16 32) a x).toNat < S16x64.size a) ∧
  (∀ a x, ((![v3235, v3255] : Fin 2 → IVec S16 32) a x).toNat < S16x64.size a)
theorem k0_idx773_inb : ∀ (v3235 : IVec S16 32) (v3255 : IVec S16 32) (k0_hw643 : k0_chk643 v3235 v3255), ∀ a x, ((![v3235, v3255] : Fin 2 → IVec S16 32) a x).toNat < S16x64.size a := fun v3235 v3255 k0_hw643 => k0_hw643.1
theorem k0_idx774_inb : ∀ (v3235 : IVec S16 32) (v3255 : IVec S16 32) (k0_hw643 : k0_chk643 v3235 v3255), ∀ a x, ((![v3235, v3255] : Fin 2 → IVec S16 32) a x).toNat < S16x64.size a := fun v3235 v3255 k0_hw643 => k0_hw643.2

def k0_chk644 (v3235 : IVec S16 32) (v3264 : IVec S16 32) : Prop :=
  (∀ a x, ((![v3235, v3264] : Fin 2 → IVec S16 32) a x).toNat < S16x64.size a) ∧
  (∀ a x, ((![v3235, v3264] : Fin 2 → IVec S16 32) a x).toNat < S16x64.size a)
theorem k0_idx775_inb : ∀ (v3235 : IVec S16 32) (v3264 : IVec S16 32) (k0_hw644 : k0_chk644 v3235 v3264), ∀ a x, ((![v3235, v3264] : Fin 2 → IVec S16 32) a x).toNat < S16x64.size a := fun v3235 v3264 k0_hw644 => k0_hw644.1
theorem k0_idx776_inb : ∀ (v3235 : IVec S16 32) (v3264 : IVec S16 32) (k0_hw644 : k0_chk644 v3235 v3264), ∀ a x, ((![v3235, v3264] : Fin 2 → IVec S16 32) a x).toNat < S16x64.size a := fun v3235 v3264 k0_hw644 => k0_hw644.2

def k0_chk645 (v3235 : IVec S16 32) (v3273 : IVec S16 32) : Prop :=
  (∀ a x, ((![v3235, v3273] : Fin 2 → IVec S16 32) a x).toNat < S16x64.size a) ∧
  (∀ a x, ((![v3235, v3273] : Fin 2 → IVec S16 32) a x).toNat < S16x64.size a)
theorem k0_idx777_inb : ∀ (v3235 : IVec S16 32) (v3273 : IVec S16 32) (k0_hw645 : k0_chk645 v3235 v3273), ∀ a x, ((![v3235, v3273] : Fin 2 → IVec S16 32) a x).toNat < S16x64.size a := fun v3235 v3273 k0_hw645 => k0_hw645.1
theorem k0_idx778_inb : ∀ (v3235 : IVec S16 32) (v3273 : IVec S16 32) (k0_hw645 : k0_chk645 v3235 v3273), ∀ a x, ((![v3235, v3273] : Fin 2 → IVec S16 32) a x).toNat < S16x64.size a := fun v3235 v3273 k0_hw645 => k0_hw645.2

def k0_chk646 (v3235 : IVec S16 32) (v3282 : IVec S16 32) : Prop :=
  (∀ a x, ((![v3235, v3282] : Fin 2 → IVec S16 32) a x).toNat < S16x64.size a) ∧
  (∀ a x, ((![v3235, v3282] : Fin 2 → IVec S16 32) a x).toNat < S16x64.size a)
theorem k0_idx779_inb : ∀ (v3235 : IVec S16 32) (v3282 : IVec S16 32) (k0_hw646 : k0_chk646 v3235 v3282), ∀ a x, ((![v3235, v3282] : Fin 2 → IVec S16 32) a x).toNat < S16x64.size a := fun v3235 v3282 k0_hw646 => k0_hw646.1
theorem k0_idx780_inb : ∀ (v3235 : IVec S16 32) (v3282 : IVec S16 32) (k0_hw646 : k0_chk646 v3235 v3282), ∀ a x, ((![v3235, v3282] : Fin 2 → IVec S16 32) a x).toNat < S16x64.size a := fun v3235 v3282 k0_hw646 => k0_hw646.2

def k0_chk647 (v3235 : IVec S16 32) (v3291 : IVec S16 32) : Prop :=
  (∀ a x, ((![v3235, v3291] : Fin 2 → IVec S16 32) a x).toNat < S16x64.size a) ∧
  (∀ a x, ((![v3235, v3291] : Fin 2 → IVec S16 32) a x).toNat < S16x64.size a)
theorem k0_idx781_inb : ∀ (v3235 : IVec S16 32) (v3291 : IVec S16 32) (k0_hw647 : k0_chk647 v3235 v3291), ∀ a x, ((![v3235, v3291] : Fin 2 → IVec S16 32) a x).toNat < S16x64.size a := fun v3235 v3291 k0_hw647 => k0_hw647.1
theorem k0_idx782_inb : ∀ (v3235 : IVec S16 32) (v3291 : IVec S16 32) (k0_hw647 : k0_chk647 v3235 v3291), ∀ a x, ((![v3235, v3291] : Fin 2 → IVec S16 32) a x).toNat < S16x64.size a := fun v3235 v3291 k0_hw647 => k0_hw647.2

def k0_chk648 (v3235 : IVec S16 32) (v3300 : IVec S16 32) : Prop :=
  (∀ a x, ((![v3235, v3300] : Fin 2 → IVec S16 32) a x).toNat < S16x64.size a) ∧
  (∀ a x, ((![v3235, v3300] : Fin 2 → IVec S16 32) a x).toNat < S16x64.size a)
theorem k0_idx783_inb : ∀ (v3235 : IVec S16 32) (v3300 : IVec S16 32) (k0_hw648 : k0_chk648 v3235 v3300), ∀ a x, ((![v3235, v3300] : Fin 2 → IVec S16 32) a x).toNat < S16x64.size a := fun v3235 v3300 k0_hw648 => k0_hw648.1
theorem k0_idx784_inb : ∀ (v3235 : IVec S16 32) (v3300 : IVec S16 32) (k0_hw648 : k0_chk648 v3235 v3300), ∀ a x, ((![v3235, v3300] : Fin 2 → IVec S16 32) a x).toNat < S16x64.size a := fun v3235 v3300 k0_hw648 => k0_hw648.2

def k0_chk649 (v3235 : IVec S16 32) (v3309 : IVec S16 32) : Prop :=
  (∀ a x, ((![v3235, v3309] : Fin 2 → IVec S16 32) a x).toNat < S16x64.size a) ∧
  (∀ a x, ((![v3235, v3309] : Fin 2 → IVec S16 32) a x).toNat < S16x64.size a)
theorem k0_idx785_inb : ∀ (v3235 : IVec S16 32) (v3309 : IVec S16 32) (k0_hw649 : k0_chk649 v3235 v3309), ∀ a x, ((![v3235, v3309] : Fin 2 → IVec S16 32) a x).toNat < S16x64.size a := fun v3235 v3309 k0_hw649 => k0_hw649.1
theorem k0_idx786_inb : ∀ (v3235 : IVec S16 32) (v3309 : IVec S16 32) (k0_hw649 : k0_chk649 v3235 v3309), ∀ a x, ((![v3235, v3309] : Fin 2 → IVec S16 32) a x).toNat < S16x64.size a := fun v3235 v3309 k0_hw649 => k0_hw649.2

def k0_chk650 (v3235 : IVec S16 32) (v3318 : IVec S16 32) : Prop :=
  (∀ a x, ((![v3235, v3318] : Fin 2 → IVec S16 32) a x).toNat < S16x64.size a) ∧
  (∀ a x, ((![v3235, v3318] : Fin 2 → IVec S16 32) a x).toNat < S16x64.size a)
theorem k0_idx787_inb : ∀ (v3235 : IVec S16 32) (v3318 : IVec S16 32) (k0_hw650 : k0_chk650 v3235 v3318), ∀ a x, ((![v3235, v3318] : Fin 2 → IVec S16 32) a x).toNat < S16x64.size a := fun v3235 v3318 k0_hw650 => k0_hw650.1
theorem k0_idx788_inb : ∀ (v3235 : IVec S16 32) (v3318 : IVec S16 32) (k0_hw650 : k0_chk650 v3235 v3318), ∀ a x, ((![v3235, v3318] : Fin 2 → IVec S16 32) a x).toNat < S16x64.size a := fun v3235 v3318 k0_hw650 => k0_hw650.2

def k0_chk651 (v3235 : IVec S16 32) (v3327 : IVec S16 32) : Prop :=
  (∀ a x, ((![v3235, v3327] : Fin 2 → IVec S16 32) a x).toNat < S16x64.size a) ∧
  (∀ a x, ((![v3235, v3327] : Fin 2 → IVec S16 32) a x).toNat < S16x64.size a)
theorem k0_idx789_inb : ∀ (v3235 : IVec S16 32) (v3327 : IVec S16 32) (k0_hw651 : k0_chk651 v3235 v3327), ∀ a x, ((![v3235, v3327] : Fin 2 → IVec S16 32) a x).toNat < S16x64.size a := fun v3235 v3327 k0_hw651 => k0_hw651.1
theorem k0_idx790_inb : ∀ (v3235 : IVec S16 32) (v3327 : IVec S16 32) (k0_hw651 : k0_chk651 v3235 v3327), ∀ a x, ((![v3235, v3327] : Fin 2 → IVec S16 32) a x).toNat < S16x64.size a := fun v3235 v3327 k0_hw651 => k0_hw651.2

def k0_chk652 (v3235 : IVec S16 32) (v3336 : IVec S16 32) : Prop :=
  (∀ a x, ((![v3235, v3336] : Fin 2 → IVec S16 32) a x).toNat < S16x64.size a) ∧
  (∀ a x, ((![v3235, v3336] : Fin 2 → IVec S16 32) a x).toNat < S16x64.size a)
theorem k0_idx791_inb : ∀ (v3235 : IVec S16 32) (v3336 : IVec S16 32) (k0_hw652 : k0_chk652 v3235 v3336), ∀ a x, ((![v3235, v3336] : Fin 2 → IVec S16 32) a x).toNat < S16x64.size a := fun v3235 v3336 k0_hw652 => k0_hw652.1
theorem k0_idx792_inb : ∀ (v3235 : IVec S16 32) (v3336 : IVec S16 32) (k0_hw652 : k0_chk652 v3235 v3336), ∀ a x, ((![v3235, v3336] : Fin 2 → IVec S16 32) a x).toNat < S16x64.size a := fun v3235 v3336 k0_hw652 => k0_hw652.2

def k0_chk653 (v3235 : IVec S16 32) (v3345 : IVec S16 32) : Prop :=
  (∀ a x, ((![v3235, v3345] : Fin 2 → IVec S16 32) a x).toNat < S16x64.size a) ∧
  (∀ a x, ((![v3235, v3345] : Fin 2 → IVec S16 32) a x).toNat < S16x64.size a)
theorem k0_idx793_inb : ∀ (v3235 : IVec S16 32) (v3345 : IVec S16 32) (k0_hw653 : k0_chk653 v3235 v3345), ∀ a x, ((![v3235, v3345] : Fin 2 → IVec S16 32) a x).toNat < S16x64.size a := fun v3235 v3345 k0_hw653 => k0_hw653.1
theorem k0_idx794_inb : ∀ (v3235 : IVec S16 32) (v3345 : IVec S16 32) (k0_hw653 : k0_chk653 v3235 v3345), ∀ a x, ((![v3235, v3345] : Fin 2 → IVec S16 32) a x).toNat < S16x64.size a := fun v3235 v3345 k0_hw653 => k0_hw653.2

def k0_chk654 (v3235 : IVec S16 32) (v3354 : IVec S16 32) : Prop :=
  (∀ a x, ((![v3235, v3354] : Fin 2 → IVec S16 32) a x).toNat < S16x64.size a) ∧
  (∀ a x, ((![v3235, v3354] : Fin 2 → IVec S16 32) a x).toNat < S16x64.size a)
theorem k0_idx795_inb : ∀ (v3235 : IVec S16 32) (v3354 : IVec S16 32) (k0_hw654 : k0_chk654 v3235 v3354), ∀ a x, ((![v3235, v3354] : Fin 2 → IVec S16 32) a x).toNat < S16x64.size a := fun v3235 v3354 k0_hw654 => k0_hw654.1
theorem k0_idx796_inb : ∀ (v3235 : IVec S16 32) (v3354 : IVec S16 32) (k0_hw654 : k0_chk654 v3235 v3354), ∀ a x, ((![v3235, v3354] : Fin 2 → IVec S16 32) a x).toNat < S16x64.size a := fun v3235 v3354 k0_hw654 => k0_hw654.2

def k0_chk655 (v3235 : IVec S16 32) (v3363 : IVec S16 32) : Prop :=
  (∀ a x, ((![v3235, v3363] : Fin 2 → IVec S16 32) a x).toNat < S16x64.size a) ∧
  (∀ a x, ((![v3235, v3363] : Fin 2 → IVec S16 32) a x).toNat < S16x64.size a)
theorem k0_idx797_inb : ∀ (v3235 : IVec S16 32) (v3363 : IVec S16 32) (k0_hw655 : k0_chk655 v3235 v3363), ∀ a x, ((![v3235, v3363] : Fin 2 → IVec S16 32) a x).toNat < S16x64.size a := fun v3235 v3363 k0_hw655 => k0_hw655.1
theorem k0_idx798_inb : ∀ (v3235 : IVec S16 32) (v3363 : IVec S16 32) (k0_hw655 : k0_chk655 v3235 v3363), ∀ a x, ((![v3235, v3363] : Fin 2 → IVec S16 32) a x).toNat < S16x64.size a := fun v3235 v3363 k0_hw655 => k0_hw655.2

def k0_chk656 (v3235 : IVec S16 32) (v3372 : IVec S16 32) : Prop :=
  (∀ a x, ((![v3235, v3372] : Fin 2 → IVec S16 32) a x).toNat < S16x64.size a) ∧
  (∀ a x, ((![v3235, v3372] : Fin 2 → IVec S16 32) a x).toNat < S16x64.size a)
theorem k0_idx799_inb : ∀ (v3235 : IVec S16 32) (v3372 : IVec S16 32) (k0_hw656 : k0_chk656 v3235 v3372), ∀ a x, ((![v3235, v3372] : Fin 2 → IVec S16 32) a x).toNat < S16x64.size a := fun v3235 v3372 k0_hw656 => k0_hw656.1
theorem k0_idx800_inb : ∀ (v3235 : IVec S16 32) (v3372 : IVec S16 32) (k0_hw656 : k0_chk656 v3235 v3372), ∀ a x, ((![v3235, v3372] : Fin 2 → IVec S16 32) a x).toNat < S16x64.size a := fun v3235 v3372 k0_hw656 => k0_hw656.2

def k0_chk657 (v3235 : IVec S16 32) (v3381 : IVec S16 32) : Prop :=
  (∀ a x, ((![v3235, v3381] : Fin 2 → IVec S16 32) a x).toNat < S16x64.size a) ∧
  (∀ a x, ((![v3235, v3381] : Fin 2 → IVec S16 32) a x).toNat < S16x64.size a)
theorem k0_idx801_inb : ∀ (v3235 : IVec S16 32) (v3381 : IVec S16 32) (k0_hw657 : k0_chk657 v3235 v3381), ∀ a x, ((![v3235, v3381] : Fin 2 → IVec S16 32) a x).toNat < S16x64.size a := fun v3235 v3381 k0_hw657 => k0_hw657.1
theorem k0_idx802_inb : ∀ (v3235 : IVec S16 32) (v3381 : IVec S16 32) (k0_hw657 : k0_chk657 v3235 v3381), ∀ a x, ((![v3235, v3381] : Fin 2 → IVec S16 32) a x).toNat < S16x64.size a := fun v3235 v3381 k0_hw657 => k0_hw657.2

def k0_chk658 (v3235 : IVec S16 32) (v3390 : IVec S16 32) : Prop :=
  (∀ a x, ((![v3235, v3390] : Fin 2 → IVec S16 32) a x).toNat < S16x64.size a) ∧
  (∀ a x, ((![v3235, v3390] : Fin 2 → IVec S16 32) a x).toNat < S16x64.size a)
theorem k0_idx803_inb : ∀ (v3235 : IVec S16 32) (v3390 : IVec S16 32) (k0_hw658 : k0_chk658 v3235 v3390), ∀ a x, ((![v3235, v3390] : Fin 2 → IVec S16 32) a x).toNat < S16x64.size a := fun v3235 v3390 k0_hw658 => k0_hw658.1
theorem k0_idx804_inb : ∀ (v3235 : IVec S16 32) (v3390 : IVec S16 32) (k0_hw658 : k0_chk658 v3235 v3390), ∀ a x, ((![v3235, v3390] : Fin 2 → IVec S16 32) a x).toNat < S16x64.size a := fun v3235 v3390 k0_hw658 => k0_hw658.2

def k0_chk659 (v3235 : IVec S16 32) (v3399 : IVec S16 32) : Prop :=
  (∀ a x, ((![v3235, v3399] : Fin 2 → IVec S16 32) a x).toNat < S16x64.size a) ∧
  (∀ a x, ((![v3235, v3399] : Fin 2 → IVec S16 32) a x).toNat < S16x64.size a)
theorem k0_idx805_inb : ∀ (v3235 : IVec S16 32) (v3399 : IVec S16 32) (k0_hw659 : k0_chk659 v3235 v3399), ∀ a x, ((![v3235, v3399] : Fin 2 → IVec S16 32) a x).toNat < S16x64.size a := fun v3235 v3399 k0_hw659 => k0_hw659.1
theorem k0_idx806_inb : ∀ (v3235 : IVec S16 32) (v3399 : IVec S16 32) (k0_hw659 : k0_chk659 v3235 v3399), ∀ a x, ((![v3235, v3399] : Fin 2 → IVec S16 32) a x).toNat < S16x64.size a := fun v3235 v3399 k0_hw659 => k0_hw659.2

def k0_chk660 (v3235 : IVec S16 32) (v3408 : IVec S16 32) : Prop :=
  (∀ a x, ((![v3235, v3408] : Fin 2 → IVec S16 32) a x).toNat < S16x64.size a) ∧
  (∀ a x, ((![v3235, v3408] : Fin 2 → IVec S16 32) a x).toNat < S16x64.size a)
theorem k0_idx807_inb : ∀ (v3235 : IVec S16 32) (v3408 : IVec S16 32) (k0_hw660 : k0_chk660 v3235 v3408), ∀ a x, ((![v3235, v3408] : Fin 2 → IVec S16 32) a x).toNat < S16x64.size a := fun v3235 v3408 k0_hw660 => k0_hw660.1
theorem k0_idx808_inb : ∀ (v3235 : IVec S16 32) (v3408 : IVec S16 32) (k0_hw660 : k0_chk660 v3235 v3408), ∀ a x, ((![v3235, v3408] : Fin 2 → IVec S16 32) a x).toNat < S16x64.size a := fun v3235 v3408 k0_hw660 => k0_hw660.2

def k0_chk661 (v3235 : IVec S16 32) (v3417 : IVec S16 32) : Prop :=
  (∀ a x, ((![v3235, v3417] : Fin 2 → IVec S16 32) a x).toNat < S16x64.size a) ∧
  (∀ a x, ((![v3235, v3417] : Fin 2 → IVec S16 32) a x).toNat < S16x64.size a)
theorem k0_idx809_inb : ∀ (v3235 : IVec S16 32) (v3417 : IVec S16 32) (k0_hw661 : k0_chk661 v3235 v3417), ∀ a x, ((![v3235, v3417] : Fin 2 → IVec S16 32) a x).toNat < S16x64.size a := fun v3235 v3417 k0_hw661 => k0_hw661.1
theorem k0_idx810_inb : ∀ (v3235 : IVec S16 32) (v3417 : IVec S16 32) (k0_hw661 : k0_chk661 v3235 v3417), ∀ a x, ((![v3235, v3417] : Fin 2 → IVec S16 32) a x).toNat < S16x64.size a := fun v3235 v3417 k0_hw661 => k0_hw661.2

def k0_chk662 (v3235 : IVec S16 32) (v3426 : IVec S16 32) : Prop :=
  (∀ a x, ((![v3235, v3426] : Fin 2 → IVec S16 32) a x).toNat < S16x64.size a) ∧
  (∀ a x, ((![v3235, v3426] : Fin 2 → IVec S16 32) a x).toNat < S16x64.size a)
theorem k0_idx811_inb : ∀ (v3235 : IVec S16 32) (v3426 : IVec S16 32) (k0_hw662 : k0_chk662 v3235 v3426), ∀ a x, ((![v3235, v3426] : Fin 2 → IVec S16 32) a x).toNat < S16x64.size a := fun v3235 v3426 k0_hw662 => k0_hw662.1
theorem k0_idx812_inb : ∀ (v3235 : IVec S16 32) (v3426 : IVec S16 32) (k0_hw662 : k0_chk662 v3235 v3426), ∀ a x, ((![v3235, v3426] : Fin 2 → IVec S16 32) a x).toNat < S16x64.size a := fun v3235 v3426 k0_hw662 => k0_hw662.2

def k0_chk663 (v3235 : IVec S16 32) (v3435 : IVec S16 32) : Prop :=
  (∀ a x, ((![v3235, v3435] : Fin 2 → IVec S16 32) a x).toNat < S16x64.size a) ∧
  (∀ a x, ((![v3235, v3435] : Fin 2 → IVec S16 32) a x).toNat < S16x64.size a)
theorem k0_idx813_inb : ∀ (v3235 : IVec S16 32) (v3435 : IVec S16 32) (k0_hw663 : k0_chk663 v3235 v3435), ∀ a x, ((![v3235, v3435] : Fin 2 → IVec S16 32) a x).toNat < S16x64.size a := fun v3235 v3435 k0_hw663 => k0_hw663.1
theorem k0_idx814_inb : ∀ (v3235 : IVec S16 32) (v3435 : IVec S16 32) (k0_hw663 : k0_chk663 v3235 v3435), ∀ a x, ((![v3235, v3435] : Fin 2 → IVec S16 32) a x).toNat < S16x64.size a := fun v3235 v3435 k0_hw663 => k0_hw663.2

def k0_chk664 (v3235 : IVec S16 32) (v3444 : IVec S16 32) : Prop :=
  (∀ a x, ((![v3235, v3444] : Fin 2 → IVec S16 32) a x).toNat < S16x64.size a) ∧
  (∀ a x, ((![v3235, v3444] : Fin 2 → IVec S16 32) a x).toNat < S16x64.size a)
theorem k0_idx815_inb : ∀ (v3235 : IVec S16 32) (v3444 : IVec S16 32) (k0_hw664 : k0_chk664 v3235 v3444), ∀ a x, ((![v3235, v3444] : Fin 2 → IVec S16 32) a x).toNat < S16x64.size a := fun v3235 v3444 k0_hw664 => k0_hw664.1
theorem k0_idx816_inb : ∀ (v3235 : IVec S16 32) (v3444 : IVec S16 32) (k0_hw664 : k0_chk664 v3235 v3444), ∀ a x, ((![v3235, v3444] : Fin 2 → IVec S16 32) a x).toNat < S16x64.size a := fun v3235 v3444 k0_hw664 => k0_hw664.2

def k0_chk665 (v3235 : IVec S16 32) (v3453 : IVec S16 32) : Prop :=
  (∀ a x, ((![v3235, v3453] : Fin 2 → IVec S16 32) a x).toNat < S16x64.size a) ∧
  (∀ a x, ((![v3235, v3453] : Fin 2 → IVec S16 32) a x).toNat < S16x64.size a)
theorem k0_idx817_inb : ∀ (v3235 : IVec S16 32) (v3453 : IVec S16 32) (k0_hw665 : k0_chk665 v3235 v3453), ∀ a x, ((![v3235, v3453] : Fin 2 → IVec S16 32) a x).toNat < S16x64.size a := fun v3235 v3453 k0_hw665 => k0_hw665.1
theorem k0_idx818_inb : ∀ (v3235 : IVec S16 32) (v3453 : IVec S16 32) (k0_hw665 : k0_chk665 v3235 v3453), ∀ a x, ((![v3235, v3453] : Fin 2 → IVec S16 32) a x).toNat < S16x64.size a := fun v3235 v3453 k0_hw665 => k0_hw665.2

def k0_chk666 (v3235 : IVec S16 32) (v3462 : IVec S16 32) : Prop :=
  (∀ a x, ((![v3235, v3462] : Fin 2 → IVec S16 32) a x).toNat < S16x64.size a) ∧
  (∀ a x, ((![v3235, v3462] : Fin 2 → IVec S16 32) a x).toNat < S16x64.size a)
theorem k0_idx819_inb : ∀ (v3235 : IVec S16 32) (v3462 : IVec S16 32) (k0_hw666 : k0_chk666 v3235 v3462), ∀ a x, ((![v3235, v3462] : Fin 2 → IVec S16 32) a x).toNat < S16x64.size a := fun v3235 v3462 k0_hw666 => k0_hw666.1
theorem k0_idx820_inb : ∀ (v3235 : IVec S16 32) (v3462 : IVec S16 32) (k0_hw666 : k0_chk666 v3235 v3462), ∀ a x, ((![v3235, v3462] : Fin 2 → IVec S16 32) a x).toNat < S16x64.size a := fun v3235 v3462 k0_hw666 => k0_hw666.2

def k0_chk667 (v3235 : IVec S16 32) (v3471 : IVec S16 32) : Prop :=
  (∀ a x, ((![v3235, v3471] : Fin 2 → IVec S16 32) a x).toNat < S16x64.size a) ∧
  (∀ a x, ((![v3235, v3471] : Fin 2 → IVec S16 32) a x).toNat < S16x64.size a)
theorem k0_idx821_inb : ∀ (v3235 : IVec S16 32) (v3471 : IVec S16 32) (k0_hw667 : k0_chk667 v3235 v3471), ∀ a x, ((![v3235, v3471] : Fin 2 → IVec S16 32) a x).toNat < S16x64.size a := fun v3235 v3471 k0_hw667 => k0_hw667.1
theorem k0_idx822_inb : ∀ (v3235 : IVec S16 32) (v3471 : IVec S16 32) (k0_hw667 : k0_chk667 v3235 v3471), ∀ a x, ((![v3235, v3471] : Fin 2 → IVec S16 32) a x).toNat < S16x64.size a := fun v3235 v3471 k0_hw667 => k0_hw667.2

def k0_chk668 (v3235 : IVec S16 32) (v3480 : IVec S16 32) : Prop :=
  (∀ a x, ((![v3235, v3480] : Fin 2 → IVec S16 32) a x).toNat < S16x64.size a) ∧
  (∀ a x, ((![v3235, v3480] : Fin 2 → IVec S16 32) a x).toNat < S16x64.size a)
theorem k0_idx823_inb : ∀ (v3235 : IVec S16 32) (v3480 : IVec S16 32) (k0_hw668 : k0_chk668 v3235 v3480), ∀ a x, ((![v3235, v3480] : Fin 2 → IVec S16 32) a x).toNat < S16x64.size a := fun v3235 v3480 k0_hw668 => k0_hw668.1
theorem k0_idx824_inb : ∀ (v3235 : IVec S16 32) (v3480 : IVec S16 32) (k0_hw668 : k0_chk668 v3235 v3480), ∀ a x, ((![v3235, v3480] : Fin 2 → IVec S16 32) a x).toNat < S16x64.size a := fun v3235 v3480 k0_hw668 => k0_hw668.2

def k0_chk669 (v3235 : IVec S16 32) (v3489 : IVec S16 32) : Prop :=
  (∀ a x, ((![v3235, v3489] : Fin 2 → IVec S16 32) a x).toNat < S16x64.size a) ∧
  (∀ a x, ((![v3235, v3489] : Fin 2 → IVec S16 32) a x).toNat < S16x64.size a)
theorem k0_idx825_inb : ∀ (v3235 : IVec S16 32) (v3489 : IVec S16 32) (k0_hw669 : k0_chk669 v3235 v3489), ∀ a x, ((![v3235, v3489] : Fin 2 → IVec S16 32) a x).toNat < S16x64.size a := fun v3235 v3489 k0_hw669 => k0_hw669.1
theorem k0_idx826_inb : ∀ (v3235 : IVec S16 32) (v3489 : IVec S16 32) (k0_hw669 : k0_chk669 v3235 v3489), ∀ a x, ((![v3235, v3489] : Fin 2 → IVec S16 32) a x).toNat < S16x64.size a := fun v3235 v3489 k0_hw669 => k0_hw669.2

def k0_chk670 (v3235 : IVec S16 32) (v3498 : IVec S16 32) : Prop :=
  (∀ a x, ((![v3235, v3498] : Fin 2 → IVec S16 32) a x).toNat < S16x64.size a) ∧
  (∀ a x, ((![v3235, v3498] : Fin 2 → IVec S16 32) a x).toNat < S16x64.size a)
theorem k0_idx827_inb : ∀ (v3235 : IVec S16 32) (v3498 : IVec S16 32) (k0_hw670 : k0_chk670 v3235 v3498), ∀ a x, ((![v3235, v3498] : Fin 2 → IVec S16 32) a x).toNat < S16x64.size a := fun v3235 v3498 k0_hw670 => k0_hw670.1
theorem k0_idx828_inb : ∀ (v3235 : IVec S16 32) (v3498 : IVec S16 32) (k0_hw670 : k0_chk670 v3235 v3498), ∀ a x, ((![v3235, v3498] : Fin 2 → IVec S16 32) a x).toNat < S16x64.size a := fun v3235 v3498 k0_hw670 => k0_hw670.2

def k0_chk671 (v3235 : IVec S16 32) (v3507 : IVec S16 32) : Prop :=
  (∀ a x, ((![v3235, v3507] : Fin 2 → IVec S16 32) a x).toNat < S16x64.size a) ∧
  (∀ a x, ((![v3235, v3507] : Fin 2 → IVec S16 32) a x).toNat < S16x64.size a)
theorem k0_idx829_inb : ∀ (v3235 : IVec S16 32) (v3507 : IVec S16 32) (k0_hw671 : k0_chk671 v3235 v3507), ∀ a x, ((![v3235, v3507] : Fin 2 → IVec S16 32) a x).toNat < S16x64.size a := fun v3235 v3507 k0_hw671 => k0_hw671.1
theorem k0_idx830_inb : ∀ (v3235 : IVec S16 32) (v3507 : IVec S16 32) (k0_hw671 : k0_chk671 v3235 v3507), ∀ a x, ((![v3235, v3507] : Fin 2 → IVec S16 32) a x).toNat < S16x64.size a := fun v3235 v3507 k0_hw671 => k0_hw671.2

def k0_chk672 (v3235 : IVec S16 32) (v3516 : IVec S16 32) : Prop :=
  (∀ a x, ((![v3235, v3516] : Fin 2 → IVec S16 32) a x).toNat < S16x64.size a) ∧
  (∀ a x, ((![v3235, v3516] : Fin 2 → IVec S16 32) a x).toNat < S16x64.size a)
theorem k0_idx831_inb : ∀ (v3235 : IVec S16 32) (v3516 : IVec S16 32) (k0_hw672 : k0_chk672 v3235 v3516), ∀ a x, ((![v3235, v3516] : Fin 2 → IVec S16 32) a x).toNat < S16x64.size a := fun v3235 v3516 k0_hw672 => k0_hw672.1
theorem k0_idx832_inb : ∀ (v3235 : IVec S16 32) (v3516 : IVec S16 32) (k0_hw672 : k0_chk672 v3235 v3516), ∀ a x, ((![v3235, v3516] : Fin 2 → IVec S16 32) a x).toNat < S16x64.size a := fun v3235 v3516 k0_hw672 => k0_hw672.2

def k0_chk673 (v3235 : IVec S16 32) (v3525 : IVec S16 32) : Prop :=
  (∀ a x, ((![v3235, v3525] : Fin 2 → IVec S16 32) a x).toNat < S16x64.size a) ∧
  (∀ a x, ((![v3235, v3525] : Fin 2 → IVec S16 32) a x).toNat < S16x64.size a)
theorem k0_idx833_inb : ∀ (v3235 : IVec S16 32) (v3525 : IVec S16 32) (k0_hw673 : k0_chk673 v3235 v3525), ∀ a x, ((![v3235, v3525] : Fin 2 → IVec S16 32) a x).toNat < S16x64.size a := fun v3235 v3525 k0_hw673 => k0_hw673.1
theorem k0_idx834_inb : ∀ (v3235 : IVec S16 32) (v3525 : IVec S16 32) (k0_hw673 : k0_chk673 v3235 v3525), ∀ a x, ((![v3235, v3525] : Fin 2 → IVec S16 32) a x).toNat < S16x64.size a := fun v3235 v3525 k0_hw673 => k0_hw673.2

def k0_chk674 (v3235 : IVec S16 32) (v3534 : IVec S16 32) : Prop :=
  (∀ a x, ((![v3235, v3534] : Fin 2 → IVec S16 32) a x).toNat < S16x64.size a) ∧
  (∀ a x, ((![v3235, v3534] : Fin 2 → IVec S16 32) a x).toNat < S16x64.size a)
theorem k0_idx835_inb : ∀ (v3235 : IVec S16 32) (v3534 : IVec S16 32) (k0_hw674 : k0_chk674 v3235 v3534), ∀ a x, ((![v3235, v3534] : Fin 2 → IVec S16 32) a x).toNat < S16x64.size a := fun v3235 v3534 k0_hw674 => k0_hw674.1
theorem k0_idx836_inb : ∀ (v3235 : IVec S16 32) (v3534 : IVec S16 32) (k0_hw674 : k0_chk674 v3235 v3534), ∀ a x, ((![v3235, v3534] : Fin 2 → IVec S16 32) a x).toNat < S16x64.size a := fun v3235 v3534 k0_hw674 => k0_hw674.2

def k0_chk675 (v3235 : IVec S16 32) (v3543 : IVec S16 32) : Prop :=
  (∀ a x, ((![v3235, v3543] : Fin 2 → IVec S16 32) a x).toNat < S16x64.size a) ∧
  (∀ a x, ((![v3235, v3543] : Fin 2 → IVec S16 32) a x).toNat < S16x64.size a)
theorem k0_idx837_inb : ∀ (v3235 : IVec S16 32) (v3543 : IVec S16 32) (k0_hw675 : k0_chk675 v3235 v3543), ∀ a x, ((![v3235, v3543] : Fin 2 → IVec S16 32) a x).toNat < S16x64.size a := fun v3235 v3543 k0_hw675 => k0_hw675.1
theorem k0_idx838_inb : ∀ (v3235 : IVec S16 32) (v3543 : IVec S16 32) (k0_hw675 : k0_chk675 v3235 v3543), ∀ a x, ((![v3235, v3543] : Fin 2 → IVec S16 32) a x).toNat < S16x64.size a := fun v3235 v3543 k0_hw675 => k0_hw675.2

def k0_chk676 (v3235 : IVec S16 32) (v3552 : IVec S16 32) : Prop :=
  (∀ a x, ((![v3235, v3552] : Fin 2 → IVec S16 32) a x).toNat < S16x64.size a) ∧
  (∀ a x, ((![v3235, v3552] : Fin 2 → IVec S16 32) a x).toNat < S16x64.size a)
theorem k0_idx839_inb : ∀ (v3235 : IVec S16 32) (v3552 : IVec S16 32) (k0_hw676 : k0_chk676 v3235 v3552), ∀ a x, ((![v3235, v3552] : Fin 2 → IVec S16 32) a x).toNat < S16x64.size a := fun v3235 v3552 k0_hw676 => k0_hw676.1
theorem k0_idx840_inb : ∀ (v3235 : IVec S16 32) (v3552 : IVec S16 32) (k0_hw676 : k0_chk676 v3235 v3552), ∀ a x, ((![v3235, v3552] : Fin 2 → IVec S16 32) a x).toNat < S16x64.size a := fun v3235 v3552 k0_hw676 => k0_hw676.2

def k0_chk677 (v3235 : IVec S16 32) (v3561 : IVec S16 32) : Prop :=
  (∀ a x, ((![v3235, v3561] : Fin 2 → IVec S16 32) a x).toNat < S16x64.size a) ∧
  (∀ a x, ((![v3235, v3561] : Fin 2 → IVec S16 32) a x).toNat < S16x64.size a)
theorem k0_idx841_inb : ∀ (v3235 : IVec S16 32) (v3561 : IVec S16 32) (k0_hw677 : k0_chk677 v3235 v3561), ∀ a x, ((![v3235, v3561] : Fin 2 → IVec S16 32) a x).toNat < S16x64.size a := fun v3235 v3561 k0_hw677 => k0_hw677.1
theorem k0_idx842_inb : ∀ (v3235 : IVec S16 32) (v3561 : IVec S16 32) (k0_hw677 : k0_chk677 v3235 v3561), ∀ a x, ((![v3235, v3561] : Fin 2 → IVec S16 32) a x).toNat < S16x64.size a := fun v3235 v3561 k0_hw677 => k0_hw677.2

def k0_chk678 (v3235 : IVec S16 32) (v3570 : IVec S16 32) : Prop :=
  (∀ a x, ((![v3235, v3570] : Fin 2 → IVec S16 32) a x).toNat < S16x64.size a) ∧
  (∀ a x, ((![v3235, v3570] : Fin 2 → IVec S16 32) a x).toNat < S16x64.size a)
theorem k0_idx843_inb : ∀ (v3235 : IVec S16 32) (v3570 : IVec S16 32) (k0_hw678 : k0_chk678 v3235 v3570), ∀ a x, ((![v3235, v3570] : Fin 2 → IVec S16 32) a x).toNat < S16x64.size a := fun v3235 v3570 k0_hw678 => k0_hw678.1
theorem k0_idx844_inb : ∀ (v3235 : IVec S16 32) (v3570 : IVec S16 32) (k0_hw678 : k0_chk678 v3235 v3570), ∀ a x, ((![v3235, v3570] : Fin 2 → IVec S16 32) a x).toNat < S16x64.size a := fun v3235 v3570 k0_hw678 => k0_hw678.2

def k0_chk679 (v3235 : IVec S16 32) (v3579 : IVec S16 32) : Prop :=
  (∀ a x, ((![v3235, v3579] : Fin 2 → IVec S16 32) a x).toNat < S16x64.size a) ∧
  (∀ a x, ((![v3235, v3579] : Fin 2 → IVec S16 32) a x).toNat < S16x64.size a)
theorem k0_idx845_inb : ∀ (v3235 : IVec S16 32) (v3579 : IVec S16 32) (k0_hw679 : k0_chk679 v3235 v3579), ∀ a x, ((![v3235, v3579] : Fin 2 → IVec S16 32) a x).toNat < S16x64.size a := fun v3235 v3579 k0_hw679 => k0_hw679.1
theorem k0_idx846_inb : ∀ (v3235 : IVec S16 32) (v3579 : IVec S16 32) (k0_hw679 : k0_chk679 v3235 v3579), ∀ a x, ((![v3235, v3579] : Fin 2 → IVec S16 32) a x).toNat < S16x64.size a := fun v3235 v3579 k0_hw679 => k0_hw679.2

def k0_chk680 (v3235 : IVec S16 32) (v3588 : IVec S16 32) : Prop :=
  (∀ a x, ((![v3235, v3588] : Fin 2 → IVec S16 32) a x).toNat < S16x64.size a) ∧
  (∀ a x, ((![v3235, v3588] : Fin 2 → IVec S16 32) a x).toNat < S16x64.size a)
theorem k0_idx847_inb : ∀ (v3235 : IVec S16 32) (v3588 : IVec S16 32) (k0_hw680 : k0_chk680 v3235 v3588), ∀ a x, ((![v3235, v3588] : Fin 2 → IVec S16 32) a x).toNat < S16x64.size a := fun v3235 v3588 k0_hw680 => k0_hw680.1
theorem k0_idx848_inb : ∀ (v3235 : IVec S16 32) (v3588 : IVec S16 32) (k0_hw680 : k0_chk680 v3235 v3588), ∀ a x, ((![v3235, v3588] : Fin 2 → IVec S16 32) a x).toNat < S16x64.size a := fun v3235 v3588 k0_hw680 => k0_hw680.2

def k0_chk681 (v3235 : IVec S16 32) (v3597 : IVec S16 32) : Prop :=
  (∀ a x, ((![v3235, v3597] : Fin 2 → IVec S16 32) a x).toNat < S16x64.size a) ∧
  (∀ a x, ((![v3235, v3597] : Fin 2 → IVec S16 32) a x).toNat < S16x64.size a)
theorem k0_idx849_inb : ∀ (v3235 : IVec S16 32) (v3597 : IVec S16 32) (k0_hw681 : k0_chk681 v3235 v3597), ∀ a x, ((![v3235, v3597] : Fin 2 → IVec S16 32) a x).toNat < S16x64.size a := fun v3235 v3597 k0_hw681 => k0_hw681.1
theorem k0_idx850_inb : ∀ (v3235 : IVec S16 32) (v3597 : IVec S16 32) (k0_hw681 : k0_chk681 v3235 v3597), ∀ a x, ((![v3235, v3597] : Fin 2 → IVec S16 32) a x).toNat < S16x64.size a := fun v3235 v3597 k0_hw681 => k0_hw681.2

def k0_chk682 (v3235 : IVec S16 32) (v3606 : IVec S16 32) : Prop :=
  (∀ a x, ((![v3235, v3606] : Fin 2 → IVec S16 32) a x).toNat < S16x64.size a) ∧
  (∀ a x, ((![v3235, v3606] : Fin 2 → IVec S16 32) a x).toNat < S16x64.size a)
theorem k0_idx851_inb : ∀ (v3235 : IVec S16 32) (v3606 : IVec S16 32) (k0_hw682 : k0_chk682 v3235 v3606), ∀ a x, ((![v3235, v3606] : Fin 2 → IVec S16 32) a x).toNat < S16x64.size a := fun v3235 v3606 k0_hw682 => k0_hw682.1
theorem k0_idx852_inb : ∀ (v3235 : IVec S16 32) (v3606 : IVec S16 32) (k0_hw682 : k0_chk682 v3235 v3606), ∀ a x, ((![v3235, v3606] : Fin 2 → IVec S16 32) a x).toNat < S16x64.size a := fun v3235 v3606 k0_hw682 => k0_hw682.2

def k0_chk683 (v3235 : IVec S16 32) (v3615 : IVec S16 32) : Prop :=
  (∀ a x, ((![v3235, v3615] : Fin 2 → IVec S16 32) a x).toNat < S16x64.size a) ∧
  (∀ a x, ((![v3235, v3615] : Fin 2 → IVec S16 32) a x).toNat < S16x64.size a)
theorem k0_idx853_inb : ∀ (v3235 : IVec S16 32) (v3615 : IVec S16 32) (k0_hw683 : k0_chk683 v3235 v3615), ∀ a x, ((![v3235, v3615] : Fin 2 → IVec S16 32) a x).toNat < S16x64.size a := fun v3235 v3615 k0_hw683 => k0_hw683.1
theorem k0_idx854_inb : ∀ (v3235 : IVec S16 32) (v3615 : IVec S16 32) (k0_hw683 : k0_chk683 v3235 v3615), ∀ a x, ((![v3235, v3615] : Fin 2 → IVec S16 32) a x).toNat < S16x64.size a := fun v3235 v3615 k0_hw683 => k0_hw683.2

def k0_chk684 (v3235 : IVec S16 32) (v3624 : IVec S16 32) : Prop :=
  (∀ a x, ((![v3235, v3624] : Fin 2 → IVec S16 32) a x).toNat < S16x64.size a) ∧
  (∀ a x, ((![v3235, v3624] : Fin 2 → IVec S16 32) a x).toNat < S16x64.size a)
theorem k0_idx855_inb : ∀ (v3235 : IVec S16 32) (v3624 : IVec S16 32) (k0_hw684 : k0_chk684 v3235 v3624), ∀ a x, ((![v3235, v3624] : Fin 2 → IVec S16 32) a x).toNat < S16x64.size a := fun v3235 v3624 k0_hw684 => k0_hw684.1
theorem k0_idx856_inb : ∀ (v3235 : IVec S16 32) (v3624 : IVec S16 32) (k0_hw684 : k0_chk684 v3235 v3624), ∀ a x, ((![v3235, v3624] : Fin 2 → IVec S16 32) a x).toNat < S16x64.size a := fun v3235 v3624 k0_hw684 => k0_hw684.2

def k0_chk685 (v3235 : IVec S16 32) (v3633 : IVec S16 32) : Prop :=
  (∀ a x, ((![v3235, v3633] : Fin 2 → IVec S16 32) a x).toNat < S16x64.size a) ∧
  (∀ a x, ((![v3235, v3633] : Fin 2 → IVec S16 32) a x).toNat < S16x64.size a)
theorem k0_idx857_inb : ∀ (v3235 : IVec S16 32) (v3633 : IVec S16 32) (k0_hw685 : k0_chk685 v3235 v3633), ∀ a x, ((![v3235, v3633] : Fin 2 → IVec S16 32) a x).toNat < S16x64.size a := fun v3235 v3633 k0_hw685 => k0_hw685.1
theorem k0_idx858_inb : ∀ (v3235 : IVec S16 32) (v3633 : IVec S16 32) (k0_hw685 : k0_chk685 v3235 v3633), ∀ a x, ((![v3235, v3633] : Fin 2 → IVec S16 32) a x).toNat < S16x64.size a := fun v3235 v3633 k0_hw685 => k0_hw685.2

def k0_chk686 (v3235 : IVec S16 32) (v3642 : IVec S16 32) : Prop :=
  (∀ a x, ((![v3235, v3642] : Fin 2 → IVec S16 32) a x).toNat < S16x64.size a) ∧
  (∀ a x, ((![v3235, v3642] : Fin 2 → IVec S16 32) a x).toNat < S16x64.size a)
theorem k0_idx859_inb : ∀ (v3235 : IVec S16 32) (v3642 : IVec S16 32) (k0_hw686 : k0_chk686 v3235 v3642), ∀ a x, ((![v3235, v3642] : Fin 2 → IVec S16 32) a x).toNat < S16x64.size a := fun v3235 v3642 k0_hw686 => k0_hw686.1
theorem k0_idx860_inb : ∀ (v3235 : IVec S16 32) (v3642 : IVec S16 32) (k0_hw686 : k0_chk686 v3235 v3642), ∀ a x, ((![v3235, v3642] : Fin 2 → IVec S16 32) a x).toNat < S16x64.size a := fun v3235 v3642 k0_hw686 => k0_hw686.2

def k0_chk687 (v3235 : IVec S16 32) (v3651 : IVec S16 32) : Prop :=
  (∀ a x, ((![v3235, v3651] : Fin 2 → IVec S16 32) a x).toNat < S16x64.size a) ∧
  (∀ a x, ((![v3235, v3651] : Fin 2 → IVec S16 32) a x).toNat < S16x64.size a)
theorem k0_idx861_inb : ∀ (v3235 : IVec S16 32) (v3651 : IVec S16 32) (k0_hw687 : k0_chk687 v3235 v3651), ∀ a x, ((![v3235, v3651] : Fin 2 → IVec S16 32) a x).toNat < S16x64.size a := fun v3235 v3651 k0_hw687 => k0_hw687.1
theorem k0_idx862_inb : ∀ (v3235 : IVec S16 32) (v3651 : IVec S16 32) (k0_hw687 : k0_chk687 v3235 v3651), ∀ a x, ((![v3235, v3651] : Fin 2 → IVec S16 32) a x).toNat < S16x64.size a := fun v3235 v3651 k0_hw687 => k0_hw687.2

def k0_chk688 (v3235 : IVec S16 32) (v3660 : IVec S16 32) : Prop :=
  (∀ a x, ((![v3235, v3660] : Fin 2 → IVec S16 32) a x).toNat < S16x64.size a) ∧
  (∀ a x, ((![v3235, v3660] : Fin 2 → IVec S16 32) a x).toNat < S16x64.size a)
theorem k0_idx863_inb : ∀ (v3235 : IVec S16 32) (v3660 : IVec S16 32) (k0_hw688 : k0_chk688 v3235 v3660), ∀ a x, ((![v3235, v3660] : Fin 2 → IVec S16 32) a x).toNat < S16x64.size a := fun v3235 v3660 k0_hw688 => k0_hw688.1
theorem k0_idx864_inb : ∀ (v3235 : IVec S16 32) (v3660 : IVec S16 32) (k0_hw688 : k0_chk688 v3235 v3660), ∀ a x, ((![v3235, v3660] : Fin 2 → IVec S16 32) a x).toNat < S16x64.size a := fun v3235 v3660 k0_hw688 => k0_hw688.2

def k0_chk689 (v3235 : IVec S16 32) (v3669 : IVec S16 32) : Prop :=
  (∀ a x, ((![v3235, v3669] : Fin 2 → IVec S16 32) a x).toNat < S16x64.size a) ∧
  (∀ a x, ((![v3235, v3669] : Fin 2 → IVec S16 32) a x).toNat < S16x64.size a)
theorem k0_idx865_inb : ∀ (v3235 : IVec S16 32) (v3669 : IVec S16 32) (k0_hw689 : k0_chk689 v3235 v3669), ∀ a x, ((![v3235, v3669] : Fin 2 → IVec S16 32) a x).toNat < S16x64.size a := fun v3235 v3669 k0_hw689 => k0_hw689.1
theorem k0_idx866_inb : ∀ (v3235 : IVec S16 32) (v3669 : IVec S16 32) (k0_hw689 : k0_chk689 v3235 v3669), ∀ a x, ((![v3235, v3669] : Fin 2 → IVec S16 32) a x).toNat < S16x64.size a := fun v3235 v3669 k0_hw689 => k0_hw689.2

def k0_chk690 (v3235 : IVec S16 32) (v3678 : IVec S16 32) : Prop :=
  (∀ a x, ((![v3235, v3678] : Fin 2 → IVec S16 32) a x).toNat < S16x64.size a) ∧
  (∀ a x, ((![v3235, v3678] : Fin 2 → IVec S16 32) a x).toNat < S16x64.size a)
theorem k0_idx867_inb : ∀ (v3235 : IVec S16 32) (v3678 : IVec S16 32) (k0_hw690 : k0_chk690 v3235 v3678), ∀ a x, ((![v3235, v3678] : Fin 2 → IVec S16 32) a x).toNat < S16x64.size a := fun v3235 v3678 k0_hw690 => k0_hw690.1
theorem k0_idx868_inb : ∀ (v3235 : IVec S16 32) (v3678 : IVec S16 32) (k0_hw690 : k0_chk690 v3235 v3678), ∀ a x, ((![v3235, v3678] : Fin 2 → IVec S16 32) a x).toNat < S16x64.size a := fun v3235 v3678 k0_hw690 => k0_hw690.2

def k0_chk691 (v3235 : IVec S16 32) (v3687 : IVec S16 32) : Prop :=
  (∀ a x, ((![v3235, v3687] : Fin 2 → IVec S16 32) a x).toNat < S16x64.size a) ∧
  (∀ a x, ((![v3235, v3687] : Fin 2 → IVec S16 32) a x).toNat < S16x64.size a)
theorem k0_idx869_inb : ∀ (v3235 : IVec S16 32) (v3687 : IVec S16 32) (k0_hw691 : k0_chk691 v3235 v3687), ∀ a x, ((![v3235, v3687] : Fin 2 → IVec S16 32) a x).toNat < S16x64.size a := fun v3235 v3687 k0_hw691 => k0_hw691.1
theorem k0_idx870_inb : ∀ (v3235 : IVec S16 32) (v3687 : IVec S16 32) (k0_hw691 : k0_chk691 v3235 v3687), ∀ a x, ((![v3235, v3687] : Fin 2 → IVec S16 32) a x).toNat < S16x64.size a := fun v3235 v3687 k0_hw691 => k0_hw691.2

def k0_chk692 (v3235 : IVec S16 32) (v3696 : IVec S16 32) : Prop :=
  (∀ a x, ((![v3235, v3696] : Fin 2 → IVec S16 32) a x).toNat < S16x64.size a) ∧
  (∀ a x, ((![v3235, v3696] : Fin 2 → IVec S16 32) a x).toNat < S16x64.size a)
theorem k0_idx871_inb : ∀ (v3235 : IVec S16 32) (v3696 : IVec S16 32) (k0_hw692 : k0_chk692 v3235 v3696), ∀ a x, ((![v3235, v3696] : Fin 2 → IVec S16 32) a x).toNat < S16x64.size a := fun v3235 v3696 k0_hw692 => k0_hw692.1
theorem k0_idx872_inb : ∀ (v3235 : IVec S16 32) (v3696 : IVec S16 32) (k0_hw692 : k0_chk692 v3235 v3696), ∀ a x, ((![v3235, v3696] : Fin 2 → IVec S16 32) a x).toNat < S16x64.size a := fun v3235 v3696 k0_hw692 => k0_hw692.2

def k0_chk693 (v3235 : IVec S16 32) (v3705 : IVec S16 32) : Prop :=
  (∀ a x, ((![v3235, v3705] : Fin 2 → IVec S16 32) a x).toNat < S16x64.size a) ∧
  (∀ a x, ((![v3235, v3705] : Fin 2 → IVec S16 32) a x).toNat < S16x64.size a)
theorem k0_idx873_inb : ∀ (v3235 : IVec S16 32) (v3705 : IVec S16 32) (k0_hw693 : k0_chk693 v3235 v3705), ∀ a x, ((![v3235, v3705] : Fin 2 → IVec S16 32) a x).toNat < S16x64.size a := fun v3235 v3705 k0_hw693 => k0_hw693.1
theorem k0_idx874_inb : ∀ (v3235 : IVec S16 32) (v3705 : IVec S16 32) (k0_hw693 : k0_chk693 v3235 v3705), ∀ a x, ((![v3235, v3705] : Fin 2 → IVec S16 32) a x).toNat < S16x64.size a := fun v3235 v3705 k0_hw693 => k0_hw693.2

def k0_chk694 (v3235 : IVec S16 32) (v3714 : IVec S16 32) : Prop :=
  (∀ a x, ((![v3235, v3714] : Fin 2 → IVec S16 32) a x).toNat < S16x64.size a) ∧
  (∀ a x, ((![v3235, v3714] : Fin 2 → IVec S16 32) a x).toNat < S16x64.size a)
theorem k0_idx875_inb : ∀ (v3235 : IVec S16 32) (v3714 : IVec S16 32) (k0_hw694 : k0_chk694 v3235 v3714), ∀ a x, ((![v3235, v3714] : Fin 2 → IVec S16 32) a x).toNat < S16x64.size a := fun v3235 v3714 k0_hw694 => k0_hw694.1
theorem k0_idx876_inb : ∀ (v3235 : IVec S16 32) (v3714 : IVec S16 32) (k0_hw694 : k0_chk694 v3235 v3714), ∀ a x, ((![v3235, v3714] : Fin 2 → IVec S16 32) a x).toNat < S16x64.size a := fun v3235 v3714 k0_hw694 => k0_hw694.2

def k0_chk695 (v3235 : IVec S16 32) (v3723 : IVec S16 32) : Prop :=
  (∀ a x, ((![v3235, v3723] : Fin 2 → IVec S16 32) a x).toNat < S16x64.size a) ∧
  (∀ a x, ((![v3235, v3723] : Fin 2 → IVec S16 32) a x).toNat < S16x64.size a)
theorem k0_idx877_inb : ∀ (v3235 : IVec S16 32) (v3723 : IVec S16 32) (k0_hw695 : k0_chk695 v3235 v3723), ∀ a x, ((![v3235, v3723] : Fin 2 → IVec S16 32) a x).toNat < S16x64.size a := fun v3235 v3723 k0_hw695 => k0_hw695.1
theorem k0_idx878_inb : ∀ (v3235 : IVec S16 32) (v3723 : IVec S16 32) (k0_hw695 : k0_chk695 v3235 v3723), ∀ a x, ((![v3235, v3723] : Fin 2 → IVec S16 32) a x).toNat < S16x64.size a := fun v3235 v3723 k0_hw695 => k0_hw695.2

def k0_chk696 (v3235 : IVec S16 32) (v3732 : IVec S16 32) : Prop :=
  (∀ a x, ((![v3235, v3732] : Fin 2 → IVec S16 32) a x).toNat < S16x64.size a) ∧
  (∀ a x, ((![v3235, v3732] : Fin 2 → IVec S16 32) a x).toNat < S16x64.size a)
theorem k0_idx879_inb : ∀ (v3235 : IVec S16 32) (v3732 : IVec S16 32) (k0_hw696 : k0_chk696 v3235 v3732), ∀ a x, ((![v3235, v3732] : Fin 2 → IVec S16 32) a x).toNat < S16x64.size a := fun v3235 v3732 k0_hw696 => k0_hw696.1
theorem k0_idx880_inb : ∀ (v3235 : IVec S16 32) (v3732 : IVec S16 32) (k0_hw696 : k0_chk696 v3235 v3732), ∀ a x, ((![v3235, v3732] : Fin 2 → IVec S16 32) a x).toNat < S16x64.size a := fun v3235 v3732 k0_hw696 => k0_hw696.2

def k0_chk697 (v3235 : IVec S16 32) (v3741 : IVec S16 32) : Prop :=
  (∀ a x, ((![v3235, v3741] : Fin 2 → IVec S16 32) a x).toNat < S16x64.size a) ∧
  (∀ a x, ((![v3235, v3741] : Fin 2 → IVec S16 32) a x).toNat < S16x64.size a)
theorem k0_idx881_inb : ∀ (v3235 : IVec S16 32) (v3741 : IVec S16 32) (k0_hw697 : k0_chk697 v3235 v3741), ∀ a x, ((![v3235, v3741] : Fin 2 → IVec S16 32) a x).toNat < S16x64.size a := fun v3235 v3741 k0_hw697 => k0_hw697.1
theorem k0_idx882_inb : ∀ (v3235 : IVec S16 32) (v3741 : IVec S16 32) (k0_hw697 : k0_chk697 v3235 v3741), ∀ a x, ((![v3235, v3741] : Fin 2 → IVec S16 32) a x).toNat < S16x64.size a := fun v3235 v3741 k0_hw697 => k0_hw697.2

def k0_chk698 (v3235 : IVec S16 32) (v3750 : IVec S16 32) : Prop :=
  (∀ a x, ((![v3235, v3750] : Fin 2 → IVec S16 32) a x).toNat < S16x64.size a) ∧
  (∀ a x, ((![v3235, v3750] : Fin 2 → IVec S16 32) a x).toNat < S16x64.size a)
theorem k0_idx883_inb : ∀ (v3235 : IVec S16 32) (v3750 : IVec S16 32) (k0_hw698 : k0_chk698 v3235 v3750), ∀ a x, ((![v3235, v3750] : Fin 2 → IVec S16 32) a x).toNat < S16x64.size a := fun v3235 v3750 k0_hw698 => k0_hw698.1
theorem k0_idx884_inb : ∀ (v3235 : IVec S16 32) (v3750 : IVec S16 32) (k0_hw698 : k0_chk698 v3235 v3750), ∀ a x, ((![v3235, v3750] : Fin 2 → IVec S16 32) a x).toNat < S16x64.size a := fun v3235 v3750 k0_hw698 => k0_hw698.2

def k0_chk699 (v3235 : IVec S16 32) (v3759 : IVec S16 32) : Prop :=
  (∀ a x, ((![v3235, v3759] : Fin 2 → IVec S16 32) a x).toNat < S16x64.size a) ∧
  (∀ a x, ((![v3235, v3759] : Fin 2 → IVec S16 32) a x).toNat < S16x64.size a)
theorem k0_idx885_inb : ∀ (v3235 : IVec S16 32) (v3759 : IVec S16 32) (k0_hw699 : k0_chk699 v3235 v3759), ∀ a x, ((![v3235, v3759] : Fin 2 → IVec S16 32) a x).toNat < S16x64.size a := fun v3235 v3759 k0_hw699 => k0_hw699.1
theorem k0_idx886_inb : ∀ (v3235 : IVec S16 32) (v3759 : IVec S16 32) (k0_hw699 : k0_chk699 v3235 v3759), ∀ a x, ((![v3235, v3759] : Fin 2 → IVec S16 32) a x).toNat < S16x64.size a := fun v3235 v3759 k0_hw699 => k0_hw699.2

def k0_chk700 (v3235 : IVec S16 32) (v3768 : IVec S16 32) : Prop :=
  (∀ a x, ((![v3235, v3768] : Fin 2 → IVec S16 32) a x).toNat < S16x64.size a) ∧
  (∀ a x, ((![v3235, v3768] : Fin 2 → IVec S16 32) a x).toNat < S16x64.size a)
theorem k0_idx887_inb : ∀ (v3235 : IVec S16 32) (v3768 : IVec S16 32) (k0_hw700 : k0_chk700 v3235 v3768), ∀ a x, ((![v3235, v3768] : Fin 2 → IVec S16 32) a x).toNat < S16x64.size a := fun v3235 v3768 k0_hw700 => k0_hw700.1
theorem k0_idx888_inb : ∀ (v3235 : IVec S16 32) (v3768 : IVec S16 32) (k0_hw700 : k0_chk700 v3235 v3768), ∀ a x, ((![v3235, v3768] : Fin 2 → IVec S16 32) a x).toNat < S16x64.size a := fun v3235 v3768 k0_hw700 => k0_hw700.2

def k0_chk701 (v3235 : IVec S16 32) (v3777 : IVec S16 32) : Prop :=
  (∀ a x, ((![v3235, v3777] : Fin 2 → IVec S16 32) a x).toNat < S16x64.size a) ∧
  (∀ a x, ((![v3235, v3777] : Fin 2 → IVec S16 32) a x).toNat < S16x64.size a)
theorem k0_idx889_inb : ∀ (v3235 : IVec S16 32) (v3777 : IVec S16 32) (k0_hw701 : k0_chk701 v3235 v3777), ∀ a x, ((![v3235, v3777] : Fin 2 → IVec S16 32) a x).toNat < S16x64.size a := fun v3235 v3777 k0_hw701 => k0_hw701.1
theorem k0_idx890_inb : ∀ (v3235 : IVec S16 32) (v3777 : IVec S16 32) (k0_hw701 : k0_chk701 v3235 v3777), ∀ a x, ((![v3235, v3777] : Fin 2 → IVec S16 32) a x).toNat < S16x64.size a := fun v3235 v3777 k0_hw701 => k0_hw701.2

def k0_chk702 (v3235 : IVec S16 32) (v3786 : IVec S16 32) : Prop :=
  (∀ a x, ((![v3235, v3786] : Fin 2 → IVec S16 32) a x).toNat < S16x64.size a) ∧
  (∀ a x, ((![v3235, v3786] : Fin 2 → IVec S16 32) a x).toNat < S16x64.size a)
theorem k0_idx891_inb : ∀ (v3235 : IVec S16 32) (v3786 : IVec S16 32) (k0_hw702 : k0_chk702 v3235 v3786), ∀ a x, ((![v3235, v3786] : Fin 2 → IVec S16 32) a x).toNat < S16x64.size a := fun v3235 v3786 k0_hw702 => k0_hw702.1
theorem k0_idx892_inb : ∀ (v3235 : IVec S16 32) (v3786 : IVec S16 32) (k0_hw702 : k0_chk702 v3235 v3786), ∀ a x, ((![v3235, v3786] : Fin 2 → IVec S16 32) a x).toNat < S16x64.size a := fun v3235 v3786 k0_hw702 => k0_hw702.2

def k0_chk703 (v3235 : IVec S16 32) (v3795 : IVec S16 32) : Prop :=
  (∀ a x, ((![v3235, v3795] : Fin 2 → IVec S16 32) a x).toNat < S16x64.size a) ∧
  (∀ a x, ((![v3235, v3795] : Fin 2 → IVec S16 32) a x).toNat < S16x64.size a)
theorem k0_idx893_inb : ∀ (v3235 : IVec S16 32) (v3795 : IVec S16 32) (k0_hw703 : k0_chk703 v3235 v3795), ∀ a x, ((![v3235, v3795] : Fin 2 → IVec S16 32) a x).toNat < S16x64.size a := fun v3235 v3795 k0_hw703 => k0_hw703.1
theorem k0_idx894_inb : ∀ (v3235 : IVec S16 32) (v3795 : IVec S16 32) (k0_hw703 : k0_chk703 v3235 v3795), ∀ a x, ((![v3235, v3795] : Fin 2 → IVec S16 32) a x).toNat < S16x64.size a := fun v3235 v3795 k0_hw703 => k0_hw703.2

def k0_chk704 (v3235 : IVec S16 32) (v3804 : IVec S16 32) : Prop :=
  (∀ a x, ((![v3235, v3804] : Fin 2 → IVec S16 32) a x).toNat < S16x64.size a) ∧
  (∀ a x, ((![v3235, v3804] : Fin 2 → IVec S16 32) a x).toNat < S16x64.size a)
theorem k0_idx895_inb : ∀ (v3235 : IVec S16 32) (v3804 : IVec S16 32) (k0_hw704 : k0_chk704 v3235 v3804), ∀ a x, ((![v3235, v3804] : Fin 2 → IVec S16 32) a x).toNat < S16x64.size a := fun v3235 v3804 k0_hw704 => k0_hw704.1
theorem k0_idx896_inb : ∀ (v3235 : IVec S16 32) (v3804 : IVec S16 32) (k0_hw704 : k0_chk704 v3235 v3804), ∀ a x, ((![v3235, v3804] : Fin 2 → IVec S16 32) a x).toNat < S16x64.size a := fun v3235 v3804 k0_hw704 => k0_hw704.2
def k0_mult16 : BitVec 32 :=
  let c496_i32 : BitVec 32 := 496#32
  c496_i32

def k0_chk705 (v4072 : IVec S16 32) (v4074 : IVec S16 32) : Prop :=
  (∀ a x, ((![v4072, v4074] : Fin 2 → IVec S16 32) a x).toNat < S16x64.size a) ∧
  (∀ a x, ((![v4072, v4074] : Fin 2 → IVec S16 32) a x).toNat < S16x64.size a)
theorem k0_idx897_inb : ∀ (v4072 : IVec S16 32) (v4074 : IVec S16 32) (k0_hw705 : k0_chk705 v4072 v4074), ∀ a x, ((![v4072, v4074] : Fin 2 → IVec S16 32) a x).toNat < S16x64.size a := fun v4072 v4074 k0_hw705 => k0_hw705.1
theorem k0_idx898_inb : ∀ (v4072 : IVec S16 32) (v4074 : IVec S16 32) (k0_hw705 : k0_chk705 v4072 v4074), ∀ a x, ((![v4072, v4074] : Fin 2 → IVec S16 32) a x).toNat < S16x64.size a := fun v4072 v4074 k0_hw705 => k0_hw705.2

def k0_chk706 (v4072 : IVec S16 32) (v4083 : IVec S16 32) : Prop :=
  (∀ a x, ((![v4072, v4083] : Fin 2 → IVec S16 32) a x).toNat < S16x64.size a) ∧
  (∀ a x, ((![v4072, v4083] : Fin 2 → IVec S16 32) a x).toNat < S16x64.size a)
theorem k0_idx899_inb : ∀ (v4072 : IVec S16 32) (v4083 : IVec S16 32) (k0_hw706 : k0_chk706 v4072 v4083), ∀ a x, ((![v4072, v4083] : Fin 2 → IVec S16 32) a x).toNat < S16x64.size a := fun v4072 v4083 k0_hw706 => k0_hw706.1
theorem k0_idx900_inb : ∀ (v4072 : IVec S16 32) (v4083 : IVec S16 32) (k0_hw706 : k0_chk706 v4072 v4083), ∀ a x, ((![v4072, v4083] : Fin 2 → IVec S16 32) a x).toNat < S16x64.size a := fun v4072 v4083 k0_hw706 => k0_hw706.2

def k0_chk707 (v4072 : IVec S16 32) (v4092 : IVec S16 32) : Prop :=
  (∀ a x, ((![v4072, v4092] : Fin 2 → IVec S16 32) a x).toNat < S16x64.size a) ∧
  (∀ a x, ((![v4072, v4092] : Fin 2 → IVec S16 32) a x).toNat < S16x64.size a)
theorem k0_idx901_inb : ∀ (v4072 : IVec S16 32) (v4092 : IVec S16 32) (k0_hw707 : k0_chk707 v4072 v4092), ∀ a x, ((![v4072, v4092] : Fin 2 → IVec S16 32) a x).toNat < S16x64.size a := fun v4072 v4092 k0_hw707 => k0_hw707.1
theorem k0_idx902_inb : ∀ (v4072 : IVec S16 32) (v4092 : IVec S16 32) (k0_hw707 : k0_chk707 v4072 v4092), ∀ a x, ((![v4072, v4092] : Fin 2 → IVec S16 32) a x).toNat < S16x64.size a := fun v4072 v4092 k0_hw707 => k0_hw707.2

def k0_chk708 (v4072 : IVec S16 32) (v4101 : IVec S16 32) : Prop :=
  (∀ a x, ((![v4072, v4101] : Fin 2 → IVec S16 32) a x).toNat < S16x64.size a) ∧
  (∀ a x, ((![v4072, v4101] : Fin 2 → IVec S16 32) a x).toNat < S16x64.size a)
theorem k0_idx903_inb : ∀ (v4072 : IVec S16 32) (v4101 : IVec S16 32) (k0_hw708 : k0_chk708 v4072 v4101), ∀ a x, ((![v4072, v4101] : Fin 2 → IVec S16 32) a x).toNat < S16x64.size a := fun v4072 v4101 k0_hw708 => k0_hw708.1
theorem k0_idx904_inb : ∀ (v4072 : IVec S16 32) (v4101 : IVec S16 32) (k0_hw708 : k0_chk708 v4072 v4101), ∀ a x, ((![v4072, v4101] : Fin 2 → IVec S16 32) a x).toNat < S16x64.size a := fun v4072 v4101 k0_hw708 => k0_hw708.2

def k0_chk709 (v4072 : IVec S16 32) (v4110 : IVec S16 32) : Prop :=
  (∀ a x, ((![v4072, v4110] : Fin 2 → IVec S16 32) a x).toNat < S16x64.size a) ∧
  (∀ a x, ((![v4072, v4110] : Fin 2 → IVec S16 32) a x).toNat < S16x64.size a)
theorem k0_idx905_inb : ∀ (v4072 : IVec S16 32) (v4110 : IVec S16 32) (k0_hw709 : k0_chk709 v4072 v4110), ∀ a x, ((![v4072, v4110] : Fin 2 → IVec S16 32) a x).toNat < S16x64.size a := fun v4072 v4110 k0_hw709 => k0_hw709.1
theorem k0_idx906_inb : ∀ (v4072 : IVec S16 32) (v4110 : IVec S16 32) (k0_hw709 : k0_chk709 v4072 v4110), ∀ a x, ((![v4072, v4110] : Fin 2 → IVec S16 32) a x).toNat < S16x64.size a := fun v4072 v4110 k0_hw709 => k0_hw709.2

def k0_chk710 (v4072 : IVec S16 32) (v4119 : IVec S16 32) : Prop :=
  (∀ a x, ((![v4072, v4119] : Fin 2 → IVec S16 32) a x).toNat < S16x64.size a) ∧
  (∀ a x, ((![v4072, v4119] : Fin 2 → IVec S16 32) a x).toNat < S16x64.size a)
theorem k0_idx907_inb : ∀ (v4072 : IVec S16 32) (v4119 : IVec S16 32) (k0_hw710 : k0_chk710 v4072 v4119), ∀ a x, ((![v4072, v4119] : Fin 2 → IVec S16 32) a x).toNat < S16x64.size a := fun v4072 v4119 k0_hw710 => k0_hw710.1
theorem k0_idx908_inb : ∀ (v4072 : IVec S16 32) (v4119 : IVec S16 32) (k0_hw710 : k0_chk710 v4072 v4119), ∀ a x, ((![v4072, v4119] : Fin 2 → IVec S16 32) a x).toNat < S16x64.size a := fun v4072 v4119 k0_hw710 => k0_hw710.2

def k0_chk711 (v4072 : IVec S16 32) (v4128 : IVec S16 32) : Prop :=
  (∀ a x, ((![v4072, v4128] : Fin 2 → IVec S16 32) a x).toNat < S16x64.size a) ∧
  (∀ a x, ((![v4072, v4128] : Fin 2 → IVec S16 32) a x).toNat < S16x64.size a)
theorem k0_idx909_inb : ∀ (v4072 : IVec S16 32) (v4128 : IVec S16 32) (k0_hw711 : k0_chk711 v4072 v4128), ∀ a x, ((![v4072, v4128] : Fin 2 → IVec S16 32) a x).toNat < S16x64.size a := fun v4072 v4128 k0_hw711 => k0_hw711.1
theorem k0_idx910_inb : ∀ (v4072 : IVec S16 32) (v4128 : IVec S16 32) (k0_hw711 : k0_chk711 v4072 v4128), ∀ a x, ((![v4072, v4128] : Fin 2 → IVec S16 32) a x).toNat < S16x64.size a := fun v4072 v4128 k0_hw711 => k0_hw711.2

def k0_chk712 (v4072 : IVec S16 32) (v4137 : IVec S16 32) : Prop :=
  (∀ a x, ((![v4072, v4137] : Fin 2 → IVec S16 32) a x).toNat < S16x64.size a) ∧
  (∀ a x, ((![v4072, v4137] : Fin 2 → IVec S16 32) a x).toNat < S16x64.size a)
theorem k0_idx911_inb : ∀ (v4072 : IVec S16 32) (v4137 : IVec S16 32) (k0_hw712 : k0_chk712 v4072 v4137), ∀ a x, ((![v4072, v4137] : Fin 2 → IVec S16 32) a x).toNat < S16x64.size a := fun v4072 v4137 k0_hw712 => k0_hw712.1
theorem k0_idx912_inb : ∀ (v4072 : IVec S16 32) (v4137 : IVec S16 32) (k0_hw712 : k0_chk712 v4072 v4137), ∀ a x, ((![v4072, v4137] : Fin 2 → IVec S16 32) a x).toNat < S16x64.size a := fun v4072 v4137 k0_hw712 => k0_hw712.2

def k0_chk713 (v4072 : IVec S16 32) (v4146 : IVec S16 32) : Prop :=
  (∀ a x, ((![v4072, v4146] : Fin 2 → IVec S16 32) a x).toNat < S16x64.size a) ∧
  (∀ a x, ((![v4072, v4146] : Fin 2 → IVec S16 32) a x).toNat < S16x64.size a)
theorem k0_idx913_inb : ∀ (v4072 : IVec S16 32) (v4146 : IVec S16 32) (k0_hw713 : k0_chk713 v4072 v4146), ∀ a x, ((![v4072, v4146] : Fin 2 → IVec S16 32) a x).toNat < S16x64.size a := fun v4072 v4146 k0_hw713 => k0_hw713.1
theorem k0_idx914_inb : ∀ (v4072 : IVec S16 32) (v4146 : IVec S16 32) (k0_hw713 : k0_chk713 v4072 v4146), ∀ a x, ((![v4072, v4146] : Fin 2 → IVec S16 32) a x).toNat < S16x64.size a := fun v4072 v4146 k0_hw713 => k0_hw713.2

def k0_chk714 (v4072 : IVec S16 32) (v4155 : IVec S16 32) : Prop :=
  (∀ a x, ((![v4072, v4155] : Fin 2 → IVec S16 32) a x).toNat < S16x64.size a) ∧
  (∀ a x, ((![v4072, v4155] : Fin 2 → IVec S16 32) a x).toNat < S16x64.size a)
theorem k0_idx915_inb : ∀ (v4072 : IVec S16 32) (v4155 : IVec S16 32) (k0_hw714 : k0_chk714 v4072 v4155), ∀ a x, ((![v4072, v4155] : Fin 2 → IVec S16 32) a x).toNat < S16x64.size a := fun v4072 v4155 k0_hw714 => k0_hw714.1
theorem k0_idx916_inb : ∀ (v4072 : IVec S16 32) (v4155 : IVec S16 32) (k0_hw714 : k0_chk714 v4072 v4155), ∀ a x, ((![v4072, v4155] : Fin 2 → IVec S16 32) a x).toNat < S16x64.size a := fun v4072 v4155 k0_hw714 => k0_hw714.2

def k0_chk715 (v4072 : IVec S16 32) (v4164 : IVec S16 32) : Prop :=
  (∀ a x, ((![v4072, v4164] : Fin 2 → IVec S16 32) a x).toNat < S16x64.size a) ∧
  (∀ a x, ((![v4072, v4164] : Fin 2 → IVec S16 32) a x).toNat < S16x64.size a)
theorem k0_idx917_inb : ∀ (v4072 : IVec S16 32) (v4164 : IVec S16 32) (k0_hw715 : k0_chk715 v4072 v4164), ∀ a x, ((![v4072, v4164] : Fin 2 → IVec S16 32) a x).toNat < S16x64.size a := fun v4072 v4164 k0_hw715 => k0_hw715.1
theorem k0_idx918_inb : ∀ (v4072 : IVec S16 32) (v4164 : IVec S16 32) (k0_hw715 : k0_chk715 v4072 v4164), ∀ a x, ((![v4072, v4164] : Fin 2 → IVec S16 32) a x).toNat < S16x64.size a := fun v4072 v4164 k0_hw715 => k0_hw715.2

def k0_chk716 (v4072 : IVec S16 32) (v4173 : IVec S16 32) : Prop :=
  (∀ a x, ((![v4072, v4173] : Fin 2 → IVec S16 32) a x).toNat < S16x64.size a) ∧
  (∀ a x, ((![v4072, v4173] : Fin 2 → IVec S16 32) a x).toNat < S16x64.size a)
theorem k0_idx919_inb : ∀ (v4072 : IVec S16 32) (v4173 : IVec S16 32) (k0_hw716 : k0_chk716 v4072 v4173), ∀ a x, ((![v4072, v4173] : Fin 2 → IVec S16 32) a x).toNat < S16x64.size a := fun v4072 v4173 k0_hw716 => k0_hw716.1
theorem k0_idx920_inb : ∀ (v4072 : IVec S16 32) (v4173 : IVec S16 32) (k0_hw716 : k0_chk716 v4072 v4173), ∀ a x, ((![v4072, v4173] : Fin 2 → IVec S16 32) a x).toNat < S16x64.size a := fun v4072 v4173 k0_hw716 => k0_hw716.2

def k0_chk717 (v4072 : IVec S16 32) (v4182 : IVec S16 32) : Prop :=
  (∀ a x, ((![v4072, v4182] : Fin 2 → IVec S16 32) a x).toNat < S16x64.size a) ∧
  (∀ a x, ((![v4072, v4182] : Fin 2 → IVec S16 32) a x).toNat < S16x64.size a)
theorem k0_idx921_inb : ∀ (v4072 : IVec S16 32) (v4182 : IVec S16 32) (k0_hw717 : k0_chk717 v4072 v4182), ∀ a x, ((![v4072, v4182] : Fin 2 → IVec S16 32) a x).toNat < S16x64.size a := fun v4072 v4182 k0_hw717 => k0_hw717.1
theorem k0_idx922_inb : ∀ (v4072 : IVec S16 32) (v4182 : IVec S16 32) (k0_hw717 : k0_chk717 v4072 v4182), ∀ a x, ((![v4072, v4182] : Fin 2 → IVec S16 32) a x).toNat < S16x64.size a := fun v4072 v4182 k0_hw717 => k0_hw717.2

def k0_chk718 (v4072 : IVec S16 32) (v4191 : IVec S16 32) : Prop :=
  (∀ a x, ((![v4072, v4191] : Fin 2 → IVec S16 32) a x).toNat < S16x64.size a) ∧
  (∀ a x, ((![v4072, v4191] : Fin 2 → IVec S16 32) a x).toNat < S16x64.size a)
theorem k0_idx923_inb : ∀ (v4072 : IVec S16 32) (v4191 : IVec S16 32) (k0_hw718 : k0_chk718 v4072 v4191), ∀ a x, ((![v4072, v4191] : Fin 2 → IVec S16 32) a x).toNat < S16x64.size a := fun v4072 v4191 k0_hw718 => k0_hw718.1
theorem k0_idx924_inb : ∀ (v4072 : IVec S16 32) (v4191 : IVec S16 32) (k0_hw718 : k0_chk718 v4072 v4191), ∀ a x, ((![v4072, v4191] : Fin 2 → IVec S16 32) a x).toNat < S16x64.size a := fun v4072 v4191 k0_hw718 => k0_hw718.2

def k0_chk719 (v4072 : IVec S16 32) (v4200 : IVec S16 32) : Prop :=
  (∀ a x, ((![v4072, v4200] : Fin 2 → IVec S16 32) a x).toNat < S16x64.size a) ∧
  (∀ a x, ((![v4072, v4200] : Fin 2 → IVec S16 32) a x).toNat < S16x64.size a)
theorem k0_idx925_inb : ∀ (v4072 : IVec S16 32) (v4200 : IVec S16 32) (k0_hw719 : k0_chk719 v4072 v4200), ∀ a x, ((![v4072, v4200] : Fin 2 → IVec S16 32) a x).toNat < S16x64.size a := fun v4072 v4200 k0_hw719 => k0_hw719.1
theorem k0_idx926_inb : ∀ (v4072 : IVec S16 32) (v4200 : IVec S16 32) (k0_hw719 : k0_chk719 v4072 v4200), ∀ a x, ((![v4072, v4200] : Fin 2 → IVec S16 32) a x).toNat < S16x64.size a := fun v4072 v4200 k0_hw719 => k0_hw719.2

def k0_chk720 (v4072 : IVec S16 32) (v4209 : IVec S16 32) : Prop :=
  (∀ a x, ((![v4072, v4209] : Fin 2 → IVec S16 32) a x).toNat < S16x64.size a) ∧
  (∀ a x, ((![v4072, v4209] : Fin 2 → IVec S16 32) a x).toNat < S16x64.size a)
theorem k0_idx927_inb : ∀ (v4072 : IVec S16 32) (v4209 : IVec S16 32) (k0_hw720 : k0_chk720 v4072 v4209), ∀ a x, ((![v4072, v4209] : Fin 2 → IVec S16 32) a x).toNat < S16x64.size a := fun v4072 v4209 k0_hw720 => k0_hw720.1
theorem k0_idx928_inb : ∀ (v4072 : IVec S16 32) (v4209 : IVec S16 32) (k0_hw720 : k0_chk720 v4072 v4209), ∀ a x, ((![v4072, v4209] : Fin 2 → IVec S16 32) a x).toNat < S16x64.size a := fun v4072 v4209 k0_hw720 => k0_hw720.2

def k0_chk721 (v4072 : IVec S16 32) (v4218 : IVec S16 32) : Prop :=
  (∀ a x, ((![v4072, v4218] : Fin 2 → IVec S16 32) a x).toNat < S16x64.size a) ∧
  (∀ a x, ((![v4072, v4218] : Fin 2 → IVec S16 32) a x).toNat < S16x64.size a)
theorem k0_idx929_inb : ∀ (v4072 : IVec S16 32) (v4218 : IVec S16 32) (k0_hw721 : k0_chk721 v4072 v4218), ∀ a x, ((![v4072, v4218] : Fin 2 → IVec S16 32) a x).toNat < S16x64.size a := fun v4072 v4218 k0_hw721 => k0_hw721.1
theorem k0_idx930_inb : ∀ (v4072 : IVec S16 32) (v4218 : IVec S16 32) (k0_hw721 : k0_chk721 v4072 v4218), ∀ a x, ((![v4072, v4218] : Fin 2 → IVec S16 32) a x).toNat < S16x64.size a := fun v4072 v4218 k0_hw721 => k0_hw721.2

def k0_chk722 (v4072 : IVec S16 32) (v4227 : IVec S16 32) : Prop :=
  (∀ a x, ((![v4072, v4227] : Fin 2 → IVec S16 32) a x).toNat < S16x64.size a) ∧
  (∀ a x, ((![v4072, v4227] : Fin 2 → IVec S16 32) a x).toNat < S16x64.size a)
theorem k0_idx931_inb : ∀ (v4072 : IVec S16 32) (v4227 : IVec S16 32) (k0_hw722 : k0_chk722 v4072 v4227), ∀ a x, ((![v4072, v4227] : Fin 2 → IVec S16 32) a x).toNat < S16x64.size a := fun v4072 v4227 k0_hw722 => k0_hw722.1
theorem k0_idx932_inb : ∀ (v4072 : IVec S16 32) (v4227 : IVec S16 32) (k0_hw722 : k0_chk722 v4072 v4227), ∀ a x, ((![v4072, v4227] : Fin 2 → IVec S16 32) a x).toNat < S16x64.size a := fun v4072 v4227 k0_hw722 => k0_hw722.2

def k0_chk723 (v4072 : IVec S16 32) (v4236 : IVec S16 32) : Prop :=
  (∀ a x, ((![v4072, v4236] : Fin 2 → IVec S16 32) a x).toNat < S16x64.size a) ∧
  (∀ a x, ((![v4072, v4236] : Fin 2 → IVec S16 32) a x).toNat < S16x64.size a)
theorem k0_idx933_inb : ∀ (v4072 : IVec S16 32) (v4236 : IVec S16 32) (k0_hw723 : k0_chk723 v4072 v4236), ∀ a x, ((![v4072, v4236] : Fin 2 → IVec S16 32) a x).toNat < S16x64.size a := fun v4072 v4236 k0_hw723 => k0_hw723.1
theorem k0_idx934_inb : ∀ (v4072 : IVec S16 32) (v4236 : IVec S16 32) (k0_hw723 : k0_chk723 v4072 v4236), ∀ a x, ((![v4072, v4236] : Fin 2 → IVec S16 32) a x).toNat < S16x64.size a := fun v4072 v4236 k0_hw723 => k0_hw723.2

def k0_chk724 (v4072 : IVec S16 32) (v4245 : IVec S16 32) : Prop :=
  (∀ a x, ((![v4072, v4245] : Fin 2 → IVec S16 32) a x).toNat < S16x64.size a) ∧
  (∀ a x, ((![v4072, v4245] : Fin 2 → IVec S16 32) a x).toNat < S16x64.size a)
theorem k0_idx935_inb : ∀ (v4072 : IVec S16 32) (v4245 : IVec S16 32) (k0_hw724 : k0_chk724 v4072 v4245), ∀ a x, ((![v4072, v4245] : Fin 2 → IVec S16 32) a x).toNat < S16x64.size a := fun v4072 v4245 k0_hw724 => k0_hw724.1
theorem k0_idx936_inb : ∀ (v4072 : IVec S16 32) (v4245 : IVec S16 32) (k0_hw724 : k0_chk724 v4072 v4245), ∀ a x, ((![v4072, v4245] : Fin 2 → IVec S16 32) a x).toNat < S16x64.size a := fun v4072 v4245 k0_hw724 => k0_hw724.2

def k0_chk725 (v4072 : IVec S16 32) (v4254 : IVec S16 32) : Prop :=
  (∀ a x, ((![v4072, v4254] : Fin 2 → IVec S16 32) a x).toNat < S16x64.size a) ∧
  (∀ a x, ((![v4072, v4254] : Fin 2 → IVec S16 32) a x).toNat < S16x64.size a)
theorem k0_idx937_inb : ∀ (v4072 : IVec S16 32) (v4254 : IVec S16 32) (k0_hw725 : k0_chk725 v4072 v4254), ∀ a x, ((![v4072, v4254] : Fin 2 → IVec S16 32) a x).toNat < S16x64.size a := fun v4072 v4254 k0_hw725 => k0_hw725.1
theorem k0_idx938_inb : ∀ (v4072 : IVec S16 32) (v4254 : IVec S16 32) (k0_hw725 : k0_chk725 v4072 v4254), ∀ a x, ((![v4072, v4254] : Fin 2 → IVec S16 32) a x).toNat < S16x64.size a := fun v4072 v4254 k0_hw725 => k0_hw725.2

def k0_chk726 (v4072 : IVec S16 32) (v4263 : IVec S16 32) : Prop :=
  (∀ a x, ((![v4072, v4263] : Fin 2 → IVec S16 32) a x).toNat < S16x64.size a) ∧
  (∀ a x, ((![v4072, v4263] : Fin 2 → IVec S16 32) a x).toNat < S16x64.size a)
theorem k0_idx939_inb : ∀ (v4072 : IVec S16 32) (v4263 : IVec S16 32) (k0_hw726 : k0_chk726 v4072 v4263), ∀ a x, ((![v4072, v4263] : Fin 2 → IVec S16 32) a x).toNat < S16x64.size a := fun v4072 v4263 k0_hw726 => k0_hw726.1
theorem k0_idx940_inb : ∀ (v4072 : IVec S16 32) (v4263 : IVec S16 32) (k0_hw726 : k0_chk726 v4072 v4263), ∀ a x, ((![v4072, v4263] : Fin 2 → IVec S16 32) a x).toNat < S16x64.size a := fun v4072 v4263 k0_hw726 => k0_hw726.2

def k0_chk727 (v4072 : IVec S16 32) (v4272 : IVec S16 32) : Prop :=
  (∀ a x, ((![v4072, v4272] : Fin 2 → IVec S16 32) a x).toNat < S16x64.size a) ∧
  (∀ a x, ((![v4072, v4272] : Fin 2 → IVec S16 32) a x).toNat < S16x64.size a)
theorem k0_idx941_inb : ∀ (v4072 : IVec S16 32) (v4272 : IVec S16 32) (k0_hw727 : k0_chk727 v4072 v4272), ∀ a x, ((![v4072, v4272] : Fin 2 → IVec S16 32) a x).toNat < S16x64.size a := fun v4072 v4272 k0_hw727 => k0_hw727.1
theorem k0_idx942_inb : ∀ (v4072 : IVec S16 32) (v4272 : IVec S16 32) (k0_hw727 : k0_chk727 v4072 v4272), ∀ a x, ((![v4072, v4272] : Fin 2 → IVec S16 32) a x).toNat < S16x64.size a := fun v4072 v4272 k0_hw727 => k0_hw727.2

def k0_chk728 (v4072 : IVec S16 32) (v4281 : IVec S16 32) : Prop :=
  (∀ a x, ((![v4072, v4281] : Fin 2 → IVec S16 32) a x).toNat < S16x64.size a) ∧
  (∀ a x, ((![v4072, v4281] : Fin 2 → IVec S16 32) a x).toNat < S16x64.size a)
theorem k0_idx943_inb : ∀ (v4072 : IVec S16 32) (v4281 : IVec S16 32) (k0_hw728 : k0_chk728 v4072 v4281), ∀ a x, ((![v4072, v4281] : Fin 2 → IVec S16 32) a x).toNat < S16x64.size a := fun v4072 v4281 k0_hw728 => k0_hw728.1
theorem k0_idx944_inb : ∀ (v4072 : IVec S16 32) (v4281 : IVec S16 32) (k0_hw728 : k0_chk728 v4072 v4281), ∀ a x, ((![v4072, v4281] : Fin 2 → IVec S16 32) a x).toNat < S16x64.size a := fun v4072 v4281 k0_hw728 => k0_hw728.2

def k0_chk729 (v4072 : IVec S16 32) (v4290 : IVec S16 32) : Prop :=
  (∀ a x, ((![v4072, v4290] : Fin 2 → IVec S16 32) a x).toNat < S16x64.size a) ∧
  (∀ a x, ((![v4072, v4290] : Fin 2 → IVec S16 32) a x).toNat < S16x64.size a)
theorem k0_idx945_inb : ∀ (v4072 : IVec S16 32) (v4290 : IVec S16 32) (k0_hw729 : k0_chk729 v4072 v4290), ∀ a x, ((![v4072, v4290] : Fin 2 → IVec S16 32) a x).toNat < S16x64.size a := fun v4072 v4290 k0_hw729 => k0_hw729.1
theorem k0_idx946_inb : ∀ (v4072 : IVec S16 32) (v4290 : IVec S16 32) (k0_hw729 : k0_chk729 v4072 v4290), ∀ a x, ((![v4072, v4290] : Fin 2 → IVec S16 32) a x).toNat < S16x64.size a := fun v4072 v4290 k0_hw729 => k0_hw729.2

def k0_chk730 (v4072 : IVec S16 32) (v4299 : IVec S16 32) : Prop :=
  (∀ a x, ((![v4072, v4299] : Fin 2 → IVec S16 32) a x).toNat < S16x64.size a) ∧
  (∀ a x, ((![v4072, v4299] : Fin 2 → IVec S16 32) a x).toNat < S16x64.size a)
theorem k0_idx947_inb : ∀ (v4072 : IVec S16 32) (v4299 : IVec S16 32) (k0_hw730 : k0_chk730 v4072 v4299), ∀ a x, ((![v4072, v4299] : Fin 2 → IVec S16 32) a x).toNat < S16x64.size a := fun v4072 v4299 k0_hw730 => k0_hw730.1
theorem k0_idx948_inb : ∀ (v4072 : IVec S16 32) (v4299 : IVec S16 32) (k0_hw730 : k0_chk730 v4072 v4299), ∀ a x, ((![v4072, v4299] : Fin 2 → IVec S16 32) a x).toNat < S16x64.size a := fun v4072 v4299 k0_hw730 => k0_hw730.2

def k0_chk731 (v4072 : IVec S16 32) (v4308 : IVec S16 32) : Prop :=
  (∀ a x, ((![v4072, v4308] : Fin 2 → IVec S16 32) a x).toNat < S16x64.size a) ∧
  (∀ a x, ((![v4072, v4308] : Fin 2 → IVec S16 32) a x).toNat < S16x64.size a)
theorem k0_idx949_inb : ∀ (v4072 : IVec S16 32) (v4308 : IVec S16 32) (k0_hw731 : k0_chk731 v4072 v4308), ∀ a x, ((![v4072, v4308] : Fin 2 → IVec S16 32) a x).toNat < S16x64.size a := fun v4072 v4308 k0_hw731 => k0_hw731.1
theorem k0_idx950_inb : ∀ (v4072 : IVec S16 32) (v4308 : IVec S16 32) (k0_hw731 : k0_chk731 v4072 v4308), ∀ a x, ((![v4072, v4308] : Fin 2 → IVec S16 32) a x).toNat < S16x64.size a := fun v4072 v4308 k0_hw731 => k0_hw731.2

def k0_chk732 (v4072 : IVec S16 32) (v4317 : IVec S16 32) : Prop :=
  (∀ a x, ((![v4072, v4317] : Fin 2 → IVec S16 32) a x).toNat < S16x64.size a) ∧
  (∀ a x, ((![v4072, v4317] : Fin 2 → IVec S16 32) a x).toNat < S16x64.size a)
theorem k0_idx951_inb : ∀ (v4072 : IVec S16 32) (v4317 : IVec S16 32) (k0_hw732 : k0_chk732 v4072 v4317), ∀ a x, ((![v4072, v4317] : Fin 2 → IVec S16 32) a x).toNat < S16x64.size a := fun v4072 v4317 k0_hw732 => k0_hw732.1
theorem k0_idx952_inb : ∀ (v4072 : IVec S16 32) (v4317 : IVec S16 32) (k0_hw732 : k0_chk732 v4072 v4317), ∀ a x, ((![v4072, v4317] : Fin 2 → IVec S16 32) a x).toNat < S16x64.size a := fun v4072 v4317 k0_hw732 => k0_hw732.2

def k0_chk733 (v4072 : IVec S16 32) (v4326 : IVec S16 32) : Prop :=
  (∀ a x, ((![v4072, v4326] : Fin 2 → IVec S16 32) a x).toNat < S16x64.size a) ∧
  (∀ a x, ((![v4072, v4326] : Fin 2 → IVec S16 32) a x).toNat < S16x64.size a)
theorem k0_idx953_inb : ∀ (v4072 : IVec S16 32) (v4326 : IVec S16 32) (k0_hw733 : k0_chk733 v4072 v4326), ∀ a x, ((![v4072, v4326] : Fin 2 → IVec S16 32) a x).toNat < S16x64.size a := fun v4072 v4326 k0_hw733 => k0_hw733.1
theorem k0_idx954_inb : ∀ (v4072 : IVec S16 32) (v4326 : IVec S16 32) (k0_hw733 : k0_chk733 v4072 v4326), ∀ a x, ((![v4072, v4326] : Fin 2 → IVec S16 32) a x).toNat < S16x64.size a := fun v4072 v4326 k0_hw733 => k0_hw733.2

def k0_chk734 (v4072 : IVec S16 32) (v4335 : IVec S16 32) : Prop :=
  (∀ a x, ((![v4072, v4335] : Fin 2 → IVec S16 32) a x).toNat < S16x64.size a) ∧
  (∀ a x, ((![v4072, v4335] : Fin 2 → IVec S16 32) a x).toNat < S16x64.size a)
theorem k0_idx955_inb : ∀ (v4072 : IVec S16 32) (v4335 : IVec S16 32) (k0_hw734 : k0_chk734 v4072 v4335), ∀ a x, ((![v4072, v4335] : Fin 2 → IVec S16 32) a x).toNat < S16x64.size a := fun v4072 v4335 k0_hw734 => k0_hw734.1
theorem k0_idx956_inb : ∀ (v4072 : IVec S16 32) (v4335 : IVec S16 32) (k0_hw734 : k0_chk734 v4072 v4335), ∀ a x, ((![v4072, v4335] : Fin 2 → IVec S16 32) a x).toNat < S16x64.size a := fun v4072 v4335 k0_hw734 => k0_hw734.2

def k0_chk735 (v4072 : IVec S16 32) (v4344 : IVec S16 32) : Prop :=
  (∀ a x, ((![v4072, v4344] : Fin 2 → IVec S16 32) a x).toNat < S16x64.size a) ∧
  (∀ a x, ((![v4072, v4344] : Fin 2 → IVec S16 32) a x).toNat < S16x64.size a)
theorem k0_idx957_inb : ∀ (v4072 : IVec S16 32) (v4344 : IVec S16 32) (k0_hw735 : k0_chk735 v4072 v4344), ∀ a x, ((![v4072, v4344] : Fin 2 → IVec S16 32) a x).toNat < S16x64.size a := fun v4072 v4344 k0_hw735 => k0_hw735.1
theorem k0_idx958_inb : ∀ (v4072 : IVec S16 32) (v4344 : IVec S16 32) (k0_hw735 : k0_chk735 v4072 v4344), ∀ a x, ((![v4072, v4344] : Fin 2 → IVec S16 32) a x).toNat < S16x64.size a := fun v4072 v4344 k0_hw735 => k0_hw735.2

def k0_chk736 (v4072 : IVec S16 32) (v4353 : IVec S16 32) : Prop :=
  (∀ a x, ((![v4072, v4353] : Fin 2 → IVec S16 32) a x).toNat < S16x64.size a) ∧
  (∀ a x, ((![v4072, v4353] : Fin 2 → IVec S16 32) a x).toNat < S16x64.size a)
theorem k0_idx959_inb : ∀ (v4072 : IVec S16 32) (v4353 : IVec S16 32) (k0_hw736 : k0_chk736 v4072 v4353), ∀ a x, ((![v4072, v4353] : Fin 2 → IVec S16 32) a x).toNat < S16x64.size a := fun v4072 v4353 k0_hw736 => k0_hw736.1
theorem k0_idx960_inb : ∀ (v4072 : IVec S16 32) (v4353 : IVec S16 32) (k0_hw736 : k0_chk736 v4072 v4353), ∀ a x, ((![v4072, v4353] : Fin 2 → IVec S16 32) a x).toNat < S16x64.size a := fun v4072 v4353 k0_hw736 => k0_hw736.2

def k0_chk737 (v4072 : IVec S16 32) (v4362 : IVec S16 32) : Prop :=
  (∀ a x, ((![v4072, v4362] : Fin 2 → IVec S16 32) a x).toNat < S16x64.size a) ∧
  (∀ a x, ((![v4072, v4362] : Fin 2 → IVec S16 32) a x).toNat < S16x64.size a)
theorem k0_idx961_inb : ∀ (v4072 : IVec S16 32) (v4362 : IVec S16 32) (k0_hw737 : k0_chk737 v4072 v4362), ∀ a x, ((![v4072, v4362] : Fin 2 → IVec S16 32) a x).toNat < S16x64.size a := fun v4072 v4362 k0_hw737 => k0_hw737.1
theorem k0_idx962_inb : ∀ (v4072 : IVec S16 32) (v4362 : IVec S16 32) (k0_hw737 : k0_chk737 v4072 v4362), ∀ a x, ((![v4072, v4362] : Fin 2 → IVec S16 32) a x).toNat < S16x64.size a := fun v4072 v4362 k0_hw737 => k0_hw737.2

def k0_chk738 (v4072 : IVec S16 32) (v4371 : IVec S16 32) : Prop :=
  (∀ a x, ((![v4072, v4371] : Fin 2 → IVec S16 32) a x).toNat < S16x64.size a) ∧
  (∀ a x, ((![v4072, v4371] : Fin 2 → IVec S16 32) a x).toNat < S16x64.size a)
theorem k0_idx963_inb : ∀ (v4072 : IVec S16 32) (v4371 : IVec S16 32) (k0_hw738 : k0_chk738 v4072 v4371), ∀ a x, ((![v4072, v4371] : Fin 2 → IVec S16 32) a x).toNat < S16x64.size a := fun v4072 v4371 k0_hw738 => k0_hw738.1
theorem k0_idx964_inb : ∀ (v4072 : IVec S16 32) (v4371 : IVec S16 32) (k0_hw738 : k0_chk738 v4072 v4371), ∀ a x, ((![v4072, v4371] : Fin 2 → IVec S16 32) a x).toNat < S16x64.size a := fun v4072 v4371 k0_hw738 => k0_hw738.2

def k0_chk739 (v4072 : IVec S16 32) (v4380 : IVec S16 32) : Prop :=
  (∀ a x, ((![v4072, v4380] : Fin 2 → IVec S16 32) a x).toNat < S16x64.size a) ∧
  (∀ a x, ((![v4072, v4380] : Fin 2 → IVec S16 32) a x).toNat < S16x64.size a)
theorem k0_idx965_inb : ∀ (v4072 : IVec S16 32) (v4380 : IVec S16 32) (k0_hw739 : k0_chk739 v4072 v4380), ∀ a x, ((![v4072, v4380] : Fin 2 → IVec S16 32) a x).toNat < S16x64.size a := fun v4072 v4380 k0_hw739 => k0_hw739.1
theorem k0_idx966_inb : ∀ (v4072 : IVec S16 32) (v4380 : IVec S16 32) (k0_hw739 : k0_chk739 v4072 v4380), ∀ a x, ((![v4072, v4380] : Fin 2 → IVec S16 32) a x).toNat < S16x64.size a := fun v4072 v4380 k0_hw739 => k0_hw739.2

def k0_chk740 (v4072 : IVec S16 32) (v4389 : IVec S16 32) : Prop :=
  (∀ a x, ((![v4072, v4389] : Fin 2 → IVec S16 32) a x).toNat < S16x64.size a) ∧
  (∀ a x, ((![v4072, v4389] : Fin 2 → IVec S16 32) a x).toNat < S16x64.size a)
theorem k0_idx967_inb : ∀ (v4072 : IVec S16 32) (v4389 : IVec S16 32) (k0_hw740 : k0_chk740 v4072 v4389), ∀ a x, ((![v4072, v4389] : Fin 2 → IVec S16 32) a x).toNat < S16x64.size a := fun v4072 v4389 k0_hw740 => k0_hw740.1
theorem k0_idx968_inb : ∀ (v4072 : IVec S16 32) (v4389 : IVec S16 32) (k0_hw740 : k0_chk740 v4072 v4389), ∀ a x, ((![v4072, v4389] : Fin 2 → IVec S16 32) a x).toNat < S16x64.size a := fun v4072 v4389 k0_hw740 => k0_hw740.2

def k0_chk741 (v4072 : IVec S16 32) (v4398 : IVec S16 32) : Prop :=
  (∀ a x, ((![v4072, v4398] : Fin 2 → IVec S16 32) a x).toNat < S16x64.size a) ∧
  (∀ a x, ((![v4072, v4398] : Fin 2 → IVec S16 32) a x).toNat < S16x64.size a)
theorem k0_idx969_inb : ∀ (v4072 : IVec S16 32) (v4398 : IVec S16 32) (k0_hw741 : k0_chk741 v4072 v4398), ∀ a x, ((![v4072, v4398] : Fin 2 → IVec S16 32) a x).toNat < S16x64.size a := fun v4072 v4398 k0_hw741 => k0_hw741.1
theorem k0_idx970_inb : ∀ (v4072 : IVec S16 32) (v4398 : IVec S16 32) (k0_hw741 : k0_chk741 v4072 v4398), ∀ a x, ((![v4072, v4398] : Fin 2 → IVec S16 32) a x).toNat < S16x64.size a := fun v4072 v4398 k0_hw741 => k0_hw741.2

def k0_chk742 (v4072 : IVec S16 32) (v4407 : IVec S16 32) : Prop :=
  (∀ a x, ((![v4072, v4407] : Fin 2 → IVec S16 32) a x).toNat < S16x64.size a) ∧
  (∀ a x, ((![v4072, v4407] : Fin 2 → IVec S16 32) a x).toNat < S16x64.size a)
theorem k0_idx971_inb : ∀ (v4072 : IVec S16 32) (v4407 : IVec S16 32) (k0_hw742 : k0_chk742 v4072 v4407), ∀ a x, ((![v4072, v4407] : Fin 2 → IVec S16 32) a x).toNat < S16x64.size a := fun v4072 v4407 k0_hw742 => k0_hw742.1
theorem k0_idx972_inb : ∀ (v4072 : IVec S16 32) (v4407 : IVec S16 32) (k0_hw742 : k0_chk742 v4072 v4407), ∀ a x, ((![v4072, v4407] : Fin 2 → IVec S16 32) a x).toNat < S16x64.size a := fun v4072 v4407 k0_hw742 => k0_hw742.2

def k0_chk743 (v4072 : IVec S16 32) (v4416 : IVec S16 32) : Prop :=
  (∀ a x, ((![v4072, v4416] : Fin 2 → IVec S16 32) a x).toNat < S16x64.size a) ∧
  (∀ a x, ((![v4072, v4416] : Fin 2 → IVec S16 32) a x).toNat < S16x64.size a)
theorem k0_idx973_inb : ∀ (v4072 : IVec S16 32) (v4416 : IVec S16 32) (k0_hw743 : k0_chk743 v4072 v4416), ∀ a x, ((![v4072, v4416] : Fin 2 → IVec S16 32) a x).toNat < S16x64.size a := fun v4072 v4416 k0_hw743 => k0_hw743.1
theorem k0_idx974_inb : ∀ (v4072 : IVec S16 32) (v4416 : IVec S16 32) (k0_hw743 : k0_chk743 v4072 v4416), ∀ a x, ((![v4072, v4416] : Fin 2 → IVec S16 32) a x).toNat < S16x64.size a := fun v4072 v4416 k0_hw743 => k0_hw743.2

def k0_chk744 (v4072 : IVec S16 32) (v4425 : IVec S16 32) : Prop :=
  (∀ a x, ((![v4072, v4425] : Fin 2 → IVec S16 32) a x).toNat < S16x64.size a) ∧
  (∀ a x, ((![v4072, v4425] : Fin 2 → IVec S16 32) a x).toNat < S16x64.size a)
theorem k0_idx975_inb : ∀ (v4072 : IVec S16 32) (v4425 : IVec S16 32) (k0_hw744 : k0_chk744 v4072 v4425), ∀ a x, ((![v4072, v4425] : Fin 2 → IVec S16 32) a x).toNat < S16x64.size a := fun v4072 v4425 k0_hw744 => k0_hw744.1
theorem k0_idx976_inb : ∀ (v4072 : IVec S16 32) (v4425 : IVec S16 32) (k0_hw744 : k0_chk744 v4072 v4425), ∀ a x, ((![v4072, v4425] : Fin 2 → IVec S16 32) a x).toNat < S16x64.size a := fun v4072 v4425 k0_hw744 => k0_hw744.2

def k0_chk745 (v4072 : IVec S16 32) (v4434 : IVec S16 32) : Prop :=
  (∀ a x, ((![v4072, v4434] : Fin 2 → IVec S16 32) a x).toNat < S16x64.size a) ∧
  (∀ a x, ((![v4072, v4434] : Fin 2 → IVec S16 32) a x).toNat < S16x64.size a)
theorem k0_idx977_inb : ∀ (v4072 : IVec S16 32) (v4434 : IVec S16 32) (k0_hw745 : k0_chk745 v4072 v4434), ∀ a x, ((![v4072, v4434] : Fin 2 → IVec S16 32) a x).toNat < S16x64.size a := fun v4072 v4434 k0_hw745 => k0_hw745.1
theorem k0_idx978_inb : ∀ (v4072 : IVec S16 32) (v4434 : IVec S16 32) (k0_hw745 : k0_chk745 v4072 v4434), ∀ a x, ((![v4072, v4434] : Fin 2 → IVec S16 32) a x).toNat < S16x64.size a := fun v4072 v4434 k0_hw745 => k0_hw745.2

def k0_chk746 (v4072 : IVec S16 32) (v4443 : IVec S16 32) : Prop :=
  (∀ a x, ((![v4072, v4443] : Fin 2 → IVec S16 32) a x).toNat < S16x64.size a) ∧
  (∀ a x, ((![v4072, v4443] : Fin 2 → IVec S16 32) a x).toNat < S16x64.size a)
theorem k0_idx979_inb : ∀ (v4072 : IVec S16 32) (v4443 : IVec S16 32) (k0_hw746 : k0_chk746 v4072 v4443), ∀ a x, ((![v4072, v4443] : Fin 2 → IVec S16 32) a x).toNat < S16x64.size a := fun v4072 v4443 k0_hw746 => k0_hw746.1
theorem k0_idx980_inb : ∀ (v4072 : IVec S16 32) (v4443 : IVec S16 32) (k0_hw746 : k0_chk746 v4072 v4443), ∀ a x, ((![v4072, v4443] : Fin 2 → IVec S16 32) a x).toNat < S16x64.size a := fun v4072 v4443 k0_hw746 => k0_hw746.2

def k0_chk747 (v4072 : IVec S16 32) (v4452 : IVec S16 32) : Prop :=
  (∀ a x, ((![v4072, v4452] : Fin 2 → IVec S16 32) a x).toNat < S16x64.size a) ∧
  (∀ a x, ((![v4072, v4452] : Fin 2 → IVec S16 32) a x).toNat < S16x64.size a)
theorem k0_idx981_inb : ∀ (v4072 : IVec S16 32) (v4452 : IVec S16 32) (k0_hw747 : k0_chk747 v4072 v4452), ∀ a x, ((![v4072, v4452] : Fin 2 → IVec S16 32) a x).toNat < S16x64.size a := fun v4072 v4452 k0_hw747 => k0_hw747.1
theorem k0_idx982_inb : ∀ (v4072 : IVec S16 32) (v4452 : IVec S16 32) (k0_hw747 : k0_chk747 v4072 v4452), ∀ a x, ((![v4072, v4452] : Fin 2 → IVec S16 32) a x).toNat < S16x64.size a := fun v4072 v4452 k0_hw747 => k0_hw747.2

def k0_chk748 (v4072 : IVec S16 32) (v4461 : IVec S16 32) : Prop :=
  (∀ a x, ((![v4072, v4461] : Fin 2 → IVec S16 32) a x).toNat < S16x64.size a) ∧
  (∀ a x, ((![v4072, v4461] : Fin 2 → IVec S16 32) a x).toNat < S16x64.size a)
theorem k0_idx983_inb : ∀ (v4072 : IVec S16 32) (v4461 : IVec S16 32) (k0_hw748 : k0_chk748 v4072 v4461), ∀ a x, ((![v4072, v4461] : Fin 2 → IVec S16 32) a x).toNat < S16x64.size a := fun v4072 v4461 k0_hw748 => k0_hw748.1
theorem k0_idx984_inb : ∀ (v4072 : IVec S16 32) (v4461 : IVec S16 32) (k0_hw748 : k0_chk748 v4072 v4461), ∀ a x, ((![v4072, v4461] : Fin 2 → IVec S16 32) a x).toNat < S16x64.size a := fun v4072 v4461 k0_hw748 => k0_hw748.2

def k0_chk749 (v4072 : IVec S16 32) (v4470 : IVec S16 32) : Prop :=
  (∀ a x, ((![v4072, v4470] : Fin 2 → IVec S16 32) a x).toNat < S16x64.size a) ∧
  (∀ a x, ((![v4072, v4470] : Fin 2 → IVec S16 32) a x).toNat < S16x64.size a)
theorem k0_idx985_inb : ∀ (v4072 : IVec S16 32) (v4470 : IVec S16 32) (k0_hw749 : k0_chk749 v4072 v4470), ∀ a x, ((![v4072, v4470] : Fin 2 → IVec S16 32) a x).toNat < S16x64.size a := fun v4072 v4470 k0_hw749 => k0_hw749.1
theorem k0_idx986_inb : ∀ (v4072 : IVec S16 32) (v4470 : IVec S16 32) (k0_hw749 : k0_chk749 v4072 v4470), ∀ a x, ((![v4072, v4470] : Fin 2 → IVec S16 32) a x).toNat < S16x64.size a := fun v4072 v4470 k0_hw749 => k0_hw749.2

def k0_chk750 (v4072 : IVec S16 32) (v4479 : IVec S16 32) : Prop :=
  (∀ a x, ((![v4072, v4479] : Fin 2 → IVec S16 32) a x).toNat < S16x64.size a) ∧
  (∀ a x, ((![v4072, v4479] : Fin 2 → IVec S16 32) a x).toNat < S16x64.size a)
theorem k0_idx987_inb : ∀ (v4072 : IVec S16 32) (v4479 : IVec S16 32) (k0_hw750 : k0_chk750 v4072 v4479), ∀ a x, ((![v4072, v4479] : Fin 2 → IVec S16 32) a x).toNat < S16x64.size a := fun v4072 v4479 k0_hw750 => k0_hw750.1
theorem k0_idx988_inb : ∀ (v4072 : IVec S16 32) (v4479 : IVec S16 32) (k0_hw750 : k0_chk750 v4072 v4479), ∀ a x, ((![v4072, v4479] : Fin 2 → IVec S16 32) a x).toNat < S16x64.size a := fun v4072 v4479 k0_hw750 => k0_hw750.2

def k0_chk751 (v4072 : IVec S16 32) (v4488 : IVec S16 32) : Prop :=
  (∀ a x, ((![v4072, v4488] : Fin 2 → IVec S16 32) a x).toNat < S16x64.size a) ∧
  (∀ a x, ((![v4072, v4488] : Fin 2 → IVec S16 32) a x).toNat < S16x64.size a)
theorem k0_idx989_inb : ∀ (v4072 : IVec S16 32) (v4488 : IVec S16 32) (k0_hw751 : k0_chk751 v4072 v4488), ∀ a x, ((![v4072, v4488] : Fin 2 → IVec S16 32) a x).toNat < S16x64.size a := fun v4072 v4488 k0_hw751 => k0_hw751.1
theorem k0_idx990_inb : ∀ (v4072 : IVec S16 32) (v4488 : IVec S16 32) (k0_hw751 : k0_chk751 v4072 v4488), ∀ a x, ((![v4072, v4488] : Fin 2 → IVec S16 32) a x).toNat < S16x64.size a := fun v4072 v4488 k0_hw751 => k0_hw751.2

def k0_chk752 (v4072 : IVec S16 32) (v4497 : IVec S16 32) : Prop :=
  (∀ a x, ((![v4072, v4497] : Fin 2 → IVec S16 32) a x).toNat < S16x64.size a) ∧
  (∀ a x, ((![v4072, v4497] : Fin 2 → IVec S16 32) a x).toNat < S16x64.size a)
theorem k0_idx991_inb : ∀ (v4072 : IVec S16 32) (v4497 : IVec S16 32) (k0_hw752 : k0_chk752 v4072 v4497), ∀ a x, ((![v4072, v4497] : Fin 2 → IVec S16 32) a x).toNat < S16x64.size a := fun v4072 v4497 k0_hw752 => k0_hw752.1
theorem k0_idx992_inb : ∀ (v4072 : IVec S16 32) (v4497 : IVec S16 32) (k0_hw752 : k0_chk752 v4072 v4497), ∀ a x, ((![v4072, v4497] : Fin 2 → IVec S16 32) a x).toNat < S16x64.size a := fun v4072 v4497 k0_hw752 => k0_hw752.2

def k0_chk753 (v4072 : IVec S16 32) (v4506 : IVec S16 32) : Prop :=
  (∀ a x, ((![v4072, v4506] : Fin 2 → IVec S16 32) a x).toNat < S16x64.size a) ∧
  (∀ a x, ((![v4072, v4506] : Fin 2 → IVec S16 32) a x).toNat < S16x64.size a)
theorem k0_idx993_inb : ∀ (v4072 : IVec S16 32) (v4506 : IVec S16 32) (k0_hw753 : k0_chk753 v4072 v4506), ∀ a x, ((![v4072, v4506] : Fin 2 → IVec S16 32) a x).toNat < S16x64.size a := fun v4072 v4506 k0_hw753 => k0_hw753.1
theorem k0_idx994_inb : ∀ (v4072 : IVec S16 32) (v4506 : IVec S16 32) (k0_hw753 : k0_chk753 v4072 v4506), ∀ a x, ((![v4072, v4506] : Fin 2 → IVec S16 32) a x).toNat < S16x64.size a := fun v4072 v4506 k0_hw753 => k0_hw753.2

def k0_chk754 (v4072 : IVec S16 32) (v4515 : IVec S16 32) : Prop :=
  (∀ a x, ((![v4072, v4515] : Fin 2 → IVec S16 32) a x).toNat < S16x64.size a) ∧
  (∀ a x, ((![v4072, v4515] : Fin 2 → IVec S16 32) a x).toNat < S16x64.size a)
theorem k0_idx995_inb : ∀ (v4072 : IVec S16 32) (v4515 : IVec S16 32) (k0_hw754 : k0_chk754 v4072 v4515), ∀ a x, ((![v4072, v4515] : Fin 2 → IVec S16 32) a x).toNat < S16x64.size a := fun v4072 v4515 k0_hw754 => k0_hw754.1
theorem k0_idx996_inb : ∀ (v4072 : IVec S16 32) (v4515 : IVec S16 32) (k0_hw754 : k0_chk754 v4072 v4515), ∀ a x, ((![v4072, v4515] : Fin 2 → IVec S16 32) a x).toNat < S16x64.size a := fun v4072 v4515 k0_hw754 => k0_hw754.2

def k0_chk755 (v4072 : IVec S16 32) (v4524 : IVec S16 32) : Prop :=
  (∀ a x, ((![v4072, v4524] : Fin 2 → IVec S16 32) a x).toNat < S16x64.size a) ∧
  (∀ a x, ((![v4072, v4524] : Fin 2 → IVec S16 32) a x).toNat < S16x64.size a)
theorem k0_idx997_inb : ∀ (v4072 : IVec S16 32) (v4524 : IVec S16 32) (k0_hw755 : k0_chk755 v4072 v4524), ∀ a x, ((![v4072, v4524] : Fin 2 → IVec S16 32) a x).toNat < S16x64.size a := fun v4072 v4524 k0_hw755 => k0_hw755.1
theorem k0_idx998_inb : ∀ (v4072 : IVec S16 32) (v4524 : IVec S16 32) (k0_hw755 : k0_chk755 v4072 v4524), ∀ a x, ((![v4072, v4524] : Fin 2 → IVec S16 32) a x).toNat < S16x64.size a := fun v4072 v4524 k0_hw755 => k0_hw755.2

def k0_chk756 (v4072 : IVec S16 32) (v4533 : IVec S16 32) : Prop :=
  (∀ a x, ((![v4072, v4533] : Fin 2 → IVec S16 32) a x).toNat < S16x64.size a) ∧
  (∀ a x, ((![v4072, v4533] : Fin 2 → IVec S16 32) a x).toNat < S16x64.size a)
theorem k0_idx999_inb : ∀ (v4072 : IVec S16 32) (v4533 : IVec S16 32) (k0_hw756 : k0_chk756 v4072 v4533), ∀ a x, ((![v4072, v4533] : Fin 2 → IVec S16 32) a x).toNat < S16x64.size a := fun v4072 v4533 k0_hw756 => k0_hw756.1
theorem k0_idx1000_inb : ∀ (v4072 : IVec S16 32) (v4533 : IVec S16 32) (k0_hw756 : k0_chk756 v4072 v4533), ∀ a x, ((![v4072, v4533] : Fin 2 → IVec S16 32) a x).toNat < S16x64.size a := fun v4072 v4533 k0_hw756 => k0_hw756.2

def k0_chk757 (v4072 : IVec S16 32) (v4542 : IVec S16 32) : Prop :=
  (∀ a x, ((![v4072, v4542] : Fin 2 → IVec S16 32) a x).toNat < S16x64.size a) ∧
  (∀ a x, ((![v4072, v4542] : Fin 2 → IVec S16 32) a x).toNat < S16x64.size a)
theorem k0_idx1001_inb : ∀ (v4072 : IVec S16 32) (v4542 : IVec S16 32) (k0_hw757 : k0_chk757 v4072 v4542), ∀ a x, ((![v4072, v4542] : Fin 2 → IVec S16 32) a x).toNat < S16x64.size a := fun v4072 v4542 k0_hw757 => k0_hw757.1
theorem k0_idx1002_inb : ∀ (v4072 : IVec S16 32) (v4542 : IVec S16 32) (k0_hw757 : k0_chk757 v4072 v4542), ∀ a x, ((![v4072, v4542] : Fin 2 → IVec S16 32) a x).toNat < S16x64.size a := fun v4072 v4542 k0_hw757 => k0_hw757.2

def k0_chk758 (v4072 : IVec S16 32) (v4551 : IVec S16 32) : Prop :=
  (∀ a x, ((![v4072, v4551] : Fin 2 → IVec S16 32) a x).toNat < S16x64.size a) ∧
  (∀ a x, ((![v4072, v4551] : Fin 2 → IVec S16 32) a x).toNat < S16x64.size a)
theorem k0_idx1003_inb : ∀ (v4072 : IVec S16 32) (v4551 : IVec S16 32) (k0_hw758 : k0_chk758 v4072 v4551), ∀ a x, ((![v4072, v4551] : Fin 2 → IVec S16 32) a x).toNat < S16x64.size a := fun v4072 v4551 k0_hw758 => k0_hw758.1
theorem k0_idx1004_inb : ∀ (v4072 : IVec S16 32) (v4551 : IVec S16 32) (k0_hw758 : k0_chk758 v4072 v4551), ∀ a x, ((![v4072, v4551] : Fin 2 → IVec S16 32) a x).toNat < S16x64.size a := fun v4072 v4551 k0_hw758 => k0_hw758.2

def k0_chk759 (v4072 : IVec S16 32) (v4560 : IVec S16 32) : Prop :=
  (∀ a x, ((![v4072, v4560] : Fin 2 → IVec S16 32) a x).toNat < S16x64.size a) ∧
  (∀ a x, ((![v4072, v4560] : Fin 2 → IVec S16 32) a x).toNat < S16x64.size a)
theorem k0_idx1005_inb : ∀ (v4072 : IVec S16 32) (v4560 : IVec S16 32) (k0_hw759 : k0_chk759 v4072 v4560), ∀ a x, ((![v4072, v4560] : Fin 2 → IVec S16 32) a x).toNat < S16x64.size a := fun v4072 v4560 k0_hw759 => k0_hw759.1
theorem k0_idx1006_inb : ∀ (v4072 : IVec S16 32) (v4560 : IVec S16 32) (k0_hw759 : k0_chk759 v4072 v4560), ∀ a x, ((![v4072, v4560] : Fin 2 → IVec S16 32) a x).toNat < S16x64.size a := fun v4072 v4560 k0_hw759 => k0_hw759.2

def k0_chk760 (v4072 : IVec S16 32) (v4569 : IVec S16 32) : Prop :=
  (∀ a x, ((![v4072, v4569] : Fin 2 → IVec S16 32) a x).toNat < S16x64.size a) ∧
  (∀ a x, ((![v4072, v4569] : Fin 2 → IVec S16 32) a x).toNat < S16x64.size a)
theorem k0_idx1007_inb : ∀ (v4072 : IVec S16 32) (v4569 : IVec S16 32) (k0_hw760 : k0_chk760 v4072 v4569), ∀ a x, ((![v4072, v4569] : Fin 2 → IVec S16 32) a x).toNat < S16x64.size a := fun v4072 v4569 k0_hw760 => k0_hw760.1
theorem k0_idx1008_inb : ∀ (v4072 : IVec S16 32) (v4569 : IVec S16 32) (k0_hw760 : k0_chk760 v4072 v4569), ∀ a x, ((![v4072, v4569] : Fin 2 → IVec S16 32) a x).toNat < S16x64.size a := fun v4072 v4569 k0_hw760 => k0_hw760.2

def k0_chk761 (v4072 : IVec S16 32) (v4578 : IVec S16 32) : Prop :=
  (∀ a x, ((![v4072, v4578] : Fin 2 → IVec S16 32) a x).toNat < S16x64.size a) ∧
  (∀ a x, ((![v4072, v4578] : Fin 2 → IVec S16 32) a x).toNat < S16x64.size a)
theorem k0_idx1009_inb : ∀ (v4072 : IVec S16 32) (v4578 : IVec S16 32) (k0_hw761 : k0_chk761 v4072 v4578), ∀ a x, ((![v4072, v4578] : Fin 2 → IVec S16 32) a x).toNat < S16x64.size a := fun v4072 v4578 k0_hw761 => k0_hw761.1
theorem k0_idx1010_inb : ∀ (v4072 : IVec S16 32) (v4578 : IVec S16 32) (k0_hw761 : k0_chk761 v4072 v4578), ∀ a x, ((![v4072, v4578] : Fin 2 → IVec S16 32) a x).toNat < S16x64.size a := fun v4072 v4578 k0_hw761 => k0_hw761.2

def k0_chk762 (v4072 : IVec S16 32) (v4587 : IVec S16 32) : Prop :=
  (∀ a x, ((![v4072, v4587] : Fin 2 → IVec S16 32) a x).toNat < S16x64.size a) ∧
  (∀ a x, ((![v4072, v4587] : Fin 2 → IVec S16 32) a x).toNat < S16x64.size a)
theorem k0_idx1011_inb : ∀ (v4072 : IVec S16 32) (v4587 : IVec S16 32) (k0_hw762 : k0_chk762 v4072 v4587), ∀ a x, ((![v4072, v4587] : Fin 2 → IVec S16 32) a x).toNat < S16x64.size a := fun v4072 v4587 k0_hw762 => k0_hw762.1
theorem k0_idx1012_inb : ∀ (v4072 : IVec S16 32) (v4587 : IVec S16 32) (k0_hw762 : k0_chk762 v4072 v4587), ∀ a x, ((![v4072, v4587] : Fin 2 → IVec S16 32) a x).toNat < S16x64.size a := fun v4072 v4587 k0_hw762 => k0_hw762.2

def k0_chk763 (v4072 : IVec S16 32) (v4596 : IVec S16 32) : Prop :=
  (∀ a x, ((![v4072, v4596] : Fin 2 → IVec S16 32) a x).toNat < S16x64.size a) ∧
  (∀ a x, ((![v4072, v4596] : Fin 2 → IVec S16 32) a x).toNat < S16x64.size a)
theorem k0_idx1013_inb : ∀ (v4072 : IVec S16 32) (v4596 : IVec S16 32) (k0_hw763 : k0_chk763 v4072 v4596), ∀ a x, ((![v4072, v4596] : Fin 2 → IVec S16 32) a x).toNat < S16x64.size a := fun v4072 v4596 k0_hw763 => k0_hw763.1
theorem k0_idx1014_inb : ∀ (v4072 : IVec S16 32) (v4596 : IVec S16 32) (k0_hw763 : k0_chk763 v4072 v4596), ∀ a x, ((![v4072, v4596] : Fin 2 → IVec S16 32) a x).toNat < S16x64.size a := fun v4072 v4596 k0_hw763 => k0_hw763.2

def k0_chk764 (v4072 : IVec S16 32) (v4605 : IVec S16 32) : Prop :=
  (∀ a x, ((![v4072, v4605] : Fin 2 → IVec S16 32) a x).toNat < S16x64.size a) ∧
  (∀ a x, ((![v4072, v4605] : Fin 2 → IVec S16 32) a x).toNat < S16x64.size a)
theorem k0_idx1015_inb : ∀ (v4072 : IVec S16 32) (v4605 : IVec S16 32) (k0_hw764 : k0_chk764 v4072 v4605), ∀ a x, ((![v4072, v4605] : Fin 2 → IVec S16 32) a x).toNat < S16x64.size a := fun v4072 v4605 k0_hw764 => k0_hw764.1
theorem k0_idx1016_inb : ∀ (v4072 : IVec S16 32) (v4605 : IVec S16 32) (k0_hw764 : k0_chk764 v4072 v4605), ∀ a x, ((![v4072, v4605] : Fin 2 → IVec S16 32) a x).toNat < S16x64.size a := fun v4072 v4605 k0_hw764 => k0_hw764.2

def k0_chk765 (v4072 : IVec S16 32) (v4614 : IVec S16 32) : Prop :=
  (∀ a x, ((![v4072, v4614] : Fin 2 → IVec S16 32) a x).toNat < S16x64.size a) ∧
  (∀ a x, ((![v4072, v4614] : Fin 2 → IVec S16 32) a x).toNat < S16x64.size a)
theorem k0_idx1017_inb : ∀ (v4072 : IVec S16 32) (v4614 : IVec S16 32) (k0_hw765 : k0_chk765 v4072 v4614), ∀ a x, ((![v4072, v4614] : Fin 2 → IVec S16 32) a x).toNat < S16x64.size a := fun v4072 v4614 k0_hw765 => k0_hw765.1
theorem k0_idx1018_inb : ∀ (v4072 : IVec S16 32) (v4614 : IVec S16 32) (k0_hw765 : k0_chk765 v4072 v4614), ∀ a x, ((![v4072, v4614] : Fin 2 → IVec S16 32) a x).toNat < S16x64.size a := fun v4072 v4614 k0_hw765 => k0_hw765.2

def k0_chk766 (v4072 : IVec S16 32) (v4623 : IVec S16 32) : Prop :=
  (∀ a x, ((![v4072, v4623] : Fin 2 → IVec S16 32) a x).toNat < S16x64.size a) ∧
  (∀ a x, ((![v4072, v4623] : Fin 2 → IVec S16 32) a x).toNat < S16x64.size a)
theorem k0_idx1019_inb : ∀ (v4072 : IVec S16 32) (v4623 : IVec S16 32) (k0_hw766 : k0_chk766 v4072 v4623), ∀ a x, ((![v4072, v4623] : Fin 2 → IVec S16 32) a x).toNat < S16x64.size a := fun v4072 v4623 k0_hw766 => k0_hw766.1
theorem k0_idx1020_inb : ∀ (v4072 : IVec S16 32) (v4623 : IVec S16 32) (k0_hw766 : k0_chk766 v4072 v4623), ∀ a x, ((![v4072, v4623] : Fin 2 → IVec S16 32) a x).toNat < S16x64.size a := fun v4072 v4623 k0_hw766 => k0_hw766.2

def k0_chk767 (v4072 : IVec S16 32) (v4632 : IVec S16 32) : Prop :=
  (∀ a x, ((![v4072, v4632] : Fin 2 → IVec S16 32) a x).toNat < S16x64.size a) ∧
  (∀ a x, ((![v4072, v4632] : Fin 2 → IVec S16 32) a x).toNat < S16x64.size a)
theorem k0_idx1021_inb : ∀ (v4072 : IVec S16 32) (v4632 : IVec S16 32) (k0_hw767 : k0_chk767 v4072 v4632), ∀ a x, ((![v4072, v4632] : Fin 2 → IVec S16 32) a x).toNat < S16x64.size a := fun v4072 v4632 k0_hw767 => k0_hw767.1
theorem k0_idx1022_inb : ∀ (v4072 : IVec S16 32) (v4632 : IVec S16 32) (k0_hw767 : k0_chk767 v4072 v4632), ∀ a x, ((![v4072, v4632] : Fin 2 → IVec S16 32) a x).toNat < S16x64.size a := fun v4072 v4632 k0_hw767 => k0_hw767.2

def k0_chk768 (v4072 : IVec S16 32) (v4641 : IVec S16 32) : Prop :=
  (∀ a x, ((![v4072, v4641] : Fin 2 → IVec S16 32) a x).toNat < S16x64.size a) ∧
  (∀ a x, ((![v4072, v4641] : Fin 2 → IVec S16 32) a x).toNat < S16x64.size a)
theorem k0_idx1023_inb : ∀ (v4072 : IVec S16 32) (v4641 : IVec S16 32) (k0_hw768 : k0_chk768 v4072 v4641), ∀ a x, ((![v4072, v4641] : Fin 2 → IVec S16 32) a x).toNat < S16x64.size a := fun v4072 v4641 k0_hw768 => k0_hw768.1
theorem k0_idx1024_inb : ∀ (v4072 : IVec S16 32) (v4641 : IVec S16 32) (k0_hw768 : k0_chk768 v4072 v4641), ∀ a x, ((![v4072, v4641] : Fin 2 → IVec S16 32) a x).toNat < S16x64.size a := fun v4072 v4641 k0_hw768 => k0_hw768.2
def k0_off266 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x64 : Shape := ⟨2, ![1000000, 64]⟩
abbrev S100000x64 : Shape := ⟨2, ![100000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 53
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S100000x64, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x64, .f32⟩
  | .hbm, ⟨23, _⟩ => ⟨S16384x64, .i1⟩
  | .hbm, ⟨24, _⟩ => ⟨S_, .f32⟩
  | .hbm, ⟨25, _⟩ => ⟨S16384x64, .f32⟩
  | .hbm, ⟨26, _⟩ => ⟨S16384x64, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S1x1, .i32⟩
  | .hbm, ⟨40, _⟩ => ⟨S16384x1, .i32⟩
  | .hbm, ⟨41, _⟩ => ⟨S16384x1, .i1⟩
  | .hbm, ⟨42, _⟩ => ⟨S16384x1, .i1⟩
  | .hbm, ⟨43, _⟩ => ⟨S_, .i1⟩
  | .hbm, ⟨44, _⟩ => ⟨S16384, .i1⟩
  | .hbm, ⟨45, _⟩ => ⟨S16384x64, .f32⟩
  | .hbm, ⟨46, _⟩ => ⟨S16384x64, .i1⟩
  | .hbm, ⟨47, _⟩ => ⟨S_, .f32⟩
  | .hbm, ⟨48, _⟩ => ⟨S16384x64, .f32⟩
  | .hbm, ⟨49, _⟩ => ⟨S16384x64, .f32⟩
  | .hbm, ⟨50, _⟩ => ⟨S16384x64, .f32⟩
  | .hbm, ⟨51, _⟩ => ⟨S_, .f32⟩
  | .hbm, ⟨52, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_cst : Ref sig .tc := ⟨.hbm, 51, rfl⟩
abbrev main_v3 : Ref sig .tc := ⟨.hbm, 52, rfl⟩

abbrev nD : Nat := 1
abbrev τ : Topo := Topo.v7x

variable {F : FTy → Type} [FloatOps F]
-- ==== Proof.Rules.lean ====
/-
  Two rules for local copies whose source is read at a share of more than the copy names: one transfer of a batch,
  the share coming back whole with what lands, and a copy that is awaited at once. Generic in the signature.
-/
module

public import Idealize.ShloMosaic.Lib.Batch

@[expose] public section

noncomputable section

namespace Cert.Rules

open Idealize.ShloMosaic Idealize.ShloMosaic.Transfers
open Idealize.SL
open Idealize.SL.BI (sProp Storable bigSep bigSep_insert bigSep_univ_of_subsingleton)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable (EC : UEmb Counters (MT nD τ sig Ix Val Name U Lvl))
variable {Λ : Labels} {defs : Defs nD τ sig Val Λ} (𝒱 : Variants) (c : Thread nD τ) (bd : Option 𝒱.V)
variable {α : Type} {Q : α → sProp (MT nD τ sig Ix Val Name U Lvl)} {n : ℕ}
variable {sp sp' : Space} {s : Shape} {e : EltTy}

/-- Transfer `j` of a batch, its source part of what is held at share `q`: what lands is `D j`, made of the
    destination rewritten and the whole of the share. -/
theorem wp_issue [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare}
    {Ss : Finset (Idx (src.view.loc c))} {fs : Buf Val (src.view.loc c)}
    {Sd : Finset (Idx (dst.view.loc c))} {fd : Buf Val (dst.view.loc c)} {D : Fin n → sProp 𝕄} {j : ℕ}
    (ι : Ix) (N : ℕ) (hN : dst.view.amount sm = N) (hSs : src.view.set ⊆ Ss) (hSd : dst.view.set ⊆ Sd) (hj : j < n)
    (hD : iprop((dst.view.loc c ↦[Sd]{fullShare} (dst.view.write Val fd (src.view.read Val fs) Finset.univ))
              ∗ (src.view.loc c ↦[Ss]{q} fs)) ⊢ D ⟨j, hj⟩) :
    iprop((src.view.loc c ↦[Ss]{q} fs) ∗ (dst.view.loc c ↦[Sd]{fullShare} fd) ∗ Batch EC c sm ι N D j 0)
      ⊢ iprop((Batch EC c sm ι N D (j + 1) 0 -∗ wp frame (wpE defs 𝒱 c bd) Set.univ (k ⟨⟩) Q)
          -∗ wp frame (wpE defs 𝒱 c bd) Set.univ (.op (.enqueueDma src (.here dst) sm hsrc hdst hsem) k) Q) := by
  unfold Batch
  iintro ⟨Hs, Hd, ⟨%γ, %γ₀, %κ, #Hinv, HI, H0, Hcred⟩⟩ Hk
  ihave Hs' := (pointsTo_split_subset (q := q) (f := fs) hSs).1 $$ Hs
  icases Hs' with ⟨Hin, Hout⟩
  ihave HI' := (Entails.of_eq (show bigSep (pending j) (fun t => count EC (γ t) 0)
      = iprop(count EC (γ ⟨j, hj⟩) 0 ∗ bigSep (pending (j + 1)) (fun t => count EC (γ t) 0))
    from by rw [pending_succ hj, bigSep_insert (not_mem_pending_succ hj)]; rfl)) $$ HI
  icases HI' with ⟨Ht, HI⟩
  have hland : iprop((src.view.loc c ↦[Ss \ src.view.set]{q} fs)
      ∗ ((dst.view.loc c ↦[Sd]{fullShare} (dst.view.write Val fd (src.view.read Val fs) Finset.univ))
        ∗ (src.view.loc c ↦[src.view.set]{q} fs))) ⊢ D ⟨j, hj⟩ := by
    refine Entails.trans ?_ hD
    iintro ⟨Ho, Hd, Hi⟩
    isplitl [Hd]; · iexact Hd
    iapply (pointsTo_split_subset (q := q) (f := fs) hSs).2
    isplitl [Hi] <;> iassumption
  iapply (wp_enqueueDmaAs 𝒱 c bd Set.univ ι N hN) $$ [Hin Hd] [Ht Hout]
  · isplitl [Hin]; · iexact Hin
    iapply (pointsTo_writeUpdate c hSd) $$ Hd
  · iapply (batch_creditUpdate_with EC ⟨j, hj⟩ hland)
    isplitr; · iexact Hinv
    isplitl [Ht] <;> iassumption
  iintro Hnew
  iapply Hk
  iexists γ, γ₀, κ
  isplitr; · iexact Hinv
  isplitl [HI]; · iexact HI
  isplitl [H0]; · iexact H0
  rw [Nat.sub_zero, Nat.sub_zero, Nat.succ_mul, ← tallyAt_add]
  icombine Hcred Hnew as H
  iexact H

/-- A copy started on an idle cell and awaited at once. -/
theorem wp_copyNow [Infinite Name] [EC.LandsIn (upEmb : UEmb _ 𝕄)] {κ' : Kind} {spw spw' : Space} {sw sw' : Shape} {ew ew' : EltTy}
    {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {srcw : Memref sig c.2.kind spw' sw' ew'} {dstw : Memref sig κ' spw sw ew} {hsrc' : srcw.view.WordExact} {hdst' : dstw.view.WordExact}
    {k : PUnit → Prog (TpuEff nD τ sig Val Λ c.2) α} {q : PosShare TreeShare}
    {Ss : Finset (Idx (src.view.loc c))} {fs : Buf Val (src.view.loc c)}
    {Sd : Finset (Idx (dst.view.loc c))} {fd : Buf Val (dst.view.loc c)}
    {O : CellTallies nD τ sig Ix} {W : Waits sig Ix}
    (ι : Ix) (hN : dst.view.dmaCredit = dstw.view.dmaCredit) (hN0 : 0 < dstw.view.dmaCredit) (hSs : src.view.set ⊆ Ss) (hSd : dst.view.set ⊆ Sd)
    [Storable (upEmb : UEmb _ 𝕄) iprop((dst.view.loc c ↦[Sd]{fullShare} (dst.view.write Val fd (src.view.read Val fs) Finset.univ))
              ∗ (src.view.loc c ↦[Ss]{q} fs))] :
    iprop((src.view.loc c ↦[Ss]{q} fs) ∗ (dst.view.loc c ↦[Sd]{fullShare} fd) ∗ semVal (c, .dma sem) 0
        ∗ owes c O W ∗ MayWait c (.dma sem) ι O)
      ⊢ iprop((iprop((src.view.loc c ↦[Ss]{q} fs)
              ∗ (dst.view.loc c ↦[Sd]{fullShare} (dst.view.write Val fd (src.view.read Val fs) Finset.univ))
              ∗ semVal (c, .dma sem) 0 ∗ owes c O (insert (SemLoc.dma sem, ι) W))
            -∗ wp frame (wpE defs 𝒱 c bd) Set.univ (k ⟨⟩) Q)
          -∗ wp frame (wpE defs 𝒱 c bd) Set.univ (.op (.enqueueDma src (.here dst) (.dma sem) hsrc hdst hsem) fun _ =>
              .op (.waitDma2 sem srcw dstw hsrc' hdst') k) Q) := by
  iintro ⟨Hs, Hd, Hv, HO, HM⟩ Hk
  imod (batch_alloc' EC c (n := 1) ι dstw.view.dmaCredit (fun _ => iprop((dst.view.loc c ↦[Sd]{fullShare} (dst.view.write Val fd (src.view.read Val fs) Finset.univ))
              ∗ (src.view.loc c ↦[Ss]{q} fs)))) $$ Hv with HB
  iapply (wp_issue EC 𝒱 c bd (D := fun _ : Fin 1 => iprop((dst.view.loc c ↦[Sd]{fullShare} (dst.view.write Val fd (src.view.read Val fs) Finset.univ))
              ∗ (src.view.loc c ↦[Ss]{q} fs))) ι dstw.view.dmaCredit (show dst.view.amount (.dma sem) = _ from hN) hSs hSd Nat.one_pos .rfl) $$ [Hs Hd HB]
  · isplitl [Hs]; · iexact Hs
    isplitl [Hd] <;> iassumption
  iintro HB
  iapply (wp_waitBatchLastO EC 𝒱 c bd (n := 1) ι rfl hN0 (u := 0) (by omega)) $$ [HB HO HM]
  · isplitl [HB]; · iexact HB
    isplitl [HO] <;> iassumption
  rw [bigSep_univ_of_subsingleton (0 : Fin 1)]
  iintro ⟨⟨Hd, Hs⟩, Hv, HO⟩
  iapply Hk
  isplitl [Hs]; · iexact Hs
  isplitl [Hd]; · iexact Hd
  isplitl [Hv] <;> iassumption

end Cert.Rules

end
-- ==== Proof.KernelIdeal.Clean.lean ====
/-
  The tile program of the kernel in a compact form: a chunk of sixteen row pairs is fetched (`fire`), awaited
  (`drain`) and multiplied out (`compute`) by three recursive programs, each in continuation form.
  `prog_eq` states that the printed program is this one; nothing is evaluated, only unfolded.
-/
module

public import proofs.«01_k».proof.KernelIdeal

@[expose] public section

noncomputable section

namespace Cert.KernelIdeal.Clean

open Idealize.ShloMosaic Idealize.SL.Sem
open Cert.KernelIdeal

variable {F : FTy → Type} [FloatOps F]
variable [Facts]
open Facts₀ Facts

/-! ## Side conditions at a general buffer, row and column -/

theorem inb_row {b j : ℕ} (hb : b < 4) (hj : j < 16) :
    ∀ a, (![b, j, 0] : Fin 3 → Nat) a + S1x1x64.size a ≤ S4x16x64.size a := by
  intro a
  match a with
  | 0 => show b + 1 ≤ 4; omega
  | 1 => show j + 1 ≤ 16; omega
  | 2 => show 0 + 64 ≤ 64; omega

theorem inb_buf {b : ℕ} (hb : b < 4) : ∀ a, (![b, 0, 0] : Fin 3 → Nat) a + S1x16x64.size a ≤ S4x16x64.size a := by
  intro a
  match a with
  | 0 => show b + 1 ≤ 4; omega
  | 1 => show 0 + 16 ≤ 16; omega
  | 2 => show 0 + 64 ≤ 64; omega

theorem slices_one {j : ℕ} (hj : j < 16) : S16.Slices ![j] S1 := by
  refine ⟨rfl, fun a => ?_⟩
  match a with
  | 0 => show j + 1 ≤ 16; omega

section Args

variable (i : grid0.Coords)
  (arg2 : Memref sig .scVector .hbm S16384 .i32) (harg2 : arg2.IsWhole)
  (arg3 : Memref sig .scVector .hbm S16384 .i32) (harg3 : arg3.IsWhole)
  (arg4 : Memref sig .scVector .hbm S1000000x64 .f32) (harg4 : arg4.IsWhole)
  (arg5 : Memref sig .scVector .hbm S100000x64 .f32) (harg5 : arg5.IsWhole)
  (arg6 : Memref sig .scVector .hbm S16384 .f32) (harg6 : arg6.IsWhole)
  (arg7 : Memref sig .scVector .vmem S512 .i32) (harg7 : arg7.IsWhole)
  (arg8 : Memref sig .scVector .vmem S512 .i32) (harg8 : arg8.IsWhole)
  (arg9 : Memref sig .scVector .vmem S4x16x64 .f32) (harg9 : arg9.IsWhole)
  (arg10 : Memref sig .scVector .vmem S4x16x64 .f32) (harg10 : arg10.IsWhole)
  (arg11 : Memref sig .scVector .vmem S512 .f32) (harg11 : arg11.IsWhole)
  (arg12 arg13 arg14 arg15 r0 r1 r2 : DmaSems sig S_)

/-- A tile program. -/
abbrev TP (F : FTy → Type) [FloatOps F] (i : grid0.Coords) : Type → Type 1 :=
  Prog (TpuEff nD τ sig (Elt F) Λ₀ (.scVector ((i 0).castLE hcore0) ((i 1).castLE hsub0)))

/-- Row `j` of buffer `b` of a row ring. -/
abbrev rowOf (m : Memref sig .scVector .vmem S4x16x64 .f32) (b j : ℕ) (hb : b < 4) (hj : j < 16) :
    Memref sig .scVector .vmem S64 .f32 :=
  (m.slice (Rect.unit (s := S4x16x64) ![b, j, 0] S1x1x64.size (inb_row hb hj)) (fun _ => rfl)).squeeze S64 squeezes_S1x1x64_S64

/-- Buffer `b` of a row ring. -/
abbrev bufOf (m : Memref sig .scVector .vmem S4x16x64 .f32) (b : ℕ) (hb : b < 4) :
    Memref sig .scVector .vmem S16x64 .f32 :=
  (m.slice (Rect.unit (s := S4x16x64) ![b, 0, 0] S1x16x64.size (inb_buf hb)) (fun _ => rfl)).squeeze S16x64 squeezes_S1x16x64_S16x64

/-- The row of the user table a word names. -/
abbrev uRow (w : BitVec 32) (h : k0_chk1 w) : Memref sig .scVector .hbm S64 .f32 :=
  (arg4.slice (Rect.unit (s := S1000000x64) (k0_off2 w) S1x64.size (k0_off2_inb w h)) (fun _ => rfl)).squeeze S64 squeezes_S1x64_S64

/-- The row of the movie table a word names. -/
abbrev mRow (w : BitVec 32) (h : k0_chk2 w) : Memref sig .scVector .hbm S64 .f32 :=
  (arg5.slice (Rect.unit (s := S100000x64) (k0_off3 w) S1x64.size (k0_off3_inb w h)) (fun _ => rfl)).squeeze S64 squeezes_S1x64_S64

/-- The first rows of the tables, which the waits name as their sources. -/
abbrev uRow0 : Memref sig .scVector .hbm S64 .f32 :=
  (arg4.slice (Rect.unit (s := S1000000x64) ![0, 0] S1x64.size inb_S1000000x64_S1x64_0_0) (fun _ => rfl)).squeeze S64 squeezes_S1x64_S64
abbrev mRow0 : Memref sig .scVector .hbm S64 .f32 :=
  (arg5.slice (Rect.unit (s := S100000x64) ![0, 0] S1x64.size inb_S100000x64_S1x64_0_0) (fun _ => rfl)).squeeze S64 squeezes_S1x64_S64

/-- Word `j` of sixteen loaded ids. -/
abbrev wordOf (v : IVec S16 32) (j : ℕ) (hj : j < 16) : BitVec 32 :=
  extractAt ![0] (extractStridedSlice S1 ![j] v (slices_one hj)) inpos_S1_p0

/-- The row copies `j … 15` of a chunk. -/
def fireRows (b : ℕ) (hb : b < 4) (sm : DmaSems sig S_) (u m : IVec S16 32) {α : Type} (K : TP F i α) :
    (n j : ℕ) → j + n = 16 → TP F i α
  | 0, _, _ => K
  | n + 1, j, h =>
    .op (TpuEff.assume (k0_chk1 (wordOf u j (by omega))) (k0_chk1.dec (wordOf u j (by omega)))) fun h1 =>
    .op (.enqueueDma (uRow arg4 (wordOf u j (by omega)) h1.down) (.here (rowOf arg9 b j hb (by omega))) (.dma sm.sem)
      ((View.wordExact_bits rfl).reshape _ _) ((View.wordExact_bits rfl).reshape _ _) ⟨Or.inl rfl, trivial⟩) fun _ =>
    .op (TpuEff.assume (k0_chk2 (wordOf m j (by omega))) (k0_chk2.dec (wordOf m j (by omega)))) fun h2 =>
    .op (.enqueueDma (mRow arg5 (wordOf m j (by omega)) h2.down) (.here (rowOf arg10 b j hb (by omega))) (.dma sm.sem)
      ((View.wordExact_bits rfl).reshape _ _) ((View.wordExact_bits rfl).reshape _ _) ⟨Or.inl rfl, trivial⟩) fun _ =>
    fireRows b hb sm u m K n (j + 1) (by omega)

/-- Sixteen ids of each kind at `off`, and their rows' copies into buffer `b`. -/
def fire (b : ℕ) (hb : b < 4) (sm : DmaSems sig S_) (off : Fin 1 → ℕ) (hoff : ∀ a, off a + S16.size a ≤ S512.size a)
    {α : Type} (K : TP F i α) : TP F i α :=
  .op (.load arg7 (Rect.unit (s := S512) off S16.size hoff).toLoadRect (View.loadsAt_vmem h_S16)) fun (u : Vec F S16 .i32) =>
  .op (.load arg8 (Rect.unit (s := S512) off S16.size hoff).toLoadRect (View.loadsAt_vmem h_S16)) fun (m : Vec F S16 .i32) =>
  fireRows i arg4 arg5 arg9 arg10 b hb sm u m K 16 0 rfl

/-- The waits `j … 15` of a chunk. -/
def drainRows (b : ℕ) (hb : b < 4) (sm : DmaSems sig S_) {α : Type} (K : TP F i α) : (n j : ℕ) → j + n = 16 → TP F i α
  | 0, _, _ => K
  | n + 1, j, h =>
    .op (.waitDma2 sm.sem (uRow0 arg4) (rowOf arg9 b j hb (by omega)) ((View.wordExact_bits rfl).reshape _ _) ((View.wordExact_bits rfl).reshape _ _)) fun _ =>
    .op (.waitDma2 sm.sem (mRow0 arg5) (rowOf arg10 b j hb (by omega)) ((View.wordExact_bits rfl).reshape _ _) ((View.wordExact_bits rfl).reshape _ _)) fun _ =>
    drainRows b hb sm K n (j + 1) (by omega)

abbrev slots : IVec S16 32 := iota .scVector S16 32 [0] iota_S16_d0_w32_scVector
abbrev colOf (k : ℕ) : IVec S16 32 := broadcast S16 (BitVec.ofNat 32 k)
abbrev acc₀ (F : FTy → Type) [FloatOps F] : FVec F S16 .f32 := broadcast S16 (Scalar.ofBits .f32 0x00000000#32)

/-- Columns `k … 63` of a chunk's products, added to `acc`. -/
def cols (b : ℕ) (hb : b < 4) {α : Type} (K : FVec F S16 .f32 → TP F i α) : (n k : ℕ) → FVec F S16 .f32 → TP F i α
  | 0, _, acc => K acc
  | n + 1, k, acc =>
    .op (TpuEff.assume (k0_chk129 slots (colOf k)) (k0_chk129.dec slots (colOf k))) fun h =>
    .op (.load (bufOf arg9 b hb) (.whole S16x64) (View.loadsAt_whole (View.loads_vmem h_S16x64))) fun f =>
    .op (.load (bufOf arg10 b hb) (.whole S16x64) (View.loadsAt_whole (View.loads_vmem h_S16x64))) fun g =>
    cols b hb K n (k + 1) (addf acc (mulf (Idealize.ShloMosaic.loadIdx f ![slots, colOf k] h.down.1)
      (Idealize.ShloMosaic.loadIdx g ![slots, colOf k] h.down.1)))

/-- A chunk's sixteen results, stored at `off`. -/
def compute (b : ℕ) (hb : b < 4) (off : Fin 1 → ℕ) (hoff : ∀ a, off a + S16.size a ≤ S512.size a)
    {α : Type} (K : TP F i α) : TP F i α :=
  cols i arg9 arg10 b hb (fun acc =>
    .op (.load arg11 (Rect.unit (s := S512) off S16.size hoff).toLoadRect (View.loadsAt_vmem h_S16)) fun _ =>
    .op (.store arg11 (Rect.unit (s := S512) off S16.size hoff) acc Finset.univ (View.stores_vmem_bits_univ h_S16 rfl) (.inl rfl)) fun _ => K)
    64 0 (acc₀ F)

/-- Drain buffer `b` and compute its chunk. -/
def dc (b : ℕ) (hb : b < 4) (sm : DmaSems sig S_) (off : Fin 1 → ℕ) (hoff : ∀ a, off a + S16.size a ≤ S512.size a)
    {α : Type} (K : TP F i α) : TP F i α :=
  drainRows i arg4 arg5 arg9 arg10 b hb sm (compute i arg9 arg10 arg11 b hb off hoff K) 16 0 rfl

/-- One pass over the ring: each buffer drained, computed and refilled four chunks on. -/
def body (t : Fin k0_t1_loop.trips) : TP F i PUnit :=
  dc i arg4 arg5 arg9 arg10 arg11 0 (by decide) arg12 (k0_off130 t) (k0_off130_inb t) <|
  fire i arg4 arg5 arg7 arg8 arg9 arg10 0 (by decide) arg12 (k0_off131 t) (k0_off131_inb t) <|
  dc i arg4 arg5 arg9 arg10 arg11 1 (by decide) arg13 (k0_off164 t) (k0_off164_inb t) <|
  fire i arg4 arg5 arg7 arg8 arg9 arg10 1 (by decide) arg13 (k0_off165 t) (k0_off165_inb t) <|
  dc i arg4 arg5 arg9 arg10 arg11 2 (by decide) arg14 (k0_off198 t) (k0_off198_inb t) <|
  fire i arg4 arg5 arg7 arg8 arg9 arg10 2 (by decide) arg14 (k0_off199 t) (k0_off199_inb t) <|
  dc i arg4 arg5 arg9 arg10 arg11 3 (by decide) arg15 (k0_off232 t) (k0_off232_inb t) <|
  fire i arg4 arg5 arg7 arg8 arg9 arg10 3 (by decide) arg15 (k0_off233 t) (k0_off233_inb t) <|
  .ret ⟨⟩

/-- The last four chunks and the results' copy out. -/
def tail : TP F i PUnit :=
  dc i arg4 arg5 arg9 arg10 arg11 0 (by decide) arg12 ![448] inb_S512_S16_448 <|
  dc i arg4 arg5 arg9 arg10 arg11 1 (by decide) arg13 ![464] inb_S512_S16_464 <|
  dc i arg4 arg5 arg9 arg10 arg11 2 (by decide) arg14 ![480] inb_S512_S16_480 <|
  dc i arg4 arg5 arg9 arg10 arg11 3 (by decide) arg15 ![496] inb_S512_S16_496 <|
  .op (.enqueueDma arg11 (.here (arg6.slice (Rect.unit (s := S16384) (k0_off266 i) S512.size (k0_off266_inb i)) (fun _ => rfl))) (.dma r2.sem)
    harg11.wordExact (View.wordExact_bits rfl) ⟨Or.inl rfl, trivial⟩) fun _ =>
  .op (.waitDma2 r2.sem arg11 (arg6.slice (Rect.unit (s := S16384) (k0_off266 i) S512.size (k0_off266_inb i)) (fun _ => rfl))
    harg11.wordExact (View.wordExact_bits rfl)) fun _ =>
  .ret ⟨⟩

/-- The whole tile program. -/
def prog : TP F i PUnit :=
  .op (.enqueueDma (arg2.slice (Rect.unit (s := S16384) (k0_off1 i) S512.size (k0_off1_inb i)) (fun _ => rfl)) (.here arg7) (.dma r0.sem)
    (View.wordExact_bits rfl) harg7.wordExact ⟨Or.inl rfl, trivial⟩) fun _ =>
  .op (.waitDma2 r0.sem (arg2.slice (Rect.unit (s := S16384) (k0_off1 i) S512.size (k0_off1_inb i)) (fun _ => rfl)) arg7
    (View.wordExact_bits rfl) harg7.wordExact) fun _ =>
  .op (.enqueueDma (arg3.slice (Rect.unit (s := S16384) (k0_off1 i) S512.size (k0_off1_inb i)) (fun _ => rfl)) (.here arg8) (.dma r1.sem)
    (View.wordExact_bits rfl) harg8.wordExact ⟨Or.inl rfl, trivial⟩) fun _ =>
  .op (.waitDma2 r1.sem (arg3.slice (Rect.unit (s := S16384) (k0_off1 i) S512.size (k0_off1_inb i)) (fun _ => rfl)) arg8
    (View.wordExact_bits rfl) harg8.wordExact) fun _ =>
  fire i arg4 arg5 arg7 arg8 arg9 arg10 0 (by decide) arg12 ![0] inb_S512_S16_0 <|
  fire i arg4 arg5 arg7 arg8 arg9 arg10 1 (by decide) arg13 ![16] inb_S512_S16_16 <|
  fire i arg4 arg5 arg7 arg8 arg9 arg10 2 (by decide) arg14 ![32] inb_S512_S16_32 <|
  fire i arg4 arg5 arg7 arg8 arg9 arg10 3 (by decide) arg15 ![48] inb_S512_S16_48 <|
  Prog.bind (Scf.Loop.for k0_t1_loop k0_t1_ok ⟨⟩ fun t _ => body i arg4 arg5 arg7 arg8 arg9 arg10 arg11 arg12 arg13 arg14 arg15 t) fun _ =>
  tail i arg4 arg5 arg6 arg9 arg10 arg11 harg11 arg12 arg13 arg14 arg15 r2

end Args

end Cert.KernelIdeal.Clean

end
-- ==== Proof.KernelIdeal.Views.lean ====
/-
  Where the tile program's pieces lie, and what they read. A row of a ring, a buffer of a ring and a row of a
  table are given by the index each of their elements has in its buffer; the ids a chunk loads and the sum it
  stores are given entry by entry. No resource is mentioned here.
-/
module

public import proofs.«01_k».proof.Proof.KernelIdeal.Clean
public import proofs.«01_k».proof.Proof.Gen.KernelIdeal
public import Idealize.ShloMosaic.Lib.ValueLayout
public import Idealize.ShloMosaic.Lib.ViewIndex
public import Idealize.ShloMosaic.Lib.Tactic

@[expose] public section

noncomputable section

namespace Cert.KernelIdeal.Tile

open Idealize.ShloMosaic Idealize.ShloMosaic.ValueIdx
open Cert.KernelIdeal Cert.KernelIdeal.Gen Cert.KernelIdeal.Clean

variable {F : FTy → Type} [FloatOps F]

/-! ## The buffers, as the tile names them -/

abbrev uI : Memref sig .scVector .hbm S16384 .i32 := Memref.whole main_arg0_scv
abbrev mI : Memref sig .scVector .hbm S16384 .i32 := Memref.whole main_arg1_scv
abbrev uT : Memref sig .scVector .hbm S1000000x64 .f32 := Memref.whole main_arg2_scv
abbrev mT : Memref sig .scVector .hbm S100000x64 .f32 := Memref.whole main_arg3_scv
abbrev oT : Memref sig .scVector .hbm S16384 .f32 := Memref.whole main_v0_scv
abbrev uS : Memref sig .scVector .vmem S512 .i32 := Memref.whole cc0_scratch0
abbrev mS : Memref sig .scVector .vmem S512 .i32 := Memref.whole cc0_scratch1
abbrev uR : Memref sig .scVector .vmem S4x16x64 .f32 := Memref.whole cc0_scratch2
abbrev mR : Memref sig .scVector .vmem S4x16x64 .f32 := Memref.whole cc0_scratch3
abbrev oS : Memref sig .scVector .vmem S512 .f32 := Memref.whole cc0_scratch4

/-! ## Table entries and dot products -/

/-- Entry `k` of the row of the user table a word names. -/
def uAt (w : BitVec 32) (k : Fin 64) : S1000000x64.Idx := ix2 (⟨w.toNat % 1000000, Nat.mod_lt _ (by decide)⟩ : Fin 1000000) k
/-- Entry `k` of the row of the movie table a word names. -/
def mAt (w : BitVec 32) (k : Fin 64) : S100000x64.Idx := ix2 (⟨w.toNat % 100000, Nat.mod_lt _ (by decide)⟩ : Fin 100000) k

/-- The first `n` products of a pair of rows, added up from zero in order. -/
def dot (fu : FVec F S1000000x64 .f32) (fm : FVec F S100000x64 .f32) (wu wm : BitVec 32) : ℕ → F .f32
  | 0 => Scalar.ofBits .f32 0x00000000#32
  | n + 1 => FloatOps.addf (dot fu fm wu wm n)
      (FloatOps.mulf (fu (uAt wu ⟨n % 64, Nat.mod_lt _ (by decide)⟩)) (fm (mAt wm ⟨n % 64, Nat.mod_lt _ (by decide)⟩)))

/-- A ring whose row `j` holds, whatever the buffer, the table row word `j` of a chunk names. -/
def uRing (fu : FVec F S1000000x64 .f32) (u : IVec S16 32) : FVec F S4x16x64 .f32 := fun x => fu (uAt (u (ix1 (x 1))) (x 2))
def mRing (fm : FVec F S100000x64 .f32) (v : IVec S16 32) : FVec F S4x16x64 .f32 := fun x => fm (mAt (v (ix1 (x 1))) (x 2))

/-- The sixteen sums after `n` columns. -/
def acc (fu : FVec F S1000000x64 .f32) (fm : FVec F S100000x64 .f32) (u v : IVec S16 32) (n : ℕ) : FVec F S16 .f32 :=
  fun x => dot fu fm (u x) (v x) n

theorem acc_zero (fu : FVec F S1000000x64 .f32) (fm : FVec F S100000x64 .f32) (u v : IVec S16 32) :
    acc fu fm u v 0 = acc₀ F := rfl

/-! ## Indices -/

theorem wordOf_eq (v : IVec S16 32) (j : ℕ) (hj : j < 16) : wordOf v j hj = v (ix1 (⟨j, hj⟩ : Fin 16)) := by
  refine congrArg v (funext fun a => ?_)
  match a with
  | 0 => exact Fin.ext (Nat.add_zero j)

theorem emb_row (m : Memref sig .scVector .vmem S4x16x64 .f32) (b j : ℕ) (hb : b < 4) (hj : j < 16) (x : S64.Idx) :
    (rowOf m b j hb hj).view.emb x = m.view.emb (ix3 (⟨b, hb⟩ : Fin 4) (⟨j, hj⟩ : Fin 16) (x 0)) := by
  show m.view.emb ((Rect.unit (s := S4x16x64) ![b, j, 0] S1x1x64.size (inb_row hb hj)).emb
    (Shape.reshapeEquiv squeezes_S1x1x64_S64.numel_eq x)) = _
  congr 1
  rw [show Shape.reshapeEquiv squeezes_S1x1x64_S64.numel_eq x = (ix3 (0 : Fin 1) (0 : Fin 1) (x 0) : S1x1x64.Idx) from
    Shape.reshapeEquiv_eq_of_rowMajor _ (by
      rw [Shape.rowMajor_val_three, Shape.rowMajor_val_one]
      show (0 * 1 + 0) * 64 + (x 0).val = (x 0).val
      omega)]
  refine Shape.idx3_ext ?_ ?_ ?_
  · show b + 1 * 0 = b; omega
  · show j + 1 * 0 = j; omega
  · show 0 + 1 * (x 0).val = (x 0).val; omega

theorem emb_buf (m : Memref sig .scVector .vmem S4x16x64 .f32) (b : ℕ) (hb : b < 4) (x : S16x64.Idx) :
    (bufOf m b hb).view.emb x = m.view.emb (ix3 (⟨b, hb⟩ : Fin 4) (x 0) (x 1)) := by
  show m.view.emb ((Rect.unit (s := S4x16x64) ![b, 0, 0] S1x16x64.size (inb_buf hb)).emb
    (Shape.reshapeEquiv squeezes_S1x16x64_S16x64.numel_eq x)) = _
  congr 1
  rw [show Shape.reshapeEquiv squeezes_S1x16x64_S16x64.numel_eq x = (ix3 (0 : Fin 1) (x 0) (x 1) : S1x16x64.Idx) from
    Shape.reshapeEquiv_eq_of_rowMajor _ (by
      rw [Shape.rowMajor_val_three, Shape.rowMajor_val_two]
      show (0 * 16 + (x 0).val) * 64 + (x 1).val = (x 0).val * 64 + (x 1).val
      omega)]
  refine Shape.idx3_ext ?_ ?_ ?_
  · show b + 1 * 0 = b; omega
  · show 0 + 1 * (x 0).val = (x 0).val; omega
  · show 0 + 1 * (x 1).val = (x 1).val; omega

theorem chk_u {w : BitVec 32} (h : w.toNat < 1000000) : k0_chk1 w := by
  intro a
  match a with
  | 0 => show w.toNat + 1 ≤ 1000000; omega
  | 1 => show 0 + 64 ≤ 64; omega

theorem chk_m {w : BitVec 32} (h : w.toNat < 100000) : k0_chk2 w := by
  intro a
  match a with
  | 0 => show w.toNat + 1 ≤ 100000; omega
  | 1 => show 0 + 64 ≤ 64; omega

theorem emb_uRow (w : BitVec 32) (h : k0_chk1 w) (x : S64.Idx) : (uRow uT w h).view.emb x = uAt w (x 0) := by
  have hw : w.toNat < 1000000 := by have := h 0; change w.toNat + 1 ≤ 1000000 at this; omega
  show (Rect.unit (s := S1000000x64) (k0_off2 w) S1x64.size (k0_off2_inb w h)).emb
    (Shape.reshapeEquiv squeezes_S1x64_S64.numel_eq x) = _
  rw [show Shape.reshapeEquiv squeezes_S1x64_S64.numel_eq x = (ix2 (0 : Fin 1) (x 0) : S1x64.Idx) from
    Shape.reshapeEquiv_eq_of_rowMajor _ (by
      rw [Shape.rowMajor_val_two, Shape.rowMajor_val_one]
      show 0 * 64 + (x 0).val = (x 0).val
      omega)]
  funext a
  match a with
  | 0 => refine Fin.ext ?_; show w.toNat + 1 * 0 = w.toNat % 1000000; rw [Nat.mod_eq_of_lt hw]; omega
  | 1 => refine Fin.ext ?_; show 0 + 1 * (x 0).val = (x 0).val; omega

theorem emb_mRow (w : BitVec 32) (h : k0_chk2 w) (x : S64.Idx) : (mRow mT w h).view.emb x = mAt w (x 0) := by
  have hw : w.toNat < 100000 := by have := h 0; change w.toNat + 1 ≤ 100000 at this; omega
  show (Rect.unit (s := S100000x64) (k0_off3 w) S1x64.size (k0_off3_inb w h)).emb
    (Shape.reshapeEquiv squeezes_S1x64_S64.numel_eq x) = _
  rw [show Shape.reshapeEquiv squeezes_S1x64_S64.numel_eq x = (ix2 (0 : Fin 1) (x 0) : S1x64.Idx) from
    Shape.reshapeEquiv_eq_of_rowMajor _ (by
      rw [Shape.rowMajor_val_two, Shape.rowMajor_val_one]
      show 0 * 64 + (x 0).val = (x 0).val
      omega)]
  funext a
  match a with
  | 0 => refine Fin.ext ?_; show w.toNat + 1 * 0 = w.toNat % 100000; rw [Nat.mod_eq_of_lt hw]; omega
  | 1 => refine Fin.ext ?_; show 0 + 1 * (x 0).val = (x 0).val; omega

/-! ## The rows of a buffer -/

/-- The elements of row `j` of buffer `b`, and of buffer `b`, of either ring. -/
def rowSet (b : Fin 4) (j : Fin 16) : Finset S4x16x64.Idx := Finset.univ.filter fun x => (x 0).val = b.val ∧ (x 1).val = j.val
def bufSet (b : Fin 4) : Finset S4x16x64.Idx := Finset.univ.filter fun x => (x 0).val = b.val

theorem mem_rowSet {b : Fin 4} {j : Fin 16} {x : S4x16x64.Idx} : x ∈ rowSet b j ↔ (x 0).val = b.val ∧ (x 1).val = j.val := by
  rw [rowSet, Finset.mem_filter, and_iff_right (Finset.mem_univ x)]
theorem mem_bufSet {b : Fin 4} {x : S4x16x64.Idx} : x ∈ bufSet b ↔ (x 0).val = b.val := by
  rw [bufSet, Finset.mem_filter, and_iff_right (Finset.mem_univ x)]

theorem bufSet_eq (b : Fin 4) : bufSet b = Finset.univ.biUnion (rowSet b) := by
  ext x
  rw [mem_bufSet, Finset.mem_biUnion]
  exact ⟨fun h => ⟨x 1, Finset.mem_univ _, mem_rowSet.mpr ⟨h, rfl⟩⟩, fun ⟨_, _, h⟩ => (mem_rowSet.mp h).1⟩

theorem rowSet_disjoint (b : Fin 4) (i : Fin 16) (j : Fin 16) (hij : i ≠ j) : Disjoint (rowSet b i) (rowSet b j) :=
  Finset.disjoint_left.mpr fun _ hx hy => hij (Fin.ext ((mem_rowSet.mp hx).2.symm.trans (mem_rowSet.mp hy).2))

theorem univ_eq_bufs : (Finset.univ : Finset S4x16x64.Idx) = Finset.univ.biUnion bufSet := by
  ext x
  rw [Finset.mem_biUnion]
  exact ⟨fun _ => ⟨x 0, Finset.mem_univ _, mem_bufSet.mpr rfl⟩, fun _ => Finset.mem_univ _⟩

theorem bufSet_disjoint (i j : Fin 4) (hij : i ≠ j) : Disjoint (bufSet i) (bufSet j) :=
  Finset.disjoint_left.mpr fun _ hx hy => hij (Fin.ext ((mem_bufSet.mp hx).symm.trans (mem_bufSet.mp hy)))

theorem set_uRow (b j : ℕ) (hb : b < 4) (hj : j < 16) : (rowOf uR b j hb hj).view.set = rowSet ⟨b, hb⟩ ⟨j, hj⟩ := by
  ext x
  rw [mem_rowSet, View.set, Finset.mem_map]
  constructor
  · rintro ⟨y, -, e⟩
    rw [emb_row] at e
    subst e; exact ⟨rfl, rfl⟩
  · rintro ⟨h0, h1⟩
    refine ⟨ix1 (x 2), Finset.mem_univ _, ?_⟩
    rw [emb_row]
    exact Shape.idx3_ext h0.symm h1.symm rfl

theorem set_mRow (b j : ℕ) (hb : b < 4) (hj : j < 16) : (rowOf mR b j hb hj).view.set = rowSet ⟨b, hb⟩ ⟨j, hj⟩ := by
  ext x
  rw [mem_rowSet, View.set, Finset.mem_map]
  constructor
  · rintro ⟨y, -, e⟩
    rw [emb_row] at e
    subst e; exact ⟨rfl, rfl⟩
  · rintro ⟨h0, h1⟩
    refine ⟨ix1 (x 2), Finset.mem_univ _, ?_⟩
    rw [emb_row]
    exact Shape.idx3_ext h0.symm h1.symm rfl

theorem set_uBuf (b : ℕ) (hb : b < 4) : (bufOf uR b hb).view.set ⊆ bufSet ⟨b, hb⟩ := by
  intro x hx
  obtain ⟨y, -, e⟩ := Finset.mem_map.mp hx
  rw [emb_buf] at e
  subst e; exact mem_bufSet.mpr rfl

theorem set_mBuf (b : ℕ) (hb : b < 4) : (bufOf mR b hb).view.set ⊆ bufSet ⟨b, hb⟩ := by
  intro x hx
  obtain ⟨y, -, e⟩ := Finset.mem_map.mp hx
  rw [emb_buf] at e
  subst e; exact mem_bufSet.mpr rfl

/-! ## What a landed row is, and what a column reads -/

/-- A row's copy leaves in the ring, on the row, what `uRing` says of it. -/
theorem uRow_landed (fu : FVec F S1000000x64 .f32) (u : IVec S16 32) (b j : ℕ) (hb : b < 4) (hj : j < 16)
    (h : k0_chk1 (wordOf u j hj)) (g : FVec F S4x16x64 .f32) :
    ∀ x ∈ rowSet ⟨b, hb⟩ ⟨j, hj⟩,
      (rowOf uR b j hb hj).view.write (Elt F) g ((uRow uT (wordOf u j hj) h).view.read (Elt F) fu) Finset.univ x = uRing fu u x := by
  intro x hx
  rw [← set_uRow] at hx
  obtain ⟨y, -, rfl⟩ := Finset.mem_map.mp hx
  rw [View.write_emb_of_mem _ _ (Finset.mem_univ y)]
  show fu ((uRow uT (wordOf u j hj) h).view.emb y) = uRing fu u ((rowOf uR b j hb hj).view.emb y)
  rw [emb_uRow, emb_row, wordOf_eq]
  rfl

theorem mRow_landed (fm : FVec F S100000x64 .f32) (v : IVec S16 32) (b j : ℕ) (hb : b < 4) (hj : j < 16)
    (h : k0_chk2 (wordOf v j hj)) (g : FVec F S4x16x64 .f32) :
    ∀ x ∈ rowSet ⟨b, hb⟩ ⟨j, hj⟩,
      (rowOf mR b j hb hj).view.write (Elt F) g ((mRow mT (wordOf v j hj) h).view.read (Elt F) fm) Finset.univ x = mRing fm v x := by
  intro x hx
  rw [← set_mRow] at hx
  obtain ⟨y, -, rfl⟩ := Finset.mem_map.mp hx
  rw [View.write_emb_of_mem _ _ (Finset.mem_univ y)]
  show fm ((mRow mT (wordOf v j hj) h).view.emb y) = mRing fm v ((rowOf mR b j hb hj).view.emb y)
  rw [emb_mRow, emb_row, wordOf_eq]
  rfl

theorem chk_cols (k : ℕ) (hk : k < 64) : k0_chk129 slots (colOf k) := by
  have h : ∀ a x, ((![slots, colOf k] : Fin 2 → IVec S16 32) a x).toNat < S16x64.size a := by
    intro a x
    match a with
    | 0 =>
      show (BitVec.ofNat 32 (0 * 16 + (x 0).val)).toNat < 16
      have : (x 0).val < 16 := (x 0).isLt
      rw [BitVec.toNat_ofNat, Nat.mod_eq_of_lt (by omega)]; omega
    | 1 =>
      show (BitVec.ofNat 32 k).toNat < 64
      rw [BitVec.toNat_ofNat, Nat.mod_eq_of_lt (by omega)]; omega
  exact ⟨h, h⟩

theorem idxAt_cols (k : ℕ) (hk : k < 64) (h : ∀ a x, ((![slots, colOf k] : Fin 2 → IVec S16 32) a x).toNat < S16x64.size a) (x : S16.Idx) :
    idxAt (![slots, colOf k] : Fin 2 → IVec S16 32) h x = (ix2 (x 0) (⟨k, hk⟩ : Fin 64) : S16x64.Idx) := by
  funext a
  match a with
  | 0 =>
    refine Fin.ext ?_
    show (BitVec.ofNat 32 (0 * 16 + (x 0).val)).toNat = (x 0).val
    have : (x 0).val < 16 := (x 0).isLt
    rw [BitVec.toNat_ofNat, Nat.mod_eq_of_lt (by omega)]; omega
  | 1 =>
    refine Fin.ext ?_
    show (BitVec.ofNat 32 k).toNat = k
    rw [BitVec.toNat_ofNat, Nat.mod_eq_of_lt (by omega)]

/-- One column's products added to the sums before it. -/
theorem acc_succ (fu : FVec F S1000000x64 .f32) (fm : FVec F S100000x64 .f32) (u v : IVec S16 32) (b k : ℕ) (hb : b < 4) (hk : k < 64)
    (h : ∀ a x, ((![slots, colOf k] : Fin 2 → IVec S16 32) a x).toNat < S16x64.size a)
    (h' : ∀ a x, ((![slots, colOf k] : Fin 2 → IVec S16 32) a x).toNat < S16x64.size a) :
    addf (acc fu fm u v k) (mulf
      (Idealize.ShloMosaic.loadIdx ((bufOf uR b hb).view.readAt (Elt F) (.whole S16x64) (uRing fu u) : Vec F S16x64 .f32) ![slots, colOf k] h)
      (Idealize.ShloMosaic.loadIdx ((bufOf mR b hb).view.readAt (Elt F) (.whole S16x64) (mRing fm v) : Vec F S16x64 .f32) ![slots, colOf k] h'))
      = acc fu fm u v (k + 1) := by
  funext x
  show FloatOps.addf (dot fu fm (u x) (v x) k) (FloatOps.mulf
      (uRing fu u ((bufOf uR b hb).view.emb ((LoadRect.whole S16x64).idx (idxAt (![slots, colOf k] : Fin 2 → IVec S16 32) h x))))
      (mRing fm v ((bufOf mR b hb).view.emb ((LoadRect.whole S16x64).idx (idxAt (![slots, colOf k] : Fin 2 → IVec S16 32) h' x)))))
    = FloatOps.addf (dot fu fm (u x) (v x) k) _
  have e : (LoadRect.whole S16x64).idx (ix2 (x 0) (⟨k, hk⟩ : Fin 64) : S16x64.Idx) = (ix2 (x 0) (⟨k, hk⟩ : Fin 64) : S16x64.Idx) := by
    funext a
    match a with
    | 0 => refine Fin.ext ?_; show 0 + 1 * (x 0).val = (x 0).val; omega
    | 1 => refine Fin.ext ?_; show 0 + 1 * k = k; omega
  rw [idxAt_cols k hk, e, emb_buf, emb_buf]
  have hk' : (⟨k % 64, Nat.mod_lt _ (by decide)⟩ : Fin 64) = ⟨k, hk⟩ := Fin.ext (Nat.mod_eq_of_lt hk)
  rw [hk']
  exact congrArg₂ (fun a b => FloatOps.addf _ (FloatOps.mulf (fu (uAt a _)) (fm (mAt b _))))
    (congrArg u (eq_ix1 x).symm) (congrArg v (eq_ix1 x).symm)

/-! ## Chunks of the tile's 512 -/

/-- Entry `x` of chunk `c`. -/
def chunkAt (c : ℕ) (x : S16.Idx) : S512.Idx := ix1 (⟨(16 * c + (x 0).val) % 512, Nat.mod_lt _ (by decide)⟩ : Fin 512)

theorem emb_chunk (off : Fin 1 → ℕ) (hoff : ∀ a, off a + S16.size a ≤ S512.size a) (c : ℕ) (h : off = ![16 * c]) (x : S16.Idx) :
    (Rect.unit (s := S512) off S16.size hoff).emb x = chunkAt c x := by
  subst h
  have h0 : 16 * c + 16 ≤ 512 := hoff 0
  have hx : (x 0).val < 16 := (x 0).isLt
  refine Shape.idx1_ext ?_
  show 16 * c + 1 * (x 0).val = (16 * c + (x 0).val) % 512
  rw [Nat.mod_eq_of_lt (by omega)]; omega

end Cert.KernelIdeal.Tile

end
-- ==== Proof.KernelIdeal.Fetch.lean ====
/-
  One chunk's fetch: thirty-two row copies on one cell, started together, and the waits that bring them all back.
  `Flying b u v` is buffer `b` with the copies of the rows named by the words `u` (users) and `v` (movies) under way;
  `Idle b` is buffer `b` with none, its rows and its shares of the two tables in hand.
-/
module

public import proofs.«01_k».proof.Proof.Rules
public import proofs.«01_k».proof.Proof.KernelIdeal.Views
public import Idealize.ShloMosaic.Lib.SparseCore.Quiescent
public import Idealize.ShloMosaic.Lib.ShareLeaves
public import Idealize.ShloMosaic.Lib.Pipeline.Kit

@[expose] public section

noncomputable section

namespace Cert.KernelIdeal.Tile

open Idealize.ShloMosaic Idealize.ShloMosaic.ValueIdx
open Idealize.ShloMosaic.SparseCore (S V T)
open Idealize.ShloMosaic.SparseCore.Cfg (HIx)
open Idealize.ShloMosaic.Transfers
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Clean

variable {F : FTy → Type} [FloatOps F]

/-- The launch's handshakes and the transfers' counters. -/
abbrev UU : Type := URounds (GSem nD τ sig) ℕ × Counters

local notation "𝕄" => MT nD τ sig (HIx 1) (Elt F) ℕ UU ℕ

abbrev 𝒱₀ : Variants := Variants.none
abbrev ι₀ : HIx 1 := default

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev uTl (d : Dev nD) : Loc nD τ sig := (SparseCore.T d).loc main_arg2
abbrev mTl (d : Dev nD) : Loc nD τ sig := (SparseCore.T d).loc main_arg3
abbrev uRl (d : Dev nD) (L : grid0.Coords) : Loc nD τ sig := (thr d L).loc cc0_scratch2
abbrev mRl (d : Dev nD) (L : grid0.Coords) : Loc nD τ sig := (thr d L).loc cc0_scratch3

/-- The share of a table that row copy `j` of buffer `b` reads at, of a tile's share `q`. -/
def sh (q : PosShare TreeShare) (b : Fin 4) (j : Fin 16) : PosShare TreeShare := leaf 6 q ⟨16 * b.val + j.val, by omega⟩

/-- A tile's share of a table is its sixty-four row copies' shares. -/
theorem shares {ℓ : Loc nD τ sig} (f : Buf (Elt F) ℓ) (q : PosShare TreeShare) :
    (ℓ ↦{q} f : sProp 𝕄) = bigSep Finset.univ fun b : Fin 4 => bigSep Finset.univ fun j : Fin 16 => ℓ ↦{sh q b j} f := by
  rw [pointsTo_leaves Finset.univ f 6 q,
    bigSep_univ_equiv (finProdFinEquiv : Fin 4 × Fin 16 ≃ Fin (4 * 16)) (fun i : Fin (2 ^ 6) => (ℓ ↦{leaf 6 q i} f : sProp 𝕄)),
    bigSep_univ_prod]
  refine bigSep_congr fun b _ => bigSep_congr fun j _ => ?_
  rw [sh, show (finProdFinEquiv (b, j) : Fin (4 * 16)) = (⟨16 * b.val + j.val, by omega⟩ : Fin (2 ^ 6)) from
    Fin.ext (by show j.val + 16 * b.val = 16 * b.val + j.val; omega)]

section Chunk

variable (q : PosShare TreeShare) (fu : Buf (Elt F) (uTl d)) (fm : Buf (Elt F) (mTl d))

/-- Row `j` of buffer `b` of a ring at contents `g`, beside the share of the table its next copy reads. -/
def uSlot (g : Buf (Elt F) (uRl d L)) (b : Fin 4) (j : Fin 16) : sProp 𝕄 :=
  iprop((uRl d L ↦[rowSet b j]{fullShare} g) ∗ (uTl d ↦{sh q b j} fu))
def mSlot (g : Buf (Elt F) (mRl d L)) (b : Fin 4) (j : Fin 16) : sProp 𝕄 :=
  iprop((mRl d L ↦[rowSet b j]{fullShare} g) ∗ (mTl d ↦{sh q b j} fm))

/-- What the chunk's copies bring: rows of users and of movies in turn. -/
def land (u v : IVec S16 32) (b : Fin 4) (t : Fin 32) : sProp 𝕄 :=
  if t.val % 2 = 0 then uSlot d L q fu (uRing (F := F) fu u) b ⟨t.val / 2, by omega⟩
  else mSlot d L q fm (mRing (F := F) fm v) b ⟨t.val / 2, by omega⟩

instance land_storable (u v : IVec S16 32) (b : Fin 4) (t : Fin 32) :
    Storable (upEmb : UEmb _ 𝕄) (land d L q fu fm u v b t) := by
  unfold land uSlot mSlot; split <;> infer_instance

theorem land_even (u v : IVec S16 32) (b : Fin 4) (j : Fin 16) (h : 2 * j.val < 32) :
    land d L q fu fm u v b ⟨2 * j.val, h⟩ = uSlot d L q fu (uRing (F := F) fu u) b j := by
  rw [land, if_pos (by show 2 * j.val % 2 = 0; omega)]
  congr 1; exact Fin.ext (by show 2 * j.val / 2 = j.val; omega)

theorem land_odd (u v : IVec S16 32) (b : Fin 4) (j : Fin 16) (h : 2 * j.val + 1 < 32) :
    land d L q fu fm u v b ⟨2 * j.val + 1, h⟩ = mSlot d L q fm (mRing (F := F) fm v) b j := by
  rw [land, if_neg (by show ¬ (2 * j.val + 1) % 2 = 0; omega)]
  congr 1; exact Fin.ext (by show (2 * j.val + 1) / 2 = j.val; omega)

/-- All that a chunk's copies bring, by row. -/
theorem land_all (u v : IVec S16 32) (b : Fin 4) :
    bigSep Finset.univ (land d L q fu fm u v b)
      = bigSep Finset.univ fun j => iprop(uSlot d L q fu (uRing (F := F) fu u) b j ∗ mSlot d L q fm (mRing (F := F) fm v) b j) := by
  rw [bigSep_univ_equiv (finProdFinEquiv : Fin 16 × Fin 2 ≃ Fin (16 * 2)) (land d L q fu fm u v b), bigSep_univ_prod]
  refine bigSep_congr fun j _ => ?_
  rw [bigSep_univ_two, ← land_even d L q fu fm u v b j (by omega), ← land_odd d L q fu fm u v b j (by omega)]
  congr 2 <;> refine Fin.ext ?_
  · show 0 + 2 * j.val = 2 * j.val; omega
  · show 1 + 2 * j.val = 2 * j.val + 1; omega

/-- The units of one row's copy. -/
abbrev rowUnits : ℕ := (rowOf uR 0 0 (by decide) (by decide)).view.dmaCredit

theorem units_pos : 0 < rowUnits := View.dmaCredit_pos _ (by decide)

/-- Buffer `b` with its chunk's copies, `n` of them started and `w` units awaited. -/
abbrev batch (sm : DmaSems sig S_) (u v : IVec S16 32) (b : Fin 4) (n w : ℕ) : sProp 𝕄 :=
  Batch countersEmb (thr d L) (.dma sm.sem) ι₀ rowUnits (land d L q fu fm u v b) n w

/-- Rows `j` of buffer `b` of both rings, whatever they hold. -/
def anyRow (b : Fin 4) (j : Fin 16) : sProp 𝕄 := iprop((∃ g, uSlot d L q fu g b j) ∗ (∃ g, mSlot d L q fm g b j))

/-- Buffer `b` with no copy under way. -/
def Idle (sm : DmaSems sig S_) (b : Fin 4) : sProp 𝕄 :=
  iprop(semVal (thr d L, .dma sm.sem) 0 ∗ bigSep Finset.univ (anyRow d L q fu fm b))

/-- Buffer `b` with every copy of its chunk started and none awaited. -/
abbrev Flying (sm : DmaSems sig S_) (u v : IVec S16 32) (b : Fin 4) : sProp 𝕄 := batch d L q fu fm sm u v b 32 0

/-- The waits done so far are the ones known before, or of the kernel's own transfers. -/
def Ow (O : CellTallies nD τ sig (HIx 1)) (W : Waits sig (HIx 1)) : sProp 𝕄 :=
  iprop(∃ W' : Waits sig (HIx 1), ⌜∀ p ∈ W', p ∈ W ∨ p.2 = none⌝ ∗ owes (thr d L) O W')

variable {α : Type} {Q : α → sProp (MT nD τ sig (HIx 1) (Elt F) ℕ UU ℕ)}

/-- The wp of the tile's programs. -/
abbrev WP (P : TP F L α) (Q : α → sProp (MT nD τ sig (HIx 1) (Elt F) ℕ UU ℕ)) : sProp 𝕄 :=
  wp frame (wpE (defs₀ (F := F)) 𝒱₀ (thr d L) none) Set.univ P Q

theorem fireRows_spec (sm : DmaSems sig S_) (u v : IVec S16 32) (b : ℕ) (hb : b < 4)
    (hu : ∀ x, (u x).toNat < 1000000) (hv : ∀ x, (v x).toNat < 100000) (K : TP F L α) :
    ∀ (n j : ℕ) (h : j + n = 16),
    iprop(batch d L q fu fm sm u v ⟨b, hb⟩ (2 * j) 0 ∗ bigSep (pending j) (anyRow d L q fu fm ⟨b, hb⟩))
      ⊢ iprop((Flying d L q fu fm sm u v ⟨b, hb⟩ -∗ WP d L K Q) -∗ WP d L (fireRows L uT mT uR mR b hb sm u v K n j h) Q) := by
  intro n
  induction n with
  | zero =>
    intro j h
    obtain rfl : j = 16 := by omega
    iintro ⟨HB, -⟩ Hk
    iapply Hk
    iexact HB
  | succ n ih =>
    intro j h
    have hj : j < 16 := by omega
    rw [bigSep_pending_step _ j hj]
    iintro ⟨HB, ⟨Hr, Hrest⟩⟩ Hk
    rw [fireRows]
    unfold anyRow uSlot mSlot
    icases Hr with ⟨⟨%g, ⟨Hur, Hut⟩⟩, ⟨%g', ⟨Hmr, Hmt⟩⟩⟩
    have h1 : k0_chk1 (wordOf u j hj) := chk_u (hu _)
    have h2 : k0_chk2 (wordOf v j hj) := chk_m (hv _)
    iapply (wp_assume 𝒱₀ (thr d L) none Set.univ h1)
    iapply (Cert.Rules.wp_issue countersEmb 𝒱₀ (thr d L) none (src := uRow uT (wordOf u j hj) h1) (dst := rowOf uR b j hb hj)
      (D := land d L q fu fm u v ⟨b, hb⟩) (j := 2 * j) (Sd := rowSet ⟨b, hb⟩ ⟨j, hj⟩) (fd := g) (Ss := Finset.univ) (fs := fu)
      (q := sh q ⟨b, hb⟩ ⟨j, hj⟩)
      ι₀ rowUnits rfl (Finset.subset_univ _) (set_uRow b j hb hj).subset (by omega) ?_) $$ [Hut Hur HB]
    rotate_left
    · isplitl [Hut]; · iexact Hut
      isplitl [Hur] <;> iassumption
    · iintro HB
      iapply (wp_assume 𝒱₀ (thr d L) none Set.univ h2)
      iapply (Cert.Rules.wp_issue countersEmb 𝒱₀ (thr d L) none (src := mRow mT (wordOf v j hj) h2) (dst := rowOf mR b j hb hj)
        (D := land d L q fu fm u v ⟨b, hb⟩) (j := 2 * j + 1) (Sd := rowSet ⟨b, hb⟩ ⟨j, hj⟩) (fd := g') (Ss := Finset.univ) (fs := fm)
        (q := sh q ⟨b, hb⟩ ⟨j, hj⟩)
        ι₀ rowUnits rfl (Finset.subset_univ _) (set_mRow b j hb hj).subset (by omega) ?_) $$ [Hmt Hmr HB]
      rotate_left
      · isplitl [Hmt]; · iexact Hmt
        isplitl [Hmr] <;> iassumption
      · iintro HB
        iapply (ih (j + 1) _) $$ [HB Hrest]
        · isplitl [HB]; · iexact HB
          unfold anyRow uSlot mSlot
          iexact Hrest
        iexact Hk
      · rw [land_odd d L q fu fm u v ⟨b, hb⟩ ⟨j, hj⟩ (by show 2 * j + 1 < 32; omega), mSlot]
        refine sep_mono (Entails.of_eq (pointsTo_congr fun x hx => ?_)) .rfl
        exact mRow_landed fm v b j hb hj h2 g' x hx
    · rw [land_even d L q fu fm u v ⟨b, hb⟩ ⟨j, hj⟩ (by show 2 * j < 32; omega), uSlot]
      refine sep_mono (Entails.of_eq (pointsTo_congr fun x hx => ?_)) .rfl
      exact uRow_landed fu u b j hb hj h1 g x hx

/-- The sixteen ids of chunk `c`. -/
def ids (f : IVec S512 32) (c : ℕ) : IVec S16 32 := fun x => f (chunkAt c x)

abbrev uSl : Loc nD τ sig := (thr d L).loc cc0_scratch0
abbrev mSl : Loc nD τ sig := (thr d L).loc cc0_scratch1

/-- Sixteen ids of each kind are read and their rows' copies started. -/
theorem fire_spec (sm : DmaSems sig S_) (f : IVec S512 32) (g : IVec S512 32) (b : ℕ) (hb : b < 4) (c : ℕ)
    (hf : ∀ x, (f x).toNat < 1000000) (hg : ∀ x, (g x).toNat < 100000)
    (off : Fin 1 → ℕ) (hoff : ∀ a, off a + S16.size a ≤ S512.size a) (h : off = ![16 * c]) (K : TP F L α) :
    iprop(Idle d L q fu fm sm ⟨b, hb⟩ ∗ (uSl d L ↦{fullShare} f) ∗ (mSl d L ↦{fullShare} g))
      ⊢ iprop((iprop(Flying d L q fu fm sm (ids f c) (ids g c) ⟨b, hb⟩ ∗ (uSl d L ↦{fullShare} f) ∗ (mSl d L ↦{fullShare} g)) -∗ WP d L K Q)
        -∗ WP d L (fire L uT mT uS mS uR mR b hb sm off hoff K) Q) := by
  unfold Idle fire
  iintro ⟨⟨Hv, Hrows⟩, Hf, Hg⟩ Hk
  have eu : uS.view.readAt (Elt F) (Rect.unit (s := S512) off S16.size hoff).toLoadRect f = ids f c :=
    funext fun x => congrArg f (emb_chunk off hoff c h x)
  have em : mS.view.readAt (Elt F) (Rect.unit (s := S512) off S16.size hoff).toLoadRect g = ids g c :=
    funext fun x => congrArg g (emb_chunk off hoff c h x)
  iapply (wp_load 𝒱₀ (thr d L) none Set.univ (m := uS) (S := Finset.univ) (Finset.subset_univ _)) $$ Hf
  iintro Hf
  iapply (wp_load 𝒱₀ (thr d L) none Set.univ (m := mS) (S := Finset.univ) (Finset.subset_univ _)) $$ Hg
  iintro Hg
  rw [eu, em]
  imod (batch_alloc' countersEmb (thr d L) (sm := .dma sm.sem) ι₀ rowUnits (land d L q fu fm (ids f c) (ids g c) ⟨b, hb⟩)) $$ Hv with HB
  iapply (fireRows_spec d L q fu fm sm (ids f c) (ids g c) b hb (fun x => hf _) (fun x => hg _) K 16 0 rfl) $$ [HB Hrows]
  · isplitl [HB]; · iexact HB
    rw [pending_zero]; iexact Hrows
  iintro HB
  iapply Hk
  isplitl [HB]; · iexact HB
  isplitl [Hf] <;> iassumption

variable (O : CellTallies nD τ sig (HIx 1)) (W : Waits sig (HIx 1))

theorem ow_insert (sm : SemLoc sig) (W' : Waits sig (HIx 1)) (h : ∀ p ∈ W', p ∈ W ∨ p.2 = none) :
    (owes (thr d L) O (insert (sm, ι₀) W') : sProp 𝕄) ⊢ Ow d L O W := by
  unfold Ow
  iintro H
  iexists insert (sm, ι₀) W'
  isplitr
  · ipureintro
    intro p hp
    rcases Finset.mem_insert.mp hp with rfl | hp
    · exact .inr rfl
    · exact h p hp
  iexact H

/-- One of the waits before a chunk's last. -/
theorem wait_spec {sp sp' : Space} {s' : Shape} {e' : EltTy} (sm : DmaSems sig S_) (u v : IVec S16 32) (b : Fin 4) (w : ℕ) (hw : w < 31)
    {srcw : Memref sig .scVector sp' s' e'} {dstw : Memref sig .scVector sp S64 .f32} {hsrc : srcw.view.WordExact} {hdst : dstw.view.WordExact}
    (hN : dstw.view.dmaCredit = rowUnits) {k : PUnit → TP F L α} :
    iprop(MayWaits (thr d L) ι₀ O ∗ batch d L q fu fm sm u v b 32 (rowUnits * w) ∗ Ow d L O W)
      ⊢ iprop((iprop(batch d L q fu fm sm u v b 32 (rowUnits * (w + 1)) ∗ Ow d L O W) -∗ WP d L (k ⟨⟩) Q)
        -∗ WP d L (.op (.waitDma2 sm.sem srcw dstw hsrc hdst) k) Q) := by
  have hu : rowUnits * w + rowUnits < rowUnits * 32 := by
    have := Nat.mul_lt_mul_of_pos_left (show w + 1 < 32 by omega) units_pos
    rwa [Nat.mul_succ] at this
  iintro ⟨#HM, HB, HO⟩ Hk
  unfold Ow
  icases HO with ⟨%W', %hW, HO⟩
  iapply (wp_waitBatchO countersEmb 𝒱₀ (thr d L) none (srcw := srcw) (dstw := dstw) ι₀ (N := rowUnits) hN
    (D := land d L q fu fm u v b) (u := rowUnits * w) hu (O := O) (W := W')) $$ [HB HO]
  · isplitl [HB]; · iexact HB
    isplitl [HO]; · iexact HO
    iapply (MayWaits.elim _) $$ HM
  iintro ⟨HB, HO⟩
  iapply Hk
  isplitl [HB]; · iexact HB
  have := ow_insert (F := F) d L O W (.dma sm.sem) W' hW
  unfold Ow at this
  iapply this $$ HO

/-- A chunk's last wait. -/
theorem waitLast_spec {sp sp' : Space} {s' : Shape} {e' : EltTy} (sm : DmaSems sig S_) (u v : IVec S16 32) (b : Fin 4)
    {srcw : Memref sig .scVector sp' s' e'} {dstw : Memref sig .scVector sp S64 .f32} {hsrc : srcw.view.WordExact} {hdst : dstw.view.WordExact}
    (hN : dstw.view.dmaCredit = rowUnits) {k : PUnit → TP F L α} :
    iprop(MayWaits (thr d L) ι₀ O ∗ batch d L q fu fm sm u v b 32 (rowUnits * 31) ∗ Ow d L O W)
      ⊢ iprop((iprop(bigSep Finset.univ (land d L q fu fm u v b) ∗ semVal (thr d L, .dma sm.sem) 0 ∗ Ow d L O W) -∗ WP d L (k ⟨⟩) Q)
        -∗ WP d L (.op (.waitDma2 sm.sem srcw dstw hsrc hdst) k) Q) := by
  iintro ⟨#HM, HB, HO⟩ Hk
  unfold Ow
  icases HO with ⟨%W', %hW, HO⟩
  iapply (wp_waitBatchLastO countersEmb 𝒱₀ (thr d L) none (srcw := srcw) (dstw := dstw) ι₀ (N := rowUnits) hN units_pos
    (D := land d L q fu fm u v b) (u := rowUnits * 31) (Nat.mul_succ _ _).symm (O := O) (W := W')) $$ [HB HO]
  · isplitl [HB]; · iexact HB
    isplitl [HO]; · iexact HO
    iapply (MayWaits.elim _) $$ HM
  iintro ⟨HD, Hv, HO⟩
  iapply Hk
  isplitl [HD]; · iexact HD
  isplitl [Hv]; · iexact Hv
  have := ow_insert (F := F) d L O W (.dma sm.sem) W' hW
  unfold Ow at this
  iapply this $$ HO

/-- A chunk's waits: the last brings what every copy of the chunk delivers. -/
theorem drainRows_spec (sm : DmaSems sig S_) (u v : IVec S16 32) (b : ℕ) (hb : b < 4) (K : TP F L α) :
    ∀ (n j : ℕ) (h : j + (n + 1) = 16),
    iprop(MayWaits (thr d L) ι₀ O ∗ batch d L q fu fm sm u v ⟨b, hb⟩ 32 (rowUnits * (2 * j)) ∗ Ow d L O W)
      ⊢ iprop((iprop(bigSep Finset.univ (land d L q fu fm u v ⟨b, hb⟩) ∗ semVal (thr d L, .dma sm.sem) 0 ∗ Ow d L O W) -∗ WP d L K Q)
        -∗ WP d L (drainRows L uT mT uR mR b hb sm K (n + 1) j h) Q) := by
  intro n
  induction n with
  | zero =>
    intro j h
    obtain rfl : j = 15 := by omega
    iintro ⟨#HM, HB, HO⟩ Hk
    rw [drainRows, drainRows]
    iapply (wait_spec d L q fu fm O W sm u v ⟨b, hb⟩ 30 (by decide) (srcw := uRow0 uT) (dstw := rowOf uR b 15 hb _) rfl) $$ [HB HO]
    · isplitr; · iexact HM
      isplitl [HB] <;> iassumption
    iintro ⟨HB, HO⟩
    iapply (waitLast_spec d L q fu fm O W sm u v ⟨b, hb⟩ (srcw := mRow0 mT) (dstw := rowOf mR b 15 hb _) rfl) $$ [HB HO]
    · isplitr; · iexact HM
      isplitl [HB] <;> iassumption
    iexact Hk
  | succ n ih =>
    intro j h
    iintro ⟨#HM, HB, HO⟩ Hk
    rw [drainRows]
    iapply (wait_spec d L q fu fm O W sm u v ⟨b, hb⟩ (2 * j) (by omega) (srcw := uRow0 uT) (dstw := rowOf uR b j hb _) rfl) $$ [HB HO]
    · isplitr; · iexact HM
      isplitl [HB] <;> iassumption
    iintro ⟨HB, HO⟩
    iapply (wait_spec d L q fu fm O W sm u v ⟨b, hb⟩ (2 * j + 1) (by omega) (srcw := mRow0 mT) (dstw := rowOf mR b j hb _) rfl) $$ [HB HO]
    · isplitr; · iexact HM
      isplitl [HB] <;> iassumption
    iintro ⟨HB, HO⟩
    iapply (ih (j + 1) _) $$ [HB HO]
    · isplitr; · iexact HM
      isplitl [HB] <;> iassumption
    iexact Hk

end Chunk

end Cert.KernelIdeal.Tile

end
-- ==== Proof.KernelIdeal.Chunk.lean ====
/-
  One chunk's results. Its rows landed, the sixty-four columns are read and added up and the sixteen sums stored;
  then the ring's buffer is idle again. `Done c` is the output scratch with its first `c` chunks right.
-/
module

public import proofs.«01_k».proof.Proof.KernelIdeal.Fetch

@[expose] public section

noncomputable section

namespace Cert.KernelIdeal.Tile

open Idealize.ShloMosaic Idealize.ShloMosaic.ValueIdx
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Clean

variable {F : FTy → Type} [FloatOps F]

local notation "𝕄" => MT nD τ sig (HIx 1) (Elt F) ℕ UU ℕ

variable (d : Dev nD) (L : grid0.Coords)
variable (q : PosShare TreeShare) (fu : Buf (Elt F) (uTl d)) (fm : Buf (Elt F) (mTl d))
variable {α : Type} {Q : α → sProp (MT nD τ sig (HIx 1) (Elt F) ℕ UU ℕ)}

/-- Buffer `b` of both rings, the chunk's rows landed. -/
def Got (u v : IVec S16 32) (b : Fin 4) : sProp 𝕄 :=
  iprop((uRl d L ↦[bufSet b]{fullShare} (uRing (F := F) fu u : Buf (Elt F) (uRl d L)))
    ∗ (mRl d L ↦[bufSet b]{fullShare} (mRing (F := F) fm v : Buf (Elt F) (mRl d L))))

/-- The shares buffer `b`'s row copies read at. -/
def Shares (b : Fin 4) : sProp 𝕄 :=
  iprop((bigSep Finset.univ fun j : Fin 16 => (uTl d ↦{sh q b j} fu : sProp 𝕄)) ∗ (bigSep Finset.univ fun j : Fin 16 => (mTl d ↦{sh q b j} fm : sProp 𝕄)))

theorem land_got (u v : IVec S16 32) (b : Fin 4) :
    bigSep Finset.univ (land d L q fu fm u v b) ⊢ iprop(Got d L fu fm u v b ∗ Shares d q fu fm b) := by
  rw [land_all, bigSep_sep']
  unfold uSlot mSlot Got Shares
  rw [bigSep_sep', bigSep_sep', bufSet_eq, pointsTo_biUnion _ _ (fun i _ j _ hij => rowSet_disjoint b i j hij),
    pointsTo_biUnion _ _ (fun i _ j _ hij => rowSet_disjoint b i j hij)]
  iintro ⟨⟨Hu, Hut⟩, ⟨Hm, Hmt⟩⟩
  isplitl [Hu Hm]
  · isplitl [Hu] <;> iassumption
  · isplitl [Hut] <;> iassumption

theorem anyRow_intro (b : Fin 4) (j : Fin 16) (g : Buf (Elt F) (uRl d L)) (g' : Buf (Elt F) (mRl d L)) :
    iprop(uSlot d L q fu g b j ∗ mSlot d L q fm g' b j) ⊢ anyRow d L q fu fm b j := by
  unfold anyRow
  iintro ⟨Hu, Hm⟩
  isplitl [Hu]
  · iexists g; iexact Hu
  · iexists g'; iexact Hm

theorem idle_of (sm : DmaSems sig S_) (b : Fin 4) (g : Buf (Elt F) (uRl d L)) (g' : Buf (Elt F) (mRl d L)) :
    iprop(semVal (thr d L, .dma sm.sem) 0 ∗ (uRl d L ↦[bufSet b]{fullShare} g) ∗ (mRl d L ↦[bufSet b]{fullShare} g') ∗ Shares d q fu fm b)
      ⊢ Idle d L q fu fm sm b := by
  unfold Idle Shares
  rw [bufSet_eq, pointsTo_biUnion _ _ (fun i _ j _ hij => rowSet_disjoint b i j hij),
    pointsTo_biUnion _ _ (fun i _ j _ hij => rowSet_disjoint b i j hij)]
  iintro ⟨Hv, Hu, Hm, Hut, Hmt⟩
  isplitl [Hv]; · iexact Hv
  iapply (show iprop(bigSep Finset.univ fun j => iprop(uSlot d L q fu g b j ∗ mSlot d L q fm g' b j)) ⊢ bigSep Finset.univ (anyRow d L q fu fm b) from
    bigSep_mono fun j _ => anyRow_intro d L q fu fm b j g g')
  unfold uSlot mSlot
  rw [bigSep_sep', bigSep_sep', bigSep_sep']
  isplitl [Hu Hut]
  · isplitl [Hu] <;> iassumption
  · isplitl [Hm] <;> iassumption

theorem cols_spec (u v : IVec S16 32) (b : ℕ) (hb : b < 4) (K : FVec F S16 .f32 → TP F L α) :
    ∀ (n k : ℕ), k + n = 64 →
    Got d L fu fm u v ⟨b, hb⟩
      ⊢ iprop((Got d L fu fm u v ⟨b, hb⟩ -∗ WP d L (K (acc fu fm u v 64)) Q)
        -∗ WP d L (cols L uR mR b hb K n k (acc (F := F) fu fm u v k)) Q) := by
  intro n
  induction n with
  | zero =>
    intro k h
    obtain rfl : k = 64 := by omega
    iintro HG Hk
    iapply Hk
    iexact HG
  | succ n ih =>
    intro k h
    rw [cols]
    iintro HG Hk
    have hc : k0_chk129 slots (colOf k) := chk_cols k (by omega)
    iapply (wp_assume 𝒱₀ (thr d L) none Set.univ hc)
    unfold Got
    icases HG with ⟨Hu, Hm⟩
    iapply (wp_load 𝒱₀ (thr d L) none Set.univ (m := bufOf uR b hb) (S := bufSet ⟨b, hb⟩) ((View.setOn_subset_set _ _).trans (set_uBuf b hb))) $$ Hu
    iintro Hu
    iapply (wp_load 𝒱₀ (thr d L) none Set.univ (m := bufOf mR b hb) (S := bufSet ⟨b, hb⟩) ((View.setOn_subset_set _ _).trans (set_mBuf b hb))) $$ Hm
    iintro Hm
    have e := acc_succ (F := F) fu fm u v b k hb (by omega) hc.1 hc.1
    rw [e]
    unfold Got at ih
    iapply (ih (k + 1) (by omega)) $$ [Hu Hm]
    · isplitl [Hu] <;> iassumption
    iexact Hk

abbrev oSl : Loc nD τ sig := (thr d L).loc cc0_scratch4

/-- The output scratch, its first `c` chunks the sums of the rows the ids `f`, `g` name. -/
def Done (f g : IVec S512 32) (c : ℕ) : sProp 𝕄 :=
  iprop(∃ o : Buf (Elt F) (oSl d L), ⌜∀ p : S512.Idx, (p 0).val < 16 * c → o p = dot (F := F) fu fm (f p) (g p) 64⌝ ∗ (oSl d L ↦{fullShare} o))

/-- Storing a chunk's sums makes one more chunk right. -/
theorem stored (f g : IVec S512 32) (c : ℕ) (off : Fin 1 → ℕ) (hoff : ∀ a, off a + S16.size a ≤ S512.size a) (h : off = ![16 * c])
    (o : FVec F S512 .f32) (ho : ∀ p : S512.Idx, (p 0).val < 16 * c → o p = dot (F := F) fu fm (f p) (g p) 64) (p : S512.Idx)
    (hp : (p 0).val < 16 * (c + 1)) :
    (oS.access (Rect.unit (s := S512) off S16.size hoff)).write (Elt F) o (acc (F := F) fu fm (ids f c) (ids g c) 64) Finset.univ p
      = dot (F := F) fu fm (f p) (g p) 64 := by
  by_cases hin : p ∈ (oS.access (Rect.unit (s := S512) off S16.size hoff)).setOn Finset.univ
  · obtain ⟨x, -, rfl⟩ := Finset.mem_map.mp hin
    rw [View.write_emb_of_mem _ _ (Finset.mem_univ x)]
    have e : (oS.access (Rect.unit (s := S512) off S16.size hoff)).emb x = chunkAt c x := emb_chunk off hoff c h x
    rw [e]
    rfl
  · rw [View.write_of_not_mem _ _ _ hin]
    refine ho p (Nat.lt_of_not_le fun hle => hin ?_)
    have h16 : (p 0).val - 16 * c < 16 := by omega
    have e : (oS.access (Rect.unit (s := S512) off S16.size hoff)).emb (ix1 (⟨(p 0).val - 16 * c, h16⟩ : Fin 16)) = p := by
      refine (emb_chunk off hoff c h _).trans (Shape.idx1_ext ?_)
      show (16 * c + ((p 0).val - 16 * c)) % 512 = (p 0).val
      have : (p 0).val < 512 := (p 0).isLt
      rw [Nat.mod_eq_of_lt (by omega)]; omega
    rw [← e]
    exact (View.mem_setOn _).mpr (Finset.mem_univ _)

variable (O : CellTallies nD τ sig (HIx 1)) (W : Waits sig (HIx 1))

/-- A chunk is awaited and its sums stored. -/
theorem dc_spec (sm : DmaSems sig S_) (f g : IVec S512 32) (b : ℕ) (hb : b < 4) (c : ℕ)
    (off : Fin 1 → ℕ) (hoff : ∀ a, off a + S16.size a ≤ S512.size a) (h : off = ![16 * c]) (K : TP F L α) :
    iprop(MayWaits (thr d L) ι₀ O ∗ Flying d L q fu fm sm (ids f c) (ids g c) ⟨b, hb⟩ ∗ Done d L fu fm f g c ∗ Ow d L O W)
      ⊢ iprop((iprop(Idle d L q fu fm sm ⟨b, hb⟩ ∗ Done d L fu fm f g (c + 1) ∗ Ow d L O W) -∗ WP d L K Q)
        -∗ WP d L (dc L uT mT uR mR oS b hb sm off hoff K) Q) := by
  iintro ⟨#HM, HB, HD, HO⟩ Hk
  unfold dc
  iapply (drainRows_spec d L q fu fm O W sm (ids f c) (ids g c) b hb _ 15 0 rfl) $$ [HB HO]
  · isplitr; · iexact HM
    isplitl [HB] <;> iassumption
  iintro ⟨HL, Hv, HO⟩
  ihave HL' := (land_got d L q fu fm (ids f c) (ids g c) ⟨b, hb⟩) $$ HL
  icases HL' with ⟨HG, HS⟩
  unfold compute
  rw [← acc_zero (F := F) fu fm (ids f c) (ids g c)]
  iapply (cols_spec d L fu fm (ids f c) (ids g c) b hb _ 64 0 rfl) $$ HG
  iintro HG
  unfold Done
  icases HD with ⟨%o, %ho, HD⟩
  iapply (wp_load 𝒱₀ (thr d L) none Set.univ (m := oS) (S := Finset.univ) (Finset.subset_univ _)) $$ HD
  iintro HD
  iapply (wp_store 𝒱₀ (thr d L) none Set.univ (m := oS) (r := Rect.unit (s := S512) off S16.size hoff) (Mk := Finset.univ) (f := o) (S := Finset.univ) (Finset.subset_univ _)) $$ HD
  iintro HD
  iapply Hk
  isplitl [Hv HG HS]
  · unfold Got
    icases HG with ⟨Hu, Hm⟩
    iapply (idle_of d L q fu fm sm ⟨b, hb⟩)
    isplitl [Hv]; · iexact Hv
    isplitl [Hu]; · iexact Hu
    isplitl [Hm]; · iexact Hm
    iexact HS
  isplitl [HD]
  · iexists _
    isplitr
    · ipureintro
      exact stored d fu fm f g c off hoff h o ho
    iexact HD
  iexact HO

end Cert.KernelIdeal.Tile

end
-- ==== Proof.KernelIdeal.Tile.lean ====
/-
  A tile's whole program. `Ring c` is the state between chunks: chunks `c … c + 3` under way in the four buffers, the
  chunks before them stored. The loop takes `Ring (4 t)` to `Ring (4 t + 4)`; what follows it stores the last four.
-/
module

public import proofs.«01_k».proof.Proof.KernelIdeal.Chunk

@[expose] public section

noncomputable section

namespace Cert.KernelIdeal.Tile

open Idealize.ShloMosaic Idealize.ShloMosaic.ValueIdx
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Clean

variable {F : FTy → Type} [FloatOps F]

local notation "𝕄" => MT nD τ sig (HIx 1) (Elt F) ℕ UU ℕ

/-! ## The tile's block of ids and of results -/

/-- The tile's place among the thirty-two. -/
def blk (L : grid0.Coords) : Fin 32 := ⟨2 * (L 1).val + (L 0).val, by
  have h1 : (L 1).val < 16 := (L 1).isLt
  have h0 : (L 0).val < 2 := (L 0).isLt
  omega⟩

/-- Block `w` of the results. -/
def blkSet (w : Fin 32) : Finset S16384.Idx := Finset.univ.filter fun p => (p 0).val / 512 = w.val

theorem mem_blkSet {w : Fin 32} {p : S16384.Idx} : p ∈ blkSet w ↔ (p 0).val / 512 = w.val := by
  rw [blkSet, Finset.mem_filter, and_iff_right (Finset.mem_univ p)]

/-- Entry `x` of block `w`. -/
def blkAt (w : Fin 32) (x : S512.Idx) : S16384.Idx := ix1 (⟨512 * w.val + (x 0).val, by
  have : (x 0).val < 512 := (x 0).isLt
  omega⟩ : Fin 16384)

theorem blkAt_mem (w : Fin 32) (x : S512.Idx) : blkAt w x ∈ blkSet w := by
  have : (x 0).val < 512 := (x 0).isLt
  rw [mem_blkSet]
  show (512 * w.val + (x 0).val) / 512 = w.val
  omega

theorem emb_blk (L : grid0.Coords) (off : Fin 1 → ℕ) (hoff : ∀ a, off a + S512.size a ≤ S16384.size a)
    (h : off = ![1024 * (L 1).val + 512 * (L 0).val]) (x : S512.Idx) :
    (Rect.unit (s := S16384) off S512.size hoff).emb x = blkAt (blk L) x := by
  subst h
  refine Shape.idx1_ext ?_
  show 1024 * (L 1).val + 512 * (L 0).val + 1 * (x 0).val = 512 * (2 * (L 1).val + (L 0).val) + (x 0).val
  omega

abbrev inRect (L : grid0.Coords) : Rect S16384 := Rect.unit (s := S16384) (k0_off1 L) S512.size (k0_off1_inb L)
abbrev outRect (L : grid0.Coords) : Rect S16384 := Rect.unit (s := S16384) (k0_off266 L) S512.size (k0_off266_inb L)
abbrev outBlk (L : grid0.Coords) : Memref sig .scVector .hbm S512 .f32 := oT.slice (outRect L) (fun _ => rfl)

theorem set_outBlk (L : grid0.Coords) : (outBlk L).view.set ⊆ blkSet (blk L) := by
  intro p hp
  obtain ⟨x, -, e⟩ := Finset.mem_map.mp hp
  have e' : (outBlk L).view.emb x = blkAt (blk L) x := emb_blk L _ _ (k0_off266_eq L) x
  rw [← e, e']
  exact blkAt_mem _ x

/-- The tile's ids, of all the ids. -/
def idsOf (L : grid0.Coords) (f : IVec S16384 32) : IVec S512 32 := fun x => f (blkAt (blk L) x)

theorem read_uI (L : grid0.Coords) (f : IVec S16384 32) :
    (uI.slice (inRect L) (fun _ => rfl)).view.read (Elt F) f = idsOf L f := funext fun x => congrArg f (emb_blk L _ _ (k0_off1_eq L) x)
theorem read_mI (L : grid0.Coords) (f : IVec S16384 32) :
    (mI.slice (inRect L) (fun _ => rfl)).view.read (Elt F) f = idsOf L f := funext fun x => congrArg f (emb_blk L _ _ (k0_off1_eq L) x)

/-- The kernel's results. -/
def OUT (fi fj : IVec S16384 32) (fu : FVec F S1000000x64 .f32) (fm : FVec F S100000x64 .f32) : FVec F S16384 .f32 :=
  fun p => dot fu fm (fi p) (fj p) 64

/-- The tile's block as its last copy leaves it. -/
theorem written (L : grid0.Coords) (fi fj : IVec S16384 32) (fu : FVec F S1000000x64 .f32) (fm : FVec F S100000x64 .f32)
    (fo : FVec F S16384 .f32) (o : FVec F S512 .f32)
    (ho : ∀ p : S512.Idx, (p 0).val < 16 * 32 → o p = dot (F := F) fu fm (idsOf L fi p) (idsOf L fj p) 64) :
    ∀ p ∈ blkSet (blk L), (outBlk L).view.write (Elt F) fo (oS.view.read (Elt F) o) Finset.univ p = OUT fi fj fu fm p := by
  intro p hp
  rw [mem_blkSet] at hp
  have hlt : (p 0).val < 16384 := (p 0).isLt
  have hx : (p 0).val - 512 * (blk L).val < 512 := by omega
  have e : (outBlk L).view.emb (ix1 (⟨(p 0).val - 512 * (blk L).val, hx⟩ : Fin 512)) = p := by
    refine (emb_blk L _ _ (k0_off266_eq L) _).trans (Shape.idx1_ext ?_)
    show 512 * (blk L).val + ((p 0).val - 512 * (blk L).val) = (p 0).val
    omega
  generalize ix1 (⟨(p 0).val - 512 * (blk L).val, hx⟩ : Fin 512) = x at e
  subst e
  rw [View.write_emb_of_mem _ _ (Finset.mem_univ _)]
  have e' : (outBlk L).view.emb x = blkAt (blk L) x := emb_blk L _ _ (k0_off266_eq L) x
  rw [e']
  exact ho x (x 0).isLt

variable (d : Dev nD) (L : grid0.Coords)
variable (q : PosShare TreeShare) (fu : Buf (Elt F) (uTl d)) (fm : Buf (Elt F) (mTl d))
variable {α : Type} {Q : α → sProp (MT nD τ sig (HIx 1) (Elt F) ℕ UU ℕ)}
variable (O : CellTallies nD τ sig (HIx 1)) (W : Waits sig (HIx 1))
variable (s0 s1 s2 s3 : DmaSems sig S_) (f g : IVec S512 32)

/-- What stays with the tile while its chunks come and go, `c` of them stored. -/
def Held (c : ℕ) : sProp 𝕄 :=
  iprop((uSl d L ↦{fullShare} f) ∗ (mSl d L ↦{fullShare} g) ∗ Done d L fu fm f g c ∗ Ow d L O W)

/-- Chunk `c` under way in buffer `b`. -/
abbrev Fly (sm : DmaSems sig S_) (c : ℕ) (b : Fin 4) : sProp 𝕄 := Flying d L q fu fm sm (ids f c) (ids g c) b

/-- Chunks `c … c + 3` under way, those before them stored. -/
def Ring (c : ℕ) : sProp 𝕄 :=
  iprop(Fly d L q fu fm f g s0 c ⟨0, by decide⟩ ∗ Fly d L q fu fm f g s1 (c + 1) ⟨1, by decide⟩
    ∗ Fly d L q fu fm f g s2 (c + 2) ⟨2, by decide⟩ ∗ Fly d L q fu fm f g s3 (c + 3) ⟨3, by decide⟩
    ∗ Held d L fu fm O W f g c)

theorem start_step (sm : DmaSems sig S_) (b : ℕ) (hb : b < 4) (c c' : ℕ) (hf : ∀ x, (f x).toNat < 1000000) (hg : ∀ x, (g x).toNat < 100000)
    (off : Fin 1 → ℕ) (hoff : ∀ a, off a + S16.size a ≤ S512.size a) (h : off = ![16 * c']) (K : TP F L α) :
    iprop(Idle d L q fu fm sm ⟨b, hb⟩ ∗ Held d L fu fm O W f g c)
      ⊢ iprop((iprop(Fly d L q fu fm f g sm c' ⟨b, hb⟩ ∗ Held d L fu fm O W f g c) -∗ WP d L K Q)
        -∗ WP d L (fire L uT mT uS mS uR mR b hb sm off hoff K) Q) := by
  unfold Held
  iintro ⟨HI, Hf, Hg, HD, HO⟩ Hk
  iapply (fire_spec d L q fu fm sm f g b hb c' hf hg off hoff h K) $$ [HI Hf Hg]
  · isplitl [HI]; · iexact HI
    isplitl [Hf] <;> iassumption
  iintro ⟨HB, Hf, Hg⟩
  iapply Hk
  isplitl [HB]; · iexact HB
  isplitl [Hf]; · iexact Hf
  isplitl [Hg]; · iexact Hg
  isplitl [HD] <;> iassumption

theorem finish_step (sm : DmaSems sig S_) (b : ℕ) (hb : b < 4) (c : ℕ)
    (off : Fin 1 → ℕ) (hoff : ∀ a, off a + S16.size a ≤ S512.size a) (h : off = ![16 * c]) (K : TP F L α) :
    iprop(MayWaits (thr d L) ι₀ O ∗ Fly d L q fu fm f g sm c ⟨b, hb⟩ ∗ Held d L fu fm O W f g c)
      ⊢ iprop((iprop(Idle d L q fu fm sm ⟨b, hb⟩ ∗ Held d L fu fm O W f g (c + 1)) -∗ WP d L K Q)
        -∗ WP d L (dc L uT mT uR mR oS b hb sm off hoff K) Q) := by
  unfold Held
  iintro ⟨#HM, HB, Hf, Hg, HD, HO⟩ Hk
  iapply (dc_spec d L q fu fm O W sm f g b hb c off hoff h K) $$ [HB HD HO]
  · isplitr; · iexact HM
    isplitl [HB]; · iexact HB
    isplitl [HD] <;> iassumption
  iintro ⟨HI, HD, HO⟩
  iapply Hk
  isplitl [HI]; · iexact HI
  isplitl [Hf]; · iexact Hf
  isplitl [Hg]; · iexact Hg
  isplitl [HD] <;> iassumption

/-- A chunk is finished and the one four on started in its buffer. -/
theorem turn_step (sm : DmaSems sig S_) (b : ℕ) (hb : b < 4) (c : ℕ) (hf : ∀ x, (f x).toNat < 1000000) (hg : ∀ x, (g x).toNat < 100000)
    (off : Fin 1 → ℕ) (hoff : ∀ a, off a + S16.size a ≤ S512.size a) (h : off = ![16 * c])
    (off' : Fin 1 → ℕ) (hoff' : ∀ a, off' a + S16.size a ≤ S512.size a) (h' : off' = ![16 * (c + 4)]) (K : TP F L α) :
    iprop(MayWaits (thr d L) ι₀ O ∗ Fly d L q fu fm f g sm c ⟨b, hb⟩ ∗ Held d L fu fm O W f g c)
      ⊢ iprop((iprop(Fly d L q fu fm f g sm (c + 4) ⟨b, hb⟩ ∗ Held d L fu fm O W f g (c + 1)) -∗ WP d L K Q)
        -∗ WP d L (dc L uT mT uR mR oS b hb sm off hoff (fire L uT mT uS mS uR mR b hb sm off' hoff' K)) Q) := by
  iintro ⟨#HM, HB, HH⟩ Hk
  iapply (finish_step d L q fu fm O W f g sm b hb c off hoff h _) $$ [HB HH]
  · isplitr; · iexact HM
    isplitl [HB] <;> iassumption
  iintro ⟨HI, HH⟩
  iapply (start_step d L q fu fm O W f g sm b hb (c + 1) (c + 4) hf hg off' hoff' h' K) $$ [HI HH]
  · isplitl [HI] <;> iassumption
  iexact Hk

theorem body_spec (hf : ∀ x, (f x).toNat < 1000000) (hg : ∀ x, (g x).toNat < 100000) (t : Fin k0_t1_loop.trips) :
    iprop(MayWaits (thr d L) ι₀ O ∗ Ring d L q fu fm O W s0 s1 s2 s3 f g (4 * t.val))
      ⊢ WP d L (body L uT mT uS mS uR mR oS s0 s1 s2 s3 t)
          fun _ => iprop(MayWaits (thr d L) ι₀ O ∗ Ring d L q fu fm O W s0 s1 s2 s3 f g (4 * (t.val + 1))) := by
  have hoff : ∀ {off : Fin 1 → ℕ} {n m : ℕ}, off = ![n] → n = m → off = ![m] := fun h e => e ▸ h
  unfold Ring body
  iintro ⟨#HM, H0, H1, H2, H3, HH⟩
  iapply (turn_step d L q fu fm O W f g s0 0 _ (4 * t.val) hf hg _ _ (hoff (k0_off130_eq t) (by omega)) _ _ (hoff (k0_off131_eq t) (by omega)) _) $$ [H0 HH]
  · isplitr; · iexact HM
    isplitl [H0] <;> iassumption
  iintro ⟨H0, HH⟩
  iapply (turn_step d L q fu fm O W f g s1 1 _ (4 * t.val + 1) hf hg _ _ (hoff (k0_off164_eq t) (by omega)) _ _ (hoff (k0_off165_eq t) (by omega)) _) $$ [H1 HH]
  · isplitr; · iexact HM
    isplitl [H1] <;> iassumption
  iintro ⟨H1, HH⟩
  iapply (turn_step d L q fu fm O W f g s2 2 _ (4 * t.val + 2) hf hg _ _ (hoff (k0_off198_eq t) (by omega)) _ _ (hoff (k0_off199_eq t) (by omega)) _) $$ [H2 HH]
  · isplitr; · iexact HM
    isplitl [H2] <;> iassumption
  iintro ⟨H2, HH⟩
  iapply (turn_step d L q fu fm O W f g s3 3 _ (4 * t.val + 3) hf hg _ _ (hoff (k0_off232_eq t) (by omega)) _ _ (hoff (k0_off233_eq t) (by omega)) _) $$ [H3 HH]
  · isplitr; · iexact HM
    isplitl [H3] <;> iassumption
  iintro ⟨H3, HH⟩
  iapply (le_wp_ret frame _ Set.univ)
  isplitr; · iexact HM
  isplitl [H0]; · iexact H0
  isplitl [H1]; · iexact H1
  isplitl [H2]; · iexact H2
  isplitl [H3]; · iexact H3
  iexact HH

/-! ## The whole program -/

/-- Every row of both rings idle, and every share of the tables. -/
def Rows : sProp 𝕄 := bigSep Finset.univ fun b : Fin 4 => bigSep Finset.univ (anyRow d L q fu fm b)

theorem rows_mono {Φ Ψ : Fin 4 → Fin 16 → sProp 𝕄} (h : ∀ b j, Φ b j ⊢ Ψ b j) :
    (bigSep Finset.univ fun b => bigSep Finset.univ (Φ b)) ⊢ bigSep Finset.univ fun b => bigSep Finset.univ (Ψ b) :=
  bigSep_mono fun b _ => bigSep_mono fun j _ => h b j

theorem rows_in (g : Buf (Elt F) (uRl d L)) (g' : Buf (Elt F) (mRl d L)) :
    iprop((uTl d ↦{q} fu) ∗ (mTl d ↦{q} fm) ∗ (uRl d L ↦{fullShare} g) ∗ (mRl d L ↦{fullShare} g')) ⊢ Rows d L q fu fm := by
  have hu : (uRl d L ↦{fullShare} g : sProp 𝕄) = bigSep Finset.univ fun b : Fin 4 => bigSep Finset.univ fun j : Fin 16 => uRl d L ↦[rowSet b j]{fullShare} g := by
    rw [show (Finset.univ : Finset (Idx (uRl d L))) = Finset.univ.biUnion bufSet from univ_eq_bufs,
      pointsTo_biUnion _ _ (fun i _ j _ hij => bufSet_disjoint i j hij)]
    refine bigSep_congr fun b _ => ?_
    rw [bufSet_eq, pointsTo_biUnion _ _ (fun i _ j _ hij => rowSet_disjoint b i j hij)]
  have hm : (mRl d L ↦{fullShare} g' : sProp 𝕄) = bigSep Finset.univ fun b : Fin 4 => bigSep Finset.univ fun j : Fin 16 => mRl d L ↦[rowSet b j]{fullShare} g' := by
    rw [show (Finset.univ : Finset (Idx (mRl d L))) = Finset.univ.biUnion bufSet from univ_eq_bufs,
      pointsTo_biUnion _ _ (fun i _ j _ hij => bufSet_disjoint i j hij)]
    refine bigSep_congr fun b _ => ?_
    rw [bufSet_eq, pointsTo_biUnion _ _ (fun i _ j _ hij => rowSet_disjoint b i j hij)]
  rw [hu, hm, shares fu q, shares fm q]
  iintro ⟨Hut, Hmt, Hu, Hm⟩
  unfold Rows
  iapply (rows_mono fun b j => anyRow_intro d L q fu fm b j g g')
  unfold uSlot mSlot
  simp only [bigSep_sep']
  isplitl [Hut Hu]
  · isplitl [Hu] <;> iassumption
  · isplitl [Hm] <;> iassumption

theorem rowSets_disjoint : ∀ x ∈ (Finset.univ : Finset (Fin 4 × Fin 16)), ∀ y ∈ (Finset.univ : Finset (Fin 4 × Fin 16)), x ≠ y →
    Disjoint (rowSet x.1 x.2) (rowSet y.1 y.2) := fun x _ y _ h => Finset.disjoint_left.mpr fun _ hx hy => h (Prod.ext
  (Fin.ext ((mem_rowSet.mp hx).1.symm.trans (mem_rowSet.mp hy).1)) (Fin.ext ((mem_rowSet.mp hx).2.symm.trans (mem_rowSet.mp hy).2)))

theorem rowSets_cover : (Finset.univ : Finset (Fin 4 × Fin 16)).biUnion (fun x => rowSet x.1 x.2) = Finset.univ := by
  ext x
  rw [Finset.mem_biUnion]
  exact ⟨fun _ => Finset.mem_univ _, fun _ => ⟨(x 0, x 1), Finset.mem_univ _, mem_rowSet.mpr ⟨rfl, rfl⟩⟩⟩

/-- Rows at contents of their own are the whole at some contents. -/
theorem rows_join {ℓ : Loc nD τ sig} (R : Fin 4 → Fin 16 → Finset (Idx ℓ))
    (hd : ∀ x ∈ (Finset.univ : Finset (Fin 4 × Fin 16)), ∀ y ∈ (Finset.univ : Finset (Fin 4 × Fin 16)), x ≠ y → Disjoint (R x.1 x.2) (R y.1 y.2))
    (hc : (Finset.univ : Finset (Fin 4 × Fin 16)).biUnion (fun x => R x.1 x.2) = Finset.univ) :
    (bigSep Finset.univ fun b : Fin 4 => bigSep Finset.univ fun j : Fin 16 => iprop(∃ g : Buf (Elt F) ℓ, ℓ ↦[R b j]{fullShare} g))
      ⊢ (iprop(∃ g : Buf (Elt F) ℓ, ℓ ↦{fullShare} g) : sProp 𝕄) := by
  rw [← bigSep_univ_prod (fun x : Fin 4 × Fin 16 => (iprop(∃ g : Buf (Elt F) ℓ, ℓ ↦[R x.1 x.2]{fullShare} g) : sProp 𝕄))]
  refine (bigSep_exists_pi Finset.univ (fun (x : Fin 4 × Fin 16) (g : Buf (Elt F) ℓ) => (ℓ ↦[R x.1 x.2]{fullShare} g : sProp 𝕄))).trans ?_
  show _ ⊢ _
  iintro ⟨%gs, H⟩
  ihave H' := (pointsTo_biUnion_join (ℓ := ℓ) (q := fullShare) (Val := Elt F) Finset.univ (fun x : Fin 4 × Fin 16 => R x.1 x.2) gs (gs (0, 0)) hd) $$ H
  icases H' with ⟨%g, -, Hg⟩
  rw [hc]
  iexists g; iexact Hg

theorem anyRow_elim (b : Fin 4) (j : Fin 16) :
    anyRow d L q fu fm b j ⊢ iprop(((∃ g, uRl d L ↦[rowSet b j]{fullShare} g) ∗ (∃ g, mRl d L ↦[rowSet b j]{fullShare} g))
      ∗ (uTl d ↦{sh q b j} fu) ∗ (mTl d ↦{sh q b j} fm)) := by
  unfold anyRow uSlot mSlot
  iintro ⟨⟨%g, Hu, Hut⟩, ⟨%g', Hm, Hmt⟩⟩
  isplitl [Hu Hm]
  · isplitl [Hu]
    · iexists g; iexact Hu
    · iexists g'; iexact Hm
  · isplitl [Hut] <;> iassumption

theorem rows_out : Rows d L q fu fm
    ⊢ iprop((uTl d ↦{q} fu) ∗ (mTl d ↦{q} fm) ∗ (∃ g, uRl d L ↦{fullShare} g) ∗ (∃ g, mRl d L ↦{fullShare} g)) := by
  unfold Rows
  rw [shares fu q, shares fm q]
  iintro H
  ihave H' := (rows_mono fun b j => anyRow_elim d L q fu fm b j) $$ H
  simp only [bigSep_sep']
  icases H' with ⟨⟨Hu, Hm⟩, ⟨Hut, Hmt⟩⟩
  isplitl [Hut]; · iexact Hut
  isplitl [Hmt]; · iexact Hmt
  isplitl [Hu]
  · iapply (rows_join (ℓ := uRl d L) rowSet rowSets_disjoint rowSets_cover) $$ Hu
  · iapply (rows_join (ℓ := mRl d L) rowSet rowSets_disjoint rowSets_cover) $$ Hm

theorem four (Φ : Fin 4 → sProp 𝕄) :
    bigSep Finset.univ Φ = iprop(Φ ⟨0, by decide⟩ ∗ Φ ⟨1, by decide⟩ ∗ Φ ⟨2, by decide⟩ ∗ Φ ⟨3, by decide⟩) := by
  rw [show (Finset.univ : Finset (Fin 4)) = {⟨0, by decide⟩, ⟨1, by decide⟩, ⟨2, by decide⟩, ⟨3, by decide⟩} by decide,
    SparseCore.bigSep_insert' (by decide), SparseCore.bigSep_insert' (by decide), SparseCore.bigSep_insert' (by decide), bigSep_singleton]

/-- A copy started and awaited at once, the waits recorded in `Ow`. -/
theorem copy_spec {sp sp' : Space} {s : Shape} {e : EltTy} {sem : DmaSem sig}
    {src : Memref sig (thr d L).2.kind sp s e} {dst : Memref sig (thr d L).2.kind sp' s e}
    {hsrc : src.view.WordExact} {hdst : dst.view.WordExact} {hsem : DmaTarget.Typed (nD := nD) sp (.dma sem) (.here dst)}
    {hsrc' : src.view.WordExact} {hdst' : dst.view.WordExact} {k : PUnit → TP F L α} {q : PosShare TreeShare}
    {Ss : Finset (Idx (src.view.loc (thr d L)))} {fs : Buf (Elt F) (src.view.loc (thr d L))}
    {Sd : Finset (Idx (dst.view.loc (thr d L)))} {fd : Buf (Elt F) (dst.view.loc (thr d L))}
    (hs : 0 < s.numel) (hSs : src.view.set ⊆ Ss) (hSd : dst.view.set ⊆ Sd) :
    iprop(MayWaits (thr d L) ι₀ O ∗ (src.view.loc (thr d L) ↦[Ss]{q} fs) ∗ (dst.view.loc (thr d L) ↦[Sd]{fullShare} fd)
        ∗ semVal (thr d L, .dma sem) 0 ∗ Ow d L O W)
      ⊢ iprop((iprop((src.view.loc (thr d L) ↦[Ss]{q} fs)
              ∗ (dst.view.loc (thr d L) ↦[Sd]{fullShare} (dst.view.write (Elt F) fd (src.view.read (Elt F) fs) Finset.univ))
              ∗ semVal (thr d L, .dma sem) 0 ∗ Ow d L O W) -∗ WP d L (k ⟨⟩) Q)
          -∗ WP d L (.op (.enqueueDma src (.here dst) (.dma sem) hsrc hdst hsem) fun _ => .op (.waitDma2 sem src dst hsrc' hdst') k) Q) := by
  iintro ⟨#HM, Hs, Hd, Hv, HO⟩ Hk
  unfold Ow
  icases HO with ⟨%W', %hW, HO⟩
  iapply (Cert.Rules.wp_copyNow countersEmb 𝒱₀ (thr d L) none (src := src) (dst := dst) (srcw := src) (dstw := dst) (q := q) (Ss := Ss) (fs := fs)
    (Sd := Sd) (fd := fd) (O := O) (W := W') ι₀ rfl (View.dmaCredit_pos _ hs) hSs hSd) $$ [Hs Hd Hv HO]
  · isplitl [Hs]; · iexact Hs
    isplitl [Hd]; · iexact Hd
    isplitl [Hv]; · iexact Hv
    isplitl [HO]; · iexact HO
    iapply (MayWaits.elim _) $$ HM
  iintro ⟨Hs, Hd, Hv, HO⟩
  iapply Hk
  isplitl [Hs]; · iexact Hs
  isplitl [Hd]; · iexact Hd
  isplitl [Hv]; · iexact Hv
  have := ow_insert (F := F) d L O W (.dma sem) W' hW
  unfold Ow at this
  iapply this $$ HO

abbrev uIl (d : Dev nD) : Loc nD τ sig := (SparseCore.T d).loc main_arg0
abbrev mIl (d : Dev nD) : Loc nD τ sig := (SparseCore.T d).loc main_arg1
abbrev oTl (d : Dev nD) : Loc nD τ sig := (SparseCore.T d).loc main_v0

/-- A loop carrying nothing, by what holds before each of its trips. -/
theorem wp_loop {w : ℕ} (l : Scf.Loop w) (hok : l.OK) (bd : Fin l.trips → TP F L PUnit) (I : ℕ → sProp 𝕄)
    (hbody : ∀ t : Fin l.trips, I t.val ⊢ WP d L (bd t) fun _ => I (t.val + 1)) {kk : PUnit → TP F L α} :
    I 0 ⊢ iprop((I l.trips -∗ WP d L (kk ⟨⟩) Q) -∗ WP d L (Prog.bind (Scf.Loop.for l hok ⟨⟩ fun t _ => bd t) kk) Q) := by
  iintro HI Hk
  iapply (Scf.wp_for_bind frame (wpE (defs₀ (F := F)) 𝒱₀ (thr d L) none) Set.univ l.lb l.ub l.st hok (⟨⟩ : PUnit)
    (fun t _ => bd t) (fun t _ => I t) (fun t _ => hbody t)) $$ HI
  iintro %_ HI
  iapply Hk
  iexact HI

theorem trips_eq : k0_t1_loop.trips = 7 := by decide +kernel

section Prog

variable (fi : Buf (Elt F) (uIl d)) (fj : Buf (Elt F) (mIl d)) (fo : Buf (Elt F) (oTl d)) (r0 r1 r2 : DmaSems sig S_)

/-- The tile's scratch buffers, whatever they hold, and its cells at zero. -/
def Scratch : sProp 𝕄 :=
  iprop((∃ x, uSl d L ↦{fullShare} x) ∗ (∃ x, mSl d L ↦{fullShare} x) ∗ (∃ x, uRl d L ↦{fullShare} x) ∗ (∃ x, mRl d L ↦{fullShare} x)
    ∗ (∃ x, oSl d L ↦{fullShare} x))

def Cells : sProp 𝕄 :=
  iprop(semVal (thr d L, .dma s0.sem) 0 ∗ semVal (thr d L, .dma s1.sem) 0 ∗ semVal (thr d L, .dma s2.sem) 0 ∗ semVal (thr d L, .dma s3.sem) 0
    ∗ semVal (thr d L, .dma r0.sem) 0 ∗ semVal (thr d L, .dma r1.sem) 0 ∗ semVal (thr d L, .dma r2.sem) 0)

/-- A tile's shares of the arguments and its block of the results, at contents `o`. -/
def Mine (o : Buf (Elt F) (oTl d)) : sProp 𝕄 :=
  iprop((uIl d ↦{q} fi) ∗ (mIl d ↦{q} fj) ∗ (uTl d ↦{q} fu) ∗ (mTl d ↦{q} fm) ∗ (oTl d ↦[blkSet (blk L)]{fullShare} o))

/-- The last four chunks and the copy out. -/
theorem tail_spec :
    iprop(MayWaits (thr d L) ι₀ O ∗ Ring d L q fu fm O W s0 s1 s2 s3 (idsOf L fi) (idsOf L fj) 28
        ∗ (oTl d ↦[blkSet (blk L)]{fullShare} fo) ∗ semVal (thr d L, .dma r2.sem) 0)
      ⊢ WP d L (tail L uT mT oT uR mR oS (Memref.isWhole_whole _) s0 s1 s2 s3 r2)
          fun _ => iprop((Idle d L q fu fm s0 ⟨0, by decide⟩ ∗ Idle d L q fu fm s1 ⟨1, by decide⟩ ∗ Idle d L q fu fm s2 ⟨2, by decide⟩ ∗ Idle d L q fu fm s3 ⟨3, by decide⟩)
            ∗ Held d L fu fm O W (idsOf L fi) (idsOf L fj) 32 ∗ (oTl d ↦[blkSet (blk L)]{fullShare} OUT (F := F) fi fj fu fm) ∗ semVal (thr d L, .dma r2.sem) 0) := by
  unfold Ring tail
  iintro ⟨#HM, ⟨H0, H1, H2, H3, HH⟩, Ho, Hv⟩
  iapply (finish_step d L q fu fm O W (idsOf L fi) (idsOf L fj) s0 0 _ 28 _ _ rfl _) $$ [H0 HH]
  · isplitr; · iexact HM
    isplitl [H0] <;> iassumption
  iintro ⟨H0, HH⟩
  iapply (finish_step d L q fu fm O W (idsOf L fi) (idsOf L fj) s1 1 _ 29 _ _ rfl _) $$ [H1 HH]
  · isplitr; · iexact HM
    isplitl [H1] <;> iassumption
  iintro ⟨H1, HH⟩
  iapply (finish_step d L q fu fm O W (idsOf L fi) (idsOf L fj) s2 2 _ 30 _ _ rfl _) $$ [H2 HH]
  · isplitr; · iexact HM
    isplitl [H2] <;> iassumption
  iintro ⟨H2, HH⟩
  iapply (finish_step d L q fu fm O W (idsOf L fi) (idsOf L fj) s3 3 _ 31 _ _ rfl _) $$ [H3 HH]
  · isplitr; · iexact HM
    isplitl [H3] <;> iassumption
  iintro ⟨H3, HH⟩
  unfold Held Done
  icases HH with ⟨Hf, Hg, ⟨%o, %ho, HD⟩, HO⟩
  iapply (copy_spec d L O W (src := oS) (dst := outBlk L) (q := fullShare) (Ss := Finset.univ) (fs := o) (Sd := blkSet (blk L)) (fd := fo)
    (show 0 < S512.numel by decide) (Finset.subset_univ _) (set_outBlk L)) $$ [HD Ho Hv HO]
  · isplitr; · iexact HM
    isplitl [HD]; · iexact HD
    isplitl [Ho]; · iexact Ho
    isplitl [Hv] <;> iassumption
  iintro ⟨HD, Ho, Hv, HO⟩
  iapply (le_wp_ret frame _ Set.univ)
  isplitl [H0 H1 H2 H3]
  · isplitl [H0]; · iexact H0
    isplitl [H1]; · iexact H1
    isplitl [H2] <;> iassumption
  isplitl [Hf Hg HD HO]
  · isplitl [Hf]; · iexact Hf
    isplitl [Hg]; · iexact Hg
    isplitl [HD]
    · iexists o
      isplitr; · ipureintro; exact ho
      iexact HD
    iexact HO
  isplitl [Ho]
  · iapply (Entails.of_eq (pointsTo_congr (written L fi fj fu fm fo o ho))) $$ Ho
  iexact Hv

/-- The whole program: the arguments kept, the tile's block of the results computed. -/
theorem prog_spec (hi : ∀ p, (fi p).toNat < 1000000) (hj : ∀ p, (fj p).toNat < 100000) :
    iprop(MayWaits (thr d L) ι₀ O ∗ Mine d L q fu fm fi fj fo ∗ Scratch d L ∗ Cells d L s0 s1 s2 s3 r0 r1 r2 ∗ Ow d L O W)
      ⊢ WP d L (prog L uI mI uT mT oT uS (Memref.isWhole_whole _) mS (Memref.isWhole_whole _) uR mR oS (Memref.isWhole_whole _) s0 s1 s2 s3 r0 r1 r2)
          fun _ => iprop(Mine d L q fu fm fi fj (OUT (F := F) fi fj fu fm) ∗ Scratch d L ∗ Cells d L s0 s1 s2 s3 r0 r1 r2 ∗ Ow d L O W) := by
  unfold Mine Scratch Cells prog
  iintro ⟨#HM, ⟨Hi, Hj, Hut, Hmt, Ho⟩, ⟨⟨%x0, Hx0⟩, ⟨%x1, Hx1⟩, ⟨%x2, Hx2⟩, ⟨%x3, Hx3⟩, ⟨%x4, Hx4⟩⟩, ⟨Hs0, Hs1, Hs2, Hs3, Hr0, Hr1, Hr2⟩, HO⟩
  iapply (copy_spec d L O W (src := uI.slice (inRect L) (fun _ => rfl)) (dst := uS) (q := q) (Ss := Finset.univ) (fs := fi) (Sd := Finset.univ) (fd := x0)
    (show 0 < S512.numel by decide) (Finset.subset_univ _) (Finset.subset_univ _)) $$ [Hi Hx0 Hr0 HO]
  · isplitr; · iexact HM
    isplitl [Hi]; · iexact Hi
    isplitl [Hx0]; · iexact Hx0
    isplitl [Hr0] <;> iassumption
  iintro ⟨Hi, Hx0, Hr0, HO⟩
  iapply (copy_spec d L O W (src := mI.slice (inRect L) (fun _ => rfl)) (dst := mS) (q := q) (Ss := Finset.univ) (fs := fj) (Sd := Finset.univ) (fd := x1)
    (show 0 < S512.numel by decide) (Finset.subset_univ _) (Finset.subset_univ _)) $$ [Hj Hx1 Hr1 HO]
  · isplitr; · iexact HM
    isplitl [Hj]; · iexact Hj
    isplitl [Hx1]; · iexact Hx1
    isplitl [Hr1] <;> iassumption
  iintro ⟨Hj, Hx1, Hr1, HO⟩
  have e0 : uS.view.write (Elt F) x0 ((uI.slice (inRect L) (fun _ => rfl)).view.read (Elt F) fi) Finset.univ = idsOf L fi :=
    (View.write_whole_univ _ _ _).trans (read_uI (F := F) L fi)
  have e1 : mS.view.write (Elt F) x1 ((mI.slice (inRect L) (fun _ => rfl)).view.read (Elt F) fj) Finset.univ = idsOf L fj :=
    (View.write_whole_univ _ _ _).trans (read_mI (F := F) L fj)
  rw [e0, e1]
  ihave HR := (rows_in d L q fu fm x2 x3) $$ [Hut Hmt Hx2 Hx3]
  · isplitl [Hut]; · iexact Hut
    isplitl [Hmt]; · iexact Hmt
    isplitl [Hx2] <;> iassumption
  ihave HR' := (Entails.of_eq ((show Rows d L q fu fm = bigSep Finset.univ fun b : Fin 4 => bigSep Finset.univ (anyRow d L q fu fm b) from rfl).trans (four _))) $$ HR
  icases HR' with ⟨H0, H1, H2, H3⟩
  have hf : ∀ x, ((idsOf L fi) x).toNat < 1000000 := fun x => hi _
  have hg : ∀ x, ((idsOf L fj) x).toNat < 100000 := fun x => hj _
  ihave HH := (show iprop((uSl d L ↦{fullShare} idsOf L fi) ∗ (mSl d L ↦{fullShare} idsOf L fj) ∗ (oSl d L ↦{fullShare} x4) ∗ Ow d L O W)
      ⊢ Held d L fu fm O W (idsOf L fi) (idsOf L fj) 0 from by
    unfold Held Done
    iintro ⟨Ha, Hb, Hc, HO⟩
    isplitl [Ha]; · iexact Ha
    isplitl [Hb]; · iexact Hb
    isplitl [Hc]
    · iexists x4
      isplitr; · ipureintro; exact fun p hp => absurd hp (Nat.not_lt_zero _)
      iexact Hc
    iexact HO) $$ [Hx0 Hx1 Hx4 HO]
  · isplitl [Hx0]; · iexact Hx0
    isplitl [Hx1]; · iexact Hx1
    isplitl [Hx4] <;> iassumption
  iapply (start_step d L q fu fm O W (idsOf L fi) (idsOf L fj) s0 0 _ 0 0 hf hg _ _ rfl _) $$ [H0 Hs0 HH]
  · unfold Idle
    isplitl [H0 Hs0]
    · isplitl [Hs0] <;> iassumption
    iexact HH
  iintro ⟨H0, HH⟩
  iapply (start_step d L q fu fm O W (idsOf L fi) (idsOf L fj) s1 1 _ 0 1 hf hg _ _ rfl _) $$ [H1 Hs1 HH]
  · unfold Idle
    isplitl [H1 Hs1]
    · isplitl [Hs1] <;> iassumption
    iexact HH
  iintro ⟨H1, HH⟩
  iapply (start_step d L q fu fm O W (idsOf L fi) (idsOf L fj) s2 2 _ 0 2 hf hg _ _ rfl _) $$ [H2 Hs2 HH]
  · unfold Idle
    isplitl [H2 Hs2]
    · isplitl [Hs2] <;> iassumption
    iexact HH
  iintro ⟨H2, HH⟩
  iapply (start_step d L q fu fm O W (idsOf L fi) (idsOf L fj) s3 3 _ 0 3 hf hg _ _ rfl _) $$ [H3 Hs3 HH]
  · unfold Idle
    isplitl [H3 Hs3]
    · isplitl [Hs3] <;> iassumption
    iexact HH
  iintro ⟨H3, HH⟩
  iapply (wp_loop d L k0_t1_loop k0_t1_ok (fun t => body L uT mT uS mS uR mR oS s0 s1 s2 s3 t)
    (fun t => iprop(MayWaits (thr d L) ι₀ O ∗ Ring d L q fu fm O W s0 s1 s2 s3 (idsOf L fi) (idsOf L fj) (4 * t)))
    (body_spec d L q fu fm O W s0 s1 s2 s3 (idsOf L fi) (idsOf L fj) hf hg)) $$ [H0 H1 H2 H3 HH]
  · isplitr; · iexact HM
    unfold Ring
    isplitl [H0]; · iexact H0
    isplitl [H1]; · iexact H1
    isplitl [H2]; · iexact H2
    isplitl [H3] <;> iassumption
  rw [trips_eq]
  iintro ⟨-, HRing⟩
  iapply (wp_wand_r frame _ Set.univ)
  isplitl [HRing Ho Hr2]
  · iapply (tail_spec d L q fu fm O W s0 s1 s2 s3 fi fj fo r2)
    isplitr; · iexact HM
    isplitl [HRing]; · iexact HRing
    isplitl [Ho] <;> iassumption
  iintro %_ ⟨⟨H0, H1, H2, H3⟩, HH, Ho, Hr2⟩
  unfold Idle Held Done
  icases H0 with ⟨Hs0, H0⟩
  icases H1 with ⟨Hs1, H1⟩
  icases H2 with ⟨Hs2, H2⟩
  icases H3 with ⟨Hs3, H3⟩
  icases HH with ⟨Hx0, Hx1, ⟨%o, -, Hx4⟩, HO⟩
  ihave HR := (Entails.of_eq ((show Rows d L q fu fm = bigSep Finset.univ fun b : Fin 4 => bigSep Finset.univ (anyRow d L q fu fm b) from rfl).trans (four _)).symm) $$ [H0 H1 H2 H3]
  · isplitl [H0]; · iexact H0
    isplitl [H1]; · iexact H1
    isplitl [H2] <;> iassumption
  ihave HR' := (rows_out d L q fu fm) $$ HR
  icases HR' with ⟨Hut, Hmt, Hx2, Hx3⟩
  isplitl [Hi Hj Hut Hmt Ho]
  · isplitl [Hi]; · iexact Hi
    isplitl [Hj]; · iexact Hj
    isplitl [Hut]; · iexact Hut
    isplitl [Hmt]; · iexact Hmt
    iexact Ho
  isplitl [Hx0 Hx1 Hx2 Hx3 Hx4]
  · isplitl [Hx0]; · iexists _; iexact Hx0
    isplitl [Hx1]; · iexists _; iexact Hx1
    isplitl [Hx2]; · iexact Hx2
    isplitl [Hx3]; · iexact Hx3
    iexists o; iexact Hx4
  isplitr [HO]
  · isplitl [Hs0]; · iexact Hs0
    isplitl [Hs1]; · iexact Hs1
    isplitl [Hs2]; · iexact Hs2
    isplitl [Hs3]; · iexact Hs3
    isplitl [Hr0]; · iexact Hr0
    isplitl [Hr1] <;> iassumption
  iexact HO

end Prog

end Cert.KernelIdeal.Tile

end
-- ==== Proof.KernelIdeal.Eq.lean ====
/-
  The printed tile program is the compact one: `prog_eq`. Both are the same chain of operations; the proof walks down
  the chain, through the loop's body and through what follows it, and evaluates nothing.
-/
module

public import proofs.«01_k».proof.Proof.KernelIdeal.Clean

@[expose] public section

noncomputable section
namespace Cert.KernelIdeal.Clean
open Idealize.ShloMosaic Idealize.SL.Sem
open Cert.KernelIdeal
variable {F : FTy → Type} [FloatOps F]
variable [Facts]
open Facts₀ Facts

/-- Three continuations, read from the left or the right. -/
theorem bind_assoc3 {E : Type → Type} {α β γ δ : Type} (p : Prog E α) (k₁ : α → Prog E β) (k₂ : β → Prog E γ) (k₃ : γ → Prog E δ) :
    ((p.bind k₁).bind k₂).bind k₃ = p.bind fun x => ((k₁ x).bind k₂).bind k₃ :=
  (Prog.bind_assoc (p.bind k₁) k₂ k₃).trans (Prog.bind_assoc p k₁ _)|>.trans (congrArg (Prog.bind p) (funext fun x => (Prog.bind_assoc (k₁ x) k₂ k₃).symm))

/-- A loop step met in continuation form: its body and what follows may be exchanged for equal ones. -/
theorem loop_step {E : Type → Type} {ω α β γ δ : Type} {x : ω} {f : ω → Prog E β} {p p' : Prog E α} {k₁ : α → Prog E β} {k₂ : β → Prog E γ} {k₃ : γ → Prog E δ}
    {k' : α → Prog E δ} (hf : f x = p >>= k₁) (hp : p = p') (hk : ∀ x, ((k₁ x).bind k₂).bind k₃ = k' x) :
    (((Prog.ret x).bind f).bind k₂).bind k₃ = p'.bind k' := by
  subst hp
  rw [show (Prog.ret x).bind f = f x from rfl, hf]; rw [show (p >>= k₁) = p.bind k₁ from rfl, bind_assoc3]
  exact congrArg (Prog.bind p) (funext hk)

set_option maxRecDepth 100000 in
set_option maxHeartbeats 0 in
/-- The printed program is the compact one. -/
theorem prog_eq (i : grid0.Coords)
  (arg2 : Memref sig .scVector .hbm S16384 .i32) (harg2 : arg2.IsWhole)
  (arg3 : Memref sig .scVector .hbm S16384 .i32) (harg3 : arg3.IsWhole)
  (arg4 : Memref sig .scVector .hbm S1000000x64 .f32) (harg4 : arg4.IsWhole)
  (arg5 : Memref sig .scVector .hbm S100000x64 .f32) (harg5 : arg5.IsWhole)
  (arg6 : Memref sig .scVector .hbm S16384 .f32) (harg6 : arg6.IsWhole)
  (arg7 : Memref sig .scVector .vmem S512 .i32) (harg7 : arg7.IsWhole)
  (arg8 : Memref sig .scVector .vmem S512 .i32) (harg8 : arg8.IsWhole)
  (arg9 : Memref sig .scVector .vmem S4x16x64 .f32) (harg9 : arg9.IsWhole)
  (arg10 : Memref sig .scVector .vmem S4x16x64 .f32) (harg10 : arg10.IsWhole)
  (arg11 : Memref sig .scVector .vmem S512 .f32) (harg11 : arg11.IsWhole)
  (arg12 arg13 arg14 arg15 r0 r1 r2 : DmaSems sig S_) :
  cc0__sc_dot_kernel (F := F) i arg2 harg2 arg3 harg3 arg4 harg4 arg5 harg5 arg6 harg6 arg7 harg7 arg8 harg8 arg9 harg9 arg10 harg10 arg11 harg11 arg12 arg13 arg14 arg15 r0 r1 r2
   = prog i arg2 arg3 arg4 arg5 arg6 arg7 harg7 arg8 harg8 arg9 arg10 arg11 harg11 arg12 arg13 arg14 arg15 r0 r1 r2 := by
  unfold cc0__sc_dot_kernel k0_part296 prog
  iterate 268 refine congrArg (Prog.op _) (funext fun _ => ?_)
  refine loop_step rfl (congrArg (Scf.Loop.for k0_t1_loop k0_t1_ok PUnit.unit) (funext fun t => funext fun _ => ?_)) (fun _ => ?_)
  · unfold k0_part147 body
    iterate 1168 refine congrArg (Prog.op _) (funext fun _ => ?_)
    rfl
  · unfold tail
    iterate 906 refine congrArg (Prog.op _) (funext fun _ => ?_)
    rfl

end Cert.KernelIdeal.Clean
end
-- ==== Proof.KernelIdeal.Launch.lean ====
/-
  The launch: thirty-two tiles, each with a thirty-second share of the ids and the tables and its own block of the
  results. Every run ends with the arguments as they were, the results at `OUT` of them, and every semaphore at zero.
-/
module

public import proofs.«01_k».proof.Proof.KernelIdeal.Tile
public import proofs.«01_k».proof.Proof.KernelIdeal.Eq
public import Idealize.ShloMosaic.Lib.StableHlo.Run

@[expose] public section

noncomputable section

namespace Cert.KernelIdeal.Launch

open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Clean Cert.KernelIdeal.Tile

variable {F : FTy → Type}

/-! ## The program as the launch sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb (URounds (GSem nD τ sig) ℕ) (MT nD τ sig (HIx 1) (Elt F) ℕ UU ℕ) := embL

variable (m : (ℓ : Loc nD τ sig) → Buf (Elt F) ℓ) (ρ : Dev nD → PrngReg)

/-- The tile of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-! ## The tiles' parts of the arrays -/

/-- Tile number `w`'s share of the arguments and its block of the results, at contents `o`. -/
def part (d : Dev nD) (w : Fin 32) (o : Buf (Elt F) (oTl d)) : sProp 𝕄 :=
  iprop((uIl d ↦{leaf 5 fullShare w} m (uIl d)) ∗ (mIl d ↦{leaf 5 fullShare w} m (mIl d)) ∗ (uTl d ↦{leaf 5 fullShare w} m (uTl d))
    ∗ (mTl d ↦{leaf 5 fullShare w} m (mTl d)) ∗ (oTl d ↦[blkSet w]{fullShare} o))

/-- The arguments and the results whole. -/
def whole (d : Dev nD) (o : Buf (Elt F) (oTl d)) : sProp 𝕄 :=
  iprop((uIl d ↦{fullShare} m (uIl d)) ∗ (mIl d ↦{fullShare} m (mIl d)) ∗ (uTl d ↦{fullShare} m (uTl d))
    ∗ (mTl d ↦{fullShare} m (mTl d)) ∗ (oTl d ↦{fullShare} o))

theorem blks_disjoint : ∀ x ∈ (Finset.univ : Finset (Fin 32)), ∀ y ∈ (Finset.univ : Finset (Fin 32)), x ≠ y → Disjoint (blkSet x) (blkSet y) :=
  fun x _ y _ h => Finset.disjoint_left.mpr fun p hp hq => h (Fin.ext ((mem_blkSet.mp hp).symm.trans (mem_blkSet.mp hq)))

theorem blks_cover : (Finset.univ : Finset (Fin 32)).biUnion blkSet = Finset.univ := by
  refine Finset.eq_univ_iff_forall.mpr fun p => Finset.mem_biUnion.mpr ?_
  have h : (p 0).val < 16384 := (p 0).isLt
  exact ⟨⟨(p 0).val / 512, by omega⟩, Finset.mem_univ _, mem_blkSet.mpr rfl⟩

theorem blocks (d : Dev nD) (o : Buf (Elt F) (oTl d)) :
    (oTl d ↦{fullShare} o : sProp 𝕄) = bigSep Finset.univ fun w : Fin 32 => oTl d ↦[blkSet w]{fullShare} o := by
  rw [← pointsTo_biUnion Finset.univ (ℓ := oTl d) blkSet blks_disjoint, blks_cover]; try rfl

/-- The arrays whole are the tiles' parts together. -/
theorem whole_eq (d : Dev nD) (o : Buf (Elt F) (oTl d)) : whole m d o = bigSep Finset.univ fun w : Fin 32 => part m d w o := by
  unfold whole part
  rw [bigSep_sep', bigSep_sep', bigSep_sep', bigSep_sep', blocks,
    pointsTo_leaves Finset.univ (m (uIl d)) 5 fullShare, pointsTo_leaves Finset.univ (m (mIl d)) 5 fullShare,
    pointsTo_leaves Finset.univ (m (uTl d)) 5 fullShare, pointsTo_leaves Finset.univ (m (mTl d)) 5 fullShare]
  try rfl

/-- The tiles are the thirty-two numbers. -/
def tiles : Fin (grid0.bound 0) × Fin (grid0.bound 1) ≃ Fin 32 :=
  Equiv.ofBijective (fun x => blk (coordsV x.1 x.2)) ((Fintype.bijective_iff_injective_and_card _).mpr ⟨by
    rintro ⟨a, b⟩ ⟨a', b'⟩ h
    have h := congrArg Fin.val h
    have e : ∀ c s, (blk (coordsV c s)).val = 2 * s.val + c.val := fun _ _ => rfl
    simp only [e] at h
    have ha : a.val < 2 := a.isLt
    have ha' : a'.val < 2 := a'.isLt
    exact Prod.ext (Fin.ext (show a.val = a'.val by omega)) (Fin.ext (show b.val = b'.val by omega)), by decide⟩)

theorem by_tile (Φ : Fin 32 → sProp 𝕄) :
    bigSep Finset.univ Φ = bigSep Finset.univ fun c : Fin (grid0.bound 0) => bigSep Finset.univ fun s : Fin (grid0.bound 1) => Φ (blk (coordsV c s)) :=
  (bigSep_univ_equiv tiles Φ).trans (bigSep_univ_prod fun x => Φ (tiles x))

variable [FloatOps F]

/-- The results every run ends with. -/
abbrev res (d : Dev nD) : Buf (Elt F) (oTl d) := OUT (F := F) (m (uIl d)) (m (mIl d)) (m (uTl d)) (m (mTl d))

/-- The call takes each tile's part at the launch's contents and gives it back with the tile's results. -/
def P : (K (F := F)).Pay (nD := nD) (Val := Elt F) (Name := ℕ) (U := UU) where
  st := fun q d c => match q with | 0 => bigSep Finset.univ fun s : Fin (grid0.bound 1) => part m d (blk (coordsV c s)) (m (oTl d))
  dn := fun q d c => match q with | 0 => bigSep Finset.univ fun s : Fin (grid0.bound 1) => part m d (blk (coordsV c s)) (res m d)
  go := fun q d c s => match q with | 0 => part m d (blk (coordsV c s)) (m (oTl d))
  td := fun q d c s => match q with | 0 => part m d (blk (coordsV c s)) (res m d)
  x := fun _ _ => iprop(emp)

instance part_storable (d : Dev nD) (w : Fin 32) (o : Buf (Elt F) (oTl d)) : BI.Storable (upEmb : UEmb _ 𝕄) (part m d w o) := by
  unfold part; infer_instance

instance P_storable : (P (F := F) m).IsStorable where
  st q d c := match q with
    | 0 => (inferInstance : BI.Storable (upEmb : UEmb _ 𝕄) (bigSep Finset.univ fun s : Fin (grid0.bound 1) => part m d (blk (coordsV c s)) (m (oTl d))))
  dn q d c := match q with
    | 0 => (inferInstance : BI.Storable (upEmb : UEmb _ 𝕄) (bigSep Finset.univ fun s : Fin (grid0.bound 1) => part m d (blk (coordsV c s)) (res m d)))
  go q d c s := match q with | 0 => part_storable m d (blk (coordsV c s)) (m (oTl d))
  td q d c s := match q with | 0 => part_storable m d (blk (coordsV c s)) (res m d)

/-- What the ids must satisfy: each names a row of its table. -/
def PreOK : Prop := ∀ (d : Dev nD), (∀ p : S16384.Idx, (m (uIl d) p).toNat < 1000000) ∧ ∀ p : S16384.Idx, (m (mIl d) p).toNat < 100000

/-! ## A tile's own buffers and cells -/

section Tile

variable (d : Dev nD) (L : grid0.Coords)

omit [FloatOps F] in
/-- Members of a set taken out of a product over it. -/
theorem take {I : Type} [DecidableEq I] {n : ℕ} {s : Finset I} (f : Fin n ↪ I) (hf : ∀ i, f i ∈ s) (Φ : I → sProp 𝕄) :
    bigSep s Φ = iprop((bigSep Finset.univ fun i => Φ (f i)) ∗ bigSep (s \ Finset.univ.map f) Φ) := by
  rw [SparseCore.bigSep_sdiff_split' (s := s) (t := Finset.univ.map f) (fun x hx => by
    obtain ⟨i, -, rfl⟩ := Finset.mem_map.mp hx; exact hf i), bigSep_map]

/-- The cells the kernel waits on. -/
def cellAt : Fin 7 → SemLoc sig :=
  ![.dma cc0_scratch5.sem, .dma cc0_scratch6.sem, .dma cc0_scratch7.sem, .dma cc0_scratch8.sem, .dma cc0_scoped0.sem, .dma cc0_scoped1.sem, .dma cc0_scoped2.sem]
theorem cellAt_inj : Function.Injective cellAt := by decide
theorem cellAt_scoped : ∀ i, (cellAt i).isScoped .scVector = true := by decide
def cells : Fin 7 ↪ GSem nD τ sig := ⟨fun i => (thr d L, cellAt i), fun _ _ h => cellAt_inj (congrArg Prod.snd h)⟩

/-- The kernel's scratch. -/
def refAt : Fin 5 → Ref sig .scVector := ![cc0_scratch0, cc0_scratch1, cc0_scratch2, cc0_scratch3, cc0_scratch4]
theorem refAt_inj : Function.Injective refAt := by decide
def refs : Fin 5 ↪ DevRef τ sig :=
  ⟨fun i => (Proc.scVector (cV L) (jV L)).devRef (refAt i), fun _ _ h => refAt_inj (Proc.devRef_injective _ h)⟩

omit [FloatOps F] in
theorem cells_take : ∃ R : sProp 𝕄, (ownSems0 (thr d L) : sProp 𝕄)
    = iprop(Cells d L cc0_scratch5 cc0_scratch6 cc0_scratch7 cc0_scratch8 cc0_scoped0 cc0_scoped1 cc0_scoped2 ∗ R) := by
  refine ⟨_, (take (cells d L) (fun i => mem_ownCells.mpr ⟨rfl, cellAt_scoped i⟩) _).trans (congrArg (fun X => iprop(X ∗ _)) ?_)⟩
  rw [show (Finset.univ : Finset (Fin 7)) = {0, 1, 2, 3, 4, 5, 6} by decide]
  iterate 6 rw [SparseCore.bigSep_insert' (by decide)]
  rw [bigSep_singleton]; rfl

omit [FloatOps F] in
theorem bufs_take : ∃ R : sProp 𝕄, (ownBufs (thr d L) : sProp 𝕄) = iprop(Scratch d L ∗ R) := by
  refine ⟨_, (take (refs L) (fun i => by
    refine SparseCore.Cfg.mem_ownRefs_of_owner (p := Proc.scVector (cV L) (jV L)) ?_
    revert i; exact fun i => match i with | 0 => rfl | 1 => rfl | 2 => rfl | 3 => rfl | 4 => rfl) _).trans (congrArg (fun X => iprop(X ∗ _)) ?_)⟩
  rw [show (Finset.univ : Finset (Fin 5)) = {0, 1, 2, 3, 4} by decide]
  iterate 4 rw [SparseCore.bigSep_insert' (by decide)]
  rw [bigSep_singleton]; rfl

/-- The kernel on one tile, as the launch asks for it. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ part m d (blk L) (m (oTl d))
        ∗ scopedBufs (thr d L) ∗ scopedSems0 (thr d L) ∗ owes (thr d L) O W)
      ⊢ wp frame (wpE (defs₀ (F := F)) 𝒱₀ (thr d L) none) Set.univ
          (cc0__sc_dot_kernel L uI (Memref.isWhole_whole _) mI (Memref.isWhole_whole _) uT (Memref.isWhole_whole _) mT (Memref.isWhole_whole _) oT (Memref.isWhole_whole _)
            uS (Memref.isWhole_whole _) mS (Memref.isWhole_whole _) uR (Memref.isWhole_whole _) mR (Memref.isWhole_whole _) oS (Memref.isWhole_whole _)
            cc0_scratch5 cc0_scratch6 cc0_scratch7 cc0_scratch8 cc0_scoped0 cc0_scoped1 cc0_scoped2)
          fun _ => iprop(part m d (blk L) (res m d) ∗ scopedBufs (thr d L) ∗ scopedSems0 (thr d L)
            ∗ ∃ W', ⌜∀ p ∈ W', p ∈ W ∨ p.2 = none ∨ p.2 = some (0 : Fin 1)⌝ ∗ owes (thr d L) O W') := by
  obtain ⟨R₁, h₁⟩ := cells_take (F := F) d L
  obtain ⟨R₂, h₂⟩ := bufs_take (F := F) d L
  rw [prog_eq, (K (F := F)).scopedBufs_V hF d (cV L) (jV L), SparseCore.Cfg.scopedSems0_V (Val := Elt F) d (cV L) (jV L), h₁, h₂]
  iintro ⟨#Hlv, -, Hp, ⟨Hs, Hbufs⟩, ⟨Hc, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_wand_r frame _ Set.univ)
  isplitl [Hmw Hp Hs Hc HO]
  · iapply (prog_spec d L (leaf 5 fullShare (blk L)) (m (uTl d)) (m (mTl d)) O W cc0_scratch5 cc0_scratch6 cc0_scratch7 cc0_scratch8
      (m (uIl d)) (m (mIl d)) (m (oTl d)) cc0_scoped0 cc0_scoped1 cc0_scoped2 (hpre d).1 (hpre d).2)
    isplitl [Hmw]; · iexact Hmw
    isplitl [Hp]; · unfold Mine; unfold part; iexact Hp
    isplitl [Hs]; · iexact Hs
    isplitl [Hc]; · iexact Hc
    unfold Ow
    iexists W; isplitr
    · ipureintro; exact fun p hp => .inl hp
    · iexact HO
  iintro %_ ⟨Hp, Hs, Hc, HO⟩
  isplitl [Hp]; · unfold Mine; unfold part; iexact Hp
  isplitl [Hs Hbufs]; · isplitl [Hs] <;> iassumption
  isplitl [Hc Hsems]; · isplitl [Hc] <;> iassumption
  unfold Ow
  icases HO with ⟨%W', %hW', HO⟩
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__sc_dot_kernel (coordsV c s)
          uI (Memref.isWhole_whole _) mI (Memref.isWhole_whole _) uT (Memref.isWhole_whole _) mT (Memref.isWhole_whole _) oT (Memref.isWhole_whole _)
          uS (Memref.isWhole_whole _) mS (Memref.isWhole_whole _) uR (Memref.isWhole_whole _) mR (Memref.isWhole_whole _) oS (Memref.isWhole_whole _)
          cc0_scratch5 cc0_scratch6 cc0_scratch7 cc0_scratch8 cc0_scoped0 cc0_scoped1 cc0_scoped2) ⟨⟩ c s := rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

end Tile

theorem vecSplit : (K (F := F)).VecSplit' (P m) 0 := by
  intro d c
  show (bigSep Finset.univ fun s : Fin (grid0.bound 1) => part m d (blk (coordsV c s)) (m (oTl d))) ⊢ |={Set.univ}=> iprop(
      (bigSep Finset.univ fun s : Fin (grid0.bound 1) => part m d (blk (coordsV c s)) (m (oTl d)))
      ∗ ((bigSep Finset.univ fun s : Fin (grid0.bound 1) => part m d (blk (coordsV c s)) (res m d))
          -∗ bigSep Finset.univ fun s : Fin (grid0.bound 1) => part m d (blk (coordsV c s)) (res m d)))
  iintro H; imodintro
  isplitl [H]; · iexact H
  iintro H; iexact H

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have he : ∀ {I : Type} (s : Finset I), (bigSep s fun _ => iprop(emp)) = (iprop(emp) : sProp 𝕄) := fun s => bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [he]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), he]
  iempintro

/-! ## @main on the TensorCore -/

omit [FloatOps F] in
theorem unscopedBufs_eq (d : Dev nD) : (unscopedBufs d (fun b => m ((d.tc : Thread nD τ).loc b)) : sProp 𝕄) = whole m d (m (oTl d)) := by
  unfold unscopedBufs whole
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide), SparseCore.bigSep_insert' (by decide),
    bigSep_singleton]

theorem st0_eq (d : Dev nD) : (bigSep Finset.univ fun c : Fin ((K (F := F)).nCore 0) => (P m).st 0 d c) = whole m d (m (oTl d)) :=
  ((whole_eq m d _).trans (by_tile _)).symm
theorem dn0_eq (d : Dev nD) : (bigSep Finset.univ fun c : Fin ((K (F := F)).nCore 0) => (P m).dn 0 d c) = whole m d (res m d) :=
  ((whole_eq m d _).trans (by_tile _)).symm

/-- @main on a device's TensorCore: the one call, from the arrays whole to the arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ whole m d (res m d) ∗ (K (F := F)).tcEnd d) := by
  unfold SparseCore.Cfg.tcRes SparseCore.Cfg.tcEnd
  rw [unscopedBufs_eq]
  simp only [main, wp_bind, wp_pure]
  iintro ⟨#Hctx, Hst, ⟨Hb, Hw, Hts, -⟩, -⟩
  iapply ((K (F := F)).wp_run (D (F := F)) 𝒱 (EH := EH) (P := P m) κ d 0) $$ [Hst Hw Hb Hts]
  isplitr; · iexact Hctx
  isplitl [Hst]; · iexact Hst
  isplitl [Hw]; · rw [st0_eq]; iexact Hw
  iintro ⟨Hst, Hdn⟩
  ihave Hw := (Entails.of_eq (dn0_eq m d)) $$ Hdn
  imodintro
  isplitl [Hst]; · iexact Hst
  isplitl [Hw]; · iexact Hw
  isplitl [Hb] <;> iassumption

/-- What a final state shows of device `d`. -/
def Ends (d : Dev nD) (f : (ℓ : Loc nD τ sig) → Buf (Elt F) ℓ) : Prop :=
  f (uIl d) = m (uIl d) ∧ f (mIl d) = m (mIl d) ∧ f (uTl d) = m (uTl d) ∧ f (mTl d) = m (mTl d) ∧ f (oTl d) = res m d

omit [FloatOps F] in
theorem agree {ℓ : Loc nD τ sig} (s' : Phys nD τ sig (Elt F)) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

set_option maxRecDepth 16384 in
theorem hfin (d : Dev nD) (s' : Phys nD τ sig (Elt F)) : iprop(whole m d (res m d) ∗ SI s') ⊢ (⌜Ends m d s'.mem.mem⌝ : sProp 𝕄) := by
  unfold whole
  iintro ⟨⟨H0, H1, H2, H3, H4⟩, HSI⟩
  ihave H := (agree s' (m (uIl d))) $$ [HSI H0]; · isplitl [HSI] <;> iassumption
  icases H with ⟨%h0, HSI⟩
  ihave H := (agree s' (m (mIl d))) $$ [HSI H1]; · isplitl [HSI] <;> iassumption
  icases H with ⟨%h1, HSI⟩
  ihave H := (agree s' (m (uTl d))) $$ [HSI H2]; · isplitl [HSI] <;> iassumption
  icases H with ⟨%h2, HSI⟩
  ihave H := (agree s' (m (mTl d))) $$ [HSI H3]; · isplitl [HSI] <;> iassumption
  icases H with ⟨%h3, HSI⟩
  ihave H := (agree s' (res m d)) $$ [HSI H4]; · isplitl [HSI] <;> iassumption
  icases H with ⟨%h4, HSI⟩
  ipureintro; exact ⟨h0, h1, h2, h3, h4⟩

/-- Every run ends, the arguments as they were, the results at `OUT` of them, every semaphore at zero. -/
theorem run_main [∀ e, Nonempty (Elt F e)] (hpre : PreOK m) :
    θ_run (Cert.KernelIdeal.defs (F := F)) (Cert.KernelIdeal.threads (F := F)) ⟨m, fun _ => 0, ρ⟩
      (fun r => (∀ d : Dev nD, Ends m d r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => whole m d (res m d)) (u₀ (F := F)) (sep_elim_left.trans (hu₀ m)) (hmain m ρ)
    (fun d s' => Ends m d s'.mem.mem) (hfin m) (fun r => (∀ d : Dev nD, Ends m d r.2.mem) ∧ r.2.sem = fun _ => 0) (fun _ h hz => ⟨h, hz⟩)

end Cert.KernelIdeal.Launch

end
-- ==== Proof.InRange.lean ====
/-
  What the precondition says: every id names a row of its table. Stated of any float instance; both programs read it.
-/
module

public import proofs.«01_k».proof.Proof.Gen.Pre_in_range
public import Idealize.ShloMosaic.Lib.WordCmp
public import Idealize.ShloMosaic.Lib.ValueIdx
public import Idealize.ShloMosaic.PureOps
public import Idealize.ShloMosaic.PureOps.Reduce

@[expose] public section

noncomputable section

namespace Cert.InRange

open Idealize.ShloMosaic Idealize.ShloMosaic.ValueIdx Idealize.ShloMosaic.WordCmp

theorem and_one (a b : BitVec 1) : IntOp.andi a b = 1#1 ↔ a = 1#1 ∧ b = 1#1 := by revert a b; decide

instance : Std.Commutative (IntOp.andi (w := 1)) := ⟨by decide⟩
instance : Std.Associative (IntOp.andi (w := 1)) := ⟨by decide⟩

/-- Bits anded together from one are one exactly when each is. -/
theorem fold_and {I : Type} (s : Finset I) (f : I → BitVec 1) : s.fold IntOp.andi 1#1 f = 1#1 ↔ ∀ i ∈ s, f i = 1#1 := by
  classical
  induction s using Finset.induction_on with
  | empty => simp
  | insert a s ha ih => rw [Finset.fold_insert ha, and_one, ih, Finset.forall_mem_insert]

/-- A word that is no less than zero and less than `k` as signed words is a number below `k`. -/
theorem below {k : ℕ} (hk : k < 2 ^ 31) (x : BitVec 32)
    (h : IntOp.andi (IntOp.cmpi .sge x 0#32) (IntOp.cmpi .slt x (BitVec.ofNat 32 k)) = 1#1) : x.toNat < k := by
  rw [andi_sge_zero_slt_ofNat hk, ofBool_decide_eq_one_iff] at h
  exact h

/-- The precondition, at every place of the two id arrays. -/
theorem rows {F : FTy → Type} [FloatOps F] {a b : IVec Pre_in_range.S16384 32} {c : FVec F Pre_in_range.S1000000x64 .f32} {e : FVec F Pre_in_range.S100000x64 .f32}
    (h : Pre_in_range.fn a b c e = fun _ => 1#1) : (∀ p, (a p).toNat < 1000000) ∧ ∀ p, (b p).toNat < 100000 := by
  have h0 := congrFun h ix0
  unfold Pre_in_range.fn at h0
  have h1 := (fold_and _ _).mp ((Host.reduce_eq_fold IntOp.andi _ _ _ _ _).symm.trans h0)
  have h2 : ∀ p, IntOp.andi (IntOp.andi (IntOp.cmpi .sge (a p) 0#32) (IntOp.cmpi .slt (a p) 1000000#32))
      (IntOp.andi (IntOp.cmpi .sge (b p) 0#32) (IntOp.cmpi .slt (b p) 100000#32)) = 1#1 :=
    fun p => h1 p (Finset.mem_filter.mpr ⟨Finset.mem_univ _, funext fun x => x.elim0⟩)
  exact ⟨fun p => below (by decide) _ ((and_one _ _).mp (h2 p)).1, fun p => below (by decide) _ ((and_one _ _).mp (h2 p)).2⟩

end Cert.InRange

end
-- ==== Proof.Reference.lean ====
/-
  The reference at the ideal instance: where every id names a row of its table, result `p` is the dot product of the
  two rows the ids at `p` name, which is what the kernel's tiles add up column by column.
-/
module

public import proofs.«01_k».proof.Proof.InRange
public import proofs.«01_k».proof.Proof.KernelIdeal.Launch
public import proofs.«01_k».proof.Proof.Gen.ReferenceIdeal.Run
public import Idealize.ShloMosaic.Lib.IdealHost
public import Idealize.ShloMosaic.Lib.Pointwise.Reduce
public import Idealize.ShloMosaic.Lib.Routing.Ops

@[expose] public section

noncomputable section

namespace Cert.Reference

open Idealize.ShloMosaic hiding ix0 ix1 ix2
open Idealize.ShloMosaic.ValueIdx Idealize.ShloMosaic.WordCmp
open Cert.ReferenceIdeal Cert.ReferenceIdeal.Gen
open scoped BigOperators

variable {F : FTy → Type} [FloatOps F]

/-! ## One table's lookup -/

/-- The ids with the negative ones counted from the end of a table of `n` rows. -/
def wrapped (n : BitVec 32) (a : IVec S16384 32) : IVec S16384 32 :=
  select (cmpi .slt a (broadcastInDim S16384 ![] bcast_S_S16384 (constantI S_ 32 0#32)))
    (addi a (broadcastInDim S16384 ![] bcast_S_S16384 (constantI S_ 32 n))) a

/-- The same as a column. -/
def column (n : BitVec 32) (a : IVec S16384 32) : IVec S16384x1 32 := broadcastInDim S16384x1 ![0] bcast_S16384_S16384x1_0 (wrapped n a)

/-- Which of a column's words lie between zero and `e`. -/
def inside (e : BitVec 32) (v : IVec S16384x1 32) : IVec S16384 1 :=
  Host.reduce IntOp.andi (andi (cmpi .sge v (broadcastInDim S16384x1 ![] bcast_S_S16384x1 (constantI S_ 32 0#32)))
    (cmpi .sle v (broadcastInDim S16384x1 ![0, 1] bcast_S1x1_S16384x1_0_1 (broadcastInDim S1x1 ![1] bcast_S1_S1x1_1 (constantI S1 32 e)))))
    (constantI S_ 1 1#1) reducesTo_S16384x1_S16384_d1 h_S_

/-- Rows where the ids lie inside, the fill value elsewhere. -/
def filled (n e : BitVec 32) (a : IVec S16384 32) (rows : FVec F S16384x64 .f32) : FVec F S16384x64 .f32 :=
  select (broadcastInDim S16384x64 ![0] bcast_S16384_S16384x64_0 (inside e (column n a))) rows
    (broadcastInDim S16384x64 ![] bcast_S_S16384x64 (constant S_ .f32 0x7FC00000#32))

/-- A word below two to the thirty-first is not negative: it stays as it is. -/
theorem wrapped_eq (n : BitVec 32) (a : IVec S16384 32) (p : S16384.Idx) (h : (a p).toNat < 2 ^ 31) : wrapped n a p = a p := by
  show (if IntOp.cmpi .slt (a p) 0#32 = 1 then _ else a p) = a p
  rw [cmpi_slt_zero, if_neg]
  rw [show (1 : BitVec 1) = 1#1 from rfl, ofBool_decide_eq_one_iff]
  exact Nat.not_le.mpr h

theorem column_eq (n : BitVec 32) (a : IVec S16384 32) (i : Fin 16384) (z : Fin 1) (h : (a (ix1 i)).toNat < 2 ^ 31) :
    column n a (ix2 i z) = a (ix1 i) := by
  refine (broadcastInDim_apply _ _ _ _ (ix1 i) fun x => ?_).trans (wrapped_eq n a _ h)
  match x with | 0 => rfl

theorem inside_eq {k : ℕ} (hk : k < 2 ^ 31) (v : IVec S16384x1 32) (i : Fin 16384) (h : (v (ix2 i 0)).toNat ≤ k) :
    inside (BitVec.ofNat 32 k) v (ix1 i) = 1#1 := by
  unfold inside
  rw [Host.reduce_eq_fold]
  refine (InRange.fold_and _ _).mpr fun x hx => ?_
  have hx0 : x = ix2 i 0 := by
    have e := congrArg Fin.val (congrFun (Finset.mem_filter.mp hx).2 0)
    funext b
    match b with
    | 0 => exact Fin.ext e
    | 1 => exact Subsingleton.elim (α := Fin 1) _ _
  subst hx0
  refine (InRange.and_one _ _).mpr ⟨?_, ?_⟩
  · show IntOp.cmpi .sge (v (ix2 i 0)) 0#32 = 1#1
    rw [cmpi_sge_zero, ofBool_decide_eq_one_iff]; omega
  · show IntOp.cmpi .sle (v (ix2 i 0)) (BitVec.ofNat 32 k) = 1#1
    have ek : (BitVec.ofNat 32 k).toNat = k := by rw [BitVec.toNat_ofNat]; omega
    rw [cmpi_sle_of_lt (by omega) (by omega), ofBool_decide_eq_one_iff]; omega

/-- Where an id is inside, the rows are kept. -/
theorem filled_eq (n : BitVec 32) {k : ℕ} (hk : k < 2 ^ 31) (a : IVec S16384 32) (rows : FVec F S16384x64 .f32) (i : Fin 16384) (c : Fin 64)
    (h : (a (ix1 i)).toNat ≤ k) : filled n (BitVec.ofNat 32 k) a rows (ix2 i c) = rows (ix2 i c) := by
  have hb : broadcastInDim S16384x64 ![0] bcast_S16384_S16384x64_0 (inside (BitVec.ofNat 32 k) (column n a)) (ix2 i c) = 1#1 := by
    refine (broadcastInDim_apply _ _ _ _ (ix1 i) fun x => ?_).trans (inside_eq hk _ i ?_)
    · match x with | 0 => rfl
    · rw [column_eq _ _ _ _ (by omega)]; exact h
  unfold filled select
  exact if_pos hb

/-- The row an id names, looked up. -/
theorem looked_up (n : BitVec 32) {N : ℕ} (hN : N < 2 ^ 31) (g : GatherDims ⟨2, ![N, 64]⟩ S16384x1 S16384x64) (hoff : g.offsetDims = [1])
    (hcoll : g.collapsedSliceDims = [0]) (hob : g.operandBatchingDims = []) (hsim : g.startIndexMap = [0]) (hivd : g.indexVectorDim = 1)
    (a : IVec S16384 32) (t : FVec F ⟨2, ![N, 64]⟩ .f32) (i : Fin 16384) (c : Fin 64) (h : (a (ix1 i)).toNat < N) :
    filled n (BitVec.ofNat 32 (N - 1)) a (Host.gather g t (column n a)) (ix2 i c) = t (ix2 ⟨(a (ix1 i)).toNat, h⟩ c) := by
  rw [filled_eq n (by omega) a _ i c (by omega)]
  refine Routing.gather_row g hoff hcoll hob hsim hivd t (column n a) i c ⟨_, h⟩ ?_ hN
  rw [column_eq _ _ _ _ (by omega), BitVec.ofNat_toNat, BitVec.setWidth_eq]

/-! ## The sum of products -/

/-- The reference's result. -/
def refOut (a b : IVec S16384 32) (u : FVec F S1000000x64 .f32) (w : FVec F S100000x64 .f32) : FVec F S16384 .f32 :=
  Host.reduceAdd (mulf
      (filled 1000000#32 999999#32 a (Host.gather gather_S1000000x64_S16384x1_S16384x64_1_0_n_n_0_1_164 u (column 1000000#32 a)))
      (filled 100000#32 99999#32 b (Host.gather gather_S100000x64_S16384x1_S16384x64_1_0_n_n_0_1_164 w (column 100000#32 b))))
    (constant S_ .f32 0x00000000#32) reducesTo_S16384x64_S16384_d1 h_S_

open Cert.KernelIdeal.Tile (dot uAt mAt OUT)

/-- Ideally, the kernel's running sum is the sum of the products. -/
theorem dot_eq (u : FVec Ideal S1000000x64 .f32) (w : FVec Ideal S100000x64 .f32) (x y : BitVec 32) (n : ℕ) :
    (dot (F := Ideal) u w x y n : EReal)
      = ∑ k ∈ Finset.range n, ((u (uAt x ⟨k % 64, Nat.mod_lt _ (by decide)⟩) : EReal) * (w (mAt y ⟨k % 64, Nat.mod_lt _ (by decide)⟩) : EReal)) := by
  induction n with
  | zero => exact Ideal.ofBits_zero_f32
  | succ n ih => rw [Finset.sum_range_succ, ← ih]; rfl

/-- The kernel's results are the reference's, as extended reals. -/
theorem refOut_eq (a b : IVec S16384 32) (u : FVec Ideal S1000000x64 .f32) (w : FVec Ideal S100000x64 .f32)
    (ha : ∀ p, (a p).toNat < 1000000) (hb : ∀ p, (b p).toNat < 100000) : refOut (F := Ideal) a b u w = OUT (F := Ideal) a b u w := by
  funext p
  obtain ⟨i, rfl⟩ : ∃ i : Fin 16384, p = ix1 i := ⟨p 0, funext fun x => match x with | 0 => rfl⟩
  show Ideal.hostReduceAdd _ _ _ _ = dot (F := Ideal) u w (a (ix1 i)) (b (ix1 i)) 64
  rw [Ideal.hostReduceAdd_r2_a1, dot_eq, ← Fin.sum_univ_eq_sum_range (fun k => ((u (uAt (a (ix1 i)) ⟨k % 64, Nat.mod_lt _ (by decide)⟩) : EReal)
    * (w (mAt (b (ix1 i)) ⟨k % 64, Nat.mod_lt _ (by decide)⟩) : EReal))) 64]
  refine (congrArg (· + _) Ideal.ofBits_zero_f32).trans ((zero_add _).trans (Finset.sum_congr rfl fun k _ => ?_))
  have hk : (⟨k.val % 64, Nat.mod_lt _ (by decide)⟩ : Fin 64) = k := Fin.ext (Nat.mod_eq_of_lt k.isLt)
  rw [hk]
  refine congrArg₂ (fun x y : EReal => x * y) ?_ ?_
  · refine (looked_up 1000000#32 (N := 1000000) (by decide) _ rfl rfl rfl rfl rfl a u i k (ha _)).trans (congrArg u ?_)
    exact congrArg (fun r => ix2 r k) (Fin.ext (Nat.mod_eq_of_lt (ha (ix1 i))).symm)
  · refine (looked_up 100000#32 (N := 100000) (by decide) _ rfl rfl rfl rfl rfl b w i k (hb _)).trans (congrArg w ?_)
    exact congrArg (fun r => ix2 r k) (Fin.ext (Nat.mod_eq_of_lt (hb (ix1 i))).symm)

end Cert.Reference

end
-- ==== Proof.lean ====
/-
  The proof of `Cert.Claim`: both programs' runs under the precondition (`Launch.run_main`), the reference's run, and
  the equality of the two results as extended reals (`Reference.refOut_eq`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Kernel.Launch
public import proofs.«01_k».proof.Proof.KernelIdeal.Launch
public import proofs.«01_k».proof.Proof.Reference

@[expose] public section

noncomputable section

namespace Cert.Proof

open Idealize.ShloMosaic Idealize.SL.Sem

/-- The kernel's runs: arguments kept, semaphores at zero. -/
theorem kernel_runs : Cert.quiescent_Kernel := fun m g h =>
  (θ_run Cert.Kernel.defs _ _).mono
    (fun _ hr => ⟨fun c => let e := hr.1 c; ⟨e.1, e.2.1, e.2.2.1, e.2.2.2.1⟩, hr.2⟩)
    (Cert.Kernel.Launch.run_main (F := Bits) m g fun d => InRange.rows (h d))

/-- The ideal program's runs: arguments kept, semaphores at zero. -/
theorem ideal_runs : Cert.quiescent_KernelIdeal := fun m g h =>
  (θ_run Cert.KernelIdeal.defs _ _).mono
    (fun _ hr => ⟨fun c => let e := hr.1 c; ⟨e.1, e.2.1, e.2.2.1, e.2.2.2.1⟩, hr.2⟩)
    (Cert.KernelIdeal.Launch.run_main (F := Ideal) m g fun d => InRange.rows (h d))

/-- The reference's runs: it writes no argument and has no semaphore. -/
theorem reference_runs (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        let at_ := fun b => (c.tc : Thread Cert.ReferenceIdeal.nD Cert.ReferenceIdeal.τ).loc b
        r.2.mem (at_ Cert.ReferenceIdeal.main_arg0) = m (at_ Cert.ReferenceIdeal.main_arg0)
        ∧ r.2.mem (at_ Cert.ReferenceIdeal.main_arg1) = m (at_ Cert.ReferenceIdeal.main_arg1)
        ∧ r.2.mem (at_ Cert.ReferenceIdeal.main_arg2) = m (at_ Cert.ReferenceIdeal.main_arg2)
        ∧ r.2.mem (at_ Cert.ReferenceIdeal.main_arg3) = m (at_ Cert.ReferenceIdeal.main_arg3))
        ∧ r.2.sem = fun _ => 0 :=
  (θ_run Cert.ReferenceIdeal.defs _ _).mono
    (fun r hr => ⟨fun c => (hr c).2, sem_eq_zero_of_no_sems (by decide) r.2⟩)
    (Cert.ReferenceIdeal.Value.run (F := Ideal) m g)

/-- Both programs leave the same result: the kernel's is `OUT` of its arguments, and so is the reference's where the
    row numbers name rows. -/
theorem same_result : Cert.algebraic_KernelIdeal_ReferenceIdeal := by
  intro m g m' g' hpre hargs
  refine ⟨fun c => Cert.KernelIdeal.Launch.res (F := Ideal) m c, ?_, ?_⟩
  · exact (θ_run Cert.KernelIdeal.defs _ _).mono
      (fun _ hr c => let e := hr.1 c; ⟨e.2.2.2.2, e.1, e.2.1, e.2.2.1, e.2.2.2.1⟩)
      (Cert.KernelIdeal.Launch.run_main (F := Ideal) m g fun d => InRange.rows (hpre d))
  · refine (θ_run Cert.ReferenceIdeal.defs _ _).mono (fun _ hr c => ⟨(hr c).1.trans ?_, (hr c).2⟩)
      (Cert.ReferenceIdeal.Value.run (F := Ideal) m' g')
    obtain ⟨h0, h1, h2, h3⟩ := hargs c
    obtain ⟨ha, hb⟩ := InRange.rows (hpre c)
    refine Eq.trans ?_ (Cert.Reference.refOut_eq _ _ _ _ ha hb)
    rw [← h0, ← h1, ← h2, ← h3]
    rfl

/-- `Cert.Claim`. -/
theorem claim : Cert.Claim :=
  ⟨Cert.Kernel.Gen.facts, Cert.KernelIdeal.Gen.facts, Cert.ReferenceIdeal.Gen.facts, Cert.Pre_in_range.Gen.facts,
    kernel_runs, ideal_runs, fun m g _ => reference_runs m g, fun m g _ => reference_runs m g, trivial, same_result⟩

end Cert.Proof

end
